-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_qk [hPre_finite_qk : Cert.Pre_finite_qk.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_qk.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_qk [hPre_finite_qk : Cert.Pre_finite_qk.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_qk.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite_qk [hKernel2Ideal : Cert.Kernel2Ideal.Facts] [hPre_finite_qk : Cert.Pre_finite_qk.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_qk m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite_qk [hReference2Ideal : Cert.Reference2Ideal.Facts] [hPre_finite_qk : Cert.Pre_finite_qk.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_qk m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2)
      ∧ r.2.mem ((c.tc : Thread Cert.Kernel41.nD Cert.Kernel41.τ).loc Cert.Kernel41.main_arg3) = m ((c.tc : Thread Cert.Kernel41.nD Cert.Kernel41.τ).loc Cert.Kernel41.main_arg3))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
      ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2)
      ∧ r.2.mem ((c.tc : Thread Cert.Reference41Ideal.nD Cert.Reference41Ideal.τ).loc Cert.Reference41Ideal.main_arg3) = m ((c.tc : Thread Cert.Reference41Ideal.nD Cert.Reference41Ideal.τ).loc Cert.Reference41Ideal.main_arg3))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2)
      ∧ r.2.mem ((c.tc : Thread Cert.Kernel42.nD Cert.Kernel42.τ).loc Cert.Kernel42.main_arg3) = m ((c.tc : Thread Cert.Kernel42.nD Cert.Kernel42.τ).loc Cert.Kernel42.main_arg3))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
      ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2)
      ∧ r.2.mem ((c.tc : Thread Cert.Reference42Ideal.nD Cert.Reference42Ideal.τ).loc Cert.Reference42Ideal.main_arg3) = m ((c.tc : Thread Cert.Reference42Ideal.nD Cert.Reference42Ideal.τ).loc Cert.Reference42Ideal.main_arg3))
      ∧ r.2.sem = fun _ => 0)

def preserves_Kernel_KernelIdeal : Prop :=
  IdealRules.named_const.Statement Cert.KernelIdeal.κ "scale_log2e" .f32 0x3E16C740#32 (((13698540 * 134217728⁻¹) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v50_1)) (v2 : (c : Dev Cert.KernelIdeal.nD) → Buf (Elt Ideal) ((c.tc : Thread Cert.KernelIdeal.nD Cert.KernelIdeal.τ).loc Cert.KernelIdeal.main_v50_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v50_1) = v1 c
          ∧ r.2.mem ((c.tc : Thread Cert.KernelIdeal.nD Cert.KernelIdeal.τ).loc Cert.KernelIdeal.main_v50_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "scale_log2e" .f32 0x3E16C740#32 (((13698540 * 134217728⁻¹) * (Real.log 2)⁻¹ : ℝ) : EReal)
  ∧ IdealRules.named_const.Statement Cert.Kernel2Ideal.κ "log2e" .f32 0x3FB8AA3B#32 (((Real.log 2)⁻¹ : ℝ) : EReal)

def algebraic_Kernel2Ideal_Reference2Ideal_pre_finite_qk [hKernel2Ideal : Cert.Kernel2Ideal.Facts] [hReference2Ideal : Cert.Reference2Ideal.Facts] [hPre_finite_qk : Cert.Pre_finite_qk.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_qk m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_v37) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v66) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v2) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v5)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v5) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v29) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v2) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v0) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v2) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v3) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v2) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v2) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v49) = v0 c
          ∧ r.2.mem ((c.tc : Thread Cert.Reference29Ideal.nD Cert.Reference29Ideal.τ).loc Cert.Reference29Ideal.main_v50) = v1 c
          ∧ r.2.mem ((c.tc : Thread Cert.Reference29Ideal.nD Cert.Reference29Ideal.τ).loc Cert.Reference29Ideal.main_v51) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v27) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v9) = v0 c
          ∧ r.2.mem ((c.tc : Thread Cert.Reference31Ideal.nD Cert.Reference31Ideal.τ).loc Cert.Reference31Ideal.main_v30) = v1 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v8) = v0 c
          ∧ r.2.mem ((c.tc : Thread Cert.Reference32Ideal.nD Cert.Reference32Ideal.τ).loc Cert.Reference32Ideal.main_v22) = v1 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  IdealRules.named_const.Statement Cert.Kernel33Ideal.κ "unbias_m" .f32 0x3FC48605#32 (((5463681 * 8388608⁻¹)⁻¹ : ℝ) : EReal)
  ∧ IdealRules.named_const.Statement Cert.Kernel33Ideal.κ "unbias_v" .f32 0x42C8E6D3#32 (((2672307 * 268435456⁻¹)⁻¹ : ℝ) : EReal)

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v23) = v0 c
          ∧ r.2.mem ((c.tc : Thread Cert.Reference33Ideal.nD Cert.Reference33Ideal.τ).loc Cert.Reference33Ideal.main_v4) = v1 c
          ∧ r.2.mem ((c.tc : Thread Cert.Reference33Ideal.nD Cert.Reference33Ideal.τ).loc Cert.Reference33Ideal.main_v10) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  IdealRules.named_const.Statement Cert.Kernel34Ideal.κ "unbias_m" .f32 0x3FC48605#32 (((5463681 * 8388608⁻¹)⁻¹ : ℝ) : EReal)
  ∧ IdealRules.named_const.Statement Cert.Kernel34Ideal.κ "unbias_v" .f32 0x42C8E6D3#32 (((2672307 * 268435456⁻¹)⁻¹ : ℝ) : EReal)

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v23) = v0 c
          ∧ r.2.mem ((c.tc : Thread Cert.Reference34Ideal.nD Cert.Reference34Ideal.τ).loc Cert.Reference34Ideal.main_v4) = v1 c
          ∧ r.2.mem ((c.tc : Thread Cert.Reference34Ideal.nD Cert.Reference34Ideal.τ).loc Cert.Reference34Ideal.main_v10) = v2 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  IdealRules.named_const.Statement Cert.Kernel35Ideal.κ "unbias_m" .f32 0x3FC48605#32 (((5463681 * 8388608⁻¹)⁻¹ : ℝ) : EReal)
  ∧ IdealRules.named_const.Statement Cert.Kernel35Ideal.κ "unbias_v" .f32 0x42C8E6D3#32 (((2672307 * 268435456⁻¹)⁻¹ : ℝ) : EReal)

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v23) = v0 c
          ∧ r.2.mem ((c.tc : Thread Cert.Reference35Ideal.nD Cert.Reference35Ideal.τ).loc Cert.Reference35Ideal.main_v4) = v1 c
          ∧ r.2.mem ((c.tc : Thread Cert.Reference35Ideal.nD Cert.Reference35Ideal.τ).loc Cert.Reference35Ideal.main_v10) = v2 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  IdealRules.named_const.Statement Cert.Kernel36Ideal.κ "unbias_m" .f32 0x3FC48605#32 (((5463681 * 8388608⁻¹)⁻¹ : ℝ) : EReal)
  ∧ IdealRules.named_const.Statement Cert.Kernel36Ideal.κ "unbias_v" .f32 0x42C8E6D3#32 (((2672307 * 268435456⁻¹)⁻¹ : ℝ) : EReal)

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)) (v2 : (c : Dev Cert.Kernel36Ideal.nD) → Buf (Elt Ideal) ((c.tc : Thread Cert.Kernel36Ideal.nD Cert.Kernel36Ideal.τ).loc Cert.Kernel36Ideal.main_v0_2)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_v0_2) = v2 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v23) = v0 c
          ∧ r.2.mem ((c.tc : Thread Cert.Reference36Ideal.nD Cert.Reference36Ideal.τ).loc Cert.Reference36Ideal.main_v4) = v1 c
          ∧ r.2.mem ((c.tc : Thread Cert.Reference36Ideal.nD Cert.Reference36Ideal.τ).loc Cert.Reference36Ideal.main_v10) = v2 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  IdealRules.named_const.Statement Cert.Kernel37Ideal.κ "unbias_m" .f32 0x3FC48605#32 (((5463681 * 8388608⁻¹)⁻¹ : ℝ) : EReal)
  ∧ IdealRules.named_const.Statement Cert.Kernel37Ideal.κ "unbias_v" .f32 0x42C8E6D3#32 (((2672307 * 268435456⁻¹)⁻¹ : ℝ) : EReal)

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)) (v2 : (c : Dev Cert.Kernel37Ideal.nD) → Buf (Elt Ideal) ((c.tc : Thread Cert.Kernel37Ideal.nD Cert.Kernel37Ideal.τ).loc Cert.Kernel37Ideal.main_v0_2)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_v0_2) = v2 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v23) = v0 c
          ∧ r.2.mem ((c.tc : Thread Cert.Reference37Ideal.nD Cert.Reference37Ideal.τ).loc Cert.Reference37Ideal.main_v4) = v1 c
          ∧ r.2.mem ((c.tc : Thread Cert.Reference37Ideal.nD Cert.Reference37Ideal.τ).loc Cert.Reference37Ideal.main_v10) = v2 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  IdealRules.named_const.Statement Cert.Kernel38Ideal.κ "unbias_m" .f32 0x3FC48605#32 (((5463681 * 8388608⁻¹)⁻¹ : ℝ) : EReal)
  ∧ IdealRules.named_const.Statement Cert.Kernel38Ideal.κ "unbias_v" .f32 0x42C8E6D3#32 (((2672307 * 268435456⁻¹)⁻¹ : ℝ) : EReal)

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)) →
    ∃ (v0 : (c : Dev Cert.Kernel38Ideal.nD) → Buf (Elt Ideal) ((c.tc : Thread Cert.Kernel38Ideal.nD Cert.Kernel38Ideal.τ).loc Cert.Kernel38Ideal.main_v0_0)) (v1 : (c : Dev Cert.Kernel38Ideal.nD) → Buf (Elt Ideal) ((c.tc : Thread Cert.Kernel38Ideal.nD Cert.Kernel38Ideal.τ).loc Cert.Kernel38Ideal.main_v0_1)) (v2 : (c : Dev Cert.Kernel38Ideal.nD) → Buf (Elt Ideal) ((c.tc : Thread Cert.Kernel38Ideal.nD Cert.Kernel38Ideal.τ).loc Cert.Kernel38Ideal.main_v0_2)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0_0) = v0 c
          ∧ r.2.mem ((c.tc : Thread Cert.Kernel38Ideal.nD Cert.Kernel38Ideal.τ).loc Cert.Kernel38Ideal.main_v0_1) = v1 c
          ∧ r.2.mem ((c.tc : Thread Cert.Kernel38Ideal.nD Cert.Kernel38Ideal.τ).loc Cert.Kernel38Ideal.main_v0_2) = v2 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v23) = v0 c
          ∧ r.2.mem ((c.tc : Thread Cert.Reference38Ideal.nD Cert.Reference38Ideal.τ).loc Cert.Reference38Ideal.main_v4) = v1 c
          ∧ r.2.mem ((c.tc : Thread Cert.Reference38Ideal.nD Cert.Reference38Ideal.τ).loc Cert.Reference38Ideal.main_v10) = v2 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3))

def preserves_Kernel39_Kernel39Ideal : Prop :=
  IdealRules.named_const.Statement Cert.Kernel39Ideal.κ "unbias_m" .f32 0x3FC48605#32 (((5463681 * 8388608⁻¹)⁻¹ : ℝ) : EReal)
  ∧ IdealRules.named_const.Statement Cert.Kernel39Ideal.κ "unbias_v" .f32 0x42C8E6D3#32 (((2672307 * 268435456⁻¹)⁻¹ : ℝ) : EReal)

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)) →
    ∃ (v0 : (c : Dev Cert.Kernel39Ideal.nD) → Buf (Elt Ideal) ((c.tc : Thread Cert.Kernel39Ideal.nD Cert.Kernel39Ideal.τ).loc Cert.Kernel39Ideal.main_v0_0)) (v1 : (c : Dev Cert.Kernel39Ideal.nD) → Buf (Elt Ideal) ((c.tc : Thread Cert.Kernel39Ideal.nD Cert.Kernel39Ideal.τ).loc Cert.Kernel39Ideal.main_v0_1)) (v2 : (c : Dev Cert.Kernel39Ideal.nD) → Buf (Elt Ideal) ((c.tc : Thread Cert.Kernel39Ideal.nD Cert.Kernel39Ideal.τ).loc Cert.Kernel39Ideal.main_v0_2)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0_0) = v0 c
          ∧ r.2.mem ((c.tc : Thread Cert.Kernel39Ideal.nD Cert.Kernel39Ideal.τ).loc Cert.Kernel39Ideal.main_v0_1) = v1 c
          ∧ r.2.mem ((c.tc : Thread Cert.Kernel39Ideal.nD Cert.Kernel39Ideal.τ).loc Cert.Kernel39Ideal.main_v0_2) = v2 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v23) = v0 c
          ∧ r.2.mem ((c.tc : Thread Cert.Reference39Ideal.nD Cert.Reference39Ideal.τ).loc Cert.Reference39Ideal.main_v4) = v1 c
          ∧ r.2.mem ((c.tc : Thread Cert.Reference39Ideal.nD Cert.Reference39Ideal.τ).loc Cert.Reference39Ideal.main_v10) = v2 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3))

def preserves_Kernel40_Kernel40Ideal : Prop :=
  IdealRules.named_const.Statement Cert.Kernel40Ideal.κ "unbias_m" .f32 0x3FC48605#32 (((5463681 * 8388608⁻¹)⁻¹ : ℝ) : EReal)
  ∧ IdealRules.named_const.Statement Cert.Kernel40Ideal.κ "unbias_v" .f32 0x42C8E6D3#32 (((2672307 * 268435456⁻¹)⁻¹ : ℝ) : EReal)

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)) →
    ∃ (v0 : (c : Dev Cert.Kernel40Ideal.nD) → Buf (Elt Ideal) ((c.tc : Thread Cert.Kernel40Ideal.nD Cert.Kernel40Ideal.τ).loc Cert.Kernel40Ideal.main_v0_0)) (v1 : (c : Dev Cert.Kernel40Ideal.nD) → Buf (Elt Ideal) ((c.tc : Thread Cert.Kernel40Ideal.nD Cert.Kernel40Ideal.τ).loc Cert.Kernel40Ideal.main_v0_1)) (v2 : (c : Dev Cert.Kernel40Ideal.nD) → Buf (Elt Ideal) ((c.tc : Thread Cert.Kernel40Ideal.nD Cert.Kernel40Ideal.τ).loc Cert.Kernel40Ideal.main_v0_2)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0_0) = v0 c
          ∧ r.2.mem ((c.tc : Thread Cert.Kernel40Ideal.nD Cert.Kernel40Ideal.τ).loc Cert.Kernel40Ideal.main_v0_1) = v1 c
          ∧ r.2.mem ((c.tc : Thread Cert.Kernel40Ideal.nD Cert.Kernel40Ideal.τ).loc Cert.Kernel40Ideal.main_v0_2) = v2 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v23) = v0 c
          ∧ r.2.mem ((c.tc : Thread Cert.Reference40Ideal.nD Cert.Reference40Ideal.τ).loc Cert.Reference40Ideal.main_v4) = v1 c
          ∧ r.2.mem ((c.tc : Thread Cert.Reference40Ideal.nD Cert.Reference40Ideal.τ).loc Cert.Reference40Ideal.main_v10) = v2 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3))

def preserves_Kernel41_Kernel41Ideal : Prop :=
  IdealRules.named_const.Statement Cert.Kernel41Ideal.κ "unbias_m" .f32 0x3FC48605#32 (((5463681 * 8388608⁻¹)⁻¹ : ℝ) : EReal)
  ∧ IdealRules.named_const.Statement Cert.Kernel41Ideal.κ "unbias_v" .f32 0x42C8E6D3#32 (((2672307 * 268435456⁻¹)⁻¹ : ℝ) : EReal)

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)
      ∧ m' ((c.tc : Thread Cert.Reference41Ideal.nD Cert.Reference41Ideal.τ).loc Cert.Reference41Ideal.main_arg3) = m ((c.tc : Thread Cert.Kernel41Ideal.nD Cert.Kernel41Ideal.τ).loc Cert.Kernel41Ideal.main_arg3)) →
    ∃ (v0 : (c : Dev Cert.Kernel41Ideal.nD) → Buf (Elt Ideal) ((c.tc : Thread Cert.Kernel41Ideal.nD Cert.Kernel41Ideal.τ).loc Cert.Kernel41Ideal.main_v0_0)) (v1 : (c : Dev Cert.Kernel41Ideal.nD) → Buf (Elt Ideal) ((c.tc : Thread Cert.Kernel41Ideal.nD Cert.Kernel41Ideal.τ).loc Cert.Kernel41Ideal.main_v0_1)) (v2 : (c : Dev Cert.Kernel41Ideal.nD) → Buf (Elt Ideal) ((c.tc : Thread Cert.Kernel41Ideal.nD Cert.Kernel41Ideal.τ).loc Cert.Kernel41Ideal.main_v0_2)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0_0) = v0 c
          ∧ r.2.mem ((c.tc : Thread Cert.Kernel41Ideal.nD Cert.Kernel41Ideal.τ).loc Cert.Kernel41Ideal.main_v0_1) = v1 c
          ∧ r.2.mem ((c.tc : Thread Cert.Kernel41Ideal.nD Cert.Kernel41Ideal.τ).loc Cert.Kernel41Ideal.main_v0_2) = v2 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
          ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v23) = v0 c
          ∧ r.2.mem ((c.tc : Thread Cert.Reference41Ideal.nD Cert.Reference41Ideal.τ).loc Cert.Reference41Ideal.main_v4) = v1 c
          ∧ r.2.mem ((c.tc : Thread Cert.Reference41Ideal.nD Cert.Reference41Ideal.τ).loc Cert.Reference41Ideal.main_v10) = v2 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2)
          ∧ r.2.mem ((c.tc : Thread Cert.Reference41Ideal.nD Cert.Reference41Ideal.τ).loc Cert.Reference41Ideal.main_arg3) = m' ((c.tc : Thread Cert.Reference41Ideal.nD Cert.Reference41Ideal.τ).loc Cert.Reference41Ideal.main_arg3))

def preserves_Kernel42_Kernel42Ideal : Prop :=
  IdealRules.named_const.Statement Cert.Kernel42Ideal.κ "unbias_m" .f32 0x3FC48605#32 (((5463681 * 8388608⁻¹)⁻¹ : ℝ) : EReal)
  ∧ IdealRules.named_const.Statement Cert.Kernel42Ideal.κ "unbias_v" .f32 0x42C8E6D3#32 (((2672307 * 268435456⁻¹)⁻¹ : ℝ) : EReal)

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)
      ∧ m' ((c.tc : Thread Cert.Reference42Ideal.nD Cert.Reference42Ideal.τ).loc Cert.Reference42Ideal.main_arg3) = m ((c.tc : Thread Cert.Kernel42Ideal.nD Cert.Kernel42Ideal.τ).loc Cert.Kernel42Ideal.main_arg3)) →
    ∃ (v0 : (c : Dev Cert.Kernel42Ideal.nD) → Buf (Elt Ideal) ((c.tc : Thread Cert.Kernel42Ideal.nD Cert.Kernel42Ideal.τ).loc Cert.Kernel42Ideal.main_v0_0)) (v1 : (c : Dev Cert.Kernel42Ideal.nD) → Buf (Elt Ideal) ((c.tc : Thread Cert.Kernel42Ideal.nD Cert.Kernel42Ideal.τ).loc Cert.Kernel42Ideal.main_v0_1)) (v2 : (c : Dev Cert.Kernel42Ideal.nD) → Buf (Elt Ideal) ((c.tc : Thread Cert.Kernel42Ideal.nD Cert.Kernel42Ideal.τ).loc Cert.Kernel42Ideal.main_v0_2)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0_0) = v0 c
          ∧ r.2.mem ((c.tc : Thread Cert.Kernel42Ideal.nD Cert.Kernel42Ideal.τ).loc Cert.Kernel42Ideal.main_v0_1) = v1 c
          ∧ r.2.mem ((c.tc : Thread Cert.Kernel42Ideal.nD Cert.Kernel42Ideal.τ).loc Cert.Kernel42Ideal.main_v0_2) = v2 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
          ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v23) = v0 c
          ∧ r.2.mem ((c.tc : Thread Cert.Reference42Ideal.nD Cert.Reference42Ideal.τ).loc Cert.Reference42Ideal.main_v4) = v1 c
          ∧ r.2.mem ((c.tc : Thread Cert.Reference42Ideal.nD Cert.Reference42Ideal.τ).loc Cert.Reference42Ideal.main_v10) = v2 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2)
          ∧ r.2.mem ((c.tc : Thread Cert.Reference42Ideal.nD Cert.Reference42Ideal.τ).loc Cert.Reference42Ideal.main_arg3) = m' ((c.tc : Thread Cert.Reference42Ideal.nD Cert.Reference42Ideal.τ).loc Cert.Reference42Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hPre_finite : Cert.Pre_finite.Facts) (hPre_finite_qk : Cert.Pre_finite_qk.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_qk (hKernel2Ideal := hKernel2Ideal) (hPre_finite_qk := hPre_finite_qk)
    ∧ quiescent_Reference2Ideal (hReference2Ideal := hReference2Ideal)
    ∧ quiescent_Reference2Ideal_pre_finite_qk (hReference2Ideal := hReference2Ideal) (hPre_finite_qk := hPre_finite_qk)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_qk (hKernel2Ideal := hKernel2Ideal) (hReference2Ideal := hReference2Ideal) (hPre_finite_qk := hPre_finite_qk)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
-- ==== Pre_finite.lean ====
abbrev S1x8192x8x96 : Shape := ⟨4, ![1, 8192, 8, 96]⟩
abbrev S1x8448x8x96 : Shape := ⟨4, ![1, 8448, 8, 96]⟩
abbrev S1x8448x8x64 : Shape := ⟨4, ![1, 8448, 8, 64]⟩
abbrev S1x8192x8x64 : Shape := ⟨4, ![1, 8192, 8, 64]⟩
abbrev S_ : Shape := ⟨0, ![]⟩

class Facts : Prop where
  bcast_S_S1x8192x8x96 : S_.BroadcastsInDim S1x8192x8x96 (![] : Fin 0 → Fin S1x8192x8x96.rank)
  reducesTo_S1x8192x8x96_S_d0_1_2_3 : S1x8192x8x96.ReducesTo [0, 1, 2, 3] S_
  h_S_ : 0 < S_.numel
  bcast_S_S1x8448x8x96 : S_.BroadcastsInDim S1x8448x8x96 (![] : Fin 0 → Fin S1x8448x8x96.rank)
  reducesTo_S1x8448x8x96_S_d0_1_2_3 : S1x8448x8x96.ReducesTo [0, 1, 2, 3] S_
  bcast_S_S1x8448x8x64 : S_.BroadcastsInDim S1x8448x8x64 (![] : Fin 0 → Fin S1x8448x8x64.rank)
  reducesTo_S1x8448x8x64_S_d0_1_2_3 : S1x8448x8x64.ReducesTo [0, 1, 2, 3] S_
  bcast_S_S1x8192x8x64 : S_.BroadcastsInDim S1x8192x8x64 (![] : Fin 0 → Fin S1x8192x8x64.rank)
  reducesTo_S1x8192x8x64_S_d0_1_2_3 : S1x8192x8x64.ReducesTo [0, 1, 2, 3] S_

variable [Facts]

def fn_part1 {F : FTy → Type} [FloatOps F] (main_v13 : IVec S_ 1) (main_v16 : IVec S1x8192x8x64 1) : IVec S_ 1 :=
  let main_c_5 : IVec S_ 1 := constantI S_ 1 1#1
  let main_v17 : IVec S_ 1 := (fun x v => Host.reduce IntOp.andi x v reducesTo_S1x8192x8x64_S_d0_1_2_3 h_S_) main_v16 main_c_5
  let main_v18 : IVec S_ 1 := andi main_v13 main_v17
  main_v18

def fn {F : FTy → Type} [FloatOps F] (main_arg0 : FVec F S1x8192x8x96 .f32) (main_arg1 : FVec F S1x8448x8x96 .f32) (main_arg2 : FVec F S1x8448x8x64 .f32) (main_arg3 : FVec F S1x8192x8x64 .f32) : IVec S_ 1 :=
  let main_v0 : FVec F S1x8192x8x96 .f32 := Host.absf main_arg0
  let main_cst : FVec F S_ .f32 := constant S_ .f32 0x7F800000#32
  let main_v1 : FVec F S1x8192x8x96 .f32 := broadcastInDim S1x8192x8x96 ![] bcast_S_S1x8192x8x96 main_cst
  let main_v2 : IVec S1x8192x8x96 1 := cmpf .olt main_v0 main_v1
  let main_c : IVec S_ 1 := constantI S_ 1 1#1
  let main_v3 : IVec S_ 1 := (fun x v => Host.reduce IntOp.andi x v reducesTo_S1x8192x8x96_S_d0_1_2_3 h_S_) main_v2 main_c
  let main_v4 : FVec F S1x8448x8x96 .f32 := Host.absf main_arg1
  let main_cst_0 : FVec F S_ .f32 := constant S_ .f32 0x7F800000#32
  let main_v5 : FVec F S1x8448x8x96 .f32 := broadcastInDim S1x8448x8x96 ![] bcast_S_S1x8448x8x96 main_cst_0
  let main_v6 : IVec S1x8448x8x96 1 := cmpf .olt main_v4 main_v5
  let main_c_1 : IVec S_ 1 := constantI S_ 1 1#1
  let main_v7 : IVec S_ 1 := (fun x v => Host.reduce IntOp.andi x v reducesTo_S1x8448x8x96_S_d0_1_2_3 h_S_) main_v6 main_c_1
  let main_v8 : IVec S_ 1 := andi main_v3 main_v7
  let main_v9 : FVec F S1x8448x8x64 .f32 := Host.absf main_arg2
  let main_cst_2 : FVec F S_ .f32 := constant S_ .f32 0x7F800000#32
  let main_v10 : FVec F S1x8448x8x64 .f32 := broadcastInDim S1x8448x8x64 ![] bcast_S_S1x8448x8x64 main_cst_2
  let main_v11 : IVec S1x8448x8x64 1 := cmpf .olt main_v9 main_v10
  let main_c_3 : IVec S_ 1 := constantI S_ 1 1#1
  let main_v12 : IVec S_ 1 := (fun x v => Host.reduce IntOp.andi x v reducesTo_S1x8448x8x64_S_d0_1_2_3 h_S_) main_v11 main_c_3
  let main_v13 : IVec S_ 1 := andi main_v8 main_v12
  let main_v14 : FVec F S1x8192x8x64 .f32 := Host.absf main_arg3
  let main_cst_4 : FVec F S_ .f32 := constant S_ .f32 0x7F800000#32
  let main_v15 : FVec F S1x8192x8x64 .f32 := broadcastInDim S1x8192x8x64 ![] bcast_S_S1x8192x8x64 main_cst_4
  let main_v16 : IVec S1x8192x8x64 1 := cmpf .olt main_v14 main_v15
  fn_part1 (F := F) main_v13 main_v16
-- ==== Pre_finite_qk.lean ====
abbrev S1x8192x8x96 : Shape := ⟨4, ![1, 8192, 8, 96]⟩
abbrev S1x8448x8x96 : Shape := ⟨4, ![1, 8448, 8, 96]⟩
abbrev S1x8448x8x64 : Shape := ⟨4, ![1, 8448, 8, 64]⟩
abbrev S_ : Shape := ⟨0, ![]⟩

class Facts : Prop where
  bcast_S_S1x8192x8x96 : S_.BroadcastsInDim S1x8192x8x96 (![] : Fin 0 → Fin S1x8192x8x96.rank)
  reducesTo_S1x8192x8x96_S_d0_1_2_3 : S1x8192x8x96.ReducesTo [0, 1, 2, 3] S_
  h_S_ : 0 < S_.numel
  bcast_S_S1x8448x8x96 : S_.BroadcastsInDim S1x8448x8x96 (![] : Fin 0 → Fin S1x8448x8x96.rank)
  reducesTo_S1x8448x8x96_S_d0_1_2_3 : S1x8448x8x96.ReducesTo [0, 1, 2, 3] S_

variable [Facts]

def fn {F : FTy → Type} [FloatOps F] (main_arg0 : FVec F S1x8192x8x96 .f32) (main_arg1 : FVec F S1x8448x8x96 .f32) (main_arg2 : FVec F S1x8448x8x64 .f32) : IVec S_ 1 :=
  let main_v0 : FVec F S1x8192x8x96 .f32 := Host.absf main_arg0
  let main_cst : FVec F S_ .f32 := constant S_ .f32 0x7F800000#32
  let main_v1 : FVec F S1x8192x8x96 .f32 := broadcastInDim S1x8192x8x96 ![] bcast_S_S1x8192x8x96 main_cst
  let main_v2 : IVec S1x8192x8x96 1 := cmpf .olt main_v0 main_v1
  let main_c : IVec S_ 1 := constantI S_ 1 1#1
  let main_v3 : IVec S_ 1 := (fun x v => Host.reduce IntOp.andi x v reducesTo_S1x8192x8x96_S_d0_1_2_3 h_S_) main_v2 main_c
  let main_v4 : FVec F S1x8448x8x96 .f32 := Host.absf main_arg1
  let main_cst_0 : FVec F S_ .f32 := constant S_ .f32 0x7F800000#32
  let main_v5 : FVec F S1x8448x8x96 .f32 := broadcastInDim S1x8448x8x96 ![] bcast_S_S1x8448x8x96 main_cst_0
  let main_v6 : IVec S1x8448x8x96 1 := cmpf .olt main_v4 main_v5
  let main_c_1 : IVec S_ 1 := constantI S_ 1 1#1
  let main_v7 : IVec S_ 1 := (fun x v => Host.reduce IntOp.andi x v reducesTo_S1x8448x8x96_S_d0_1_2_3 h_S_) main_v6 main_c_1
  let main_v8 : IVec S_ 1 := andi main_v3 main_v7
  main_v8
-- ==== Kernel.lean ====
abbrev S1x8192x8x96 : Shape := ⟨4, ![1, 8192, 8, 96]⟩
abbrev S1x8448x8x96 : Shape := ⟨4, ![1, 8448, 8, 96]⟩
abbrev S1x8448x8x64 : Shape := ⟨4, ![1, 8448, 8, 64]⟩
abbrev S1x8192x8x64 : Shape := ⟨4, ![1, 8192, 8, 64]⟩
abbrev S1x8x8192x8448 : Shape := ⟨4, ![1, 8, 8192, 8448]⟩
abbrev S_ : Shape := ⟨0, ![]⟩
abbrev S1x8x8192 : Shape := ⟨3, ![1, 8, 8192]⟩
abbrev S1x8x8192x1 : Shape := ⟨4, ![1, 8, 8192, 1]⟩
abbrev S1x8x64x8192 : Shape := ⟨4, ![1, 8, 64, 8192]⟩
abbrev S8x8192 : Shape := ⟨2, ![8, 8192]⟩
abbrev S8x1x8192 : Shape := ⟨3, ![8, 1, 8192]⟩
abbrev S8x8x8192 : Shape := ⟨3, ![8, 8, 8192]⟩
abbrev S8192x8x96 : Shape := ⟨3, ![8192, 8, 96]⟩
abbrev S8192x8x128 : Shape := ⟨3, ![8192, 8, 128]⟩
abbrev S8192x1024 : Shape := ⟨2, ![8192, 1024]⟩
abbrev S8448x8x96 : Shape := ⟨3, ![8448, 8, 96]⟩
abbrev S8448x8x128 : Shape := ⟨3, ![8448, 8, 128]⟩
abbrev S8448x1024 : Shape := ⟨2, ![8448, 1024]⟩
abbrev S8448x8x64 : Shape := ⟨3, ![8448, 8, 64]⟩
abbrev S8192x8x64 : Shape := ⟨3, ![8192, 8, 64]⟩
abbrev S2048x128 : Shape := ⟨2, ![2048, 128]⟩
abbrev S2816x128 : Shape := ⟨2, ![2816, 128]⟩
abbrev S1x8x2048 : Shape := ⟨3, ![1, 8, 2048]⟩
abbrev S128x8192 : Shape := ⟨2, ![128, 8192]⟩
abbrev S1x1x2048 : Shape := ⟨3, ![1, 1, 2048]⟩
abbrev S1x2048 : Shape := ⟨2, ![1, 2048]⟩
abbrev S128x2048 : Shape := ⟨2, ![128, 2048]⟩
abbrev S2048 : Shape := ⟨1, ![2048]⟩
abbrev S256x128 : Shape := ⟨2, ![256, 128]⟩
abbrev S256x2048 : Shape := ⟨2, ![256, 2048]⟩

abbrev nBuf : Space → Nat
  | .hbm => 74
  | .vmem => 21
  | .smem => 0
  | _ => 0

abbrev bufTy : (tb : Table) → Fin (tcTables nBuf tb) → BufTy
  | .hbm, ⟨0, _⟩ => ⟨S1x8192x8x96, .f32⟩
  | .hbm, ⟨1, _⟩ => ⟨S1x8448x8x96, .f32⟩
  | .hbm, ⟨2, _⟩ => ⟨S1x8448x8x64, .f32⟩
  | .hbm, ⟨3, _⟩ => ⟨S1x8192x8x64, .f32⟩
  | .hbm, ⟨4, _⟩ => ⟨S1x8x8192x8448, .f32⟩
  | .hbm, ⟨5, _⟩ => ⟨S_, .f32⟩
  | .hbm, ⟨6, _⟩ => ⟨S1x8x8192x8448, .f32⟩
  | .hbm, ⟨7, _⟩ => ⟨S1x8x8192x8448, .f32⟩
  | .hbm, ⟨8, _⟩ => ⟨S_, .f32⟩
  | .hbm, ⟨9, _⟩ => ⟨S1x8x8192, .f32⟩
  | .hbm, ⟨10, _⟩ => ⟨S_, .f32⟩
  | .hbm, ⟨11, _⟩ => ⟨S1x8x8192, .f32⟩
  | .hbm, ⟨12, _⟩ => ⟨S1x8x8192, .f32⟩
  | .hbm, ⟨13, _⟩ => ⟨S1x8x8192x1, .f32⟩
  | .hbm, ⟨14, _⟩ => ⟨S1x8x8192x8448, .f32⟩
  | .hbm, ⟨15, _⟩ => ⟨S1x8x8192x8448, .f32⟩
  | .hbm, ⟨16, _⟩ => ⟨S1x8x8192x8448, .f32⟩
  | .hbm, ⟨17, _⟩ => ⟨S_, .f32⟩
  | .hbm, ⟨18, _⟩ => ⟨S1x8x8192, .f32⟩
  | .hbm, ⟨19, _⟩ => ⟨S1x8x8192x1, .f32⟩
  | .hbm, ⟨20, _⟩ => ⟨S1x8x8192x8448, .f32⟩
  | .hbm, ⟨21, _⟩ => ⟨S1x8x8192x8448, .f32⟩
  | .hbm, ⟨22, _⟩ => ⟨S1x8x64x8192, .f32⟩
  | .hbm, ⟨23, _⟩ => ⟨S1x8192x8x64, .f32⟩
  | .hbm, ⟨24, _⟩ => ⟨S_, .f32⟩
  | .hbm, ⟨25, _⟩ => ⟨S1x8x8192, .f32⟩
  | .hbm, ⟨26, _⟩ => ⟨S1x8x8192x1, .f32⟩
  | .hbm, ⟨27, _⟩ => ⟨S1x8x8192x8448, .f32⟩
  | .hbm, ⟨28, _⟩ => ⟨S1x8x8192x8448, .f32⟩
  | .hbm, ⟨29, _⟩ => ⟨S1x8x8192x8448, .f32⟩
  | .hbm, ⟨30, _⟩ => ⟨S_, .f32⟩
  | .hbm, ⟨31, _⟩ => ⟨S1x8x8192, .f32⟩
  | .hbm, ⟨32, _⟩ => ⟨S1x8x8192, .f32⟩
  | .hbm, ⟨33, _⟩ => ⟨S1x8x8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S1x8x8192, .f32⟩
  | .hbm, ⟨38, _⟩ => ⟨S1x8x8192, .f32⟩
  | .hbm, ⟨39, _⟩ => ⟨S8x8192, .f32⟩
  | .hbm, ⟨40, _⟩ => ⟨S8x1x8192, .f32⟩
  | .hbm, ⟨41, _⟩ => ⟨S8x8x8192, .f32⟩
  | .hbm, ⟨42, _⟩ => ⟨S8192x8x96, .f32⟩
  | .hbm, ⟨43, _⟩ => ⟨S_, .i32⟩
  | .hbm, ⟨44, _⟩ => ⟨S_, .f32⟩
  | .hbm, ⟨45, _⟩ => ⟨S8192x8x128, .f32⟩
  | .hbm, ⟨46, _⟩ => ⟨S8192x1024, .f32⟩
  | .hbm, ⟨47, _⟩ => ⟨S8192x1024, .bf16⟩
  | .hbm, ⟨48, _⟩ => ⟨S8448x8x96, .f32⟩
  | .hbm, ⟨49, _⟩ => ⟨S_, .i32⟩
  | .hbm, ⟨50, _⟩ => ⟨S_, .f32⟩
  | .hbm, ⟨51, _⟩ => ⟨S8448x8x128, .f32⟩
  | .hbm, ⟨52, _⟩ => ⟨S8448x1024, .f32⟩
  | .hbm, ⟨53, _⟩ => ⟨S8448x1024, .bf16⟩
  | .hbm, ⟨54, _⟩ => ⟨S8448x8x64, .f32⟩
  | .hbm, ⟨55, _⟩ => ⟨S_, .i32⟩
  | .hbm, ⟨56, _⟩ => ⟨S_, .f32⟩
  | .hbm, ⟨57, _⟩ => ⟨S8448x8x128, .f32⟩
  | .hbm, ⟨58, _⟩ => ⟨S8448x1024, .f32⟩
  | .hbm, ⟨59, _⟩ => ⟨S8448x1024, .bf16⟩
  | .hbm, ⟨60, _⟩ => ⟨S8192x8x64, .f32⟩
  | .hbm, ⟨61, _⟩ => ⟨S_, .i32⟩
  | .hbm, ⟨62, _⟩ => ⟨S_, .f32⟩
  | .hbm, ⟨63, _⟩ => ⟨S8192x8x128, .f32⟩
  | .hbm, ⟨64, _⟩ => ⟨S8192x1024, .f32⟩
  | .hbm, ⟨65, _⟩ => ⟨S8192x1024, .bf16⟩
  | .hbm, ⟨66, _⟩ => ⟨S8192x8x64, .f32⟩
  | .hbm, ⟨67, _⟩ => ⟨S_, .i32⟩
  | .hbm, ⟨68, _⟩ => ⟨S_, .f32⟩
  | .hbm, ⟨69, _⟩ => ⟨S8192x8x128, .f32⟩
  | .hbm, ⟨70, _⟩ => ⟨S8192x1024, .f32⟩
  | .hbm, ⟨71, _⟩ => ⟨S8192x1024, .f32⟩
  | .hbm, ⟨72, _⟩ => ⟨S8448x1024, .f32⟩
  | .hbm, ⟨73, _⟩ => ⟨S8448x1024, .f32⟩
  | .local _ .vmem, ⟨0, _⟩ => ⟨S2048x128, .bf16⟩
  | .local _ .vmem, ⟨1, _⟩ => ⟨S2048x128, .bf16⟩
  | .local _ .vmem, ⟨2, _⟩ => ⟨S2816x128, .bf16⟩
  | .local _ .vmem, ⟨3, _⟩ => ⟨S2816x128, .bf16⟩
  | .local _ .vmem, ⟨4, _⟩ => ⟨S2816x128, .bf16⟩
  | .local _ .vmem, ⟨5, _⟩ => ⟨S2816x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .bf16⟩
  | .local _ .vmem, ⟨9, _⟩ => ⟨S2048x128, .bf16⟩
  | .local _ .vmem, ⟨10, _⟩ => ⟨S1x8x2048, .f32⟩
  | .local _ .vmem, ⟨11, _⟩ => ⟨S1x8x2048, .f32⟩
  | .local _ .vmem, ⟨12, _⟩ => ⟨S2048x128, .f32⟩
  | .local _ .vmem, ⟨13, _⟩ => ⟨S2048x128, .f32⟩
  | .local _ .vmem, ⟨14, _⟩ => ⟨S2816x128, .f32⟩
  | .local _ .vmem, ⟨15, _⟩ => ⟨S2816x128, .f32⟩
  | .local _ .vmem, ⟨16, _⟩ => ⟨S2816x128, .f32⟩
  | .local _ .vmem, ⟨17, _⟩ => ⟨S2816x128, .f32⟩
  | .local _ .vmem, ⟨18, _⟩ => ⟨S128x8192, .f32⟩
  | .local _ .vmem, ⟨19, _⟩ => ⟨S2816x128, .f32⟩
  | .local _ .vmem, ⟨20, _⟩ => ⟨S2816x128, .f32⟩
  | _, _ => ⟨S1x8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c : Ref sig .tc := ⟨.hbm, 43, rfl⟩
abbrev main_call0_v0 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_6 : Ref sig .tc := ⟨.hbm, 49, rfl⟩
abbrev main_call1_v0 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_7 : Ref sig .tc := ⟨.hbm, 55, rfl⟩
abbrev main_call2_v0 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_8 : Ref sig .tc := ⟨.hbm, 61, rfl⟩
abbrev main_call3_v0 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_call4_v0 : Ref sig .tc := ⟨.hbm, 68, rfl⟩
abbrev main_v48 : Ref sig .tc := ⟨.hbm, 69, rfl⟩
abbrev main_v49 : Ref sig .tc := ⟨.hbm, 70, rfl⟩
abbrev main_v50_0 : Ref sig .tc := ⟨.hbm, 71, rfl⟩
abbrev main_v50_1 : Ref sig .tc := ⟨.hbm, 72, rfl⟩
abbrev main_v50_2 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 3, 4], ![false, false, false]⟩

def k0_mult1 (i : grid0.Coords) : BitVec 32 :=
  let arg2 : BitVec 32 := BitVec.ofNat 32 (i 2).val
  let c2048_i32 : BitVec 32 := 2048#32
  let v373 : BitVec 32 := Scalar.muli arg2 c2048_i32
  v373
def k0_off1 (i : grid0.Coords) : Fin 2 → Nat :=
  let c0_211 : Index := 0#32
  let arg2 : BitVec 32 := BitVec.ofNat 32 (i 2).val
  let c2048_i32 : BitVec 32 := 2048#32
  let v373 : BitVec 32 := Scalar.muli arg2 c2048_i32
  let v374 : BitVec 32 := v373
  let v375 : Index := Scalar.indexCast v374
  ![0, v375.toNat]
def k0_cond3 (i : grid0.Coords) : BitVec 1 :=
  let arg1 : BitVec 32 := BitVec.ofNat 32 (i 1).val
  let c2_i32 : BitVec 32 := 2#32
  let v382 : BitVec 1 := Scalar.cmpi .eq arg1 c2_i32
  let v383 : BitVec 32 := Scalar.extui v382
  let c0_i32_213 : BitVec 32 := 0#32
  let v384 : BitVec 1 := Scalar.cmpi .ne v383 c0_i32_213
  v384

def k0_off2 (i : grid0.Coords) : Fin 2 → Nat :=
  let c0_215 : Index := 0#32
  let arg2 : BitVec 32 := BitVec.ofNat 32 (i 2).val
  let c2048_i32 : BitVec 32 := 2048#32
  let v373 : BitVec 32 := Scalar.muli arg2 c2048_i32
  let v374 : BitVec 32 := v373
  let v388 : Index := Scalar.indexCast v374
  ![0, v388.toNat]
def k0_cond4 (i : grid0.Coords) : BitVec 1 :=
  let arg2 : BitVec 32 := BitVec.ofNat 32 (i 2).val
  let c3_i32 : BitVec 32 := 3#32
  let v385 : BitVec 1 := Scalar.cmpi .eq arg2 c3_i32
  let v386 : BitVec 32 := Scalar.extui v385
  let c0_i32_214 : BitVec 32 := 0#32
  let v387 : BitVec 1 := Scalar.cmpi .ne v386 c0_i32_214
  v387

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .eq arg1 c2_i32
  let c0_i32 : BitVec 32 := 0#32
  let v1 : BitVec 32 := Scalar.select v0 arg2 c0_i32
  let c0_i32_0 : BitVec 32 := 0#32
  ![v1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2816x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S2816x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S2816x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== KernelIdeal.lean ====
variable {F : FTy → Type} [FloatOps F] [Named F]
def κ : String → Option EReal := fun
  | "scale_log2e" => some (((13698540 * 134217728⁻¹) * (Real.log 2)⁻¹ : ℝ) : EReal)
  | _ => none
-- ==== ReferenceIdeal.lean ====
abbrev S1x8192x8x96 : Shape := ⟨4, ![1, 8192, 8, 96]⟩
abbrev S1x8448x8x96 : Shape := ⟨4, ![1, 8448, 8, 96]⟩
abbrev S1x8448x8x64 : Shape := ⟨4, ![1, 8448, 8, 64]⟩
abbrev S1x8192x8x64 : Shape := ⟨4, ![1, 8192, 8, 64]⟩
abbrev S1x8x8192x8448 : Shape := ⟨4, ![1, 8, 8192, 8448]⟩
abbrev S_ : Shape := ⟨0, ![]⟩
abbrev S1x8x8192 : Shape := ⟨3, ![1, 8, 8192]⟩
abbrev S1x8x8192x1 : Shape := ⟨4, ![1, 8, 8192, 1]⟩
abbrev S1x8x64x8192 : Shape := ⟨4, ![1, 8, 64, 8192]⟩
abbrev S1x8x64x8448 : Shape := ⟨4, ![1, 8, 64, 8448]⟩
abbrev S8x8192 : Shape := ⟨2, ![8, 8192]⟩
abbrev S1x8x8448x96 : Shape := ⟨4, ![1, 8, 8448, 96]⟩
abbrev S1x8x8192x96 : Shape := ⟨4, ![1, 8, 8192, 96]⟩
abbrev S8192x8x96 : Shape := ⟨3, ![8192, 8, 96]⟩
abbrev S8192x8x128 : Shape := ⟨3, ![8192, 8, 128]⟩
abbrev S8192x1024 : Shape := ⟨2, ![8192, 1024]⟩
abbrev S8448x8x96 : Shape := ⟨3, ![8448, 8, 96]⟩
abbrev S8448x8x128 : Shape := ⟨3, ![8448, 8, 128]⟩
abbrev S8448x1024 : Shape := ⟨2, ![8448, 1024]⟩
abbrev S8448x8x64 : Shape := ⟨3, ![8448, 8, 64]⟩

abbrev nBuf : Space → Nat
  | .hbm => 89
  | .vmem => 0
  | .smem => 0
  | _ => 0

abbrev bufTy : (tb : Table) → Fin (tcTables nBuf tb) → BufTy
  | .hbm, ⟨0, _⟩ => ⟨S1x8192x8x96, .f32⟩
  | .hbm, ⟨1, _⟩ => ⟨S1x8448x8x96, .f32⟩
  | .hbm, ⟨2, _⟩ => ⟨S1x8448x8x64, .f32⟩
  | .hbm, ⟨3, _⟩ => ⟨S1x8192x8x64, .f32⟩
  | .hbm, ⟨4, _⟩ => ⟨S1x8x8192x8448, .f32⟩
  | .hbm, ⟨5, _⟩ => ⟨S_, .f32⟩
  | .hbm, ⟨6, _⟩ => ⟨S1x8x8192x8448, .f32⟩
  | .hbm, ⟨7, _⟩ => ⟨S1x8x8192x8448, .f32⟩
  | .hbm, ⟨8, _⟩ => ⟨S_, .f32⟩
  | .hbm, ⟨9, _⟩ => ⟨S1x8x8192, .f32⟩
  | .hbm, ⟨10, _⟩ => ⟨S1x8x8192x1, .f32⟩
  | .hbm, ⟨11, _⟩ => ⟨S1x8x8192x8448, .f32⟩
  | .hbm, ⟨12, _⟩ => ⟨S1x8x8192x8448, .i1⟩
  | .hbm, ⟨13, _⟩ => ⟨S1x8x8192x8448, .f32⟩
  | .hbm, ⟨14, _⟩ => ⟨S_, .f32⟩
  | .hbm, ⟨15, _⟩ => ⟨S1x8x8192, .f32⟩
  | .hbm, ⟨16, _⟩ => ⟨S_, .f32⟩
  | .hbm, ⟨17, _⟩ => ⟨S1x8x8192, .f32⟩
  | .hbm, ⟨18, _⟩ => ⟨S1x8x8192, .f32⟩
  | .hbm, ⟨19, _⟩ => ⟨S_, .f32⟩
  | .hbm, ⟨20, _⟩ => ⟨S1x8x8192, .f32⟩
  | .hbm, ⟨21, _⟩ => ⟨S1x8x8192, .i1⟩
  | .hbm, ⟨22, _⟩ => ⟨S_, .f32⟩
  | .hbm, ⟨23, _⟩ => ⟨S1x8x8192, .f32⟩
  | .hbm, ⟨24, _⟩ => ⟨S1x8x8192, .i1⟩
  | .hbm, ⟨25, _⟩ => ⟨S_, .f32⟩
  | .hbm, ⟨26, _⟩ => ⟨S1x8x8192, .f32⟩
  | .hbm, ⟨27, _⟩ => ⟨S_, .f32⟩
  | .hbm, ⟨28, _⟩ => ⟨S1x8x8192, .f32⟩
  | .hbm, ⟨29, _⟩ => ⟨S_, .f32⟩
  | .hbm, ⟨30, _⟩ => ⟨S1x8x8192, .f32⟩
  | .hbm, ⟨31, _⟩ => ⟨S1x8x8192, .f32⟩
  | .hbm, ⟨32, _⟩ => ⟨S1x8x8192, .f32⟩
  | .hbm, ⟨33, _⟩ => ⟨S1x8x8192x1, .f32⟩
  | .hbm, ⟨34, _⟩ => ⟨S1x8x8192x8448, .f32⟩
  | .hbm, ⟨35, _⟩ => ⟨S1x8x8192x8448, .f32⟩
  | .hbm, ⟨36, _⟩ => ⟨S1x8x8192x8448, .f32⟩
  | .hbm, ⟨37, _⟩ => ⟨S_, .f32⟩
  | .hbm, ⟨38, _⟩ => ⟨S1x8x8192, .f32⟩
  | .hbm, ⟨39, _⟩ => ⟨S1x8x8192x1, .f32⟩
  | .hbm, ⟨40, _⟩ => ⟨S1x8x8192x8448, .f32⟩
  | .hbm, ⟨41, _⟩ => ⟨S1x8x8192x8448, .f32⟩
  | .hbm, ⟨42, _⟩ => ⟨S1x8x8192x1, .f32⟩
  | .hbm, ⟨43, _⟩ => ⟨S_, .f32⟩
  | .hbm, ⟨44, _⟩ => ⟨S1x8x8192x1, .f32⟩
  | .hbm, ⟨45, _⟩ => ⟨S1x8x8192x1, .f32⟩
  | .hbm, ⟨46, _⟩ => ⟨S1x8x64x8192, .f32⟩
  | .hbm, ⟨47, _⟩ => ⟨S1x8192x8x64, .f32⟩
  | .hbm, ⟨48, _⟩ => ⟨S1x8x64x8192, .f32⟩
  | .hbm, ⟨49, _⟩ => ⟨S1x8x8192x8448, .f32⟩
  | .hbm, ⟨50, _⟩ => ⟨S1x8x64x8448, .f32⟩
  | .hbm, ⟨51, _⟩ => ⟨S1x8448x8x64, .f32⟩
  | .hbm, ⟨52, _⟩ => ⟨S1x8x8192x8448, .f32⟩
  | .hbm, ⟨53, _⟩ => ⟨S1x8x8192x8448, .f32⟩
  | .hbm, ⟨54, _⟩ => ⟨S1x8x8192x8448, .f32⟩
  | .hbm, ⟨55, _⟩ => ⟨S_, .f32⟩
  | .hbm, ⟨56, _⟩ => ⟨S1x8x8192, .f32⟩
  | .hbm, ⟨57, _⟩ => ⟨S1x8x8192x1, .f32⟩
  | .hbm, ⟨58, _⟩ => ⟨S1x8x8192x1, .f32⟩
  | .hbm, ⟨59, _⟩ => ⟨S1x8x8192x8448, .f32⟩
  | .hbm, ⟨60, _⟩ => ⟨S1x8x8192x8448, .f32⟩
  | .hbm, ⟨61, _⟩ => ⟨S_, .f32⟩
  | .hbm, ⟨62, _⟩ => ⟨S8x8192, .f32⟩
  | .hbm, ⟨63, _⟩ => ⟨S1x8x8192, .f32⟩
  | .hbm, ⟨64, _⟩ => ⟨S1x8x8192x8448, .f32⟩
  | .hbm, ⟨65, _⟩ => ⟨S1x8x8192x8448, .f32⟩
  | .hbm, ⟨66, _⟩ => ⟨S1x8x8192x8448, .f32⟩
  | .hbm, ⟨67, _⟩ => ⟨S_, .f32⟩
  | .hbm, ⟨68, _⟩ => ⟨S1x8x8192x8448, .f32⟩
  | .hbm, ⟨69, _⟩ => ⟨S1x8x8192x8448, .f32⟩
  | .hbm, ⟨70, _⟩ => ⟨S1x8x8448x96, .f32⟩
  | .hbm, ⟨71, _⟩ => ⟨S1x8448x8x96, .f32⟩
  | .hbm, ⟨72, _⟩ => ⟨S1x8x8192x96, .f32⟩
  | .hbm, ⟨73, _⟩ => ⟨S1x8192x8x96, .f32⟩
  | .hbm, ⟨74, _⟩ => ⟨S8192x8x96, .f32⟩
  | .hbm, ⟨75, _⟩ => ⟨S_, .i32⟩
  | .hbm, ⟨76, _⟩ => ⟨S_, .f32⟩
  | .hbm, ⟨77, _⟩ => ⟨S8192x8x128, .f32⟩
  | .hbm, ⟨78, _⟩ => ⟨S8192x1024, .f32⟩
  | .hbm, ⟨79, _⟩ => ⟨S8448x8x96, .f32⟩
  | .hbm, ⟨80, _⟩ => ⟨S_, .i32⟩
  | .hbm, ⟨81, _⟩ => ⟨S_, .f32⟩
  | .hbm, ⟨82, _⟩ => ⟨S8448x8x128, .f32⟩
  | .hbm, ⟨83, _⟩ => ⟨S8448x1024, .f32⟩
  | .hbm, ⟨84, _⟩ => ⟨S8448x8x64, .f32⟩
  | .hbm, ⟨85, _⟩ => ⟨S_, .i32⟩
  | .hbm, ⟨86, _⟩ => ⟨S_, .f32⟩
  | .hbm, ⟨87, _⟩ => ⟨S8448x8x128, .f32⟩
  | .hbm, ⟨88, _⟩ => ⟨S8448x1024, .f32⟩
  | _, _ => ⟨S1x8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_c : Ref sig .tc := ⟨.hbm, 75, rfl⟩
abbrev main_call0_v0 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_13 : Ref sig .tc := ⟨.hbm, 80, rfl⟩
abbrev main_call1_v0 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_c_14 : Ref sig .tc := ⟨.hbm, 85, rfl⟩
abbrev main_call2_v0 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]
-- ==== Kernel2.lean ====
abbrev S1x8192x8x96 : Shape := ⟨4, ![1, 8192, 8, 96]⟩
abbrev S1x8448x8x96 : Shape := ⟨4, ![1, 8448, 8, 96]⟩
abbrev S1x8448x8x64 : Shape := ⟨4, ![1, 8448, 8, 64]⟩
abbrev S8192x8x96 : Shape := ⟨3, ![8192, 8, 96]⟩
abbrev S_ : Shape := ⟨0, ![]⟩
abbrev S8192x8x128 : Shape := ⟨3, ![8192, 8, 128]⟩
abbrev S8192x1024 : Shape := ⟨2, ![8192, 1024]⟩
abbrev S8448x8x96 : Shape := ⟨3, ![8448, 8, 96]⟩
abbrev S8448x8x128 : Shape := ⟨3, ![8448, 8, 128]⟩
abbrev S8448x1024 : Shape := ⟨2, ![8448, 1024]⟩
abbrev S8448x8x64 : Shape := ⟨3, ![8448, 8, 64]⟩
abbrev S8x8x8192 : Shape := ⟨3, ![8, 8, 8192]⟩
abbrev S4096x128 : Shape := ⟨2, ![4096, 128]⟩
abbrev S2816x128 : Shape := ⟨2, ![2816, 128]⟩
abbrev S1x8x4096 : Shape := ⟨3, ![1, 8, 4096]⟩
abbrev S512x128 : Shape := ⟨2, ![512, 128]⟩
abbrev S512x2816 : Shape := ⟨2, ![512, 2816]⟩
abbrev S512 : Shape := ⟨1, ![512]⟩
abbrev S512x1 : Shape := ⟨2, ![512, 1]⟩
abbrev S128x4096 : Shape := ⟨2, ![128, 4096]⟩
abbrev S8x4096 : Shape := ⟨2, ![8, 4096]⟩

abbrev nBuf : Space → Nat
  | .hbm => 23
  | .vmem => 13
  | .smem => 0
  | _ => 0

abbrev bufTy : (tb : Table) → Fin (tcTables nBuf tb) → BufTy
  | .hbm, ⟨0, _⟩ => ⟨S1x8192x8x96, .f32⟩
  | .hbm, ⟨1, _⟩ => ⟨S1x8448x8x96, .f32⟩
  | .hbm, ⟨2, _⟩ => ⟨S1x8448x8x64, .f32⟩
  | .hbm, ⟨3, _⟩ => ⟨S8192x8x96, .f32⟩
  | .hbm, ⟨4, _⟩ => ⟨S_, .i32⟩
  | .hbm, ⟨5, _⟩ => ⟨S_, .f32⟩
  | .hbm, ⟨6, _⟩ => ⟨S8192x8x128, .f32⟩
  | .hbm, ⟨7, _⟩ => ⟨S8192x1024, .f32⟩
  | .hbm, ⟨8, _⟩ => ⟨S8192x1024, .bf16⟩
  | .hbm, ⟨9, _⟩ => ⟨S8448x8x96, .f32⟩
  | .hbm, ⟨10, _⟩ => ⟨S_, .i32⟩
  | .hbm, ⟨11, _⟩ => ⟨S_, .f32⟩
  | .hbm, ⟨12, _⟩ => ⟨S8448x8x128, .f32⟩
  | .hbm, ⟨13, _⟩ => ⟨S8448x1024, .f32⟩
  | .hbm, ⟨14, _⟩ => ⟨S8448x1024, .bf16⟩
  | .hbm, ⟨15, _⟩ => ⟨S8448x8x64, .f32⟩
  | .hbm, ⟨16, _⟩ => ⟨S_, .i32⟩
  | .hbm, ⟨17, _⟩ => ⟨S_, .f32⟩
  | .hbm, ⟨18, _⟩ => ⟨S8448x8x128, .f32⟩
  | .hbm, ⟨19, _⟩ => ⟨S8448x1024, .f32⟩
  | .hbm, ⟨20, _⟩ => ⟨S8448x1024, .bf16⟩
  | .hbm, ⟨21, _⟩ => ⟨S8192x1024, .bf16⟩
  | .hbm, ⟨22, _⟩ => ⟨S8x8x8192, .f32⟩
  | .local _ .vmem, ⟨0, _⟩ => ⟨S4096x128, .bf16⟩
  | .local _ .vmem, ⟨1, _⟩ => ⟨S4096x128, .bf16⟩
  | .local _ .vmem, ⟨2, _⟩ => ⟨S2816x128, .bf16⟩
  | .local _ .vmem, ⟨3, _⟩ => ⟨S2816x128, .bf16⟩
  | .local _ .vmem, ⟨4, _⟩ => ⟨S2816x128, .bf16⟩
  | .local _ .vmem, ⟨5, _⟩ => ⟨S2816x128, .bf16⟩
  | .local _ .vmem, ⟨6, _⟩ => ⟨S4096x128, .bf16⟩
  | .local _ .vmem, ⟨7, _⟩ => ⟨S4096x128, .bf16⟩
  | .local _ .vmem, ⟨8, _⟩ => ⟨S1x8x4096, .f32⟩
  | .local _ .vmem, ⟨9, _⟩ => ⟨S1x8x4096, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | _, _ => ⟨S1x8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_call2_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 3], ![false, false, false]⟩

def k0_cond2 (i : grid0.Coords) : BitVec 1 :=
  let arg2 : BitVec 32 := BitVec.ofNat 32 (i 2).val
  let c2_i32 : BitVec 32 := 2#32
  let v303 : BitVec 1 := Scalar.cmpi .eq arg2 c2_i32
  let v304 : BitVec 32 := Scalar.extui v303
  let c0_i32_156 : BitVec 32 := 0#32
  let v305 : BitVec 1 := Scalar.cmpi .ne v304 c0_i32_156
  v305

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2816x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2816x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Kernel2Ideal.lean ====
variable {F : FTy → Type} [FloatOps F] [Named F]
def κ : String → Option EReal := fun
  | "log2e" => some (((Real.log 2)⁻¹ : ℝ) : EReal)
  | "scale_log2e" => some (((13698540 * 134217728⁻¹) * (Real.log 2)⁻¹ : ℝ) : EReal)
  | _ => none
-- ==== Reference2Ideal.lean ====
abbrev S1x8192x8x96 : Shape := ⟨4, ![1, 8192, 8, 96]⟩
abbrev S1x8448x8x96 : Shape := ⟨4, ![1, 8448, 8, 96]⟩
abbrev S1x8448x8x64 : Shape := ⟨4, ![1, 8448, 8, 64]⟩
abbrev S1x8x8192x8448 : Shape := ⟨4, ![1, 8, 8192, 8448]⟩
abbrev S_ : Shape := ⟨0, ![]⟩
abbrev S1x8x8192 : Shape := ⟨3, ![1, 8, 8192]⟩
abbrev S1x8x8192x1 : Shape := ⟨4, ![1, 8, 8192, 1]⟩
abbrev S1x8x64x8192 : Shape := ⟨4, ![1, 8, 64, 8192]⟩
abbrev S1x8192x8x64 : Shape := ⟨4, ![1, 8192, 8, 64]⟩
abbrev S8192x8x64 : Shape := ⟨3, ![8192, 8, 64]⟩
abbrev S8192x8x128 : Shape := ⟨3, ![8192, 8, 128]⟩
abbrev S8192x1024 : Shape := ⟨2, ![8192, 1024]⟩
abbrev S8x8192 : Shape := ⟨2, ![8, 8192]⟩
abbrev S8x1x8192 : Shape := ⟨3, ![8, 1, 8192]⟩
abbrev S8x8x8192 : Shape := ⟨3, ![8, 8, 8192]⟩

abbrev nBuf : Space → Nat
  | .hbm => 51
  | .vmem => 0
  | .smem => 0
  | _ => 0

abbrev bufTy : (tb : Table) → Fin (tcTables nBuf tb) → BufTy
  | .hbm, ⟨0, _⟩ => ⟨S1x8192x8x96, .f32⟩
  | .hbm, ⟨1, _⟩ => ⟨S1x8448x8x96, .f32⟩
  | .hbm, ⟨2, _⟩ => ⟨S1x8448x8x64, .f32⟩
  | .hbm, ⟨3, _⟩ => ⟨S1x8x8192x8448, .f32⟩
  | .hbm, ⟨4, _⟩ => ⟨S_, .f32⟩
  | .hbm, ⟨5, _⟩ => ⟨S1x8x8192x8448, .f32⟩
  | .hbm, ⟨6, _⟩ => ⟨S1x8x8192x8448, .f32⟩
  | .hbm, ⟨7, _⟩ => ⟨S_, .f32⟩
  | .hbm, ⟨8, _⟩ => ⟨S1x8x8192, .f32⟩
  | .hbm, ⟨9, _⟩ => ⟨S_, .f32⟩
  | .hbm, ⟨10, _⟩ => ⟨S1x8x8192, .f32⟩
  | .hbm, ⟨11, _⟩ => ⟨S1x8x8192, .f32⟩
  | .hbm, ⟨12, _⟩ => ⟨S1x8x8192x1, .f32⟩
  | .hbm, ⟨13, _⟩ => ⟨S1x8x8192x8448, .f32⟩
  | .hbm, ⟨14, _⟩ => ⟨S1x8x8192x8448, .f32⟩
  | .hbm, ⟨15, _⟩ => ⟨S1x8x8192x8448, .f32⟩
  | .hbm, ⟨16, _⟩ => ⟨S_, .f32⟩
  | .hbm, ⟨17, _⟩ => ⟨S1x8x8192, .f32⟩
  | .hbm, ⟨18, _⟩ => ⟨S1x8x8192x1, .f32⟩
  | .hbm, ⟨19, _⟩ => ⟨S1x8x8192x8448, .f32⟩
  | .hbm, ⟨20, _⟩ => ⟨S1x8x8192x8448, .f32⟩
  | .hbm, ⟨21, _⟩ => ⟨S1x8x64x8192, .f32⟩
  | .hbm, ⟨22, _⟩ => ⟨S1x8192x8x64, .f32⟩
  | .hbm, ⟨23, _⟩ => ⟨S8192x8x64, .f32⟩
  | .hbm, ⟨24, _⟩ => ⟨S1x8x8192x8448, .f32⟩
  | .hbm, ⟨25, _⟩ => ⟨S_, .f32⟩
  | .hbm, ⟨26, _⟩ => ⟨S1x8x8192x8448, .f32⟩
  | .hbm, ⟨27, _⟩ => ⟨S1x8x8192x8448, .f32⟩
  | .hbm, ⟨28, _⟩ => ⟨S_, .f32⟩
  | .hbm, ⟨29, _⟩ => ⟨S1x8x8192, .f32⟩
  | .hbm, ⟨30, _⟩ => ⟨S1x8x8192x1, .f32⟩
  | .hbm, ⟨31, _⟩ => ⟨S1x8x8192x8448, .f32⟩
  | .hbm, ⟨32, _⟩ => ⟨S1x8x8192x8448, .f32⟩
  | .hbm, ⟨33, _⟩ => ⟨S1x8x8192x8448, .f32⟩
  | .hbm, ⟨34, _⟩ => ⟨S_, .f32⟩
  | .hbm, ⟨35, _⟩ => ⟨S1x8x8192, .f32⟩
  | .hbm, ⟨36, _⟩ => ⟨S1x8x8192, .f32⟩
  | .hbm, ⟨37, _⟩ => ⟨S1x8x8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1x8x8192, .f32⟩
  | .hbm, ⟨42, _⟩ => ⟨S1x8x8192, .f32⟩
  | .hbm, ⟨43, _⟩ => ⟨S_, .i32⟩
  | .hbm, ⟨44, _⟩ => ⟨S_, .f32⟩
  | .hbm, ⟨45, _⟩ => ⟨S8192x8x128, .f32⟩
  | .hbm, ⟨46, _⟩ => ⟨S8192x1024, .f32⟩
  | .hbm, ⟨47, _⟩ => ⟨S8192x1024, .bf16⟩
  | .hbm, ⟨48, _⟩ => ⟨S8x8192, .f32⟩
  | .hbm, ⟨49, _⟩ => ⟨S8x1x8192, .f32⟩
  | .hbm, ⟨50, _⟩ => ⟨S8x8x8192, .f32⟩
  | _, _ => ⟨S1x8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c : Ref sig .tc := ⟨.hbm, 43, rfl⟩
abbrev main_call0_v0 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel3.lean ====
abbrev S8192x1024 : Shape := ⟨2, ![8192, 1024]⟩
abbrev S1024x5632 : Shape := ⟨2, ![1024, 5632]⟩
abbrev S8192x5632 : Shape := ⟨2, ![8192, 5632]⟩
abbrev S512x5632 : Shape := ⟨2, ![512, 5632]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x5632, .bf16⟩
  | .hbm, ⟨4, _⟩ => ⟨S1024x5632, .bf16⟩
  | .hbm, ⟨5, _⟩ => ⟨S8192x1024, .f32⟩
  | .local _ .vmem, ⟨0, _⟩ => ⟨S512x5632, .bf16⟩
  | .local _ .vmem, ⟨1, _⟩ => ⟨S512x5632, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel3Ideal.lean ====
abbrev S8192x1024 : Shape := ⟨2, ![8192, 1024]⟩
abbrev S1024x5632 : Shape := ⟨2, ![1024, 5632]⟩
abbrev S8192x5632 : Shape := ⟨2, ![8192, 5632]⟩
abbrev S512x5632 : Shape := ⟨2, ![512, 5632]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x5632, .bf16⟩
  | .hbm, ⟨4, _⟩ => ⟨S1024x5632, .bf16⟩
  | .hbm, ⟨5, _⟩ => ⟨S8192x1024, .f32⟩
  | .local _ .vmem, ⟨0, _⟩ => ⟨S512x5632, .bf16⟩
  | .local _ .vmem, ⟨1, _⟩ => ⟨S512x5632, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S1024x5632 : Shape := ⟨2, ![1024, 5632]⟩
abbrev S8192x5632 : Shape := ⟨2, ![8192, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x5632, .f32⟩
  | .hbm, ⟨4, _⟩ => ⟨S5632x1024, .f32⟩
  | .hbm, ⟨5, _⟩ => ⟨S1024x5632, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S8192x1024 : Shape := ⟨2, ![8192, 1024]⟩
abbrev S1024x5632 : Shape := ⟨2, ![1024, 5632]⟩
abbrev S8192x5632 : Shape := ⟨2, ![8192, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x1024, .bf16⟩
  | .hbm, ⟨4, _⟩ => ⟨S8192x5632, .bf16⟩
  | .hbm, ⟨5, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel4Ideal.lean ====
abbrev S8192x1024 : Shape := ⟨2, ![8192, 1024]⟩
abbrev S1024x5632 : Shape := ⟨2, ![1024, 5632]⟩
abbrev S8192x5632 : Shape := ⟨2, ![8192, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x1024, .bf16⟩
  | .hbm, ⟨4, _⟩ => ⟨S8192x5632, .bf16⟩
  | .hbm, ⟨5, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S1024x5632 : Shape := ⟨2, ![1024, 5632]⟩
abbrev S8192x5632 : Shape := ⟨2, ![8192, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x5632, .f32⟩
  | .hbm, ⟨4, _⟩ => ⟨S5632x1024, .f32⟩
  | .hbm, ⟨5, _⟩ => ⟨S1024x5632, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S8192x2816 : Shape := ⟨2, ![8192, 2816]⟩
abbrev S2816x1024 : Shape := ⟨2, ![2816, 1024]⟩
abbrev S8192x1024 : Shape := ⟨2, ![8192, 1024]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .bf16⟩
  | .hbm, ⟨4, _⟩ => ⟨S2816x1024, .bf16⟩
  | .hbm, ⟨5, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel5Ideal.lean ====
abbrev S8192x2816 : Shape := ⟨2, ![8192, 2816]⟩
abbrev S2816x1024 : Shape := ⟨2, ![2816, 1024]⟩
abbrev S8192x1024 : Shape := ⟨2, ![8192, 1024]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .bf16⟩
  | .hbm, ⟨4, _⟩ => ⟨S2816x1024, .bf16⟩
  | .hbm, ⟨5, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S1024x2816, .f32⟩
  | .hbm, ⟨5, _⟩ => ⟨S2816x1024, .f32⟩
  | .hbm, ⟨6, _⟩ => ⟨S8192x2816, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S8192x2816 : Shape := ⟨2, ![8192, 2816]⟩
abbrev S2816x1024 : Shape := ⟨2, ![2816, 1024]⟩
abbrev S8192x1024 : Shape := ⟨2, ![8192, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x2816, .bf16⟩
  | .hbm, ⟨4, _⟩ => ⟨S8192x1024, .bf16⟩
  | .hbm, ⟨5, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel6Ideal.lean ====
abbrev S8192x2816 : Shape := ⟨2, ![8192, 2816]⟩
abbrev S2816x1024 : Shape := ⟨2, ![2816, 1024]⟩
abbrev S8192x1024 : Shape := ⟨2, ![8192, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x2816, .bf16⟩
  | .hbm, ⟨4, _⟩ => ⟨S8192x1024, .bf16⟩
  | .hbm, ⟨5, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S1024x2816, .f32⟩
  | .hbm, ⟨5, _⟩ => ⟨S2816x1024, .f32⟩
  | .hbm, ⟨6, _⟩ => ⟨S8192x2816, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S1x8192x5632 : Shape := ⟨3, ![1, 8192, 5632]⟩
abbrev S3x5632 : Shape := ⟨2, ![3, 5632]⟩
abbrev S5632 : Shape := ⟨1, ![5632]⟩
abbrev S_ : Shape := ⟨0, ![]⟩
abbrev S8x5632 : Shape := ⟨2, ![8, 5632]⟩
abbrev S1 : Shape := ⟨1, ![1]⟩
abbrev S8192x5632 : Shape := ⟨2, ![8192, 5632]⟩
abbrev S256x2816 : Shape := ⟨2, ![256, 2816]⟩
abbrev S8x2816 : Shape := ⟨2, ![8, 2816]⟩
abbrev S256x5632 : Shape := ⟨2, ![256, 5632]⟩
abbrev S16x2816 : Shape := ⟨2, ![16, 2816]⟩
abbrev S1x2816 : Shape := ⟨2, ![1, 2816]⟩
abbrev S16x5632 : Shape := ⟨2, ![16, 5632]⟩

abbrev nBuf : Space → Nat
  | .hbm => 11
  | .vmem => 15
  | .smem => 0
  | _ => 0

abbrev bufTy : (tb : Table) → Fin (tcTables nBuf tb) → BufTy
  | .hbm, ⟨0, _⟩ => ⟨S1x8192x5632, .f32⟩
  | .hbm, ⟨1, _⟩ => ⟨S3x5632, .f32⟩
  | .hbm, ⟨2, _⟩ => ⟨S5632, .f32⟩
  | .hbm, ⟨3, _⟩ => ⟨S1x8192x5632, .f32⟩
  | .hbm, ⟨4, _⟩ => ⟨S_, .f32⟩
  | .hbm, ⟨5, _⟩ => ⟨S8x5632, .f32⟩
  | .hbm, ⟨6, _⟩ => ⟨S_, .i32⟩
  | .hbm, ⟨7, _⟩ => ⟨S1, .i32⟩
  | .hbm, ⟨8, _⟩ => ⟨S8x5632, .f32⟩
  | .hbm, ⟨9, _⟩ => ⟨S8192x5632, .f32⟩
  | .hbm, ⟨10, _⟩ => ⟨S8192x5632, .bf16⟩
  | .local _ .vmem, ⟨0, _⟩ => ⟨S256x2816, .f32⟩
  | .local _ .vmem, ⟨1, _⟩ => ⟨S256x2816, .f32⟩
  | .local _ .vmem, ⟨2, _⟩ => ⟨S256x2816, .f32⟩
  | .local _ .vmem, ⟨3, _⟩ => ⟨S256x2816, .f32⟩
  | .local _ .vmem, ⟨4, _⟩ => ⟨S8x2816, .f32⟩
  | .local _ .vmem, ⟨5, _⟩ => ⟨S8x2816, .f32⟩
  | .local _ .vmem, ⟨6, _⟩ => ⟨S8x2816, .f32⟩
  | .local _ .vmem, ⟨7, _⟩ => ⟨S8x2816, .f32⟩
  | .local _ .vmem, ⟨8, _⟩ => ⟨S8x2816, .f32⟩
  | .local _ .vmem, ⟨9, _⟩ => ⟨S8x2816, .f32⟩
  | .local _ .vmem, ⟨10, _⟩ => ⟨S8x2816, .f32⟩
  | .local _ .vmem, ⟨11, _⟩ => ⟨S8x2816, .f32⟩
  | .local _ .vmem, ⟨12, _⟩ => ⟨S8x5632, .f32⟩
  | .local _ .vmem, ⟨13, _⟩ => ⟨S256x5632, .bf16⟩
  | .local _ .vmem, ⟨14, _⟩ => ⟨S256x5632, .bf16⟩
  | _, _ => ⟨S1x8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c16_i32_1 : BitVec 32 := 16#32
  let v1 : BitVec 32 := Scalar.muli arg9 c16_i32_1
  v1
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c16_i32_1 : BitVec 32 := 16#32
  let v1 : BitVec 32 := Scalar.muli arg9 c16_i32_1
  let v2 : BitVec 32 := v1
  let v3 : Index := Scalar.indexCast v2
  let c0 : Index := 0#32
  ![v3.toNat, 0]
def k0_mult2 (k0_t1 : Fin k0_t1_loop.trips) : BitVec 32 :=
  let c0_i32 : BitVec 32 := 0#32
  let c1_i32 : BitVec 32 := 1#32
  let arg9 : BitVec 32 := Scf.iv c0_i32 c1_i32 k0_t1
  let c16_i32_1 : BitVec 32 := 16#32
  let v1 : BitVec 32 := Scalar.muli arg9 c16_i32_1
  let v2 : BitVec 32 := v1
  let c8_i32 : BitVec 32 := 8#32
  let v7 : BitVec 32 := Scalar.subi v2 c8_i32
  let c0_i32_2 : BitVec 32 := 0#32
  let v8 : BitVec 32 := Scalar.maxsi v7 c0_i32_2
  v8
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c16_i32_1 : BitVec 32 := 16#32
  let v1 : BitVec 32 := Scalar.muli arg9 c16_i32_1
  let v2 : BitVec 32 := v1
  let c8_i32 : BitVec 32 := 8#32
  let v7 : BitVec 32 := Scalar.subi v2 c8_i32
  let c0_i32_2 : BitVec 32 := 0#32
  let v8 : BitVec 32 := Scalar.maxsi v7 c0_i32_2
  let v9 : BitVec 32 := v8
  let v10 : Index := Scalar.indexCast v9
  let c0_3 : Index := 0#32
  ![v10.toNat, 0]
def k0_mult3 (k0_t1 : Fin k0_t1_loop.trips) : BitVec 32 :=
  let c0_i32 : BitVec 32 := 0#32
  let c1_i32 : BitVec 32 := 1#32
  let arg9 : BitVec 32 := Scf.iv c0_i32 c1_i32 k0_t1
  let c16_i32_1 : BitVec 32 := 16#32
  let v1 : BitVec 32 := Scalar.muli arg9 c16_i32_1
  let v2 : BitVec 32 := v1
  let c16_i32_9 : BitVec 32 := 16#32
  let v22 : BitVec 32 := Scalar.addi v2 c16_i32_9
  let c248_i32 : BitVec 32 := 248#32
  let v23 : BitVec 32 := Scalar.minsi v22 c248_i32
  v23
def k0_off3 (k0_t1 : Fin k0_t1_loop.trips) : Fin 2 → Nat :=
  let c0_i32 : BitVec 32 := 0#32
  let c1_i32 : BitVec 32 := 1#32
  let arg9 : BitVec 32 := Scf.iv c0_i32 c1_i32 k0_t1
  let c16_i32_1 : BitVec 32 := 16#32
  let v1 : BitVec 32 := Scalar.muli arg9 c16_i32_1
  let v2 : BitVec 32 := v1
  let c16_i32_9 : BitVec 32 := 16#32
  let v22 : BitVec 32 := Scalar.addi v2 c16_i32_9
  let c248_i32 : BitVec 32 := 248#32
  let v23 : BitVec 32 := Scalar.minsi v22 c248_i32
  let v24 : BitVec 32 := v23
  let v25 : Index := Scalar.indexCast v24
  let c0_10 : Index := 0#32
  ![v25.toNat, 0]
def k0_mult4 (k0_t1 : Fin k0_t1_loop.trips) : BitVec 32 :=
  let c0_i32 : BitVec 32 := 0#32
  let c1_i32 : BitVec 32 := 1#32
  let arg9 : BitVec 32 := Scf.iv c0_i32 c1_i32 k0_t1
  let c16_i32_1 : BitVec 32 := 16#32
  let v1 : BitVec 32 := Scalar.muli arg9 c16_i32_1
  let v2 : BitVec 32 := v1
  let c8_i32_20 : BitVec 32 := 8#32
  let v55 : BitVec 32 := Scalar.subi v2 c8_i32_20
  let c0_i32_21 : BitVec 32 := 0#32
  let v56 : BitVec 32 := Scalar.maxsi v55 c0_i32_21
  v56
def k0_mult5 (k0_t1 : Fin k0_t1_loop.trips) : BitVec 32 :=
  let c0_i32 : BitVec 32 := 0#32
  let c1_i32 : BitVec 32 := 1#32
  let arg9 : BitVec 32 := Scf.iv c0_i32 c1_i32 k0_t1
  let c16_i32_1 : BitVec 32 := 16#32
  let v1 : BitVec 32 := Scalar.muli arg9 c16_i32_1
  let v2 : BitVec 32 := v1
  let c16_i32_29 : BitVec 32 := 16#32
  let v70 : BitVec 32 := Scalar.addi v2 c16_i32_29
  let c248_i32_30 : BitVec 32 := 248#32
  let v71 : BitVec 32 := Scalar.minsi v70 c248_i32_30
  v71
def k0_off4 (k0_t1 : Fin k0_t1_loop.trips) : Fin 2 → Nat :=
  let c0_i32 : BitVec 32 := 0#32
  let c1_i32 : BitVec 32 := 1#32
  let arg9 : BitVec 32 := Scf.iv c0_i32 c1_i32 k0_t1
  let c16_i32_1 : BitVec 32 := 16#32
  let v1 : BitVec 32 := Scalar.muli arg9 c16_i32_1
  let v2 : BitVec 32 := v1
  let v125 : Index := Scalar.indexCast v2
  let c0_44 : Index := 0#32
  ![v125.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c31_i32 : BitVec 32 := 31#32
  let v1 : BitVec 32 := Scalar.minsi v0 c31_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c31_i32 : BitVec 32 := 31#32
  let v1 : BitVec 32 := Scalar.minsi v0 c31_i32
  let c1_i32 : BitVec 32 := 1#32
  let c0_i32_0 : BitVec 32 := 0#32
  ![v1.toNat, c1_i32.toNat]

def cc0_transform_2 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi v2 c0_i32_0
  let c0_i32_1 : BitVec 32 := 0#32
  let c0_i32_2 : BitVec 32 := 0#32
  ![v3.toNat, c0_i32_1.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let v3 : BitVec 32 := Scalar.addi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi v2 c0_i32_0
  let c1_i32_1 : BitVec 32 := 1#32
  let c0_i32_2 : BitVec 32 := 0#32
  ![v3.toNat, c1_i32_1.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let v3 : BitVec 32 := Scalar.addi v2 c0_i32
  let c1_i32_0 : BitVec 32 := 1#32
  let c0_i32_1 : BitVec 32 := 0#32
  ![v3.toNat, c1_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S1x8192x5632 : Shape := ⟨3, ![1, 8192, 5632]⟩
abbrev S3x5632 : Shape := ⟨2, ![3, 5632]⟩
abbrev S5632 : Shape := ⟨1, ![5632]⟩
abbrev S_ : Shape := ⟨0, ![]⟩
abbrev S1x1x5632 : Shape := ⟨3, ![1, 1, 5632]⟩
abbrev S1x8194x5632 : Shape := ⟨3, ![1, 8194, 5632]⟩
abbrev S1x5632 : Shape := ⟨2, ![1, 5632]⟩
abbrev S8192x5632 : Shape := ⟨2, ![8192, 5632]⟩

abbrev nBuf : Space → Nat
  | .hbm => 88
  | .vmem => 0
  | .smem => 0
  | _ => 0

abbrev bufTy : (tb : Table) → Fin (tcTables nBuf tb) → BufTy
  | .hbm, ⟨0, _⟩ => ⟨S1x8192x5632, .f32⟩
  | .hbm, ⟨1, _⟩ => ⟨S3x5632, .f32⟩
  | .hbm, ⟨2, _⟩ => ⟨S5632, .f32⟩
  | .hbm, ⟨3, _⟩ => ⟨S1x8192x5632, .f32⟩
  | .hbm, ⟨4, _⟩ => ⟨S_, .f32⟩
  | .hbm, ⟨5, _⟩ => ⟨S1x1x5632, .f32⟩
  | .hbm, ⟨6, _⟩ => ⟨S1x8194x5632, .f32⟩
  | .hbm, ⟨7, _⟩ => ⟨S_, .f32⟩
  | .hbm, ⟨8, _⟩ => ⟨S1x1x5632, .f32⟩
  | .hbm, ⟨9, _⟩ => ⟨S_, .f32⟩
  | .hbm, ⟨10, _⟩ => ⟨S1x1x5632, .f32⟩
  | .hbm, ⟨11, _⟩ => ⟨S1x8192x5632, .f32⟩
  | .hbm, ⟨12, _⟩ => ⟨S1x5632, .f32⟩
  | .hbm, ⟨13, _⟩ => ⟨S5632, .f32⟩
  | .hbm, ⟨14, _⟩ => ⟨S1x1x5632, .f32⟩
  | .hbm, ⟨15, _⟩ => ⟨S1x8192x5632, .f32⟩
  | .hbm, ⟨16, _⟩ => ⟨S1x8192x5632, .f32⟩
  | .hbm, ⟨17, _⟩ => ⟨S1x8192x5632, .f32⟩
  | .hbm, ⟨18, _⟩ => ⟨S1x5632, .f32⟩
  | .hbm, ⟨19, _⟩ => ⟨S5632, .f32⟩
  | .hbm, ⟨20, _⟩ => ⟨S1x1x5632, .f32⟩
  | .hbm, ⟨21, _⟩ => ⟨S1x8192x5632, .f32⟩
  | .hbm, ⟨22, _⟩ => ⟨S1x8192x5632, .f32⟩
  | .hbm, ⟨23, _⟩ => ⟨S1x8192x5632, .f32⟩
  | .hbm, ⟨24, _⟩ => ⟨S1x8192x5632, .f32⟩
  | .hbm, ⟨25, _⟩ => ⟨S1x5632, .f32⟩
  | .hbm, ⟨26, _⟩ => ⟨S5632, .f32⟩
  | .hbm, ⟨27, _⟩ => ⟨S1x1x5632, .f32⟩
  | .hbm, ⟨28, _⟩ => ⟨S1x8192x5632, .f32⟩
  | .hbm, ⟨29, _⟩ => ⟨S1x8192x5632, .f32⟩
  | .hbm, ⟨30, _⟩ => ⟨S1x8192x5632, .f32⟩
  | .hbm, ⟨31, _⟩ => ⟨S1x1x5632, .f32⟩
  | .hbm, ⟨32, _⟩ => ⟨S1x8192x5632, .f32⟩
  | .hbm, ⟨33, _⟩ => ⟨S1x8192x5632, .f32⟩
  | .hbm, ⟨34, _⟩ => ⟨S1x8192x5632, .f32⟩
  | .hbm, ⟨35, _⟩ => ⟨S_, .f32⟩
  | .hbm, ⟨36, _⟩ => ⟨S1x5632, .f32⟩
  | .hbm, ⟨37, _⟩ => ⟨S1x1x5632, .f32⟩
  | .hbm, ⟨38, _⟩ => ⟨S_, .f32⟩
  | .hbm, ⟨39, _⟩ => ⟨S5632, .f32⟩
  | .hbm, ⟨40, _⟩ => ⟨S1x8192x5632, .f32⟩
  | .hbm, ⟨41, _⟩ => ⟨S_, .f32⟩
  | .hbm, ⟨42, _⟩ => ⟨S1x5632, .f32⟩
  | .hbm, ⟨43, _⟩ => ⟨S1x1x5632, .f32⟩
  | .hbm, ⟨44, _⟩ => ⟨S1x8192x5632, .f32⟩
  | .hbm, ⟨45, _⟩ => ⟨S1x8192x5632, .f32⟩
  | .hbm, ⟨46, _⟩ => ⟨S_, .f32⟩
  | .hbm, ⟨47, _⟩ => ⟨S5632, .f32⟩
  | .hbm, ⟨48, _⟩ => ⟨S1x5632, .f32⟩
  | .hbm, ⟨49, _⟩ => ⟨S_, .f32⟩
  | .hbm, ⟨50, _⟩ => ⟨S3x5632, .f32⟩
  | .hbm, ⟨51, _⟩ => ⟨S_, .f32⟩
  | .hbm, ⟨52, _⟩ => ⟨S1x8194x5632, .f32⟩
  | .hbm, ⟨53, _⟩ => ⟨S1x8192x5632, .f32⟩
  | .hbm, ⟨54, _⟩ => ⟨S_, .f32⟩
  | .hbm, ⟨55, _⟩ => ⟨S1x5632, .f32⟩
  | .hbm, ⟨56, _⟩ => ⟨S1x1x5632, .f32⟩
  | .hbm, ⟨57, _⟩ => ⟨S1x8192x5632, .f32⟩
  | .hbm, ⟨58, _⟩ => ⟨S1x8192x5632, .f32⟩
  | .hbm, ⟨59, _⟩ => ⟨S_, .f32⟩
  | .hbm, ⟨60, _⟩ => ⟨S5632, .f32⟩
  | .hbm, ⟨61, _⟩ => ⟨S1x5632, .f32⟩
  | .hbm, ⟨62, _⟩ => ⟨S_, .f32⟩
  | .hbm, ⟨63, _⟩ => ⟨S3x5632, .f32⟩
  | .hbm, ⟨64, _⟩ => ⟨S3x5632, .f32⟩
  | .hbm, ⟨65, _⟩ => ⟨S_, .f32⟩
  | .hbm, ⟨66, _⟩ => ⟨S1x8194x5632, .f32⟩
  | .hbm, ⟨67, _⟩ => ⟨S1x8194x5632, .f32⟩
  | .hbm, ⟨68, _⟩ => ⟨S1x8192x5632, .f32⟩
  | .hbm, ⟨69, _⟩ => ⟨S_, .f32⟩
  | .hbm, ⟨70, _⟩ => ⟨S1x5632, .f32⟩
  | .hbm, ⟨71, _⟩ => ⟨S1x1x5632, .f32⟩
  | .hbm, ⟨72, _⟩ => ⟨S1x8192x5632, .f32⟩
  | .hbm, ⟨73, _⟩ => ⟨S1x8192x5632, .f32⟩
  | .hbm, ⟨74, _⟩ => ⟨S_, .f32⟩
  | .hbm, ⟨75, _⟩ => ⟨S5632, .f32⟩
  | .hbm, ⟨76, _⟩ => ⟨S1x5632, .f32⟩
  | .hbm, ⟨77, _⟩ => ⟨S_, .f32⟩
  | .hbm, ⟨78, _⟩ => ⟨S3x5632, .f32⟩
  | .hbm, ⟨79, _⟩ => ⟨S3x5632, .f32⟩
  | .hbm, ⟨80, _⟩ => ⟨S_, .f32⟩
  | .hbm, ⟨81, _⟩ => ⟨S1x8194x5632, .f32⟩
  | .hbm, ⟨82, _⟩ => ⟨S1x8194x5632, .f32⟩
  | .hbm, ⟨83, _⟩ => ⟨S1x1x5632, .f32⟩
  | .hbm, ⟨84, _⟩ => ⟨S1x8192x5632, .f32⟩
  | .hbm, ⟨85, _⟩ => ⟨S1x1x5632, .f32⟩
  | .hbm, ⟨86, _⟩ => ⟨S8192x5632, .f32⟩
  | .hbm, ⟨87, _⟩ => ⟨S8192x5632, .bf16⟩
  | _, _ => ⟨S1x8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_9 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_12 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_13 : Ref sig .tc := ⟨.hbm, 74, rfl⟩
abbrev main_v56 : Ref sig .tc := ⟨.hbm, 75, rfl⟩
abbrev main_v57 : Ref sig .tc := ⟨.hbm, 76, rfl⟩
abbrev main_cst_14 : Ref sig .tc := ⟨.hbm, 77, rfl⟩
abbrev main_v58 : Ref sig .tc := ⟨.hbm, 78, rfl⟩
abbrev main_v59 : Ref sig .tc := ⟨.hbm, 79, rfl⟩
abbrev main_cst_15 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩

abbrev nD : Nat := 1
abbrev τ : Topo := Topo.v7x

variable {F : FTy → Type} [FloatOps F]
-- ==== Kernel8.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x1024, .bf16⟩
  | .hbm, ⟨3, _⟩ => ⟨S1024x5632, .bf16⟩
  | .hbm, ⟨4, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel8Ideal.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x1024, .bf16⟩
  | .hbm, ⟨3, _⟩ => ⟨S1024x5632, .bf16⟩
  | .hbm, ⟨4, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x2816, .bf16⟩
  | .hbm, ⟨3, _⟩ => ⟨S2816x1024, .bf16⟩
  | .hbm, ⟨4, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel9Ideal.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x2816, .bf16⟩
  | .hbm, ⟨3, _⟩ => ⟨S2816x1024, .bf16⟩
  | .hbm, ⟨4, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel10.lean ====
abbrev S8448x1024 : Shape := ⟨2, ![8448, 1024]⟩
abbrev S1024x3456 : Shape := ⟨2, ![1024, 3456]⟩
abbrev S8448x3456 : Shape := ⟨2, ![8448, 3456]⟩
abbrev S1408x1024 : Shape := ⟨2, ![1408, 1024]⟩
abbrev S1024x1152 : Shape := ⟨2, ![1024, 1152]⟩
abbrev S1408x1152 : Shape := ⟨2, ![1408, 1152]⟩

abbrev nBuf : Space → Nat
  | .hbm => 5
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S1024x3456, .f32⟩
  | .hbm, ⟨2, _⟩ => ⟨S8448x1024, .bf16⟩
  | .hbm, ⟨3, _⟩ => ⟨S1024x3456, .bf16⟩
  | .hbm, ⟨4, _⟩ => ⟨S8448x3456, .f32⟩
  | .local _ .vmem, ⟨0, _⟩ => ⟨S1408x1024, .bf16⟩
  | .local _ .vmem, ⟨1, _⟩ => ⟨S1408x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1408x1152, .f32⟩
  | .local _ .vmem, ⟨5, _⟩ => ⟨S1408x1152, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel10Ideal.lean ====
abbrev S8448x1024 : Shape := ⟨2, ![8448, 1024]⟩
abbrev S1024x3456 : Shape := ⟨2, ![1024, 3456]⟩
abbrev S8448x3456 : Shape := ⟨2, ![8448, 3456]⟩
abbrev S1408x1024 : Shape := ⟨2, ![1408, 1024]⟩
abbrev S1024x1152 : Shape := ⟨2, ![1024, 1152]⟩
abbrev S1408x1152 : Shape := ⟨2, ![1408, 1152]⟩

abbrev nBuf : Space → Nat
  | .hbm => 5
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S1024x3456, .f32⟩
  | .hbm, ⟨2, _⟩ => ⟨S8448x1024, .bf16⟩
  | .hbm, ⟨3, _⟩ => ⟨S1024x3456, .bf16⟩
  | .hbm, ⟨4, _⟩ => ⟨S8448x3456, .f32⟩
  | .local _ .vmem, ⟨0, _⟩ => ⟨S1408x1024, .bf16⟩
  | .local _ .vmem, ⟨1, _⟩ => ⟨S1408x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1408x1152, .f32⟩
  | .local _ .vmem, ⟨5, _⟩ => ⟨S1408x1152, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8448x1024 : Shape := ⟨2, ![8448, 1024]⟩
abbrev S1024x3456 : Shape := ⟨2, ![1024, 3456]⟩
abbrev S8448x3456 : Shape := ⟨2, ![8448, 3456]⟩

abbrev nBuf : Space → Nat
  | .hbm => 3
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x3456, .f32⟩
  | .hbm, ⟨2, _⟩ => ⟨S8448x3456, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel11.lean ====
abbrev S8448x1024 : Shape := ⟨2, ![8448, 1024]⟩
abbrev S1024x3456 : Shape := ⟨2, ![1024, 3456]⟩
abbrev S8448x3456 : Shape := ⟨2, ![8448, 3456]⟩
abbrev S768x3456 : Shape := ⟨2, ![768, 3456]⟩
abbrev S768x1024 : Shape := ⟨2, ![768, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8448x1024, .f32⟩
  | .hbm, ⟨1, _⟩ => ⟨S1024x3456, .f32⟩
  | .hbm, ⟨2, _⟩ => ⟨S8448x3456, .f32⟩
  | .hbm, ⟨3, _⟩ => ⟨S8448x3456, .bf16⟩
  | .hbm, ⟨4, _⟩ => ⟨S1024x3456, .bf16⟩
  | .hbm, ⟨5, _⟩ => ⟨S8448x1024, .f32⟩
  | .local _ .vmem, ⟨0, _⟩ => ⟨S768x3456, .bf16⟩
  | .local _ .vmem, ⟨1, _⟩ => ⟨S768x3456, .bf16⟩
  | .local _ .vmem, ⟨2, _⟩ => ⟨S1024x3456, .bf16⟩
  | .local _ .vmem, ⟨3, _⟩ => ⟨S768x1024, .f32⟩
  | .local _ .vmem, ⟨4, _⟩ => ⟨S768x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x3456 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3456 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel11Ideal.lean ====
abbrev S8448x1024 : Shape := ⟨2, ![8448, 1024]⟩
abbrev S1024x3456 : Shape := ⟨2, ![1024, 3456]⟩
abbrev S8448x3456 : Shape := ⟨2, ![8448, 3456]⟩
abbrev S768x3456 : Shape := ⟨2, ![768, 3456]⟩
abbrev S768x1024 : Shape := ⟨2, ![768, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8448x1024, .f32⟩
  | .hbm, ⟨1, _⟩ => ⟨S1024x3456, .f32⟩
  | .hbm, ⟨2, _⟩ => ⟨S8448x3456, .f32⟩
  | .hbm, ⟨3, _⟩ => ⟨S8448x3456, .bf16⟩
  | .hbm, ⟨4, _⟩ => ⟨S1024x3456, .bf16⟩
  | .hbm, ⟨5, _⟩ => ⟨S8448x1024, .f32⟩
  | .local _ .vmem, ⟨0, _⟩ => ⟨S768x3456, .bf16⟩
  | .local _ .vmem, ⟨1, _⟩ => ⟨S768x3456, .bf16⟩
  | .local _ .vmem, ⟨2, _⟩ => ⟨S1024x3456, .bf16⟩
  | .local _ .vmem, ⟨3, _⟩ => ⟨S768x1024, .f32⟩
  | .local _ .vmem, ⟨4, _⟩ => ⟨S768x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x3456 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3456 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8448x1024 : Shape := ⟨2, ![8448, 1024]⟩
abbrev S1024x3456 : Shape := ⟨2, ![1024, 3456]⟩
abbrev S8448x3456 : Shape := ⟨2, ![8448, 3456]⟩
abbrev S3456x1024 : Shape := ⟨2, ![3456, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x3456, .f32⟩
  | .hbm, ⟨2, _⟩ => ⟨S8448x3456, .f32⟩
  | .hbm, ⟨3, _⟩ => ⟨S8448x3456, .f32⟩
  | .hbm, ⟨4, _⟩ => ⟨S3456x1024, .f32⟩
  | .hbm, ⟨5, _⟩ => ⟨S1024x3456, .f32⟩
  | .hbm, ⟨6, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S8448x1024 : Shape := ⟨2, ![8448, 1024]⟩
abbrev S1024x3456 : Shape := ⟨2, ![1024, 3456]⟩
abbrev S8448x3456 : Shape := ⟨2, ![8448, 3456]⟩
abbrev S2816x1024 : Shape := ⟨2, ![2816, 1024]⟩
abbrev S2816x1152 : Shape := ⟨2, ![2816, 1152]⟩
abbrev S1024x1152 : Shape := ⟨2, ![1024, 1152]⟩

abbrev nBuf : Space → Nat
  | .hbm => 6
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S1024x3456, .f32⟩
  | .hbm, ⟨2, _⟩ => ⟨S8448x3456, .f32⟩
  | .hbm, ⟨3, _⟩ => ⟨S8448x1024, .bf16⟩
  | .hbm, ⟨4, _⟩ => ⟨S8448x3456, .bf16⟩
  | .hbm, ⟨5, _⟩ => ⟨S1024x3456, .f32⟩
  | .local _ .vmem, ⟨0, _⟩ => ⟨S2816x1024, .bf16⟩
  | .local _ .vmem, ⟨1, _⟩ => ⟨S2816x1024, .bf16⟩
  | .local _ .vmem, ⟨2, _⟩ => ⟨S2816x1152, .bf16⟩
  | .local _ .vmem, ⟨3, _⟩ => ⟨S2816x1152, .bf16⟩
  | .local _ .vmem, ⟨4, _⟩ => ⟨S1024x1152, .f32⟩
  | .local _ .vmem, ⟨5, _⟩ => ⟨S1024x1152, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 3], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel12Ideal.lean ====
abbrev S8448x1024 : Shape := ⟨2, ![8448, 1024]⟩
abbrev S1024x3456 : Shape := ⟨2, ![1024, 3456]⟩
abbrev S8448x3456 : Shape := ⟨2, ![8448, 3456]⟩
abbrev S2816x1024 : Shape := ⟨2, ![2816, 1024]⟩
abbrev S2816x1152 : Shape := ⟨2, ![2816, 1152]⟩
abbrev S1024x1152 : Shape := ⟨2, ![1024, 1152]⟩

abbrev nBuf : Space → Nat
  | .hbm => 6
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S1024x3456, .f32⟩
  | .hbm, ⟨2, _⟩ => ⟨S8448x3456, .f32⟩
  | .hbm, ⟨3, _⟩ => ⟨S8448x1024, .bf16⟩
  | .hbm, ⟨4, _⟩ => ⟨S8448x3456, .bf16⟩
  | .hbm, ⟨5, _⟩ => ⟨S1024x3456, .f32⟩
  | .local _ .vmem, ⟨0, _⟩ => ⟨S2816x1024, .bf16⟩
  | .local _ .vmem, ⟨1, _⟩ => ⟨S2816x1024, .bf16⟩
  | .local _ .vmem, ⟨2, _⟩ => ⟨S2816x1152, .bf16⟩
  | .local _ .vmem, ⟨3, _⟩ => ⟨S2816x1152, .bf16⟩
  | .local _ .vmem, ⟨4, _⟩ => ⟨S1024x1152, .f32⟩
  | .local _ .vmem, ⟨5, _⟩ => ⟨S1024x1152, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 3], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8448x1024 : Shape := ⟨2, ![8448, 1024]⟩
abbrev S1024x3456 : Shape := ⟨2, ![1024, 3456]⟩
abbrev S8448x3456 : Shape := ⟨2, ![8448, 3456]⟩
abbrev S3456x1024 : Shape := ⟨2, ![3456, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x3456, .f32⟩
  | .hbm, ⟨2, _⟩ => ⟨S8448x3456, .f32⟩
  | .hbm, ⟨3, _⟩ => ⟨S8448x3456, .f32⟩
  | .hbm, ⟨4, _⟩ => ⟨S3456x1024, .f32⟩
  | .hbm, ⟨5, _⟩ => ⟨S1024x3456, .f32⟩
  | .hbm, ⟨6, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel13Ideal.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel14.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel14Ideal.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S8192x512 : Shape := ⟨2, ![8192, 512]⟩
abbrev S512x2048 : Shape := ⟨2, ![512, 2048]⟩
abbrev S8192x2048 : Shape := ⟨2, ![8192, 2048]⟩
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x512, .bf16⟩
  | .hbm, ⟨3, _⟩ => ⟨S512x2048, .bf16⟩
  | .hbm, ⟨4, _⟩ => ⟨S8192x2048, .f32⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .f32⟩
  | .local _ .vmem, ⟨5, _⟩ => ⟨S2048x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel16Ideal.lean ====
abbrev S8192x512 : Shape := ⟨2, ![8192, 512]⟩
abbrev S512x2048 : Shape := ⟨2, ![512, 2048]⟩
abbrev S8192x2048 : Shape := ⟨2, ![8192, 2048]⟩
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x512, .bf16⟩
  | .hbm, ⟨3, _⟩ => ⟨S512x2048, .bf16⟩
  | .hbm, ⟨4, _⟩ => ⟨S8192x2048, .f32⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .f32⟩
  | .local _ .vmem, ⟨5, _⟩ => ⟨S2048x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x512 : Shape := ⟨2, ![8192, 512]⟩
abbrev S512x2048 : Shape := ⟨2, ![512, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x2048, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel17.lean ====
abbrev S8192x512 : Shape := ⟨2, ![8192, 512]⟩
abbrev S512x2048 : Shape := ⟨2, ![512, 2048]⟩
abbrev S8192x2048 : Shape := ⟨2, ![8192, 2048]⟩
abbrev S2048x2048 : Shape := ⟨2, ![2048, 2048]⟩
abbrev S2048x512 : Shape := ⟨2, ![2048, 512]⟩

abbrev nBuf : Space → Nat
  | .hbm => 6
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x2048, .f32⟩
  | .hbm, ⟨3, _⟩ => ⟨S8192x2048, .bf16⟩
  | .hbm, ⟨4, _⟩ => ⟨S512x2048, .bf16⟩
  | .hbm, ⟨5, _⟩ => ⟨S8192x512, .f32⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S2048x512, .f32⟩
  | .local _ .vmem, ⟨4, _⟩ => ⟨S2048x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel17Ideal.lean ====
abbrev S8192x512 : Shape := ⟨2, ![8192, 512]⟩
abbrev S512x2048 : Shape := ⟨2, ![512, 2048]⟩
abbrev S8192x2048 : Shape := ⟨2, ![8192, 2048]⟩
abbrev S2048x2048 : Shape := ⟨2, ![2048, 2048]⟩
abbrev S2048x512 : Shape := ⟨2, ![2048, 512]⟩

abbrev nBuf : Space → Nat
  | .hbm => 6
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x2048, .f32⟩
  | .hbm, ⟨3, _⟩ => ⟨S8192x2048, .bf16⟩
  | .hbm, ⟨4, _⟩ => ⟨S512x2048, .bf16⟩
  | .hbm, ⟨5, _⟩ => ⟨S8192x512, .f32⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S2048x512, .f32⟩
  | .local _ .vmem, ⟨4, _⟩ => ⟨S2048x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x512 : Shape := ⟨2, ![8192, 512]⟩
abbrev S512x2048 : Shape := ⟨2, ![512, 2048]⟩
abbrev S8192x2048 : Shape := ⟨2, ![8192, 2048]⟩
abbrev S2048x512 : Shape := ⟨2, ![2048, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x2048, .f32⟩
  | .hbm, ⟨3, _⟩ => ⟨S8192x2048, .f32⟩
  | .hbm, ⟨4, _⟩ => ⟨S2048x512, .f32⟩
  | .hbm, ⟨5, _⟩ => ⟨S512x2048, .f32⟩
  | .hbm, ⟨6, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel18.lean ====
abbrev S8192x512 : Shape := ⟨2, ![8192, 512]⟩
abbrev S512x2048 : Shape := ⟨2, ![512, 2048]⟩
abbrev S8192x2048 : Shape := ⟨2, ![8192, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x2048, .f32⟩
  | .hbm, ⟨3, _⟩ => ⟨S8192x512, .bf16⟩
  | .hbm, ⟨4, _⟩ => ⟨S8192x2048, .bf16⟩
  | .hbm, ⟨5, _⟩ => ⟨S512x2048, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel18Ideal.lean ====
abbrev S8192x512 : Shape := ⟨2, ![8192, 512]⟩
abbrev S512x2048 : Shape := ⟨2, ![512, 2048]⟩
abbrev S8192x2048 : Shape := ⟨2, ![8192, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x2048, .f32⟩
  | .hbm, ⟨3, _⟩ => ⟨S8192x512, .bf16⟩
  | .hbm, ⟨4, _⟩ => ⟨S8192x2048, .bf16⟩
  | .hbm, ⟨5, _⟩ => ⟨S512x2048, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x512 : Shape := ⟨2, ![8192, 512]⟩
abbrev S512x2048 : Shape := ⟨2, ![512, 2048]⟩
abbrev S8192x2048 : Shape := ⟨2, ![8192, 2048]⟩
abbrev S2048x512 : Shape := ⟨2, ![2048, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S8192x2048, .f32⟩
  | .hbm, ⟨3, _⟩ => ⟨S8192x2048, .f32⟩
  | .hbm, ⟨4, _⟩ => ⟨S2048x512, .f32⟩
  | .hbm, ⟨5, _⟩ => ⟨S512x2048, .f32⟩
  | .hbm, ⟨6, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel19.lean ====
abbrev S8192x384 : Shape := ⟨2, ![8192, 384]⟩
abbrev S384x1024 : Shape := ⟨2, ![384, 1024]⟩
abbrev S8192x1024 : Shape := ⟨2, ![8192, 1024]⟩
abbrev S2048x384 : Shape := ⟨2, ![2048, 384]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x384, .f32⟩
  | .hbm, ⟨1, _⟩ => ⟨S384x1024, .f32⟩
  | .hbm, ⟨2, _⟩ => ⟨S8192x384, .bf16⟩
  | .hbm, ⟨3, _⟩ => ⟨S384x1024, .bf16⟩
  | .hbm, ⟨4, _⟩ => ⟨S8192x1024, .f32⟩
  | .local _ .vmem, ⟨0, _⟩ => ⟨S2048x384, .bf16⟩
  | .local _ .vmem, ⟨1, _⟩ => ⟨S2048x384, .bf16⟩
  | .local _ .vmem, ⟨2, _⟩ => ⟨S384x1024, .bf16⟩
  | .local _ .vmem, ⟨3, _⟩ => ⟨S2048x1024, .f32⟩
  | .local _ .vmem, ⟨4, _⟩ => ⟨S2048x1024, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel19Ideal.lean ====
abbrev S8192x384 : Shape := ⟨2, ![8192, 384]⟩
abbrev S384x1024 : Shape := ⟨2, ![384, 1024]⟩
abbrev S8192x1024 : Shape := ⟨2, ![8192, 1024]⟩
abbrev S2048x384 : Shape := ⟨2, ![2048, 384]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x384, .f32⟩
  | .hbm, ⟨1, _⟩ => ⟨S384x1024, .f32⟩
  | .hbm, ⟨2, _⟩ => ⟨S8192x384, .bf16⟩
  | .hbm, ⟨3, _⟩ => ⟨S384x1024, .bf16⟩
  | .hbm, ⟨4, _⟩ => ⟨S8192x1024, .f32⟩
  | .local _ .vmem, ⟨0, _⟩ => ⟨S2048x384, .bf16⟩
  | .local _ .vmem, ⟨1, _⟩ => ⟨S2048x384, .bf16⟩
  | .local _ .vmem, ⟨2, _⟩ => ⟨S384x1024, .bf16⟩
  | .local _ .vmem, ⟨3, _⟩ => ⟨S2048x1024, .f32⟩
  | .local _ .vmem, ⟨4, _⟩ => ⟨S2048x1024, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x384 : Shape := ⟨2, ![8192, 384]⟩
abbrev S384x1024 : Shape := ⟨2, ![384, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S384x1024, .f32⟩
  | .hbm, ⟨2, _⟩ => ⟨S8192x1024, .f32⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel20.lean ====
abbrev S8192x384 : Shape := ⟨2, ![8192, 384]⟩
abbrev S384x1024 : Shape := ⟨2, ![384, 1024]⟩
abbrev S8192x1024 : Shape := ⟨2, ![8192, 1024]⟩
abbrev S2048x1024 : Shape := ⟨2, ![2048, 1024]⟩
abbrev S2048x384 : Shape := ⟨2, ![2048, 384]⟩

abbrev nBuf : Space → Nat
  | .hbm => 6
  | .vmem => 5
  | .smem => 0
  | _ => 0

abbrev bufTy : (tb : Table) → Fin (tcTables nBuf tb) → BufTy
  | .hbm, ⟨0, _⟩ => ⟨S8192x384, .f32⟩
  | .hbm, ⟨1, _⟩ => ⟨S384x1024, .f32⟩
  | .hbm, ⟨2, _⟩ => ⟨S8192x1024, .f32⟩
  | .hbm, ⟨3, _⟩ => ⟨S8192x1024, .bf16⟩
  | .hbm, ⟨4, _⟩ => ⟨S384x1024, .bf16⟩
  | .hbm, ⟨5, _⟩ => ⟨S8192x384, .f32⟩
  | .local _ .vmem, ⟨0, _⟩ => ⟨S2048x1024, .bf16⟩
  | .local _ .vmem, ⟨1, _⟩ => ⟨S2048x1024, .bf16⟩
  | .local _ .vmem, ⟨2, _⟩ => ⟨S384x1024, .bf16⟩
  | .local _ .vmem, ⟨3, _⟩ => ⟨S2048x384, .f32⟩
  | .local _ .vmem, ⟨4, _⟩ => ⟨S2048x384, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel20Ideal.lean ====
abbrev S8192x384 : Shape := ⟨2, ![8192, 384]⟩
abbrev S384x1024 : Shape := ⟨2, ![384, 1024]⟩
abbrev S8192x1024 : Shape := ⟨2, ![8192, 1024]⟩
abbrev S2048x1024 : Shape := ⟨2, ![2048, 1024]⟩
abbrev S2048x384 : Shape := ⟨2, ![2048, 384]⟩

abbrev nBuf : Space → Nat
  | .hbm => 6
  | .vmem => 5
  | .smem => 0
  | _ => 0

abbrev bufTy : (tb : Table) → Fin (tcTables nBuf tb) → BufTy
  | .hbm, ⟨0, _⟩ => ⟨S8192x384, .f32⟩
  | .hbm, ⟨1, _⟩ => ⟨S384x1024, .f32⟩
  | .hbm, ⟨2, _⟩ => ⟨S8192x1024, .f32⟩
  | .hbm, ⟨3, _⟩ => ⟨S8192x1024, .bf16⟩
  | .hbm, ⟨4, _⟩ => ⟨S384x1024, .bf16⟩
  | .hbm, ⟨5, _⟩ => ⟨S8192x384, .f32⟩
  | .local _ .vmem, ⟨0, _⟩ => ⟨S2048x1024, .bf16⟩
  | .local _ .vmem, ⟨1, _⟩ => ⟨S2048x1024, .bf16⟩
  | .local _ .vmem, ⟨2, _⟩ => ⟨S384x1024, .bf16⟩
  | .local _ .vmem, ⟨3, _⟩ => ⟨S2048x384, .f32⟩
  | .local _ .vmem, ⟨4, _⟩ => ⟨S2048x384, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x384 : Shape := ⟨2, ![8192, 384]⟩
abbrev S384x1024 : Shape := ⟨2, ![384, 1024]⟩
abbrev S8192x1024 : Shape := ⟨2, ![8192, 1024]⟩
abbrev S1024x384 : Shape := ⟨2, ![1024, 384]⟩

abbrev nBuf : Space → Nat
  | .hbm => 7
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S384x1024, .f32⟩
  | .hbm, ⟨2, _⟩ => ⟨S8192x1024, .f32⟩
  | .hbm, ⟨3, _⟩ => ⟨S8192x1024, .f32⟩
  | .hbm, ⟨4, _⟩ => ⟨S1024x384, .f32⟩
  | .hbm, ⟨5, _⟩ => ⟨S384x1024, .f32⟩
  | .hbm, ⟨6, _⟩ => ⟨S8192x384, .f32⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel21.lean ====
abbrev S8192x384 : Shape := ⟨2, ![8192, 384]⟩
abbrev S384x1024 : Shape := ⟨2, ![384, 1024]⟩
abbrev S8192x1024 : Shape := ⟨2, ![8192, 1024]⟩
abbrev S2048x384 : Shape := ⟨2, ![2048, 384]⟩
abbrev S2048x1024 : Shape := ⟨2, ![2048, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x384, .f32⟩
  | .hbm, ⟨1, _⟩ => ⟨S384x1024, .f32⟩
  | .hbm, ⟨2, _⟩ => ⟨S8192x1024, .f32⟩
  | .hbm, ⟨3, _⟩ => ⟨S8192x384, .bf16⟩
  | .hbm, ⟨4, _⟩ => ⟨S8192x1024, .bf16⟩
  | .hbm, ⟨5, _⟩ => ⟨S384x1024, .f32⟩
  | .local _ .vmem, ⟨0, _⟩ => ⟨S2048x384, .bf16⟩
  | .local _ .vmem, ⟨1, _⟩ => ⟨S2048x384, .bf16⟩
  | .local _ .vmem, ⟨2, _⟩ => ⟨S2048x1024, .bf16⟩
  | .local _ .vmem, ⟨3, _⟩ => ⟨S2048x1024, .bf16⟩
  | .local _ .vmem, ⟨4, _⟩ => ⟨S384x1024, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel21Ideal.lean ====
abbrev S8192x384 : Shape := ⟨2, ![8192, 384]⟩
abbrev S384x1024 : Shape := ⟨2, ![384, 1024]⟩
abbrev S8192x1024 : Shape := ⟨2, ![8192, 1024]⟩
abbrev S2048x384 : Shape := ⟨2, ![2048, 384]⟩
abbrev S2048x1024 : Shape := ⟨2, ![2048, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x384, .f32⟩
  | .hbm, ⟨1, _⟩ => ⟨S384x1024, .f32⟩
  | .hbm, ⟨2, _⟩ => ⟨S8192x1024, .f32⟩
  | .hbm, ⟨3, _⟩ => ⟨S8192x384, .bf16⟩
  | .hbm, ⟨4, _⟩ => ⟨S8192x1024, .bf16⟩
  | .hbm, ⟨5, _⟩ => ⟨S384x1024, .f32⟩
  | .local _ .vmem, ⟨0, _⟩ => ⟨S2048x384, .bf16⟩
  | .local _ .vmem, ⟨1, _⟩ => ⟨S2048x384, .bf16⟩
  | .local _ .vmem, ⟨2, _⟩ => ⟨S2048x1024, .bf16⟩
  | .local _ .vmem, ⟨3, _⟩ => ⟨S2048x1024, .bf16⟩
  | .local _ .vmem, ⟨4, _⟩ => ⟨S384x1024, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference21Ideal.lean ====
abbrev S8192x384 : Shape := ⟨2, ![8192, 384]⟩
abbrev S384x1024 : Shape := ⟨2, ![384, 1024]⟩
abbrev S8192x1024 : Shape := ⟨2, ![8192, 1024]⟩
abbrev S1024x384 : Shape := ⟨2, ![1024, 384]⟩

abbrev nBuf : Space → Nat
  | .hbm => 7
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S384x1024, .f32⟩
  | .hbm, ⟨2, _⟩ => ⟨S8192x1024, .f32⟩
  | .hbm, ⟨3, _⟩ => ⟨S8192x1024, .f32⟩
  | .hbm, ⟨4, _⟩ => ⟨S1024x384, .f32⟩
  | .hbm, ⟨5, _⟩ => ⟨S384x1024, .f32⟩
  | .hbm, ⟨6, _⟩ => ⟨S8192x384, .f32⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel22.lean ====
abbrev S8448x256 : Shape := ⟨2, ![8448, 256]⟩
abbrev S256x2048 : Shape := ⟨2, ![256, 2048]⟩
abbrev S8448x2048 : Shape := ⟨2, ![8448, 2048]⟩
abbrev S1408x256 : Shape := ⟨2, ![1408, 256]⟩
abbrev S256x1024 : Shape := ⟨2, ![256, 1024]⟩
abbrev S1408x1024 : Shape := ⟨2, ![1408, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8448x256, .f32⟩
  | .hbm, ⟨1, _⟩ => ⟨S256x2048, .f32⟩
  | .hbm, ⟨2, _⟩ => ⟨S8448x256, .bf16⟩
  | .hbm, ⟨3, _⟩ => ⟨S256x2048, .bf16⟩
  | .hbm, ⟨4, _⟩ => ⟨S8448x2048, .f32⟩
  | .local _ .vmem, ⟨0, _⟩ => ⟨S1408x256, .bf16⟩
  | .local _ .vmem, ⟨1, _⟩ => ⟨S1408x256, .bf16⟩
  | .local _ .vmem, ⟨2, _⟩ => ⟨S256x1024, .bf16⟩
  | .local _ .vmem, ⟨3, _⟩ => ⟨S256x1024, .bf16⟩
  | .local _ .vmem, ⟨4, _⟩ => ⟨S1408x1024, .f32⟩
  | .local _ .vmem, ⟨5, _⟩ => ⟨S1408x1024, .f32⟩
  | _, _ => ⟨S8448x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel22Ideal.lean ====
abbrev S8448x256 : Shape := ⟨2, ![8448, 256]⟩
abbrev S256x2048 : Shape := ⟨2, ![256, 2048]⟩
abbrev S8448x2048 : Shape := ⟨2, ![8448, 2048]⟩
abbrev S1408x256 : Shape := ⟨2, ![1408, 256]⟩
abbrev S256x1024 : Shape := ⟨2, ![256, 1024]⟩
abbrev S1408x1024 : Shape := ⟨2, ![1408, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8448x256, .f32⟩
  | .hbm, ⟨1, _⟩ => ⟨S256x2048, .f32⟩
  | .hbm, ⟨2, _⟩ => ⟨S8448x256, .bf16⟩
  | .hbm, ⟨3, _⟩ => ⟨S256x2048, .bf16⟩
  | .hbm, ⟨4, _⟩ => ⟨S8448x2048, .f32⟩
  | .local _ .vmem, ⟨0, _⟩ => ⟨S1408x256, .bf16⟩
  | .local _ .vmem, ⟨1, _⟩ => ⟨S1408x256, .bf16⟩
  | .local _ .vmem, ⟨2, _⟩ => ⟨S256x1024, .bf16⟩
  | .local _ .vmem, ⟨3, _⟩ => ⟨S256x1024, .bf16⟩
  | .local _ .vmem, ⟨4, _⟩ => ⟨S1408x1024, .f32⟩
  | .local _ .vmem, ⟨5, _⟩ => ⟨S1408x1024, .f32⟩
  | _, _ => ⟨S8448x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S8448x256 : Shape := ⟨2, ![8448, 256]⟩
abbrev S256x2048 : Shape := ⟨2, ![256, 2048]⟩
abbrev S8448x2048 : Shape := ⟨2, ![8448, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8448x256, .f32⟩
  | .hbm, ⟨1, _⟩ => ⟨S256x2048, .f32⟩
  | .hbm, ⟨2, _⟩ => ⟨S8448x2048, .f32⟩
  | _, _ => ⟨S8448x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel23.lean ====
abbrev S8448x256 : Shape := ⟨2, ![8448, 256]⟩
abbrev S256x2048 : Shape := ⟨2, ![256, 2048]⟩
abbrev S8448x2048 : Shape := ⟨2, ![8448, 2048]⟩
abbrev S1408x2048 : Shape := ⟨2, ![1408, 2048]⟩
abbrev S1408x256 : Shape := ⟨2, ![1408, 256]⟩

abbrev nBuf : Space → Nat
  | .hbm => 6
  | .vmem => 5
  | .smem => 0
  | _ => 0

abbrev bufTy : (tb : Table) → Fin (tcTables nBuf tb) → BufTy
  | .hbm, ⟨0, _⟩ => ⟨S8448x256, .f32⟩
  | .hbm, ⟨1, _⟩ => ⟨S256x2048, .f32⟩
  | .hbm, ⟨2, _⟩ => ⟨S8448x2048, .f32⟩
  | .hbm, ⟨3, _⟩ => ⟨S8448x2048, .bf16⟩
  | .hbm, ⟨4, _⟩ => ⟨S256x2048, .bf16⟩
  | .hbm, ⟨5, _⟩ => ⟨S8448x256, .f32⟩
  | .local _ .vmem, ⟨0, _⟩ => ⟨S1408x2048, .bf16⟩
  | .local _ .vmem, ⟨1, _⟩ => ⟨S1408x2048, .bf16⟩
  | .local _ .vmem, ⟨2, _⟩ => ⟨S256x2048, .bf16⟩
  | .local _ .vmem, ⟨3, _⟩ => ⟨S1408x256, .f32⟩
  | .local _ .vmem, ⟨4, _⟩ => ⟨S1408x256, .f32⟩
  | _, _ => ⟨S8448x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel23Ideal.lean ====
abbrev S8448x256 : Shape := ⟨2, ![8448, 256]⟩
abbrev S256x2048 : Shape := ⟨2, ![256, 2048]⟩
abbrev S8448x2048 : Shape := ⟨2, ![8448, 2048]⟩
abbrev S1408x2048 : Shape := ⟨2, ![1408, 2048]⟩
abbrev S1408x256 : Shape := ⟨2, ![1408, 256]⟩

abbrev nBuf : Space → Nat
  | .hbm => 6
  | .vmem => 5
  | .smem => 0
  | _ => 0

abbrev bufTy : (tb : Table) → Fin (tcTables nBuf tb) → BufTy
  | .hbm, ⟨0, _⟩ => ⟨S8448x256, .f32⟩
  | .hbm, ⟨1, _⟩ => ⟨S256x2048, .f32⟩
  | .hbm, ⟨2, _⟩ => ⟨S8448x2048, .f32⟩
  | .hbm, ⟨3, _⟩ => ⟨S8448x2048, .bf16⟩
  | .hbm, ⟨4, _⟩ => ⟨S256x2048, .bf16⟩
  | .hbm, ⟨5, _⟩ => ⟨S8448x256, .f32⟩
  | .local _ .vmem, ⟨0, _⟩ => ⟨S1408x2048, .bf16⟩
  | .local _ .vmem, ⟨1, _⟩ => ⟨S1408x2048, .bf16⟩
  | .local _ .vmem, ⟨2, _⟩ => ⟨S256x2048, .bf16⟩
  | .local _ .vmem, ⟨3, _⟩ => ⟨S1408x256, .f32⟩
  | .local _ .vmem, ⟨4, _⟩ => ⟨S1408x256, .f32⟩
  | _, _ => ⟨S8448x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S8448x256 : Shape := ⟨2, ![8448, 256]⟩
abbrev S256x2048 : Shape := ⟨2, ![256, 2048]⟩
abbrev S8448x2048 : Shape := ⟨2, ![8448, 2048]⟩
abbrev S2048x256 : Shape := ⟨2, ![2048, 256]⟩

abbrev nBuf : Space → Nat
  | .hbm => 7
  | .vmem => 0
  | .smem => 0
  | _ => 0

abbrev bufTy : (tb : Table) → Fin (tcTables nBuf tb) → BufTy
  | .hbm, ⟨0, _⟩ => ⟨S8448x256, .f32⟩
  | .hbm, ⟨1, _⟩ => ⟨S256x2048, .f32⟩
  | .hbm, ⟨2, _⟩ => ⟨S8448x2048, .f32⟩
  | .hbm, ⟨3, _⟩ => ⟨S8448x2048, .f32⟩
  | .hbm, ⟨4, _⟩ => ⟨S2048x256, .f32⟩
  | .hbm, ⟨5, _⟩ => ⟨S256x2048, .f32⟩
  | .hbm, ⟨6, _⟩ => ⟨S8448x256, .f32⟩
  | _, _ => ⟨S8448x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel24.lean ====
abbrev S8448x256 : Shape := ⟨2, ![8448, 256]⟩
abbrev S256x2048 : Shape := ⟨2, ![256, 2048]⟩
abbrev S8448x2048 : Shape := ⟨2, ![8448, 2048]⟩
abbrev S2816x256 : Shape := ⟨2, ![2816, 256]⟩
abbrev S2816x1024 : Shape := ⟨2, ![2816, 1024]⟩
abbrev S256x1024 : Shape := ⟨2, ![256, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8448x256, .f32⟩
  | .hbm, ⟨1, _⟩ => ⟨S256x2048, .f32⟩
  | .hbm, ⟨2, _⟩ => ⟨S8448x2048, .f32⟩
  | .hbm, ⟨3, _⟩ => ⟨S8448x256, .bf16⟩
  | .hbm, ⟨4, _⟩ => ⟨S8448x2048, .bf16⟩
  | .hbm, ⟨5, _⟩ => ⟨S256x2048, .f32⟩
  | .local _ .vmem, ⟨0, _⟩ => ⟨S2816x256, .bf16⟩
  | .local _ .vmem, ⟨1, _⟩ => ⟨S2816x256, .bf16⟩
  | .local _ .vmem, ⟨2, _⟩ => ⟨S2816x1024, .bf16⟩
  | .local _ .vmem, ⟨3, _⟩ => ⟨S2816x1024, .bf16⟩
  | .local _ .vmem, ⟨4, _⟩ => ⟨S256x1024, .f32⟩
  | .local _ .vmem, ⟨5, _⟩ => ⟨S256x1024, .f32⟩
  | _, _ => ⟨S8448x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 3], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel24Ideal.lean ====
abbrev S8448x256 : Shape := ⟨2, ![8448, 256]⟩
abbrev S256x2048 : Shape := ⟨2, ![256, 2048]⟩
abbrev S8448x2048 : Shape := ⟨2, ![8448, 2048]⟩
abbrev S2816x256 : Shape := ⟨2, ![2816, 256]⟩
abbrev S2816x1024 : Shape := ⟨2, ![2816, 1024]⟩
abbrev S256x1024 : Shape := ⟨2, ![256, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8448x256, .f32⟩
  | .hbm, ⟨1, _⟩ => ⟨S256x2048, .f32⟩
  | .hbm, ⟨2, _⟩ => ⟨S8448x2048, .f32⟩
  | .hbm, ⟨3, _⟩ => ⟨S8448x256, .bf16⟩
  | .hbm, ⟨4, _⟩ => ⟨S8448x2048, .bf16⟩
  | .hbm, ⟨5, _⟩ => ⟨S256x2048, .f32⟩
  | .local _ .vmem, ⟨0, _⟩ => ⟨S2816x256, .bf16⟩
  | .local _ .vmem, ⟨1, _⟩ => ⟨S2816x256, .bf16⟩
  | .local _ .vmem, ⟨2, _⟩ => ⟨S2816x1024, .bf16⟩
  | .local _ .vmem, ⟨3, _⟩ => ⟨S2816x1024, .bf16⟩
  | .local _ .vmem, ⟨4, _⟩ => ⟨S256x1024, .f32⟩
  | .local _ .vmem, ⟨5, _⟩ => ⟨S256x1024, .f32⟩
  | _, _ => ⟨S8448x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 3], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S8448x256 : Shape := ⟨2, ![8448, 256]⟩
abbrev S256x2048 : Shape := ⟨2, ![256, 2048]⟩
abbrev S8448x2048 : Shape := ⟨2, ![8448, 2048]⟩
abbrev S2048x256 : Shape := ⟨2, ![2048, 256]⟩

abbrev nBuf : Space → Nat
  | .hbm => 7
  | .vmem => 0
  | .smem => 0
  | _ => 0

abbrev bufTy : (tb : Table) → Fin (tcTables nBuf tb) → BufTy
  | .hbm, ⟨0, _⟩ => ⟨S8448x256, .f32⟩
  | .hbm, ⟨1, _⟩ => ⟨S256x2048, .f32⟩
  | .hbm, ⟨2, _⟩ => ⟨S8448x2048, .f32⟩
  | .hbm, ⟨3, _⟩ => ⟨S8448x2048, .f32⟩
  | .hbm, ⟨4, _⟩ => ⟨S2048x256, .f32⟩
  | .hbm, ⟨5, _⟩ => ⟨S256x2048, .f32⟩
  | .hbm, ⟨6, _⟩ => ⟨S8448x256, .f32⟩
  | _, _ => ⟨S8448x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel25.lean ====
abbrev S1x8192x5632 : Shape := ⟨3, ![1, 8192, 5632]⟩
abbrev S3x5632 : Shape := ⟨2, ![3, 5632]⟩
abbrev S5632 : Shape := ⟨1, ![5632]⟩
abbrev S_ : Shape := ⟨0, ![]⟩
abbrev S8x5632 : Shape := ⟨2, ![8, 5632]⟩
abbrev S1 : Shape := ⟨1, ![1]⟩
abbrev S8192x5632 : Shape := ⟨2, ![8192, 5632]⟩
abbrev S1x5632 : Shape := ⟨2, ![1, 5632]⟩
abbrev S8192x2816 : Shape := ⟨2, ![8192, 2816]⟩
abbrev S256x2816 : Shape := ⟨2, ![256, 2816]⟩
abbrev S8x2816 : Shape := ⟨2, ![8, 2816]⟩
abbrev S32x2816 : Shape := ⟨2, ![32, 2816]⟩
abbrev S1x2816 : Shape := ⟨2, ![1, 2816]⟩

abbrev nBuf : Space → Nat
  | .hbm => 11
  | .vmem => 16
  | .smem => 0
  | _ => 0

abbrev bufTy : (tb : Table) → Fin (tcTables nBuf tb) → BufTy
  | .hbm, ⟨0, _⟩ => ⟨S1x8192x5632, .f32⟩
  | .hbm, ⟨1, _⟩ => ⟨S3x5632, .f32⟩
  | .hbm, ⟨2, _⟩ => ⟨S5632, .f32⟩
  | .hbm, ⟨3, _⟩ => ⟨S_, .f32⟩
  | .hbm, ⟨4, _⟩ => ⟨S8x5632, .f32⟩
  | .hbm, ⟨5, _⟩ => ⟨S_, .i32⟩
  | .hbm, ⟨6, _⟩ => ⟨S1, .i32⟩
  | .hbm, ⟨7, _⟩ => ⟨S8x5632, .f32⟩
  | .hbm, ⟨8, _⟩ => ⟨S8192x5632, .f32⟩
  | .hbm, ⟨9, _⟩ => ⟨S1x5632, .f32⟩
  | .hbm, ⟨10, _⟩ => ⟨S8192x2816, .bf16⟩
  | .local _ .vmem, ⟨0, _⟩ => ⟨S256x2816, .f32⟩
  | .local _ .vmem, ⟨1, _⟩ => ⟨S256x2816, .f32⟩
  | .local _ .vmem, ⟨2, _⟩ => ⟨S256x2816, .f32⟩
  | .local _ .vmem, ⟨3, _⟩ => ⟨S256x2816, .f32⟩
  | .local _ .vmem, ⟨4, _⟩ => ⟨S8x2816, .f32⟩
  | .local _ .vmem, ⟨5, _⟩ => ⟨S8x2816, .f32⟩
  | .local _ .vmem, ⟨6, _⟩ => ⟨S8x2816, .f32⟩
  | .local _ .vmem, ⟨7, _⟩ => ⟨S8x2816, .f32⟩
  | .local _ .vmem, ⟨8, _⟩ => ⟨S8x2816, .f32⟩
  | .local _ .vmem, ⟨9, _⟩ => ⟨S8x2816, .f32⟩
  | .local _ .vmem, ⟨10, _⟩ => ⟨S8x2816, .f32⟩
  | .local _ .vmem, ⟨11, _⟩ => ⟨S8x2816, .f32⟩
  | .local _ .vmem, ⟨12, _⟩ => ⟨S8x5632, .f32⟩
  | .local _ .vmem, ⟨13, _⟩ => ⟨S1x5632, .f32⟩
  | .local _ .vmem, ⟨14, _⟩ => ⟨S256x2816, .bf16⟩
  | .local _ .vmem, ⟨15, _⟩ => ⟨S256x2816, .bf16⟩
  | _, _ => ⟨S1x8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  v1
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let v3 : Index := Scalar.indexCast v2
  let c0 : Index := 0#32
  ![v3.toNat, 0]
def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let c8_i32_1 : BitVec 32 := 8#32
  let v7 : BitVec 32 := Scalar.subi v2 c8_i32_1
  let c0_i32_2 : BitVec 32 := 0#32
  let v8 : BitVec 32 := Scalar.maxsi v7 c0_i32_2
  v8
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let c8_i32_1 : BitVec 32 := 8#32
  let v7 : BitVec 32 := Scalar.subi v2 c8_i32_1
  let c0_i32_2 : BitVec 32 := 0#32
  let v8 : BitVec 32 := Scalar.maxsi v7 c0_i32_2
  let v9 : BitVec 32 := v8
  let v10 : Index := Scalar.indexCast v9
  let c0_3 : Index := 0#32
  ![v10.toNat, 0]
def k0_mult3 (k0_t1 : Fin k0_t1_loop.trips) : BitVec 32 :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let c32_i32_9 : BitVec 32 := 32#32
  let v22 : BitVec 32 := Scalar.addi v2 c32_i32_9
  let c248_i32 : BitVec 32 := 248#32
  let v23 : BitVec 32 := Scalar.minsi v22 c248_i32
  v23
def k0_off3 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let c32_i32_9 : BitVec 32 := 32#32
  let v22 : BitVec 32 := Scalar.addi v2 c32_i32_9
  let c248_i32 : BitVec 32 := 248#32
  let v23 : BitVec 32 := Scalar.minsi v22 c248_i32
  let v24 : BitVec 32 := v23
  let v25 : Index := Scalar.indexCast v24
  let c0_10 : Index := 0#32
  ![v25.toNat, 0]
def k0_mult4 (k0_t1 : Fin k0_t1_loop.trips) : BitVec 32 :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let c8_i32_20 : BitVec 32 := 8#32
  let v55 : BitVec 32 := Scalar.subi v2 c8_i32_20
  let c0_i32_21 : BitVec 32 := 0#32
  let v56 : BitVec 32 := Scalar.maxsi v55 c0_i32_21
  v56
def k0_mult5 (k0_t1 : Fin k0_t1_loop.trips) : BitVec 32 :=
  let c0_i32 : BitVec 32 := 0#32
  let c1_i32 : BitVec 32 := 1#32
  let arg10 : BitVec 32 := Scf.iv c0_i32 c1_i32 k0_t1
  let c32_i32 : BitVec 32 := 32#32
  let v1 : BitVec 32 := Scalar.muli arg10 c32_i32
  let v2 : BitVec 32 := v1
  let c32_i32_29 : BitVec 32 := 32#32
  let v70 : BitVec 32 := Scalar.addi v2 c32_i32_29
  let c248_i32_30 : BitVec 32 := 248#32
  let v71 : BitVec 32 := Scalar.minsi v70 c248_i32_30
  v71
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c31_i32 : BitVec 32 := 31#32
  let v1 : BitVec 32 := Scalar.minsi v0 c31_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c31_i32 : BitVec 32 := 31#32
  let v1 : BitVec 32 := Scalar.minsi v0 c31_i32
  let c1_i32 : BitVec 32 := 1#32
  let c0_i32_0 : BitVec 32 := 0#32
  ![v1.toNat, c1_i32.toNat]

def cc0_transform_2 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi v2 c0_i32_0
  let c0_i32_1 : BitVec 32 := 0#32
  let c0_i32_2 : BitVec 32 := 0#32
  ![v3.toNat, c0_i32_1.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let v3 : BitVec 32 := Scalar.addi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi v2 c0_i32_0
  let c1_i32_1 : BitVec 32 := 1#32
  let c0_i32_2 : BitVec 32 := 0#32
  ![v3.toNat, c1_i32_1.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let v3 : BitVec 32 := Scalar.addi v2 c0_i32
  let c1_i32_0 : BitVec 32 := 1#32
  let c0_i32_1 : BitVec 32 := 0#32
  ![v3.toNat, c1_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference25Ideal.lean ====
abbrev S1x8192x5632 : Shape := ⟨3, ![1, 8192, 5632]⟩
abbrev S3x5632 : Shape := ⟨2, ![3, 5632]⟩
abbrev S5632 : Shape := ⟨1, ![5632]⟩
abbrev S_ : Shape := ⟨0, ![]⟩
abbrev S1x8194x5632 : Shape := ⟨3, ![1, 8194, 5632]⟩
abbrev S1x5632 : Shape := ⟨2, ![1, 5632]⟩
abbrev S1x1x5632 : Shape := ⟨3, ![1, 1, 5632]⟩
abbrev S1x8192x2816 : Shape := ⟨3, ![1, 8192, 2816]⟩
abbrev S8192x2816 : Shape := ⟨2, ![8192, 2816]⟩

abbrev nBuf : Space → Nat
  | .hbm => 43
  | .vmem => 0
  | .smem => 0
  | _ => 0

abbrev bufTy : (tb : Table) → Fin (tcTables nBuf tb) → BufTy
  | .hbm, ⟨0, _⟩ => ⟨S1x8192x5632, .f32⟩
  | .hbm, ⟨1, _⟩ => ⟨S3x5632, .f32⟩
  | .hbm, ⟨2, _⟩ => ⟨S5632, .f32⟩
  | .hbm, ⟨3, _⟩ => ⟨S_, .i32⟩
  | .hbm, ⟨4, _⟩ => ⟨S_, .f32⟩
  | .hbm, ⟨5, _⟩ => ⟨S1x8194x5632, .f32⟩
  | .hbm, ⟨6, _⟩ => ⟨S1x8192x5632, .f32⟩
  | .hbm, ⟨7, _⟩ => ⟨S1x5632, .f32⟩
  | .hbm, ⟨8, _⟩ => ⟨S5632, .f32⟩
  | .hbm, ⟨9, _⟩ => ⟨S1x1x5632, .f32⟩
  | .hbm, ⟨10, _⟩ => ⟨S1x8192x5632, .f32⟩
  | .hbm, ⟨11, _⟩ => ⟨S1x8192x5632, .f32⟩
  | .hbm, ⟨12, _⟩ => ⟨S1x8192x5632, .f32⟩
  | .hbm, ⟨13, _⟩ => ⟨S1x5632, .f32⟩
  | .hbm, ⟨14, _⟩ => ⟨S5632, .f32⟩
  | .hbm, ⟨15, _⟩ => ⟨S1x1x5632, .f32⟩
  | .hbm, ⟨16, _⟩ => ⟨S1x8192x5632, .f32⟩
  | .hbm, ⟨17, _⟩ => ⟨S1x8192x5632, .f32⟩
  | .hbm, ⟨18, _⟩ => ⟨S1x8192x5632, .f32⟩
  | .hbm, ⟨19, _⟩ => ⟨S1x8192x5632, .f32⟩
  | .hbm, ⟨20, _⟩ => ⟨S1x5632, .f32⟩
  | .hbm, ⟨21, _⟩ => ⟨S5632, .f32⟩
  | .hbm, ⟨22, _⟩ => ⟨S1x1x5632, .f32⟩
  | .hbm, ⟨23, _⟩ => ⟨S1x8192x5632, .f32⟩
  | .hbm, ⟨24, _⟩ => ⟨S1x8192x5632, .f32⟩
  | .hbm, ⟨25, _⟩ => ⟨S1x8192x5632, .f32⟩
  | .hbm, ⟨26, _⟩ => ⟨S1x1x5632, .f32⟩
  | .hbm, ⟨27, _⟩ => ⟨S1x8192x5632, .f32⟩
  | .hbm, ⟨28, _⟩ => ⟨S1x8192x5632, .f32⟩
  | .hbm, ⟨29, _⟩ => ⟨S1x8192x2816, .f32⟩
  | .hbm, ⟨30, _⟩ => ⟨S1x8192x2816, .f32⟩
  | .hbm, ⟨31, _⟩ => ⟨S1x8192x2816, .f32⟩
  | .hbm, ⟨32, _⟩ => ⟨S1x8192x2816, .f32⟩
  | .hbm, ⟨33, _⟩ => ⟨S_, .f32⟩
  | .hbm, ⟨34, _⟩ => ⟨S1x8192x2816, .f32⟩
  | .hbm, ⟨35, _⟩ => ⟨S1x8192x2816, .f32⟩
  | .hbm, ⟨36, _⟩ => ⟨S_, .f32⟩
  | .hbm, ⟨37, _⟩ => ⟨S1x8192x2816, .f32⟩
  | .hbm, ⟨38, _⟩ => ⟨S1x8192x2816, .f32⟩
  | .hbm, ⟨39, _⟩ => ⟨S1x8192x2816, .f32⟩
  | .hbm, ⟨40, _⟩ => ⟨S1x8192x2816, .f32⟩
  | .hbm, ⟨41, _⟩ => ⟨S8192x2816, .f32⟩
  | .hbm, ⟨42, _⟩ => ⟨S8192x2816, .bf16⟩
  | _, _ => ⟨S1x8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_call1_v5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Kernel26.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel26Ideal.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel27.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel27Ideal.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel28.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference28Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel29.lean ====
abbrev S8448x3456 : Shape := ⟨2, ![8448, 3456]⟩
abbrev S8192x1024 : Shape := ⟨2, ![8192, 1024]⟩
abbrev S8192x2048 : Shape := ⟨2, ![8192, 2048]⟩
abbrev S256x1024 : Shape := ⟨2, ![256, 1024]⟩
abbrev S256x2048 : Shape := ⟨2, ![256, 2048]⟩
abbrev S64x1024 : Shape := ⟨2, ![64, 1024]⟩
abbrev S64x2048 : Shape := ⟨2, ![64, 2048]⟩

abbrev nBuf : Space → Nat
  | .hbm => 7
  | .vmem => 18
  | .smem => 0
  | _ => 0

abbrev bufTy : (tb : Table) → Fin (tcTables nBuf tb) → BufTy
  | .hbm, ⟨0, _⟩ => ⟨S8448x3456, .f32⟩
  | .hbm, ⟨1, _⟩ => ⟨S8192x1024, .f32⟩
  | .hbm, ⟨2, _⟩ => ⟨S8192x2048, .f32⟩
  | .hbm, ⟨3, _⟩ => ⟨S8192x1024, .f32⟩
  | .hbm, ⟨4, _⟩ => ⟨S8192x1024, .bf16⟩
  | .hbm, ⟨5, _⟩ => ⟨S8192x2048, .bf16⟩
  | .hbm, ⟨6, _⟩ => ⟨S8192x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | _, _ => ⟨S8448x3456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c64_i32 : BitVec 32 := 64#32
  let v1 : BitVec 32 := Scalar.muli arg10 c64_i32
  v1
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c64_i32 : BitVec 32 := 64#32
  let v1 : BitVec 32 := Scalar.muli arg10 c64_i32
  let v2 : BitVec 32 := v1
  let v3 : Index := Scalar.indexCast v2
  let c0 : Index := 0#32
  ![v3.toNat, 0]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c64_i32 : BitVec 32 := 64#32
  let v1 : BitVec 32 := Scalar.muli arg10 c64_i32
  let v2 : BitVec 32 := v1
  let v61 : Index := Scalar.indexCast v2
  let c0_18 : Index := 0#32
  ![v61.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c32_i32 : BitVec 32 := 32#32
  let v1 : BitVec 32 := Scalar.minsi v0 c32_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c32_i32 : BitVec 32 := 32#32
  let v1 : BitVec 32 := Scalar.minsi v0 c32_i32
  let c1_i32 : BitVec 32 := 1#32
  let c0_i32_0 : BitVec 32 := 0#32
  ![v1.toNat, c1_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c31_i32 : BitVec 32 := 31#32
  let v1 : BitVec 32 := Scalar.minsi v0 c31_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c31_i32 : BitVec 32 := 31#32
  let v1 : BitVec 32 := Scalar.minsi v0 c31_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c31_i32 : BitVec 32 := 31#32
  let v1 : BitVec 32 := Scalar.minsi v0 c31_i32
  let c1_i32 : BitVec 32 := 1#32
  let c0_i32_0 : BitVec 32 := 0#32
  ![v1.toNat, c1_i32.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c31_i32 : BitVec 32 := 31#32
  let v1 : BitVec 32 := Scalar.minsi v0 c31_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference29Ideal.lean ====
abbrev S8448x3456 : Shape := ⟨2, ![8448, 3456]⟩
abbrev S8192x1024 : Shape := ⟨2, ![8192, 1024]⟩
abbrev S8192x2048 : Shape := ⟨2, ![8192, 2048]⟩
abbrev S_ : Shape := ⟨0, ![]⟩

abbrev nBuf : Space → Nat
  | .hbm => 65
  | .vmem => 0
  | .smem => 0
  | _ => 0

abbrev bufTy : (tb : Table) → Fin (tcTables nBuf tb) → BufTy
  | .hbm, ⟨0, _⟩ => ⟨S8448x3456, .f32⟩
  | .hbm, ⟨1, _⟩ => ⟨S8192x1024, .f32⟩
  | .hbm, ⟨2, _⟩ => ⟨S8192x2048, .f32⟩
  | .hbm, ⟨3, _⟩ => ⟨S8192x1024, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x2048, .f32⟩
  | .hbm, ⟨61, _⟩ => ⟨S8192x2048, .f32⟩
  | .hbm, ⟨62, _⟩ => ⟨S8192x1024, .bf16⟩
  | .hbm, ⟨63, _⟩ => ⟨S8192x2048, .bf16⟩
  | .hbm, ⟨64, _⟩ => ⟨S8192x2048, .bf16⟩
  | _, _ => ⟨S8448x3456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩

abbrev nD : Nat := 1
abbrev τ : Topo := Topo.v7x

variable {F : FTy → Type} [FloatOps F]
-- ==== Kernel30.lean ====
abbrev S8448x3456 : Shape := ⟨2, ![8448, 3456]⟩
abbrev S8192x1024 : Shape := ⟨2, ![8192, 1024]⟩
abbrev S8192x2048 : Shape := ⟨2, ![8192, 2048]⟩
abbrev S256x1024 : Shape := ⟨2, ![256, 1024]⟩
abbrev S128x1024 : Shape := ⟨2, ![128, 1024]⟩

abbrev nBuf : Space → Nat
  | .hbm => 4
  | .vmem => 12
  | .smem => 0
  | _ => 0

abbrev bufTy : (tb : Table) → Fin (tcTables nBuf tb) → BufTy
  | .hbm, ⟨0, _⟩ => ⟨S8448x3456, .f32⟩
  | .hbm, ⟨1, _⟩ => ⟨S8192x1024, .f32⟩
  | .hbm, ⟨2, _⟩ => ⟨S8192x2048, .f32⟩
  | .hbm, ⟨3, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | _, _ => ⟨S8448x3456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c2_i32 : BitVec 32 := 2#32
  let v0 : BitVec 32 := Scalar.addi c0_i32 c2_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c128_i32 : BitVec 32 := 128#32
  let v1 : BitVec 32 := Scalar.muli arg7 c128_i32
  v1
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v1 : BitVec 32 := Scalar.muli arg7 c128_i32
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c32_i32 : BitVec 32 := 32#32
  let v1 : BitVec 32 := Scalar.minsi v0 c32_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c32_i32 : BitVec 32 := 32#32
  let v1 : BitVec 32 := Scalar.minsi v0 c32_i32
  let c1_i32 : BitVec 32 := 1#32
  let c0_i32_0 : BitVec 32 := 0#32
  ![v1.toNat, c1_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c31_i32 : BitVec 32 := 31#32
  let v1 : BitVec 32 := Scalar.minsi v0 c31_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c31_i32 : BitVec 32 := 31#32
  let v1 : BitVec 32 := Scalar.minsi v0 c31_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c31_i32 : BitVec 32 := 31#32
  let v1 : BitVec 32 := Scalar.minsi v0 c31_i32
  let c1_i32 : BitVec 32 := 1#32
  let c0_i32_0 : BitVec 32 := 0#32
  ![v1.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference30Ideal.lean ====
abbrev S8448x3456 : Shape := ⟨2, ![8448, 3456]⟩
abbrev S8192x1024 : Shape := ⟨2, ![8192, 1024]⟩
abbrev S8192x2048 : Shape := ⟨2, ![8192, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8448x3456, .f32⟩
  | .hbm, ⟨1, _⟩ => ⟨S8192x1024, .f32⟩
  | .hbm, ⟨2, _⟩ => ⟨S8192x2048, .f32⟩
  | .hbm, ⟨3, _⟩ => ⟨S8192x2048, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .bf16⟩
  | _, _ => ⟨S8448x3456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Kernel31.lean ====
abbrev S8448x1024 : Shape := ⟨2, ![8448, 1024]⟩
abbrev S8192x1024 : Shape := ⟨2, ![8192, 1024]⟩
abbrev S1x6144 : Shape := ⟨2, ![1, 6144]⟩
abbrev S1x1024 : Shape := ⟨2, ![1, 1024]⟩
abbrev S256x1024 : Shape := ⟨2, ![256, 1024]⟩
abbrev S128x1024 : Shape := ⟨2, ![128, 1024]⟩
abbrev S128 : Shape := ⟨1, ![128]⟩
abbrev S128x1 : Shape := ⟨2, ![128, 1]⟩

abbrev nBuf : Space → Nat
  | .hbm => 6
  | .vmem => 10
  | .smem => 0
  | _ => 0

abbrev bufTy : (tb : Table) → Fin (tcTables nBuf tb) → BufTy
  | .hbm, ⟨0, _⟩ => ⟨S8448x1024, .f32⟩
  | .hbm, ⟨1, _⟩ => ⟨S8192x1024, .f32⟩
  | .hbm, ⟨2, _⟩ => ⟨S1x6144, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x6144, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c2_i32 : BitVec 32 := 2#32
  let v0 : BitVec 32 := Scalar.addi c0_i32 c2_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c128_i32 : BitVec 32 := 128#32
  let v1 : BitVec 32 := Scalar.muli arg7 c128_i32
  v1
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v1 : BitVec 32 := Scalar.muli arg7 c128_i32
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c32_i32 : BitVec 32 := 32#32
  let v1 : BitVec 32 := Scalar.minsi v0 c32_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c31_i32 : BitVec 32 := 31#32
  let v1 : BitVec 32 := Scalar.minsi v0 c31_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference31Ideal.lean ====
abbrev S8448x1024 : Shape := ⟨2, ![8448, 1024]⟩
abbrev S8192x1024 : Shape := ⟨2, ![8192, 1024]⟩
abbrev S1x6144 : Shape := ⟨2, ![1, 6144]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 39
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8192x1024, .f32⟩
  | .hbm, ⟨2, _⟩ => ⟨S1x6144, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Kernel32.lean ====
abbrev S8448x3456 : Shape := ⟨2, ![8448, 3456]⟩
abbrev S8448x512 : Shape := ⟨2, ![8448, 512]⟩
abbrev S1x512 : Shape := ⟨2, ![1, 512]⟩
abbrev S8192x512 : Shape := ⟨2, ![8192, 512]⟩
abbrev S256x512 : Shape := ⟨2, ![256, 512]⟩

abbrev nBuf : Space → Nat
  | .hbm => 6
  | .vmem => 11
  | .smem => 0
  | _ => 0

abbrev bufTy : (tb : Table) → Fin (tcTables nBuf tb) → BufTy
  | .hbm, ⟨0, _⟩ => ⟨S8448x3456, .f32⟩
  | .hbm, ⟨1, _⟩ => ⟨S8448x512, .f32⟩
  | .hbm, ⟨2, _⟩ => ⟨S8448x512, .f32⟩
  | .hbm, ⟨3, _⟩ => ⟨S1x512, .f32⟩
  | .hbm, ⟨4, _⟩ => ⟨S8192x512, .f32⟩
  | .hbm, ⟨5, _⟩ => ⟨S8192x512, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x512, .f32⟩
  | .local _ .vmem, ⟨7, _⟩ => ⟨S256x512, .f32⟩
  | .local _ .vmem, ⟨8, _⟩ => ⟨S256x512, .f32⟩
  | .local _ .vmem, ⟨9, _⟩ => ⟨S256x512, .bf16⟩
  | .local _ .vmem, ⟨10, _⟩ => ⟨S256x512, .bf16⟩
  | _, _ => ⟨S8448x3456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c256_i32 : BitVec 32 := 256#32
  let v0 : BitVec 32 := Scalar.muli c0_i32 c256_i32
  v0
def k0_off1 : Fin 2 → Nat :=
  let c0_i32 : BitVec 32 := 0#32
  let c256_i32 : BitVec 32 := 256#32
  let v0 : BitVec 32 := Scalar.muli c0_i32 c256_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c32_i32 : BitVec 32 := 32#32
  let v1 : BitVec 32 := Scalar.minsi v0 c32_i32
  let c4_i32 : BitVec 32 := 4#32
  let c0_i32_0 : BitVec 32 := 0#32
  ![v1.toNat, c4_i32.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c32_i32 : BitVec 32 := 32#32
  let v1 : BitVec 32 := Scalar.minsi v0 c32_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c32_i32 : BitVec 32 := 32#32
  let v1 : BitVec 32 := Scalar.minsi v0 c32_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference32Ideal.lean ====
abbrev S8448x3456 : Shape := ⟨2, ![8448, 3456]⟩
abbrev S8448x512 : Shape := ⟨2, ![8448, 512]⟩
abbrev S1x512 : Shape := ⟨2, ![1, 512]⟩
abbrev S8192x512 : Shape := ⟨2, ![8192, 512]⟩
abbrev S512 : Shape := ⟨1, ![512]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8448x3456, .f32⟩
  | .hbm, ⟨1, _⟩ => ⟨S8448x512, .f32⟩
  | .hbm, ⟨2, _⟩ => ⟨S8448x512, .f32⟩
  | .hbm, ⟨3, _⟩ => ⟨S1x512, .f32⟩
  | .hbm, ⟨4, _⟩ => ⟨S8192x512, .f32⟩
  | .hbm, ⟨5, _⟩ => ⟨S512, .f32⟩
  | .hbm, ⟨6, _⟩ => ⟨S1x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S_, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .bf16⟩
  | _, _ => ⟨S8448x3456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel33.lean ====
abbrev S1024x1408 : Shape := ⟨2, ![1024, 1408]⟩
abbrev S128x1408 : Shape := ⟨2, ![128, 1408]⟩
abbrev S64x1408 : Shape := ⟨2, ![64, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c2_i32 : BitVec 32 := 2#32
  let v0 : BitVec 32 := Scalar.addi c0_i32 c2_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c64_i32 : BitVec 32 := 64#32
  let v1 : BitVec 32 := Scalar.muli arg8 c64_i32
  v1
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c64_i32 : BitVec 32 := 64#32
  let v1 : BitVec 32 := Scalar.muli arg8 c64_i32
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c7_i32 : BitVec 32 := 7#32
  let v1 : BitVec 32 := Scalar.minsi v0 c7_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c7_i32 : BitVec 32 := 7#32
  let v1 : BitVec 32 := Scalar.minsi v0 c7_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c7_i32 : BitVec 32 := 7#32
  let v1 : BitVec 32 := Scalar.minsi v0 c7_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c7_i32 : BitVec 32 := 7#32
  let v1 : BitVec 32 := Scalar.minsi v0 c7_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel33Ideal.lean ====
abbrev S1024x1408 : Shape := ⟨2, ![1024, 1408]⟩
abbrev S128x1408 : Shape := ⟨2, ![128, 1408]⟩
abbrev S64x1408 : Shape := ⟨2, ![64, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "unbias_m" => some (((5463681 * 8388608⁻¹)⁻¹ : ℝ) : EReal)
  | "unbias_v" => some (((2672307 * 268435456⁻¹)⁻¹ : ℝ) : EReal)
  | _ => none

abbrev grid0 : Pipeline.Grid := ⟨1, ![8], ![false]⟩

@[reducible] def k0_t1_loop : Scf.Loop 32 :=
  let c0_i32 : BitVec 32 := 0#32
  let c2_i32 : BitVec 32 := 2#32
  let v0 : BitVec 32 := Scalar.addi c0_i32 c2_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c64_i32 : BitVec 32 := 64#32
  let v1 : BitVec 32 := Scalar.muli arg8 c64_i32
  v1
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c64_i32 : BitVec 32 := 64#32
  let v1 : BitVec 32 := Scalar.muli arg8 c64_i32
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c7_i32 : BitVec 32 := 7#32
  let v1 : BitVec 32 := Scalar.minsi v0 c7_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c7_i32 : BitVec 32 := 7#32
  let v1 : BitVec 32 := Scalar.minsi v0 c7_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c7_i32 : BitVec 32 := 7#32
  let v1 : BitVec 32 := Scalar.minsi v0 c7_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c7_i32 : BitVec 32 := 7#32
  let v1 : BitVec 32 := Scalar.minsi v0 c7_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference33Ideal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel34.lean ====
abbrev S704x1024 : Shape := ⟨2, ![704, 1024]⟩
abbrev S64x1024 : Shape := ⟨2, ![64, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def k0_mult1 : BitVec 32 :=
  let c0_i32 : BitVec 32 := 0#32
  let c64_i32 : BitVec 32 := 64#32
  let v0 : BitVec 32 := Scalar.muli c0_i32 c64_i32
  v0
def k0_off1 : Fin 2 → Nat :=
  let c0_i32 : BitVec 32 := 0#32
  let c64_i32 : BitVec 32 := 64#32
  let v0 : BitVec 32 := Scalar.muli c0_i32 c64_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c10_i32 : BitVec 32 := 10#32
  let v1 : BitVec 32 := Scalar.minsi v0 c10_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c10_i32 : BitVec 32 := 10#32
  let v1 : BitVec 32 := Scalar.minsi v0 c10_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c10_i32 : BitVec 32 := 10#32
  let v1 : BitVec 32 := Scalar.minsi v0 c10_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c10_i32 : BitVec 32 := 10#32
  let v1 : BitVec 32 := Scalar.minsi v0 c10_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel34Ideal.lean ====
abbrev S704x1024 : Shape := ⟨2, ![704, 1024]⟩
abbrev S64x1024 : Shape := ⟨2, ![64, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "unbias_m" => some (((5463681 * 8388608⁻¹)⁻¹ : ℝ) : EReal)
  | "unbias_v" => some (((2672307 * 268435456⁻¹)⁻¹ : ℝ) : EReal)
  | _ => none

abbrev grid0 : Pipeline.Grid := ⟨1, ![11], ![false]⟩

def k0_mult1 : BitVec 32 :=
  let c0_i32 : BitVec 32 := 0#32
  let c64_i32 : BitVec 32 := 64#32
  let v0 : BitVec 32 := Scalar.muli c0_i32 c64_i32
  v0
def k0_off1 : Fin 2 → Nat :=
  let c0_i32 : BitVec 32 := 0#32
  let c64_i32 : BitVec 32 := 64#32
  let v0 : BitVec 32 := Scalar.muli c0_i32 c64_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c10_i32 : BitVec 32 := 10#32
  let v1 : BitVec 32 := Scalar.minsi v0 c10_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c10_i32 : BitVec 32 := 10#32
  let v1 : BitVec 32 := Scalar.minsi v0 c10_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c10_i32 : BitVec 32 := 10#32
  let v1 : BitVec 32 := Scalar.minsi v0 c10_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c10_i32 : BitVec 32 := 10#32
  let v1 : BitVec 32 := Scalar.minsi v0 c10_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference34Ideal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel35.lean ====
abbrev S1024x808 : Shape := ⟨2, ![1024, 808]⟩
abbrev S256x808 : Shape := ⟨2, ![256, 808]⟩
abbrev S128x808 : Shape := ⟨2, ![128, 808]⟩

abbrev nBuf : Space → Nat
  | .hbm => 7
  | .vmem => 14
  | .smem => 0
  | _ => 0

abbrev bufTy : (tb : Table) → Fin (tcTables nBuf tb) → BufTy
  | .hbm, ⟨0, _⟩ => ⟨S1024x808, .f32⟩
  | .hbm, ⟨1, _⟩ => ⟨S1024x808, .f32⟩
  | .hbm, ⟨2, _⟩ => ⟨S1024x808, .f32⟩
  | .hbm, ⟨3, _⟩ => ⟨S1024x808, .f32⟩
  | .hbm, ⟨4, _⟩ => ⟨S1024x808, .f32⟩
  | .hbm, ⟨5, _⟩ => ⟨S1024x808, .f32⟩
  | .hbm, ⟨6, _⟩ => ⟨S1024x808, .f32⟩
  | .local _ .vmem, ⟨0, _⟩ => ⟨S256x808, .f32⟩
  | .local _ .vmem, ⟨1, _⟩ => ⟨S256x808, .f32⟩
  | .local _ .vmem, ⟨2, _⟩ => ⟨S256x808, .f32⟩
  | .local _ .vmem, ⟨3, _⟩ => ⟨S256x808, .f32⟩
  | .local _ .vmem, ⟨4, _⟩ => ⟨S256x808, .f32⟩
  | .local _ .vmem, ⟨5, _⟩ => ⟨S256x808, .f32⟩
  | .local _ .vmem, ⟨6, _⟩ => ⟨S256x808, .f32⟩
  | .local _ .vmem, ⟨7, _⟩ => ⟨S256x808, .f32⟩
  | .local _ .vmem, ⟨8, _⟩ => ⟨S256x808, .f32⟩
  | .local _ .vmem, ⟨9, _⟩ => ⟨S256x808, .f32⟩
  | .local _ .vmem, ⟨10, _⟩ => ⟨S256x808, .f32⟩
  | .local _ .vmem, ⟨11, _⟩ => ⟨S256x808, .f32⟩
  | .local _ .vmem, ⟨12, _⟩ => ⟨S256x808, .f32⟩
  | .local _ .vmem, ⟨13, _⟩ => ⟨S256x808, .f32⟩
  | _, _ => ⟨S1024x808, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c2_i32 : BitVec 32 := 2#32
  let v0 : BitVec 32 := Scalar.addi c0_i32 c2_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  v1
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c3_i32 : BitVec 32 := 3#32
  let v1 : BitVec 32 := Scalar.minsi v0 c3_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c3_i32 : BitVec 32 := 3#32
  let v1 : BitVec 32 := Scalar.minsi v0 c3_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c3_i32 : BitVec 32 := 3#32
  let v1 : BitVec 32 := Scalar.minsi v0 c3_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c3_i32 : BitVec 32 := 3#32
  let v1 : BitVec 32 := Scalar.minsi v0 c3_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x808 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x808 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x808 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x808 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x808 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x808 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x808 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel35Ideal.lean ====
abbrev S1024x808 : Shape := ⟨2, ![1024, 808]⟩
abbrev S256x808 : Shape := ⟨2, ![256, 808]⟩
abbrev S128x808 : Shape := ⟨2, ![128, 808]⟩

abbrev nBuf : Space → Nat
  | .hbm => 7
  | .vmem => 14
  | .smem => 0
  | _ => 0

abbrev bufTy : (tb : Table) → Fin (tcTables nBuf tb) → BufTy
  | .hbm, ⟨0, _⟩ => ⟨S1024x808, .f32⟩
  | .hbm, ⟨1, _⟩ => ⟨S1024x808, .f32⟩
  | .hbm, ⟨2, _⟩ => ⟨S1024x808, .f32⟩
  | .hbm, ⟨3, _⟩ => ⟨S1024x808, .f32⟩
  | .hbm, ⟨4, _⟩ => ⟨S1024x808, .f32⟩
  | .hbm, ⟨5, _⟩ => ⟨S1024x808, .f32⟩
  | .hbm, ⟨6, _⟩ => ⟨S1024x808, .f32⟩
  | .local _ .vmem, ⟨0, _⟩ => ⟨S256x808, .f32⟩
  | .local _ .vmem, ⟨1, _⟩ => ⟨S256x808, .f32⟩
  | .local _ .vmem, ⟨2, _⟩ => ⟨S256x808, .f32⟩
  | .local _ .vmem, ⟨3, _⟩ => ⟨S256x808, .f32⟩
  | .local _ .vmem, ⟨4, _⟩ => ⟨S256x808, .f32⟩
  | .local _ .vmem, ⟨5, _⟩ => ⟨S256x808, .f32⟩
  | .local _ .vmem, ⟨6, _⟩ => ⟨S256x808, .f32⟩
  | .local _ .vmem, ⟨7, _⟩ => ⟨S256x808, .f32⟩
  | .local _ .vmem, ⟨8, _⟩ => ⟨S256x808, .f32⟩
  | .local _ .vmem, ⟨9, _⟩ => ⟨S256x808, .f32⟩
  | .local _ .vmem, ⟨10, _⟩ => ⟨S256x808, .f32⟩
  | .local _ .vmem, ⟨11, _⟩ => ⟨S256x808, .f32⟩
  | .local _ .vmem, ⟨12, _⟩ => ⟨S256x808, .f32⟩
  | .local _ .vmem, ⟨13, _⟩ => ⟨S256x808, .f32⟩
  | _, _ => ⟨S1024x808, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "unbias_m" => some (((5463681 * 8388608⁻¹)⁻¹ : ℝ) : EReal)
  | "unbias_v" => some (((2672307 * 268435456⁻¹)⁻¹ : ℝ) : EReal)
  | _ => none

abbrev grid0 : Pipeline.Grid := ⟨1, ![4], ![false]⟩

@[reducible] def k0_t1_loop : Scf.Loop 32 :=
  let c0_i32 : BitVec 32 := 0#32
  let c2_i32 : BitVec 32 := 2#32
  let v0 : BitVec 32 := Scalar.addi c0_i32 c2_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  v1
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c3_i32 : BitVec 32 := 3#32
  let v1 : BitVec 32 := Scalar.minsi v0 c3_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c3_i32 : BitVec 32 := 3#32
  let v1 : BitVec 32 := Scalar.minsi v0 c3_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c3_i32 : BitVec 32 := 3#32
  let v1 : BitVec 32 := Scalar.minsi v0 c3_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c3_i32 : BitVec 32 := 3#32
  let v1 : BitVec 32 := Scalar.minsi v0 c3_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x808 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x808 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x808 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x808 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x808 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x808 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x808 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference35Ideal.lean ====
abbrev S1024x808 : Shape := ⟨2, ![1024, 808]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x808, .f32⟩
  | .hbm, ⟨1, _⟩ => ⟨S1024x808, .f32⟩
  | .hbm, ⟨2, _⟩ => ⟨S1024x808, .f32⟩
  | .hbm, ⟨3, _⟩ => ⟨S1024x808, .f32⟩
  | .hbm, ⟨4, _⟩ => ⟨S_, .f32⟩
  | .hbm, ⟨5, _⟩ => ⟨S1024x808, .f32⟩
  | .hbm, ⟨6, _⟩ => ⟨S1024x808, .f32⟩
  | .hbm, ⟨7, _⟩ => ⟨S_, .f32⟩
  | .hbm, ⟨8, _⟩ => ⟨S1024x808, .f32⟩
  | .hbm, ⟨9, _⟩ => ⟨S1024x808, .f32⟩
  | .hbm, ⟨10, _⟩ => ⟨S1024x808, .f32⟩
  | .hbm, ⟨11, _⟩ => ⟨S_, .f32⟩
  | .hbm, ⟨12, _⟩ => ⟨S1024x808, .f32⟩
  | .hbm, ⟨13, _⟩ => ⟨S1024x808, .f32⟩
  | .hbm, ⟨14, _⟩ => ⟨S1024x808, .f32⟩
  | .hbm, ⟨15, _⟩ => ⟨S_, .f32⟩
  | .hbm, ⟨16, _⟩ => ⟨S1024x808, .f32⟩
  | .hbm, ⟨17, _⟩ => ⟨S1024x808, .f32⟩
  | .hbm, ⟨18, _⟩ => ⟨S1024x808, .f32⟩
  | .hbm, ⟨19, _⟩ => ⟨S_, .f32⟩
  | .hbm, ⟨20, _⟩ => ⟨S1024x808, .f32⟩
  | .hbm, ⟨21, _⟩ => ⟨S1024x808, .f32⟩
  | .hbm, ⟨22, _⟩ => ⟨S_, .f32⟩
  | .hbm, ⟨23, _⟩ => ⟨S1024x808, .f32⟩
  | .hbm, ⟨24, _⟩ => ⟨S1024x808, .f32⟩
  | .hbm, ⟨25, _⟩ => ⟨S1024x808, .f32⟩
  | .hbm, ⟨26, _⟩ => ⟨S_, .f32⟩
  | .hbm, ⟨27, _⟩ => ⟨S1024x808, .f32⟩
  | .hbm, ⟨28, _⟩ => ⟨S1024x808, .f32⟩
  | .hbm, ⟨29, _⟩ => ⟨S1024x808, .f32⟩
  | .hbm, ⟨30, _⟩ => ⟨S_, .f32⟩
  | .hbm, ⟨31, _⟩ => ⟨S1024x808, .f32⟩
  | .hbm, ⟨32, _⟩ => ⟨S1024x808, .f32⟩
  | .hbm, ⟨33, _⟩ => ⟨S1024x808, .f32⟩
  | .hbm, ⟨34, _⟩ => ⟨S_, .f32⟩
  | .hbm, ⟨35, _⟩ => ⟨S1024x808, .f32⟩
  | .hbm, ⟨36, _⟩ => ⟨S1024x808, .f32⟩
  | _, _ => ⟨S1024x808, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel36.lean ====
abbrev S256x1024 : Shape := ⟨2, ![256, 1024]⟩
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c2_i32 : BitVec 32 := 2#32
  let v0 : BitVec 32 := Scalar.addi c0_i32 c2_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  v1
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.minsi v0 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.minsi v0 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.minsi v0 c0_i32_0
  let c0_i32_1 : BitVec 32 := 0#32
  let c0_i32_2 : BitVec 32 := 0#32
  ![v1.toNat, c0_i32_1.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.minsi v0 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel36Ideal.lean ====
abbrev S256x1024 : Shape := ⟨2, ![256, 1024]⟩
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "unbias_m" => some (((5463681 * 8388608⁻¹)⁻¹ : ℝ) : EReal)
  | "unbias_v" => some (((2672307 * 268435456⁻¹)⁻¹ : ℝ) : EReal)
  | _ => none

abbrev grid0 : Pipeline.Grid := ⟨1, ![1], ![false]⟩

@[reducible] def k0_t1_loop : Scf.Loop 32 :=
  let c0_i32 : BitVec 32 := 0#32
  let c2_i32 : BitVec 32 := 2#32
  let v0 : BitVec 32 := Scalar.addi c0_i32 c2_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  v1
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v1 : BitVec 32 := Scalar.muli arg8 c128_i32
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.minsi v0 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.minsi v0 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.minsi v0 c0_i32_0
  let c0_i32_1 : BitVec 32 := 0#32
  let c0_i32_2 : BitVec 32 := 0#32
  ![v1.toNat, c0_i32_1.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.minsi v0 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference36Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel37.lean ====
abbrev S512x256 : Shape := ⟨2, ![512, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def k0_mult1 : BitVec 32 :=
  let c0_i32 : BitVec 32 := 0#32
  let c256_i32 : BitVec 32 := 256#32
  let v0 : BitVec 32 := Scalar.muli c0_i32 c256_i32
  v0
def k0_off1 : Fin 2 → Nat :=
  let c0_i32 : BitVec 32 := 0#32
  let c256_i32 : BitVec 32 := 256#32
  let v0 : BitVec 32 := Scalar.muli c0_i32 c256_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 32 := Scalar.minsi v0 c1_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 32 := Scalar.minsi v0 c1_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 32 := Scalar.minsi v0 c1_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 32 := Scalar.minsi v0 c1_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel37Ideal.lean ====
abbrev S512x256 : Shape := ⟨2, ![512, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "unbias_m" => some (((5463681 * 8388608⁻¹)⁻¹ : ℝ) : EReal)
  | "unbias_v" => some (((2672307 * 268435456⁻¹)⁻¹ : ℝ) : EReal)
  | _ => none

abbrev grid0 : Pipeline.Grid := ⟨1, ![2], ![false]⟩

def k0_mult1 : BitVec 32 :=
  let c0_i32 : BitVec 32 := 0#32
  let c256_i32 : BitVec 32 := 256#32
  let v0 : BitVec 32 := Scalar.muli c0_i32 c256_i32
  v0
def k0_off1 : Fin 2 → Nat :=
  let c0_i32 : BitVec 32 := 0#32
  let c256_i32 : BitVec 32 := 256#32
  let v0 : BitVec 32 := Scalar.muli c0_i32 c256_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 32 := Scalar.minsi v0 c1_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 32 := Scalar.minsi v0 c1_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 32 := Scalar.minsi v0 c1_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 32 := Scalar.minsi v0 c1_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference37Ideal.lean ====
abbrev S512x256 : Shape := ⟨2, ![512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel38.lean ====
abbrev S512x512 : Shape := ⟨2, ![512, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def k0_mult1 : BitVec 32 :=
  let c0_i32 : BitVec 32 := 0#32
  let c256_i32 : BitVec 32 := 256#32
  let v0 : BitVec 32 := Scalar.muli c0_i32 c256_i32
  v0
def k0_off1 : Fin 2 → Nat :=
  let c0_i32 : BitVec 32 := 0#32
  let c256_i32 : BitVec 32 := 256#32
  let v0 : BitVec 32 := Scalar.muli c0_i32 c256_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 32 := Scalar.minsi v0 c1_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 32 := Scalar.minsi v0 c1_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 32 := Scalar.minsi v0 c1_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 32 := Scalar.minsi v0 c1_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel38Ideal.lean ====
abbrev S512x512 : Shape := ⟨2, ![512, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "unbias_m" => some (((5463681 * 8388608⁻¹)⁻¹ : ℝ) : EReal)
  | "unbias_v" => some (((2672307 * 268435456⁻¹)⁻¹ : ℝ) : EReal)
  | _ => none

abbrev grid0 : Pipeline.Grid := ⟨1, ![2], ![false]⟩

def k0_mult1 : BitVec 32 :=
  let c0_i32 : BitVec 32 := 0#32
  let c256_i32 : BitVec 32 := 256#32
  let v0 : BitVec 32 := Scalar.muli c0_i32 c256_i32
  v0
def k0_off1 : Fin 2 → Nat :=
  let c0_i32 : BitVec 32 := 0#32
  let c256_i32 : BitVec 32 := 256#32
  let v0 : BitVec 32 := Scalar.muli c0_i32 c256_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 32 := Scalar.minsi v0 c1_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 32 := Scalar.minsi v0 c1_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 32 := Scalar.minsi v0 c1_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let v1 : BitVec 32 := Scalar.minsi v0 c1_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference38Ideal.lean ====
abbrev S512x512 : Shape := ⟨2, ![512, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S_, .f32⟩
  | .hbm, ⟨5, _⟩ => ⟨S512x512, .f32⟩
  | .hbm, ⟨6, _⟩ => ⟨S512x512, .f32⟩
  | .hbm, ⟨7, _⟩ => ⟨S_, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S_, .f32⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S_, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S_, .f32⟩
  | .hbm, ⟨20, _⟩ => ⟨S512x512, .f32⟩
  | .hbm, ⟨21, _⟩ => ⟨S512x512, .f32⟩
  | .hbm, ⟨22, _⟩ => ⟨S_, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S_, .f32⟩
  | .hbm, ⟨27, _⟩ => ⟨S512x512, .f32⟩
  | .hbm, ⟨28, _⟩ => ⟨S512x512, .f32⟩
  | .hbm, ⟨29, _⟩ => ⟨S512x512, .f32⟩
  | .hbm, ⟨30, _⟩ => ⟨S_, .f32⟩
  | .hbm, ⟨31, _⟩ => ⟨S512x512, .f32⟩
  | .hbm, ⟨32, _⟩ => ⟨S512x512, .f32⟩
  | .hbm, ⟨33, _⟩ => ⟨S512x512, .f32⟩
  | .hbm, ⟨34, _⟩ => ⟨S_, .f32⟩
  | .hbm, ⟨35, _⟩ => ⟨S512x512, .f32⟩
  | .hbm, ⟨36, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel39.lean ====
abbrev S384x192 : Shape := ⟨2, ![384, 192]⟩
abbrev S128x192 : Shape := ⟨2, ![128, 192]⟩

abbrev nBuf : Space → Nat
  | .hbm => 7
  | .vmem => 14
  | .smem => 0
  | _ => 0

abbrev bufTy : (tb : Table) → Fin (tcTables nBuf tb) → BufTy
  | .hbm, ⟨0, _⟩ => ⟨S384x192, .f32⟩
  | .hbm, ⟨1, _⟩ => ⟨S384x192, .f32⟩
  | .hbm, ⟨2, _⟩ => ⟨S384x192, .f32⟩
  | .hbm, ⟨3, _⟩ => ⟨S384x192, .f32⟩
  | .hbm, ⟨4, _⟩ => ⟨S384x192, .f32⟩
  | .hbm, ⟨5, _⟩ => ⟨S384x192, .f32⟩
  | .hbm, ⟨6, _⟩ => ⟨S384x192, .f32⟩
  | .local _ .vmem, ⟨0, _⟩ => ⟨S128x192, .f32⟩
  | .local _ .vmem, ⟨1, _⟩ => ⟨S128x192, .f32⟩
  | .local _ .vmem, ⟨2, _⟩ => ⟨S128x192, .f32⟩
  | .local _ .vmem, ⟨3, _⟩ => ⟨S128x192, .f32⟩
  | .local _ .vmem, ⟨4, _⟩ => ⟨S128x192, .f32⟩
  | .local _ .vmem, ⟨5, _⟩ => ⟨S128x192, .f32⟩
  | .local _ .vmem, ⟨6, _⟩ => ⟨S128x192, .f32⟩
  | .local _ .vmem, ⟨7, _⟩ => ⟨S128x192, .f32⟩
  | .local _ .vmem, ⟨8, _⟩ => ⟨S128x192, .f32⟩
  | .local _ .vmem, ⟨9, _⟩ => ⟨S128x192, .f32⟩
  | .local _ .vmem, ⟨10, _⟩ => ⟨S128x192, .f32⟩
  | .local _ .vmem, ⟨11, _⟩ => ⟨S128x192, .f32⟩
  | .local _ .vmem, ⟨12, _⟩ => ⟨S128x192, .f32⟩
  | .local _ .vmem, ⟨13, _⟩ => ⟨S128x192, .f32⟩
  | _, _ => ⟨S384x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def k0_mult1 : BitVec 32 :=
  let c0_i32 : BitVec 32 := 0#32
  let c128_i32 : BitVec 32 := 128#32
  let v0 : BitVec 32 := Scalar.muli c0_i32 c128_i32
  v0
def k0_off1 : Fin 2 → Nat :=
  let c0_i32 : BitVec 32 := 0#32
  let c128_i32 : BitVec 32 := 128#32
  let v0 : BitVec 32 := Scalar.muli c0_i32 c128_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c2_i32 : BitVec 32 := 2#32
  let v1 : BitVec 32 := Scalar.minsi v0 c2_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c2_i32 : BitVec 32 := 2#32
  let v1 : BitVec 32 := Scalar.minsi v0 c2_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c2_i32 : BitVec 32 := 2#32
  let v1 : BitVec 32 := Scalar.minsi v0 c2_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c2_i32 : BitVec 32 := 2#32
  let v1 : BitVec 32 := Scalar.minsi v0 c2_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel39Ideal.lean ====
abbrev S384x192 : Shape := ⟨2, ![384, 192]⟩
abbrev S128x192 : Shape := ⟨2, ![128, 192]⟩

abbrev nBuf : Space → Nat
  | .hbm => 7
  | .vmem => 14
  | .smem => 0
  | _ => 0

abbrev bufTy : (tb : Table) → Fin (tcTables nBuf tb) → BufTy
  | .hbm, ⟨0, _⟩ => ⟨S384x192, .f32⟩
  | .hbm, ⟨1, _⟩ => ⟨S384x192, .f32⟩
  | .hbm, ⟨2, _⟩ => ⟨S384x192, .f32⟩
  | .hbm, ⟨3, _⟩ => ⟨S384x192, .f32⟩
  | .hbm, ⟨4, _⟩ => ⟨S384x192, .f32⟩
  | .hbm, ⟨5, _⟩ => ⟨S384x192, .f32⟩
  | .hbm, ⟨6, _⟩ => ⟨S384x192, .f32⟩
  | .local _ .vmem, ⟨0, _⟩ => ⟨S128x192, .f32⟩
  | .local _ .vmem, ⟨1, _⟩ => ⟨S128x192, .f32⟩
  | .local _ .vmem, ⟨2, _⟩ => ⟨S128x192, .f32⟩
  | .local _ .vmem, ⟨3, _⟩ => ⟨S128x192, .f32⟩
  | .local _ .vmem, ⟨4, _⟩ => ⟨S128x192, .f32⟩
  | .local _ .vmem, ⟨5, _⟩ => ⟨S128x192, .f32⟩
  | .local _ .vmem, ⟨6, _⟩ => ⟨S128x192, .f32⟩
  | .local _ .vmem, ⟨7, _⟩ => ⟨S128x192, .f32⟩
  | .local _ .vmem, ⟨8, _⟩ => ⟨S128x192, .f32⟩
  | .local _ .vmem, ⟨9, _⟩ => ⟨S128x192, .f32⟩
  | .local _ .vmem, ⟨10, _⟩ => ⟨S128x192, .f32⟩
  | .local _ .vmem, ⟨11, _⟩ => ⟨S128x192, .f32⟩
  | .local _ .vmem, ⟨12, _⟩ => ⟨S128x192, .f32⟩
  | .local _ .vmem, ⟨13, _⟩ => ⟨S128x192, .f32⟩
  | _, _ => ⟨S384x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "unbias_m" => some (((5463681 * 8388608⁻¹)⁻¹ : ℝ) : EReal)
  | "unbias_v" => some (((2672307 * 268435456⁻¹)⁻¹ : ℝ) : EReal)
  | _ => none

abbrev grid0 : Pipeline.Grid := ⟨1, ![3], ![false]⟩

def k0_mult1 : BitVec 32 :=
  let c0_i32 : BitVec 32 := 0#32
  let c128_i32 : BitVec 32 := 128#32
  let v0 : BitVec 32 := Scalar.muli c0_i32 c128_i32
  v0
def k0_off1 : Fin 2 → Nat :=
  let c0_i32 : BitVec 32 := 0#32
  let c128_i32 : BitVec 32 := 128#32
  let v0 : BitVec 32 := Scalar.muli c0_i32 c128_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c2_i32 : BitVec 32 := 2#32
  let v1 : BitVec 32 := Scalar.minsi v0 c2_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c2_i32 : BitVec 32 := 2#32
  let v1 : BitVec 32 := Scalar.minsi v0 c2_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c2_i32 : BitVec 32 := 2#32
  let v1 : BitVec 32 := Scalar.minsi v0 c2_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c2_i32 : BitVec 32 := 2#32
  let v1 : BitVec 32 := Scalar.minsi v0 c2_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference39Ideal.lean ====
abbrev S384x192 : Shape := ⟨2, ![384, 192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S384x192, .f32⟩
  | .hbm, ⟨1, _⟩ => ⟨S384x192, .f32⟩
  | .hbm, ⟨2, _⟩ => ⟨S384x192, .f32⟩
  | .hbm, ⟨3, _⟩ => ⟨S384x192, .f32⟩
  | .hbm, ⟨4, _⟩ => ⟨S_, .f32⟩
  | .hbm, ⟨5, _⟩ => ⟨S384x192, .f32⟩
  | .hbm, ⟨6, _⟩ => ⟨S384x192, .f32⟩
  | .hbm, ⟨7, _⟩ => ⟨S_, .f32⟩
  | .hbm, ⟨8, _⟩ => ⟨S384x192, .f32⟩
  | .hbm, ⟨9, _⟩ => ⟨S384x192, .f32⟩
  | .hbm, ⟨10, _⟩ => ⟨S384x192, .f32⟩
  | .hbm, ⟨11, _⟩ => ⟨S_, .f32⟩
  | .hbm, ⟨12, _⟩ => ⟨S384x192, .f32⟩
  | .hbm, ⟨13, _⟩ => ⟨S384x192, .f32⟩
  | .hbm, ⟨14, _⟩ => ⟨S384x192, .f32⟩
  | .hbm, ⟨15, _⟩ => ⟨S_, .f32⟩
  | .hbm, ⟨16, _⟩ => ⟨S384x192, .f32⟩
  | .hbm, ⟨17, _⟩ => ⟨S384x192, .f32⟩
  | .hbm, ⟨18, _⟩ => ⟨S384x192, .f32⟩
  | .hbm, ⟨19, _⟩ => ⟨S_, .f32⟩
  | .hbm, ⟨20, _⟩ => ⟨S384x192, .f32⟩
  | .hbm, ⟨21, _⟩ => ⟨S384x192, .f32⟩
  | .hbm, ⟨22, _⟩ => ⟨S_, .f32⟩
  | .hbm, ⟨23, _⟩ => ⟨S384x192, .f32⟩
  | .hbm, ⟨24, _⟩ => ⟨S384x192, .f32⟩
  | .hbm, ⟨25, _⟩ => ⟨S384x192, .f32⟩
  | .hbm, ⟨26, _⟩ => ⟨S_, .f32⟩
  | .hbm, ⟨27, _⟩ => ⟨S384x192, .f32⟩
  | .hbm, ⟨28, _⟩ => ⟨S384x192, .f32⟩
  | .hbm, ⟨29, _⟩ => ⟨S384x192, .f32⟩
  | .hbm, ⟨30, _⟩ => ⟨S_, .f32⟩
  | .hbm, ⟨31, _⟩ => ⟨S384x192, .f32⟩
  | .hbm, ⟨32, _⟩ => ⟨S384x192, .f32⟩
  | .hbm, ⟨33, _⟩ => ⟨S384x192, .f32⟩
  | .hbm, ⟨34, _⟩ => ⟨S_, .f32⟩
  | .hbm, ⟨35, _⟩ => ⟨S384x192, .f32⟩
  | .hbm, ⟨36, _⟩ => ⟨S384x192, .f32⟩
  | _, _ => ⟨S384x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel40.lean ====
abbrev S256x256 : Shape := ⟨2, ![256, 256]⟩

abbrev nBuf : Space → Nat
  | .hbm => 7
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def k0_mult1 : BitVec 32 :=
  let c0_i32 : BitVec 32 := 0#32
  let c256_i32 : BitVec 32 := 256#32
  let v0 : BitVec 32 := Scalar.muli c0_i32 c256_i32
  v0
def k0_off1 : Fin 2 → Nat :=
  let c0_i32 : BitVec 32 := 0#32
  let c256_i32 : BitVec 32 := 256#32
  let v0 : BitVec 32 := Scalar.muli c0_i32 c256_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.minsi v0 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.minsi v0 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.minsi v0 c0_i32_0
  let c0_i32_1 : BitVec 32 := 0#32
  let c0_i32_2 : BitVec 32 := 0#32
  ![v1.toNat, c0_i32_1.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.minsi v0 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel40Ideal.lean ====
abbrev S256x256 : Shape := ⟨2, ![256, 256]⟩

abbrev nBuf : Space → Nat
  | .hbm => 7
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "unbias_m" => some (((5463681 * 8388608⁻¹)⁻¹ : ℝ) : EReal)
  | "unbias_v" => some (((2672307 * 268435456⁻¹)⁻¹ : ℝ) : EReal)
  | _ => none

abbrev grid0 : Pipeline.Grid := ⟨1, ![1], ![false]⟩

def k0_mult1 : BitVec 32 :=
  let c0_i32 : BitVec 32 := 0#32
  let c256_i32 : BitVec 32 := 256#32
  let v0 : BitVec 32 := Scalar.muli c0_i32 c256_i32
  v0
def k0_off1 : Fin 2 → Nat :=
  let c0_i32 : BitVec 32 := 0#32
  let c256_i32 : BitVec 32 := 256#32
  let v0 : BitVec 32 := Scalar.muli c0_i32 c256_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.minsi v0 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.minsi v0 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.minsi v0 c0_i32_0
  let c0_i32_1 : BitVec 32 := 0#32
  let c0_i32_2 : BitVec 32 := 0#32
  ![v1.toNat, c0_i32_1.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.minsi v0 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference40Ideal.lean ====
abbrev S256x256 : Shape := ⟨2, ![256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel41.lean ====
abbrev S1024x1536 : Shape := ⟨2, ![1024, 1536]⟩
abbrev S128x1536 : Shape := ⟨2, ![128, 1536]⟩
abbrev S64x1536 : Shape := ⟨2, ![64, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c2_i32 : BitVec 32 := 2#32
  let v0 : BitVec 32 := Scalar.addi c0_i32 c2_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c64_i32 : BitVec 32 := 64#32
  let v1 : BitVec 32 := Scalar.muli arg8 c64_i32
  v1
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c64_i32 : BitVec 32 := 64#32
  let v1 : BitVec 32 := Scalar.muli arg8 c64_i32
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c7_i32 : BitVec 32 := 7#32
  let v1 : BitVec 32 := Scalar.minsi v0 c7_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c7_i32 : BitVec 32 := 7#32
  let v1 : BitVec 32 := Scalar.minsi v0 c7_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c7_i32 : BitVec 32 := 7#32
  let v1 : BitVec 32 := Scalar.minsi v0 c7_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c7_i32 : BitVec 32 := 7#32
  let v1 : BitVec 32 := Scalar.minsi v0 c7_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel41Ideal.lean ====
abbrev S1024x1536 : Shape := ⟨2, ![1024, 1536]⟩
abbrev S128x1536 : Shape := ⟨2, ![128, 1536]⟩
abbrev S64x1536 : Shape := ⟨2, ![64, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "unbias_m" => some (((5463681 * 8388608⁻¹)⁻¹ : ℝ) : EReal)
  | "unbias_v" => some (((2672307 * 268435456⁻¹)⁻¹ : ℝ) : EReal)
  | _ => none

abbrev grid0 : Pipeline.Grid := ⟨1, ![8], ![false]⟩

@[reducible] def k0_t1_loop : Scf.Loop 32 :=
  let c0_i32 : BitVec 32 := 0#32
  let c2_i32 : BitVec 32 := 2#32
  let v0 : BitVec 32 := Scalar.addi c0_i32 c2_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c64_i32 : BitVec 32 := 64#32
  let v1 : BitVec 32 := Scalar.muli arg8 c64_i32
  v1
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c64_i32 : BitVec 32 := 64#32
  let v1 : BitVec 32 := Scalar.muli arg8 c64_i32
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c7_i32 : BitVec 32 := 7#32
  let v1 : BitVec 32 := Scalar.minsi v0 c7_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c7_i32 : BitVec 32 := 7#32
  let v1 : BitVec 32 := Scalar.minsi v0 c7_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c7_i32 : BitVec 32 := 7#32
  let v1 : BitVec 32 := Scalar.minsi v0 c7_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c7_i32 : BitVec 32 := 7#32
  let v1 : BitVec 32 := Scalar.minsi v0 c7_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference41Ideal.lean ====
abbrev S1024x1536 : Shape := ⟨2, ![1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S_, .f32⟩
  | .hbm, ⟨5, _⟩ => ⟨S1024x1536, .f32⟩
  | .hbm, ⟨6, _⟩ => ⟨S1024x1536, .f32⟩
  | .hbm, ⟨7, _⟩ => ⟨S_, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S_, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel42.lean ====
abbrev S224x1024 : Shape := ⟨2, ![224, 1024]⟩
abbrev S32x1024 : Shape := ⟨2, ![32, 1024]⟩

abbrev nBuf : Space → Nat
  | .hbm => 7
  | .vmem => 14
  | .smem => 0
  | _ => 0

abbrev bufTy : (tb : Table) → Fin (tcTables nBuf tb) → BufTy
  | .hbm, ⟨0, _⟩ => ⟨S224x1024, .f32⟩
  | .hbm, ⟨1, _⟩ => ⟨S224x1024, .f32⟩
  | .hbm, ⟨2, _⟩ => ⟨S224x1024, .f32⟩
  | .hbm, ⟨3, _⟩ => ⟨S224x1024, .f32⟩
  | .hbm, ⟨4, _⟩ => ⟨S224x1024, .f32⟩
  | .hbm, ⟨5, _⟩ => ⟨S224x1024, .f32⟩
  | .hbm, ⟨6, _⟩ => ⟨S224x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | _, _ => ⟨S224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![7], ![false]⟩

def k0_mult1 : BitVec 32 :=
  let c0_i32 : BitVec 32 := 0#32
  let c32_i32 : BitVec 32 := 32#32
  let v0 : BitVec 32 := Scalar.muli c0_i32 c32_i32
  v0
def k0_off1 : Fin 2 → Nat :=
  let c0_i32 : BitVec 32 := 0#32
  let c32_i32 : BitVec 32 := 32#32
  let v0 : BitVec 32 := Scalar.muli c0_i32 c32_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c6_i32 : BitVec 32 := 6#32
  let v1 : BitVec 32 := Scalar.minsi v0 c6_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c6_i32 : BitVec 32 := 6#32
  let v1 : BitVec 32 := Scalar.minsi v0 c6_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c6_i32 : BitVec 32 := 6#32
  let v1 : BitVec 32 := Scalar.minsi v0 c6_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c6_i32 : BitVec 32 := 6#32
  let v1 : BitVec 32 := Scalar.minsi v0 c6_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel42Ideal.lean ====
variable {F : FTy → Type} [FloatOps F] [Named F]
def κ : String → Option EReal := fun
  | "unbias_m" => some (((5463681 * 8388608⁻¹)⁻¹ : ℝ) : EReal)
  | "unbias_v" => some (((2672307 * 268435456⁻¹)⁻¹ : ℝ) : EReal)
  | _ => none
-- ==== Reference42Ideal.lean ====
abbrev S224x1024 : Shape := ⟨2, ![224, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S224x1024, .f32⟩
  | .hbm, ⟨1, _⟩ => ⟨S224x1024, .f32⟩
  | .hbm, ⟨2, _⟩ => ⟨S224x1024, .f32⟩
  | .hbm, ⟨3, _⟩ => ⟨S224x1024, .f32⟩
  | .hbm, ⟨4, _⟩ => ⟨S_, .f32⟩
  | .hbm, ⟨5, _⟩ => ⟨S224x1024, .f32⟩
  | .hbm, ⟨6, _⟩ => ⟨S224x1024, .f32⟩
  | .hbm, ⟨7, _⟩ => ⟨S_, .f32⟩
  | .hbm, ⟨8, _⟩ => ⟨S224x1024, .f32⟩
  | .hbm, ⟨9, _⟩ => ⟨S224x1024, .f32⟩
  | .hbm, ⟨10, _⟩ => ⟨S224x1024, .f32⟩
  | .hbm, ⟨11, _⟩ => ⟨S_, .f32⟩
  | .hbm, ⟨12, _⟩ => ⟨S224x1024, .f32⟩
  | .hbm, ⟨13, _⟩ => ⟨S224x1024, .f32⟩
  | .hbm, ⟨14, _⟩ => ⟨S224x1024, .f32⟩
  | .hbm, ⟨15, _⟩ => ⟨S_, .f32⟩
  | .hbm, ⟨16, _⟩ => ⟨S224x1024, .f32⟩
  | .hbm, ⟨17, _⟩ => ⟨S224x1024, .f32⟩
  | .hbm, ⟨18, _⟩ => ⟨S224x1024, .f32⟩
  | .hbm, ⟨19, _⟩ => ⟨S_, .f32⟩
  | .hbm, ⟨20, _⟩ => ⟨S224x1024, .f32⟩
  | .hbm, ⟨21, _⟩ => ⟨S224x1024, .f32⟩
  | .hbm, ⟨22, _⟩ => ⟨S_, .f32⟩
  | .hbm, ⟨23, _⟩ => ⟨S224x1024, .f32⟩
  | .hbm, ⟨24, _⟩ => ⟨S224x1024, .f32⟩
  | .hbm, ⟨25, _⟩ => ⟨S224x1024, .f32⟩
  | .hbm, ⟨26, _⟩ => ⟨S_, .f32⟩
  | .hbm, ⟨27, _⟩ => ⟨S224x1024, .f32⟩
  | .hbm, ⟨28, _⟩ => ⟨S224x1024, .f32⟩
  | .hbm, ⟨29, _⟩ => ⟨S224x1024, .f32⟩
  | .hbm, ⟨30, _⟩ => ⟨S_, .f32⟩
  | .hbm, ⟨31, _⟩ => ⟨S224x1024, .f32⟩
  | .hbm, ⟨32, _⟩ => ⟨S224x1024, .f32⟩
  | .hbm, ⟨33, _⟩ => ⟨S224x1024, .f32⟩
  | .hbm, ⟨34, _⟩ => ⟨S_, .f32⟩
  | .hbm, ⟨35, _⟩ => ⟨S224x1024, .f32⟩
  | .hbm, ⟨36, _⟩ => ⟨S224x1024, .f32⟩
  | _, _ => ⟨S224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Attn.Real.lean ====
/-
  The gradients of one head's softmax attention over the real numbers, and the identity that makes the kernel's
  saved log-sum-exp give the softmax weights back.
-/
module

public import Idealize.ShloMosaic.PureOps.Ideal
public import Idealize.ShloMosaic.Lib.IdealHost

@[expose] public section

noncomputable section

namespace Cert.Attn

open Idealize.ShloMosaic

/-! ## One head over the reals: queries `Q`, keys `K`, values `W`, the cotangent `T` of the output -/

section Head

variable {A R D E : Type} [Fintype A] [Fintype R] [Fintype D] [Fintype E]

/-- The scaled score of query `a` against key `r`. -/
def score (c : ℝ) (Q : A → D → ℝ) (K : R → D → ℝ) (a : A) (r : R) : ℝ := (∑ d, Q a d * K r d) * c

/-- The softmax weight of key `r` for query `a`. -/
def weight (c : ℝ) (Q : A → D → ℝ) (K : R → D → ℝ) (a : A) (r : R) : ℝ :=
  Real.exp (score c Q K a r) / ∑ r', Real.exp (score c Q K a r')

/-- The cotangent of the weight of key `r` for query `a`. -/
def dweight (W : R → E → ℝ) (T : A → E → ℝ) (a : A) (r : R) : ℝ := ∑ e, T a e * W r e

/-- The cotangent of the unscaled score: the softmax's backward pass, times the score's factor. -/
def dscore (c : ℝ) (Q : A → D → ℝ) (K : R → D → ℝ) (W : R → E → ℝ) (T : A → E → ℝ) (a : A) (r : R) : ℝ :=
  weight c Q K a r * (dweight W T a r - ∑ r', weight c Q K a r' * dweight W T a r') * c

/-- The gradient of the queries. -/
def dQ (c : ℝ) (Q : A → D → ℝ) (K : R → D → ℝ) (W : R → E → ℝ) (T : A → E → ℝ) (a : A) (d : D) : ℝ :=
  ∑ r, dscore c Q K W T a r * K r d

/-- The gradient of the keys. -/
def dK (c : ℝ) (Q : A → D → ℝ) (K : R → D → ℝ) (W : R → E → ℝ) (T : A → E → ℝ) (r : R) (d : D) : ℝ :=
  ∑ a, dscore c Q K W T a r * Q a d

/-- The gradient of the values. -/
def dV (c : ℝ) (Q : A → D → ℝ) (K : R → D → ℝ) (T : A → E → ℝ) (r : R) (e : E) : ℝ :=
  ∑ a, T a e * weight c Q K a r

/-- The output of the forward pass. -/
def out (c : ℝ) (Q : A → D → ℝ) (K : R → D → ℝ) (W : R → E → ℝ) (a : A) (e : E) : ℝ :=
  ∑ r, W r e * weight c Q K a r

/-- The sum over the values' lanes of cotangent times output is the weighted sum of the weights' cotangents. -/
theorem sum_mul_out (c : ℝ) (Q : A → D → ℝ) (K : R → D → ℝ) (W : R → E → ℝ) (T : A → E → ℝ) (a : A) :
    ∑ e, T a e * out c Q K W a e = ∑ r, weight c Q K a r * dweight W T a r := by
  simp only [out, dweight, Finset.mul_sum]
  rw [Finset.sum_comm]
  exact Finset.sum_congr rfl fun r _ => Finset.sum_congr rfl fun e _ => by ring

/-- The softmax's denominator is positive. -/
theorem sum_exp_pos [Nonempty R] (f : R → ℝ) : 0 < ∑ r, Real.exp (f r) :=
  Finset.sum_pos (fun _ _ => Real.exp_pos _) Finset.univ_nonempty

/-- Subtracting one number `m` from every score leaves the weights as they are. -/
theorem weight_shift [Nonempty R] (c : ℝ) (Q : A → D → ℝ) (K : R → D → ℝ) (a : A) (r : R) (m : ℝ) :
    Real.exp (score c Q K a r - m) / ∑ r', Real.exp (score c Q K a r' - m) = weight c Q K a r := by
  simp only [Real.exp_sub, ← Finset.sum_div, weight]
  exact div_div_div_cancel_right₀ (Real.exp_pos m).ne' _ _

/-- The weight as a power of two: the exponent is the raw product times the factor over `log 2`, minus the saved
    base-two logarithm of the sum of exponentials. -/
theorem weight_rpow [Nonempty R] (c : ℝ) (Q : A → D → ℝ) (K : R → D → ℝ) (a : A) (r : R) (m : ℝ) :
    Real.rpow 2 ((∑ d, K r d * Q a d) * (c * (Real.log 2)⁻¹)
      - (m + Real.log (∑ r', Real.exp (score c Q K a r' - m))) / Real.log 2) = weight c Q K a r := by
  have h2 : Real.log 2 ≠ 0 := (Real.log_pos one_lt_two).ne'
  have hs : (∑ d, K r d * Q a d) = ∑ d, Q a d * K r d := Finset.sum_congr rfl fun d _ => mul_comm _ _
  show (2 : ℝ) ^ (_ : ℝ) = _
  rw [Real.rpow_def_of_pos two_pos, ← weight_shift c Q K a r m, hs]
  have : Real.log 2 * ((∑ d, Q a d * K r d) * (c * (Real.log 2)⁻¹)
      - (m + Real.log (∑ r', Real.exp (score c Q K a r' - m))) / Real.log 2)
      = (score c Q K a r - m) - Real.log (∑ r', Real.exp (score c Q K a r' - m)) := by
    unfold score
    field_simp
    ring
  rw [this, Real.exp_sub, Real.exp_log (sum_exp_pos _)]

end Head

/-! ## Heads padded with zero lanes -/

section Pad

/-- A row of `n` lanes padded with zeros to `N` lanes. -/
def pad {n : ℕ} (N : ℕ) {A : Type} (Q : A → Fin n → ℝ) (a : A) (d : Fin N) : ℝ := if h : d.val < n then Q a ⟨d.val, h⟩ else 0

/-- A sum over padded lanes whose padding terms vanish is the sum over the lanes themselves. -/
theorem sum_pad {n N : ℕ} (hn : n ≤ N) (f : Fin N → ℝ) (g : Fin n → ℝ) (hg : ∀ d : Fin n, f ⟨d.val, d.isLt.trans_le hn⟩ = g d)
    (h0 : ∀ d : Fin N, n ≤ d.val → f d = 0) : ∑ d, f d = ∑ d, g d := by
  obtain ⟨k, rfl⟩ := Nat.exists_eq_add_of_le hn
  rw [Fin.sum_univ_add]
  have h1 : ∀ i : Fin k, f (Fin.natAdd n i) = 0 := fun i => h0 _ (Nat.le_add_right n i)
  have h2 : ∀ i : Fin n, f (Fin.castAdd k i) = g i := fun i => hg i
  simp only [h1, h2, Finset.sum_const_zero, add_zero]

variable {A R : Type} [Fintype A] [Fintype R] {n m N : ℕ}

/-- Products of padded rows over the padded lanes are the products of the rows. -/
theorem sum_pad_mul (hn : n ≤ N) (Q : A → Fin n → ℝ) (K : R → Fin n → ℝ) (a : A) (r : R) :
    ∑ d, pad N Q a d * pad N K r d = ∑ d, Q a d * K r d :=
  sum_pad hn _ _ (fun d => by simp [pad]) fun d hd => by simp [pad, Nat.not_lt.mpr hd]

theorem score_pad (hn : n ≤ N) (c : ℝ) (Q : A → Fin n → ℝ) (K : R → Fin n → ℝ) (a : A) (r : R) :
    score c (pad N Q) (pad N K) a r = score c Q K a r := by
  simp only [score, sum_pad_mul hn]

theorem weight_pad (hn : n ≤ N) (c : ℝ) (Q : A → Fin n → ℝ) (K : R → Fin n → ℝ) (a : A) (r : R) :
    weight c (pad N Q) (pad N K) a r = weight c Q K a r := by
  simp only [weight, score_pad hn]

theorem dweight_pad (hm : m ≤ N) (W : R → Fin m → ℝ) (T : A → Fin m → ℝ) (a : A) (r : R) :
    dweight (pad N W) (pad N T) a r = dweight W T a r := sum_pad_mul hm T W a r

theorem dscore_pad (hn : n ≤ N) (hm : m ≤ N) (c : ℝ) (Q : A → Fin n → ℝ) (K : R → Fin n → ℝ) (W : R → Fin m → ℝ)
    (T : A → Fin m → ℝ) (a : A) (r : R) :
    dscore c (pad N Q) (pad N K) (pad N W) (pad N T) a r = dscore c Q K W T a r := by
  simp only [dscore, weight_pad hn, dweight_pad hm]

/-- The padded gradient of the queries is the gradient at the padded rows; likewise of the keys and the values. -/
theorem dQ_pad (hn : n ≤ N) (hm : m ≤ N) (c : ℝ) (Q : A → Fin n → ℝ) (K : R → Fin n → ℝ) (W : R → Fin m → ℝ)
    (T : A → Fin m → ℝ) (a : A) (d : Fin N) :
    dQ c (pad N Q) (pad N K) (pad N W) (pad N T) a d = pad N (dQ c Q K W T) a d := by
  unfold dQ
  simp only [dscore_pad hn hm]
  by_cases h : d.val < n <;> simp [pad, h]

theorem dK_pad (hn : n ≤ N) (hm : m ≤ N) (c : ℝ) (Q : A → Fin n → ℝ) (K : R → Fin n → ℝ) (W : R → Fin m → ℝ)
    (T : A → Fin m → ℝ) (r : R) (d : Fin N) :
    dK c (pad N Q) (pad N K) (pad N W) (pad N T) r d = pad N (dK c Q K W T) r d := by
  unfold dK
  simp only [dscore_pad hn hm]
  by_cases h : d.val < n <;> simp [pad, h]

theorem dV_pad (hn : n ≤ N) (c : ℝ) (Q : A → Fin n → ℝ) (K : R → Fin n → ℝ) (T : A → Fin m → ℝ) (r : R) (d : Fin N) :
    dV c (pad N Q) (pad N K) (pad N T) r d = pad N (dV c Q K T) r d := by
  unfold dV
  simp only [weight_pad hn]
  by_cases h : d.val < m <;> simp [pad, h]

theorem out_pad (hn : n ≤ N) (c : ℝ) (Q : A → Fin n → ℝ) (K : R → Fin n → ℝ) (W : R → Fin m → ℝ) (a : A) (d : Fin N) :
    out c (pad N Q) (pad N K) (pad N W) a d = pad N (out c Q K W) a d := by
  unfold out
  simp only [weight_pad hn]
  by_cases h : d.val < m <;> simp [pad, h]

end Pad

/-! ## Real numbers among the extended reals -/

section Coe

variable {ι : Type}

/-- A sum of real numbers is a real number. -/
theorem coe_sum (s : Finset ι) (f : ι → ℝ) : ((∑ i ∈ s, f i : ℝ) : EReal) = ∑ i ∈ s, (f i : EReal) :=
  map_sum (⟨⟨(↑·), EReal.coe_zero⟩, EReal.coe_add⟩ : ℝ →+ EReal) f s

/-- The largest of finitely many (at least one) real numbers, from `⊥`, is a real number. -/
theorem fold_max_coe [DecidableEq ι] (s : Finset ι) (hs : s.Nonempty) (f : ι → ℝ) :
    ∃ x : ℝ, s.fold max (⊥ : EReal) (fun i => (f i : EReal)) = (x : EReal) := by
  induction hs using Finset.Nonempty.cons_induction with
  | singleton a => exact ⟨f a, by simp⟩
  | cons a s h _ ih =>
    obtain ⟨x, hx⟩ := ih
    exact ⟨max (f a) x, by rw [Finset.fold_cons, hx, EReal.coe_strictMono.monotone.map_max]⟩

theorem exp_coe (x : ℝ) : Ideal.exp (x : EReal) = (Real.exp x : EReal) := rfl

theorem exp2_coe (x : ℝ) : Ideal.exp2 (x : EReal) = (Real.rpow 2 x : EReal) := rfl

theorem log_coe {x : ℝ} (h : 0 < x) : Ideal.log (x : EReal) = (Real.log x : EReal) := if_neg h.not_ge

theorem div_coe (x : ℝ) {y : ℝ} (h : y ≠ 0) : Ideal.div (x : EReal) (y : EReal) = ((x / y : ℝ) : EReal) := by
  unfold Ideal.div
  rw [if_neg (by exact_mod_cast h), div_eq_mul_inv, EReal.coe_mul, EReal.coe_inv]

end Coe

end Cert.Attn
-- ==== Proof.Attn.Slots.lean ====
/-
  Arrays [1, n, heads, w] read as real numbers, one head at a time, and the layout [n, heads · 128] in which each head's
  rows are padded with zero lanes to a slot of 128.
-/
module

public import proofs.«01_k».proof.Proof.Attn.Real
public import Idealize.ShloMosaic.Lib.Pipeline.Value
public import Idealize.ShloMosaic.Lib.KernelVsHost
public import Idealize.ShloMosaic.Lib.Pointwise

@[expose] public section

noncomputable section

namespace Cert.Attn

open Idealize.ShloMosaic

/-- An array [1, n, 8, w] of extended reals. -/
abbrev Arr (n w : ℕ) : Type := (⟨4, ![1, n, 8, w]⟩ : Shape).Idx → EReal

/-- Head `h` of an array: its row `a`, lane `d`, as a real number. -/
def head {n w : ℕ} (x : Arr n w) (h : Fin 8) (a : Fin n) (d : Fin w) : ℝ := (x (ix4 0 a h d)).toReal

/-- No entry of the array is an infinity. -/
def Finite {n w : ℕ} (x : Arr n w) : Prop := ∀ i, x i ≠ ⊤ ∧ x i ≠ ⊥

/-- An entry of a finite array is the real number of its head. -/
theorem Finite.coe_head {n w : ℕ} {x : Arr n w} (hx : Finite x) (i : (⟨4, ![1, n, 8, w]⟩ : Shape).Idx) :
    x i = (head x (i 2) (i 1) (i 3) : EReal) := by
  have e : i = ix4 0 (i 1) (i 2) (i 3) := by
    conv_lhs => rw [eq_ix4 i]
    congr 1
    exact Subsingleton.elim (α := Fin 1) _ _
  exact (congrArg x e).trans (EReal.coe_toReal (hx _).1 (hx _).2).symm

/-- An entry of a finite array, its coordinates named. -/
theorem Finite.coe_at {n w : ℕ} {x : Arr n w} (hx : Finite x) (i : (⟨4, ![1, n, 8, w]⟩ : Shape).Idx) (a : Fin n) (h : Fin 8)
    (d : Fin w) (e1 : i 1 = a) (e2 : i 2 = h) (e3 : i 3 = d) : x i = (head x h a d : EReal) := by
  subst e1 e2 e3
  exact hx.coe_head i

/-- The head a column of the padded layout belongs to, and its lane in the head's slot. -/
def hd (l : Fin 1024) : Fin 8 := ⟨l.val / 128, by omega⟩
def ln (l : Fin 1024) : Fin 128 := ⟨l.val % 128, by omega⟩

/-- The padded layout of one real function per head. -/
def slots {n w : ℕ} (g : Fin 8 → Fin n → Fin w → ℝ) (i : (⟨2, ![n, 1024]⟩ : Shape).Idx) : EReal :=
  (pad 128 (g (hd (i 1))) (i 0) (ln (i 1)) : ℝ)

/-- Reshape to [n, 8, w], padding of the lanes with zeros to 128 and reshape to [n, 1024], read at an index: the padded
    layout of the array's heads. -/
theorem slots_apply {n w p : ℕ} {x : Arr n w} (hx : Finite x) (y : (⟨3, ![n, 8, w]⟩ : Shape).Idx → EReal)
    (hy : ∀ i : (⟨3, ![n, 8, w]⟩ : Shape).Idx, y i = x (ix4 0 (i 0) (i 1) (i 2))) {u : Shape} (z : u.Idx → EReal)
    (hw : w + p = 128) (hp : (⟨3, ![n, 8, w]⟩ : Shape).Pads ![0, 0, 0] ![0, 0, p] ![0, 0, 0] ⟨3, ![n, 8, 128]⟩) (hu : 0 < u.numel)
    (hz : z (Shape.Idx.first hu) = 0) (hc : (⟨3, ![n, 8, 128]⟩ : Shape).ShapeCasts ⟨2, ![n, 1024]⟩) :
    shapeCast ⟨2, ![n, 1024]⟩ (Idealize.ShloMosaic.pad ⟨3, ![n, 8, 128]⟩ ![0, 0, 0] ![0, 0, p] ![0, 0, 0] y z hp hu) hc
      = slots (head x) := by
  funext i
  have h1 : (i 1).val < 1024 := (i 1).isLt
  rw [shapeCast_apply _ hc i (ix3 (i 0) (hd (i 1)) (ln (i 1))) (by
    rw [Shape.rowMajor_val_three, Shape.rowMajor_val_two]
    show ((i 0).val * 8 + (i 1).val / 128) * 128 + (i 1).val % 128 = (i 0).val * 1024 + (i 1).val
    omega)]
  unfold slots pad
  split
  · rename_i hl
    rw [pad_apply_of_inside _ _ _ y z hp hu _ (ix3 (i 0) (hd (i 1)) ⟨(ln (i 1)).val, hl⟩) (fun a => match a with
      | ⟨0, _⟩ => by show (i 0).val = 0 + (i 0).val * (0 + 1); omega
      | ⟨1, _⟩ => by show (hd (i 1)).val = 0 + (hd (i 1)).val * (0 + 1); omega
      | ⟨2, _⟩ => by show (ln (i 1)).val = 0 + (ln (i 1)).val * (0 + 1); omega), hy, hx.coe_head]
    rfl
  · rename_i hl
    rw [pad_apply_of_not_inside _ _ _ y z hp hu _ 2 (by
      show ¬(0 ≤ (ln (i 1)).val ∧ ((ln (i 1)).val - 0) % (0 + 1) = 0 ∧ ((ln (i 1)).val - 0) / (0 + 1) < w)
      omega), hz]
    rfl

/-- A reshape from [1, n, 8, w] to [n, 8, w] read at an index. -/
theorem dropBatch_apply {n w : ℕ} (x : Arr n w) (hc : (⟨4, ![1, n, 8, w]⟩ : Shape).ShapeCasts ⟨3, ![n, 8, w]⟩)
    (i : (⟨3, ![n, 8, w]⟩ : Shape).Idx) : shapeCast ⟨3, ![n, 8, w]⟩ x hc i = x (ix4 0 (i 0) (i 1) (i 2)) :=
  shapeCast_apply x hc i _ (by
    rw [Shape.rowMajor_val_three, Shape.rowMajor_val_four]
    show ((0 * n + (i 0).val) * 8 + (i 1).val) * w + (i 2).val = ((i 0).val * 8 + (i 1).val) * w + (i 2).val
    rw [Nat.zero_mul, Nat.zero_add])

end Cert.Attn
-- ==== Proof.Attn.Ref.lean ====
/-
  The reference's results over the extended reals: for arguments holding no infinity they are the gradients of
  softmax attention (Real.lean), each in the padded layout (Slots.lean).
-/
module

public import proofs.«01_k».proof.Proof.Attn.Slots
public import proofs.«01_k».proof.Proof.Gen.ReferenceIdeal.Read
public import Idealize.ShloMosaic.PureOps.Reduce
public import Idealize.ShloMosaic.PureOps.Ideal.Laws

@[expose] public section

noncomputable section

namespace Cert.Attn.Ref

open Idealize.ShloMosaic Cert.ReferenceIdeal Cert.ReferenceIdeal.Read Cert.Attn

/-- The score's factor, as the real number its float32 word is. -/
def c0 : ℝ := 13698540 * 134217728⁻¹

theorem ofBits_c0 : Ideal.ofBits .f32 0x3DD105EC#32 = (c0 : EReal) := by
  unfold c0
  simp [Ideal.ofBits, Ideal.ieee, -EReal.coe_mul]
  norm_num

theorem ofBits_bot : Ideal.ofBits .f32 0xFF800000#32 = ⊥ := by simp [Ideal.ofBits, Ideal.ieee]

theorem ofBits_zero : Ideal.ofBits .f32 0x00000000#32 = 0 := by simp [Ideal.ofBits, Ideal.ieee]

variable {x0 : Arr 8192 96} {x1 : Arr 8448 96} {x2 : Arr 8448 64} {x3 : Arr 8192 64}
variable (h0 : Finite x0) (h1 : Finite x1) (h2 : Finite x2) (h3 : Finite x3)

include h0 h1 in
/-- The scaled scores. -/
theorem score_eq (i : S1x8x8192x8448.Idx) (h : Fin 8) (a : Fin 8192) (r : Fin 8448) (e1 : i 1 = h) (e2 : i 2 = a) (e3 : i 3 = r) :
    val_main_v2 (F := Ideal) x0 x1 i = (score c0 (head x0 h) (head x1 h) a r : ℝ) := by
  rw [val_main_v2_apply, val_main_v0_apply, val_main_v1_apply, val_main_cst_apply, Ideal.mulf_def, Ideal.ofBits_def, ofBits_c0, score,
    EReal.coe_mul, coe_sum]
  congr 1
  refine Finset.sum_congr rfl fun k _ => ?_
  rw [h0.coe_at (lidx_main_v0 i k) a h k e2 e1 rfl, h1.coe_at (ridx_main_v0 i k) r h k e3 e1 rfl, EReal.coe_mul]

/-- The largest score of a query, as a real number. -/
def top (x0 : Arr 8192 96) (x1 : Arr 8448 96) (h : Fin 8) (a : Fin 8192) : ℝ :=
  (val_main_v3 (F := Ideal) x0 x1 (ix3 0 h a)).toReal

theorem ix3_unit (i : S1x8x8192.Idx) (h : Fin 8) (a : Fin 8192) (e1 : i 1 = h) (e2 : i 2 = a) : i = ix3 0 h a := by
  funext b
  match b with
  | ⟨0, _⟩ => exact Subsingleton.elim (α := Fin 1) _ _
  | ⟨1, _⟩ => exact e1
  | ⟨2, _⟩ => exact e2

include h0 h1 in
/-- The largest score of a query is a real number. -/
theorem top_eq (i : S1x8x8192.Idx) (h : Fin 8) (a : Fin 8192) (e1 : i 1 = h) (e2 : i 2 = a) :
    val_main_v3 (F := Ideal) x0 x1 i = (top x0 x1 h a : EReal) := by
  obtain rfl := ix3_unit i h a e1 e2
  obtain ⟨x, hx⟩ : ∃ x : ℝ, val_main_v3 (F := Ideal) x0 x1 (ix3 0 h a) = (x : EReal) := by
    unfold val_main_v3
    rw [Host.reduce_eq_fold]
    have hs : (Finset.univ.filter fun j : S1x8x8192x8448.Idx =>
        (Gen.reducesTo_S1x8x8192x8448_S1x8x8192_d3 : S1x8x8192x8448.ReducesTo [3] S1x8x8192).drop j = ix3 0 h a).Nonempty :=
      ⟨ix4 0 h a 0, by
        simp only [Finset.mem_filter, Finset.mem_univ, true_and]
        funext b
        match b with
        | ⟨0, _⟩ => rfl
        | ⟨1, _⟩ => rfl
        | ⟨2, _⟩ => rfl⟩
    obtain ⟨x, hx⟩ := fold_max_coe _ hs fun j : S1x8x8192x8448.Idx => score c0 (head x0 (j 1)) (head x1 (j 1)) (j 2) (j 3)
    refine ⟨x, hx ▸ ?_⟩
    rw [show val_main_v2 (F := Ideal) x0 x1 = fun j => ((score c0 (head x0 (j 1)) (head x1 (j 1)) (j 2) (j 3) : ℝ) : EReal) from
      funext fun j => score_eq h0 h1 j _ _ _ rfl rfl rfl, val_main_cst_0_apply, Ideal.ofBits_def, ofBits_bot]
    rfl
  rw [top, hx, EReal.toReal_coe]

include h0 h1 in
/-- The exponentials of the scores less the largest. -/
theorem exp_eq (i : S1x8x8192x8448.Idx) (h : Fin 8) (a : Fin 8192) (r : Fin 8448) (e1 : i 1 = h) (e2 : i 2 = a) (e3 : i 3 = r) :
    val_main_v23 (F := Ideal) x0 x1 i = (Real.exp (score c0 (head x0 h) (head x1 h) a r - top x0 x1 h a) : ℝ) := by
  rw [val_main_v23_apply, val_main_v22_apply, val_main_v21_apply, val_main_v20_apply, val_main_v10_apply, val_main_v9_apply,
    val_main_cst_2_apply, score_eq h0 h1 i h a r e1 e2 e3, top_eq h0 h1 _ h a e1 e2, Ideal.ofBits_def, ofBits_bot,
    Ideal.maximumf_def, Ideal.subf_def, max_eq_right bot_le, ← EReal.coe_sub]
  exact exp_coe _

/-- The sum of a query's exponentials. -/
def den (x0 : Arr 8192 96) (x1 : Arr 8448 96) (h : Fin 8) (a : Fin 8192) : ℝ :=
  ∑ r, Real.exp (score c0 (head x0 h) (head x1 h) a r - top x0 x1 h a)

theorem den_pos (x0 : Arr 8192 96) (x1 : Arr 8448 96) (h : Fin 8) (a : Fin 8192) : 0 < den x0 x1 h a := sum_exp_pos _

include h0 h1 in
theorem den_eq (i : S1x8x8192.Idx) (h : Fin 8) (a : Fin 8192) (e1 : i 1 = h) (e2 : i 2 = a) :
    val_main_v24 (F := Ideal) x0 x1 i = (den x0 x1 h a : ℝ) := by
  rw [val_main_v24_apply, val_main_cst_8_apply, Ideal.ofBits_def, ofBits_zero, zero_add, den, coe_sum]
  exact Finset.sum_congr rfl fun k _ => exp_eq h0 h1 _ h a k e1 e2 rfl

/-- A weight is a query's exponential over the sum of them. -/
theorem weight_den (h : Fin 8) (a : Fin 8192) (r : Fin 8448) : weight c0 (head x0 h) (head x1 h) a r
    = Real.exp (score c0 (head x0 h) (head x1 h) a r - top x0 x1 h a) / den x0 x1 h a := (weight_shift c0 _ _ _ _ _).symm

include h0 h1 in
/-- The softmax weights. -/
theorem weight_eq (i : S1x8x8192x8448.Idx) (h : Fin 8) (a : Fin 8192) (r : Fin 8448) (e1 : i 1 = h) (e2 : i 2 = a) (e3 : i 3 = r) :
    val_main_v27 (F := Ideal) x0 x1 i = (weight c0 (head x0 h) (head x1 h) a r : ℝ) := by
  rw [val_main_v27_apply, val_main_v26_apply, val_main_v25_apply, exp_eq h0 h1 i h a r e1 e2 e3, den_eq h0 h1 _ h a e1 e2, weight_den]
  exact div_coe _ (den_pos _ _ _ _).ne'

include h0 h1 h2 in
/-- The forward pass's output. -/
theorem out_eq (i : S1x8192x8x64.Idx) (a : Fin 8192) (h : Fin 8) (e : Fin 64) (e1 : i 1 = a) (e2 : i 2 = h) (e3 : i 3 = e) :
    val_main_v32 (F := Ideal) x0 x1 x2 i = (out c0 (head x0 h) (head x1 h) (head x2 h) a e : ℝ) := by
  rw [val_main_v32_apply, val_main_v31_apply, out, coe_sum]
  refine Finset.sum_congr rfl fun k _ => ?_
  rw [weight_eq h0 h1 _ h a k e2 e1 rfl, h2.coe_at _ k h e rfl e2 e3, EReal.coe_mul]

include h2 h3 in
/-- The weights' cotangents. -/
theorem dweight_eq (i : S1x8x8192x8448.Idx) (h : Fin 8) (a : Fin 8192) (r : Fin 8448) (e1 : i 1 = h) (e2 : i 2 = a) (e3 : i 3 = r) :
    val_main_v34 (F := Ideal) x2 x3 i = (dweight (head x2 h) (head x3 h) a r : ℝ) := by
  rw [val_main_v34_apply, dweight, coe_sum]
  refine Finset.sum_congr rfl fun k _ => ?_
  rw [val_main_v33_apply, h3.coe_at _ a h k e2 e1 rfl, h2.coe_at _ r h k e3 e1 rfl, EReal.coe_mul]

include h0 h1 h2 h3 in
/-- The weighted sum of a query's weights' cotangents, over the sum of its exponentials. -/
theorem sum_eq (i : S1x8x8192.Idx) (h : Fin 8) (a : Fin 8192) (e1 : i 1 = h) (e2 : i 2 = a) :
    val_main_v40 (F := Ideal) x0 x1 x2 x3 i
      = ((∑ r, weight c0 (head x0 h) (head x1 h) a r * dweight (head x2 h) (head x3 h) a r) / den x0 x1 h a : ℝ) := by
  rw [val_main_v40_apply, val_main_cst_10_apply, Ideal.ofBits_def, ofBits_zero, zero_add, Finset.sum_div, coe_sum]
  refine Finset.sum_congr rfl fun k _ => ?_
  have hz := (den_pos x0 x1 h a).ne'
  rw [val_main_v39_apply, val_main_v38_apply, val_main_v37_apply, val_main_v30_apply, val_main_v29_apply, val_main_cst_9_apply,
    val_main_v28_apply, val_main_v25_apply, dweight_eq h2 h3 _ h a k e1 e2 rfl, exp_eq h0 h1 _ h a k e1 e2 rfl,
    den_eq h0 h1 (idx_main_v25 (idx_main_v37 (idx_main_v40 i k))) h a e1 e2, Ideal.ofBits_def, Ideal.ofBits_one_f32, Ideal.mulf_def, Ideal.mulf_def, Ideal.mulf_def, ← EReal.coe_mul,
    ← EReal.coe_one, show FloatOps.hostDivf (F := Ideal) (φ := .f32) ((1 : ℝ) : EReal) ((den x0 x1 h a * den x0 x1 h a : ℝ) : EReal)
      = ((1 / (den x0 x1 h a * den x0 x1 h a) : ℝ) : EReal) from div_coe 1 (mul_self_ne_zero.mpr hz), ← EReal.coe_mul, ← EReal.coe_mul,
    weight_den]
  congr 1
  field_simp

include h0 h1 h2 h3 in
/-- The unscaled scores' cotangents. -/
theorem dscore_eq (i : S1x8x8192x8448.Idx) (h : Fin 8) (a : Fin 8192) (r : Fin 8448) (e1 : i 1 = h) (e2 : i 2 = a) (e3 : i 3 = r) :
    val_main_v51 (F := Ideal) x0 x1 x2 x3 i = (dscore c0 (head x0 h) (head x1 h) (head x2 h) (head x3 h) a r : ℝ) := by
  have hsum : ∀ j : S8x8192.Idx, j 0 = h → j 1 = a →
      val_main_v45 (F := Ideal) x0 x1 x2 x3 j = -(val_main_v40 (F := Ideal) x0 x1 x2 x3 (ix3 0 h a)) := by
    intro j f0 f1
    have hd : ∀ k : S1x8x8192x1.Idx, (Gen.reducesTo_S1x8x8192x1_S8x8192_d0_3 : S1x8x8192x1.ReducesTo [0, 3] S8x8192).drop k = j
        ↔ k = ix4 0 h a 0 := by
      intro k
      constructor
      · rintro rfl
        funext b
        match b with
        | ⟨0, _⟩ => exact Subsingleton.elim (α := Fin 1) _ _
        | ⟨1, _⟩ => exact f0
        | ⟨2, _⟩ => exact f1
        | ⟨3, _⟩ => exact Subsingleton.elim (α := Fin 1) _ _
      · rintro rfl
        funext b
        match b with
        | ⟨0, _⟩ => exact f0.symm
        | ⟨1, _⟩ => exact f1.symm
    unfold val_main_v45
    show Ideal.hostReduceAdd _ _ _ _ = _
    unfold Ideal.hostReduceAdd
    rw [val_main_cst_11_apply, Ideal.ofBits_def, ofBits_zero, zero_add, Finset.filter_congr fun k _ => hd k, Finset.filter_eq',
      if_pos (Finset.mem_univ _), Finset.sum_singleton, val_main_v42_apply, val_main_v41_apply, Ideal.hostNegf_def, Ideal.negf_def]
    congr 2
    refine ix3_unit _ h a (Fin.ext ?_) (Fin.ext ?_)
    · show (((0 * 8 + h.val) * 8192 + a.val) * 1 + 0) / 8192 % 8 = h.val
      omega
    · show (((0 * 8 + h.val) * 8192 + a.val) * 1 + 0) % 8192 = a.val
      omega
  have hz := (den_pos x0 x1 h a).ne'
  rw [val_main_v51_apply, val_main_v50_apply, val_main_cst_12_apply, val_main_v49_apply, val_main_v48_apply, val_main_v47_apply,
    val_main_v46_apply, hsum _ e1 e2, sum_eq h0 h1 h2 h3 _ h a rfl rfl, val_main_v44_apply, val_main_v43_apply, val_main_v25_apply,
    dweight_eq h2 h3 i h a r e1 e2 e3, exp_eq h0 h1 i h a r e1 e2 e3, den_eq h0 h1 _ h a e1 e2, Ideal.ofBits_def, ofBits_c0,
    Ideal.mulf_def, Ideal.mulf_def, Ideal.addf_def, ← EReal.coe_neg,
    show FloatOps.hostDivf (F := Ideal) (φ := .f32) ((dweight (head x2 h) (head x3 h) a r : ℝ) : EReal) ((den x0 x1 h a : ℝ) : EReal)
      = ((dweight (head x2 h) (head x3 h) a r / den x0 x1 h a : ℝ) : EReal) from div_coe _ hz,
    ← EReal.coe_add, ← EReal.coe_mul, ← EReal.coe_mul, dscore]
  congr 1
  generalize (∑ r', weight c0 (head x0 h) (head x1 h) a r' * dweight (head x2 h) (head x3 h) a r') = S
  rw [weight_den]
  field_simp
  ring

include h0 h1 h2 h3 in
/-- The reference's first result: the gradient of the queries, in the padded layout. -/
theorem dQ_eq : val_main_v58 (F := Ideal) x0 x1 x2 x3 = slots fun h => dQ c0 (head x0 h) (head x1 h) (head x2 h) (head x3 h) := by
  have hv : ∀ (i : S1x8192x8x96.Idx) (a : Fin 8192) (h : Fin 8) (d : Fin 96), i 1 = a → i 2 = h → i 3 = d →
      val_main_v55 (F := Ideal) x0 x1 x2 x3 i = (dQ c0 (head x0 h) (head x1 h) (head x2 h) (head x3 h) a d : ℝ) := by
    intro i a h d e1 e2 e3
    rw [val_main_v55_apply, val_main_v54_apply, dQ, coe_sum]
    refine Finset.sum_congr rfl fun k _ => ?_
    rw [dscore_eq h0 h1 h2 h3 _ h a k e2 e1 rfl, h1.coe_at _ k h d rfl e2 e3, EReal.coe_mul]
  have hf : Finite (n := 8192) (w := 96) (val_main_v55 (F := Ideal) x0 x1 x2 x3) := fun i => by
    rw [hv i _ _ _ rfl rfl rfl]
    exact ⟨EReal.coe_ne_top _, EReal.coe_ne_bot _⟩
  have hg : head (n := 8192) (w := 96) (val_main_v55 (F := Ideal) x0 x1 x2 x3) = fun h => dQ c0 (head x0 h) (head x1 h) (head x2 h) (head x3 h) := by
    funext h a d
    rw [head, hv _ a h d rfl rfl rfl, EReal.toReal_coe]
  rw [← hg]
  exact slots_apply (p := 32) hf (val_main_v56 (F := Ideal) x0 x1 x2 x3) (fun i => dropBatch_apply _ _ i) (val_main_call0_v0 (F := Ideal))
    (by norm_num) _ _ (sitofp_zero (φ := .f32)) _

include h0 h1 h2 h3 in
/-- The reference's second result: the gradient of the keys, in the padded layout. -/
theorem dK_eq : val_main_v61 (F := Ideal) x0 x1 x2 x3 = slots fun h => dK c0 (head x0 h) (head x1 h) (head x2 h) (head x3 h) := by
  have hv : ∀ (i : S1x8448x8x96.Idx) (a : Fin 8448) (h : Fin 8) (d : Fin 96), i 1 = a → i 2 = h → i 3 = d →
      val_main_v53 (F := Ideal) x0 x1 x2 x3 i = (dK c0 (head x0 h) (head x1 h) (head x2 h) (head x3 h) a d : ℝ) := by
    intro i a h d e1 e2 e3
    rw [val_main_v53_apply, val_main_v52_apply, dK, coe_sum]
    refine Finset.sum_congr rfl fun k _ => ?_
    rw [dscore_eq h0 h1 h2 h3 _ h k a e2 rfl e1, h0.coe_at _ k h d rfl e2 e3, EReal.coe_mul]
  have hf : Finite (n := 8448) (w := 96) (val_main_v53 (F := Ideal) x0 x1 x2 x3) := fun i => by
    rw [hv i _ _ _ rfl rfl rfl]
    exact ⟨EReal.coe_ne_top _, EReal.coe_ne_bot _⟩
  have hg : head (n := 8448) (w := 96) (val_main_v53 (F := Ideal) x0 x1 x2 x3) = fun h => dK c0 (head x0 h) (head x1 h) (head x2 h) (head x3 h) := by
    funext h a d
    rw [head, hv _ a h d rfl rfl rfl, EReal.toReal_coe]
  rw [← hg]
  exact slots_apply (p := 32) hf (val_main_v59 (F := Ideal) x0 x1 x2 x3) (fun i => dropBatch_apply _ _ i) (val_main_call1_v0 (F := Ideal))
    (by norm_num) _ _ (sitofp_zero (φ := .f32)) _

include h0 h1 h3 in
/-- The reference's third result: the gradient of the values, in the padded layout. -/
theorem dV_eq : val_main_v64 (F := Ideal) x0 x1 x3 = slots fun h => dV c0 (head x0 h) (head x1 h) (head x3 h) := by
  have hv : ∀ (i : S1x8448x8x64.Idx) (a : Fin 8448) (h : Fin 8) (d : Fin 64), i 1 = a → i 2 = h → i 3 = d →
      val_main_v36 (F := Ideal) x0 x1 x3 i = (dV c0 (head x0 h) (head x1 h) (head x3 h) a d : ℝ) := by
    intro i a h d e1 e2 e3
    rw [val_main_v36_apply, val_main_v35_apply, dV, coe_sum]
    refine Finset.sum_congr rfl fun k _ => ?_
    rw [val_main_v33_apply, h3.coe_at _ k h d rfl e2 e3, weight_eq h0 h1 _ h k a e2 rfl e1, EReal.coe_mul]
  have hf : Finite (n := 8448) (w := 64) (val_main_v36 (F := Ideal) x0 x1 x3) := fun i => by
    rw [hv i _ _ _ rfl rfl rfl]
    exact ⟨EReal.coe_ne_top _, EReal.coe_ne_bot _⟩
  have hg : head (n := 8448) (w := 64) (val_main_v36 (F := Ideal) x0 x1 x3) = fun h => dV c0 (head x0 h) (head x1 h) (head x3 h) := by
    funext h a d
    rw [head, hv _ a h d rfl rfl rfl, EReal.toReal_coe]
  rw [← hg]
  exact slots_apply (p := 64) hf (val_main_v62 (F := Ideal) x0 x1 x3) (fun i => dropBatch_apply _ _ i) (val_main_call2_v0 (F := Ideal))
    (by norm_num) _ _ (sitofp_zero (φ := .f32)) _

end Cert.Attn.Ref
-- ==== Proof.Attn.Host.lean ====
/-
  The arrays the kernel's blocks are cut from, over the extended reals, for arguments holding no infinity: the padded
  layouts of the arguments and of the forward pass's output, and the saved logarithms.
-/
module

public import proofs.«01_k».proof.Proof.Attn.Ref
public import proofs.«01_k».proof.Proof.Gen.KernelIdeal.Frame
public import Idealize.ShloMosaic.Lib.StableHlo.RunRead

@[expose] public section

set_option maxRecDepth 16384

noncomputable section

namespace Cert.Attn.Host

open Idealize.ShloMosaic Idealize.ShloMosaic.TcCoe Idealize.ShloMosaic.Tactic Cert.KernelIdeal Cert.KernelIdeal.Gen Cert.Attn Idealize.ShloMosaic.StableHlo
open Cert.Attn.Ref (c0)

variable (m : (ℓ : Loc nD τ sig) → Buf (Elt Ideal) ℓ) (c : Dev nD)

/-- The arguments a device holds. -/
abbrev X0 : Arr 8192 96 := m ((c : Thread nD τ).loc main_arg0)
abbrev X1 : Arr 8448 96 := m ((c : Thread nD τ).loc main_arg1)
abbrev X2 : Arr 8448 64 := m ((c : Thread nD τ).loc main_arg2)
abbrev X3 : Arr 8192 64 := m ((c : Thread nD τ).loc main_arg3)

variable (h0 : Finite (X0 m c)) (h1 : Finite (X1 m c)) (h2 : Finite (X2 m c)) (h3 : Finite (X3 m c))

/-- The padding value. -/
abbrev zeroPad : FVec Ideal S_ .f32 := sitofp .f32 (constantI S_ 32 0#32)

include h0 in
theorem q_eq : V (F := Ideal) m c main_v34 = slots (head (X0 m c)) := by
  unfold V
  after_reads_simp
  exact slots_apply (p := 32) h0 _ (fun i => dropBatch_apply (X0 m c) shapeCasts_S1x8192x8x96_S8192x8x96 i) zeroPad
    (by norm_num) pads_S8192x8x96_S8192x8x128_000_000_0320 h_S_ (sitofp_zero (φ := .f32)) shapeCasts_S8192x8x128_S8192x1024

include h1 in
theorem k_eq : V (F := Ideal) m c main_v38 = slots (head (X1 m c)) := by
  unfold V
  after_reads_simp
  exact slots_apply (p := 32) h1 _ (fun i => dropBatch_apply (X1 m c) shapeCasts_S1x8448x8x96_S8448x8x96 i) zeroPad
    (by norm_num) pads_S8448x8x96_S8448x8x128_000_000_0320 h_S_ (sitofp_zero (φ := .f32)) shapeCasts_S8448x8x128_S8448x1024

include h2 in
theorem v_eq : V (F := Ideal) m c main_v42 = slots (head (X2 m c)) := by
  unfold V
  after_reads_simp
  exact slots_apply (p := 64) h2 _ (fun i => dropBatch_apply (X2 m c) shapeCasts_S1x8448x8x64_S8448x8x64 i) zeroPad
    (by norm_num) pads_S8448x8x64_S8448x8x128_000_000_0640 h_S_ (sitofp_zero (φ := .f32)) shapeCasts_S8448x8x128_S8448x1024

include h3 in
theorem ct_eq : V (F := Ideal) m c main_v49 = slots (head (X3 m c)) := by
  unfold V
  after_reads_simp
  exact slots_apply (p := 64) h3 _ (fun i => dropBatch_apply (X3 m c) shapeCasts_S1x8192x8x64_S8192x8x64 i) zeroPad
    (by norm_num) pads_S8192x8x64_S8192x8x128_000_000_0640 h_S_ (sitofp_zero (φ := .f32)) shapeCasts_S8192x8x128_S8192x1024

include h0 h1 h2 in
theorem o_eq : V (F := Ideal) m c main_v46 = slots fun h => out c0 (head (X0 m c) h) (head (X1 m c) h) (head (X2 m c) h) := by
  have hf : Finite (n := 8192) (w := 64) (Cert.ReferenceIdeal.Read.val_main_v32 (F := Ideal) (X0 m c) (X1 m c) (X2 m c)) := fun i => by
    rw [Ref.out_eq h0 h1 h2 i _ _ _ rfl rfl rfl]
    exact ⟨EReal.coe_ne_top _, EReal.coe_ne_bot _⟩
  have hg : head (n := 8192) (w := 64) (Cert.ReferenceIdeal.Read.val_main_v32 (F := Ideal) (X0 m c) (X1 m c) (X2 m c))
      = fun h => out c0 (head (X0 m c) h) (head (X1 m c) h) (head (X2 m c) h) := by
    funext h a e
    rw [head, Ref.out_eq h0 h1 h2 _ a h e rfl rfl rfl, EReal.toReal_coe]
  rw [← hg]
  unfold V
  after_reads_simp
  exact slots_apply (p := 64) hf _ (fun i => dropBatch_apply (Cert.ReferenceIdeal.Read.val_main_v32 (F := Ideal) (X0 m c) (X1 m c) (X2 m c)) shapeCasts_S1x8192x8x64_S8192x8x64 i) zeroPad
    (by norm_num) pads_S8192x8x64_S8192x8x128_000_000_0640 h_S_ (sitofp_zero (φ := .f32)) shapeCasts_S8192x8x128_S8192x1024

/-- A row per head and query, broadcast over the eight sublanes, read at an index. -/
theorem sublanes_apply (x : FVec Ideal S1x8x8192 .f32) (h s : Fin 8) (a : Fin 8192) :
    broadcastInDim S8x8x8192 ![0, 1, 2] bcast_S8x1x8192_S8x8x8192_0_1_2
      (broadcastInDim S8x1x8192 ![0, 2] bcast_S8x8192_S8x1x8192_0_2 (shapeCast S8x8192 x shapeCasts_S1x8x8192_S8x8192)) (ix3 h s a)
      = x (ix3 0 h a) := by
  have hb : broadcastInDim S8x8x8192 ![0, 1, 2] bcast_S8x1x8192_S8x8x8192_0_1_2
      (broadcastInDim S8x1x8192 ![0, 2] bcast_S8x8192_S8x1x8192_0_2 (shapeCast S8x8192 x shapeCasts_S1x8x8192_S8x8192)) (ix3 h s a)
      = shapeCast S8x8192 x shapeCasts_S1x8x8192_S8x8192 (ix2 h a) := by
    generalize shapeCast S8x8192 x shapeCasts_S1x8x8192_S8x8192 = y
    pointwise
  rw [hb]
  exact shapeCast_apply x _ (ix2 h a) (ix3 0 h a) (by
    rw [Shape.rowMajor_val_three, Shape.rowMajor_val_two]
    show (0 * 8 + h.val) * 8192 + a.val = h.val * 8192 + a.val
    omega)

/-- The saved logarithms as the host computes them, one per head and query, `t` being subtracted from the scores under the exponential. -/
def lseOf (x0 : Arr 8192 96) (x1 : Arr 8448 96) (t : FVec Ideal S1x8x8192 .f32) : FVec Ideal S1x8x8192 .f32 :=
  Host.divf
    (addf (Cert.ReferenceIdeal.Read.val_main_v3 (F := Ideal) x0 x1)
      (Host.log (Host.reduceAdd
        (Host.exp (subf (Cert.ReferenceIdeal.Read.val_main_v2 (F := Ideal) x0 x1)
          (broadcastInDim S1x8x8192x8448 ![0, 1, 2, 3] bcast_S1x8x8192x1_S1x8x8192x8448_0_1_2_3
            (broadcastInDim S1x8x8192x1 ![0, 1, 2] bcast_S1x8x8192_S1x8x8192x1_0_1_2 t))))
        (constant S_ .f32 0x00000000#32) reducesTo_S1x8x8192x8448_S1x8x8192_d3 h_S_)))
    (broadcastInDim S1x8x8192 ![] bcast_S_S1x8x8192 (Host.log (constant S_ .f32 0x40000000#32)))

theorem lseOf_eq (x0 : Arr 8192 96) (x1 : Arr 8448 96) : lseOf x0 x1 (Cert.ReferenceIdeal.Read.val_main_v10 (F := Ideal) x0 x1)
    = Host.divf (addf (Cert.ReferenceIdeal.Read.val_main_v3 (F := Ideal) x0 x1) (Host.log (Cert.ReferenceIdeal.Read.val_main_v24 (F := Ideal) x0 x1)))
      (broadcastInDim S1x8x8192 ![] bcast_S_S1x8x8192 (Host.log (constant S_ .f32 0x40000000#32))) := rfl

theorem quot_apply (x y : FVec Ideal S1x8x8192 .f32) (i : S1x8x8192.Idx) :
    Host.divf (addf x (Host.log y)) (broadcastInDim S1x8x8192 ![] bcast_S_S1x8x8192 (Host.log (constant S_ .f32 0x40000000#32))) i
      = Ideal.div (x i + Ideal.log (y i)) (Ideal.log (Ideal.ofBits .f32 0x40000000#32)) := rfl

/-- The saved logarithm, base two, of the sum of a query's exponentials. -/
def lse (x0 : Arr 8192 96) (x1 : Arr 8448 96) (h : Fin 8) (a : Fin 8192) : ℝ :=
  (Ref.top x0 x1 h a + Real.log (Ref.den x0 x1 h a)) / Real.log 2

include h0 h1 in
theorem lse_eq (h s : Fin 8) (a : Fin 8192) : (V (F := Ideal) m c main_v30 : FVec Ideal S8x8x8192 .f32) (ix3 h s a) = ((lse (X0 m c) (X1 m c) h a : ℝ) : EReal) := by
  have hv : V (F := Ideal) m c main_v30 = broadcastInDim S8x8x8192 ![0, 1, 2] bcast_S8x1x8192_S8x8x8192_0_1_2
      (broadcastInDim S8x1x8192 ![0, 2] bcast_S8x8192_S8x1x8192_0_2 (shapeCast S8x8192
        (lseOf (X0 m c) (X1 m c) (Cert.ReferenceIdeal.Read.val_main_v3 (F := Ideal) (X0 m c) (X1 m c))) shapeCasts_S1x8x8192_S8x8192)) := by
    unfold V
    after_reads_simp
    rfl
  have ht : Cert.ReferenceIdeal.Read.val_main_v3 (F := Ideal) (X0 m c) (X1 m c) = Cert.ReferenceIdeal.Read.val_main_v10 (F := Ideal) (X0 m c) (X1 m c) := by
    funext i
    rw [Cert.ReferenceIdeal.Read.val_main_v10_apply, Cert.ReferenceIdeal.Read.val_main_v9_apply, Cert.ReferenceIdeal.Read.val_main_cst_2_apply,
      Ideal.ofBits_def, Ref.ofBits_bot, Ideal.maximumf_def, max_eq_right bot_le]
  rw [ht] at hv
  rw [hv]
  have h2 : Ideal.ofBits .f32 0x40000000#32 = ((2 : ℝ) : EReal) := by
    simp [Ideal.ofBits, Ideal.ieee, -EReal.coe_mul]
    try norm_num
  rw [sublanes_apply, lseOf_eq, quot_apply, Ref.top_eq h0 h1 _ h a rfl rfl, Ref.den_eq h0 h1 _ h a rfl rfl, h2, log_coe (Ref.den_pos _ _ _ _),
    log_coe (by norm_num), ← EReal.coe_add, div_coe _ (Real.log_pos (by norm_num)).ne']
  rfl

end Cert.Attn.Host
-- ==== Proof.Attn.Block.lean ====
/-
  What one sub-block of 256 keys computes over the extended reals: the weights, the scores' cotangents, and what they
  add to the three gradients.
-/
module

public import proofs.«01_k».proof.Proof.Gen.KernelIdeal.Skeleton
public import Idealize.ShloMosaic.Lib.Pointwise
public import Idealize.ShloMosaic.Lib.Pipeline.ReadBack

@[expose] public section

noncomputable section

namespace Cert.Attn.Block

open Idealize.ShloMosaic Cert.KernelIdeal Cert.KernelIdeal.Gen

/-- The factor of the raw product inside the power of two. -/
def kap : EReal := Named.named (F := Ideal) (φ := .f32) κ "scale_log2e" 0x3E16C740#32

/-- The factor of the scores. -/
def scl : EReal := Ideal.ofBits .f32 0x3DD105EC#32

/-- The weight of key `r` for query `a`, from the saved base-two logarithms `l`. -/
def wgt {n : ℕ} (q : Vec Ideal S2048x128 .bf16) (k : (⟨2, ![n, 128]⟩ : Shape).Idx → EReal) (l : Fin 2048 → EReal) (r : Fin n) (a : Fin 2048) : EReal :=
  Ideal.exp2 ((∑ d : Fin 128, k (ix2 r d) * q (ix2 a d)) * kap - l a)

/-- A query's sum of cotangent times output. -/
def dl (ct : Vec Ideal S2048x128 .f32) (o : Vec Ideal S2048x128 .bf16) (a : Fin 2048) : EReal :=
  ∑ e : Fin 128, ct (ix2 a e) * o (ix2 a e)

/-- The cotangent of the raw product of key `r` and query `a`. -/
def dsc {n : ℕ} (q : Vec Ideal S2048x128 .bf16) (k v : (⟨2, ![n, 128]⟩ : Shape).Idx → EReal) (ct : Vec Ideal S2048x128 .f32)
    (o : Vec Ideal S2048x128 .bf16) (l : Fin 2048 → EReal) (r : Fin n) (a : Fin 2048) : EReal :=
  wgt q k l r a * ((∑ e : Fin 128, v (ix2 r e) * ct (ix2 a e)) - dl ct o a) * scl

theorem pay8 (q : Vec Ideal S2048x128 .bf16) (a : Fin 2048) (d : Fin 128) : k0_pay8 (F := Ideal) q (ix2 a d) = q (ix2 a d) := by
  pointwise [k0_pay8]

theorem pay10 (ct : Vec Ideal S2048x128 .f32) (a : Fin 2048) (d : Fin 128) : k0_pay10 (F := Ideal) ct (ix2 a d) = ct (ix2 a d) := by
  pointwise [k0_pay10, k0_pay9]

theorem pay14 (q : Vec Ideal S2048x128 .bf16) (l : Vec Ideal S1x1x2048 .f32) (kb : Vec Ideal S256x128 .bf16) (r : Fin 256) (a : Fin 2048) :
    k0_pay14 (F := Ideal) q l kb (ix2 r a) = wgt q kb (fun a => l (ix3 0 0 a)) r a := by
  pointwise [k0_pay14, k0_pay13, k0_pay8, k0_pay11]
  rfl

theorem pay12 (ct : Vec Ideal S2048x128 .f32) (o : Vec Ideal S2048x128 .bf16) (z : Fin 1) (a : Fin 2048) :
    k0_pay12 (F := Ideal) ct o (ix2 z a) = dl ct o a := by
  pointwise [k0_pay12, k0_pay9]
  rfl

theorem pay15 (ct : Vec Ideal S2048x128 .f32) (vb : Vec Ideal S256x128 .bf16) (r : Fin 256) (a : Fin 2048) :
    k0_pay15 (F := Ideal) ct vb (ix2 r a) = ∑ e : Fin 128, vb (ix2 r e) * ct (ix2 a e) := by
  pointwise [k0_pay15, k0_pay10, k0_pay9]

theorem pay16 (D : FVec Ideal S1x2048 .f32) (P V : FVec Ideal S256x2048 .f32) (r : Fin 256) (a : Fin 2048) :
    k0_pay16 (F := Ideal) D P V (ix2 r a) = P (ix2 r a) * (V (ix2 r a) - D (ix2 0 a)) * scl := by
  pointwise [k0_pay16]
  rfl

theorem pay17 (ct : FVec Ideal S2048x128 .bf16) (P : FVec Ideal S256x2048 .f32) (old : Vec Ideal S256x128 .f32) (r : Fin 256) (e : Fin 128) :
    k0_pay17 (F := Ideal) ct P old (ix2 r e) = old (ix2 r e) + ∑ a : Fin 2048, P (ix2 r a) * ct (ix2 a e) := by
  pointwise [k0_pay17]

theorem pay18 (q : FVec Ideal S2048x128 .bf16) (D : FVec Ideal S1x2048 .f32) (P V : FVec Ideal S256x2048 .f32) (old : Vec Ideal S256x128 .f32)
    (r : Fin 256) (e : Fin 128) :
    k0_pay18 (F := Ideal) q D P V old (ix2 r e) = old (ix2 r e) + ∑ a : Fin 2048, k0_pay16 (F := Ideal) D P V (ix2 r a) * q (ix2 a e) := by
  pointwise [k0_pay18]

theorem pay19 (D : FVec Ideal S1x2048 .f32) (kb : FVec Ideal S256x128 .bf16) (P V : FVec Ideal S256x2048 .f32) (d : Fin 128) (a : Fin 2048) :
    k0_pay19 (F := Ideal) D kb P V (ix2 d a) = ∑ r : Fin 256, kb (ix2 r d) * k0_pay16 (F := Ideal) D P V (ix2 r a) := by
  pointwise [k0_pay19]

/-! ## A block of 2816 keys, eleven sub-blocks of 256 rows -/

variable (q : Vec Ideal S2048x128 .bf16) (k v : Vec Ideal S2816x128 .bf16) (ct : Vec Ideal S2048x128 .f32) (o : Vec Ideal S2048x128 .bf16)

/-- The values' gradient of the key block after one query block, from what it was. -/
def dvG (l : Fin 2048 → EReal) (old : Vec Ideal S2816x128 .f32) (y : S2816x128.Idx) : EReal :=
  old y + ∑ a : Fin 2048, wgt q k l (y 0) a * ct (ix2 a (y 1))

/-- The keys' gradient of the key block after one query block, from what it was. -/
def dkG (l : Fin 2048 → EReal) (old : Vec Ideal S2816x128 .f32) (y : S2816x128.Idx) : EReal :=
  old y + ∑ a : Fin 2048, dsc q k v ct o l (y 0) a * q (ix2 a (y 1))

/-- What the key block adds to the queries' gradient, lane `d` of query `a`. -/
def dqG (l : Fin 2048 → EReal) (d : Fin 128) (a : Fin 2048) : EReal :=
  ∑ r : Fin 2816, k (ix2 r d) * dsc q k v ct o l r a

/-- Rows `off` to `off + 255` lie in the block. -/
abbrev InB (off : ℕ) : Prop := ∀ a, (![off, 0] : Fin 2 → ℕ) a + S256x128.size a ≤ S2816x128.size a

/-- The rectangle of 256 rows from row `off`. -/
abbrev rows (off : ℕ) (inb : InB off) : Rect S2816x128 :=
  Rect.unit (s := S2816x128) ![off, 0] S256x128.size inb

theorem rows_emb (off : ℕ) (inb : InB off) (r : Fin 256) (d : Fin 128) (h : off + r.val < 2816) :
    (rows off inb).emb (ix2 r d) = ix2 (⟨off + r.val, h⟩ : Fin 2816) d := by
  funext a
  match a with
  | ⟨0, _⟩ => exact Fin.ext (by show off + 1 * r.val = off + r.val; omega)
  | ⟨1, _⟩ => exact Fin.ext (by show 0 + 1 * d.val = d.val; omega)

theorem rows_lt {off : ℕ} (inb : InB off) (r : Fin 256) : off + r.val < 2816 := by
  have h : off + 256 ≤ 2816 := inb 0
  omega

/-- The 256 rows from row `off` of a block. -/
def sub (x : Vec Ideal S2816x128 .bf16) (off : ℕ) (inb : InB off) : Vec Ideal S256x128 .bf16 := View.ld (Val := Elt Ideal) (e' := .bf16) x (rows off inb)

theorem sub_apply (x : Vec Ideal S2816x128 .bf16) (off : ℕ) (inb : InB off) (r : Fin 256) (d : Fin 128) :
    sub x off inb (ix2 r d) = x (ix2 ⟨off + r.val, rows_lt inb r⟩ d) :=
  congrArg x (rows_emb off inb r d (rows_lt inb r))

theorem wgt_sub (l : Fin 2048 → EReal) (off : ℕ) (inb : InB off) (r : Fin 256) (a : Fin 2048) :
    wgt q (sub k off inb) l r a = wgt q k l ⟨off + r.val, rows_lt inb r⟩ a := by
  unfold wgt
  exact congrArg (fun z => Ideal.exp2 (z * kap - l a)) (Finset.sum_congr rfl fun d _ => congrArg (· * _) (sub_apply k off inb r d))

theorem dsc_sub (l : Fin 2048 → EReal) (off : ℕ) (inb : InB off) (r : Fin 256) (a : Fin 2048) :
    dsc q (sub k off inb) (sub v off inb) ct o l r a = dsc q k v ct o l ⟨off + r.val, rows_lt inb r⟩ a := by
  unfold dsc
  rw [wgt_sub]
  exact congrArg (fun z => wgt q k l _ a * (z - dl ct o a) * scl) (Finset.sum_congr rfl fun e _ => congrArg (· * _) (sub_apply v off inb r e))

/-- A sub-block's scores' cotangents. -/
theorem dsc_pay (l : Vec Ideal S1x1x2048 .f32) (kb vb : Vec Ideal S256x128 .bf16) (r : Fin 256) (a : Fin 2048) :
    k0_pay16 (F := Ideal) (k0_pay12 ct o) (k0_pay14 q l kb) (k0_pay15 ct vb) (ix2 r a) = dsc q kb vb ct o (fun a => l (ix3 0 0 a)) r a := by
  rw [pay16, pay12, pay14, pay15]
  rfl

/-- A sub-block's rows of the values' gradient. -/
theorem dv_piece (l : Vec Ideal S1x1x2048 .f32) (old : Vec Ideal S2816x128 .f32) (off : ℕ) (inb : InB off) (z : Vec Ideal S256x128 .f32)
    (hz : z = View.ld (Val := Elt Ideal) (e' := .f32) old (rows off inb)) (x : S256x128.Idx) :
    k0_pay17 (F := Ideal) (k0_pay10 ct) (k0_pay14 q l (sub k off inb)) z x
      = dvG q k ct (fun a => l (ix3 0 0 a)) old ((rows off inb).emb x) := by
  subst hz
  obtain ⟨r, d, rfl⟩ : ∃ (r : Fin 256) (d : Fin 128), x = ix2 r d := ⟨_, _, eq_ix2 x⟩
  rw [pay17, dvG, rows_emb off inb _ _ (rows_lt inb r)]
  refine congrArg₂ (· + ·) (congrArg old (rows_emb off inb _ _ (rows_lt inb r))) (Finset.sum_congr rfl fun a _ => ?_)
  rw [pay14, wgt_sub, pay10]
  rfl

/-- A sub-block's rows of the keys' gradient. -/
theorem dk_piece (l : Vec Ideal S1x1x2048 .f32) (old : Vec Ideal S2816x128 .f32) (off : ℕ) (inb : InB off) (z : Vec Ideal S256x128 .f32)
    (hz : z = View.ld (Val := Elt Ideal) (e' := .f32) old (rows off inb)) (x : S256x128.Idx) :
    k0_pay18 (F := Ideal) (k0_pay8 q) (k0_pay12 ct o) (k0_pay14 q l (sub k off inb)) (k0_pay15 ct (sub v off inb)) z x
      = dkG q k v ct o (fun a => l (ix3 0 0 a)) old ((rows off inb).emb x) := by
  subst hz
  obtain ⟨r, d, rfl⟩ : ∃ (r : Fin 256) (d : Fin 128), x = ix2 r d := ⟨_, _, eq_ix2 x⟩
  rw [pay18, dkG, rows_emb off inb _ _ (rows_lt inb r)]
  refine congrArg₂ (· + ·) (congrArg old (rows_emb off inb _ _ (rows_lt inb r))) (Finset.sum_congr rfl fun a _ => ?_)
  rw [dsc_pay, dsc_sub, pay8]
  rfl

/-- The writes so far: the first `n` sub-blocks hold `G`, the rows after them what was there before. -/
def Acc (G old : S2816x128.Idx → EReal) (n : ℕ) (L : List (View.Piece (Elt Ideal) S2816x128 .f32)) : Prop :=
  ∀ y : S2816x128.Idx, View.canon L y = if (y 0).val < 256 * n then G y else old y

/-- A fill of the whole block, before any sub-block. -/
theorem Acc.fill (G old : S2816x128.Idx → EReal) (off : Fin 2 → ℕ) (hoff : off = fun _ => 0) (inb) :
    Acc G old 0 [⟨Rect.unit (s := S2816x128) off S2816x128.size inb, old⟩] := fun y => by
  rw [View.canon_cons_unit_zero hoff, if_neg (by omega)]

/-- One more sub-block, whose payload reads its rows as they were before. -/
theorem Acc.step {G old : S2816x128.Idx → EReal} {n : ℕ} {L : List (View.Piece (Elt Ideal) S2816x128 .f32)} (h : Acc G old n L) (off : ℕ)
    (hn : off = 256 * n) (inb : InB off) (w : S256x128.Idx → EReal) {sig : RefSig} {κ : Kind} {sp : Space} (V : View sig κ sp S2816x128 .f32)
    (hw : V.readCov (Val := Elt Ideal) L (rows off inb).toLoadRect = View.ld (Val := Elt Ideal) (e' := .f32) old (rows off inb) →
      ∀ x, w x = G ((rows off inb).emb x)) : Acc G old (n + 1) (⟨rows off inb, w⟩ :: L) := by
  have hread : V.readCov (Val := Elt Ideal) L (rows off inb).toLoadRect = View.ld (Val := Elt Ideal) (e' := .f32) old (rows off inb) := by
    rw [View.readCov_eq_canon']
    funext j
    have e := h ((rows off inb).emb j)
    rw [if_neg (by show ¬(off + 1 * (j 0).val < 256 * n); omega)] at e
    exact e
  have hG := hw hread
  intro y
  by_cases hm : y ∈ (rows off inb).set
  · obtain ⟨x, rfl⟩ := (rows off inb).exists_idx_of_mem hm
    have hx : (x 0).val < 256 := (x 0).isLt
    refine (View.canon_cons_emb _ w L x).trans ((hG x).trans ?_)
    exact (if_pos (by show off + 1 * (x 0).val < 256 * (n + 1); omega)).symm
  · rw [View.canon_cons_of_not_mem ⟨rows off inb, w⟩ L hm, h y]
    have hy0 : ¬(256 * n ≤ (y 0).val ∧ (y 0).val < 256 * (n + 1)) := fun hc => hm (by
      have e : y = (rows off inb).emb (ix2 (⟨(y 0).val - off, by omega⟩ : Fin 256) (y 1)) := by
        funext a
        match a with
        | ⟨0, _⟩ => exact Fin.ext (by show (y 0).val = off + 1 * ((y 0).val - off); omega)
        | ⟨1, _⟩ => exact Fin.ext (by show (y 1).val = 0 + 1 * (y 1).val; omega)
      rw [e]
      exact (rows off inb).idx_mem _)
    by_cases hlt : (y 0).val < 256 * n
    · rw [if_pos hlt, if_pos (by omega)]
    · rw [if_neg hlt, if_neg (by omega)]

/-- After eleven sub-blocks the whole block holds `G`. -/
theorem Acc.done {G old : S2816x128.Idx → EReal} {L : List (View.Piece (Elt Ideal) S2816x128 .f32)} (h : Acc G old 11 L) : View.canon L = G :=
  funext fun y => (h y).trans (if_pos (show (y 0).val < 2816 from (y 0).isLt))

/-- A sub-block's part of the queries' gradient. -/
def part (l : Vec Ideal S1x1x2048 .f32) (off : ℕ) (inb : InB off) : FVec Ideal S128x2048 .f32 :=
  k0_pay19 (F := Ideal) (k0_pay12 ct o) (k0_pay13 (sub k off inb)) (k0_pay14 q l (sub k off inb)) (k0_pay15 ct (sub v off inb))

theorem part_apply (l : Vec Ideal S1x1x2048 .f32) (off : ℕ) (inb : InB off) (d : Fin 128) (a : Fin 2048) : part q k v ct o l off inb (ix2 d a)
    = ∑ r : Fin 256, k (ix2 ⟨off + r.val, rows_lt inb r⟩ d) * dsc q k v ct o (fun a => l (ix3 0 0 a)) ⟨off + r.val, rows_lt inb r⟩ a := by
  rw [part, pay19]
  refine Finset.sum_congr rfl fun r _ => ?_
  rw [dsc_pay, dsc_sub]
  refine congrArg (· * _) ?_
  pointwise [k0_pay13]
  exact sub_apply _ _ _ _ _

/-- A sum over the block's keys, sub-block by sub-block. -/
theorem sum_keys (f : ℕ → EReal) : (∑ r : Fin 2816, f r.val)
    = (((((((((((∑ r : Fin 256, f (0 + r.val)) + ∑ r : Fin 256, f (256 + r.val)) + ∑ r : Fin 256, f (512 + r.val))
      + ∑ r : Fin 256, f (768 + r.val)) + ∑ r : Fin 256, f (1024 + r.val)) + ∑ r : Fin 256, f (1280 + r.val))
      + ∑ r : Fin 256, f (1536 + r.val)) + ∑ r : Fin 256, f (1792 + r.val)) + ∑ r : Fin 256, f (2048 + r.val))
      + ∑ r : Fin 256, f (2304 + r.val)) + ∑ r : Fin 256, f (2560 + r.val)) := by
  have h : (∑ r : Fin (11 * 256), f r.val) = ∑ n : Fin 11, ∑ r : Fin 256, f (n.val * 256 + r.val) := by
    rw [← finProdFinEquiv.sum_comp, Fintype.sum_prod_type]
    refine Finset.sum_congr rfl fun n _ => Finset.sum_congr rfl fun r _ => congrArg f ?_
    show r.val + 256 * n.val = _
    omega
  have h11 : ∀ g : Fin 11 → EReal, ∑ n, g n = g 0 + g 1 + g 2 + g 3 + g 4 + g 5 + g 6 + g 7 + g 8 + g 9 + g 10 := fun g => by
    simp only [Fin.sum_univ_castSucc, Fin.sum_univ_zero, zero_add]
    rfl
  exact h.trans (h11 _)

/-- The eleven parts together, added to what the queries' gradient was. -/
theorem dq_parts (l : Vec Ideal S1x1x2048 .f32) (old : FVec Ideal S128x2048 .f32) (h0 h1 h2 h3 h4 h5 h6 h7 h8 h9 h10) (d : Fin 128) (a : Fin 2048) :
    old (ix2 d a) + (part q k v ct o l 0 h0 (ix2 d a) + part q k v ct o l 256 h1 (ix2 d a) + part q k v ct o l 512 h2 (ix2 d a)
      + part q k v ct o l 768 h3 (ix2 d a) + part q k v ct o l 1024 h4 (ix2 d a) + part q k v ct o l 1280 h5 (ix2 d a)
      + part q k v ct o l 1536 h6 (ix2 d a) + part q k v ct o l 1792 h7 (ix2 d a) + part q k v ct o l 2048 h8 (ix2 d a)
      + part q k v ct o l 2304 h9 (ix2 d a) + part q k v ct o l 2560 h10 (ix2 d a))
      = old (ix2 d a) + dqG q k v ct o (fun a => l (ix3 0 0 a)) d a := by
  refine congrArg (old (ix2 d a) + ·) ?_
  have hf := sum_keys fun n => if h : n < 2816 then k (ix2 ⟨n, h⟩ d) * dsc q k v ct o (fun a => l (ix3 0 0 a)) ⟨n, h⟩ a else 0
  have hl : ∀ (off : ℕ) (inb : InB off) (r : Fin 256), (if h : off + r.val < 2816 then k (ix2 ⟨off + r.val, h⟩ d) * dsc q k v ct o (fun a => l (ix3 0 0 a)) ⟨off + r.val, h⟩ a else 0)
      = k (ix2 ⟨off + r.val, rows_lt inb r⟩ d) * dsc q k v ct o (fun a => l (ix3 0 0 a)) ⟨off + r.val, rows_lt inb r⟩ a :=
    fun off inb r => dif_pos (rows_lt inb r)
  simp only [hl 0 h0, hl 256 h1, hl 512 h2, hl 768 h3, hl 1024 h4, hl 1280 h5, hl 1536 h6, hl 1792 h7, hl 2048 h8, hl 2304 h9, hl 2560 h10] at hf
  simp only [part_apply, dqG]
  rw [← hf]
  exact Finset.sum_congr rfl fun r _ => by rw [dif_pos r.isLt]

end Cert.Attn.Block
-- ==== Proof.Attn.Body.lean ====
/-
  What one grid point leaves in the accumulators and in the output blocks, over the extended reals, in each of the seven
  cases of the body's conditions.
-/
module

public import proofs.«01_k».proof.Proof.Attn.Block
public import proofs.«01_k».proof.Proof.Gen.KernelIdeal.Frame

@[expose] public section

set_option maxRecDepth 16384

noncomputable section

namespace Cert.Attn.Body

open Idealize.ShloMosaic Idealize.ShloMosaic.Tactic Cert.KernelIdeal Cert.KernelIdeal.Gen Cert.Attn.Block

/-- The row of saved logarithms that the body reads. -/
def row (x : Vec Ideal S1x8x2048 .f32) : Vec Ideal S1x1x2048 .f32 :=
  View.ld (Val := Elt Ideal) (e' := .f32) x (Rect.unit ![0, 0, 0] S1x1x2048.size inb_S1x8x2048_S1x1x2048_0_0_0)

variable (c : Dev nD) (i : grid0.Coords)
  (arg3 : Memref sig .tc .vmem S2048x128 .bf16) (harg3 : arg3.IsWhole) (arg4 : Memref sig .tc .vmem S2816x128 .bf16) (harg4 : arg4.IsWhole)
  (arg5 : Memref sig .tc .vmem S2816x128 .bf16) (harg5 : arg5.IsWhole) (arg6 : Memref sig .tc .vmem S2048x128 .f32) (harg6 : arg6.IsWhole)
  (arg7 : Memref sig .tc .vmem S2048x128 .bf16) (harg7 : arg7.IsWhole) (arg8 : Memref sig .tc .vmem S1x8x2048 .f32) (harg8 : arg8.IsWhole)
  (arg9 : Memref sig .tc .vmem S2048x128 .f32) (harg9 : arg9.IsWhole) (arg10 : Memref sig .tc .vmem S2816x128 .f32) (harg10 : arg10.IsWhole)
  (arg11 : Memref sig .tc .vmem S2816x128 .f32) (harg11 : arg11.IsWhole) (arg12 : Memref sig .tc .vmem S128x8192 .f32) (harg12 : arg12.IsWhole)
  (arg13 : Memref sig .tc .vmem S2816x128 .f32) (harg13 : arg13.IsWhole) (arg14 : Memref sig .tc .vmem S2816x128 .f32) (harg14 : arg14.IsWhole)
  (x0 : Vec Ideal S2048x128 .bf16) (x1 x2 : Vec Ideal S2816x128 .bf16) (x3 : Vec Ideal S2048x128 .f32) (x4 : Vec Ideal S2048x128 .bf16)
  (x5 : Vec Ideal S1x8x2048 .f32) (xs0 : Vec Ideal S128x8192 .f32) (xs1 xs2 : Vec Ideal S2816x128 .f32)

theorem whole2 : (![0, 0] : Fin 2 → ℕ) = fun _ => 0 := by
  funext a
  match a with
  | ⟨0, _⟩ => rfl
  | ⟨1, _⟩ => rfl

/-- When the eleven last writes are blocks of one function and cover the array, the writes leave that function. -/
theorem canon_of_pieces (G : S2816x128.Idx → Elt Ideal .f32) (L : List (View.Piece (Elt Ideal) S2816x128 .f32))
    (h : View.PiecesOf G (L.take 11)) (hc : View.Piece.tiledL (L.take 11) S256x128.size = true) : View.canon L = G := by
  funext y
  rw [← List.take_append_drop 11 L]
  exact View.canon_append_of_piecesOf G _ _ h y (View.cover_of_tiledL _ _ hc y)

/-- The rectangle of 2048 columns from column `off`. -/
abbrev cols (off : ℕ) (inb : ∀ a, (![0, off] : Fin 2 → ℕ) a + S128x2048.size a ≤ S128x8192.size a) : Rect S128x8192 :=
  Rect.unit (s := S128x8192) ![0, off] S128x2048.size inb

/-- The queries' gradients of all query blocks, after `g` was added to those of block `n`. -/
def colG (g : Fin 128 → Fin 2048 → EReal) (n : ℕ) (old : Vec Ideal S128x8192 .f32) (y : S128x8192.Idx) : EReal :=
  if h : (y 1).val / 2048 = n then old y + g (y 0) ⟨(y 1).val % 2048, Nat.mod_lt _ (by norm_num)⟩ else old y

/-- The column at which a point's query block starts. -/
theorem col_start : BitVec.toNat (Scalar.indexCast (Scalar.muli (BitVec.ofNat 32 (i 2).val) 2048#32)) = 2048 * (i 2).val := by
  have h : ∀ n : Fin 4, BitVec.toNat (Scalar.indexCast (Scalar.muli (BitVec.ofNat 32 n.val) 2048#32)) = 2048 * n.val := by decide
  exact h (i 2)

/-- The sum of a point's eleven parts, added to the columns of its query block, read back. -/
theorem col_write {sig : RefSig} {κ : Kind} {sp : Space} (V : View sig κ sp S128x8192 .f32) (f : V.ty.Contents (Elt Ideal))
    (L : List (View.Piece (Elt Ideal) S128x8192 .f32)) (old : Vec Ideal S128x8192 .f32) (hL : V.read (Elt Ideal) (V.writes (Elt Ideal) f L) = old)
    (g : Fin 128 → Fin 2048 → EReal) (n off : ℕ) (hoff : off = 2048 * n) (inb) (w : S128x2048.Idx → EReal)
    (hw : ∀ d a, w (ix2 d a) = View.ld (Val := Elt Ideal) (e' := .f32) old (cols off inb) (ix2 d a) + g d a) :
    V.read (Elt Ideal) (V.writes (Elt Ideal) f (⟨cols off inb, w⟩ :: L)) = colG g n old := by
  subst hoff
  funext y
  obtain ⟨d, b, rfl⟩ : ∃ (d : Fin 128) (b : Fin 8192), y = ix2 d b := ⟨_, _, eq_ix2 y⟩
  unfold colG
  by_cases h : b.val / 2048 = n
  · have hb : (cols (2048 * n) inb).emb (ix2 d (⟨b.val % 2048, Nat.mod_lt _ (by norm_num)⟩ : Fin 2048)) = ix2 d b := by
      funext a
      match a with
      | ⟨0, _⟩ => exact Fin.ext (by show 0 + 1 * d.val = d.val; omega)
      | ⟨1, _⟩ => exact Fin.ext (by show 2048 * n + 1 * (b.val % 2048) = b.val; omega)
    rw [dif_pos (show ((ix2 d b : S128x8192.Idx) 1).val / 2048 = n from h), View.read_writes_cons_hit _ _ _ _ _ _ _ hb, hw]
    exact congrArg (· + _) (congrArg old hb)
  · rw [dif_neg (show ¬((ix2 d b : S128x8192.Idx) 1).val / 2048 = n from h), View.read_writes_cons_miss_of_axis V f _ L _ 1 (2048 * n) 2048 rfl rfl rfl, hL]
    show b.val < 2048 * n ∨ 2048 * n + 2048 ≤ b.val
    omega

/-- What a point adds to a block of columns is what its key block adds to the queries' gradient. -/
theorem dq_sum (z : FVec Ideal S128x2048 .f32) (d : Fin 128) (a : Fin 2048) :
    z (ix2 d a) + (part x0 x1 x2 x3 x4 (row x5) 0 inb_S2816x128_S256x128_0_0 (ix2 d a)
      + part x0 x1 x2 x3 x4 (row x5) 256 inb_S2816x128_S256x128_256_0 (ix2 d a)
      + part x0 x1 x2 x3 x4 (row x5) 512 inb_S2816x128_S256x128_512_0 (ix2 d a)
      + part x0 x1 x2 x3 x4 (row x5) 768 inb_S2816x128_S256x128_768_0 (ix2 d a)
      + part x0 x1 x2 x3 x4 (row x5) 1024 inb_S2816x128_S256x128_1024_0 (ix2 d a)
      + part x0 x1 x2 x3 x4 (row x5) 1280 inb_S2816x128_S256x128_1280_0 (ix2 d a)
      + part x0 x1 x2 x3 x4 (row x5) 1536 inb_S2816x128_S256x128_1536_0 (ix2 d a)
      + part x0 x1 x2 x3 x4 (row x5) 1792 inb_S2816x128_S256x128_1792_0 (ix2 d a)
      + part x0 x1 x2 x3 x4 (row x5) 2048 inb_S2816x128_S256x128_2048_0 (ix2 d a)
      + part x0 x1 x2 x3 x4 (row x5) 2304 inb_S2816x128_S256x128_2304_0 (ix2 d a)
      + part x0 x1 x2 x3 x4 (row x5) 2560 inb_S2816x128_S256x128_2560_0 (ix2 d a))
      = z (ix2 d a) + dqG x0 x1 x2 x3 x4 (fun a => row x5 (ix3 0 0 a)) d a :=
  dq_parts x0 x1 x2 x3 x4 (row x5) z _ _ _ _ _ _ _ _ _ _ _ d a

/-- The payload of a point's write to the columns of the queries' gradient. -/
theorem dq_payload (z : FVec Ideal S128x2048 .f32) (d : Fin 128) (a : Fin 2048) :
    k0_pay3 (F := Ideal) (k0_pay77 (k0_pay70 (k0_pay10 x3) (k0_pay12 x3 x4) (k0_pay64 (k0_pay10 x3) (k0_pay11 (row x5)) (k0_pay12 x3 x4) (k0_pay56
      (k0_pay8 x0) (k0_pay10 x3) (k0_pay11 (row x5)) (k0_pay12 x3 x4) (k0_pay50 (k0_pay8 x0) (k0_pay10 x3) (k0_pay11 (row x5)) (k0_pay12 x3 x4)
      (k0_pay38 (k0_pay32 (k0_pay25 (k0_pay19 (k0_pay12 x3 x4) (k0_pay13 (View.ld (Val := Elt Ideal) (e' := .bf16) x1 (rows 0
      inb_S2816x128_S256x128_0_0))) (k0_pay14 x0 (row x5) (View.ld (Val := Elt Ideal) (e' := .bf16) x1 (rows 0 inb_S2816x128_S256x128_0_0))) (k0_pay15
      x3 (View.ld (Val := Elt Ideal) (e' := .bf16) x2 (rows 0 inb_S2816x128_S256x128_0_0)))) (k0_pay20 (View.ld (Val := Elt Ideal) (e' := .bf16) x1
      (rows 256 inb_S2816x128_S256x128_256_0))) (k0_pay22 (k0_pay8 x0) (k0_pay10 x3) (k0_pay11 (row x5)) (k0_pay12 x3 x4) (View.ld (Val := Elt Ideal)
      (e' := .bf16) x1 (rows 256 inb_S2816x128_S256x128_256_0)) (View.ld (Val := Elt Ideal) (e' := .bf16) x2 (rows 256
      inb_S2816x128_S256x128_256_0)))) (k0_pay26 (View.ld (Val := Elt Ideal) (e' := .bf16) x1 (rows 512 inb_S2816x128_S256x128_512_0))) (k0_pay28
      (k0_pay8 x0) (k0_pay10 x3) (k0_pay11 (row x5)) (k0_pay12 x3 x4) (View.ld (Val := Elt Ideal) (e' := .bf16) x1 (rows 512
      inb_S2816x128_S256x128_512_0)) (View.ld (Val := Elt Ideal) (e' := .bf16) x2 (rows 512 inb_S2816x128_S256x128_512_0)))) (k0_pay33 (View.ld (Val
      := Elt Ideal) (e' := .bf16) x1 (rows 768 inb_S2816x128_S256x128_768_0))) (k0_pay35 (k0_pay8 x0) (k0_pay10 x3) (k0_pay11 (row x5)) (k0_pay12 x3
      x4) (View.ld (Val := Elt Ideal) (e' := .bf16) x1 (rows 768 inb_S2816x128_S256x128_768_0)) (View.ld (Val := Elt Ideal) (e' := .bf16) x2 (rows 768
      inb_S2816x128_S256x128_768_0)))) (k0_pay39 (View.ld (Val := Elt Ideal) (e' := .bf16) x1 (rows 1024 inb_S2816x128_S256x128_1024_0))) (k0_pay41
      (k0_pay8 x0) (k0_pay10 x3) (k0_pay11 (row x5)) (k0_pay12 x3 x4) (View.ld (Val := Elt Ideal) (e' := .bf16) x1 (rows 1024
      inb_S2816x128_S256x128_1024_0)) (View.ld (Val := Elt Ideal) (e' := .bf16) x2 (rows 1024 inb_S2816x128_S256x128_1024_0))) (View.ld (Val := Elt
      Ideal) (e' := .bf16) x1 (rows 1280 inb_S2816x128_S256x128_1280_0)) (View.ld (Val := Elt Ideal) (e' := .bf16) x2 (rows 1280
      inb_S2816x128_S256x128_1280_0))) (View.ld (Val := Elt Ideal) (e' := .bf16) x1 (rows 1536 inb_S2816x128_S256x128_1536_0)) (View.ld (Val := Elt
      Ideal) (e' := .bf16) x2 (rows 1536 inb_S2816x128_S256x128_1536_0))) (k0_pay57 (View.ld (Val := Elt Ideal) (e' := .bf16) x1 (rows 1792
      inb_S2816x128_S256x128_1792_0))) (k0_pay58 (k0_pay8 x0) (View.ld (Val := Elt Ideal) (e' := .bf16) x1 (rows 1792 inb_S2816x128_S256x128_1792_0)))
      k0_pay59 (View.ld (Val := Elt Ideal) (e' := .bf16) x2 (rows 1792 inb_S2816x128_S256x128_1792_0))) (k0_pay65 (View.ld (Val := Elt Ideal) (e' :=
      .bf16) x1 (rows 2048 inb_S2816x128_S256x128_2048_0))) (k0_pay66 (k0_pay8 x0) (k0_pay11 (row x5)) (View.ld (Val := Elt Ideal) (e' := .bf16) x1
      (rows 2048 inb_S2816x128_S256x128_2048_0))) (View.ld (Val := Elt Ideal) (e' := .bf16) x2 (rows 2048 inb_S2816x128_S256x128_2048_0))) (k0_pay71
      (View.ld (Val := Elt Ideal) (e' := .bf16) x1 (rows 2304 inb_S2816x128_S256x128_2304_0))) (k0_pay73 (k0_pay8 x0) (k0_pay10 x3) (k0_pay11 (row
      x5)) (k0_pay12 x3 x4) (View.ld (Val := Elt Ideal) (e' := .bf16) x1 (rows 2304 inb_S2816x128_S256x128_2304_0)) (View.ld (Val := Elt Ideal) (e' :=
      .bf16) x2 (rows 2304 inb_S2816x128_S256x128_2304_0))) (FloatOps.ofBits FTy.f32 1037108716#32)) (k0_pay78 (View.ld (Val := Elt Ideal) (e' :=
      .bf16) x1 (rows 2560 inb_S2816x128_S256x128_2560_0))) (k0_pay80 (k0_pay8 x0) (k0_pay10 x3) (k0_pay11 (row x5)) (k0_pay12 x3 x4) (View.ld (Val :=
      Elt Ideal) (e' := .bf16) x1 (rows 2560 inb_S2816x128_S256x128_2560_0)) (View.ld (Val := Elt Ideal) (e' := .bf16) x2 (rows 2560
      inb_S2816x128_S256x128_2560_0))) z (ix2 d a)
      = z (ix2 d a) + dqG x0 x1 x2 x3 x4 (fun a => row x5 (ix3 0 0 a)) d a := by
  refine Eq.trans ?_ (dq_sum x0 x1 x2 x3 x4 x5 _ d a)
  unfold k0_pay3
  rw [shapeCast_self]
  refine congrArg₂ (fun x y : EReal => x + y) rfl ?_
  iterate 10 refine congrArg₂ (fun x y : EReal => x + y) ?_ rfl
  rfl

/-- A write of the whole array of the queries' gradients leaves what it writes. -/
theorem col_fill {sig : RefSig} {κ : Kind} {sp : Space} (V : View sig κ sp S128x8192 .f32) (w : S128x8192.Idx → Elt Ideal .f32) (inb) :
    V.read (Elt Ideal) (V.writes (Elt Ideal) V.junk [⟨Rect.unit (s := S128x8192) ![0, 0] S128x8192.size inb, w⟩]) = w := by
  rw [View.read_writes_junk_eq_canon]
  rw [View.canon_cons_unit_zero whole2]

/-- A block of columns of the whole array as the write left it. -/
theorem col_load {sig : RefSig} {κ : Kind} {sp : Space} (V : View sig κ sp S128x8192 .f32) (w : Vec Ideal S128x8192 .f32) (inb) (r : Rect S128x8192)
    (x : r.shape.Idx) (e : EReal) :
    View.ld (Val := Elt Ideal) (e' := .f32) (V.read (Elt Ideal) (V.writes (Elt Ideal) V.junk [⟨Rect.unit (s := S128x8192) ![0, 0] S128x8192.size inb, w⟩])) r x + e
      = View.ld (Val := Elt Ideal) (e' := .f32) w r x + e := by
  rw [col_fill]

/-- The block of the queries' gradients written out, after `g` was added to the accumulator's columns of query block `n`. -/
def colB (g : Fin 128 → Fin 2048 → EReal) (n : Fin 4) (old : Vec Ideal S128x8192 .f32) (y : S2048x128.Idx) : EReal :=
  old (ix2 (y 1 : Fin 128) (⟨2048 * n.val + (y 0).val, by have h : (y 0).val < 2048 := (y 0).isLt; omega⟩ : Fin 8192)) + g (y 1) (y 0)

/-- The columns of a query block, read back after they were written and turned round, are what is written out. -/
theorem col_out {sig : RefSig} {κ : Kind} {sp : Space} (V : View sig κ sp S128x8192 .f32) (L : List (View.Piece (Elt Ideal) S128x8192 .f32))
    (old : Vec Ideal S128x8192 .f32) (g : Fin 128 → Fin 2048 → EReal) (n : Fin 4) (off : ℕ) (hoff : off = 2048 * n.val) (inb) (inb')
    (w : S128x2048.Idx → EReal) (hw : ∀ d a, w (ix2 d a) = View.ld (Val := Elt Ideal) (e' := .f32) old (cols off inb) (ix2 d a) + g d a) :
    View.canon (Val := Elt Ideal) (e := .f32) [⟨Rect.unit (s := S2048x128) ![0, 0] S2048x128.size inb',
      k0_pay4 (F := Ideal) (V.readCov (Val := Elt Ideal) (⟨cols off inb, w⟩ :: L) (cols off inb).toLoadRect)⟩] = colB g n old := by
  subst hoff
  rw [View.canon_cons_unit_zero whole2]
  have hr : V.readCov (Val := Elt Ideal) (⟨cols (2048 * n.val) inb, w⟩ :: L) (cols (2048 * n.val) inb).toLoadRect = w := by
    rw [View.readCov_eq_canon']
    funext x
    exact View.canon_cons_emb _ _ _ _
  rw [hr]
  funext y
  obtain ⟨a, d, rfl⟩ : ∃ (a : Fin 2048) (d : Fin 128), y = ix2 a d := ⟨_, _, eq_ix2 y⟩
  have ht : k0_pay4 (F := Ideal) w (ix2 a d) = w (ix2 d a) := by
    unfold k0_pay4
    pointwise
  rw [ht, hw]
  refine congrArg (· + _) (congrArg old ?_)
  funext k
  match k with
  | ⟨0, _⟩ => exact Fin.ext (by show 0 + 1 * d.val = d.val; omega)
  | ⟨1, _⟩ => exact Fin.ext (by show 2048 * n.val + 1 * a.val = 2048 * n.val + a.val; omega)

/-- A whole accumulator read back after writes and written out is what those writes leave. -/
theorem blk_out {sig : RefSig} {κ : Kind} {sp : Space} (V : View sig κ sp S2816x128 .f32) (L : List (View.Piece (Elt Ideal) S2816x128 .f32))
    (inb inb') : View.canon (Val := Elt Ideal) (e := .f32) [⟨Rect.unit (s := S2816x128) ![0, 0] S2816x128.size inb',
      V.readCov (Val := Elt Ideal) L (Rect.unit (s := S2816x128) ![0, 0] S2816x128.size inb).toLoadRect⟩] = View.canon L := by
  rw [View.canon_cons_unit_zero whole2, View.readCov_eq_canon']
  exact View.ld_unit_zero (Val := Elt Ideal) (e := .f32) (S := S2816x128) whole2 _ (View.canon L)

theorem dq_A (hc0 : cond0_0 i) (hc1 : cond0_1 i) (hc2 : ¬cond0_2 i) (hc3 : ¬cond0_3 i) :
    sout0_A_0 c i arg3 harg3 arg4 harg4 arg5 harg5 arg6 harg6 arg7 harg7 arg8 harg8 arg9 harg9 arg10 harg10 arg11 harg11 arg12 harg12 arg13 harg13
      arg14 harg14 hc0 hc1 hc2 hc3 x0 x1 x2 x3 x4 x5 = colG (dqG x0 x1 x2 x3 x4 (fun a => row x5 (ix3 0 0 a))) (i 2).val (k0_pay5 (F := Ideal)) := by
  unfold sout0_A_0
  unfold kernelRun0_A
  dsimp only
  sl_unfold_words
  simp only [View.readAt_eq_ld, Memref.IsWhole.read_unread, View.ld_unit_zero (S := S2048x128) whole2]
  exact col_write VS0_0 _ _ _ (col_fill VS0_0 _ _) _ _ _ (col_start i) _ _ fun d a =>
    (dq_payload x0 x1 x2 x3 x4 x5 _ d a).trans (col_load arg12.view _ _ _ _ _)

theorem dq_B (hc0 : ¬cond0_0 i) (hc1 : ¬cond0_1 i) (hc2 : ¬cond0_2 i) (hc3 : ¬cond0_3 i) :
    sout0_B_0 c i arg3 harg3 arg4 harg4 arg5 harg5 arg6 harg6 arg7 harg7 arg8 harg8 arg9 harg9 arg10 harg10 arg11 harg11 arg12 harg12 arg13 harg13
      arg14 harg14 hc0 hc1 hc2 hc3 x0 x1 x2 x3 x4 x5 xs0 xs1 xs2 = colG (dqG x0 x1 x2 x3 x4 (fun a => row x5 (ix3 0 0 a))) (i 2).val xs0 := by
  unfold sout0_B_0
  unfold kernelRun0_B
  dsimp only
  sl_unfold_words
  simp only [View.readAt_eq_ld, Memref.IsWhole.read_unread, View.ld_unit_zero (S := S2048x128) whole2]
  exact col_write _ _ _ _ (harg12.read_unread _) _ _ _ (col_start i) _ _ fun d a => dq_payload x0 x1 x2 x3 x4 x5 _ d a

theorem dq_C (hc0 : ¬cond0_0 i) (hc1 : ¬cond0_1 i) (hc2 : ¬cond0_2 i) (hc3 : cond0_3 i) :
    sout0_C_0 c i arg3 harg3 arg4 harg4 arg5 harg5 arg6 harg6 arg7 harg7 arg8 harg8 arg9 harg9 arg10 harg10 arg11 harg11 arg12 harg12 arg13 harg13
      arg14 harg14 hc0 hc1 hc2 hc3 x0 x1 x2 x3 x4 x5 xs0 xs1 xs2 = colG (dqG x0 x1 x2 x3 x4 (fun a => row x5 (ix3 0 0 a))) (i 2).val xs0 := by
  unfold sout0_C_0
  unfold kernelRun0_C
  dsimp only
  sl_unfold_words
  simp only [View.readAt_eq_ld, Memref.IsWhole.read_unread, View.ld_unit_zero (S := S2048x128) whole2]
  exact col_write _ _ _ _ (harg12.read_unread _) _ _ _ (col_start i) _ _ fun d a => dq_payload x0 x1 x2 x3 x4 x5 _ d a

theorem dq_D (hc0 : ¬cond0_0 i) (hc1 : cond0_1 i) (hc2 : ¬cond0_2 i) (hc3 : ¬cond0_3 i) :
    sout0_D_0 c i arg3 harg3 arg4 harg4 arg5 harg5 arg6 harg6 arg7 harg7 arg8 harg8 arg9 harg9 arg10 harg10 arg11 harg11 arg12 harg12 arg13 harg13
      arg14 harg14 hc0 hc1 hc2 hc3 x0 x1 x2 x3 x4 x5 xs0 = colG (dqG x0 x1 x2 x3 x4 (fun a => row x5 (ix3 0 0 a))) (i 2).val xs0 := by
  unfold sout0_D_0
  unfold kernelRun0_D
  dsimp only
  sl_unfold_words
  simp only [View.readAt_eq_ld, Memref.IsWhole.read_unread, View.ld_unit_zero (S := S2048x128) whole2]
  exact col_write _ _ _ _ (harg12.read_unread _) _ _ _ (col_start i) _ _ fun d a => dq_payload x0 x1 x2 x3 x4 x5 _ d a

theorem dq_E (hc0 : ¬cond0_0 i) (hc1 : cond0_1 i) (hc2 : cond0_2 i) (hc3 : ¬cond0_3 i) :
    sout0_E_0 c i arg3 harg3 arg4 harg4 arg5 harg5 arg6 harg6 arg7 harg7 arg8 harg8 arg9 harg9 arg10 harg10 arg11 harg11 arg12 harg12 arg13 harg13
      arg14 harg14 hc0 hc1 hc2 hc3 x0 x1 x2 x3 x4 x5 xs0 = colG (dqG x0 x1 x2 x3 x4 (fun a => row x5 (ix3 0 0 a))) (i 2).val xs0 := by
  unfold sout0_E_0
  unfold kernelRun0_E
  dsimp only
  sl_unfold_words
  simp only [View.readAt_eq_ld, Memref.IsWhole.read_unread, View.ld_unit_zero (S := S2048x128) whole2]
  exact col_write _ _ _ _ (harg12.read_unread _) _ _ _ (col_start i) _ _ fun d a => dq_payload x0 x1 x2 x3 x4 x5 _ d a

theorem dq_F (hc0 : ¬cond0_0 i) (hc1 : ¬cond0_1 i) (hc2 : cond0_2 i) (hc3 : ¬cond0_3 i) :
    sout0_F_0 c i arg3 harg3 arg4 harg4 arg5 harg5 arg6 harg6 arg7 harg7 arg8 harg8 arg9 harg9 arg10 harg10 arg11 harg11 arg12 harg12 arg13 harg13
      arg14 harg14 hc0 hc1 hc2 hc3 x0 x1 x2 x3 x4 x5 xs0 xs1 xs2 = colG (dqG x0 x1 x2 x3 x4 (fun a => row x5 (ix3 0 0 a))) (i 2).val xs0 := by
  unfold sout0_F_0
  unfold kernelRun0_F
  dsimp only
  sl_unfold_words
  simp only [View.readAt_eq_ld, Memref.IsWhole.read_unread, View.ld_unit_zero (S := S2048x128) whole2]
  exact col_write _ _ _ _ (harg12.read_unread _) _ _ _ (col_start i) _ _ fun d a => dq_payload x0 x1 x2 x3 x4 x5 _ d a

theorem dq_G (hc0 : ¬cond0_0 i) (hc1 : ¬cond0_1 i) (hc2 : cond0_2 i) (hc3 : cond0_3 i) :
    sout0_G_0 c i arg3 harg3 arg4 harg4 arg5 harg5 arg6 harg6 arg7 harg7 arg8 harg8 arg9 harg9 arg10 harg10 arg11 harg11 arg12 harg12 arg13 harg13
      arg14 harg14 hc0 hc1 hc2 hc3 x0 x1 x2 x3 x4 x5 xs0 xs1 xs2 = colG (dqG x0 x1 x2 x3 x4 (fun a => row x5 (ix3 0 0 a))) (i 2).val xs0 := by
  unfold sout0_G_0
  unfold kernelRun0_G
  dsimp only
  sl_unfold_words
  simp only [View.readAt_eq_ld, Memref.IsWhole.read_unread, View.ld_unit_zero (S := S2048x128) whole2]
  exact col_write _ _ _ _ (harg12.read_unread _) _ _ _ (col_start i) _ _ fun d a => dq_payload x0 x1 x2 x3 x4 x5 _ d a

theorem dk_A (hc0 : cond0_0 i) (hc1 : cond0_1 i) (hc2 : ¬cond0_2 i) (hc3 : ¬cond0_3 i) :
    sout0_A_1 c i arg3 harg3 arg4 harg4 arg5 harg5 arg6 harg6 arg7 harg7 arg8 harg8 arg9 harg9 arg10 harg10 arg11 harg11 arg12 harg12 arg13 harg13
      arg14 harg14 hc0 hc1 hc2 hc3 x0 x1 x2 x3 x4 x5 = dkG x0 x1 x2 x3 x4 (fun a => row x5 (ix3 0 0 a)) (k0_pay6 (F := Ideal)) := by
  unfold sout0_A_1
  rw [View.read_writes_junk_eq_canon]
  unfold kernelRun0_A
  dsimp only
  sl_unfold_words
  simp only [View.readAt_eq_ld, Memref.IsWhole.read_unread, View.ld_unit_zero (S := S2048x128) whole2]
  refine Acc.done (old := k0_pay6 (F := Ideal)) ?_
  iterate 11 refine Acc.step ?_ _ (by rfl) _ _ arg13.view (fun e x => dk_piece _ _ _ _ _ _ _ _ _ _ e x)
  exact Acc.fill _ _ _ whole2 _

theorem dk_B (hc0 : ¬cond0_0 i) (hc1 : ¬cond0_1 i) (hc2 : ¬cond0_2 i) (hc3 : ¬cond0_3 i) :
    sout0_B_1 c i arg3 harg3 arg4 harg4 arg5 harg5 arg6 harg6 arg7 harg7 arg8 harg8 arg9 harg9 arg10 harg10 arg11 harg11 arg12 harg12 arg13 harg13
      arg14 harg14 hc0 hc1 hc2 hc3 x0 x1 x2 x3 x4 x5 xs0 xs1 xs2 = dkG x0 x1 x2 x3 x4 (fun a => row x5 (ix3 0 0 a)) xs1 := by
  unfold sout0_B_1
  rw [View.read_writes_junk_eq_canon]
  unfold kernelRun0_B
  dsimp only
  sl_unfold_words
  simp only [View.readAt_eq_ld, Memref.IsWhole.read_unread, View.ld_unit_zero (S := S2048x128) whole2]
  refine canon_of_pieces _ _ ?_ (by sl_kernel_rfl)
  iterate 11 refine And.intro (fun x => dk_piece _ _ _ _ _ _ _ _ _ _ rfl x) ?_
  trivial

theorem dk_C (hc0 : ¬cond0_0 i) (hc1 : ¬cond0_1 i) (hc2 : ¬cond0_2 i) (hc3 : cond0_3 i) :
    sout0_C_1 c i arg3 harg3 arg4 harg4 arg5 harg5 arg6 harg6 arg7 harg7 arg8 harg8 arg9 harg9 arg10 harg10 arg11 harg11 arg12 harg12 arg13 harg13
      arg14 harg14 hc0 hc1 hc2 hc3 x0 x1 x2 x3 x4 x5 xs0 xs1 xs2 = dkG x0 x1 x2 x3 x4 (fun a => row x5 (ix3 0 0 a)) xs1 := by
  unfold sout0_C_1
  rw [View.read_writes_junk_eq_canon]
  unfold kernelRun0_C
  dsimp only
  sl_unfold_words
  simp only [View.readAt_eq_ld, Memref.IsWhole.read_unread, View.ld_unit_zero (S := S2048x128) whole2]
  refine canon_of_pieces _ _ ?_ (by sl_kernel_rfl)
  iterate 11 refine And.intro (fun x => dk_piece _ _ _ _ _ _ _ _ _ _ rfl x) ?_
  trivial

theorem dk_D (hc0 : ¬cond0_0 i) (hc1 : cond0_1 i) (hc2 : ¬cond0_2 i) (hc3 : ¬cond0_3 i) :
    sout0_D_1 c i arg3 harg3 arg4 harg4 arg5 harg5 arg6 harg6 arg7 harg7 arg8 harg8 arg9 harg9 arg10 harg10 arg11 harg11 arg12 harg12 arg13 harg13
      arg14 harg14 hc0 hc1 hc2 hc3 x0 x1 x2 x3 x4 x5 xs0 = dkG x0 x1 x2 x3 x4 (fun a => row x5 (ix3 0 0 a)) (k0_pay6 (F := Ideal)) := by
  unfold sout0_D_1
  rw [View.read_writes_junk_eq_canon]
  unfold kernelRun0_D
  dsimp only
  sl_unfold_words
  simp only [View.readAt_eq_ld, Memref.IsWhole.read_unread, View.ld_unit_zero (S := S2048x128) whole2]
  refine Acc.done (old := k0_pay6 (F := Ideal)) ?_
  iterate 11 refine Acc.step ?_ _ (by rfl) _ _ arg13.view (fun e x => dk_piece _ _ _ _ _ _ _ _ _ _ e x)
  exact Acc.fill _ _ _ whole2 _

theorem dk_E (hc0 : ¬cond0_0 i) (hc1 : cond0_1 i) (hc2 : cond0_2 i) (hc3 : ¬cond0_3 i) :
    sout0_E_1 c i arg3 harg3 arg4 harg4 arg5 harg5 arg6 harg6 arg7 harg7 arg8 harg8 arg9 harg9 arg10 harg10 arg11 harg11 arg12 harg12 arg13 harg13
      arg14 harg14 hc0 hc1 hc2 hc3 x0 x1 x2 x3 x4 x5 xs0 = dkG x0 x1 x2 x3 x4 (fun a => row x5 (ix3 0 0 a)) (k0_pay6 (F := Ideal)) := by
  unfold sout0_E_1
  rw [View.read_writes_junk_eq_canon]
  unfold kernelRun0_E
  dsimp only
  sl_unfold_words
  simp only [View.readAt_eq_ld, Memref.IsWhole.read_unread, View.ld_unit_zero (S := S2048x128) whole2]
  refine Acc.done (old := k0_pay6 (F := Ideal)) ?_
  iterate 11 refine Acc.step ?_ _ (by rfl) _ _ arg13.view (fun e x => dk_piece _ _ _ _ _ _ _ _ _ _ e x)
  exact Acc.fill _ _ _ whole2 _

theorem dk_F (hc0 : ¬cond0_0 i) (hc1 : ¬cond0_1 i) (hc2 : cond0_2 i) (hc3 : ¬cond0_3 i) :
    sout0_F_1 c i arg3 harg3 arg4 harg4 arg5 harg5 arg6 harg6 arg7 harg7 arg8 harg8 arg9 harg9 arg10 harg10 arg11 harg11 arg12 harg12 arg13 harg13
      arg14 harg14 hc0 hc1 hc2 hc3 x0 x1 x2 x3 x4 x5 xs0 xs1 xs2 = dkG x0 x1 x2 x3 x4 (fun a => row x5 (ix3 0 0 a)) xs1 := by
  unfold sout0_F_1
  rw [View.read_writes_junk_eq_canon]
  unfold kernelRun0_F
  dsimp only
  sl_unfold_words
  simp only [View.readAt_eq_ld, Memref.IsWhole.read_unread, View.ld_unit_zero (S := S2048x128) whole2]
  refine canon_of_pieces _ _ ?_ (by sl_kernel_rfl)
  iterate 11 refine And.intro (fun x => dk_piece _ _ _ _ _ _ _ _ _ _ rfl x) ?_
  trivial

theorem dk_G (hc0 : ¬cond0_0 i) (hc1 : ¬cond0_1 i) (hc2 : cond0_2 i) (hc3 : cond0_3 i) :
    sout0_G_1 c i arg3 harg3 arg4 harg4 arg5 harg5 arg6 harg6 arg7 harg7 arg8 harg8 arg9 harg9 arg10 harg10 arg11 harg11 arg12 harg12 arg13 harg13
      arg14 harg14 hc0 hc1 hc2 hc3 x0 x1 x2 x3 x4 x5 xs0 xs1 xs2 = dkG x0 x1 x2 x3 x4 (fun a => row x5 (ix3 0 0 a)) xs1 := by
  unfold sout0_G_1
  rw [View.read_writes_junk_eq_canon]
  unfold kernelRun0_G
  dsimp only
  sl_unfold_words
  simp only [View.readAt_eq_ld, Memref.IsWhole.read_unread, View.ld_unit_zero (S := S2048x128) whole2]
  refine canon_of_pieces _ _ ?_ (by sl_kernel_rfl)
  iterate 11 refine And.intro (fun x => dk_piece _ _ _ _ _ _ _ _ _ _ rfl x) ?_
  trivial

theorem dv_A (hc0 : cond0_0 i) (hc1 : cond0_1 i) (hc2 : ¬cond0_2 i) (hc3 : ¬cond0_3 i) :
    sout0_A_2 c i arg3 harg3 arg4 harg4 arg5 harg5 arg6 harg6 arg7 harg7 arg8 harg8 arg9 harg9 arg10 harg10 arg11 harg11 arg12 harg12 arg13 harg13
      arg14 harg14 hc0 hc1 hc2 hc3 x0 x1 x2 x3 x4 x5 = dvG x0 x1 x3 (fun a => row x5 (ix3 0 0 a)) (k0_pay7 (F := Ideal)) := by
  unfold sout0_A_2
  rw [View.read_writes_junk_eq_canon]
  unfold kernelRun0_A
  dsimp only
  sl_unfold_words
  simp only [View.readAt_eq_ld, Memref.IsWhole.read_unread, View.ld_unit_zero (S := S2048x128) whole2]
  refine Acc.done (old := k0_pay7 (F := Ideal)) ?_
  iterate 11 refine Acc.step ?_ _ (by rfl) _ _ arg14.view (fun e x => dv_piece _ _ _ _ _ _ _ _ e x)
  exact Acc.fill _ _ _ whole2 _

theorem dv_B (hc0 : ¬cond0_0 i) (hc1 : ¬cond0_1 i) (hc2 : ¬cond0_2 i) (hc3 : ¬cond0_3 i) :
    sout0_B_2 c i arg3 harg3 arg4 harg4 arg5 harg5 arg6 harg6 arg7 harg7 arg8 harg8 arg9 harg9 arg10 harg10 arg11 harg11 arg12 harg12 arg13 harg13
      arg14 harg14 hc0 hc1 hc2 hc3 x0 x1 x2 x3 x4 x5 xs0 xs1 xs2 = dvG x0 x1 x3 (fun a => row x5 (ix3 0 0 a)) xs2 := by
  unfold sout0_B_2
  rw [View.read_writes_junk_eq_canon]
  unfold kernelRun0_B
  dsimp only
  sl_unfold_words
  simp only [View.readAt_eq_ld, Memref.IsWhole.read_unread, View.ld_unit_zero (S := S2048x128) whole2]
  refine canon_of_pieces _ _ ?_ (by sl_kernel_rfl)
  iterate 11 refine And.intro (fun x => dv_piece _ _ _ _ _ _ _ _ rfl x) ?_
  trivial

theorem dv_C (hc0 : ¬cond0_0 i) (hc1 : ¬cond0_1 i) (hc2 : ¬cond0_2 i) (hc3 : cond0_3 i) :
    sout0_C_2 c i arg3 harg3 arg4 harg4 arg5 harg5 arg6 harg6 arg7 harg7 arg8 harg8 arg9 harg9 arg10 harg10 arg11 harg11 arg12 harg12 arg13 harg13
      arg14 harg14 hc0 hc1 hc2 hc3 x0 x1 x2 x3 x4 x5 xs0 xs1 xs2 = dvG x0 x1 x3 (fun a => row x5 (ix3 0 0 a)) xs2 := by
  unfold sout0_C_2
  rw [View.read_writes_junk_eq_canon]
  unfold kernelRun0_C
  dsimp only
  sl_unfold_words
  simp only [View.readAt_eq_ld, Memref.IsWhole.read_unread, View.ld_unit_zero (S := S2048x128) whole2]
  refine canon_of_pieces _ _ ?_ (by sl_kernel_rfl)
  iterate 11 refine And.intro (fun x => dv_piece _ _ _ _ _ _ _ _ rfl x) ?_
  trivial

theorem dv_D (hc0 : ¬cond0_0 i) (hc1 : cond0_1 i) (hc2 : ¬cond0_2 i) (hc3 : ¬cond0_3 i) :
    sout0_D_2 c i arg3 harg3 arg4 harg4 arg5 harg5 arg6 harg6 arg7 harg7 arg8 harg8 arg9 harg9 arg10 harg10 arg11 harg11 arg12 harg12 arg13 harg13
      arg14 harg14 hc0 hc1 hc2 hc3 x0 x1 x2 x3 x4 x5 xs0 = dvG x0 x1 x3 (fun a => row x5 (ix3 0 0 a)) (k0_pay7 (F := Ideal)) := by
  unfold sout0_D_2
  rw [View.read_writes_junk_eq_canon]
  unfold kernelRun0_D
  dsimp only
  sl_unfold_words
  simp only [View.readAt_eq_ld, Memref.IsWhole.read_unread, View.ld_unit_zero (S := S2048x128) whole2]
  refine Acc.done (old := k0_pay7 (F := Ideal)) ?_
  iterate 11 refine Acc.step ?_ _ (by rfl) _ _ arg14.view (fun e x => dv_piece _ _ _ _ _ _ _ _ e x)
  exact Acc.fill _ _ _ whole2 _

theorem dv_E (hc0 : ¬cond0_0 i) (hc1 : cond0_1 i) (hc2 : cond0_2 i) (hc3 : ¬cond0_3 i) :
    sout0_E_2 c i arg3 harg3 arg4 harg4 arg5 harg5 arg6 harg6 arg7 harg7 arg8 harg8 arg9 harg9 arg10 harg10 arg11 harg11 arg12 harg12 arg13 harg13
      arg14 harg14 hc0 hc1 hc2 hc3 x0 x1 x2 x3 x4 x5 xs0 = dvG x0 x1 x3 (fun a => row x5 (ix3 0 0 a)) (k0_pay7 (F := Ideal)) := by
  unfold sout0_E_2
  rw [View.read_writes_junk_eq_canon]
  unfold kernelRun0_E
  dsimp only
  sl_unfold_words
  simp only [View.readAt_eq_ld, Memref.IsWhole.read_unread, View.ld_unit_zero (S := S2048x128) whole2]
  refine Acc.done (old := k0_pay7 (F := Ideal)) ?_
  iterate 11 refine Acc.step ?_ _ (by rfl) _ _ arg14.view (fun e x => dv_piece _ _ _ _ _ _ _ _ e x)
  exact Acc.fill _ _ _ whole2 _

theorem dv_F (hc0 : ¬cond0_0 i) (hc1 : ¬cond0_1 i) (hc2 : cond0_2 i) (hc3 : ¬cond0_3 i) :
    sout0_F_2 c i arg3 harg3 arg4 harg4 arg5 harg5 arg6 harg6 arg7 harg7 arg8 harg8 arg9 harg9 arg10 harg10 arg11 harg11 arg12 harg12 arg13 harg13
      arg14 harg14 hc0 hc1 hc2 hc3 x0 x1 x2 x3 x4 x5 xs0 xs1 xs2 = dvG x0 x1 x3 (fun a => row x5 (ix3 0 0 a)) xs2 := by
  unfold sout0_F_2
  rw [View.read_writes_junk_eq_canon]
  unfold kernelRun0_F
  dsimp only
  sl_unfold_words
  simp only [View.readAt_eq_ld, Memref.IsWhole.read_unread, View.ld_unit_zero (S := S2048x128) whole2]
  refine canon_of_pieces _ _ ?_ (by sl_kernel_rfl)
  iterate 11 refine And.intro (fun x => dv_piece _ _ _ _ _ _ _ _ rfl x) ?_
  trivial

theorem dv_G (hc0 : ¬cond0_0 i) (hc1 : ¬cond0_1 i) (hc2 : cond0_2 i) (hc3 : cond0_3 i) :
    sout0_G_2 c i arg3 harg3 arg4 harg4 arg5 harg5 arg6 harg6 arg7 harg7 arg8 harg8 arg9 harg9 arg10 harg10 arg11 harg11 arg12 harg12 arg13 harg13
      arg14 harg14 hc0 hc1 hc2 hc3 x0 x1 x2 x3 x4 x5 xs0 xs1 xs2 = dvG x0 x1 x3 (fun a => row x5 (ix3 0 0 a)) xs2 := by
  unfold sout0_G_2
  rw [View.read_writes_junk_eq_canon]
  unfold kernelRun0_G
  dsimp only
  sl_unfold_words
  simp only [View.readAt_eq_ld, Memref.IsWhole.read_unread, View.ld_unit_zero (S := S2048x128) whole2]
  refine canon_of_pieces _ _ ?_ (by sl_kernel_rfl)
  iterate 11 refine And.intro (fun x => dv_piece _ _ _ _ _ _ _ _ rfl x) ?_
  trivial

theorem dqOut_E (hc0 : ¬cond0_0 i) (hc1 : cond0_1 i) (hc2 : cond0_2 i) (hc3 : ¬cond0_3 i) :
    out0_E_6 c i arg3 harg3 arg4 harg4 arg5 harg5 arg6 harg6 arg7 harg7 arg8 harg8 arg9 harg9 arg10 harg10 arg11 harg11 arg12 harg12 arg13 harg13
      arg14 harg14 hc0 hc1 hc2 hc3 x0 x1 x2 x3 x4 x5 xs0 = colB (dqG x0 x1 x2 x3 x4 (fun a => row x5 (ix3 0 0 a))) (i 2) xs0 := by
  unfold out0_E_6
  rw [View.read_writes_junk_eq_canon]
  unfold kernelRun0_E
  dsimp only
  sl_unfold_words
  simp only [View.readAt_eq_ld, Memref.IsWhole.read_unread, View.ld_unit_zero (S := S2048x128) whole2]
  exact col_out arg12.view _ _ _ (i 2) _ (col_start i) _ _ _ fun d a => dq_payload x0 x1 x2 x3 x4 x5 _ d a

theorem dqOut_F (hc0 : ¬cond0_0 i) (hc1 : ¬cond0_1 i) (hc2 : cond0_2 i) (hc3 : ¬cond0_3 i) :
    out0_F_6 c i arg3 harg3 arg4 harg4 arg5 harg5 arg6 harg6 arg7 harg7 arg8 harg8 arg9 harg9 arg10 harg10 arg11 harg11 arg12 harg12 arg13 harg13
      arg14 harg14 hc0 hc1 hc2 hc3 x0 x1 x2 x3 x4 x5 xs0 xs1 xs2 = colB (dqG x0 x1 x2 x3 x4 (fun a => row x5 (ix3 0 0 a))) (i 2) xs0 := by
  unfold out0_F_6
  rw [View.read_writes_junk_eq_canon]
  unfold kernelRun0_F
  dsimp only
  sl_unfold_words
  simp only [View.readAt_eq_ld, Memref.IsWhole.read_unread, View.ld_unit_zero (S := S2048x128) whole2]
  exact col_out arg12.view _ _ _ (i 2) _ (col_start i) _ _ _ fun d a => dq_payload x0 x1 x2 x3 x4 x5 _ d a

theorem dqOut_G (hc0 : ¬cond0_0 i) (hc1 : ¬cond0_1 i) (hc2 : cond0_2 i) (hc3 : cond0_3 i) :
    out0_G_6 c i arg3 harg3 arg4 harg4 arg5 harg5 arg6 harg6 arg7 harg7 arg8 harg8 arg9 harg9 arg10 harg10 arg11 harg11 arg12 harg12 arg13 harg13
      arg14 harg14 hc0 hc1 hc2 hc3 x0 x1 x2 x3 x4 x5 xs0 xs1 xs2 = colB (dqG x0 x1 x2 x3 x4 (fun a => row x5 (ix3 0 0 a))) (i 2) xs0 := by
  unfold out0_G_6
  rw [View.read_writes_junk_eq_canon]
  unfold kernelRun0_G
  dsimp only
  sl_unfold_words
  simp only [View.readAt_eq_ld, Memref.IsWhole.read_unread, View.ld_unit_zero (S := S2048x128) whole2]
  exact col_out arg12.view _ _ _ (i 2) _ (col_start i) _ _ _ fun d a => dq_payload x0 x1 x2 x3 x4 x5 _ d a

theorem dkOut_C (hc0 : ¬cond0_0 i) (hc1 : ¬cond0_1 i) (hc2 : ¬cond0_2 i) (hc3 : cond0_3 i) :
    out0_C_7 c i arg3 harg3 arg4 harg4 arg5 harg5 arg6 harg6 arg7 harg7 arg8 harg8 arg9 harg9 arg10 harg10 arg11 harg11 arg12 harg12 arg13 harg13
      arg14 harg14 hc0 hc1 hc2 hc3 x0 x1 x2 x3 x4 x5 xs0 xs1 xs2 = dkG x0 x1 x2 x3 x4 (fun a => row x5 (ix3 0 0 a)) xs1 := by
  unfold out0_C_7
  rw [View.read_writes_junk_eq_canon]
  unfold kernelRun0_C
  dsimp only
  sl_unfold_words
  simp only [View.readAt_eq_ld, Memref.IsWhole.read_unread, View.ld_unit_zero (S := S2048x128) whole2]
  refine (blk_out _ _ _ _).trans (canon_of_pieces _ _ ?_ (by sl_kernel_rfl))
  iterate 11 refine And.intro (fun x => dk_piece _ _ _ _ _ _ _ _ _ _ rfl x) ?_
  trivial

theorem dkOut_G (hc0 : ¬cond0_0 i) (hc1 : ¬cond0_1 i) (hc2 : cond0_2 i) (hc3 : cond0_3 i) :
    out0_G_7 c i arg3 harg3 arg4 harg4 arg5 harg5 arg6 harg6 arg7 harg7 arg8 harg8 arg9 harg9 arg10 harg10 arg11 harg11 arg12 harg12 arg13 harg13
      arg14 harg14 hc0 hc1 hc2 hc3 x0 x1 x2 x3 x4 x5 xs0 xs1 xs2 = dkG x0 x1 x2 x3 x4 (fun a => row x5 (ix3 0 0 a)) xs1 := by
  unfold out0_G_7
  rw [View.read_writes_junk_eq_canon]
  unfold kernelRun0_G
  dsimp only
  sl_unfold_words
  simp only [View.readAt_eq_ld, Memref.IsWhole.read_unread, View.ld_unit_zero (S := S2048x128) whole2]
  refine (blk_out _ _ _ _).trans (canon_of_pieces _ _ ?_ (by sl_kernel_rfl))
  iterate 11 refine And.intro (fun x => dk_piece _ _ _ _ _ _ _ _ _ _ rfl x) ?_
  trivial

theorem dvOut_C (hc0 : ¬cond0_0 i) (hc1 : ¬cond0_1 i) (hc2 : ¬cond0_2 i) (hc3 : cond0_3 i) :
    out0_C_8 c i arg3 harg3 arg4 harg4 arg5 harg5 arg6 harg6 arg7 harg7 arg8 harg8 arg9 harg9 arg10 harg10 arg11 harg11 arg12 harg12 arg13 harg13
      arg14 harg14 hc0 hc1 hc2 hc3 x0 x1 x2 x3 x4 x5 xs0 xs1 xs2 = dvG x0 x1 x3 (fun a => row x5 (ix3 0 0 a)) xs2 := by
  unfold out0_C_8
  rw [View.read_writes_junk_eq_canon]
  unfold kernelRun0_C
  dsimp only
  sl_unfold_words
  simp only [View.readAt_eq_ld, Memref.IsWhole.read_unread, View.ld_unit_zero (S := S2048x128) whole2]
  refine (blk_out _ _ _ _).trans (canon_of_pieces _ _ ?_ (by sl_kernel_rfl))
  iterate 11 refine And.intro (fun x => dv_piece _ _ _ _ _ _ _ _ rfl x) ?_
  trivial

theorem dvOut_G (hc0 : ¬cond0_0 i) (hc1 : ¬cond0_1 i) (hc2 : cond0_2 i) (hc3 : cond0_3 i) :
    out0_G_8 c i arg3 harg3 arg4 harg4 arg5 harg5 arg6 harg6 arg7 harg7 arg8 harg8 arg9 harg9 arg10 harg10 arg11 harg11 arg12 harg12 arg13 harg13
      arg14 harg14 hc0 hc1 hc2 hc3 x0 x1 x2 x3 x4 x5 xs0 xs1 xs2 = dvG x0 x1 x3 (fun a => row x5 (ix3 0 0 a)) xs2 := by
  unfold out0_G_8
  rw [View.read_writes_junk_eq_canon]
  unfold kernelRun0_G
  dsimp only
  sl_unfold_words
  simp only [View.readAt_eq_ld, Memref.IsWhole.read_unread, View.ld_unit_zero (S := S2048x128) whole2]
  refine (blk_out _ _ _ _).trans (canon_of_pieces _ _ ?_ (by sl_kernel_rfl))
  iterate 11 refine And.intro (fun x => dv_piece _ _ _ _ _ _ _ _ rfl x) ?_
  trivial

end Cert.Attn.Body
-- ==== Proof.Attn.Step.lean ====
/-
  What each grid point leaves in the three accumulators and writes out, in terms of what it finds there: the seven cases
  of the grid brought to one statement.
-/
module

public import proofs.«01_k».proof.Proof.Attn.Body
public import proofs.«01_k».proof.Proof.Gen.KernelIdeal.Frame

@[expose] public section

set_option maxRecDepth 16384

noncomputable section

namespace Cert.Attn.Step

open Idealize.ShloMosaic Idealize.ShloMosaic.TcCoe Idealize.ShloMosaic.Tactic Cert.KernelIdeal Cert.KernelIdeal.Gen Cert.Attn.Block Cert.Attn.Body

variable (m : (ℓ : Loc nD τ sig) → Buf (Elt Ideal) ℓ) (c : Dev nD)

/-- The blocks a point reads: queries, keys, values, cotangents, outputs, saved logarithms. -/
abbrev bq (t : Fin cfg0.N) : Vec Ideal S2048x128 .bf16 := iblk m c 0 t
abbrev bk (t : Fin cfg0.N) : Vec Ideal S2816x128 .bf16 := iblk m c 1 t
abbrev bv (t : Fin cfg0.N) : Vec Ideal S2816x128 .bf16 := iblk m c 2 t
abbrev bt (t : Fin cfg0.N) : Vec Ideal S2048x128 .f32 := iblk m c 3 t
abbrev bo (t : Fin cfg0.N) : Vec Ideal S2048x128 .bf16 := iblk m c 4 t
abbrev bl (t : Fin cfg0.N) (a : Fin 2048) : EReal := row (iblk m c 5 t) (ix3 0 0 a)

/-- What a point adds to its columns of the queries' gradient. -/
abbrev gq (t : Fin cfg0.N) : Fin 128 → Fin 2048 → EReal := dqG (bq m c t) (bk m c t) (bv m c t) (bt m c t) (bo m c t) (bl m c t)

theorem prev_lt (t : Fin cfg0.N) : t.val - 1 < cfg0.N := Nat.lt_of_le_of_lt (Nat.sub_le _ _) t.isLt

/-- What a point finds in the three accumulators, zeros where it starts them. -/
def prev0 (t : Fin cfg0.N) : Vec Ideal S128x8192 .f32 := if t.val % 12 = 0 then k0_pay5 (F := Ideal) else (outsAt0 m c (t.val - 1) (prev_lt t)).2.2.2.1
def prev1 (t : Fin cfg0.N) : Vec Ideal S2816x128 .f32 := if t.val % 4 = 0 then k0_pay6 (F := Ideal) else (outsAt0 m c (t.val - 1) (prev_lt t)).2.2.2.2.1
def prev2 (t : Fin cfg0.N) : Vec Ideal S2816x128 .f32 := if t.val % 4 = 0 then k0_pay7 (F := Ideal) else (outsAt0 m c (t.val - 1) (prev_lt t)).2.2.2.2.2

/-- What each point leaves in the three accumulators, from what it finds there: the case its place in the grid selects. -/
theorem step (t : Fin cfg0.N) : (outsAt0 m c t.val t.isLt).2.2.2.1 = colG (gq m c t) (grid0.coords t 2).val (prev0 m c t)
    ∧ (outsAt0 m c t.val t.isLt).2.2.2.2.1 = dkG (bq m c t) (bk m c t) (bv m c t) (bt m c t) (bo m c t) (bl m c t) (prev1 m c t)
    ∧ (outsAt0 m c t.val t.isLt).2.2.2.2.2 = dvG (bq m c t) (bk m c t) (bt m c t) (bl m c t) (prev2 m c t) := by
  unfold prev0 prev1 prev2
  by_cases h0 : t.val % 12 = 0
  · by_cases h1 : t.val % 4 = 0
    · by_cases h2 : t.val / 4 % 3 = 2
      · omega
      · by_cases h3 : t.val % 4 = 3
        · omega
        · rw [outsAt0_A m c t h0 h1 h2 h3, if_pos h0, if_pos h1, if_pos h1]
          dsimp only
          exact ⟨dq_A .., dk_A .., dv_A ..⟩
    · omega
  · by_cases h1 : t.val % 4 = 0
    · by_cases h2 : t.val / 4 % 3 = 2
      · by_cases h3 : t.val % 4 = 3
        · omega
        · rw [outsAt0_E m c t h0 h1 h2 h3, if_neg h0, if_pos h1, if_pos h1]
          dsimp only
          exact ⟨dq_E .., dk_E .., dv_E ..⟩
      · by_cases h3 : t.val % 4 = 3
        · omega
        · rw [outsAt0_D m c t h0 h1 h2 h3, if_neg h0, if_pos h1, if_pos h1]
          dsimp only
          exact ⟨dq_D .., dk_D .., dv_D ..⟩
    · by_cases h2 : t.val / 4 % 3 = 2
      · by_cases h3 : t.val % 4 = 3
        · rw [outsAt0_G m c t h0 h1 h2 h3, if_neg h0, if_neg h1, if_neg h1]
          dsimp only
          exact ⟨dq_G .., dk_G .., dv_G ..⟩
        · rw [outsAt0_F m c t h0 h1 h2 h3, if_neg h0, if_neg h1, if_neg h1]
          dsimp only
          exact ⟨dq_F .., dk_F .., dv_F ..⟩
      · by_cases h3 : t.val % 4 = 3
        · rw [outsAt0_C m c t h0 h1 h2 h3, if_neg h0, if_neg h1, if_neg h1]
          dsimp only
          exact ⟨dq_C .., dk_C .., dv_C ..⟩
        · rw [outsAt0_B m c t h0 h1 h2 h3, if_neg h0, if_neg h1, if_neg h1]
          dsimp only
          exact ⟨dq_B .., dk_B .., dv_B ..⟩

/-- At the last key block, what is written out of the queries' gradient is the point's columns of the accumulator. -/
theorem step_dq (t : Fin cfg0.N) (h2 : t.val / 4 % 3 = 2) :
    (outsAt0 m c t.val t.isLt).1 = colB (gq m c t) (grid0.coords t 2) (prev0 m c t) := by
  have h0 : ¬t.val % 12 = 0 := by omega
  unfold prev0
  rw [if_neg h0]
  by_cases h1 : t.val % 4 = 0
  · have h3 : ¬t.val % 4 = 3 := by omega
    rw [outsAt0_E m c t h0 h1 h2 h3]
    dsimp only
    exact dqOut_E ..
  · by_cases h3 : t.val % 4 = 3
    · rw [outsAt0_G m c t h0 h1 h2 h3]
      dsimp only
      exact dqOut_G ..
    · rw [outsAt0_F m c t h0 h1 h2 h3]
      dsimp only
      exact dqOut_F ..

/-- At the last query block, what is written out of the keys' and the values' gradients is the accumulators. -/
theorem step_dkv (t : Fin cfg0.N) (h3 : t.val % 4 = 3) :
    (outsAt0 m c t.val t.isLt).2.1 = (outsAt0 m c t.val t.isLt).2.2.2.2.1
    ∧ (outsAt0 m c t.val t.isLt).2.2.1 = (outsAt0 m c t.val t.isLt).2.2.2.2.2 := by
  have h0 : ¬t.val % 12 = 0 := by omega
  have h1 : ¬t.val % 4 = 0 := by omega
  by_cases h2 : t.val / 4 % 3 = 2
  · rw [outsAt0_G m c t h0 h1 h2 h3]
    dsimp only
    exact ⟨(dkOut_G ..).trans (dk_G ..).symm, (dvOut_G ..).trans (dv_G ..).symm⟩
  · rw [outsAt0_C m c t h0 h1 h2 h3]
    dsimp only
    exact ⟨(dkOut_C ..).trans (dk_C ..).symm, (dvOut_C ..).trans (dv_C ..).symm⟩

end Cert.Attn.Step
-- ==== Proof.Attn.Read.lean ====
/-
  The blocks a grid point reads, as real numbers, for arguments holding no infinity, and what the point computes from
  them: softmax weights and scores' cotangents of the attention.
-/
module

public import proofs.«01_k».proof.Proof.Attn.Host
public import proofs.«01_k».proof.Proof.Attn.Step
public import Idealize.ShloMosaic.Lib.Pipeline.ValueKit

@[expose] public section

set_option maxRecDepth 16384

noncomputable section

namespace Cert.Attn.Read

open Idealize.ShloMosaic Idealize.ShloMosaic.TcCoe Idealize.ShloMosaic.Tactic Cert.KernelIdeal Cert.KernelIdeal.Gen Cert.Attn Cert.Attn.Block
open Cert.Attn.Body (row)
open Cert.Attn.Host Cert.Attn.Step
open Cert.Attn.Ref (c0)

/-! ## Where the blocks lie -/

theorem e0 : ∀ t : Fin cfg0.N, win0_0.index t = ![t.val % 4, t.val / 12] := (by decide +kernel : ∀ t : Fin grid0.N, _)
theorem e1 : ∀ t : Fin cfg0.N, win0_1.index t = ![t.val / 4 % 3, t.val / 12] := (by decide +kernel : ∀ t : Fin grid0.N, _)
theorem e2 : ∀ t : Fin cfg0.N, win0_2.index t = ![t.val / 4 % 3, t.val / 12] := (by decide +kernel : ∀ t : Fin grid0.N, _)
theorem e3 : ∀ t : Fin cfg0.N, win0_3.index t = ![t.val % 4, t.val / 12] := (by decide +kernel : ∀ t : Fin grid0.N, _)
theorem e4 : ∀ t : Fin cfg0.N, win0_4.index t = ![t.val % 4, t.val / 12] := (by decide +kernel : ∀ t : Fin grid0.N, _)
theorem e5 : ∀ t : Fin cfg0.N, win0_5.index t = ![t.val / 12, 0, t.val % 4] := (by decide +kernel : ∀ t : Fin grid0.N, _)
theorem e6 : ∀ t : Fin cfg0.N, win0_6.index t = ![if t.val / 4 % 3 = 2 then t.val % 4 else 0, t.val / 12] := (by decide +kernel : ∀ t : Fin grid0.N, _)
theorem e7 : ∀ t : Fin cfg0.N, win0_7.index t = ![t.val / 4 % 3, t.val / 12] := (by decide +kernel : ∀ t : Fin grid0.N, _)
theorem e8 : ∀ t : Fin cfg0.N, win0_8.index t = ![t.val / 4 % 3, t.val / 12] := (by decide +kernel : ∀ t : Fin grid0.N, _)
theorem ec : ∀ t : Fin cfg0.N, (grid0.coords t 2).val = t.val % 4 := (by decide +kernel : ∀ t : Fin grid0.N, _)

theorem lt96 (t : Fin cfg0.N) : t.val < 96 := lt_of_lt_of_eq t.isLt N_0

/-- The head of a grid point. -/
def ph (n : ℕ) (hn : n < 96) : Fin 8 := ⟨n / 12, by omega⟩
/-- A row of a point's query block, in the arrays. -/
def pa (n : ℕ) (a : Fin 2048) : Fin 8192 := ⟨2048 * (n % 4) + a.val, by omega⟩
/-- A row of a point's key block, in the arrays. -/
def pr (n : ℕ) (r : Fin 2816) : Fin 8448 := ⟨2816 * (n / 4 % 3) + r.val, by omega⟩
/-- A lane of a head's slot, in the padded layout. -/
def pl (h : Fin 8) (d : Fin 128) : Fin 1024 := ⟨128 * h.val + d.val, by omega⟩

theorem slots_at {n w : ℕ} (g : Fin 8 → Fin n → Fin w → ℝ) (h : Fin 8) (a : Fin n) (d : Fin 128) :
    slots g (ix2 a (pl h d)) = ((pad 128 (g h) a d : ℝ) : EReal) := by
  have hh : hd (pl h d) = h := Fin.ext (by show (128 * h.val + d.val) / 128 = h.val; omega)
  have hl : ln (pl h d) = d := Fin.ext (by show (128 * h.val + d.val) % 128 = d.val; omega)
  show ((pad 128 (g (hd (pl h d))) a (ln (pl h d)) : ℝ) : EReal) = _
  rw [hh, hl]

variable (m : (ℓ : Loc nD τ sig) → Buf (Elt Ideal) ℓ) (c : Dev nD)
variable (h0 : Finite (X0 m c)) (h1 : Finite (X1 m c)) (h2 : Finite (X2 m c)) (h3 : Finite (X3 m c))

/-- The real functions of a head: queries, keys, values, cotangents. -/
abbrev Q (h : Fin 8) := head (X0 m c) h
abbrev K (h : Fin 8) := head (X1 m c) h
abbrev W (h : Fin 8) := head (X2 m c) h
abbrev T (h : Fin 8) := head (X3 m c) h

variable (t : Fin cfg0.N)

include h0 in
theorem bq_eq (a : Fin 2048) (d : Fin 128) : bq m c t (ix2 a d) = ((pad 128 (Q m c (ph t.val (lt96 t))) (pa t.val a) d : ℝ) : EReal) := by
  rw [← slots_at (head (X0 m c)), ← q_eq m c h0]
  blk_ext [iblk, e0 t, pa, pl, ph]

include h1 in
theorem bk_eq (r : Fin 2816) (d : Fin 128) : bk m c t (ix2 r d) = ((pad 128 (K m c (ph t.val (lt96 t))) (pr t.val r) d : ℝ) : EReal) := by
  rw [← slots_at (head (X1 m c)), ← k_eq m c h1]
  blk_ext [iblk, e1 t, pr, pl, ph]

include h2 in
theorem bv_eq (r : Fin 2816) (d : Fin 128) : bv m c t (ix2 r d) = ((pad 128 (W m c (ph t.val (lt96 t))) (pr t.val r) d : ℝ) : EReal) := by
  rw [← slots_at (head (X2 m c)), ← v_eq m c h2]
  blk_ext [iblk, e2 t, pr, pl, ph]

include h3 in
theorem bt_eq (a : Fin 2048) (d : Fin 128) : bt m c t (ix2 a d) = ((pad 128 (T m c (ph t.val (lt96 t))) (pa t.val a) d : ℝ) : EReal) := by
  rw [← slots_at (head (X3 m c)), ← ct_eq m c h3]
  blk_ext [iblk, e3 t, pa, pl, ph]

include h0 h1 h2 in
theorem bo_eq (a : Fin 2048) (d : Fin 128) : bo m c t (ix2 a d)
    = ((pad 128 (out c0 (Q m c (ph t.val (lt96 t))) (K m c (ph t.val (lt96 t))) (W m c (ph t.val (lt96 t)))) (pa t.val a) d : ℝ) : EReal) := by
  rw [← slots_at (fun h => out c0 (head (X0 m c) h) (head (X1 m c) h) (head (X2 m c) h)), ← o_eq m c h0 h1 h2]
  blk_ext [iblk, e4 t, pa, pl, ph]

/-- The first sublane of a block of saved logarithms. -/
theorem row_apply (x : Vec Ideal S1x8x2048 .f32) (a : Fin 2048) : row x (ix3 0 0 a) = x (ix3 0 0 a) := by
  refine congrArg x (funext fun b => Fin.ext ?_)
  match b with
  | ⟨0, _⟩ => rfl
  | ⟨1, _⟩ => rfl
  | ⟨2, _⟩ => show 0 + 1 * a.val = a.val; omega

include h0 h1 in
theorem bl_eq (a : Fin 2048) : bl m c t a = ((lse (X0 m c) (X1 m c) (ph t.val (lt96 t)) (pa t.val a) : ℝ) : EReal) := by
  rw [← lse_eq m c h0 h1 _ 0, bl, row_apply]
  blk_ext [iblk, e5 t, pa, pl, ph]

/-! ## What the point computes -/

theorem kap_eq : kap = ((c0 * (Real.log 2)⁻¹ : ℝ) : EReal) := by
  rfl

theorem scl_eq : scl = ((c0 : ℝ) : EReal) := Ref.ofBits_c0

/-- A real sum of products, over the extended reals. -/
theorem coe_sum_mul {ι : Type} [Fintype ι] (f g : ι → ℝ) : ∑ i, (f i : EReal) * (g i : EReal) = ((∑ i, f i * g i : ℝ) : EReal) := by
  rw [coe_sum]
  exact Finset.sum_congr rfl fun i _ => (EReal.coe_mul _ _).symm

include h0 h1 in
/-- The point's weights are the softmax's. -/
theorem wgt_eq (r : Fin 2816) (a : Fin 2048) : wgt (bq m c t) (bk m c t) (bl m c t) r a
    = ((weight c0 (Q m c (ph t.val (lt96 t))) (K m c (ph t.val (lt96 t))) (pa t.val a) (pr t.val r) : ℝ) : EReal) := by
  unfold wgt
  simp only [bq_eq m c h0, bk_eq m c h1, bl_eq m c h0 h1]
  rw [coe_sum_mul, kap_eq, ← EReal.coe_mul, ← EReal.coe_sub, exp2_coe, sum_pad_mul (by norm_num)]
  exact congrArg _ (weight_rpow c0 _ _ _ _ _)

include h0 h1 h2 h3 in
/-- The point's sum of cotangent times output. -/
theorem dl_eq (a : Fin 2048) : dl (bt m c t) (bo m c t) a
    = ((∑ r, weight c0 (Q m c (ph t.val (lt96 t))) (K m c (ph t.val (lt96 t))) (pa t.val a) r
        * dweight (W m c (ph t.val (lt96 t))) (T m c (ph t.val (lt96 t))) (pa t.val a) r : ℝ) : EReal) := by
  unfold dl
  simp only [bt_eq m c h3, bo_eq m c h0 h1 h2]
  rw [coe_sum_mul, sum_pad_mul (by norm_num) (T m c (ph t.val (lt96 t))) (out c0 _ _ _), sum_mul_out]

include h0 h1 h2 h3 in
/-- The point's scores' cotangents are the softmax's backward pass's. -/
theorem dsc_eq (r : Fin 2816) (a : Fin 2048) : dsc (bq m c t) (bk m c t) (bv m c t) (bt m c t) (bo m c t) (bl m c t) r a
    = ((dscore c0 (Q m c (ph t.val (lt96 t))) (K m c (ph t.val (lt96 t))) (W m c (ph t.val (lt96 t))) (T m c (ph t.val (lt96 t)))
        (pa t.val a) (pr t.val r) : ℝ) : EReal) := by
  unfold dsc
  rw [wgt_eq m c h0 h1, dl_eq m c h0 h1 h2 h3, scl_eq]
  simp only [bt_eq m c h3, bv_eq m c h2]
  rw [coe_sum_mul, sum_pad_mul (by norm_num), ← EReal.coe_sub, ← EReal.coe_mul, ← EReal.coe_mul]
  unfold dscore
  rw [show dweight (W m c (ph t.val (lt96 t))) (T m c (ph t.val (lt96 t))) (pa t.val a) (pr t.val r)
    = ∑ e, W m c (ph t.val (lt96 t)) (pr t.val r) e * T m c (ph t.val (lt96 t)) (pa t.val a) e from
      Finset.sum_congr rfl fun e _ => mul_comm _ _]

end Cert.Attn.Read
-- ==== Proof.Attn.Fold.lean ====
/-
  The accumulators along the grid: after each point they hold the sums over the query blocks, or the key blocks, done so
  far; at the last one the whole sums.
-/
module

public import proofs.«01_k».proof.Proof.Attn.Read

@[expose] public section

set_option maxRecDepth 16384

noncomputable section

namespace Cert.Attn.Fold

open Idealize.ShloMosaic Idealize.ShloMosaic.TcCoe Idealize.ShloMosaic.Tactic Cert.KernelIdeal Cert.KernelIdeal.Gen Cert.Attn Cert.Attn.Block
open Cert.Attn.Body (colG colB)
open Cert.Attn.Host Cert.Attn.Step Cert.Attn.Read
open Cert.Attn.Ref (c0)

/-! ## Partial sums -/

/-- The sum of the terms below `n`. -/
def cum {N : ℕ} (n : ℕ) (f : Fin N → ℝ) : ℝ := ∑ r : Fin N, if r.val < n then f r else 0

theorem cum_zero {N : ℕ} (f : Fin N → ℝ) : cum 0 f = 0 := by simp [cum]

theorem cum_all {N : ℕ} (f : Fin N → ℝ) : cum N f = ∑ r, f r := by simp [cum]

/-- The next `w` terms. -/
theorem cum_add {N : ℕ} (n w : ℕ) (f : Fin N → ℝ) (h : n + w ≤ N) :
    cum (n + w) f = cum n f + ∑ k : Fin w, f ⟨n + k.val, by omega⟩ := by
  obtain ⟨p, rfl⟩ := Nat.exists_eq_add_of_le h
  unfold cum
  simp only [Fin.sum_univ_add]
  have hl : ∀ i : Fin n, ((Fin.castAdd p (Fin.castAdd w i)).val < n + w) ∧ ((Fin.castAdd p (Fin.castAdd w i)).val < n) := fun i => by
    simp only [Fin.val_castAdd]; omega
  have hm : ∀ i : Fin w, ((Fin.castAdd p (Fin.natAdd n i)).val < n + w) ∧ ¬((Fin.castAdd p (Fin.natAdd n i)).val < n) := fun i => by
    simp only [Fin.val_castAdd, Fin.val_natAdd]; omega
  have hr : ∀ i : Fin p, ¬((Fin.natAdd (n + w) i).val < n + w) ∧ ¬((Fin.natAdd (n + w) i).val < n) := fun i => by
    simp only [Fin.val_natAdd]; omega
  simp only [(hl _).1, (hl _).2, (hm _).1, (hm _).2, (hr _).1, (hr _).2, if_true, if_false, Finset.sum_const_zero, add_zero]
  rfl

variable (m : (ℓ : Loc nD τ sig) → Buf (Elt Ideal) ℓ) (c : Dev nD)
variable (h0 : Finite (X0 m c)) (h1 : Finite (X1 m c)) (h2 : Finite (X2 m c)) (h3 : Finite (X3 m c))

/-! ## The terms of the three gradients -/

/-- A query's term of the values' gradient at key `r`, lane `e`. -/
def tv (h : Fin 8) (r : Fin 8448) (e : Fin 128) (a : Fin 8192) : ℝ :=
  pad 128 (T m c h) a e * weight c0 (Q m c h) (K m c h) a r
/-- A query's term of the keys' gradient at key `r`, lane `d`. -/
def tk (h : Fin 8) (r : Fin 8448) (d : Fin 128) (a : Fin 8192) : ℝ :=
  dscore c0 (Q m c h) (K m c h) (W m c h) (T m c h) a r * pad 128 (Q m c h) a d
/-- A key's term of the queries' gradient at query `a`, lane `d`. -/
def tq (h : Fin 8) (a : Fin 8192) (d : Fin 128) (r : Fin 8448) : ℝ :=
  dscore c0 (Q m c h) (K m c h) (W m c h) (T m c h) a r * pad 128 (K m c h) r d

theorem zero0 (y : S128x8192.Idx) : k0_pay5 (F := Ideal) y = 0 := by
  show Ideal.ofBits .f32 0x00000000#32 = 0
  exact Ref.ofBits_zero
theorem zero1 (y : S2816x128.Idx) : k0_pay6 (F := Ideal) y = 0 := by
  show Ideal.ofBits .f32 0x00000000#32 = 0
  exact Ref.ofBits_zero
theorem zero2 (y : S2816x128.Idx) : k0_pay7 (F := Ideal) y = 0 := by
  show Ideal.ofBits .f32 0x00000000#32 = 0
  exact Ref.ofBits_zero

theorem ph_pred (n : ℕ) (hn : n < 96) (h : ¬n % 12 = 0) : ph (n - 1) (by omega) = ph n hn := Fin.ext (by show (n - 1) / 12 = n / 12; omega)

theorem pr_pred (n : ℕ) (r : Fin 2816) (h : ¬n % 4 = 0) : pr (n - 1) r = pr n r :=
  Fin.ext (by show 2816 * ((n - 1) / 4 % 3) + r.val = 2816 * (n / 4 % 3) + r.val; omega)

/-! ## The values' and the keys' gradients: over the query blocks -/

section
include h0 h1 h3

/-- What a point adds to the values' gradient. -/
theorem dv_add (n : ℕ) (hn : n < cfg0.N) (r : Fin 2816) (e : Fin 128) :
    ∑ a : Fin 2048, wgt (bq m c ⟨n, hn⟩) (bk m c ⟨n, hn⟩) (bl m c ⟨n, hn⟩) r a * bt m c ⟨n, hn⟩ (ix2 a e)
      = ((∑ a : Fin 2048, tv m c (ph n (lt96 ⟨n, hn⟩)) (pr n r) e (pa n a) : ℝ) : EReal) := by
  rw [coe_sum]
  refine Finset.sum_congr rfl fun a _ => ?_
  rw [wgt_eq m c h0 h1, bt_eq m c h3, ← EReal.coe_mul, mul_comm]
  rfl

/-- The values' accumulator after point `n`. -/
theorem dv_at (n : ℕ) : ∀ (hn : n < cfg0.N) (r : Fin 2816) (e : Fin 128), (outsAt0 m c n hn).2.2.2.2.2 (ix2 r e)
    = ((cum (2048 * (n % 4) + 2048) (tv m c (ph n (lt96 ⟨n, hn⟩)) (pr n r) e) : ℝ) : EReal) := by
  induction n using Nat.strong_induction_on with
  | _ n ih =>
    intro hn r e
    have hp : prev2 m c ⟨n, hn⟩ (ix2 r e) = ((cum (2048 * (n % 4)) (tv m c (ph n (lt96 ⟨n, hn⟩)) (pr n r) e) : ℝ) : EReal) := by
      unfold prev2
      by_cases hz : n % 4 = 0
      · rw [if_pos hz, zero2, hz, Nat.mul_zero, cum_zero, EReal.coe_zero]
      · rw [if_neg hz]
        refine (ih (n - 1) (by omega) _ r e).trans ?_
        rw [pr_pred n r hz, ph_pred n (lt96 ⟨n, hn⟩) (by omega), show 2048 * ((n - 1) % 4) + 2048 = 2048 * (n % 4) by omega]
    rw [(step m c ⟨n, hn⟩).2.2]
    show prev2 m c ⟨n, hn⟩ (ix2 r e) + ∑ a : Fin 2048, wgt (bq m c ⟨n, hn⟩) (bk m c ⟨n, hn⟩) (bl m c ⟨n, hn⟩) r a * bt m c ⟨n, hn⟩ (ix2 a e) = _
    rw [hp, dv_add m c h0 h1 h3, ← EReal.coe_add, cum_add _ _ _ (by omega)]
    rfl

end

include h0 h1 h2 h3

/-- What a point adds to the keys' gradient. -/
theorem dk_add (n : ℕ) (hn : n < cfg0.N) (r : Fin 2816) (d : Fin 128) :
    ∑ a : Fin 2048, dsc (bq m c ⟨n, hn⟩) (bk m c ⟨n, hn⟩) (bv m c ⟨n, hn⟩) (bt m c ⟨n, hn⟩) (bo m c ⟨n, hn⟩) (bl m c ⟨n, hn⟩) r a * bq m c ⟨n, hn⟩ (ix2 a d)
      = ((∑ a : Fin 2048, tk m c (ph n (lt96 ⟨n, hn⟩)) (pr n r) d (pa n a) : ℝ) : EReal) := by
  rw [coe_sum]
  refine Finset.sum_congr rfl fun a _ => ?_
  rw [dsc_eq m c h0 h1 h2 h3, bq_eq m c h0, ← EReal.coe_mul]
  rfl

/-- The keys' accumulator after point `n`. -/
theorem dk_at (n : ℕ) : ∀ (hn : n < cfg0.N) (r : Fin 2816) (d : Fin 128), (outsAt0 m c n hn).2.2.2.2.1 (ix2 r d)
    = ((cum (2048 * (n % 4) + 2048) (tk m c (ph n (lt96 ⟨n, hn⟩)) (pr n r) d) : ℝ) : EReal) := by
  induction n using Nat.strong_induction_on with
  | _ n ih =>
    intro hn r d
    have hp : prev1 m c ⟨n, hn⟩ (ix2 r d) = ((cum (2048 * (n % 4)) (tk m c (ph n (lt96 ⟨n, hn⟩)) (pr n r) d) : ℝ) : EReal) := by
      unfold prev1
      by_cases hz : n % 4 = 0
      · rw [if_pos hz, zero1, hz, Nat.mul_zero, cum_zero, EReal.coe_zero]
      · rw [if_neg hz]
        refine (ih (n - 1) (by omega) _ r d).trans ?_
        rw [pr_pred n r hz, ph_pred n (lt96 ⟨n, hn⟩) (by omega), show 2048 * ((n - 1) % 4) + 2048 = 2048 * (n % 4) by omega]
    rw [(step m c ⟨n, hn⟩).2.1]
    show prev1 m c ⟨n, hn⟩ (ix2 r d) + ∑ a : Fin 2048, dsc (bq m c ⟨n, hn⟩) (bk m c ⟨n, hn⟩) (bv m c ⟨n, hn⟩) (bt m c ⟨n, hn⟩) (bo m c ⟨n, hn⟩)
      (bl m c ⟨n, hn⟩) r a * bq m c ⟨n, hn⟩ (ix2 a d) = _
    rw [hp, dk_add m c h0 h1 h2 h3, ← EReal.coe_add, cum_add _ _ _ (by omega)]
    rfl

/-! ## The queries' gradient: over the key blocks -/

/-- What a point adds to a column of its query block. -/
theorem dq_add (n : ℕ) (hn : n < cfg0.N) (d : Fin 128) (a : Fin 2048) : gq m c ⟨n, hn⟩ d a
    = ((∑ r : Fin 2816, tq m c (ph n (lt96 ⟨n, hn⟩)) (pa n a) d (pr n r) : ℝ) : EReal) := by
  unfold gq dqG
  rw [coe_sum]
  refine Finset.sum_congr rfl fun r _ => ?_
  rw [dsc_eq m c h0 h1 h2 h3, bk_eq m c h1, ← EReal.coe_mul, mul_comm]
  rfl

/-- What a point finds in the queries' accumulator, once what each earlier point leaves is known. -/
theorem prev0_eq (n : ℕ) (hn : n < cfg0.N) (d : Fin 128) (b : Fin 8192)
    (ih : ∀ k, k < n → ∀ hk : k < cfg0.N, (outsAt0 m c k hk).2.2.2.1 (ix2 d b)
      = ((cum (2816 * (k / 4 % 3 + if b.val / 2048 ≤ k % 4 then 1 else 0)) (tq m c (ph k (lt96 ⟨k, hk⟩)) b d) : ℝ) : EReal)) :
    prev0 m c ⟨n, hn⟩ (ix2 d b)
      = ((cum (2816 * (n / 4 % 3 + if b.val / 2048 < n % 4 then 1 else 0)) (tq m c (ph n (lt96 ⟨n, hn⟩)) b d) : ℝ) : EReal) := by
  unfold prev0
  by_cases hz : n % 12 = 0
  · rw [if_pos hz, zero0, if_neg (by omega), show 2816 * (n / 4 % 3 + 0) = 0 by omega, cum_zero, EReal.coe_zero]
  · rw [if_neg hz]
    refine (ih (n - 1) (by omega) _).trans ?_
    rw [ph_pred n (lt96 ⟨n, hn⟩) hz,
      show 2816 * ((n - 1) / 4 % 3 + if b.val / 2048 ≤ (n - 1) % 4 then 1 else 0) = 2816 * (n / 4 % 3 + if b.val / 2048 < n % 4 then 1 else 0) by
        split <;> split <;> omega]

/-- The queries' accumulator after point `n`. -/
theorem dq_at (n : ℕ) : ∀ (hn : n < cfg0.N) (d : Fin 128) (b : Fin 8192), (outsAt0 m c n hn).2.2.2.1 (ix2 d b)
    = ((cum (2816 * (n / 4 % 3 + if b.val / 2048 ≤ n % 4 then 1 else 0)) (tq m c (ph n (lt96 ⟨n, hn⟩)) b d) : ℝ) : EReal) := by
  induction n using Nat.strong_induction_on with
  | _ n ih =>
    intro hn d b
    have hp := prev0_eq m c h0 h1 h2 h3 n hn d b fun k hk hk' => ih k hk hk' d b
    rw [(step m c ⟨n, hn⟩).1]
    by_cases hb : b.val / 2048 = n % 4
    · have e : colG (gq m c ⟨n, hn⟩) (grid0.coords ⟨n, hn⟩ 2).val (prev0 m c ⟨n, hn⟩) (ix2 d b)
          = prev0 m c ⟨n, hn⟩ (ix2 d b) + gq m c ⟨n, hn⟩ d ⟨b.val % 2048, Nat.mod_lt _ (by norm_num)⟩ := dif_pos (hb.trans (ec ⟨n, hn⟩).symm)
      rw [e, hp, dq_add m c h0 h1 h2 h3, ← EReal.coe_add, if_neg (by omega), if_pos (by omega), Nat.mul_add 2816 _ 1, cum_add _ _ _ (by omega),
        show pa n ⟨b.val % 2048, Nat.mod_lt _ (by norm_num)⟩ = b from Fin.ext (by show 2048 * (n % 4) + b.val % 2048 = b.val; omega)]
      rfl
    · have e : colG (gq m c ⟨n, hn⟩) (grid0.coords ⟨n, hn⟩ 2).val (prev0 m c ⟨n, hn⟩) (ix2 d b) = prev0 m c ⟨n, hn⟩ (ix2 d b) :=
        dif_neg fun h => hb (h.trans (ec ⟨n, hn⟩))
      rw [e, hp, show (if b.val / 2048 < n % 4 then 1 else 0) = if b.val / 2048 ≤ n % 4 then 1 else 0 by split <;> split <;> omega]

/-! ## What is written out -/

/-- The values' gradient of a key block. -/
theorem out_dv (t : Fin cfg0.N) (ht : t.val % 4 = 3) (r : Fin 2816) (e : Fin 128) : (outsAt0 m c t.val t.isLt).2.2.1 (ix2 r e)
    = ((pad 128 (dV c0 (Q m c (ph t.val (lt96 t))) (K m c (ph t.val (lt96 t))) (T m c (ph t.val (lt96 t)))) (pr t.val r) e : ℝ) : EReal) := by
  rw [(step_dkv m c t ht).2, dv_at m c h0 h1 h3, ht, cum_all (N := 8192), ← dV_pad (n := 96) (N := 128) (by norm_num)]
  simp only [tv, dV, weight_pad (n := 96) (N := 128) (by norm_num)]

/-- The keys' gradient of a key block. -/
theorem out_dk (t : Fin cfg0.N) (ht : t.val % 4 = 3) (r : Fin 2816) (d : Fin 128) : (outsAt0 m c t.val t.isLt).2.1 (ix2 r d)
    = ((pad 128 (dK c0 (Q m c (ph t.val (lt96 t))) (K m c (ph t.val (lt96 t))) (W m c (ph t.val (lt96 t))) (T m c (ph t.val (lt96 t)))) (pr t.val r) d : ℝ) : EReal) := by
  rw [(step_dkv m c t ht).1, dk_at m c h0 h1 h2 h3, ht, cum_all (N := 8192), ← dK_pad (n := 96) (m := 64) (N := 128) (by norm_num) (by norm_num)]
  simp only [tk, dK, dscore_pad (n := 96) (m := 64) (N := 128) (by norm_num) (by norm_num)]

/-- The queries' gradient of a query block. -/
theorem out_dq (t : Fin cfg0.N) (ht : t.val / 4 % 3 = 2) (a : Fin 2048) (d : Fin 128) : (outsAt0 m c t.val t.isLt).1 (ix2 a d)
    = ((pad 128 (dQ c0 (Q m c (ph t.val (lt96 t))) (K m c (ph t.val (lt96 t))) (W m c (ph t.val (lt96 t))) (T m c (ph t.val (lt96 t)))) (pa t.val a) d : ℝ) : EReal) := by
  have e : (outsAt0 m c t.val t.isLt).1 (ix2 a d) = (outsAt0 m c t.val t.isLt).2.2.2.1 (ix2 d (pa t.val a)) := by
    rw [step_dq m c t ht, (step m c t).1]
    have hx : (⟨2048 * (grid0.coords t 2).val + a.val, by rw [ec t]; omega⟩ : Fin 8192) = pa t.val a :=
      Fin.ext (by show 2048 * (grid0.coords t 2).val + a.val = 2048 * (t.val % 4) + a.val; rw [ec t])
    have hm : (⟨(pa t.val a).val % 2048, Nat.mod_lt _ (by norm_num)⟩ : Fin 2048) = a :=
      Fin.ext (by show (2048 * (t.val % 4) + a.val) % 2048 = a.val; omega)
    have hc : colG (gq m c t) (grid0.coords t 2).val (prev0 m c t) (ix2 d (pa t.val a))
        = prev0 m c t (ix2 d (pa t.val a)) + gq m c t d ⟨(pa t.val a).val % 2048, Nat.mod_lt _ (by norm_num)⟩ :=
      dif_pos (by rw [ec t]; show (2048 * (t.val % 4) + a.val) / 2048 = t.val % 4; omega)
    rw [hc, hm, ← hx]
    rfl
  have hb : (pa t.val a).val / 2048 ≤ t.val % 4 := by show (2048 * (t.val % 4) + a.val) / 2048 ≤ t.val % 4; omega
  rw [e, dq_at m c h0 h1 h2 h3, ht, if_pos hb, cum_all (N := 8448), ← dQ_pad (n := 96) (m := 64) (N := 128) (by norm_num) (by norm_num)]
  simp only [tq, dQ, dscore_pad (n := 96) (m := 64) (N := 128) (by norm_num) (by norm_num)]

end Cert.Attn.Fold
-- ==== Proof.Attn.Final.lean ====
/-
  The three output arrays after the run: the padded layouts of the attention's gradients.
-/
module

public import proofs.«01_k».proof.Proof.Attn.Fold
public import proofs.«01_k».proof.Proof.Gen.KernelIdeal.Value

@[expose] public section

set_option maxRecDepth 16384

noncomputable section

namespace Cert.Attn.Final

open Idealize.ShloMosaic Idealize.ShloMosaic.TcCoe Idealize.ShloMosaic.Tactic Cert.KernelIdeal Cert.KernelIdeal.Gen Cert.Attn
open Idealize.ShloMosaic.Pipeline (Dat)
open Cert.Attn.Host Cert.Attn.Read Cert.Attn.Fold
open Cert.Attn.Ref (c0)

variable (m : (ℓ : Loc nD τ sig) → Buf (Elt Ideal) ℓ) (c : Dev nD)
variable (h0 : Finite (X0 m c)) (h1 : Finite (X1 m c)) (h2 : Finite (X2 m c)) (h3 : Finite (X3 m c))

/-- The padded layout at a block's row and a slot's lane, the place named by its coordinates. -/
theorem slots_of {n w : ℕ} (g : Fin 8 → Fin n → Fin w → ℝ) (h : Fin 8) (a : Fin n) (d : Fin 128) (i : (⟨2, ![n, 1024]⟩ : Shape).Idx)
    (ha : (i 0).val = a.val) (hl : (i 1).val = 128 * h.val + d.val) : slots g i = ((pad 128 (g h) a d : ℝ) : EReal) := by
  rw [← slots_at g h a d]
  refine congrArg (slots g) (funext fun b => Fin.ext ?_)
  match b with
  | ⟨0, _⟩ => exact ha
  | ⟨1, _⟩ => exact hl

/-- The queries' gradient is written out at the last key block only. -/
theorem flush6 : ∀ t : Fin cfg0.N, (cfg0.win 6).flush t = true → t.val / 4 % 3 = 2 :=
  (by decide +kernel : ∀ t : Fin grid0.N, win0_6.flush t = true → t.val / 4 % 3 = 2)

include h0 h1 h2 h3

/-- The queries' gradient. -/
theorem dq_final : (dats (F := Ideal) m 0 c).arrAt 6 cfg0.N = slots fun h => dQ c0 (Q m c h) (K m c h) (W m c h) (T m c h) := by
  refine (dats (F := Ideal) m 0 c).arrAt_eq_of_covers 6 _ (by decide +kernel) fun t hf y => ?_
  have ht := flush6 t hf
  obtain ⟨a, d, rfl⟩ : ∃ (a : Fin 2048) (d : Fin 128), y = ix2 a d := ⟨_, _, eq_ix2 (n0 := 2048) (n1 := 128) y⟩
  rw [slots_of _ (ph t.val (lt96 t)) (pa t.val a) d _ (by blk_simp [e6 t]; rw [if_pos ht]; show _ = 2048 * (t.val % 4) + a.val; omega)
    (by blk_simp [e6 t]; show _ = 128 * (t.val / 12) + d.val; omega)]
  refine Eq.trans ?_ (out_dq m c h0 h1 h2 h3 t ht a d)
  blk_simp
  rw [after0_6]

/-- The keys' gradient. -/
theorem dk_final : (dats (F := Ideal) m 0 c).arrAt 7 cfg0.N = slots fun h => dK c0 (Q m c h) (K m c h) (W m c h) (T m c h) := by
  refine (dats (F := Ideal) m 0 c).arrAt_eq_of_covers 7 _ (by decide +kernel) fun t hf y => ?_
  have ht := (flush0_7 t).mp hf
  obtain ⟨r, d, rfl⟩ : ∃ (r : Fin 2816) (d : Fin 128), y = ix2 r d := ⟨_, _, eq_ix2 (n0 := 2816) (n1 := 128) y⟩
  rw [slots_of _ (ph t.val (lt96 t)) (pr t.val r) d _ (by blk_simp [e7 t]; show _ = 2816 * (t.val / 4 % 3) + r.val; omega)
    (by blk_simp [e7 t]; show _ = 128 * (t.val / 12) + d.val; omega)]
  refine Eq.trans ?_ (out_dk m c h0 h1 h2 h3 t ht r d)
  blk_simp
  rw [after0_7]

/-- The values' gradient. -/
theorem dv_final : (dats (F := Ideal) m 0 c).arrAt 8 cfg0.N = slots fun h => dV c0 (Q m c h) (K m c h) (T m c h) := by
  refine (dats (F := Ideal) m 0 c).arrAt_eq_of_covers 8 _ (by decide +kernel) fun t hf y => ?_
  have ht := (flush0_8 t).mp hf
  obtain ⟨r, d, rfl⟩ : ∃ (r : Fin 2816) (d : Fin 128), y = ix2 r d := ⟨_, _, eq_ix2 (n0 := 2816) (n1 := 128) y⟩
  rw [slots_of _ (ph t.val (lt96 t)) (pr t.val r) d _ (by blk_simp [e8 t]; show _ = 2816 * (t.val / 4 % 3) + r.val; omega)
    (by blk_simp [e8 t]; show _ = 128 * (t.val / 12) + d.val; omega)]
  refine Eq.trans ?_ (out_dv m c h0 h1 h2 h3 t ht r d)
  blk_simp
  rw [after0_8]

end Cert.Attn.Final
-- ==== Proof.Attn.Claims.lean ====
/-
  The claims: the frames, the named constant, and the equality of the kernel's results with the reference's.
-/
module

public import proofs.«01_k».proof.Defs
public import proofs.«01_k».proof.Proof.Attn.Final
public import proofs.«01_k».proof.Proof.Gen.Kernel.Frame
public import proofs.«01_k».proof.Proof.Gen.ReferenceIdeal.Run
public import Idealize.ShloMosaic.Lib.Claim
public import Idealize.ShloMosaic.Lib.ReduceAll
public import Idealize.ShloMosaic.Adequacy
public import Idealize.ShloMosaic.Init

@[expose] public section

set_option maxRecDepth 16384

noncomputable section

namespace Cert.Attn.Claims

open Idealize.ShloMosaic Idealize.ShloMosaic.TcCoe Idealize.SL.Sem Cert.Attn
open Cert.Attn.Host (X0 X1 X2 X3)

/-! ## The precondition -/

theorem preFacts : Cert.Pre_finite.Facts where
  bcast_S_S1x8192x8x96 := by decide
  reducesTo_S1x8192x8x96_S_d0_1_2_3 := by decide
  h_S_ := by decide
  bcast_S_S1x8448x8x96 := by decide
  reducesTo_S1x8448x8x96_S_d0_1_2_3 := by decide
  bcast_S_S1x8448x8x64 := by decide
  reducesTo_S1x8448x8x64_S_d0_1_2_3 := by decide
  bcast_S_S1x8192x8x64 := by decide
  reducesTo_S1x8192x8x64_S_d0_1_2_3 := by decide

/-- A magnitude below the infinity is a real number's. -/
theorem finite_of_lt (x : EReal) (h : FloatOps.cmpf (F := Ideal) (φ := .f32) .olt (FloatOps.absf (F := Ideal) (φ := .f32) x)
    (FloatOps.ofBits (F := Ideal) .f32 0x7F800000#32) = 1#1) : x ≠ ⊤ ∧ x ≠ ⊥ := by
  have ht : Ideal.ofBits .f32 0x7F800000#32 = ⊤ := by simp [Ideal.ofBits, Ideal.ieee]
  have hx : (max x (-x) : EReal) < ⊤ := by
    by_contra hn
    have h' : BitVec.ofBool (decide ((max x (-x) : EReal) < Ideal.ofBits .f32 0x7F800000#32)) = 1#1 := h
    rw [ht, decide_eq_false hn] at h'
    exact absurd h' (by decide)
  refine ⟨?_, ?_⟩ <;> rintro rfl <;> simp at hx

/-- An array whose magnitudes are all below the infinity holds none. -/
theorem finite_of_all {n w : ℕ} (x : FVec Ideal ⟨4, ![1, n, 8, w]⟩ .f32) (b : (⟨0, ![]⟩ : Shape).BroadcastsInDim ⟨4, ![1, n, 8, w]⟩ (![] : Fin 0 → Fin 4))
    (r : (⟨4, ![1, n, 8, w]⟩ : Shape).ReducesTo [0, 1, 2, 3] ⟨0, ![]⟩) (hu : 0 < (⟨0, ![]⟩ : Shape).numel) (j : (⟨0, ![]⟩ : Shape).Idx)
    (e : Host.reduce IntOp.andi (cmpf .olt (Host.absf x) (broadcastInDim ⟨4, ![1, n, 8, w]⟩ ![] b (constant (F := Ideal) ⟨0, ![]⟩ .f32 0x7F800000#32)))
      (constantI ⟨0, ![]⟩ 1 1#1) r hu j = 1#1) : Finite (n := n) (w := w) x := fun i =>
  haveI : Subsingleton (⟨0, ![]⟩ : Shape).Idx := ⟨fun a b => funext fun k => k.elim0⟩
  finite_of_lt _ (Host.reduce_andi_all _ _ r hu j e i)

/-- The precondition: no argument array holds an infinity. -/
theorem finite_of_pre [Cert.Pre_finite.Facts] (x0 : Arr 8192 96) (x1 : Arr 8448 96) (x2 : Arr 8448 64) (x3 : Arr 8192 64)
    (h : Cert.Pre_finite.fn (F := Ideal) x0 x1 x2 x3 = fun _ => 1#1) : Finite x0 ∧ Finite x1 ∧ Finite x2 ∧ Finite x3 := by
  have h' := congrFun h fun k => k.elim0
  unfold Cert.Pre_finite.fn Cert.Pre_finite.fn_part1 at h'
  dsimp only at h'
  obtain ⟨h', e3⟩ := IntOp.andi_eq_one.1 h'
  obtain ⟨h', e2⟩ := IntOp.andi_eq_one.1 h'
  obtain ⟨e0, e1⟩ := IntOp.andi_eq_one.1 h'
  exact ⟨finite_of_all x0 _ _ _ _ e0, finite_of_all x1 _ _ _ _ e1, finite_of_all x2 _ _ _ _ e2, finite_of_all x3 _ _ _ _ e3⟩

/-! ## The frames -/

theorem frame_p : Cert.quiescent_Kernel := fun m g _ => Cert.Kernel.Gen.frame m g
theorem frame_pi : Cert.quiescent_KernelIdeal := fun m g _ => Cert.KernelIdeal.Gen.frame m g
theorem frame_pi_pre [Cert.Pre_finite.Facts] : Cert.quiescent_KernelIdeal_pre_finite := fun m g _ => Cert.KernelIdeal.Gen.frame m g

theorem frame_ri : Cert.quiescent_ReferenceIdeal := fun m g _ =>
  (θ_run Cert.ReferenceIdeal.defs _ _).mono (fun r h => ⟨fun c => (h c).2.2.2, sem_eq_zero_of_no_sems (by decide) r.2⟩) (Cert.ReferenceIdeal.Value.run (F := Ideal) m g)
theorem frame_ri_pre [Cert.Pre_finite.Facts] : Cert.quiescent_ReferenceIdeal_pre_finite := fun m g _ => frame_ri m g trivial

/-! ## The named constant -/

theorem preserves : Cert.preserves_Kernel_KernelIdeal := by
  unfold Cert.preserves_Kernel_KernelIdeal
  exact IdealRules.named_const.statement _ _ _ _ _ rfl

/-! ## The values -/

theorem algebraic [Cert.Pre_finite.Facts] : Cert.algebraic_KernelIdeal_ReferenceIdeal_pre_finite := by
  intro m g m' g' hpre hagree
  have hf : ∀ c, Finite (X0 m c) ∧ Finite (X1 m c) ∧ Finite (X2 m c) ∧ Finite (X3 m c) := fun c => finite_of_pre _ _ _ _ (hpre c)
  refine ⟨_, _, _, (θ_run _ _ _).mono (fun r h => h) (Cert.KernelIdeal.Value.run_blocks (F := Ideal) m g), ?_⟩
  refine (θ_run _ _ _).mono (fun r h c => ?_) (Cert.ReferenceIdeal.Value.run (F := Ideal) m' g')
  obtain ⟨a0, a1, a2, a3⟩ := hagree c
  obtain ⟨f0, f1, f2, f3⟩ := hf c
  obtain ⟨r0, r1, r2, k⟩ := h c
  refine ⟨?_, ?_, ?_, k⟩
  · rw [r0, Cert.ReferenceIdeal.Read.val_main_v58_eq, a0, a1, a2, a3, Final.dq_final m c f0 f1 f2 f3]
    exact Ref.dQ_eq f0 f1 f2 f3
  · rw [r1, Cert.ReferenceIdeal.Read.val_main_v61_eq, a0, a1, a2, a3, Final.dk_final m c f0 f1 f2 f3]
    exact Ref.dK_eq f0 f1 f2 f3
  · rw [r2, Final.dv_final m c f0 f1 f2 f3]
    refine (Cert.ReferenceIdeal.Read.val_main_v64_eq _ _ _).trans ?_
    rw [a0, a1, a3]
    exact Ref.dV_eq f0 f1 f3

end Cert.Attn.Claims
-- ==== Proof.Fwd.Block.lean ====
/-
  What one sub-block of 512 queries computes over the extended reals against a block of 2816 keys: the new row maxima, the
  new sums of exponentials and the new weighted sums of values.
-/
module

public import proofs.«01_k».proof.Proof.Gen.Kernel2Ideal.Skeleton
public import Idealize.ShloMosaic.Lib.Pointwise
public import Idealize.ShloMosaic.Lib.Pipeline.ReadBack
public import Idealize.ShloMosaic.Lib.Pipeline.Value

@[expose] public section

set_option maxRecDepth 16384

noncomputable section

namespace Cert.Fwd.Block

open Idealize.ShloMosaic Cert.Kernel2Ideal Cert.Kernel2Ideal.Gen

/-- The factor of the raw product inside the power of two. -/
def kap : EReal := Named.named (F := Ideal) (φ := .f32) κ "scale_log2e" 0x3E16C740#32

/-- The factor of the natural logarithm of the sum. -/
def lg : EReal := Named.named (F := Ideal) (φ := .f32) κ "log2e" 0x3FB8AA3B#32

/-- The raw product of query `a` and key `r`. -/
def raw {n : ℕ} (q : (⟨2, ![n, 128]⟩ : Shape).Idx → EReal) (k : Vec Ideal S2816x128 .bf16) (a : Fin n) (r : Fin 2816) : EReal :=
  ∑ d : Fin 128, q (ix2 a d) * k (ix2 r d)

/-- The largest raw product of query `a`. -/
def top {n : ℕ} (q : (⟨2, ![n, 128]⟩ : Shape).Idx → EReal) (k : Vec Ideal S2816x128 .bf16) (a : Fin n) : EReal :=
  Finset.univ.fold max ⊥ (raw q k a)

/-- The new maximum of query `a`, lane `d`, from the old one. -/
def mx {n : ℕ} (q : (⟨2, ![n, 128]⟩ : Shape).Idx → EReal) (k : Vec Ideal S2816x128 .bf16) (mo : (⟨2, ![n, 128]⟩ : Shape).Idx → EReal) (a : Fin n)
    (d : Fin 128) : EReal := max (mo (ix2 a d)) (top q k a * kap)

/-- A lane's place among 128, from its place among 2816. -/
def lane (r : Fin 2816) : Fin 128 := ⟨r.val % 128, Nat.mod_lt _ (by norm_num)⟩

/-- The exponential of key `r` for query `a`. -/
def ex {n : ℕ} (q : (⟨2, ![n, 128]⟩ : Shape).Idx → EReal) (k : Vec Ideal S2816x128 .bf16) (mo : (⟨2, ![n, 128]⟩ : Shape).Idx → EReal) (a : Fin n)
    (r : Fin 2816) : EReal := Ideal.exp2 (raw q k a r * kap - mx q k mo a (lane r))

/-- The factor by which the old sums of query `a` are brought to the new maximum. -/
def al {n : ℕ} (q : (⟨2, ![n, 128]⟩ : Shape).Idx → EReal) (k : Vec Ideal S2816x128 .bf16) (mo : (⟨2, ![n, 128]⟩ : Shape).Idx → EReal) (a : Fin n)
    (d : Fin 128) : EReal := Ideal.exp2 (mo (ix2 a d) - mx q k mo a d)

theorem pay10 (k : Vec Ideal S2816x128 .bf16) (q : Vec Ideal S512x128 .bf16) (a : Fin 512) (r : Fin 2816) :
    k0_pay10 (F := Ideal) k q (ix2 a r) = raw q k a r := by
  pointwise [k0_pay10, k0_pay8]
  rfl

theorem pay11 (k : Vec Ideal S2816x128 .bf16) (q : Vec Ideal S512x128 .bf16) (mo : Vec Ideal S512x128 .f32) (a : Fin 512) (d : Fin 128) :
    k0_pay11 (F := Ideal) k q mo (ix2 a d) = mx q k mo a d := by
  have hb : Ideal.ofBits .f32 0xFF800000#32 = ⊥ := by simp [Ideal.ofBits, Ideal.ieee]
  unfold k0_pay11
  generalize hs : k0_pay10 (F := Ideal) k q = s
  pointwise
  rw [hb, show (fun r => s (ix2 a r)) = raw q k a from funext fun r => hs ▸ pay10 k q a r]
  rfl

theorem pay12 (k : Vec Ideal S2816x128 .bf16) (q : Vec Ideal S512x128 .bf16) (mo : Vec Ideal S512x128 .f32) (a : Fin 512) (d : Fin 128) :
    k0_pay12 (F := Ideal) k q mo (ix2 a d) = al q k mo a d :=
  congrArg (fun z => Ideal.exp2 (mo (ix2 a d) - z)) (pay11 k q mo a d)

theorem pay13 (k : Vec Ideal S2816x128 .bf16) (q : Vec Ideal S512x128 .bf16) (mo : Vec Ideal S512x128 .f32) (a : Fin 512) (r : Fin 2816) :
    k0_pay13 (F := Ideal) k q mo (ix2 a r) = ex q k mo a r := by
  unfold k0_pay13
  have hc : ∀ (x : FVec Ideal S512x128 .f32) h, concatenate S512x2816 1 (List.replicate 22 (⟨S512x128, x⟩ : (s : Shape) × (s.Idx → EReal))) h (ix2 a r) = x (ix2 a (lane r)) :=
    fun x h => concatenate_replicate_apply (t := S512x2816) (s₁ := S512x128) 1 22 x h rfl (ix2 a r) (ix2 a (lane r)) rfl (fun b hb => match b with
      | ⟨0, _⟩ => rfl
      | ⟨1, _⟩ => absurd rfl hb)
  refine congrArg₂ (fun x y : EReal => Ideal.exp2 (x * kap - y)) (pay10 k q a r) ?_
  exact (hc _ _).trans (pay11 k q mo a _)

theorem pay14 (k : Vec Ideal S2816x128 .bf16) (q : Vec Ideal S512x128 .bf16) (mo l : Vec Ideal S512x128 .f32) (a : Fin 512) (d : Fin 128) :
    k0_pay14 (F := Ideal) k q mo l (ix2 a d) = al q k mo a d * l (ix2 a d) + ∑ r : Fin 2816, ex q k mo a r := by
  rw [← pay12]
  simp only [← pay13]
  pointwise [k0_pay14]

theorem pay15 (v : Vec Ideal S2816x128 .bf16) (k : Vec Ideal S2816x128 .bf16) (q : Vec Ideal S512x128 .bf16) (mo ac : Vec Ideal S512x128 .f32) (a : Fin 512) (e : Fin 128) :
    k0_pay15 (F := Ideal) (k0_pay9 v) (k0_pay12 k q mo) (k0_pay13 k q mo) ac (ix2 a e)
      = al q k mo a e * ac (ix2 a e) + ∑ r : Fin 2816, ex q k mo a r * v (ix2 r e) := by
  rw [← pay12]
  simp only [← pay13]
  pointwise [k0_pay15, k0_pay9]

theorem pay16 (k : Vec Ideal S2816x128 .bf16) (q : Vec Ideal S512x128 .bf16) (mo : Vec Ideal S512x128 .f32) (a : Fin 512) (d : Fin 128) :
    k0_pay16 (F := Ideal) (k0_pay11 k q mo) (ix2 a d) = mx q k mo a d := by
  rw [← pay11]
  pointwise [k0_pay16]

/-! ## A block of 4096 queries, eight sub-blocks of 512 rows -/

variable (q : Vec Ideal S4096x128 .bf16) (k v : Vec Ideal S2816x128 .bf16)

/-- The maxima of the query block after one key block, from what they were. -/
def mG (mo : Vec Ideal S4096x128 .f32) (y : S4096x128.Idx) : EReal := mx q k mo (y 0) (y 1)

/-- The sums of exponentials of the query block after one key block, from what they were. -/
def lG (mo lo : Vec Ideal S4096x128 .f32) (y : S4096x128.Idx) : EReal := al q k mo (y 0) (y 1) * lo y + ∑ r : Fin 2816, ex q k mo (y 0) r

/-- The weighted sums of values of the query block after one key block, from what they were. -/
def aG (mo ao : Vec Ideal S4096x128 .f32) (y : S4096x128.Idx) : EReal :=
  al q k mo (y 0) (y 1) * ao y + ∑ r : Fin 2816, ex q k mo (y 0) r * v (ix2 r (y 1))

/-- Rows `off` to `off + 511` lie in the block. -/
abbrev InB (off : ℕ) : Prop := ∀ a, (![off, 0] : Fin 2 → ℕ) a + S512x128.size a ≤ S4096x128.size a

/-- The rectangle of 512 rows from row `off`. -/
abbrev rows (off : ℕ) (inb : InB off) : Rect S4096x128 :=
  Rect.unit (s := S4096x128) ![off, 0] S512x128.size inb

theorem rows_lt {off : ℕ} (inb : InB off) (a : Fin 512) : off + a.val < 4096 := by
  have h : off + 512 ≤ 4096 := inb 0
  omega

theorem rows_emb (off : ℕ) (inb : InB off) (a : Fin 512) (d : Fin 128) :
    (rows off inb).emb (ix2 a d) = ix2 (⟨off + a.val, rows_lt inb a⟩ : Fin 4096) d := by
  funext b
  match b with
  | ⟨0, _⟩ => exact Fin.ext (by show off + 1 * a.val = off + a.val; omega)
  | ⟨1, _⟩ => exact Fin.ext (by show 0 + 1 * d.val = d.val; omega)

theorem ld_apply {e : EltTy} (x : S4096x128.Idx → Elt Ideal e) (off : ℕ) (inb : InB off) (a : Fin 512) (d : Fin 128) :
    View.ld (Val := Elt Ideal) (e' := e) x (rows off inb) (ix2 a d) = x (ix2 ⟨off + a.val, rows_lt inb a⟩ d) :=
  congrArg x (rows_emb off inb a d)

/-- The 512 rows from row `off` of a block. -/
abbrev sub (x : Vec Ideal S4096x128 .bf16) (off : ℕ) (inb : InB off) : Vec Ideal S512x128 .bf16 :=
  View.ld (Val := Elt Ideal) (e' := .bf16) x (rows off inb)
abbrev subf32 (x : Vec Ideal S4096x128 .f32) (off : ℕ) (inb : InB off) : Vec Ideal S512x128 .f32 :=
  View.ld (Val := Elt Ideal) (e' := .f32) x (rows off inb)

variable (off : ℕ) (inb : InB off) (mo lo ao : Vec Ideal S4096x128 .f32)

theorem raw_sub (a : Fin 512) : raw (sub q off inb) k a = raw q k ⟨off + a.val, rows_lt inb a⟩ :=
  funext fun r => Finset.sum_congr rfl fun d _ => congrArg (· * _) (ld_apply (e := .bf16) q off inb a d)

theorem mx_sub (a : Fin 512) (d : Fin 128) : mx (sub q off inb) k (subf32 mo off inb) a d = mx q k mo ⟨off + a.val, rows_lt inb a⟩ d := by
  unfold mx top
  rw [raw_sub]
  exact congrArg (max · _) (ld_apply (e := .f32) mo off inb a d)

theorem al_sub (a : Fin 512) (d : Fin 128) : al (sub q off inb) k (subf32 mo off inb) a d = al q k mo ⟨off + a.val, rows_lt inb a⟩ d := by
  unfold al
  rw [mx_sub]
  exact congrArg (fun z => Ideal.exp2 (z - _)) (ld_apply (e := .f32) mo off inb a d)

theorem ex_sub (a : Fin 512) (r : Fin 2816) : ex (sub q off inb) k (subf32 mo off inb) a r = ex q k mo ⟨off + a.val, rows_lt inb a⟩ r := by
  unfold ex
  rw [mx_sub, raw_sub]

/-- A sub-block's rows of the maxima. -/
theorem m_piece (z : Vec Ideal S512x128 .f32) (hz : z = subf32 mo off inb) (x : S512x128.Idx) :
    k0_pay16 (F := Ideal) (k0_pay11 k (sub q off inb) z) x = mG q k mo ((rows off inb).emb x) := by
  subst hz
  obtain ⟨a, d, rfl⟩ : ∃ (a : Fin 512) (d : Fin 128), x = ix2 a d := ⟨_, _, eq_ix2 x⟩
  rw [pay16, mx_sub, rows_emb]
  rfl

/-- A sub-block's rows of the sums of exponentials. -/
theorem l_piece (z w : Vec Ideal S512x128 .f32) (hz : z = subf32 mo off inb) (hw : w = subf32 lo off inb) (x : S512x128.Idx) :
    k0_pay14 (F := Ideal) k (sub q off inb) z w x = lG q k mo lo ((rows off inb).emb x) := by
  subst hz hw
  obtain ⟨a, d, rfl⟩ : ∃ (a : Fin 512) (d : Fin 128), x = ix2 a d := ⟨_, _, eq_ix2 x⟩
  rw [pay14, al_sub, rows_emb]
  simp only [ex_sub]
  exact congrArg (fun u : EReal => _ * u + _) (ld_apply (e := .f32) lo off inb a d)

/-- A sub-block's rows of the weighted sums of values. -/
theorem a_piece (z w : Vec Ideal S512x128 .f32) (hz : z = subf32 mo off inb) (hw : w = subf32 ao off inb) (x : S512x128.Idx) :
    k0_pay15 (F := Ideal) (k0_pay9 v) (k0_pay12 k (sub q off inb) z) (k0_pay13 k (sub q off inb) z) w x = aG q k v mo ao ((rows off inb).emb x) := by
  subst hz hw
  obtain ⟨a, d, rfl⟩ : ∃ (a : Fin 512) (d : Fin 128), x = ix2 a d := ⟨_, _, eq_ix2 x⟩
  rw [pay15, al_sub, rows_emb]
  simp only [ex_sub]
  exact congrArg (fun u : EReal => _ * u + _) (ld_apply (e := .f32) ao off inb a d)

/-- The writes so far leave every row from row `512 * n` on as it was. -/
def Unt (old : S4096x128.Idx → EReal) (n : ℕ) (L : List (View.Piece (Elt Ideal) S4096x128 .f32)) : Prop :=
  ∀ y : S4096x128.Idx, 512 * n ≤ (y 0).val → View.canon L y = old y

/-- A fill of the whole block. -/
theorem Unt.fill (old : S4096x128.Idx → EReal) (off : Fin 2 → ℕ) (hoff : off = fun _ => 0) (inb) :
    Unt old 0 [⟨Rect.unit (s := S4096x128) off S4096x128.size inb, old⟩] := fun y _ => by
  rw [View.canon_cons_unit_zero hoff]

/-- One more sub-block. -/
theorem Unt.step {old : S4096x128.Idx → EReal} {n : ℕ} {L : List (View.Piece (Elt Ideal) S4096x128 .f32)} (h : Unt old n L) (off : ℕ)
    (hn : off = 512 * n) (inb : InB off) (w : S512x128.Idx → EReal) : Unt old (n + 1) (⟨rows off inb, w⟩ :: L) := by
  intro y hy
  have hm : y ∉ (rows off inb).set := fun hm => by
    obtain ⟨x, rfl⟩ := (rows off inb).exists_idx_of_mem hm
    have hx : (x 0).val < 512 := (x 0).isLt
    have : 512 * (n + 1) ≤ off + 1 * (x 0).val := hy
    omega
  rw [View.canon_cons_of_not_mem ⟨rows off inb, w⟩ L hm, h y (by omega)]

/-- A sub-block not yet written, read back. -/
theorem Unt.read {old : S4096x128.Idx → EReal} {n : ℕ} {L : List (View.Piece (Elt Ideal) S4096x128 .f32)} (h : Unt old n L) (off : ℕ)
    (hn : off = 512 * n) (inb : InB off) {sig : RefSig} {κ : Kind} {sp : Space} (V : View sig κ sp S4096x128 .f32) :
    V.readCov (Val := Elt Ideal) L (rows off inb).toLoadRect = subf32 old off inb := by
  rw [View.readCov_eq_canon']
  funext j
  exact h ((rows off inb).emb j) (by show 512 * n ≤ off + 1 * (j 0).val; omega)

/-! ## What is written out after the last key block -/

/-- The weighted sums over the sums of exponentials. -/
theorem pay3 (l ac : Vec Ideal S4096x128 .f32) (y : S4096x128.Idx) : k0_pay3 (F := Ideal) l ac y = Ideal.div (ac y) (l y) := rfl

/-- The base-two logarithms of the sums of exponentials. -/
theorem pay4 (l mo : Vec Ideal S4096x128 .f32) (z : Fin 1) (s : Fin 8) (a : Fin 4096) : k0_pay4 (F := Ideal) l mo (ix3 z s a)
    = mo (ix2 a (⟨s.val, by omega⟩ : Fin 128)) + Ideal.log (l (ix2 a (⟨s.val, by omega⟩ : Fin 128))) * lg := by
  pointwise [k0_pay4]
  rfl

end Cert.Fwd.Block
-- ==== Proof.Fwd.Body.lean ====
/-
  What one grid point leaves in the three scratch arrays and in the output blocks, over the extended reals, in each of the
  three cases of the body's conditions.
-/
module

public import proofs.«01_k».proof.Proof.Fwd.Block
public import proofs.«01_k».proof.Proof.Gen.Kernel2Ideal.Frame

@[expose] public section

set_option maxRecDepth 16384

noncomputable section

namespace Cert.Fwd.Body

open Idealize.ShloMosaic Idealize.ShloMosaic.Tactic Cert.Kernel2Ideal Cert.Kernel2Ideal.Gen Cert.Fwd.Block

variable (c : Dev nD) (i : grid0.Coords)
  (arg3 : Memref sig .tc .vmem S4096x128 .bf16) (harg3 : arg3.IsWhole) (arg4 : Memref sig .tc .vmem S2816x128 .bf16) (harg4 : arg4.IsWhole)
  (arg5 : Memref sig .tc .vmem S2816x128 .bf16) (harg5 : arg5.IsWhole) (arg6 : Memref sig .tc .vmem S4096x128 .bf16) (harg6 : arg6.IsWhole)
  (arg7 : Memref sig .tc .vmem S1x8x4096 .f32) (harg7 : arg7.IsWhole) (arg8 : Memref sig .tc .vmem S4096x128 .f32) (harg8 : arg8.IsWhole)
  (arg9 : Memref sig .tc .vmem S4096x128 .f32) (harg9 : arg9.IsWhole) (arg10 : Memref sig .tc .vmem S4096x128 .f32) (harg10 : arg10.IsWhole)
  (x0 : Vec Ideal S4096x128 .bf16) (x1 x2 : Vec Ideal S2816x128 .bf16) (xs0 xs1 xs2 : Vec Ideal S4096x128 .f32)

theorem whole2 : (![0, 0] : Fin 2 → ℕ) = fun _ => 0 := by
  funext a
  match a with
  | ⟨0, _⟩ => rfl
  | ⟨1, _⟩ => rfl

theorem whole3 : (![0, 0, 0] : Fin 3 → ℕ) = fun _ => 0 := by
  funext a
  match a with
  | ⟨0, _⟩ => rfl
  | ⟨1, _⟩ => rfl
  | ⟨2, _⟩ => rfl

/-- When the eight last writes are blocks of one function and cover the array, the writes leave that function. -/
theorem canon_of_pieces (G : S4096x128.Idx → Elt Ideal .f32) (L : List (View.Piece (Elt Ideal) S4096x128 .f32))
    (h : View.PiecesOf G (L.take 8)) (hc : View.Piece.tiledL (L.take 8) S512x128.size = true) : View.canon L = G := by
  funext y
  rw [← List.take_append_drop 8 L]
  exact View.canon_append_of_piecesOf G _ _ h y (View.cover_of_tiledL _ _ hc y)

/-- A whole scratch array, read back after writes. -/
theorem read_whole {sig : RefSig} {κ : Kind} {sp : Space} (V : View sig κ sp S4096x128 .f32) (L : List (View.Piece (Elt Ideal) S4096x128 .f32))
    (G : S4096x128.Idx → EReal) (hL : View.canon L = G) (inb) :
    V.readCov (Val := Elt Ideal) L (Rect.unit (s := S4096x128) ![0, 0] S4096x128.size inb).toLoadRect = G := by
  rw [View.readCov_eq_canon', hL]
  exact View.ld_unit_zero (Val := Elt Ideal) (e := .f32) (S := S4096x128) whole2 _ G

/-- The block of outputs written out, from the sums. -/
def oB (l ac : Vec Ideal S4096x128 .f32) (y : S4096x128.Idx) : EReal := Ideal.div (ac y) (l y)

/-- The block of logarithms written out, from the maxima and the sums. -/
def eB (mo l : Vec Ideal S4096x128 .f32) : S1x8x4096.Idx → EReal := k0_pay4 (F := Ideal) l mo

theorem out_o {sig : RefSig} {κ κ' : Kind} {sp sp' : Space} (V : View sig κ sp S4096x128 .f32) (V' : View sig κ' sp' S4096x128 .f32)
    (L L' : List (View.Piece (Elt Ideal) S4096x128 .f32)) (G G' : S4096x128.Idx → EReal) (h : View.canon L = G) (h' : View.canon L' = G') (inb inb' inb'') :
    View.canon (Val := Elt Ideal) (e := .bf16) [⟨Rect.unit (s := S4096x128) ![0, 0] S4096x128.size inb'',
      k0_pay3 (F := Ideal) (V.readCov (Val := Elt Ideal) L (Rect.unit (s := S4096x128) ![0, 0] S4096x128.size inb).toLoadRect)
        (V'.readCov (Val := Elt Ideal) L' (Rect.unit (s := S4096x128) ![0, 0] S4096x128.size inb').toLoadRect)⟩] = oB G G' := by
  rw [View.canon_cons_unit_zero whole2, read_whole _ _ _ h, read_whole _ _ _ h']
  rfl

theorem out_e {sig : RefSig} {κ κ' : Kind} {sp sp' : Space} (V : View sig κ sp S4096x128 .f32) (V' : View sig κ' sp' S4096x128 .f32)
    (L L' : List (View.Piece (Elt Ideal) S4096x128 .f32)) (G G' : S4096x128.Idx → EReal) (h : View.canon L = G) (h' : View.canon L' = G') (inb inb' inb'') :
    View.canon (Val := Elt Ideal) (e := .f32) [⟨Rect.unit (s := S1x8x4096) ![0, 0, 0] S1x8x4096.size inb'',
      k0_pay4 (F := Ideal) (V.readCov (Val := Elt Ideal) L (Rect.unit (s := S4096x128) ![0, 0] S4096x128.size inb).toLoadRect)
        (V'.readCov (Val := Elt Ideal) L' (Rect.unit (s := S4096x128) ![0, 0] S4096x128.size inb').toLoadRect)⟩] = eB G' G := by
  rw [View.canon_cons_unit_zero whole3, read_whole _ _ _ h, read_whole _ _ _ h']
  rfl

theorem m_A (hc0 : cond0_0 i) (hc1 : ¬cond0_1 i) :
    sout0_A_0 c i arg3 harg3 arg4 harg4 arg5 harg5 arg6 harg6 arg7 harg7 arg8 harg8 arg9 harg9 arg10 harg10
      hc0 hc1 x0 x1 x2 = mG x0 x1 (k0_pay5 (F := Ideal)) := by
  unfold sout0_A_0
  rw [View.read_writes_junk_eq_canon]
  unfold kernelRun0_A
  dsimp only
  sl_unfold_words
  simp only [View.readAt_eq_ld, Memref.IsWhole.read_unread, View.ld_unit_zero (S := S2816x128) whole2]
  refine canon_of_pieces _ _ ?_ (by sl_kernel_rfl)
  refine And.intro (fun x => m_piece _ _ _ _ _ _ (Unt.read (Unt.step (Unt.step (Unt.step (Unt.step (Unt.step (Unt.step (Unt.step (Unt.fill _ _ whole2 _) _ (by rfl) _ _) _ (by rfl) _ _) _ (by rfl) _ _) _ (by rfl) _ _) _ (by rfl) _ _) _ (by rfl) _ _) _ (by rfl) _ _) _ (by rfl) _ _) x) ?_
  refine And.intro (fun x => m_piece _ _ _ _ _ _ (Unt.read (Unt.step (Unt.step (Unt.step (Unt.step (Unt.step (Unt.step (Unt.fill _ _ whole2 _) _ (by rfl) _ _) _ (by rfl) _ _) _ (by rfl) _ _) _ (by rfl) _ _) _ (by rfl) _ _) _ (by rfl) _ _) _ (by rfl) _ _) x) ?_
  refine And.intro (fun x => m_piece _ _ _ _ _ _ (Unt.read (Unt.step (Unt.step (Unt.step (Unt.step (Unt.step (Unt.fill _ _ whole2 _) _ (by rfl) _ _) _ (by rfl) _ _) _ (by rfl) _ _) _ (by rfl) _ _) _ (by rfl) _ _) _ (by rfl) _ _) x) ?_
  refine And.intro (fun x => m_piece _ _ _ _ _ _ (Unt.read (Unt.step (Unt.step (Unt.step (Unt.step (Unt.fill _ _ whole2 _) _ (by rfl) _ _) _ (by rfl) _ _) _ (by rfl) _ _) _ (by rfl) _ _) _ (by rfl) _ _) x) ?_
  refine And.intro (fun x => m_piece _ _ _ _ _ _ (Unt.read (Unt.step (Unt.step (Unt.step (Unt.fill _ _ whole2 _) _ (by rfl) _ _) _ (by rfl) _ _) _ (by rfl) _ _) _ (by rfl) _ _) x) ?_
  refine And.intro (fun x => m_piece _ _ _ _ _ _ (Unt.read (Unt.step (Unt.step (Unt.fill _ _ whole2 _) _ (by rfl) _ _) _ (by rfl) _ _) _ (by rfl) _ _) x) ?_
  refine And.intro (fun x => m_piece _ _ _ _ _ _ (Unt.read (Unt.step (Unt.fill _ _ whole2 _) _ (by rfl) _ _) _ (by rfl) _ _) x) ?_
  refine And.intro (fun x => m_piece _ _ _ _ _ _ (Unt.read (Unt.fill _ _ whole2 _) _ (by rfl) _ _) x) ?_
  trivial

theorem l_A (hc0 : cond0_0 i) (hc1 : ¬cond0_1 i) :
    sout0_A_1 c i arg3 harg3 arg4 harg4 arg5 harg5 arg6 harg6 arg7 harg7 arg8 harg8 arg9 harg9 arg10 harg10
      hc0 hc1 x0 x1 x2 = lG x0 x1 (k0_pay5 (F := Ideal)) (k0_pay6 (F := Ideal)) := by
  unfold sout0_A_1
  rw [View.read_writes_junk_eq_canon]
  unfold kernelRun0_A
  dsimp only
  sl_unfold_words
  simp only [View.readAt_eq_ld, Memref.IsWhole.read_unread, View.ld_unit_zero (S := S2816x128) whole2]
  refine canon_of_pieces _ _ ?_ (by sl_kernel_rfl)
  refine And.intro (fun x => l_piece _ _ _ _ _ _ _ _ (Unt.read (Unt.step (Unt.step (Unt.step (Unt.step (Unt.step (Unt.step (Unt.step (Unt.fill _ _ whole2 _) _ (by rfl) _ _) _ (by rfl) _ _) _ (by rfl) _ _) _ (by rfl) _ _) _ (by rfl) _ _) _ (by rfl) _ _) _ (by rfl) _ _) _ (by rfl) _ _) (Unt.read (Unt.step (Unt.step (Unt.step (Unt.step (Unt.step (Unt.step (Unt.step (Unt.fill _ _ whole2 _) _ (by rfl) _ _) _ (by rfl) _ _) _ (by rfl) _ _) _ (by rfl) _ _) _ (by rfl) _ _) _ (by rfl) _ _) _ (by rfl) _ _) _ (by rfl) _ _) x) ?_
  refine And.intro (fun x => l_piece _ _ _ _ _ _ _ _ (Unt.read (Unt.step (Unt.step (Unt.step (Unt.step (Unt.step (Unt.step (Unt.fill _ _ whole2 _) _ (by rfl) _ _) _ (by rfl) _ _) _ (by rfl) _ _) _ (by rfl) _ _) _ (by rfl) _ _) _ (by rfl) _ _) _ (by rfl) _ _) (Unt.read (Unt.step (Unt.step (Unt.step (Unt.step (Unt.step (Unt.step (Unt.fill _ _ whole2 _) _ (by rfl) _ _) _ (by rfl) _ _) _ (by rfl) _ _) _ (by rfl) _ _) _ (by rfl) _ _) _ (by rfl) _ _) _ (by rfl) _ _) x) ?_
  refine And.intro (fun x => l_piece _ _ _ _ _ _ _ _ (Unt.read (Unt.step (Unt.step (Unt.step (Unt.step (Unt.step (Unt.fill _ _ whole2 _) _ (by rfl) _ _) _ (by rfl) _ _) _ (by rfl) _ _) _ (by rfl) _ _) _ (by rfl) _ _) _ (by rfl) _ _) (Unt.read (Unt.step (Unt.step (Unt.step (Unt.step (Unt.step (Unt.fill _ _ whole2 _) _ (by rfl) _ _) _ (by rfl) _ _) _ (by rfl) _ _) _ (by rfl) _ _) _ (by rfl) _ _) _ (by rfl) _ _) x) ?_
  refine And.intro (fun x => l_piece _ _ _ _ _ _ _ _ (Unt.read (Unt.step (Unt.step (Unt.step (Unt.step (Unt.fill _ _ whole2 _) _ (by rfl) _ _) _ (by rfl) _ _) _ (by rfl) _ _) _ (by rfl) _ _) _ (by rfl) _ _) (Unt.read (Unt.step (Unt.step (Unt.step (Unt.step (Unt.fill _ _ whole2 _) _ (by rfl) _ _) _ (by rfl) _ _) _ (by rfl) _ _) _ (by rfl) _ _) _ (by rfl) _ _) x) ?_
  refine And.intro (fun x => l_piece _ _ _ _ _ _ _ _ (Unt.read (Unt.step (Unt.step (Unt.step (Unt.fill _ _ whole2 _) _ (by rfl) _ _) _ (by rfl) _ _) _ (by rfl) _ _) _ (by rfl) _ _) (Unt.read (Unt.step (Unt.step (Unt.step (Unt.fill _ _ whole2 _) _ (by rfl) _ _) _ (by rfl) _ _) _ (by rfl) _ _) _ (by rfl) _ _) x) ?_
  refine And.intro (fun x => l_piece _ _ _ _ _ _ _ _ (Unt.read (Unt.step (Unt.step (Unt.fill _ _ whole2 _) _ (by rfl) _ _) _ (by rfl) _ _) _ (by rfl) _ _) (Unt.read (Unt.step (Unt.step (Unt.fill _ _ whole2 _) _ (by rfl) _ _) _ (by rfl) _ _) _ (by rfl) _ _) x) ?_
  refine And.intro (fun x => l_piece _ _ _ _ _ _ _ _ (Unt.read (Unt.step (Unt.fill _ _ whole2 _) _ (by rfl) _ _) _ (by rfl) _ _) (Unt.read (Unt.step (Unt.fill _ _ whole2 _) _ (by rfl) _ _) _ (by rfl) _ _) x) ?_
  refine And.intro (fun x => l_piece _ _ _ _ _ _ _ _ (Unt.read (Unt.fill _ _ whole2 _) _ (by rfl) _ _) (Unt.read (Unt.fill _ _ whole2 _) _ (by rfl) _ _) x) ?_
  trivial

theorem a_A (hc0 : cond0_0 i) (hc1 : ¬cond0_1 i) :
    sout0_A_2 c i arg3 harg3 arg4 harg4 arg5 harg5 arg6 harg6 arg7 harg7 arg8 harg8 arg9 harg9 arg10 harg10
      hc0 hc1 x0 x1 x2 = aG x0 x1 x2 (k0_pay5 (F := Ideal)) (k0_pay7 (F := Ideal)) := by
  unfold sout0_A_2
  rw [View.read_writes_junk_eq_canon]
  unfold kernelRun0_A
  dsimp only
  sl_unfold_words
  simp only [View.readAt_eq_ld, Memref.IsWhole.read_unread, View.ld_unit_zero (S := S2816x128) whole2]
  refine canon_of_pieces _ _ ?_ (by sl_kernel_rfl)
  refine And.intro (fun x => a_piece _ _ _ _ _ _ _ _ _ (Unt.read (Unt.step (Unt.step (Unt.step (Unt.step (Unt.step (Unt.step (Unt.step (Unt.fill _ _ whole2 _) _ (by rfl) _ _) _ (by rfl) _ _) _ (by rfl) _ _) _ (by rfl) _ _) _ (by rfl) _ _) _ (by rfl) _ _) _ (by rfl) _ _) _ (by rfl) _ _) (Unt.read (Unt.step (Unt.step (Unt.step (Unt.step (Unt.step (Unt.step (Unt.step (Unt.fill _ _ whole2 _) _ (by rfl) _ _) _ (by rfl) _ _) _ (by rfl) _ _) _ (by rfl) _ _) _ (by rfl) _ _) _ (by rfl) _ _) _ (by rfl) _ _) _ (by rfl) _ _) x) ?_
  refine And.intro (fun x => a_piece _ _ _ _ _ _ _ _ _ (Unt.read (Unt.step (Unt.step (Unt.step (Unt.step (Unt.step (Unt.step (Unt.fill _ _ whole2 _) _ (by rfl) _ _) _ (by rfl) _ _) _ (by rfl) _ _) _ (by rfl) _ _) _ (by rfl) _ _) _ (by rfl) _ _) _ (by rfl) _ _) (Unt.read (Unt.step (Unt.step (Unt.step (Unt.step (Unt.step (Unt.step (Unt.fill _ _ whole2 _) _ (by rfl) _ _) _ (by rfl) _ _) _ (by rfl) _ _) _ (by rfl) _ _) _ (by rfl) _ _) _ (by rfl) _ _) _ (by rfl) _ _) x) ?_
  refine And.intro (fun x => a_piece _ _ _ _ _ _ _ _ _ (Unt.read (Unt.step (Unt.step (Unt.step (Unt.step (Unt.step (Unt.fill _ _ whole2 _) _ (by rfl) _ _) _ (by rfl) _ _) _ (by rfl) _ _) _ (by rfl) _ _) _ (by rfl) _ _) _ (by rfl) _ _) (Unt.read (Unt.step (Unt.step (Unt.step (Unt.step (Unt.step (Unt.fill _ _ whole2 _) _ (by rfl) _ _) _ (by rfl) _ _) _ (by rfl) _ _) _ (by rfl) _ _) _ (by rfl) _ _) _ (by rfl) _ _) x) ?_
  refine And.intro (fun x => a_piece _ _ _ _ _ _ _ _ _ (Unt.read (Unt.step (Unt.step (Unt.step (Unt.step (Unt.fill _ _ whole2 _) _ (by rfl) _ _) _ (by rfl) _ _) _ (by rfl) _ _) _ (by rfl) _ _) _ (by rfl) _ _) (Unt.read (Unt.step (Unt.step (Unt.step (Unt.step (Unt.fill _ _ whole2 _) _ (by rfl) _ _) _ (by rfl) _ _) _ (by rfl) _ _) _ (by rfl) _ _) _ (by rfl) _ _) x) ?_
  refine And.intro (fun x => a_piece _ _ _ _ _ _ _ _ _ (Unt.read (Unt.step (Unt.step (Unt.step (Unt.fill _ _ whole2 _) _ (by rfl) _ _) _ (by rfl) _ _) _ (by rfl) _ _) _ (by rfl) _ _) (Unt.read (Unt.step (Unt.step (Unt.step (Unt.fill _ _ whole2 _) _ (by rfl) _ _) _ (by rfl) _ _) _ (by rfl) _ _) _ (by rfl) _ _) x) ?_
  refine And.intro (fun x => a_piece _ _ _ _ _ _ _ _ _ (Unt.read (Unt.step (Unt.step (Unt.fill _ _ whole2 _) _ (by rfl) _ _) _ (by rfl) _ _) _ (by rfl) _ _) (Unt.read (Unt.step (Unt.step (Unt.fill _ _ whole2 _) _ (by rfl) _ _) _ (by rfl) _ _) _ (by rfl) _ _) x) ?_
  refine And.intro (fun x => a_piece _ _ _ _ _ _ _ _ _ (Unt.read (Unt.step (Unt.fill _ _ whole2 _) _ (by rfl) _ _) _ (by rfl) _ _) (Unt.read (Unt.step (Unt.fill _ _ whole2 _) _ (by rfl) _ _) _ (by rfl) _ _) x) ?_
  refine And.intro (fun x => a_piece _ _ _ _ _ _ _ _ _ (Unt.read (Unt.fill _ _ whole2 _) _ (by rfl) _ _) (Unt.read (Unt.fill _ _ whole2 _) _ (by rfl) _ _) x) ?_
  trivial

theorem m_B (hc0 : ¬cond0_0 i) (hc1 : ¬cond0_1 i) :
    sout0_B_0 c i arg3 harg3 arg4 harg4 arg5 harg5 arg6 harg6 arg7 harg7 arg8 harg8 arg9 harg9 arg10 harg10
      hc0 hc1 x0 x1 x2 xs0 xs1 xs2 = mG x0 x1 xs0 := by
  unfold sout0_B_0
  rw [View.read_writes_junk_eq_canon]
  unfold kernelRun0_B
  dsimp only
  sl_unfold_words
  simp only [View.readAt_eq_ld, Memref.IsWhole.read_unread, View.ld_unit_zero (S := S2816x128) whole2]
  refine canon_of_pieces _ _ ?_ (by sl_kernel_rfl)
  iterate 8 refine And.intro (fun x => m_piece _ _ _ _ _ _ rfl x) ?_
  trivial

theorem l_B (hc0 : ¬cond0_0 i) (hc1 : ¬cond0_1 i) :
    sout0_B_1 c i arg3 harg3 arg4 harg4 arg5 harg5 arg6 harg6 arg7 harg7 arg8 harg8 arg9 harg9 arg10 harg10
      hc0 hc1 x0 x1 x2 xs0 xs1 xs2 = lG x0 x1 xs0 xs1 := by
  unfold sout0_B_1
  rw [View.read_writes_junk_eq_canon]
  unfold kernelRun0_B
  dsimp only
  sl_unfold_words
  simp only [View.readAt_eq_ld, Memref.IsWhole.read_unread, View.ld_unit_zero (S := S2816x128) whole2]
  refine canon_of_pieces _ _ ?_ (by sl_kernel_rfl)
  iterate 8 refine And.intro (fun x => l_piece _ _ _ _ _ _ _ _ rfl rfl x) ?_
  trivial

theorem a_B (hc0 : ¬cond0_0 i) (hc1 : ¬cond0_1 i) :
    sout0_B_2 c i arg3 harg3 arg4 harg4 arg5 harg5 arg6 harg6 arg7 harg7 arg8 harg8 arg9 harg9 arg10 harg10
      hc0 hc1 x0 x1 x2 xs0 xs1 xs2 = aG x0 x1 x2 xs0 xs2 := by
  unfold sout0_B_2
  rw [View.read_writes_junk_eq_canon]
  unfold kernelRun0_B
  dsimp only
  sl_unfold_words
  simp only [View.readAt_eq_ld, Memref.IsWhole.read_unread, View.ld_unit_zero (S := S2816x128) whole2]
  refine canon_of_pieces _ _ ?_ (by sl_kernel_rfl)
  iterate 8 refine And.intro (fun x => a_piece _ _ _ _ _ _ _ _ _ rfl rfl x) ?_
  trivial

theorem m_C (hc0 : ¬cond0_0 i) (hc1 : cond0_1 i) :
    sout0_C_0 c i arg3 harg3 arg4 harg4 arg5 harg5 arg6 harg6 arg7 harg7 arg8 harg8 arg9 harg9 arg10 harg10
      hc0 hc1 x0 x1 x2 xs0 xs1 xs2 = mG x0 x1 xs0 := by
  unfold sout0_C_0
  rw [View.read_writes_junk_eq_canon]
  unfold kernelRun0_C
  dsimp only
  sl_unfold_words
  simp only [View.readAt_eq_ld, Memref.IsWhole.read_unread, View.ld_unit_zero (S := S2816x128) whole2]
  refine canon_of_pieces _ _ ?_ (by sl_kernel_rfl)
  iterate 8 refine And.intro (fun x => m_piece _ _ _ _ _ _ rfl x) ?_
  trivial

theorem l_C (hc0 : ¬cond0_0 i) (hc1 : cond0_1 i) :
    sout0_C_1 c i arg3 harg3 arg4 harg4 arg5 harg5 arg6 harg6 arg7 harg7 arg8 harg8 arg9 harg9 arg10 harg10
      hc0 hc1 x0 x1 x2 xs0 xs1 xs2 = lG x0 x1 xs0 xs1 := by
  unfold sout0_C_1
  rw [View.read_writes_junk_eq_canon]
  unfold kernelRun0_C
  dsimp only
  sl_unfold_words
  simp only [View.readAt_eq_ld, Memref.IsWhole.read_unread, View.ld_unit_zero (S := S2816x128) whole2]
  refine canon_of_pieces _ _ ?_ (by sl_kernel_rfl)
  iterate 8 refine And.intro (fun x => l_piece _ _ _ _ _ _ _ _ rfl rfl x) ?_
  trivial

theorem a_C (hc0 : ¬cond0_0 i) (hc1 : cond0_1 i) :
    sout0_C_2 c i arg3 harg3 arg4 harg4 arg5 harg5 arg6 harg6 arg7 harg7 arg8 harg8 arg9 harg9 arg10 harg10
      hc0 hc1 x0 x1 x2 xs0 xs1 xs2 = aG x0 x1 x2 xs0 xs2 := by
  unfold sout0_C_2
  rw [View.read_writes_junk_eq_canon]
  unfold kernelRun0_C
  dsimp only
  sl_unfold_words
  simp only [View.readAt_eq_ld, Memref.IsWhole.read_unread, View.ld_unit_zero (S := S2816x128) whole2]
  refine canon_of_pieces _ _ ?_ (by sl_kernel_rfl)
  iterate 8 refine And.intro (fun x => a_piece _ _ _ _ _ _ _ _ _ rfl rfl x) ?_
  trivial

theorem oOut_C (hc0 : ¬cond0_0 i) (hc1 : cond0_1 i) :
    out0_C_3 c i arg3 harg3 arg4 harg4 arg5 harg5 arg6 harg6 arg7 harg7 arg8 harg8 arg9 harg9 arg10 harg10
      hc0 hc1 x0 x1 x2 xs0 xs1 xs2 = oB (lG x0 x1 xs0 xs1) (aG x0 x1 x2 xs0 xs2) := by
  unfold out0_C_3
  rw [View.read_writes_junk_eq_canon]
  unfold kernelRun0_C
  dsimp only
  sl_unfold_words
  simp only [View.readAt_eq_ld, Memref.IsWhole.read_unread, View.ld_unit_zero (S := S2816x128) whole2]
  refine out_o _ _ _ _ _ _ (canon_of_pieces _ _ (by
    iterate 8 refine And.intro (fun x => l_piece _ _ _ _ _ _ _ _ rfl rfl x) ?_
    trivial) (by sl_kernel_rfl)) (canon_of_pieces _ _ (by
    iterate 8 refine And.intro (fun x => a_piece _ _ _ _ _ _ _ _ _ rfl rfl x) ?_
    trivial) (by sl_kernel_rfl)) _ _ _

theorem eOut_C (hc0 : ¬cond0_0 i) (hc1 : cond0_1 i) :
    out0_C_4 c i arg3 harg3 arg4 harg4 arg5 harg5 arg6 harg6 arg7 harg7 arg8 harg8 arg9 harg9 arg10 harg10
      hc0 hc1 x0 x1 x2 xs0 xs1 xs2 = eB (mG x0 x1 xs0) (lG x0 x1 xs0 xs1) := by
  unfold out0_C_4
  rw [View.read_writes_junk_eq_canon]
  unfold kernelRun0_C
  dsimp only
  sl_unfold_words
  simp only [View.readAt_eq_ld, Memref.IsWhole.read_unread, View.ld_unit_zero (S := S2816x128) whole2]
  refine out_e _ _ _ _ _ _ (canon_of_pieces _ _ (by
    iterate 8 refine And.intro (fun x => l_piece _ _ _ _ _ _ _ _ rfl rfl x) ?_
    trivial) (by sl_kernel_rfl)) (canon_of_pieces _ _ (by
    iterate 8 refine And.intro (fun x => m_piece _ _ _ _ _ _ rfl x) ?_
    trivial) (by sl_kernel_rfl)) _ _ _

end Cert.Fwd.Body
-- ==== Proof.Fwd.Real.lean ====
/-
  The softmax of one row kept as a running maximum and running sums, and the layout in which each head's rows are padded
  with zero lanes to a slot of 128, for arrays that may hold infinities.
-/
module

public import proofs.«01_k».proof.Proof.Attn.Slots

@[expose] public section

noncomputable section

namespace Cert.Fwd

open Idealize.ShloMosaic Cert.Attn

/-! ## Partial sums -/

/-- The sum of the terms below `n`. -/
def cum {M : Type} [AddCommMonoid M] {N : ℕ} (n : ℕ) (f : Fin N → M) : M := ∑ r : Fin N, if r.val < n then f r else 0

theorem cum_zero {M : Type} [AddCommMonoid M] {N : ℕ} (f : Fin N → M) : cum 0 f = 0 := by simp [cum]

theorem cum_all {M : Type} [AddCommMonoid M] {N : ℕ} (f : Fin N → M) : cum N f = ∑ r, f r := by simp [cum]

/-- The next `w` terms. -/
theorem cum_add {M : Type} [AddCommMonoid M] {N : ℕ} (n w : ℕ) (f : Fin N → M) (h : n + w ≤ N) :
    cum (n + w) f = cum n f + ∑ k : Fin w, f ⟨n + k.val, by omega⟩ := by
  obtain ⟨p, rfl⟩ := Nat.exists_eq_add_of_le h
  unfold cum
  simp only [Fin.sum_univ_add]
  have hl : ∀ i : Fin n, ((Fin.castAdd p (Fin.castAdd w i)).val < n + w) ∧ ((Fin.castAdd p (Fin.castAdd w i)).val < n) := fun i => by
    simp only [Fin.val_castAdd]; omega
  have hm : ∀ i : Fin w, ((Fin.castAdd p (Fin.natAdd n i)).val < n + w) ∧ ¬((Fin.castAdd p (Fin.natAdd n i)).val < n) := fun i => by
    simp only [Fin.val_castAdd, Fin.val_natAdd]; omega
  have hr : ∀ i : Fin p, ¬((Fin.natAdd (n + w) i).val < n + w) ∧ ¬((Fin.natAdd (n + w) i).val < n) := fun i => by
    simp only [Fin.val_natAdd]; omega
  simp only [(hl _).1, (hl _).2, (hm _).1, (hm _).2, (hr _).1, (hr _).2, if_true, if_false, Finset.sum_const_zero, add_zero]
  rfl

/-- A nonnegative real factor, over the extended reals, as a homomorphism. -/
def mulHom (c : ℝ) (hc : 0 ≤ c) : EReal →+ EReal where
  toFun x := (c : EReal) * x
  map_zero' := mul_zero _
  map_add' x y := EReal.left_distrib_of_nonneg_of_ne_top (by exact_mod_cast hc) (EReal.coe_ne_top _) x y

/-- A nonnegative real factor goes into a sum of extended reals. -/
theorem mul_sum' {ι : Type} (c : ℝ) (hc : 0 ≤ c) (s : Finset ι) (f : ι → EReal) : (c : EReal) * ∑ i ∈ s, f i = ∑ i ∈ s, (c : EReal) * f i :=
  map_sum (mulHom c hc) f s

theorem mul_cum {N : ℕ} (c : ℝ) (hc : 0 ≤ c) (n : ℕ) (f : Fin N → EReal) : (c : EReal) * cum n f = cum n fun r => (c : EReal) * f r := by
  unfold cum
  rw [mul_sum' c hc]
  exact Finset.sum_congr rfl fun r _ => by split <;> simp

theorem mul_cum_real {N : ℕ} (c : ℝ) (n : ℕ) (f : Fin N → ℝ) : c * cum n f = cum n fun r => c * f r := by
  unfold cum
  rw [Finset.mul_sum]
  exact Finset.sum_congr rfl fun r _ => by split <;> simp

/-! ## One row: powers of two of the scores, less the running maximum -/

/-- The power of two of a score less `M`. -/
def pw (s M : ℝ) : ℝ := Real.rpow 2 (s - M)

theorem pw_nonneg (s M : ℝ) : 0 ≤ pw s M := Real.rpow_nonneg (by norm_num) _

theorem pw_mul (s M M' : ℝ) : Real.rpow 2 (M - M') * pw s M = pw s M' := by
  show (2 : ℝ) ^ (M - M') * (2 : ℝ) ^ (s - M) = (2 : ℝ) ^ (s - M')
  rw [← Real.rpow_add two_pos]
  congr 1
  ring

section Head

variable {A R D : Type} [Fintype A] [Fintype R] [Fintype D] [Nonempty R] (c : ℝ) (Q : A → D → ℝ) (K : R → D → ℝ) (a : A)

/-- The score of key `r` in base two. -/
def sc (r : R) : ℝ := (∑ d, Q a d * K r d) * (c * (Real.log 2)⁻¹)

theorem pw_exp (M : ℝ) (r : R) : pw (sc c Q K a r) M = Real.exp (score c Q K a r - M * Real.log 2) := by
  have h2 : Real.log 2 ≠ 0 := (Real.log_pos one_lt_two).ne'
  show (2 : ℝ) ^ (_ : ℝ) = _
  rw [Real.rpow_def_of_pos two_pos]
  congr 1
  unfold sc score
  field_simp

theorem pw_pos (M : ℝ) : 0 < ∑ r, pw (sc c Q K a r) M := by
  simp only [pw_exp]
  exact sum_exp_pos _

/-- The powers over their sum are the softmax's weights. -/
theorem pw_weight (M : ℝ) (r : R) : pw (sc c Q K a r) M / ∑ r', pw (sc c Q K a r') M = weight c Q K a r := by
  simp only [pw_exp]
  exact weight_shift c Q K a r _

/-- The logarithm of a sum of exponentials, from exponentials less any number `m`. -/
theorem log_shift (f : R → ℝ) (m : ℝ) : m + Real.log (∑ r, Real.exp (f r - m)) = Real.log (∑ r, Real.exp (f r)) := by
  simp only [Real.exp_sub, ← Finset.sum_div]
  rw [Real.log_div (sum_exp_pos f).ne' (Real.exp_pos m).ne', Real.log_exp]
  ring

/-- The running maximum plus the base-two logarithm of the sum of powers is the base-two logarithm of the sum of exponentials. -/
theorem pw_log (M m : ℝ) : M + Real.log (∑ r, pw (sc c Q K a r) M) * (Real.log 2)⁻¹
    = (m + Real.log (∑ r, Real.exp (score c Q K a r - m))) / Real.log 2 := by
  have h2 : Real.log 2 ≠ 0 := (Real.log_pos one_lt_two).ne'
  simp only [pw_exp]
  rw [log_shift (score c Q K a) m, ← log_shift (score c Q K a) (M * Real.log 2)]
  field_simp

end Head

/-! ## Heads padded with zero lanes, infinities allowed -/

/-- A row of `n` lanes padded with zeros to `N` lanes. -/
def epad {n : ℕ} (N : ℕ) {A : Type} (f : A → Fin n → EReal) (a : A) (d : Fin N) : EReal := if h : d.val < n then f a ⟨d.val, h⟩ else 0

/-- The padded layout of one function per head. -/
def eslots {n w : ℕ} (g : Fin 8 → Fin n → Fin w → EReal) (i : (⟨2, ![n, 1024]⟩ : Shape).Idx) : EReal :=
  epad 128 (g (hd (i 1))) (i 0) (ln (i 1))

/-- Padding of the lanes of [n, 8, w] with zeros to 128 and reshape to [n, 1024]: the padded layout of the array's heads. -/
theorem eslots_apply {n w p : ℕ} (y : (⟨3, ![n, 8, w]⟩ : Shape).Idx → EReal) {u : Shape} (z : u.Idx → EReal)
    (hw : w + p = 128) (hp : (⟨3, ![n, 8, w]⟩ : Shape).Pads ![0, 0, 0] ![0, 0, p] ![0, 0, 0] ⟨3, ![n, 8, 128]⟩) (hu : 0 < u.numel)
    (hz : z (Shape.Idx.first hu) = 0) (hc : (⟨3, ![n, 8, 128]⟩ : Shape).ShapeCasts ⟨2, ![n, 1024]⟩) :
    shapeCast ⟨2, ![n, 1024]⟩ (Idealize.ShloMosaic.pad ⟨3, ![n, 8, 128]⟩ ![0, 0, 0] ![0, 0, p] ![0, 0, 0] y z hp hu) hc
      = eslots fun h a d => y (ix3 a h d) := by
  funext i
  have h1 : (i 1).val < 1024 := (i 1).isLt
  rw [shapeCast_apply _ hc i (ix3 (i 0) (hd (i 1)) (ln (i 1))) (by
    rw [Shape.rowMajor_val_three, Shape.rowMajor_val_two]
    show ((i 0).val * 8 + (i 1).val / 128) * 128 + (i 1).val % 128 = (i 0).val * 1024 + (i 1).val
    omega)]
  unfold eslots epad
  split
  · rename_i hl
    rw [pad_apply_of_inside _ _ _ y z hp hu _ (ix3 (i 0) (hd (i 1)) ⟨(ln (i 1)).val, hl⟩) (fun a => match a with
      | ⟨0, _⟩ => by show (i 0).val = 0 + (i 0).val * (0 + 1); omega
      | ⟨1, _⟩ => by show (hd (i 1)).val = 0 + (hd (i 1)).val * (0 + 1); omega
      | ⟨2, _⟩ => by show (ln (i 1)).val = 0 + (ln (i 1)).val * (0 + 1); omega)]
  · rename_i hl
    rw [pad_apply_of_not_inside _ _ _ y z hp hu _ 2 (by
      show ¬(0 ≤ (ln (i 1)).val ∧ ((ln (i 1)).val - 0) % (0 + 1) = 0 ∧ ((ln (i 1)).val - 0) / (0 + 1) < w)
      omega), hz]

/-- A lane of a head's slot, in the padded layout. -/
def pl (h : Fin 8) (d : Fin 128) : Fin 1024 := ⟨128 * h.val + d.val, by omega⟩

theorem hd_pl (h : Fin 8) (d : Fin 128) : hd (pl h d) = h := Fin.ext (by show (128 * h.val + d.val) / 128 = h.val; omega)
theorem ln_pl (h : Fin 8) (d : Fin 128) : ln (pl h d) = d := Fin.ext (by show (128 * h.val + d.val) % 128 = d.val; omega)

theorem slots_at {n w : ℕ} (g : Fin 8 → Fin n → Fin w → ℝ) (h : Fin 8) (a : Fin n) (d : Fin 128) :
    slots g (ix2 a (pl h d)) = ((pad 128 (g h) a d : ℝ) : EReal) := by
  show ((pad 128 (g (hd (pl h d))) a (ln (pl h d)) : ℝ) : EReal) = _
  rw [hd_pl, ln_pl]

theorem eslots_at {n w : ℕ} (g : Fin 8 → Fin n → Fin w → EReal) (h : Fin 8) (a : Fin n) (d : Fin 128) :
    eslots g (ix2 a (pl h d)) = epad 128 (g h) a d := by
  show epad 128 (g (hd (pl h d))) a (ln (pl h d)) = _
  rw [hd_pl, ln_pl]

/-- The padded layout at a block's row and a slot's lane, the place named by its coordinates. -/
theorem eslots_of {n w : ℕ} (g : Fin 8 → Fin n → Fin w → EReal) (h : Fin 8) (a : Fin n) (d : Fin 128) (i : (⟨2, ![n, 1024]⟩ : Shape).Idx)
    (ha : (i 0).val = a.val) (hl : (i 1).val = 128 * h.val + d.val) : eslots g i = epad 128 (g h) a d := by
  rw [← eslots_at g h a d]
  refine congrArg (eslots g) (funext fun b => Fin.ext ?_)
  match b with
  | ⟨0, _⟩ => exact ha
  | ⟨1, _⟩ => exact hl

/-! ## One row, block of keys by block of keys -/

/-- The state of a row after the keys below `n`: nothing yet, or a maximum `M` with the sums of powers less `M`. -/
def Row {N : ℕ} (s : Fin N → ℝ) (v : Fin N → Fin 128 → EReal) (n : ℕ) (mo lo ao : Fin 128 → EReal) : Prop :=
  (n = 0 ∧ (∀ d, mo d = ⊥) ∧ (∀ d, lo d = 0) ∧ ∀ e, ao e = 0) ∨
    ∃ M : ℝ, (∀ d, mo d = (M : EReal)) ∧ (∀ d, lo d = ((cum n fun r => pw (s r) M : ℝ) : EReal))
      ∧ ∀ e, ao e = cum n fun r => (pw (s r) M : EReal) * v r e

/-- One more block of `w` keys, whose largest score is `x`. -/
theorem Row.step {N : ℕ} {s : Fin N → ℝ} {v : Fin N → Fin 128 → EReal} {n : ℕ} {mo lo ao : Fin 128 → EReal} (h : Row s v n mo lo ao) (w : ℕ)
    (hn : n + w ≤ N) (x : ℝ) (ln : Fin w → Fin 128) :
    ∃ M : ℝ, (∀ d, max (mo d) (x : EReal) = (M : EReal))
      ∧ (∀ d, Ideal.exp2 (mo d - max (mo d) (x : EReal)) * lo d
          + ∑ r : Fin w, Ideal.exp2 ((s ⟨n + r.val, by omega⟩ : EReal) - max (mo (ln r)) (x : EReal))
          = ((cum (n + w) fun r => pw (s r) M : ℝ) : EReal))
      ∧ ∀ e, Ideal.exp2 (mo e - max (mo e) (x : EReal)) * ao e
          + ∑ r : Fin w, Ideal.exp2 ((s ⟨n + r.val, by omega⟩ : EReal) - max (mo (ln r)) (x : EReal)) * v ⟨n + r.val, by omega⟩ e
          = cum (n + w) fun r => (pw (s r) M : EReal) * v r e := by
  have key : ∃ M : ℝ, (∀ d, max (mo d) (x : EReal) = (M : EReal)) ∧ (∀ d, Ideal.exp2 (mo d - M) * lo d = ((cum n fun r => pw (s r) M : ℝ) : EReal)) ∧
      ∀ e, Ideal.exp2 (mo e - M) * ao e = cum n fun r => (pw (s r) M : EReal) * v r e := by
    rcases h with ⟨rfl, hm, hl, ha⟩ | ⟨M, hm, hl, ha⟩
    · refine ⟨x, fun d => by rw [hm, max_eq_right bot_le], fun d => ?_, fun e => ?_⟩
      · rw [hl, mul_zero, cum_zero, EReal.coe_zero]
      · rw [ha, mul_zero, cum_zero]
    · refine ⟨max M x, fun d => by rw [hm, EReal.coe_strictMono.monotone.map_max], fun d => ?_, fun e => ?_⟩
      · rw [hm, hl, ← EReal.coe_sub, exp2_coe, ← EReal.coe_mul, mul_cum_real]
        simp only [pw_mul]
      · rw [hm, ha, ← EReal.coe_sub, exp2_coe, mul_cum (Real.rpow 2 (M - max M x)) (Real.rpow_nonneg (by norm_num) _)]
        simp only [← mul_assoc, ← EReal.coe_mul, pw_mul]
  obtain ⟨M, hM, hl, ha⟩ := key
  refine ⟨M, hM, fun d => ?_, fun e => ?_⟩
  · simp only [hM]
    rw [hl, cum_add n w _ hn, EReal.coe_add, coe_sum]
    refine congrArg (_ + ·) (Finset.sum_congr rfl fun r _ => ?_)
    rw [← EReal.coe_sub, exp2_coe]
    rfl
  · simp only [hM]
    rw [ha, cum_add n w _ hn]
    refine congrArg (_ + ·) (Finset.sum_congr rfl fun r _ => ?_)
    rw [← EReal.coe_sub, exp2_coe]
    rfl

end Cert.Fwd
-- ==== Proof.Fwd.Ref.lean ====
/-
  The reference's results of the forward pass over the extended reals, for queries and keys holding no infinity: the
  weighted sums of the values in the padded layout, and the base-two logarithms of the sums of exponentials.
-/
module

public import proofs.«01_k».proof.Proof.Fwd.Real
public import proofs.«01_k».proof.Proof.Attn.Ref
public import proofs.«01_k».proof.Proof.Gen.Reference2Ideal.Read

@[expose] public section

set_option maxRecDepth 16384

noncomputable section

namespace Cert.Fwd.Ref

open Idealize.ShloMosaic Cert.Reference2Ideal Cert.Reference2Ideal.Read Cert.Attn
open Cert.Attn.Ref (c0)

variable {x0 : Arr 8192 96} {x1 : Arr 8448 96} {x2 : Arr 8448 64}
variable (h0 : Finite x0) (h1 : Finite x1)

/-- The base-two logarithm of a query's sum of exponentials. -/
def lse (x0 : Arr 8192 96) (x1 : Arr 8448 96) (h : Fin 8) (a : Fin 8192) : ℝ :=
  (Attn.Ref.top x0 x1 h a + Real.log (Attn.Ref.den x0 x1 h a)) / Real.log 2

/-- The forward pass's output. -/
def out (x0 : Arr 8192 96) (x1 : Arr 8448 96) (x2 : Arr 8448 64) (h : Fin 8) (a : Fin 8192) (e : Fin 64) : EReal :=
  ∑ r, (weight c0 (head x0 h) (head x1 h) a r : EReal) * x2 (ix4 0 r h e)

/-- The scores, the largest score, the exponentials and their sum are those of the backward pass's reference. -/
theorem v5_eq : val_main_v5 (F := Ideal) x0 x1 = Cert.ReferenceIdeal.Read.val_main_v10 (F := Ideal) x0 x1 := rfl
theorem v9_eq : val_main_v9 (F := Ideal) x0 x1 = Cert.ReferenceIdeal.Read.val_main_v23 (F := Ideal) x0 x1 := rfl
theorem v13_eq : val_main_v13 (F := Ideal) x0 x1 = Cert.ReferenceIdeal.Read.val_main_v27 (F := Ideal) x0 x1 := rfl
theorem v20_eq : val_main_v20 (F := Ideal) x0 x1 = Cert.ReferenceIdeal.Read.val_main_v3 (F := Ideal) x0 x1 := rfl

include h0 h1 in
theorem v24_eq (i : S1x8x8192x8448.Idx) (h : Fin 8) (a : Fin 8192) (r : Fin 8448) (e1 : i 1 = h) (e2 : i 2 = a) (e3 : i 3 = r) :
    val_main_v24 (F := Ideal) x0 x1 i = (Real.exp (score c0 (head x0 h) (head x1 h) a r - Attn.Ref.top x0 x1 h a) : ℝ) := by
  have hs : val_main_v19 (F := Ideal) x0 x1 i = Cert.ReferenceIdeal.Read.val_main_v2 (F := Ideal) x0 x1 i := rfl
  rw [val_main_v24_apply, val_main_v23_apply, val_main_v22_apply, val_main_v21_apply, hs, v20_eq, Attn.Ref.score_eq h0 h1 i h a r e1 e2 e3,
    Attn.Ref.top_eq h0 h1 _ h a e1 e2, Ideal.subf_def, ← EReal.coe_sub]
  exact exp_coe _

include h0 h1 in
theorem v25_eq (i : S1x8x8192.Idx) (h : Fin 8) (a : Fin 8192) (e1 : i 1 = h) (e2 : i 2 = a) :
    val_main_v25 (F := Ideal) x0 x1 i = (Attn.Ref.den x0 x1 h a : ℝ) := by
  rw [val_main_v25_apply, val_main_cst_5_apply, Ideal.ofBits_def, Attn.Ref.ofBits_zero, zero_add, Attn.Ref.den, coe_sum]
  exact Finset.sum_congr rfl fun k _ => v24_eq h0 h1 _ h a k e1 e2 rfl

theorem ofBits_two : Ideal.ofBits .f32 0x40000000#32 = ((2 : ℝ) : EReal) := by
  simp [Ideal.ofBits, Ideal.ieee, -EReal.coe_mul]
  try norm_num

include h0 h1 in
/-- The reference's second result. -/
theorem lse_eq (h s : Fin 8) (a : Fin 8192) : val_main_v37 (F := Ideal) x0 x1 (ix3 h s a) = ((lse x0 x1 h a : ℝ) : EReal) := by
  have hq : ∀ i : S1x8x8192.Idx, i 1 = h → i 2 = a → val_main_v31 (F := Ideal) x0 x1 i = ((lse x0 x1 h a : ℝ) : EReal) := by
    intro i e1 e2
    have hv : val_main_v31 (F := Ideal) x0 x1 i = Ideal.div (val_main_v20 (F := Ideal) x0 x1 i + Ideal.log (val_main_v25 (F := Ideal) x0 x1 i))
        (Ideal.log (Ideal.ofBits .f32 0x40000000#32)) := by
      rw [val_main_v31_apply, val_main_v27_apply, val_main_v26_apply, val_main_v30_apply, val_main_v29_apply, val_main_v28_apply, val_main_cst_6_apply]
      rfl
    rw [hv, v20_eq, Attn.Ref.top_eq h0 h1 _ h a e1 e2, v25_eq h0 h1 _ h a e1 e2, ofBits_two, log_coe (Attn.Ref.den_pos _ _ _ _),
      log_coe (show (0 : ℝ) < 2 by norm_num), ← EReal.coe_add, div_coe _ (Real.log_pos (show (1 : ℝ) < 2 by norm_num)).ne']
    rfl
  rw [val_main_v37_apply, val_main_v36_apply, val_main_v35_apply]
  refine hq _ (Fin.ext ?_) (Fin.ext ?_)
  · show (h.val * 8192 + a.val) / 8192 % 8 = h.val
    omega
  · show (h.val * 8192 + a.val) % 8192 = a.val
    omega

include h0 h1 in
theorem v16_eq (h : Fin 8) (a : Fin 8192) (e : Fin 64) : val_main_v16 (F := Ideal) x0 x1 x2 (ix3 a h e) = out x0 x1 x2 h a e := by
  have hq : ∀ i : S1x8192x8x64.Idx, i 1 = a → i 2 = h → i 3 = e → val_main_v15 (F := Ideal) x0 x1 x2 i = out x0 x1 x2 h a e := by
    intro i e1 e2 e3
    rw [val_main_v15_apply, val_main_v14_apply, out]
    refine Finset.sum_congr rfl fun k _ => ?_
    rw [v13_eq, Attn.Ref.weight_eq h0 h1 _ h a k e2 e1 rfl, mul_comm]
    refine congrArg (_ * ·) (congrArg x2 (funext fun b => ?_))
    match b with
    | ⟨0, _⟩ => exact Subsingleton.elim (α := Fin 1) _ _
    | ⟨1, _⟩ => rfl
    | ⟨2, _⟩ => exact e2
    | ⟨3, _⟩ => exact e3
  rw [val_main_v16_apply]
  refine hq _ (Fin.ext ?_) (Fin.ext ?_) (Fin.ext ?_)
  · show ((a.val * 8 + h.val) * 64 + e.val) / 512 % 8192 = a.val
    omega
  · show ((a.val * 8 + h.val) * 64 + e.val) / 64 % 8 = h.val
    omega
  · show ((a.val * 8 + h.val) * 64 + e.val) % 64 = e.val
    omega

include h0 h1 in
/-- The reference's first result. -/
theorem out_eq : val_main_v34 (F := Ideal) x0 x1 x2 = eslots (out x0 x1 x2) := by
  have hs : val_main_v34 (F := Ideal) x0 x1 x2 = eslots fun h a e => val_main_v16 (F := Ideal) x0 x1 x2 (ix3 a h e) :=
    eslots_apply (n := 8192) (w := 64) (p := 64) (val_main_v16 (F := Ideal) x0 x1 x2) (val_main_call0_v0 (F := Ideal))
      (by norm_num) Facts₀.pads_S8192x8x64_S8192x8x128_000_000_0640 Facts₀.h_S_ (sitofp_zero (φ := .f32)) Facts₀.shapeCasts_S8192x8x128_S8192x1024
  rw [hs]
  exact congrArg eslots (funext fun h => funext fun a => funext fun e => v16_eq h0 h1 h a e)

end Cert.Fwd.Ref
-- ==== Proof.Fwd.Read.lean ====
/-
  The blocks a grid point of the forward pass reads, what it leaves in the running maxima and sums, and what it writes
  out: the three cases of the grid brought to one statement, for queries and keys holding no infinity.
-/
module

public import proofs.«01_k».proof.Proof.Fwd.Body
public import proofs.«01_k».proof.Proof.Fwd.Ref
public import proofs.«01_k».proof.Proof.Gen.Kernel2Ideal.Frame
public import Idealize.ShloMosaic.Lib.StableHlo.RunRead
public import Idealize.ShloMosaic.Lib.Pipeline.ValueKit

@[expose] public section

set_option maxRecDepth 16384

noncomputable section

namespace Cert.Fwd.Read

open Idealize.ShloMosaic Idealize.ShloMosaic.TcCoe Idealize.ShloMosaic.Tactic Cert.Kernel2Ideal Cert.Kernel2Ideal.Gen Cert.Attn Cert.Fwd Cert.Fwd.Block Cert.Fwd.Body
open Idealize.ShloMosaic.StableHlo
open Cert.Attn.Ref (c0)

variable (m : (ℓ : Loc nD τ sig) → Buf (Elt Ideal) ℓ) (c : Dev nD)

/-- The arguments a device holds. -/
abbrev X0 : Arr 8192 96 := m ((c : Thread nD τ).loc main_arg0)
abbrev X1 : Arr 8448 96 := m ((c : Thread nD τ).loc main_arg1)
abbrev X2 : Arr 8448 64 := m ((c : Thread nD τ).loc main_arg2)

/-- The blocks a point reads: queries, keys, values. -/
abbrev bq (t : Fin cfg0.N) : Vec Ideal S4096x128 .bf16 := iblk m c 0 t
abbrev bk (t : Fin cfg0.N) : Vec Ideal S2816x128 .bf16 := iblk m c 1 t
abbrev bv (t : Fin cfg0.N) : Vec Ideal S2816x128 .bf16 := iblk m c 2 t

/-! ## The cases of the grid -/

theorem prev_lt (t : Fin cfg0.N) : t.val - 1 < cfg0.N := Nat.lt_of_le_of_lt (Nat.sub_le _ _) t.isLt

/-- What a point finds in the maxima, the sums and the weighted sums: the first values where it starts them. -/
def prev0 (t : Fin cfg0.N) : Vec Ideal S4096x128 .f32 := if t.val % 3 = 0 then k0_pay5 (F := Ideal) else (outsAt0 m c (t.val - 1) (prev_lt t)).2.2.1
def prev1 (t : Fin cfg0.N) : Vec Ideal S4096x128 .f32 := if t.val % 3 = 0 then k0_pay6 (F := Ideal) else (outsAt0 m c (t.val - 1) (prev_lt t)).2.2.2.1
def prev2 (t : Fin cfg0.N) : Vec Ideal S4096x128 .f32 := if t.val % 3 = 0 then k0_pay7 (F := Ideal) else (outsAt0 m c (t.val - 1) (prev_lt t)).2.2.2.2

/-- What each point leaves, from what it finds. -/
theorem step (t : Fin cfg0.N) : (outsAt0 m c t.val t.isLt).2.2.1 = mG (bq m c t) (bk m c t) (prev0 m c t)
    ∧ (outsAt0 m c t.val t.isLt).2.2.2.1 = lG (bq m c t) (bk m c t) (prev0 m c t) (prev1 m c t)
    ∧ (outsAt0 m c t.val t.isLt).2.2.2.2 = aG (bq m c t) (bk m c t) (bv m c t) (prev0 m c t) (prev2 m c t) := by
  unfold prev0 prev1 prev2
  by_cases h0 : t.val % 3 = 0
  · have h1 : ¬t.val % 3 = 2 := by omega
    rw [outsAt0_A m c t h0 h1, if_pos h0, if_pos h0, if_pos h0]
    dsimp only
    exact ⟨m_A .., l_A .., a_A ..⟩
  · by_cases h1 : t.val % 3 = 2
    · rw [outsAt0_C m c t h0 h1, if_neg h0, if_neg h0, if_neg h0]
      dsimp only
      exact ⟨m_C .., l_C .., a_C ..⟩
    · rw [outsAt0_B m c t h0 h1, if_neg h0, if_neg h0, if_neg h0]
      dsimp only
      exact ⟨m_B .., l_B .., a_B ..⟩

/-- What the last key block's point writes out, from what it leaves. -/
theorem step_out (t : Fin cfg0.N) (h1 : t.val % 3 = 2) :
    (outsAt0 m c t.val t.isLt).1 = oB (outsAt0 m c t.val t.isLt).2.2.2.1 (outsAt0 m c t.val t.isLt).2.2.2.2
    ∧ (outsAt0 m c t.val t.isLt).2.1 = eB (outsAt0 m c t.val t.isLt).2.2.1 (outsAt0 m c t.val t.isLt).2.2.2.1 := by
  have h0 : ¬t.val % 3 = 0 := by omega
  obtain ⟨e0, e1, e2⟩ := step m c t
  rw [e0, e1, e2]
  unfold prev0 prev1 prev2
  rw [outsAt0_C m c t h0 h1, if_neg h0, if_neg h0, if_neg h0]
  dsimp only
  exact ⟨oOut_C .., eOut_C ..⟩

/-! ## The arrays the blocks are cut from -/

variable (h0 : Finite (X0 m c)) (h1 : Finite (X1 m c))

/-- The padding value. -/
abbrev zeroPad : FVec Ideal S_ .f32 := sitofp .f32 (constantI S_ 32 0#32)

include h0 in
theorem q_eq : V (F := Ideal) m c main_v3 = slots (head (X0 m c)) := by
  unfold V
  after_reads_simp
  exact slots_apply (p := 32) h0 _ (fun i => dropBatch_apply (X0 m c) shapeCasts_S1x8192x8x96_S8192x8x96 i) zeroPad
    (by norm_num) pads_S8192x8x96_S8192x8x128_000_000_0320 h_S_ (sitofp_zero (φ := .f32)) shapeCasts_S8192x8x128_S8192x1024

include h1 in
theorem k_eq : V (F := Ideal) m c main_v7 = slots (head (X1 m c)) := by
  unfold V
  after_reads_simp
  exact slots_apply (p := 32) h1 _ (fun i => dropBatch_apply (X1 m c) shapeCasts_S1x8448x8x96_S8448x8x96 i) zeroPad
    (by norm_num) pads_S8448x8x96_S8448x8x128_000_000_0320 h_S_ (sitofp_zero (φ := .f32)) shapeCasts_S8448x8x128_S8448x1024

/-- Head `h` of the values: its row `a`, lane `e`, which may be an infinity. -/
abbrev W (h : Fin 8) (a : Fin 8448) (e : Fin 64) : EReal := X2 m c (ix4 0 a h e)

theorem v_eq : V (F := Ideal) m c main_v11 = eslots (W m c) := by
  rw [show W m c = fun h a e => shapeCast S8448x8x64 (X2 m c) shapeCasts_S1x8448x8x64_S8448x8x64 (ix3 a h e) from
    funext fun h => funext fun a => funext fun e => (dropBatch_apply (X2 m c) shapeCasts_S1x8448x8x64_S8448x8x64 (ix3 a h e)).symm]
  unfold V
  after_reads_simp
  exact eslots_apply (p := 64) _ zeroPad
    (by norm_num) pads_S8448x8x64_S8448x8x128_000_000_0640 h_S_ (sitofp_zero (φ := .f32)) shapeCasts_S8448x8x128_S8448x1024

/-! ## Where the blocks lie -/

theorem e0 : ∀ t : Fin cfg0.N, win0_0.index t = ![t.val / 3 % 2, t.val / 6] := (by decide +kernel : ∀ t : Fin grid0.N, _)
theorem e1 : ∀ t : Fin cfg0.N, win0_1.index t = ![t.val % 3, t.val / 6] := (by decide +kernel : ∀ t : Fin grid0.N, _)
theorem e2 : ∀ t : Fin cfg0.N, win0_2.index t = ![t.val % 3, t.val / 6] := (by decide +kernel : ∀ t : Fin grid0.N, _)
theorem e3 : ∀ t : Fin cfg0.N, win0_3.index t = ![t.val / 3 % 2, t.val / 6] := (by decide +kernel : ∀ t : Fin grid0.N, _)
theorem e4 : ∀ t : Fin cfg0.N, win0_4.index t = ![t.val / 6, 0, t.val / 3 % 2] := (by decide +kernel : ∀ t : Fin grid0.N, _)

theorem lt48 (t : Fin cfg0.N) : t.val < 48 := lt_of_lt_of_eq t.isLt N_0

/-- The head of a grid point. -/
def ph (n : ℕ) (hn : n < 48) : Fin 8 := ⟨n / 6, by omega⟩
/-- A row of a point's query block, in the arrays. -/
def pa (n : ℕ) (a : Fin 4096) : Fin 8192 := ⟨4096 * (n / 3 % 2) + a.val, by omega⟩
/-- A row of a point's key block, in the arrays. -/
def pr (n : ℕ) (r : Fin 2816) : Fin 8448 := ⟨2816 * (n % 3) + r.val, by omega⟩

/-- The real functions of a head: queries, keys. -/
abbrev Q (h : Fin 8) := head (X0 m c) h
abbrev K (h : Fin 8) := head (X1 m c) h

variable (t : Fin cfg0.N)

include h0 in
theorem bq_eq (a : Fin 4096) (d : Fin 128) : bq m c t (ix2 a d) = ((pad 128 (Q m c (ph t.val (lt48 t))) (pa t.val a) d : ℝ) : EReal) := by
  rw [← slots_at (head (X0 m c)), ← q_eq m c h0]
  blk_ext [iblk, e0 t, pa, pl, ph]

include h1 in
theorem bk_eq (r : Fin 2816) (d : Fin 128) : bk m c t (ix2 r d) = ((pad 128 (K m c (ph t.val (lt48 t))) (pr t.val r) d : ℝ) : EReal) := by
  rw [← slots_at (head (X1 m c)), ← k_eq m c h1]
  blk_ext [iblk, e1 t, pr, pl, ph]

theorem bv_eq (r : Fin 2816) (d : Fin 128) : bv m c t (ix2 r d) = epad 128 (W m c (ph t.val (lt48 t))) (pr t.val r) d := by
  rw [← eslots_at (W m c), ← v_eq m c]
  blk_ext [iblk, e2 t, pr, pl, ph]

/-! ## The scores -/

theorem kap_eq : kap = ((c0 * (Real.log 2)⁻¹ : ℝ) : EReal) := by
  rfl

theorem lg_eq : lg = (((Real.log 2)⁻¹ : ℝ) : EReal) := by
  rfl

include h0 h1 in
theorem raw_eq (a : Fin 4096) (r : Fin 2816) : raw (bq m c t) (bk m c t) a r
    = ((∑ d, Q m c (ph t.val (lt48 t)) (pa t.val a) d * K m c (ph t.val (lt48 t)) (pr t.val r) d : ℝ) : EReal) := by
  unfold raw
  simp only [bq_eq m c h0, bk_eq m c h1]
  rw [← sum_pad_mul (N := 128) (by norm_num), coe_sum]
  exact Finset.sum_congr rfl fun i _ => (EReal.coe_mul _ _).symm

include h0 h1 in
/-- A score in base two. -/
theorem sc_eq (a : Fin 4096) (r : Fin 2816) : raw (bq m c t) (bk m c t) a r * kap
    = ((sc c0 (Q m c (ph t.val (lt48 t))) (K m c (ph t.val (lt48 t))) (pa t.val a) (pr t.val r) : ℝ) : EReal) := by
  rw [raw_eq m c h0 h1, kap_eq, ← EReal.coe_mul]
  rfl

include h0 h1 in
/-- A block's largest score is a real number. -/
theorem top_real (a : Fin 4096) : ∃ x : ℝ, top (bq m c t) (bk m c t) a * kap = (x : EReal) := by
  obtain ⟨x, hx⟩ := fold_max_coe (Finset.univ : Finset (Fin 2816)) Finset.univ_nonempty
    fun r => ∑ d, Q m c (ph t.val (lt48 t)) (pa t.val a) d * K m c (ph t.val (lt48 t)) (pr t.val r) d
  refine ⟨x * (c0 * (Real.log 2)⁻¹), ?_⟩
  have ht : top (bq m c t) (bk m c t) a = (x : EReal) := by
    rw [← hx]
    unfold top
    rw [show raw (bq m c t) (bk m c t) a = _ from funext fun r => raw_eq m c h0 h1 t a r]
  rw [ht, kap_eq, ← EReal.coe_mul]

end Cert.Fwd.Read
-- ==== Proof.Fwd.Fold.lean ====
/-
  The running maxima and sums along the grid: after each point they are those of the keys done so far; at the last one
  they give the softmax's weighted sums and the logarithms of its sums.
-/
module

public import proofs.«01_k».proof.Proof.Fwd.Read

@[expose] public section

set_option maxRecDepth 16384

noncomputable section

namespace Cert.Fwd.Fold

open Idealize.ShloMosaic Idealize.ShloMosaic.TcCoe Idealize.ShloMosaic.Tactic Cert.Kernel2Ideal Cert.Kernel2Ideal.Gen Cert.Attn Cert.Fwd Cert.Fwd.Block
open Cert.Fwd.Body (oB eB)
open Cert.Fwd.Read
open Cert.Attn.Ref (c0)

variable (m : (ℓ : Loc nD τ sig) → Buf (Elt Ideal) ℓ) (c : Dev nD)
variable (h0 : Finite (X0 m c)) (h1 : Finite (X1 m c))

theorem bot0 (y : S4096x128.Idx) : k0_pay5 (F := Ideal) y = ⊥ := by
  show Ideal.ofBits .f32 0xFF800000#32 = ⊥
  exact Attn.Ref.ofBits_bot
theorem zero1 (y : S4096x128.Idx) : k0_pay6 (F := Ideal) y = 0 := by
  show Ideal.ofBits .f32 0x00000000#32 = 0
  exact Attn.Ref.ofBits_zero
theorem zero2 (y : S4096x128.Idx) : k0_pay7 (F := Ideal) y = 0 := by
  show Ideal.ofBits .f32 0x00000000#32 = 0
  exact Attn.Ref.ofBits_zero

theorem ph_pred (n : ℕ) (hn : n < 48) (h : ¬n % 3 = 0) : ph (n - 1) (by omega) = ph n hn := Fin.ext (by show (n - 1) / 6 = n / 6; omega)

theorem pa_pred (n : ℕ) (a : Fin 4096) (h : ¬n % 3 = 0) : pa (n - 1) a = pa n a :=
  Fin.ext (by show 4096 * ((n - 1) / 3 % 2) + a.val = 4096 * (n / 3 % 2) + a.val; omega)

/-- The base-two scores of a point's query. -/
abbrev S (n : ℕ) (hn : n < cfg0.N) (a : Fin 4096) (r : Fin 8448) : ℝ :=
  sc c0 (Q m c (ph n (lt48 ⟨n, hn⟩))) (K m c (ph n (lt48 ⟨n, hn⟩))) (pa n a) r

/-- The padded values of a point's head. -/
abbrev E (n : ℕ) (hn : n < cfg0.N) (r : Fin 8448) (e : Fin 128) : EReal := epad 128 (W m c (ph n (lt48 ⟨n, hn⟩))) r e

include h0 h1

/-- The state of a query after point `n`. -/
theorem row_at (n : ℕ) : ∀ (hn : n < cfg0.N) (a : Fin 4096), Row (S m c n hn a) (E m c n hn) (2816 * (n % 3) + 2816)
    (fun d => (outsAt0 m c n hn).2.2.1 (ix2 a d)) (fun d => (outsAt0 m c n hn).2.2.2.1 (ix2 a d)) (fun e => (outsAt0 m c n hn).2.2.2.2 (ix2 a e)) := by
  induction n using Nat.strong_induction_on with
  | _ n ih =>
    intro hn a
    have hp : Row (S m c n hn a) (E m c n hn) (2816 * (n % 3)) (fun d => prev0 m c ⟨n, hn⟩ (ix2 a d)) (fun d => prev1 m c ⟨n, hn⟩ (ix2 a d))
        (fun e => prev2 m c ⟨n, hn⟩ (ix2 a e)) := by
      unfold prev0 prev1 prev2
      by_cases hz : n % 3 = 0
      · refine Or.inl ⟨by rw [hz], fun d => ?_, fun d => ?_, fun e => ?_⟩
        · rw [if_pos hz]; exact bot0 _
        · rw [if_pos hz]; exact zero1 _
        · rw [if_pos hz]; exact zero2 _
      · simp only [if_neg hz]
        have hi := ih (n - 1) (by omega) (prev_lt ⟨n, hn⟩) a
        unfold S E at hi ⊢
        rw [pa_pred n a hz, ph_pred n (lt48 ⟨n, hn⟩) hz, show 2816 * ((n - 1) % 3) + 2816 = 2816 * (n % 3) by omega] at hi
        exact hi
    obtain ⟨x, hx⟩ := top_real m c h0 h1 ⟨n, hn⟩ a
    obtain ⟨M, hm, hl, ha⟩ := hp.step 2816 (by omega) x lane
    have e0 := (step m c ⟨n, hn⟩).1
    have e1 := (step m c ⟨n, hn⟩).2.1
    have e2 := (step m c ⟨n, hn⟩).2.2
    refine Or.inr ⟨M, fun d => ?_, fun d => ?_, fun e => ?_⟩
    · refine (congrFun e0 (ix2 a d)).trans ?_
      show max (prev0 m c ⟨n, hn⟩ (ix2 a d)) (top (bq m c ⟨n, hn⟩) (bk m c ⟨n, hn⟩) a * kap) = _
      rw [hx]
      exact hm d
    · refine (congrFun e1 (ix2 a d)).trans ?_
      show Ideal.exp2 (prev0 m c ⟨n, hn⟩ (ix2 a d) - max (prev0 m c ⟨n, hn⟩ (ix2 a d)) (top (bq m c ⟨n, hn⟩) (bk m c ⟨n, hn⟩) a * kap)) * prev1 m c ⟨n, hn⟩ (ix2 a d)
        + ∑ r : Fin 2816, Ideal.exp2 (raw (bq m c ⟨n, hn⟩) (bk m c ⟨n, hn⟩) a r * kap
          - max (prev0 m c ⟨n, hn⟩ (ix2 a (lane r))) (top (bq m c ⟨n, hn⟩) (bk m c ⟨n, hn⟩) a * kap)) = _
      simp only [hx, sc_eq m c h0 h1]
      exact hl d
    · refine (congrFun e2 (ix2 a e)).trans ?_
      show Ideal.exp2 (prev0 m c ⟨n, hn⟩ (ix2 a e) - max (prev0 m c ⟨n, hn⟩ (ix2 a e)) (top (bq m c ⟨n, hn⟩) (bk m c ⟨n, hn⟩) a * kap)) * prev2 m c ⟨n, hn⟩ (ix2 a e)
        + ∑ r : Fin 2816, Ideal.exp2 (raw (bq m c ⟨n, hn⟩) (bk m c ⟨n, hn⟩) a r * kap
          - max (prev0 m c ⟨n, hn⟩ (ix2 a (lane r))) (top (bq m c ⟨n, hn⟩) (bk m c ⟨n, hn⟩) a * kap)) * bv m c ⟨n, hn⟩ (ix2 r e) = _
      simp only [hx, sc_eq m c h0 h1, bv_eq m c]
      exact ha e

/-- After the last key block: a maximum, the whole sum of powers, the whole weighted sums. -/
theorem row_last (t : Fin cfg0.N) (ht : t.val % 3 = 2) (a : Fin 4096) : ∃ M : ℝ, (∀ d, (outsAt0 m c t.val t.isLt).2.2.1 (ix2 a d) = (M : EReal))
    ∧ (∀ d, (outsAt0 m c t.val t.isLt).2.2.2.1 (ix2 a d) = ((∑ r, pw (S m c t.val t.isLt a r) M : ℝ) : EReal))
    ∧ ∀ e, (outsAt0 m c t.val t.isLt).2.2.2.2 (ix2 a e) = ∑ r, (pw (S m c t.val t.isLt a r) M : EReal) * E m c t.val t.isLt r e := by
  have h := row_at m c h0 h1 t.val t.isLt a
  rw [ht] at h
  rcases h with ⟨hn, _⟩ | ⟨M, hm, hl, ha⟩
  · omega
  · refine ⟨M, hm, fun d => ?_, fun e => ?_⟩
    · rw [← cum_all]
      exact hl d
    · rw [← cum_all]
      exact ha e

/-- The output of a query block. -/
theorem out_o (t : Fin cfg0.N) (ht : t.val % 3 = 2) (a : Fin 4096) (e : Fin 128) : (outsAt0 m c t.val t.isLt).1 (ix2 a e)
    = epad 128 (Ref.out (X0 m c) (X1 m c) (X2 m c) (ph t.val (lt48 t))) (pa t.val a) e := by
  obtain ⟨M, hm, hl, ha⟩ := row_last m c h0 h1 t ht a
  refine (congrFun (step_out m c t ht).1 (ix2 a e)).trans ?_
  show Ideal.div ((outsAt0 m c t.val t.isLt).2.2.2.2 (ix2 a e)) ((outsAt0 m c t.val t.isLt).2.2.2.1 (ix2 a e)) = _
  have hpos := pw_pos c0 (Q m c (ph t.val (lt48 t))) (K m c (ph t.val (lt48 t))) (pa t.val a) M
  rw [hl, ha]
  unfold Ideal.div
  rw [if_neg (by exact_mod_cast hpos.ne'), mul_comm, ← EReal.coe_inv, mul_sum' _ (inv_nonneg.mpr hpos.le)]
  by_cases he : e.val < 64
  · have hE : ∀ r, E m c t.val t.isLt r e = X2 m c (ix4 0 r (ph t.val (lt48 t)) ⟨e.val, he⟩) := fun r => dif_pos he
    have hO : epad 128 (Ref.out (X0 m c) (X1 m c) (X2 m c) (ph t.val (lt48 t))) (pa t.val a) e
        = Ref.out (X0 m c) (X1 m c) (X2 m c) (ph t.val (lt48 t)) (pa t.val a) ⟨e.val, he⟩ := dif_pos he
    rw [hO]
    unfold Ref.out
    refine Finset.sum_congr rfl fun r _ => ?_
    rw [hE, ← mul_assoc, ← EReal.coe_mul, ← pw_weight c0 _ _ _ M, div_eq_inv_mul]
  · have hE : ∀ r, E m c t.val t.isLt r e = 0 := fun r => dif_neg he
    have hO : epad 128 (Ref.out (X0 m c) (X1 m c) (X2 m c) (ph t.val (lt48 t))) (pa t.val a) e = 0 := dif_neg he
    rw [hO]
    exact Finset.sum_eq_zero fun r _ => by rw [hE, mul_zero, mul_zero]

/-- The logarithms of a query block. -/
theorem out_e (t : Fin cfg0.N) (ht : t.val % 3 = 2) (s : Fin 8) (a : Fin 4096) : (outsAt0 m c t.val t.isLt).2.1 (ix3 0 s a)
    = ((Ref.lse (X0 m c) (X1 m c) (ph t.val (lt48 t)) (pa t.val a) : ℝ) : EReal) := by
  obtain ⟨M, hm, hl, ha⟩ := row_last m c h0 h1 t ht a
  refine (congrFun (step_out m c t ht).2 (ix3 0 s a)).trans ?_
  refine (pay4 _ _ 0 s a).trans ?_
  have hpos := pw_pos c0 (Q m c (ph t.val (lt48 t))) (K m c (ph t.val (lt48 t))) (pa t.val a) M
  rw [hm, hl, log_coe hpos, lg_eq, ← EReal.coe_mul, ← EReal.coe_add]
  exact congrArg _ (pw_log c0 _ _ _ M (Attn.Ref.top (X0 m c) (X1 m c) (ph t.val (lt48 t)) (pa t.val a)))

end Cert.Fwd.Fold
-- ==== Proof.Fwd.Final.lean ====
/-
  The two output arrays of the forward pass after the run: the padded layout of the attention's output, and the base-two
  logarithms of its sums of exponentials.
-/
module

public import proofs.«01_k».proof.Proof.Fwd.Fold
public import proofs.«01_k».proof.Proof.Gen.Kernel2Ideal.Value

@[expose] public section

set_option maxRecDepth 16384

noncomputable section

namespace Cert.Fwd.Final

open Idealize.ShloMosaic Idealize.ShloMosaic.TcCoe Idealize.ShloMosaic.Tactic Cert.Kernel2Ideal Cert.Kernel2Ideal.Gen Cert.Attn Cert.Fwd
open Idealize.ShloMosaic.Pipeline (Dat)
open Cert.Fwd.Read Cert.Fwd.Fold

variable (m : (ℓ : Loc nD τ sig) → Buf (Elt Ideal) ℓ) (c : Dev nD)
variable (h0 : Finite (X0 m c)) (h1 : Finite (X1 m c))

/-- The logarithms, the same on each of a head's eight sublanes. -/
def lrows (i : S8x8x8192.Idx) : EReal := ((Ref.lse (X0 m c) (X1 m c) (i 0) (i 2) : ℝ) : EReal)

theorem lrows_of (h : Fin 8) (a : Fin 8192) (i : S8x8x8192.Idx) (eh : (i 0).val = h.val) (ea : (i 2).val = a.val) :
    lrows m c i = ((Ref.lse (X0 m c) (X1 m c) h a : ℝ) : EReal) := by
  unfold lrows
  rw [show (i 0 : Fin 8) = h from Fin.ext eh, show (i 2 : Fin 8192) = a from Fin.ext ea]

include h0 h1

/-- The output. -/
theorem o_final : (dats (F := Ideal) m 0 c).arrAt 3 cfg0.N = eslots (Ref.out (X0 m c) (X1 m c) (X2 m c)) := by
  refine (dats (F := Ideal) m 0 c).arrAt_eq_of_covers 3 _ (by decide +kernel) fun t hf y => ?_
  have ht := (flush0_3 t).mp hf
  obtain ⟨a, d, rfl⟩ : ∃ (a : Fin 4096) (d : Fin 128), y = ix2 a d := ⟨_, _, eq_ix2 (n0 := 4096) (n1 := 128) y⟩
  rw [eslots_of _ (ph t.val (lt48 t)) (pa t.val a) d _ (by blk_simp [e3 t]; show _ = 4096 * (t.val / 3 % 2) + a.val; omega)
    (by blk_simp [e3 t]; show _ = 128 * (t.val / 6) + d.val; omega)]
  refine Eq.trans ?_ (out_o m c h0 h1 t ht a d)
  blk_simp
  rw [after0_3]

/-- The logarithms. -/
theorem e_final : (dats (F := Ideal) m 0 c).arrAt 4 cfg0.N = lrows m c := by
  refine (dats (F := Ideal) m 0 c).arrAt_eq_of_covers 4 _ (by decide +kernel) fun t hf y => ?_
  have ht := (flush0_4 t).mp hf
  obtain ⟨z, s, a, rfl⟩ : ∃ (z : Fin 1) (s : Fin 8) (a : Fin 4096), y = ix3 z s a := ⟨_, _, _, eq_ix3 (n0 := 1) (n1 := 8) (n2 := 4096) y⟩
  obtain rfl : z = 0 := Subsingleton.elim _ _
  rw [lrows_of m c (ph t.val (lt48 t)) (pa t.val a) _ (by blk_simp [e4 t]; show _ = t.val / 6; omega)
    (by blk_simp [e4 t]; show _ = 4096 * (t.val / 3 % 2) + a.val; omega)]
  refine Eq.trans ?_ (out_e m c h0 h1 t ht s a)
  blk_simp
  rw [after0_4]

end Cert.Fwd.Final
-- ==== Proof.Fwd.Claims.lean ====
/-
  The forward pass's claims: the frames, the named constants, and the equality of the kernel's results with the
  reference's.
-/
module

public import proofs.«01_k».proof.Defs
public import proofs.«01_k».proof.Proof.Attn.Claims
public import proofs.«01_k».proof.Proof.Fwd.Final
public import proofs.«01_k».proof.Proof.Gen.Kernel2.Frame
public import proofs.«01_k».proof.Proof.Gen.Reference2Ideal.Run

@[expose] public section

set_option maxRecDepth 16384

noncomputable section

namespace Cert.Fwd.Claims

open Idealize.ShloMosaic Idealize.ShloMosaic.TcCoe Idealize.SL.Sem Cert.Attn Cert.Fwd
open Cert.Fwd.Read (X0 X1 X2)

/-! ## The precondition -/

theorem preFacts : Cert.Pre_finite_qk.Facts where
  bcast_S_S1x8192x8x96 := by decide
  reducesTo_S1x8192x8x96_S_d0_1_2_3 := by decide
  h_S_ := by decide
  bcast_S_S1x8448x8x96 := by decide
  reducesTo_S1x8448x8x96_S_d0_1_2_3 := by decide

/-- The precondition: neither the queries nor the keys hold an infinity. -/
theorem finite_of_pre [Cert.Pre_finite_qk.Facts] (x0 : Arr 8192 96) (x1 : Arr 8448 96) (x2 : Arr 8448 64)
    (h : Cert.Pre_finite_qk.fn (F := Ideal) x0 x1 x2 = fun _ => 1#1) : Finite x0 ∧ Finite x1 := by
  have h' := congrFun h fun k => k.elim0
  unfold Cert.Pre_finite_qk.fn at h'
  dsimp only at h'
  obtain ⟨e0, e1⟩ := IntOp.andi_eq_one.1 h'
  exact ⟨Attn.Claims.finite_of_all x0 _ _ _ _ e0, Attn.Claims.finite_of_all x1 _ _ _ _ e1⟩

/-! ## The frames -/

theorem frame_p : Cert.quiescent_Kernel2 := fun m g _ => Cert.Kernel2.Gen.frame m g
theorem frame_pi : Cert.quiescent_Kernel2Ideal := fun m g _ => Cert.Kernel2Ideal.Gen.frame m g
theorem frame_pi_pre [Cert.Pre_finite_qk.Facts] : Cert.quiescent_Kernel2Ideal_pre_finite_qk := fun m g _ => Cert.Kernel2Ideal.Gen.frame m g

theorem frame_ri : Cert.quiescent_Reference2Ideal := fun m g _ =>
  (θ_run Cert.Reference2Ideal.defs _ _).mono (fun r h => ⟨fun c => (h c).2.2, sem_eq_zero_of_no_sems (by decide) r.2⟩) (Cert.Reference2Ideal.Value.run (F := Ideal) m g)
theorem frame_ri_pre [Cert.Pre_finite_qk.Facts] : Cert.quiescent_Reference2Ideal_pre_finite_qk := fun m g _ => frame_ri m g trivial

/-! ## The named constants -/

theorem preserves : Cert.preserves_Kernel2_Kernel2Ideal := by
  unfold Cert.preserves_Kernel2_Kernel2Ideal
  exact ⟨IdealRules.named_const.statement _ _ _ _ _ rfl, IdealRules.named_const.statement _ _ _ _ _ rfl⟩

/-! ## The values -/

theorem algebraic [Cert.Pre_finite_qk.Facts] : Cert.algebraic_Kernel2Ideal_Reference2Ideal_pre_finite_qk := by
  intro m g m' g' hpre hagree
  have hf : ∀ c, Finite (X0 m c) ∧ Finite (X1 m c) := fun c => finite_of_pre _ _ _ (hpre c)
  refine ⟨_, _, (θ_run _ _ _).mono (fun r h => h) (Cert.Kernel2Ideal.Value.run_blocks (F := Ideal) m g), ?_⟩
  refine (θ_run _ _ _).mono (fun r h c => ?_) (Cert.Reference2Ideal.Value.run (F := Ideal) m' g')
  obtain ⟨a0, a1, a2⟩ := hagree c
  obtain ⟨f0, f1⟩ := hf c
  obtain ⟨r0, r1, k⟩ := h c
  refine ⟨?_, ?_, k⟩
  · rw [r0, Cert.Reference2Ideal.Read.val_main_v34_eq, a0, a1, a2, Final.o_final m c f0 f1]
    exact Fwd.Ref.out_eq f0 f1
  · rw [r1, Final.e_final m c f0 f1]
    refine (Cert.Reference2Ideal.Read.val_main_v37_eq _ _).trans ?_
    rw [a0, a1]
    funext i
    rw [eq_ix3 (n0 := 8) (n1 := 8) (n2 := 8192) i]
    exact Fwd.Ref.lse_eq f0 f1 _ _ _

end Cert.Fwd.Claims
-- ==== Proof.Products.Prod.lean ====
/-
  A matrix product and the two products of its gradient, as sums over the extended reals: of a cotangent and the transposed
  right factor, and of the transposed left factor and a cotangent.
-/
module

public import proofs.«01_k».proof.Proof.Fwd.Real
public import Idealize.ShloMosaic.Lib.Pointwise

@[expose] public section

noncomputable section

namespace Cert.Products

open Idealize.ShloMosaic

/-- The product `a b`. -/
def nn {n k d : ℕ} (a : (⟨2, ![n, k]⟩ : Shape).Idx → EReal) (b : (⟨2, ![k, d]⟩ : Shape).Idx → EReal) : (⟨2, ![n, d]⟩ : Shape).Idx → EReal :=
  fun y => ∑ r : Fin k, a (ix2 (y 0) r) * b (ix2 r (y 1))

/-- The product `a bᵀ`. -/
def nt {n k d : ℕ} (a : (⟨2, ![n, k]⟩ : Shape).Idx → EReal) (b : (⟨2, ![d, k]⟩ : Shape).Idx → EReal) : (⟨2, ![n, d]⟩ : Shape).Idx → EReal :=
  fun y => ∑ r : Fin k, a (ix2 (y 0) r) * b (ix2 (y 1) r)

/-- The product `aᵀ b`. -/
def tn {k n d : ℕ} (a : (⟨2, ![k, n]⟩ : Shape).Idx → EReal) (b : (⟨2, ![k, d]⟩ : Shape).Idx → EReal) : (⟨2, ![n, d]⟩ : Shape).Idx → EReal :=
  fun y => ∑ r : Fin k, a (ix2 r (y 0)) * b (ix2 r (y 1))

theorem nn_of {n k d : ℕ} (a : (⟨2, ![n, k]⟩ : Shape).Idx → EReal) (b : (⟨2, ![k, d]⟩ : Shape).Idx → EReal) (p : Fin n) (q : Fin d)
    (i : (⟨2, ![n, d]⟩ : Shape).Idx) (ep : (i 0).val = p.val) (eq : (i 1).val = q.val) : nn a b i = ∑ r : Fin k, a (ix2 p r) * b (ix2 r q) := by
  unfold nn
  rw [show i 0 = p from Fin.ext ep, show i 1 = q from Fin.ext eq]

theorem nt_of {n k d : ℕ} (a : (⟨2, ![n, k]⟩ : Shape).Idx → EReal) (b : (⟨2, ![d, k]⟩ : Shape).Idx → EReal) (p : Fin n) (q : Fin d)
    (i : (⟨2, ![n, d]⟩ : Shape).Idx) (ep : (i 0).val = p.val) (eq : (i 1).val = q.val) : nt a b i = ∑ r : Fin k, a (ix2 p r) * b (ix2 q r) := by
  unfold nt
  rw [show i 0 = p from Fin.ext ep, show i 1 = q from Fin.ext eq]

theorem tn_of {k n d : ℕ} (a : (⟨2, ![k, n]⟩ : Shape).Idx → EReal) (b : (⟨2, ![k, d]⟩ : Shape).Idx → EReal) (p : Fin n) (q : Fin d)
    (i : (⟨2, ![n, d]⟩ : Shape).Idx) (ep : (i 0).val = p.val) (eq : (i 1).val = q.val) : tn a b i = ∑ r : Fin k, a (ix2 r p) * b (ix2 r q) := by
  unfold tn
  rw [show i 0 = p from Fin.ext ep, show i 1 = q from Fin.ext eq]

end Cert.Products
-- ==== Proof.Products.UpDx.lean ====
/-
  The gradient of the feed-forward's first product's left factor: each grid point's block is the product of a block of 512 rows of the
  cotangent and a block of 1024 rows of the weights, over all 5632 columns at once.
-/
module

public import proofs.«01_k».proof.Defs
public import proofs.«01_k».proof.Proof.Products.Prod
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import Idealize.ShloMosaic.Lib.StableHlo.RunRead
public import Idealize.ShloMosaic.Lib.Pipeline.ValueKit

@[expose] public section

set_option maxRecDepth 16384

noncomputable section

namespace Cert.Products.UpDx

open Idealize.ShloMosaic Idealize.ShloMosaic.TcCoe Idealize.ShloMosaic.Tactic Idealize.SL.Sem Cert.Kernel3Ideal Cert.Kernel3Ideal.Gen Cert.Products
open Idealize.ShloMosaic.StableHlo
open Idealize.ShloMosaic.Pipeline (Dat)

variable (m : (ℓ : Loc nD τ sig) → Buf (Elt Ideal) ℓ) (c : Dev nD)

/-- The weights and the cotangent a device holds. -/
abbrev X1 : S1024x5632.Idx → EReal := m ((c : Thread nD τ).loc main_arg1)
abbrev X2 : S8192x5632.Idx → EReal := m ((c : Thread nD τ).loc main_arg2)

/-! ## One block -/

theorem whole2 : (![0, 0] : Fin 2 → ℕ) = fun _ => 0 := by
  funext a
  match a with
  | ⟨0, _⟩ => rfl
  | ⟨1, _⟩ => rfl

theorem pay (x : Vec Ideal S512x5632 .bf16) (y : Vec Ideal S1024x5632 .bf16) (a : Fin 512) (e : Fin 1024) :
    k0_pay1 (F := Ideal) x y (ix2 a e) = ∑ r : Fin 5632, x (ix2 a r) * y (ix2 e r) := by
  pointwise [k0_pay1]

theorem out_eq (x : Vec Ideal S512x5632 .bf16) (y : Vec Ideal S1024x5632 .bf16) : out0_2 (F := Ideal) x y = k0_pay1 (F := Ideal) x y := by
  unfold out0_2 r0_0 r0_1 r0_2
  rw [View.canon_cons_unit_zero whole2, View.ld_unit_zero (S := S512x5632) whole2, View.ld_unit_zero (S := S1024x5632) whole2]

/-! ## The arrays the blocks are cut from, and where the blocks lie -/

theorem ct_eq : V (F := Ideal) m c main_v0 = X2 m c := by
  unfold V
  after_reads_simp
  rfl

theorem w_eq : V (F := Ideal) m c main_v1 = X1 m c := by
  unfold V
  after_reads_simp
  rfl

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

theorem lt_N (t : Fin cfg0.N) : t.val < 16 := lt_of_lt_of_eq t.isLt N_0

/-- A row and a column of a point's block, in the whole product. -/
def pa (t : Fin cfg0.N) (a : Fin 512) : Fin 8192 := ⟨512 * (t.val) + a.val, by have := lt_N t; omega⟩
def pe (t : Fin cfg0.N) (e : Fin 1024) : Fin 1024 := ⟨1024 * (0) + e.val, by have := lt_N t; omega⟩

variable (t : Fin cfg0.N)

theorem ct_blk (a : Fin 512) (r : Fin 5632) : iblk m c 0 t (ix2 a r) = X2 m c (ix2 (pa t a) r) := by
  rw [← ct_eq m c]
  blk_ext [iblk, e0 t, pa]

theorem w_blk (e : Fin 1024) (r : Fin 5632) : iblk m c 1 t (ix2 e r) = X1 m c (ix2 (pe t e) r) := by
  rw [← w_eq m c]
  blk_ext [iblk, e1 t, pe]

/-! ## The result -/

theorem final : (dats (F := Ideal) m 0 c).arrAt 2 cfg0.N = nt (X2 m c) (X1 m c) := by
  refine (dats (F := Ideal) m 0 c).arrAt_eq_of_covers 2 _ (by decide +kernel) fun t hf y => ?_
  obtain ⟨a, e, rfl⟩ : ∃ (a : Fin 512) (e : Fin 1024), y = ix2 a e := ⟨_, _, eq_ix2 (n0 := 512) (n1 := 1024) y⟩
  rw [nt_of (X2 m c) (X1 m c) (pa t a) (pe t e) _ (by blk_simp [e2 t]; show _ = 512 * (t.val) + a.val; omega)
    (by blk_simp [e2 t]; show _ = 1024 * (0) + e.val; omega)]
  refine Eq.trans ?_ ((pay (iblk m c 0 t) (iblk m c 1 t) a e).trans (Finset.sum_congr rfl fun r _ => congrArg₂ (· * ·) (ct_blk m c t a r) (w_blk m c t e r)))
  rw [← out_eq]
  blk_simp
  rw [after0_2]

theorem frame_p : Cert.quiescent_Kernel3 := fun m g _ => Cert.Kernel3.Gen.frame m g
theorem frame_pi : Cert.quiescent_Kernel3Ideal := fun m g _ => Cert.Kernel3Ideal.Gen.frame m g
theorem frame_ri : Cert.quiescent_Reference3Ideal := fun m g _ =>
  (θ_run Cert.Reference3Ideal.defs _ _).mono (fun r h => ⟨fun c => (h c).2, sem_eq_zero_of_no_sems (by decide) r.2⟩) (Cert.Reference3Ideal.Value.run (F := Ideal) m g)
theorem preserves : Cert.preserves_Kernel3_Kernel3Ideal := trivial

theorem algebraic : Cert.algebraic_Kernel3Ideal_Reference3Ideal := by
  intro m g m' g' _ hagree
  refine ⟨_, (θ_run _ _ _).mono (fun r h => h) (Cert.Kernel3Ideal.Value.run_blocks (F := Ideal) m g), ?_⟩
  refine (θ_run _ _ _).mono (fun r h c => ?_) (Cert.Reference3Ideal.Value.run (F := Ideal) m' g')
  obtain ⟨_, a1, a2⟩ := hagree c
  refine ⟨?_, (h c).2⟩
  rw [(h c).1, final m c, Cert.Reference3Ideal.Read.val_main_v3_eq, a1, a2]
  funext i
  rw [Cert.Reference3Ideal.Read.val_main_v3_apply]
  refine Finset.sum_congr rfl fun r _ => congrArg₂ (· * ·) (congrArg _ ?_) (congrArg _ ?_) <;>
    exact funext fun b => match b with
      | ⟨0, _⟩ => rfl
      | ⟨1, _⟩ => rfl

end Cert.Products.UpDx

end
-- ==== Proof.Products.UpDw.lean ====
/-
  The gradient of the feed-forward's first weights: 4 grid points follow each other on a block of 1024 by 1408 of the
  result; each adds the product over 2048 of the 8192 rows to what the one before left.
-/
module

public import proofs.«01_k».proof.Defs
public import proofs.«01_k».proof.Proof.Products.Prod
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Lib.StableHlo.RunRead
public import Idealize.ShloMosaic.Lib.Pipeline.ValueKit

@[expose] public section

set_option maxRecDepth 16384

noncomputable section

namespace Cert.Products.UpDw

open Idealize.ShloMosaic Idealize.ShloMosaic.TcCoe Idealize.ShloMosaic.Tactic Idealize.SL.Sem Cert.Kernel4Ideal Cert.Kernel4Ideal.Gen Cert.Products Cert.Fwd
open Idealize.ShloMosaic.StableHlo
open Idealize.ShloMosaic.Pipeline (Dat)

/-! ## One block -/

section Body

variable (c : Dev nD) (i : grid0.Coords) (arg3 : Memref sig .tc .vmem S2048x1024 .bf16) (harg3 : arg3.IsWhole)
  (arg4 : Memref sig .tc .vmem S2048x1408 .bf16) (harg4 : arg4.IsWhole) (arg5 : Memref sig .tc .vmem S1024x1408 .f32) (harg5 : arg5.IsWhole)
  (x : Vec Ideal S2048x1024 .bf16) (y : Vec Ideal S2048x1408 .bf16) (o : Vec Ideal S1024x1408 .f32)

theorem whole2 : (![0, 0] : Fin 2 → ℕ) = fun _ => 0 := by
  funext a
  match a with
  | ⟨0, _⟩ => rfl
  | ⟨1, _⟩ => rfl

theorem pay (a : Fin 1024) (e : Fin 1408) : k0_pay1 (F := Ideal) x y (ix2 a e) = ∑ r : Fin 2048, x (ix2 r a) * y (ix2 r e) := by
  pointwise [k0_pay1]

theorem pay' (a : Fin 1024) (e : Fin 1408) : k0_pay2 (F := Ideal) x y o (ix2 a e) = o (ix2 a e) + ∑ r : Fin 2048, x (ix2 r a) * y (ix2 r e) := by
  rw [← pay]
  pointwise [k0_pay2]

theorem out_A (hc0 : cond0_0 i) (hc1 : ¬cond0_1 i) : out0_A_2 c i arg3 harg3 arg4 harg4 arg5 harg5 hc0 hc1 x y = k0_pay1 (F := Ideal) x y := by
  unfold out0_A_2
  rw [View.read_writes_junk_eq_canon]
  unfold kernelRun0_A
  dsimp only
  sl_unfold_words
  simp only [View.readAt_eq_ld, Memref.IsWhole.read_unread, View.ld_unit_zero (S := S2048x1024) whole2, View.ld_unit_zero (S := S2048x1408) whole2]
  rw [View.canon_cons_unit_zero whole2]

theorem out_B (hc0 : ¬cond0_0 i) (hc1 : cond0_1 i) : out0_B_2 c i arg3 harg3 arg4 harg4 arg5 harg5 hc0 hc1 x y o = k0_pay2 (F := Ideal) x y o := by
  unfold out0_B_2
  rw [View.read_writes_junk_eq_canon]
  unfold kernelRun0_B
  dsimp only
  sl_unfold_words
  simp only [View.readAt_eq_ld, Memref.IsWhole.read_unread, View.ld_unit_zero (S := S2048x1024) whole2, View.ld_unit_zero (S := S2048x1408) whole2,
    View.ld_unit_zero (S := S1024x1408) whole2]
  rw [View.canon_cons_unit_zero whole2]

end Body

variable (m : (ℓ : Loc nD τ sig) → Buf (Elt Ideal) ℓ) (c : Dev nD)

/-- The left factor and the cotangent a device holds. -/
abbrev X0 : S8192x1024.Idx → EReal := m ((c : Thread nD τ).loc main_arg0)
abbrev X2 : S8192x5632.Idx → EReal := m ((c : Thread nD τ).loc main_arg2)

/-! ## The arrays the blocks are cut from, and where the blocks lie -/

theorem h_eq : V (F := Ideal) m c main_v0 = X0 m c := by
  unfold V
  after_reads_simp
  rfl

theorem ct_eq : V (F := Ideal) m c main_v1 = X2 m c := by
  unfold V
  after_reads_simp
  rfl

theorem e0 : ∀ t : Fin cfg0.N, win0_0.index t = ![t.val % 4, 0] := (by decide +kernel : ∀ t : Fin grid0.N, _)
theorem e1 : ∀ t : Fin cfg0.N, win0_1.index t = ![t.val % 4, t.val / 4] := (by decide +kernel : ∀ t : Fin grid0.N, _)
theorem e2 : ∀ t : Fin cfg0.N, win0_2.index t = ![0, t.val / 4] := (by decide +kernel : ∀ t : Fin grid0.N, _)

theorem lt_N (t : Fin cfg0.N) : t.val < 16 := lt_of_lt_of_eq t.isLt N_0

/-- A row and a column of a point's block, in the whole product; a row of its factors. -/
def pa (t : Fin cfg0.N) (a : Fin 1024) : Fin 1024 := ⟨1024 * (0) + a.val, by have := lt_N t; omega⟩
def pe (t : Fin cfg0.N) (e : Fin 1408) : Fin 5632 := ⟨1408 * (t.val / 4) + e.val, by have := lt_N t; omega⟩
def pr (t : Fin cfg0.N) (r : Fin 2048) : Fin 8192 := ⟨2048 * (t.val % 4) + r.val, by omega⟩

section Blocks

variable (t : Fin cfg0.N)

/-- The blocks a point reads. -/
abbrev bh : Vec Ideal S2048x1024 .bf16 := iblk m c 0 t
abbrev bct : Vec Ideal S2048x1408 .bf16 := iblk m c 1 t

theorem h_blk (r : Fin 2048) (a : Fin 1024) : bh m c t (ix2 r a) = X0 m c (ix2 (pr t r) (pa t a)) := by
  rw [← h_eq m c]
  blk_ext [iblk, e0 t, pa, pr]

theorem ct_blk (r : Fin 2048) (e : Fin 1408) : bct m c t (ix2 r e) = X2 m c (ix2 (pr t r) (pe t e)) := by
  rw [← ct_eq m c]
  blk_ext [iblk, e1 t, pe, pr]

end Blocks

/-! ## The sum along the grid -/

theorem prev_lt (t : Fin cfg0.N) : t.val - 1 < cfg0.N := Nat.lt_of_le_of_lt (Nat.sub_le _ _) t.isLt

/-- The terms of one element of a point's block. -/
abbrev term (t : Fin cfg0.N) (a : Fin 1024) (e : Fin 1408) (r : Fin 8192) : EReal := X0 m c (ix2 r (pa t a)) * X2 m c (ix2 r (pe t e))

theorem term_pred (t : Fin cfg0.N) (h : ¬t.val % 4 = 0) (a : Fin 1024) (e : Fin 1408) : term m c ⟨t.val - 1, prev_lt t⟩ a e = term m c t a e := by
  have hN := lt_N t
  funext r
  unfold term
  rw [show pa ⟨t.val - 1, prev_lt t⟩ a = pa t a from Fin.ext rfl,
    show pe ⟨t.val - 1, prev_lt t⟩ e = pe t e from Fin.ext (by unfold pe; dsimp only; omega)]

/-- A point adds its rows' terms. -/
theorem add_rows (t : Fin cfg0.N) (a : Fin 1024) (e : Fin 1408) : cum (2048 * (t.val % 4) + 2048) (term m c t a e)
    = cum (2048 * (t.val % 4)) (term m c t a e) + ∑ r : Fin 2048, bh m c t (ix2 r a) * bct m c t (ix2 r e) := by
  rw [cum_add _ _ _ (by omega)]
  refine congrArg _ (Finset.sum_congr rfl fun r _ => ?_)
  rw [h_blk, ct_blk]
  rfl

/-- After a point the block holds the sums over the rows done so far. -/
theorem sum_at (n : ℕ) : ∀ (hn : n < cfg0.N) (a : Fin 1024) (e : Fin 1408),
    outsAt0 m c n hn (ix2 a e) = cum (2048 * (n % 4) + 2048) (term m c ⟨n, hn⟩ a e) := by
  induction n using Nat.strong_induction_on with
  | _ n ih =>
    intro hn a e
    rw [add_rows m c ⟨n, hn⟩ a e]
    by_cases h0 : n % 4 = 0
    · refine (congrFun (outsAt0_A m c ⟨n, hn⟩ h0 (by show ¬1 ≤ n % 4; omega)) (ix2 a e)).trans ?_
      rw [out_A, pay]
      show _ = cum (2048 * (n % 4)) _ + _
      rw [h0, mul_zero, cum_zero, zero_add]
    · refine (congrFun (outsAt0_B m c ⟨n, hn⟩ h0 (by show 1 ≤ n % 4; omega)) (ix2 a e)).trans ?_
      rw [out_B, pay']
      refine congrArg (· + _) ?_
      refine (ih (n - 1) (by omega) (prev_lt ⟨n, hn⟩) a e).trans ?_
      rw [term_pred m c ⟨n, hn⟩ h0 a e, show 2048 * ((n - 1) % 4) + 2048 = 2048 * (n % 4) by omega]

/-! ## The result -/

theorem final : (dats (F := Ideal) m 0 c).arrAt 2 cfg0.N = tn (X0 m c) (X2 m c) := by
  refine (dats (F := Ideal) m 0 c).arrAt_eq_of_covers 2 _ (by decide +kernel) fun t hf y => ?_
  have ht := (flush0_2 t).mp hf
  obtain ⟨a, e, rfl⟩ : ∃ (a : Fin 1024) (e : Fin 1408), y = ix2 a e := ⟨_, _, eq_ix2 (n0 := 1024) (n1 := 1408) y⟩
  rw [tn_of (X0 m c) (X2 m c) (pa t a) (pe t e) _ (by blk_simp [e2 t]; show _ = 1024 * (0) + a.val; omega)
    (by blk_simp [e2 t]; show _ = 1408 * (t.val / 4) + e.val; omega)]
  have hs := sum_at m c t.val t.isLt a e
  rw [ht, show 2048 * 3 + 2048 = 8192 from rfl, cum_all] at hs
  refine Eq.trans ?_ hs
  blk_simp
  rw [after0_2]

theorem frame_p : Cert.quiescent_Kernel4 := fun m g _ => Cert.Kernel4.Gen.frame m g
theorem frame_pi : Cert.quiescent_Kernel4Ideal := fun m g _ => Cert.Kernel4Ideal.Gen.frame m g
theorem frame_ri : Cert.quiescent_Reference4Ideal := fun m g _ =>
  (θ_run Cert.Reference4Ideal.defs _ _).mono (fun r h => ⟨fun c => (h c).2, sem_eq_zero_of_no_sems (by decide) r.2⟩) (Cert.Reference4Ideal.Value.run (F := Ideal) m g)
theorem preserves : Cert.preserves_Kernel4_Kernel4Ideal := trivial

theorem algebraic : Cert.algebraic_Kernel4Ideal_Reference4Ideal := by
  intro m g m' g' _ hagree
  refine ⟨_, (θ_run _ _ _).mono (fun r h => h) (Cert.Kernel4Ideal.Value.run_blocks (F := Ideal) m g), ?_⟩
  refine (θ_run _ _ _).mono (fun r h c => ?_) (Cert.Reference4Ideal.Value.run (F := Ideal) m' g')
  obtain ⟨a0, _, a2⟩ := hagree c
  refine ⟨?_, (h c).2⟩
  rw [(h c).1, final m c, Cert.Reference4Ideal.Read.val_main_v2_eq, a0, a2]
  funext i
  rw [Cert.Reference4Ideal.Read.val_main_v2_apply, Cert.Reference4Ideal.Read.val_main_v1_apply]
  refine Finset.sum_congr rfl fun r _ => (mul_comm _ _).trans (congrArg₂ (· * ·) (congrArg _ ?_) (congrArg _ ?_)) <;>
    exact funext fun b => match b with
      | ⟨0, _⟩ => rfl
      | ⟨1, _⟩ => rfl

end Cert.Products.UpDw

end
-- ==== Proof.Products.DownDx.lean ====
/-
  The gradient of the feed-forward's second product's left factor: each grid point's block is the product of a block of 1024 rows of the
  cotangent and a block of 1408 rows of the weights, over all 1024 columns at once.
-/
module

public import proofs.«01_k».proof.Defs
public import proofs.«01_k».proof.Proof.Products.Prod
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import Idealize.ShloMosaic.Lib.StableHlo.RunRead
public import Idealize.ShloMosaic.Lib.Pipeline.ValueKit

@[expose] public section

set_option maxRecDepth 16384

noncomputable section

namespace Cert.Products.DownDx

open Idealize.ShloMosaic Idealize.ShloMosaic.TcCoe Idealize.ShloMosaic.Tactic Idealize.SL.Sem Cert.Kernel5Ideal Cert.Kernel5Ideal.Gen Cert.Products
open Idealize.ShloMosaic.StableHlo
open Idealize.ShloMosaic.Pipeline (Dat)

variable (m : (ℓ : Loc nD τ sig) → Buf (Elt Ideal) ℓ) (c : Dev nD)

/-- The weights and the cotangent a device holds. -/
abbrev X1 : S2816x1024.Idx → EReal := m ((c : Thread nD τ).loc main_arg1)
abbrev X2 : S8192x1024.Idx → EReal := m ((c : Thread nD τ).loc main_arg2)

/-! ## One block -/

theorem whole2 : (![0, 0] : Fin 2 → ℕ) = fun _ => 0 := by
  funext a
  match a with
  | ⟨0, _⟩ => rfl
  | ⟨1, _⟩ => rfl

theorem pay (x : Vec Ideal S1024x1024 .bf16) (y : Vec Ideal S1408x1024 .bf16) (a : Fin 1024) (e : Fin 1408) :
    k0_pay1 (F := Ideal) x y (ix2 a e) = ∑ r : Fin 1024, x (ix2 a r) * y (ix2 e r) := by
  pointwise [k0_pay1]

theorem out_eq (x : Vec Ideal S1024x1024 .bf16) (y : Vec Ideal S1408x1024 .bf16) : out0_2 (F := Ideal) x y = k0_pay1 (F := Ideal) x y := by
  unfold out0_2 r0_0 r0_1 r0_2
  rw [View.canon_cons_unit_zero whole2, View.ld_unit_zero (S := S1024x1024) whole2, View.ld_unit_zero (S := S1408x1024) whole2]

/-! ## The arrays the blocks are cut from, and where the blocks lie -/

theorem ct_eq : V (F := Ideal) m c main_v0 = X2 m c := by
  unfold V
  after_reads_simp
  rfl

theorem w_eq : V (F := Ideal) m c main_v1 = X1 m c := by
  unfold V
  after_reads_simp
  rfl

theorem e0 : ∀ t : Fin cfg0.N, win0_0.index t = ![t.val / 2, 0] := (by decide +kernel : ∀ t : Fin grid0.N, _)
theorem e1 : ∀ t : Fin cfg0.N, win0_1.index t = ![t.val % 2, 0] := (by decide +kernel : ∀ t : Fin grid0.N, _)
theorem e2 : ∀ t : Fin cfg0.N, win0_2.index t = ![t.val / 2, t.val % 2] := (by decide +kernel : ∀ t : Fin grid0.N, _)

theorem lt_N (t : Fin cfg0.N) : t.val < 16 := lt_of_lt_of_eq t.isLt N_0

/-- A row and a column of a point's block, in the whole product. -/
def pa (t : Fin cfg0.N) (a : Fin 1024) : Fin 8192 := ⟨1024 * (t.val / 2) + a.val, by have := lt_N t; omega⟩
def pe (t : Fin cfg0.N) (e : Fin 1408) : Fin 2816 := ⟨1408 * (t.val % 2) + e.val, by have := lt_N t; omega⟩

variable (t : Fin cfg0.N)

theorem ct_blk (a : Fin 1024) (r : Fin 1024) : iblk m c 0 t (ix2 a r) = X2 m c (ix2 (pa t a) r) := by
  rw [← ct_eq m c]
  blk_ext [iblk, e0 t, pa]

theorem w_blk (e : Fin 1408) (r : Fin 1024) : iblk m c 1 t (ix2 e r) = X1 m c (ix2 (pe t e) r) := by
  rw [← w_eq m c]
  blk_ext [iblk, e1 t, pe]

/-! ## The result -/

theorem final : (dats (F := Ideal) m 0 c).arrAt 2 cfg0.N = nt (X2 m c) (X1 m c) := by
  refine (dats (F := Ideal) m 0 c).arrAt_eq_of_covers 2 _ (by decide +kernel) fun t hf y => ?_
  obtain ⟨a, e, rfl⟩ : ∃ (a : Fin 1024) (e : Fin 1408), y = ix2 a e := ⟨_, _, eq_ix2 (n0 := 1024) (n1 := 1408) y⟩
  rw [nt_of (X2 m c) (X1 m c) (pa t a) (pe t e) _ (by blk_simp [e2 t]; show _ = 1024 * (t.val / 2) + a.val; omega)
    (by blk_simp [e2 t]; show _ = 1408 * (t.val % 2) + e.val; omega)]
  refine Eq.trans ?_ ((pay (iblk m c 0 t) (iblk m c 1 t) a e).trans (Finset.sum_congr rfl fun r _ => congrArg₂ (· * ·) (ct_blk m c t a r) (w_blk m c t e r)))
  rw [← out_eq]
  blk_simp
  rw [after0_2]

theorem frame_p : Cert.quiescent_Kernel5 := fun m g _ => Cert.Kernel5.Gen.frame m g
theorem frame_pi : Cert.quiescent_Kernel5Ideal := fun m g _ => Cert.Kernel5Ideal.Gen.frame m g
theorem frame_ri : Cert.quiescent_Reference5Ideal := fun m g _ =>
  (θ_run Cert.Reference5Ideal.defs _ _).mono (fun r h => ⟨fun c => (h c).2, sem_eq_zero_of_no_sems (by decide) r.2⟩) (Cert.Reference5Ideal.Value.run (F := Ideal) m g)
theorem preserves : Cert.preserves_Kernel5_Kernel5Ideal := trivial

theorem algebraic : Cert.algebraic_Kernel5Ideal_Reference5Ideal := by
  intro m g m' g' _ hagree
  refine ⟨_, (θ_run _ _ _).mono (fun r h => h) (Cert.Kernel5Ideal.Value.run_blocks (F := Ideal) m g), ?_⟩
  refine (θ_run _ _ _).mono (fun r h c => ?_) (Cert.Reference5Ideal.Value.run (F := Ideal) m' g')
  obtain ⟨_, a1, a2⟩ := hagree c
  refine ⟨?_, (h c).2⟩
  rw [(h c).1, final m c, Cert.Reference5Ideal.Read.val_main_v3_eq, a1, a2]
  funext i
  rw [Cert.Reference5Ideal.Read.val_main_v3_apply]
  refine Finset.sum_congr rfl fun r _ => congrArg₂ (· * ·) (congrArg _ ?_) (congrArg _ ?_) <;>
    exact funext fun b => match b with
      | ⟨0, _⟩ => rfl
      | ⟨1, _⟩ => rfl

end Cert.Products.DownDx

end
-- ==== Proof.Products.DownDw.lean ====
/-
  The gradient of the feed-forward's second weights: 4 grid points follow each other on a block of 1408 by 1024 of the
  result; each adds the product over 2048 of the 8192 rows to what the one before left.
-/
module

public import proofs.«01_k».proof.Defs
public import proofs.«01_k».proof.Proof.Products.Prod
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import Idealize.ShloMosaic.Lib.StableHlo.RunRead
public import Idealize.ShloMosaic.Lib.Pipeline.ValueKit

@[expose] public section

set_option maxRecDepth 16384

noncomputable section

namespace Cert.Products.DownDw

open Idealize.ShloMosaic Idealize.ShloMosaic.TcCoe Idealize.ShloMosaic.Tactic Idealize.SL.Sem Cert.Kernel6Ideal Cert.Kernel6Ideal.Gen Cert.Products Cert.Fwd
open Idealize.ShloMosaic.StableHlo
open Idealize.ShloMosaic.Pipeline (Dat)

/-! ## One block -/

section Body

variable (c : Dev nD) (i : grid0.Coords) (arg3 : Memref sig .tc .vmem S2048x1408 .bf16) (harg3 : arg3.IsWhole)
  (arg4 : Memref sig .tc .vmem S2048x1024 .bf16) (harg4 : arg4.IsWhole) (arg5 : Memref sig .tc .vmem S1408x1024 .f32) (harg5 : arg5.IsWhole)
  (x : Vec Ideal S2048x1408 .bf16) (y : Vec Ideal S2048x1024 .bf16) (o : Vec Ideal S1408x1024 .f32)

theorem whole2 : (![0, 0] : Fin 2 → ℕ) = fun _ => 0 := by
  funext a
  match a with
  | ⟨0, _⟩ => rfl
  | ⟨1, _⟩ => rfl

theorem pay (a : Fin 1408) (e : Fin 1024) : k0_pay1 (F := Ideal) x y (ix2 a e) = ∑ r : Fin 2048, x (ix2 r a) * y (ix2 r e) := by
  pointwise [k0_pay1]

theorem pay' (a : Fin 1408) (e : Fin 1024) : k0_pay2 (F := Ideal) x y o (ix2 a e) = o (ix2 a e) + ∑ r : Fin 2048, x (ix2 r a) * y (ix2 r e) := by
  rw [← pay]
  pointwise [k0_pay2]

theorem out_A (hc0 : cond0_0 i) (hc1 : ¬cond0_1 i) : out0_A_2 c i arg3 harg3 arg4 harg4 arg5 harg5 hc0 hc1 x y = k0_pay1 (F := Ideal) x y := by
  unfold out0_A_2
  rw [View.read_writes_junk_eq_canon]
  unfold kernelRun0_A
  dsimp only
  sl_unfold_words
  simp only [View.readAt_eq_ld, Memref.IsWhole.read_unread, View.ld_unit_zero (S := S2048x1408) whole2, View.ld_unit_zero (S := S2048x1024) whole2]
  rw [View.canon_cons_unit_zero whole2]

theorem out_B (hc0 : ¬cond0_0 i) (hc1 : cond0_1 i) : out0_B_2 c i arg3 harg3 arg4 harg4 arg5 harg5 hc0 hc1 x y o = k0_pay2 (F := Ideal) x y o := by
  unfold out0_B_2
  rw [View.read_writes_junk_eq_canon]
  unfold kernelRun0_B
  dsimp only
  sl_unfold_words
  simp only [View.readAt_eq_ld, Memref.IsWhole.read_unread, View.ld_unit_zero (S := S2048x1408) whole2, View.ld_unit_zero (S := S2048x1024) whole2,
    View.ld_unit_zero (S := S1408x1024) whole2]
  rw [View.canon_cons_unit_zero whole2]

end Body

variable (m : (ℓ : Loc nD τ sig) → Buf (Elt Ideal) ℓ) (c : Dev nD)

/-- The left factor and the cotangent a device holds. -/
abbrev X0 : S8192x2816.Idx → EReal := m ((c : Thread nD τ).loc main_arg0)
abbrev X2 : S8192x1024.Idx → EReal := m ((c : Thread nD τ).loc main_arg2)

/-! ## The arrays the blocks are cut from, and where the blocks lie -/

theorem h_eq : V (F := Ideal) m c main_v0 = X0 m c := by
  unfold V
  after_reads_simp
  rfl

theorem ct_eq : V (F := Ideal) m c main_v1 = X2 m c := by
  unfold V
  after_reads_simp
  rfl

theorem e0 : ∀ t : Fin cfg0.N, win0_0.index t = ![t.val % 4, t.val / 4] := (by decide +kernel : ∀ t : Fin grid0.N, _)
theorem e1 : ∀ t : Fin cfg0.N, win0_1.index t = ![t.val % 4, 0] := (by decide +kernel : ∀ t : Fin grid0.N, _)
theorem e2 : ∀ t : Fin cfg0.N, win0_2.index t = ![t.val / 4, 0] := (by decide +kernel : ∀ t : Fin grid0.N, _)

theorem lt_N (t : Fin cfg0.N) : t.val < 8 := lt_of_lt_of_eq t.isLt N_0

/-- A row and a column of a point's block, in the whole product; a row of its factors. -/
def pa (t : Fin cfg0.N) (a : Fin 1408) : Fin 2816 := ⟨1408 * (t.val / 4) + a.val, by have := lt_N t; omega⟩
def pe (t : Fin cfg0.N) (e : Fin 1024) : Fin 1024 := ⟨1024 * (0) + e.val, by have := lt_N t; omega⟩
def pr (t : Fin cfg0.N) (r : Fin 2048) : Fin 8192 := ⟨2048 * (t.val % 4) + r.val, by omega⟩

section Blocks

variable (t : Fin cfg0.N)

/-- The blocks a point reads. -/
abbrev bh : Vec Ideal S2048x1408 .bf16 := iblk m c 0 t
abbrev bct : Vec Ideal S2048x1024 .bf16 := iblk m c 1 t

theorem h_blk (r : Fin 2048) (a : Fin 1408) : bh m c t (ix2 r a) = X0 m c (ix2 (pr t r) (pa t a)) := by
  rw [← h_eq m c]
  blk_ext [iblk, e0 t, pa, pr]

theorem ct_blk (r : Fin 2048) (e : Fin 1024) : bct m c t (ix2 r e) = X2 m c (ix2 (pr t r) (pe t e)) := by
  rw [← ct_eq m c]
  blk_ext [iblk, e1 t, pe, pr]

end Blocks

/-! ## The sum along the grid -/

theorem prev_lt (t : Fin cfg0.N) : t.val - 1 < cfg0.N := Nat.lt_of_le_of_lt (Nat.sub_le _ _) t.isLt

/-- The terms of one element of a point's block. -/
abbrev term (t : Fin cfg0.N) (a : Fin 1408) (e : Fin 1024) (r : Fin 8192) : EReal := X0 m c (ix2 r (pa t a)) * X2 m c (ix2 r (pe t e))

theorem term_pred (t : Fin cfg0.N) (h : ¬t.val % 4 = 0) (a : Fin 1408) (e : Fin 1024) : term m c ⟨t.val - 1, prev_lt t⟩ a e = term m c t a e := by
  have hN := lt_N t
  funext r
  unfold term
  rw [show pa ⟨t.val - 1, prev_lt t⟩ a = pa t a from Fin.ext (by unfold pa; dsimp only; omega),
    show pe ⟨t.val - 1, prev_lt t⟩ e = pe t e from Fin.ext rfl]

/-- A point adds its rows' terms. -/
theorem add_rows (t : Fin cfg0.N) (a : Fin 1408) (e : Fin 1024) : cum (2048 * (t.val % 4) + 2048) (term m c t a e)
    = cum (2048 * (t.val % 4)) (term m c t a e) + ∑ r : Fin 2048, bh m c t (ix2 r a) * bct m c t (ix2 r e) := by
  rw [cum_add _ _ _ (by omega)]
  refine congrArg _ (Finset.sum_congr rfl fun r _ => ?_)
  rw [h_blk, ct_blk]
  rfl

/-- After a point the block holds the sums over the rows done so far. -/
theorem sum_at (n : ℕ) : ∀ (hn : n < cfg0.N) (a : Fin 1408) (e : Fin 1024),
    outsAt0 m c n hn (ix2 a e) = cum (2048 * (n % 4) + 2048) (term m c ⟨n, hn⟩ a e) := by
  induction n using Nat.strong_induction_on with
  | _ n ih =>
    intro hn a e
    rw [add_rows m c ⟨n, hn⟩ a e]
    by_cases h0 : n % 4 = 0
    · refine (congrFun (outsAt0_A m c ⟨n, hn⟩ h0 (by show ¬1 ≤ n % 4; omega)) (ix2 a e)).trans ?_
      rw [out_A, pay]
      show _ = cum (2048 * (n % 4)) _ + _
      rw [h0, mul_zero, cum_zero, zero_add]
    · refine (congrFun (outsAt0_B m c ⟨n, hn⟩ h0 (by show 1 ≤ n % 4; omega)) (ix2 a e)).trans ?_
      rw [out_B, pay']
      refine congrArg (· + _) ?_
      refine (ih (n - 1) (by omega) (prev_lt ⟨n, hn⟩) a e).trans ?_
      rw [term_pred m c ⟨n, hn⟩ h0 a e, show 2048 * ((n - 1) % 4) + 2048 = 2048 * (n % 4) by omega]

/-! ## The result -/

theorem final : (dats (F := Ideal) m 0 c).arrAt 2 cfg0.N = tn (X0 m c) (X2 m c) := by
  refine (dats (F := Ideal) m 0 c).arrAt_eq_of_covers 2 _ (by decide +kernel) fun t hf y => ?_
  have ht := (flush0_2 t).mp hf
  obtain ⟨a, e, rfl⟩ : ∃ (a : Fin 1408) (e : Fin 1024), y = ix2 a e := ⟨_, _, eq_ix2 (n0 := 1408) (n1 := 1024) y⟩
  rw [tn_of (X0 m c) (X2 m c) (pa t a) (pe t e) _ (by blk_simp [e2 t]; show _ = 1408 * (t.val / 4) + a.val; omega)
    (by blk_simp [e2 t]; show _ = 1024 * (0) + e.val; omega)]
  have hs := sum_at m c t.val t.isLt a e
  rw [ht, show 2048 * 3 + 2048 = 8192 from rfl, cum_all] at hs
  refine Eq.trans ?_ hs
  blk_simp
  rw [after0_2]

theorem frame_p : Cert.quiescent_Kernel6 := fun m g _ => Cert.Kernel6.Gen.frame m g
theorem frame_pi : Cert.quiescent_Kernel6Ideal := fun m g _ => Cert.Kernel6Ideal.Gen.frame m g
theorem frame_ri : Cert.quiescent_Reference6Ideal := fun m g _ =>
  (θ_run Cert.Reference6Ideal.defs _ _).mono (fun r h => ⟨fun c => (h c).2, sem_eq_zero_of_no_sems (by decide) r.2⟩) (Cert.Reference6Ideal.Value.run (F := Ideal) m g)
theorem preserves : Cert.preserves_Kernel6_Kernel6Ideal := trivial

theorem algebraic : Cert.algebraic_Kernel6Ideal_Reference6Ideal := by
  intro m g m' g' _ hagree
  refine ⟨_, (θ_run _ _ _).mono (fun r h => h) (Cert.Kernel6Ideal.Value.run_blocks (F := Ideal) m g), ?_⟩
  refine (θ_run _ _ _).mono (fun r h c => ?_) (Cert.Reference6Ideal.Value.run (F := Ideal) m' g')
  obtain ⟨a0, _, a2⟩ := hagree c
  refine ⟨?_, (h c).2⟩
  rw [(h c).1, final m c, Cert.Reference6Ideal.Read.val_main_v2_eq, a0, a2]
  funext i
  rw [Cert.Reference6Ideal.Read.val_main_v2_apply, Cert.Reference6Ideal.Read.val_main_v1_apply]
  refine Finset.sum_congr rfl fun r _ => (mul_comm _ _).trans (congrArg₂ (· * ·) (congrArg _ ?_) (congrArg _ ?_)) <;>
    exact funext fun b => match b with
      | ⟨0, _⟩ => rfl
      | ⟨1, _⟩ => rfl

end Cert.Products.DownDw

end
-- ==== Proof.Conv.Rows.lean ====
/-
  The rows before and after a row of an array of 8192 rows, zero beyond its ends, as the convolution's kernels find them: a
  grid point `i` takes 256 rows, its trip `k` takes 16 of those, and a row's neighbour lies in the trip's own rows, in the
  point's rows, in the eight rows before or after the point's, or beyond the array's end.
-/
module

public import proofs.«01_k».proof.Defs
public import Idealize.ShloMosaic.Lib.Pipeline.ValueKit

@[expose] public section

noncomputable section

namespace Cert.Conv

open Idealize.ShloMosaic Idealize.ShloMosaic.TcCoe Idealize.ShloMosaic.Tactic Idealize.SL.Sem

/-- A column of an array of 8192 rows, zero beyond its end; -/
def col {n : ℕ} (D : (⟨2, ![8192, n]⟩ : Shape).Idx → EReal) (j : Fin n) : ℕ → EReal := fun r => if h : r < 8192 then D (ix2 ⟨r, h⟩ j) else 0
/-- the row before. -/
def prev (f : ℕ → EReal) (r : ℕ) : EReal := if r = 0 then 0 else f (r - 1)

theorem col_lt {n : ℕ} (D : (⟨2, ![8192, n]⟩ : Shape).Idx → EReal) (j : Fin n) (r : Fin 8192) : col D j r.val = D (ix2 r j) := dif_pos r.isLt
theorem col_end {n : ℕ} (D : (⟨2, ![8192, n]⟩ : Shape).Idx → EReal) (j : Fin n) {r : ℕ} (h : ¬r < 8192) : col D j r = 0 := dif_neg h

theorem iv0 : ∀ k : Fin 16, Scalar.cmpi .eq (Scf.iv (0#32) (1#32) k.val) 0#32 = if k.val = 0 then 1#1 else 0#1 := by decide +kernel
theorem iv15 : ∀ k : Fin 16, Scalar.cmpi .eq (Scf.iv (0#32) (1#32) k.val) 15#32 = if k.val = 15 then 1#1 else 0#1 := by decide +kernel
theorem gi0 : ∀ i : Fin 32, Scalar.cmpi .eq (BitVec.ofNat 32 i.val) 0#32 = if i.val = 0 then 1#1 else 0#1 := by decide +kernel
theorem gi31 : ∀ i : Fin 32, Scalar.cmpi .eq (BitVec.ofNat 32 i.val) 31#32 = if i.val = 31 then 1#1 else 0#1 := by decide +kernel
theorem ra0 : ∀ a : Fin 16, IntOp.cmpi .eq (BitVec.ofNat 32 a.val) 0#32 = if a.val = 0 then 1#1 else 0#1 := by decide +kernel
theorem ra15 : ∀ a : Fin 16, IntOp.cmpi .eq (BitVec.ofNat 32 a.val) 15#32 = if a.val = 15 then 1#1 else 0#1 := by decide +kernel

theorem sel (p : Prop) [Decidable p] (x y : EReal) : Scalar.select (if p then 1#1 else 0#1) x y = if p then x else y := by
  by_cases h : p
  · rw [if_pos h, if_pos h]; rfl
  · rw [if_neg h, if_neg h]; rfl

theorem andi_ite (p q : Prop) [Decidable p] [Decidable q] : Scalar.andi (if p then 1#1 else 0#1) (if q then 1#1 else 0#1) = if p ∧ q then 1#1 else 0#1 := by
  by_cases hp : p <;> by_cases hq : q <;> simp only [hp, hq, if_true, if_false, and_true, true_and, and_false, false_and] <;> decide

/-- The row before row `a` of trip `k` of point `i`: from the trip's rows `C`, the point's rows `L` or the rows before the point's `H`. -/
theorem prev_eq (i : Fin 32) (k a : Fin 16) (f : ℕ → EReal) (H L C : EReal) (hH : i.val ≠ 0 → H = f (256 * i.val - 1))
    (hL : k.val ≠ 0 → L = f (256 * i.val + 16 * k.val - 1)) (hC : a.val ≠ 0 → C = f (256 * i.val + 16 * k.val + a.val - 1)) :
    Scalar.select (IntOp.cmpi .eq (BitVec.ofNat 32 a.val) 0#32)
        (Scalar.select (Scalar.andi (Scalar.cmpi .eq (Scf.iv (0#32) (1#32) k.val) 0#32) (Scalar.cmpi .eq (BitVec.ofNat 32 i.val) 0#32)) 0
          (Scalar.select (Scalar.cmpi .eq (Scf.iv (0#32) (1#32) k.val) 0#32) H L)) C
      = prev f (256 * i.val + 16 * k.val + a.val) := by
  rw [iv0, gi0, ra0, andi_ite, sel, sel, sel]
  unfold prev
  by_cases ha : a.val = 0
  · by_cases hk : k.val = 0
    · by_cases hi : i.val = 0
      · rw [if_pos ha, if_pos ⟨hk, hi⟩, if_pos (by omega)]
      · rw [if_pos ha, if_neg (fun h => hi h.2), if_pos hk, if_neg (by omega), hH hi]
        exact congrArg f (by omega)
    · rw [if_pos ha, if_neg (fun h => hk h.1), if_neg hk, if_neg (by omega), hL hk]
      exact congrArg f (by omega)
  · rw [if_neg ha, if_neg (by omega), hC ha]

/-- The row after it. -/
theorem next_eq (i : Fin 32) (k a : Fin 16) (f : ℕ → EReal) (hf : f 8192 = 0) (H L C : EReal) (hH : i.val ≠ 31 → H = f (256 * i.val + 256))
    (hL : k.val ≠ 15 → L = f (256 * i.val + 16 * k.val + 16)) (hC : a.val ≠ 15 → C = f (256 * i.val + 16 * k.val + a.val + 1)) :
    Scalar.select (IntOp.cmpi .eq (BitVec.ofNat 32 a.val) 15#32)
        (Scalar.select (Scalar.andi (Scalar.cmpi .eq (Scf.iv (0#32) (1#32) k.val) 15#32) (Scalar.cmpi .eq (BitVec.ofNat 32 i.val) 31#32)) 0
          (Scalar.select (Scalar.cmpi .eq (Scf.iv (0#32) (1#32) k.val) 15#32) H L)) C
      = f (256 * i.val + 16 * k.val + a.val + 1) := by
  rw [iv15, gi31, ra15, andi_ite, sel, sel, sel]
  by_cases ha : a.val = 15
  · by_cases hk : k.val = 15
    · by_cases hi : i.val = 31
      · rw [if_pos ha, if_pos ⟨hk, hi⟩, ← hf]
        exact congrArg f (by omega)
      · rw [if_pos ha, if_neg (fun h => hi h.2), if_pos hk, hH hi]
        exact congrArg f (by omega)
    · rw [if_pos ha, if_neg (fun h => hk h.1), if_neg hk, hL hk]
      exact congrArg f (by omega)
  · rw [if_neg ha, hC ha]

end Cert.Conv

end
-- ==== Proof.Conv.Block.lean ====
/-
  The gradient of the convolution's input, one grid point: a row of it is the sum of the cotangent's row after it, its own row
  and the row before it, each times a row of the weights.
-/
module

public import proofs.«01_k».proof.Defs
public import proofs.«01_k».proof.Proof.Conv.Rows
public import proofs.«01_k».proof.Proof.Gen.Kernel7Ideal
public import proofs.«01_k».proof.Proof.Gen.Kernel7Ideal.Frame
public import Idealize.ShloMosaic.Lib.Pipeline.ValueKit
public import Idealize.ShloMosaic.Lib.Pipeline.CanonAppend

@[expose] public section

set_option maxRecDepth 16384

noncomputable section

namespace Cert.Conv.Dx

open Idealize.ShloMosaic Idealize.ShloMosaic.TcCoe Idealize.ShloMosaic.Tactic Idealize.SL.Sem Cert.Kernel7Ideal Cert.Kernel7Ideal.Gen Cert.Conv
open Idealize.ShloMosaic.StableHlo
open Idealize.ShloMosaic.Pipeline (Dat)

/-! ## One trip -/

theorem trips_eq : k0_t1_loop.trips = 16 := by decide +kernel
theorem off2 : ∀ k : Fin k0_t1_loop.trips, k0_off2 k = ![16 * k.val - 8, 0] := by decide +kernel

/-- A trip, counted among sixteen. -/
def tr (k : Fin k0_t1_loop.trips) : Fin 16 := ⟨k.val, lt_of_lt_of_eq k.isLt trips_eq⟩

theorem pay_left (i : Fin 32) (k : Fin k0_t1_loop.trips) (c0 c1 : Vec Ideal S16x2816 .f32) (l0 h0 n0 g0 l1 h1 n1 g1 : Vec Ideal S8x2816 .f32)
    (w : Vec Ideal S8x5632 .f32) (f : ℕ → EReal) (hf : f 8192 = 0) (a : Fin 16) (e : Fin 2816)
    (hc : ∀ b : Fin 16, c0 (ix2 b e) = f (256 * i.val + 16 * k.val + b.val))
    (hl : k.val ≠ 0 → l0 (ix2 7 e) = f (256 * i.val + 16 * k.val - 1)) (hh : i.val ≠ 0 → h0 (ix2 7 e) = f (256 * i.val - 1))
    (hn : k.val ≠ 15 → n0 (ix2 0 e) = f (256 * i.val + 16 * k.val + 16)) (hg : i.val ≠ 31 → g0 (ix2 0 e) = f (256 * i.val + 256)) :
    k0_pay10 (F := Ideal) (BitVec.ofNat 32 i.val) (Scf.iv (0#32) (1#32) k) (k0_pay1 c0)
        (k0_pay5 (k0_pay1 c0) (k0_pay2 (BitVec.ofNat 32 i.val) 0#32 1#32 k l0 h0) k0_pay4)
        (k0_pay6 (k0_pay1 c0) (iota Kind.tc S16x2816 32 [0] iota_S16x2816_d0_w32) (k0_pay3 (BitVec.ofNat 32 i.val) 0#32 1#32 k n0 g0))
        (k0_pay7 c1) (iota Kind.tc S16x2816 32 [0] iota_S16x2816_d0_w32) (k0_pay8 (BitVec.ofNat 32 i.val) (Scf.iv (0#32) (1#32) k) l1 h1)
        (k0_pay9 (Scf.iv (0#32) (1#32) k) n1 g1) w (ix2 a ⟨e.val, by omega⟩)
      = f (256 * i.val + 16 * k.val + a.val + 1) * w (ix2 0 ⟨e.val, by omega⟩) + f (256 * i.val + 16 * k.val + a.val) * w (ix2 1 ⟨e.val, by omega⟩)
        + prev f (256 * i.val + 16 * k.val + a.val) * w (ix2 2 ⟨e.val, by omega⟩) := by
  have p1 : _ = f (256 * i.val + 16 * k.val + a.val + 1) :=
    next_eq i (tr k) a f hf (g0 (ix2 0 e)) (n0 (ix2 0 e)) (c0 (ix2 ⟨(a.val + 16 - 15) % 16, Nat.mod_lt _ (by decide)⟩ e)) hg hn
      (fun ha => (hc _).trans (congrArg f (by show _ + (a.val + 16 - 15) % 16 = _ + 16 * k.val + _ + _; omega)))
  have p2 : _ = prev f (256 * i.val + 16 * k.val + a.val) :=
    prev_eq i (tr k) a f (h0 (ix2 7 e)) (l0 (ix2 7 e)) (c0 (ix2 ⟨(a.val + 16 - 1) % 16, Nat.mod_lt _ (by decide)⟩ e)) hh hl
      (fun ha => (hc _).trans (congrArg f (by show _ + (a.val + 16 - 1) % 16 = _ + 16 * k.val + _ - _; omega)))
  rw [← p1, ← p2, ← hc a]
  pointwise [k0_pay10, k0_pay1, k0_pay2, k0_pay3, k0_pay4, k0_pay5, k0_pay6]
  rfl

theorem pay_right (i : Fin 32) (k : Fin k0_t1_loop.trips) (c0 c1 : Vec Ideal S16x2816 .f32) (l0 h0 n0 g0 l1 h1 n1 g1 : Vec Ideal S8x2816 .f32)
    (w : Vec Ideal S8x5632 .f32) (f : ℕ → EReal) (hf : f 8192 = 0) (a : Fin 16) (e : Fin 2816)
    (hc : ∀ b : Fin 16, c1 (ix2 b e) = f (256 * i.val + 16 * k.val + b.val))
    (hl : k.val ≠ 0 → l1 (ix2 7 e) = f (256 * i.val + 16 * k.val - 1)) (hh : i.val ≠ 0 → h1 (ix2 7 e) = f (256 * i.val - 1))
    (hn : k.val ≠ 15 → n1 (ix2 0 e) = f (256 * i.val + 16 * k.val + 16)) (hg : i.val ≠ 31 → g1 (ix2 0 e) = f (256 * i.val + 256)) :
    k0_pay10 (F := Ideal) (BitVec.ofNat 32 i.val) (Scf.iv (0#32) (1#32) k) (k0_pay1 c0)
        (k0_pay5 (k0_pay1 c0) (k0_pay2 (BitVec.ofNat 32 i.val) 0#32 1#32 k l0 h0) k0_pay4)
        (k0_pay6 (k0_pay1 c0) (iota Kind.tc S16x2816 32 [0] iota_S16x2816_d0_w32) (k0_pay3 (BitVec.ofNat 32 i.val) 0#32 1#32 k n0 g0))
        (k0_pay7 c1) (iota Kind.tc S16x2816 32 [0] iota_S16x2816_d0_w32) (k0_pay8 (BitVec.ofNat 32 i.val) (Scf.iv (0#32) (1#32) k) l1 h1)
        (k0_pay9 (Scf.iv (0#32) (1#32) k) n1 g1) w (ix2 a ⟨2816 + e.val, by omega⟩)
      = f (256 * i.val + 16 * k.val + a.val + 1) * w (ix2 0 ⟨2816 + e.val, by omega⟩) + f (256 * i.val + 16 * k.val + a.val) * w (ix2 1 ⟨2816 + e.val, by omega⟩)
        + prev f (256 * i.val + 16 * k.val + a.val) * w (ix2 2 ⟨2816 + e.val, by omega⟩) := by
  have p1 : _ = f (256 * i.val + 16 * k.val + a.val + 1) :=
    next_eq i (tr k) a f hf (g1 (ix2 0 e)) (n1 (ix2 0 e)) (c1 (ix2 ⟨(a.val + 16 - 15) % 16, Nat.mod_lt _ (by decide)⟩ e)) hg hn
      (fun ha => (hc _).trans (congrArg f (by show _ + (a.val + 16 - 15) % 16 = _ + 16 * k.val + _ + _; omega)))
  have p2 : _ = prev f (256 * i.val + 16 * k.val + a.val) :=
    prev_eq i (tr k) a f (h1 (ix2 7 e)) (l1 (ix2 7 e)) (c1 (ix2 ⟨(a.val + 16 - 1) % 16, Nat.mod_lt _ (by decide)⟩ e)) hh hl
      (fun ha => (hc _).trans (congrArg f (by show _ + (a.val + 16 - 1) % 16 = _ + 16 * k.val + _ - _; omega)))
  rw [← p1, ← p2, ← hc a]
  pointwise [k0_pay10, k0_pay7, k0_pay8, k0_pay9]
  rfl

/-! ## One block -/

theorem k_lt (k : Fin k0_t1_loop.trips) : k.val < 16 := (tr k).isLt

theorem ld_rows (X : Vec Ideal S256x2816 .f32) (k : Fin k0_t1_loop.trips) (inb) (b : Fin 16) (e : Fin 2816) :
    View.ld X (Rect.unit (k0_off1 k) ![16, 2816] inb) (ix2 b e) = X (ix2 ⟨16 * k.val + b.val, by have := k_lt k; omega⟩ e) :=
  View.ld_unit_apply_of X (k0_off1 k) ![16, 2816] inb (ix2 b e) _ (fun a => by
    refine Eq.trans ?_ (congrArg (· + _) (congrFun (k0_off1_eq k) a).symm)
    match a with
    | ⟨0, _⟩ => rfl
    | ⟨1, _⟩ => exact (Nat.zero_add _).symm)

theorem ld_before (X : Vec Ideal S256x2816 .f32) (k : Fin k0_t1_loop.trips) (inb) (e : Fin 2816) (hk : k.val ≠ 0) :
    View.ld X (Rect.unit (k0_off2 k) ![8, 2816] inb) (ix2 7 e) = X (ix2 ⟨16 * k.val - 1, by have := k_lt k; omega⟩ e) :=
  View.ld_unit_apply_of X (k0_off2 k) ![8, 2816] inb (ix2 7 e) _ (fun a => by
    refine Eq.trans ?_ (congrArg (· + _) (congrFun (off2 k) a).symm)
    match a with
    | ⟨0, _⟩ => show 16 * k.val - 1 = 16 * k.val - 8 + 7; omega
    | ⟨1, _⟩ => exact (Nat.zero_add _).symm)

theorem ld_after (X : Vec Ideal S256x2816 .f32) (k : Fin k0_t1_loop.trips) (inb) (e : Fin 2816) (hk : k.val ≠ 15) :
    View.ld X (Rect.unit (k0_off3 k) ![8, 2816] inb) (ix2 0 e) = X (ix2 ⟨16 * k.val + 16, by have := k_lt k; omega⟩ e) :=
  View.ld_unit_apply_of X (k0_off3 k) ![8, 2816] inb (ix2 0 e) _ (fun a => by
    refine Eq.trans ?_ (congrArg (· + _) (congrFun (k0_off3_eq k) a).symm)
    have := k_lt k
    match a with
    | ⟨0, _⟩ => show 16 * k.val + 16 = min (16 * k.val + 16) 248 + 0; omega
    | ⟨1, _⟩ => exact (Nat.zero_add _).symm)

/-- The convolution's transpose, over the cotangent `D` and the weights `w` in the first three of eight rows. -/
def dx (D : S8192x5632.Idx → EReal) (w : S8x5632.Idx → EReal) (r : ℕ) (j : Fin 5632) : EReal :=
  col D j (r + 1) * w (ix2 0 j) + col D j r * w (ix2 1 j) + prev (col D j) r * w (ix2 2 j)

/-- Point `i`'s blocks of `D`: its rows' two halves, and the eight rows before and after. -/
structure Blocks (D : S8192x5632.Idx → EReal) (i : Fin 32) (x0 x1 : Vec Ideal S256x2816 .f32) (x2 x3 x4 x5 : Vec Ideal S8x2816 .f32) : Prop where
  left : ∀ (a : Fin 256) (e : Fin 2816), x0 (ix2 a e) = col D ⟨e.val, by omega⟩ (256 * i.val + a.val)
  right : ∀ (a : Fin 256) (e : Fin 2816), x1 (ix2 a e) = col D ⟨2816 + e.val, by omega⟩ (256 * i.val + a.val)
  left_before : i.val ≠ 0 → ∀ e : Fin 2816, x2 (ix2 7 e) = col D ⟨e.val, by omega⟩ (256 * i.val - 1)
  left_after : i.val ≠ 31 → ∀ e : Fin 2816, x3 (ix2 0 e) = col D ⟨e.val, by omega⟩ (256 * i.val + 256)
  right_before : i.val ≠ 0 → ∀ e : Fin 2816, x4 (ix2 7 e) = col D ⟨2816 + e.val, by omega⟩ (256 * i.val - 1)
  right_after : i.val ≠ 31 → ∀ e : Fin 2816, x5 (ix2 0 e) = col D ⟨2816 + e.val, by omega⟩ (256 * i.val + 256)

section Block

variable (D : S8192x5632.Idx → EReal) (c : Dev nD) (i : grid0.Coords) (arg1 : Memref sig .tc .vmem S256x2816 .f32) (harg1 : arg1.IsWhole)
  (arg2 : Memref sig .tc .vmem S256x2816 .f32) (harg2 : arg2.IsWhole) (arg3 : Memref sig .tc .vmem S8x2816 .f32) (harg3 : arg3.IsWhole)
  (arg4 : Memref sig .tc .vmem S8x2816 .f32) (harg4 : arg4.IsWhole) (arg5 : Memref sig .tc .vmem S8x2816 .f32) (harg5 : arg5.IsWhole)
  (arg6 : Memref sig .tc .vmem S8x2816 .f32) (harg6 : arg6.IsWhole) (arg7 : Memref sig .tc .vmem S8x5632 .f32) (harg7 : arg7.IsWhole)
  (arg8 : Memref sig .tc .vmem S256x5632 .bf16) (harg8 : arg8.IsWhole)
  (x0 x1 : Vec Ideal S256x2816 .f32) (x2 x3 x4 x5 : Vec Ideal S8x2816 .f32) (x6 : Vec Ideal S8x5632 .f32)

/-- What the point's block of the result holds. -/
def blk (i : Fin 32) : S256x5632.Idx → EReal := fun y => dx D x6 (256 * i.val + (y 0).val) (y 1)

theorem whole2 : (![0, 0] : Fin 2 → ℕ) = fun _ => 0 := by
  funext a
  match a with
  | ⟨0, _⟩ => rfl
  | ⟨1, _⟩ => rfl

theorem trip (hB : Blocks D (i 0) x0 x1 x2 x3 x4 x5) (k : Fin k0_t1_loop.trips) :
    ∀ p ∈ tripL_k0_t1 (F := Ideal) Variants.none c none i arg1 harg1 arg2 harg2 arg3 harg3 arg4 harg4 arg5 harg5 arg6 harg6 arg7 harg7 arg8 harg8 (BitVec.ofNat 32 (i 0).val)
        (harg1.unread x0) (harg2.unread x1) (harg3.unread x2) (harg4.unread x3) (harg5.unread x4) (harg6.unread x5) (harg7.unread x6) k,
      ∀ x : p.1.shape.Idx, p.2 x = blk D x6 (i 0) (p.1.emb x) := by
  unfold tripL_k0_t1 trip_k0_t1
  dsimp only
  sl_unfold_words
  simp only [View.readAt_eq_ld, Memref.IsWhole.read_unread, List.mem_singleton, forall_eq]
  rw [View.ld_unit_zero (S := S8x5632) whole2, View.ld_unit_zero (S := S8x2816) whole2, View.ld_unit_zero (S := S8x2816) whole2,
    View.ld_unit_zero (S := S8x2816) whole2, View.ld_unit_zero (S := S8x2816) whole2]
  intro x
  obtain ⟨a, j, rfl⟩ : ∃ (a : Fin 16) (j : Fin 5632), x = ix2 a j := ⟨_, _, eq_ix2 (n0 := 16) (n1 := 5632) x⟩
  have hk := k_lt k
  have hi := (i 0).isLt
  have hr : ∀ b : Fin 16, 256 * (i 0).val + (16 * k.val + b.val) = 256 * (i 0).val + 16 * k.val + b.val := fun b => (Nat.add_assoc _ _ _).symm
  have end_ : ∀ j, col D j 8192 = 0 := fun j => col_end D j (by decide)
  have e0 : blk D x6 (i 0) ((Rect.unit (s := S256x5632) (k0_off4 k) S16x5632.size (k0_off4_inb k)).emb (ix2 a j)) = dx D x6 (256 * (i 0).val + 16 * k.val + a.val) j := by
    have q0 : ((Rect.unit (s := S256x5632) (k0_off4 k) S16x5632.size (k0_off4_inb k)).emb (ix2 a j) 0).val = 16 * k.val + a.val := by
      show (k0_off4 k) 0 + 1 * a.val = _
      rw [k0_off4_eq, Nat.one_mul]; rfl
    have q1 : (Rect.unit (s := S256x5632) (k0_off4 k) S16x5632.size (k0_off4_inb k)).emb (ix2 a j) 1 = j := by
      refine Fin.ext ?_
      show (k0_off4 k) 1 + 1 * j.val = _
      rw [k0_off4_eq, Nat.one_mul]; exact Nat.zero_add _
    unfold blk
    rw [q0, q1, hr]
  refine Eq.trans ?_ e0.symm
  by_cases hj : j.val < 2816
  · refine pay_left (i 0) k _ _ _ _ _ _ _ _ _ _ x6 (col D j) (end_ j) a ⟨j.val, hj⟩ (fun b => ?_) (fun h => ?_) (fun h => ?_) (fun h => ?_) (fun h => ?_)
    · exact (ld_rows x0 k _ b _).trans ((hB.left _ _).trans (congrArg (col D j) (hr b)))
    · exact (ld_before x0 k _ _ h).trans ((hB.left _ _).trans (congrArg (col D j) (by show _ + (16 * k.val - 1) = _; omega)))
    · exact hB.left_before h _
    · exact (ld_after x0 k _ _ h).trans ((hB.left _ _).trans (congrArg (col D j) (Nat.add_assoc _ _ _).symm))
    · exact hB.left_after h _
  · obtain ⟨e, he⟩ : ∃ e : Fin 2816, j.val = 2816 + e.val := ⟨⟨j.val - 2816, by omega⟩, by show j.val = 2816 + (j.val - 2816); omega⟩
    obtain rfl : (⟨2816 + e.val, Nat.add_lt_add_left e.isLt 2816⟩ : Fin 5632) = j := Fin.ext he.symm
    refine pay_right (i 0) k _ _ _ _ _ _ _ _ _ _ x6 (col D ⟨2816 + e.val, by omega⟩) (end_ _) a e (fun b => ?_) (fun h => ?_) (fun h => ?_) (fun h => ?_) (fun h => ?_)
    · exact (ld_rows x1 k _ b _).trans ((hB.right _ _).trans (congrArg (col D _) (hr b)))
    · exact (ld_before x1 k _ _ h).trans ((hB.right _ _).trans (congrArg (col D _) (by show _ + (16 * k.val - 1) = _; omega)))
    · exact hB.right_before h _
    · exact (ld_after x1 k _ _ h).trans ((hB.right _ _).trans (congrArg (col D _) (Nat.add_assoc _ _ _).symm))
    · exact hB.right_after h _

theorem pieces (hB : Blocks D (i 0) x0 x1 x2 x3 x4 x5) (n : ℕ) :
    ∀ p ∈ pb_k0_t1 (F := Ideal) Variants.none c none i arg1 harg1 arg2 harg2 arg3 harg3 arg4 harg4 arg5 harg5 arg6 harg6 arg7 harg7 arg8 harg8 (BitVec.ofNat 32 (i 0).val)
        (harg1.unread x0) (harg2.unread x1) (harg3.unread x2) (harg4.unread x3) (harg5.unread x4) (harg6.unread x5) (harg7.unread x6) n,
      ∀ x : p.1.shape.Idx, p.2 x = blk D x6 (i 0) (p.1.emb x) := by
  induction n with
  | zero => intro p hp; rw [pb_k0_t1.eq_1] at hp; exact absurd hp List.not_mem_nil
  | succ n ih =>
    intro p hp
    rw [pb_k0_t1.eq_2] at hp
    unfold pb_k0_t1Step at hp
    split at hp
    · rcases List.mem_append.1 hp with hp | hp
      · exact trip D c i arg1 harg1 arg2 harg2 arg3 harg3 arg4 harg4 arg5 harg5 arg6 harg6 arg7 harg7 arg8 harg8 x0 x1 x2 x3 x4 x5 x6 hB _ p hp
      · exact ih p hp
    · exact ih p hp

theorem out_eq (hB : Blocks D (i 0) x0 x1 x2 x3 x4 x5) :
    out0_A_7 (F := Ideal) c i arg1 harg1 arg2 harg2 arg3 harg3 arg4 harg4 arg5 harg5 arg6 harg6 arg7 harg7 arg8 harg8 x0 x1 x2 x3 x4 x5 x6 = blk D x6 (i 0) := by
  funext y
  have hc := cover0_A_7 (F := Ideal) c i arg1 harg1 arg2 harg2 arg3 harg3 arg4 harg4 arg5 harg5 arg6 harg6 arg7 harg7 arg8 harg8 x0 x1 x2 x3 x4 x5 x6 y
  unfold out0_A_7
  rw [View.read_writes_junk_eq_canon]
  unfold kernelRun0_A at hc ⊢
  dsimp only at hc ⊢
  rw [← List.append_nil (pb_k0_t1 _ _ _ _ _ _ _ _ _ _ _ _ _ _ _ _ _ _ _ _ _ _ _ _ _ _ _ _ _)]
  exact View.canon_append_of_pieces _ [] _ (pieces D c i arg1 harg1 arg2 harg2 arg3 harg3 arg4 harg4 arg5 harg5 arg6 harg6 arg7 harg7 arg8 harg8 x0 x1 x2 x3 x4 x5 x6 hB _) y hc

end Block

end Cert.Conv.Dx

end
-- ==== Proof.Conv.Ref.lean ====
/-
  The reference's gradient of the convolution's input, read at an entry: the cotangent times each row of the weights, the
  three products shifted against each other and added.
-/
module

public import proofs.«01_k».proof.Defs
public import proofs.«01_k».proof.Proof.Conv.Rows
public import proofs.«01_k».proof.Proof.Gen.Reference7Ideal
public import proofs.«01_k».proof.Proof.Gen.Reference7Ideal.Read
public import Idealize.ShloMosaic.Lib.KernelVsHost
public import Idealize.ShloMosaic.Lib.Pipeline.ValueKit

@[expose] public section

set_option maxRecDepth 16384

noncomputable section

namespace Cert.Conv.Ref

open Idealize.ShloMosaic Idealize.ShloMosaic.TcCoe Idealize.ShloMosaic.Tactic Idealize.SL.Sem Cert.Conv
open Cert.Reference7Ideal Cert.Reference7Ideal.Read

variable (x1 : (⟨S3x5632, .f32⟩ : BufTy).Contents (Elt Ideal)) (x3 : (⟨S1x8192x5632, .f32⟩ : BufTy).Contents (Elt Ideal))

/-- The cotangent without its axis of one. -/
def rows (x : S1x8192x5632.Idx → EReal) : S8192x5632.Idx → EReal := fun i => x (ix3 (n0 := 1) 0 (i 0) (i 1))

/-- An array of rows behind and before rows of zeros, read at row `R`. -/
theorem pad_rows (lo hi : ℕ) (x : S1x8192x5632.Idx → EReal) (v : S_.Idx → EReal) (hv : ∀ i, v i = 0)
    (h : S1x8192x5632.Pads ![0, lo, 0] ![0, hi, 0] ![0, 0, 0] S1x8194x5632) (hu : 0 < S_.numel) (R : Fin 8194) (j : Fin 5632) :
    pad S1x8194x5632 ![0, lo, 0] ![0, hi, 0] ![0, 0, 0] x v h hu (ix3 (n0 := 1) 0 R j) = if R.val < lo then 0 else col (rows x) j (R.val - lo) := by
  by_cases h0 : R.val < lo
  · rw [if_pos h0]
    refine (pad_apply_of_not_inside _ _ _ x v h hu _ (1 : Fin 3) fun hin => ?_).trans (hv _)
    have e : lo ≤ R.val := hin.1
    omega
  · rw [if_neg h0]
    by_cases h1 : R.val - lo < 8192
    · refine (pad_apply_of_inside _ _ _ x v h hu _ (ix3 (n0 := 1) 0 ⟨R.val - lo, h1⟩ j) fun a => ?_).trans (col_lt (rows x) j ⟨R.val - lo, h1⟩).symm
      match a with
      | ⟨0, _⟩ => rfl
      | ⟨1, _⟩ => show R.val = lo + (R.val - lo) * (0 + 1); omega
      | ⟨2, _⟩ => show j.val = 0 + j.val * (0 + 1); omega
    · rw [col_end _ _ h1]
      refine (pad_apply_of_not_inside _ _ _ x v h hu _ (1 : Fin 3) fun hin => ?_).trans (hv _)
      have e : (R.val - lo) / (0 + 1) < 8192 := hin.2.2
      omega

theorem zero7 (i : S_.Idx) : val_main_cst_7 (F := Ideal) i = 0 := Ideal.ofBits_zero_f32
theorem zero11 (i : S_.Idx) : val_main_cst_11 (F := Ideal) i = 0 := Ideal.ofBits_zero_f32
theorem zero15 (i : S_.Idx) : val_main_cst_15 (F := Ideal) i = 0 := Ideal.ofBits_zero_f32

theorem w2 (j : Fin 5632) (R : Fin 8192) : val_main_v34 (F := Ideal) x1 (ix3 (n0 := 1) 0 R j) = x1 (ix2 (n0 := 3) 2 j) := by
  rw [val_main_v34_apply, val_main_v20_apply, val_main_v19_apply, val_main_v18_apply]
  refine congrArg x1 (funext fun a => Fin.ext ?_)
  match a with
  | ⟨0, _⟩ => rfl
  | ⟨1, _⟩ => exact Nat.mod_eq_of_lt j.isLt

theorem w1 (j : Fin 5632) (R : Fin 8192) : val_main_v43 (F := Ideal) x1 (ix3 (n0 := 1) 0 R j) = x1 (ix2 (n0 := 3) 1 j) := by
  rw [val_main_v43_apply, val_main_v13_apply, val_main_v12_apply, val_main_v11_apply]
  refine congrArg x1 (funext fun a => Fin.ext ?_)
  match a with
  | ⟨0, _⟩ => rfl
  | ⟨1, _⟩ => exact Nat.mod_eq_of_lt j.isLt

theorem w0 (j : Fin 5632) (R : Fin 8192) : val_main_v54 (F := Ideal) x1 (ix3 (n0 := 1) 0 R j) = x1 (ix2 (n0 := 3) 0 j) := by
  rw [val_main_v54_apply, val_main_v7_apply, val_main_v6_apply, val_main_v5_apply]
  refine congrArg x1 (funext fun a => Fin.ext ?_)
  match a with
  | ⟨0, _⟩ => rfl
  | ⟨1, _⟩ => exact Nat.mod_eq_of_lt j.isLt

theorem ct (R : Fin 8192) (j : Fin 5632) : val_main_v27 (F := Ideal) x3 (ix3 (n0 := 1) 0 R j) = x3 (ix3 (n0 := 1) 0 R j) := by
  rw [val_main_v27_apply]
  refine congrArg x3 (funext fun a => Fin.ext ?_)
  match a with
  | ⟨0, _⟩ => rfl
  | ⟨1, _⟩ => show ((0 * 8192 + R.val) * 5632 + j.val) / 5632 % 8192 = R.val; omega
  | ⟨2, _⟩ => show ((0 * 8192 + R.val) * 5632 + j.val) % 5632 = j.val; omega

theorem col_mul (y : S1x8192x5632.Idx → EReal) (j : Fin 5632) (w : EReal) (hy : ∀ R : Fin 8192, y (ix3 (n0 := 1) 0 R j) = x3 (ix3 (n0 := 1) 0 R j) * w) (r : ℕ) :
    col (rows y) j r = col (rows x3) j r * w := by
  by_cases h : r < 8192
  · exact (col_lt (rows y) j ⟨r, h⟩).trans ((hy ⟨r, h⟩).trans (congrArg (· * w) (col_lt (rows x3) j ⟨r, h⟩).symm))
  · rw [col_end _ _ h, col_end _ _ h, zero_mul]

theorem after (r : Fin 8192) (j : Fin 5632) :
    val_main_v60 (F := Ideal) x1 x3 (ix3 (n0 := 1) 0 ⟨1 + r.val, by omega⟩ j) = col (rows x3) j (r.val + 1) * x1 (ix2 (n0 := 3) 0 j) := by
  refine (pad_rows 0 2 _ _ zero15 _ _ ⟨1 + r.val, by omega⟩ j).trans ?_
  rw [if_neg (Nat.not_lt_zero _), col_mul x3 _ j (x1 (ix2 (n0 := 3) 0 j)) (fun R => congrArg₂ (· * ·) (ct x3 R j) (w0 x1 j R))]
  exact congrArg (fun n => col (rows x3) j n * _) (Nat.add_comm 1 r.val)

theorem at_ (r : Fin 8192) (j : Fin 5632) :
    val_main_v49 (F := Ideal) x1 x3 (ix3 (n0 := 1) 0 ⟨1 + r.val, by omega⟩ j) = col (rows x3) j r.val * x1 (ix2 (n0 := 3) 1 j) := by
  refine (pad_rows 1 1 _ _ zero11 _ _ ⟨1 + r.val, by omega⟩ j).trans ?_
  rw [if_neg (show ¬1 + r.val < 1 by omega), col_mul x3 _ j (x1 (ix2 (n0 := 3) 1 j)) (fun R => congrArg₂ (· * ·) (ct x3 R j) (w1 x1 j R))]
  exact congrArg (fun n => col (rows x3) j n * _) (Nat.add_sub_cancel_left 1 r.val)

theorem before (r : Fin 8192) (j : Fin 5632) :
    val_main_v39 (F := Ideal) x1 x3 (ix3 (n0 := 1) 0 ⟨1 + r.val, by omega⟩ j) = prev (col (rows x3) j) r.val * x1 (ix2 (n0 := 3) 2 j) := by
  refine (pad_rows 2 0 _ _ zero7 _ _ ⟨1 + r.val, by omega⟩ j).trans ?_
  unfold prev
  by_cases h : r.val = 0
  · rw [if_pos (show 1 + r.val < 2 by omega), if_pos h, zero_mul]
  · rw [if_neg (show ¬1 + r.val < 2 by omega), if_neg h, col_mul x3 _ j (x1 (ix2 (n0 := 3) 2 j)) (fun R => congrArg₂ (· * ·) (ct x3 R j) (w2 x1 j R))]
    exact congrArg (fun n => col (rows x3) j n * _) (show 1 + r.val - 2 = r.val - 1 by omega)

/-- The reference's result. -/
theorem result (r : Fin 8192) (j : Fin 5632) : val_main_v66 (F := Ideal) x1 x3 (ix2 r j)
    = col (rows x3) j (r.val + 1) * x1 (ix2 (n0 := 3) 0 j) + col (rows x3) j r.val * x1 (ix2 (n0 := 3) 1 j) + prev (col (rows x3) j) r.val * x1 (ix2 (n0 := 3) 2 j) := by
  rw [← after, ← at_, ← before, val_main_v66_apply]
  show val_main_v65 (F := Ideal) x1 x3 (ix2 r j) = _
  rw [val_main_v65_apply, val_main_v63_apply]
  have e : idx_main_v63 (idx_main_v65 (ix2 r j)) = ix3 (n0 := 1) 0 ⟨1 + r.val, by omega⟩ j := by
    refine funext fun a => Fin.ext ?_
    match a with
    | ⟨0, _⟩ => rfl
    | ⟨1, _⟩ => show 1 + (r.val * 5632 + j.val) / 5632 % 8192 = 1 + r.val; omega
    | ⟨2, _⟩ => show (r.val * 5632 + j.val) % 5632 = j.val; omega
  rw [e, val_main_v61_apply]
  show val_main_v50 (F := Ideal) x1 x3 _ + val_main_v60 (F := Ideal) x1 x3 _ = _
  rw [val_main_v50_apply]
  show val_main_v39 (F := Ideal) x1 x3 _ + val_main_v49 (F := Ideal) x1 x3 _ + val_main_v60 (F := Ideal) x1 x3 _ = _
  generalize val_main_v39 (F := Ideal) x1 x3 _ = p
  generalize val_main_v49 (F := Ideal) x1 x3 _ = q
  generalize val_main_v60 (F := Ideal) x1 x3 _ = s
  show (p + q + s : EReal) = s + q + p
  rw [add_comm p q, add_comm (q + p) s, add_assoc]

end Cert.Conv.Ref

end
-- ==== Proof.Conv.Set.lean ====
/-
  Rows set at the top of a matrix, read at one of them: `zeros.at[0:U].set(v)` as it prints, by a scatter at one index word.
-/
module

public import Idealize.ShloMosaic.Lib.Routing.OpsOne

@[expose] public section

namespace Cert.Conv

open Idealize.ShloMosaic Idealize.ShloMosaic.ValueIdx Idealize.ShloMosaic.Routing

/-- Entry `(p, q)` of the rows lands at `(p, q)` of the matrix. -/
theorem lands_rows {R C U w : Nat} (d : ScatterDims (shape2 R C) (shape1 1) (shape2 U C)) (huw : d.updateWindowDims = [0, 1]) (hiw : d.insertedWindowDims = [])
    (hsd : d.scatterDimsToOperandDims = [0]) (idx : IVec (shape1 1) w) (hidx : ∀ b, (idx b).toInt = 0) (p : Fin U) (q : Fin C) (r : Fin R) (c : Fin C) :
    d.resultIdx? (ix2 p q) idx = some (ix2 r c) ↔ p.val = r.val ∧ q.val = c.val := by
  have hk : d.sKept = [0, 1] := by
    show (shape2 R C).kept d.insertedWindowDims = _
    rw [hiw]
    rfl
  have hw : ∀ a : Fin 2, d.window (ix2 p q) a = ((ix2 p q : (shape2 U C).Idx) a).val := fun a => by
    unfold ScatterDims.window
    rw [dif_pos (by rw [hk]; match a with
      | ⟨0, _⟩ => exact List.mem_cons_self
      | ⟨1, _⟩ => exact List.mem_cons_of_mem _ (List.mem_singleton.2 rfl))]
    refine congrArg (fun t => ((ix2 p q : (shape2 U C).Idx) t).val) ?_
    simp only [huw, hk]
    match a with
    | ⟨0, _⟩ => rfl
    | ⟨1, _⟩ => rfl
  have hs : ∀ a : Fin 2, d.start (ix2 p q) idx a = 0 := fun a => by
    unfold ScatterDims.start
    split
    · exact hidx _
    · rfl
  rw [resultIdx?_ix2, hs, hs, hw, hw]
  show (0 : Int) + (p.val : Int) = r.val ∧ (0 : Int) + (q.val : Int) = c.val ↔ _
  omega

theorem set_rows {α : Type} {R C U w : Nat} (d : ScatterDims (shape2 R C) (shape1 1) (shape2 U C)) (huw : d.updateWindowDims = [0, 1]) (hiw : d.insertedWindowDims = [])
    (hsd : d.scatterDimsToOperandDims = [0]) (x0 : (shape2 R C).Idx → α) (idx : IVec (shape1 1) w) (hidx : ∀ b, (idx b).toInt = 0) (upd : (shape2 U C).Idx → α)
    (r : Fin R) (p : Fin U) (h : p.val = r.val) (c : Fin C) :
    Host.scatter d (fun _ b => b) x0 idx upd (ix2 r c) = upd (ix2 p c) := by
  refine scatter_set_hit d x0 idx upd _ _ (fun k hk => ?_) (ix2 p c) ((lands_rows d huw hiw hsd idx hidx p c r c).2 ⟨h, rfl⟩)
  obtain ⟨a, b, rfl⟩ : ∃ (a : Fin U) (b : Fin C), k = ix2 a b := ⟨k 0, k 1, eq_ix2 k⟩
  obtain ⟨q0, q1⟩ := (lands_rows d huw hiw hsd idx hidx a b r c).1 hk
  obtain rfl : a = p := Fin.ext (q0.trans h.symm)
  obtain rfl : b = c := Fin.ext q1
  rfl

end Cert.Conv
-- ==== Proof.Conv.Dx.lean ====
/-
  The gradient of the convolution's input: the blocks that a grid point reads, the rows that lie before and after them, and
  the array that the points' blocks make up.
-/
module

public import proofs.«01_k».proof.Defs
public import proofs.«01_k».proof.Proof.Conv.Block
public import proofs.«01_k».proof.Proof.Conv.Ref
public import proofs.«01_k».proof.Proof.Conv.Set
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Lib.StableHlo.RunRead
public import Idealize.ShloMosaic.Lib.Pipeline.ValueKit

@[expose] public section

set_option maxRecDepth 16384

noncomputable section

namespace Cert.Conv.Dx

open Idealize.ShloMosaic Idealize.ShloMosaic.TcCoe Idealize.ShloMosaic.Tactic Idealize.SL.Sem Cert.Kernel7Ideal Cert.Kernel7Ideal.Gen Cert.Conv
open Idealize.ShloMosaic.StableHlo
open Idealize.ShloMosaic.Pipeline (Dat)

variable (m : (ℓ : Loc nD τ sig) → Buf (Elt Ideal) ℓ) (c : Dev nD)

/-- The weights and the cotangent a device holds. -/
abbrev X1 : S3x5632.Idx → EReal := m ((c : Thread nD τ).loc main_arg1)
abbrev X3 : S1x8192x5632.Idx → EReal := m ((c : Thread nD τ).loc main_arg3)

/-! ## The arrays the blocks are cut from, and where the blocks lie -/

theorem d_eq : V (F := Ideal) m c main_v3 = Ref.rows (X3 m c) := by
  have h : V (F := Ideal) m c main_v3 = shapeCast S8192x5632 (X3 m c) shapeCasts_S1x8192x5632_S8192x5632 := by
    unfold V
    after_reads_simp
    rfl
  rw [h]
  funext i
  refine shapeCast_apply _ _ i (ix3 (n0 := 1) 0 (i 0) (i 1)) ?_
  rw [Shape.rowMajor_val_three, Shape.rowMajor_val_two]
  show (0 * 8192 + (i 0).val) * 5632 + (i 1).val = (i 0).val * 5632 + (i 1).val
  omega

/-- The weights are the first three rows of the array of eight. -/
theorem w_eq (r : Fin 8) (p : Fin 3) (h : p.val = r.val) (j : Fin 5632) : V (F := Ideal) m c main_v2 (ix2 r j) = X1 m c (ix2 p j) := by
  have e : ∃ (x0 : S8x5632.Idx → EReal) (idx : IVec S1 32), (∀ b, (idx b).toInt = 0)
      ∧ V (F := Ideal) m c main_v2 = Host.scatter scatter_S8x5632_S1_S3x5632_01_n_0_0 (fun _ b => b) x0 idx (X1 m c) := by
    refine ⟨_, _, ?_, by
      unfold V
      after_reads_simp
      rfl⟩
    intro b
    rfl
  obtain ⟨x0, idx, hidx, e⟩ := e
  rw [e]
  exact set_rows scatter_S8x5632_S1_S3x5632_01_n_0_0 rfl rfl rfl x0 idx hidx (X1 m c) r p h j

theorem c0 : ∀ t : Fin cfg0.N, (grid0.coords t 0).val = t.val := (by decide +kernel : ∀ t : Fin grid0.N, _)
theorem e0 : ∀ t : Fin cfg0.N, win0_0.index t = ![t.val, 0] := (by decide +kernel : ∀ t : Fin grid0.N, _)
theorem e1 : ∀ t : Fin cfg0.N, win0_1.index t = ![t.val, 1] := (by decide +kernel : ∀ t : Fin grid0.N, _)
theorem e2 : ∀ t : Fin cfg0.N, win0_2.index t = ![32 * t.val - 1, 0] := (by decide +kernel : ∀ t : Fin grid0.N, _)
theorem e3 : ∀ t : Fin cfg0.N, win0_3.index t = ![min (32 * (t.val + 1)) 1023, 0] := (by decide +kernel : ∀ t : Fin grid0.N, _)
theorem e4 : ∀ t : Fin cfg0.N, win0_4.index t = ![32 * t.val - 1, 1] := (by decide +kernel : ∀ t : Fin grid0.N, _)
theorem e5 : ∀ t : Fin cfg0.N, win0_5.index t = ![min (32 * (t.val + 1)) 1023, 1] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![t.val, 0] := (by decide +kernel : ∀ t : Fin grid0.N, _)

theorem lt_N (t : Fin cfg0.N) : t.val < 32 := lt_of_lt_of_eq t.isLt N_0

variable (t : Fin cfg0.N)

/-- A row of a point's block, the row before the block's and the row after them; -/
def pa (a : Fin 256) : Fin 8192 := ⟨256 * t.val + a.val, by have := lt_N t; omega⟩
def pb : Fin 8192 := ⟨8 * (32 * t.val - 1) + 7, by have := lt_N t; omega⟩
def pc : Fin 8192 := ⟨8 * min (32 * (t.val + 1)) 1023, by omega⟩
/-- a column of the left half and one of the right half. -/
def pl (e : Fin 2816) : Fin 5632 := ⟨e.val, by omega⟩
def pr (e : Fin 2816) : Fin 5632 := ⟨2816 + e.val, by omega⟩

abbrev D : S8192x5632.Idx → EReal := V (F := Ideal) m c main_v3

theorem b0 (a : Fin 256) (e : Fin 2816) : iblk m c 0 t (ix2 a e) = D m c (ix2 (pa t a) (pl e)) := by
  blk_ext [iblk, e0 t, pa, pl]
theorem b1 (a : Fin 256) (e : Fin 2816) : iblk m c 1 t (ix2 a e) = D m c (ix2 (pa t a) (pr e)) := by
  blk_ext [iblk, e1 t, pa, pr]
theorem b2 (e : Fin 2816) : iblk m c 2 t (ix2 (n0 := 8) 7 e) = D m c (ix2 (pb t) (pl e)) := by
  blk_ext [iblk, e2 t, pb, pl]
theorem b3 (e : Fin 2816) : iblk m c 3 t (ix2 (n0 := 8) 0 e) = D m c (ix2 (pc t) (pl e)) := by
  blk_ext [iblk, e3 t, pc, pl]
theorem b4 (e : Fin 2816) : iblk m c 4 t (ix2 (n0 := 8) 7 e) = D m c (ix2 (pb t) (pr e)) := by
  blk_ext [iblk, e4 t, pb, pr]
theorem b5 (e : Fin 2816) : iblk m c 5 t (ix2 (n0 := 8) 0 e) = D m c (ix2 (pc t) (pr e)) := by
  blk_ext [iblk, e5 t, pc, pr]
theorem b6 (r : Fin 8) (j : Fin 5632) : iblk m c 6 t (ix2 r j) = V (F := Ideal) m c main_v2 (ix2 r j) := by
  refine congrArg (V (F := Ideal) m c main_v2) (funext fun a => Fin.ext ?_)
  match a with
  | ⟨0, _⟩ =>
    show win0_6.index t 0 * 8 + 1 * r.val = r.val
    rw [e6 t]
    show 0 * 8 + 1 * r.val = r.val
    omega
  | ⟨1, _⟩ =>
    show win0_6.index t 1 * 5632 + 1 * j.val = j.val
    rw [e6 t]
    show 0 * 5632 + 1 * j.val = j.val
    omega

theorem pb_eq (h : (grid0.coords t 0).val ≠ 0) : (pb t).val = 256 * (grid0.coords t 0).val - 1 := by
  rw [c0] at h ⊢
  show 8 * (32 * t.val - 1) + 7 = _
  omega
theorem pc_eq (h : (grid0.coords t 0).val ≠ 31) : (pc t).val = 256 * (grid0.coords t 0).val + 256 := by
  have := lt_N t
  rw [c0] at h ⊢
  show 8 * min (32 * (t.val + 1)) 1023 = _
  omega
theorem pa_eq (a : Fin 256) : (pa t a).val = 256 * (grid0.coords t 0).val + a.val := by
  rw [c0]
  rfl

theorem at_row {r : ℕ} (p : Fin 8192) (h : p.val = r) (j : Fin 5632) : D m c (ix2 p j) = col (D m c) j r :=
  h ▸ (col_lt (D m c) j p).symm

theorem blocks : Blocks (D m c) (grid0.coords t 0) (iblk m c 0 t) (iblk m c 1 t) (iblk m c 2 t) (iblk m c 3 t) (iblk m c 4 t) (iblk m c 5 t) where
  left a e := (b0 m c t a e).trans (at_row m c _ (pa_eq t a) _)
  right a e := (b1 m c t a e).trans (at_row m c _ (pa_eq t a) _)
  left_before h e := (b2 m c t e).trans (at_row m c _ (pb_eq t h) _)
  left_after h e := (b3 m c t e).trans (at_row m c _ (pc_eq t h) _)
  right_before h e := (b4 m c t e).trans (at_row m c _ (pb_eq t h) _)
  right_after h e := (b5 m c t e).trans (at_row m c _ (pc_eq t h) _)

/-! ## The result -/

/-- The gradient: of the cotangent's rows and the weights. -/
def grad (x : S8192x5632.Idx → EReal) (w : S3x5632.Idx → EReal) : S8192x5632.Idx → EReal := fun y =>
  col x (y 1) ((y 0).val + 1) * w (ix2 (n0 := 3) 0 (y 1)) + col x (y 1) (y 0).val * w (ix2 (n0 := 3) 1 (y 1)) + prev (col x (y 1)) (y 0).val * w (ix2 (n0 := 3) 2 (y 1))

theorem grad_of (x : S8192x5632.Idx → EReal) (w : S3x5632.Idx → EReal) (p : Fin 8192) (j : Fin 5632) (y : S8192x5632.Idx) (h0 : (y 0).val = p.val) (h1 : (y 1).val = j.val) :
    grad x w y = grad x w (ix2 p j) :=
  congrArg (grad x w) (funext fun a => Fin.ext (match a with
    | ⟨0, _⟩ => h0
    | ⟨1, _⟩ => h1))

theorem out_blk (a : Fin 256) (j : Fin 5632) : outsAt0 (F := Ideal) m c t (ix2 a j) = grad (Ref.rows (X3 m c)) (X1 m c) (ix2 (pa t a) j) := by
  unfold outsAt0
  rw [out_eq (D m c) c (grid0.coords t) _ _ _ _ _ _ _ _ _ _ _ _ _ _ _ _ _ _ _ _ _ _ _ (blocks m c t)]
  show dx (D m c) (iblk m c 6 t) (256 * (grid0.coords t 0).val + a.val) j = _
  rw [← pa_eq t a, ← d_eq m c]
  unfold dx
  exact congrArg₂ (· + ·) (congrArg₂ (· + ·) (congrArg _ ((b6 m c t 0 j).trans (w_eq m c 0 0 rfl j))) (congrArg _ ((b6 m c t 1 j).trans (w_eq m c 1 1 rfl j))))
    (congrArg _ ((b6 m c t 2 j).trans (w_eq m c 2 2 rfl j)))

theorem final : (dats (F := Ideal) m 0 c).arrAt 7 cfg0.N = grad (Ref.rows (X3 m c)) (X1 m c) := by
  refine (dats (F := Ideal) m 0 c).arrAt_eq_of_covers 7 _ (by decide +kernel) fun t hf y => ?_
  obtain ⟨a, e, rfl⟩ : ∃ (a : Fin 256) (e : Fin 5632), y = ix2 a e := ⟨_, _, eq_ix2 (n0 := 256) (n1 := 5632) y⟩
  rw [grad_of _ _ (pa t a) e _ (by blk_simp [e7 t]; show _ = 256 * t.val + a.val; omega) (by blk_simp [e7 t])]
  refine Eq.trans ?_ (out_blk m c t a e)
  blk_simp
  rw [after0_7]

theorem frame_p : Cert.quiescent_Kernel7 := fun m g _ => Cert.Kernel7.Gen.frame m g
theorem frame_pi : Cert.quiescent_Kernel7Ideal := fun m g _ => Cert.Kernel7Ideal.Gen.frame m g
theorem frame_ri : Cert.quiescent_Reference7Ideal := fun m g _ =>
  (θ_run Cert.Reference7Ideal.defs _ _).mono (fun r h => ⟨fun c => (h c).2, sem_eq_zero_of_no_sems (by decide) r.2⟩) (Cert.Reference7Ideal.Value.run (F := Ideal) m g)
theorem preserves : Cert.preserves_Kernel7_Kernel7Ideal := trivial

theorem algebraic : Cert.algebraic_Kernel7Ideal_Reference7Ideal := by
  intro m g m' g' _ hagree
  refine ⟨_, (θ_run _ _ _).mono (fun r h => h) (Cert.Kernel7Ideal.Value.run_blocks (F := Ideal) m g), ?_⟩
  refine (θ_run _ _ _).mono (fun r h c => ?_) (Cert.Reference7Ideal.Value.run (F := Ideal) m' g')
  obtain ⟨a0, a1, a2, a3⟩ := hagree c
  refine ⟨?_, (h c).2⟩
  rw [(h c).1, final m c, Cert.Reference7Ideal.Read.val_main_v66_eq, a1, a3]
  funext i
  obtain ⟨p, j, rfl⟩ : ∃ (p : Fin 8192) (j : Fin 5632), i = ix2 p j := ⟨_, _, eq_ix2 (n0 := 8192) (n1 := 5632) i⟩
  exact Ref.result _ _ p j

end Cert.Conv.Dx

end
-- ==== Proof.Products.Up.lean ====
/-
  The feed-forward's first product: each grid point's block is the product of a block of 1024 rows of the
  left factor and a block of 1408 columns of the weights, over all 1024 terms at once.
-/
module

public import proofs.«01_k».proof.Defs
public import proofs.«01_k».proof.Proof.Products.Prod
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import Idealize.ShloMosaic.Lib.StableHlo.RunRead
public import Idealize.ShloMosaic.Lib.Pipeline.ValueKit

@[expose] public section

set_option maxRecDepth 16384

noncomputable section

namespace Cert.Products.Up

open Idealize.ShloMosaic Idealize.ShloMosaic.TcCoe Idealize.ShloMosaic.Tactic Idealize.SL.Sem Cert.Kernel8Ideal Cert.Kernel8Ideal.Gen Cert.Products
open Idealize.ShloMosaic.StableHlo
open Idealize.ShloMosaic.Pipeline (Dat)

variable (m : (ℓ : Loc nD τ sig) → Buf (Elt Ideal) ℓ) (c : Dev nD)

/-- The left factor and the weights a device holds. -/
abbrev X0 : S8192x1024.Idx → EReal := m ((c : Thread nD τ).loc main_arg0)
abbrev X1 : S1024x5632.Idx → EReal := m ((c : Thread nD τ).loc main_arg1)

/-! ## One block -/

theorem whole2 : (![0, 0] : Fin 2 → ℕ) = fun _ => 0 := by
  funext a
  match a with
  | ⟨0, _⟩ => rfl
  | ⟨1, _⟩ => rfl

theorem pay (x : Vec Ideal S1024x1024 .bf16) (y : Vec Ideal S1024x1408 .bf16) (a : Fin 1024) (e : Fin 1408) :
    k0_pay1 (F := Ideal) x y (ix2 a e) = ∑ r : Fin 1024, x (ix2 a r) * y (ix2 r e) := by
  pointwise [k0_pay1]

theorem out_eq (x : Vec Ideal S1024x1024 .bf16) (y : Vec Ideal S1024x1408 .bf16) : out0_2 (F := Ideal) x y = k0_pay1 (F := Ideal) x y := by
  unfold out0_2 r0_0 r0_1
  rw [View.canon_cons_unit_zero whole2, View.ld_unit_zero (S := S1024x1024) whole2, View.ld_unit_zero (S := S1024x1408) whole2]

/-! ## The arrays the blocks are cut from, and where the blocks lie -/

theorem h_eq : V (F := Ideal) m c main_v0 = X0 m c := by
  unfold V
  after_reads_simp
  rfl

theorem w_eq : V (F := Ideal) m c main_v1 = X1 m c := by
  unfold V
  after_reads_simp
  rfl

theorem e0 : ∀ t : Fin cfg0.N, win0_0.index t = ![t.val / 4, 0] := (by decide +kernel : ∀ t : Fin grid0.N, _)
theorem e1 : ∀ t : Fin cfg0.N, win0_1.index t = ![0, t.val % 4] := (by decide +kernel : ∀ t : Fin grid0.N, _)
theorem e2 : ∀ t : Fin cfg0.N, win0_2.index t = ![t.val / 4, t.val % 4] := (by decide +kernel : ∀ t : Fin grid0.N, _)

theorem lt_N (t : Fin cfg0.N) : t.val < 32 := lt_of_lt_of_eq t.isLt N_0

/-- A row and a column of a point's block, in the whole product. -/
def pa (t : Fin cfg0.N) (a : Fin 1024) : Fin 8192 := ⟨1024 * (t.val / 4) + a.val, by have := lt_N t; omega⟩
def pe (t : Fin cfg0.N) (e : Fin 1408) : Fin 5632 := ⟨1408 * (t.val % 4) + e.val, by have := lt_N t; omega⟩

variable (t : Fin cfg0.N)

theorem h_blk (a : Fin 1024) (r : Fin 1024) : iblk m c 0 t (ix2 a r) = X0 m c (ix2 (pa t a) r) := by
  rw [← h_eq m c]
  blk_ext [iblk, e0 t, pa]

theorem w_blk (e : Fin 1408) (r : Fin 1024) : iblk m c 1 t (ix2 r e) = X1 m c (ix2 r (pe t e)) := by
  rw [← w_eq m c]
  blk_ext [iblk, e1 t, pe]

/-! ## The result -/

theorem final : (dats (F := Ideal) m 0 c).arrAt 2 cfg0.N = nn (X0 m c) (X1 m c) := by
  refine (dats (F := Ideal) m 0 c).arrAt_eq_of_covers 2 _ (by decide +kernel) fun t hf y => ?_
  obtain ⟨a, e, rfl⟩ : ∃ (a : Fin 1024) (e : Fin 1408), y = ix2 a e := ⟨_, _, eq_ix2 (n0 := 1024) (n1 := 1408) y⟩
  rw [nn_of (X0 m c) (X1 m c) (pa t a) (pe t e) _ (by blk_simp [e2 t]; show _ = 1024 * (t.val / 4) + a.val; omega)
    (by blk_simp [e2 t]; show _ = 1408 * (t.val % 4) + e.val; omega)]
  refine Eq.trans ?_ ((pay (iblk m c 0 t) (iblk m c 1 t) a e).trans (Finset.sum_congr rfl fun r _ => congrArg₂ (· * ·) (h_blk m c t a r) (w_blk m c t e r)))
  rw [← out_eq]
  blk_simp
  rw [after0_2]

theorem frame_p : Cert.quiescent_Kernel8 := fun m g _ => Cert.Kernel8.Gen.frame m g
theorem frame_pi : Cert.quiescent_Kernel8Ideal := fun m g _ => Cert.Kernel8Ideal.Gen.frame m g
theorem frame_ri : Cert.quiescent_Reference8Ideal := fun m g _ =>
  (θ_run Cert.Reference8Ideal.defs _ _).mono (fun r h => ⟨fun c => (h c).2, sem_eq_zero_of_no_sems (by decide) r.2⟩) (Cert.Reference8Ideal.Value.run (F := Ideal) m g)
theorem preserves : Cert.preserves_Kernel8_Kernel8Ideal := trivial

theorem algebraic : Cert.algebraic_Kernel8Ideal_Reference8Ideal := by
  intro m g m' g' _ hagree
  refine ⟨_, (θ_run _ _ _).mono (fun r h => h) (Cert.Kernel8Ideal.Value.run_blocks (F := Ideal) m g), ?_⟩
  refine (θ_run _ _ _).mono (fun r h c => ?_) (Cert.Reference8Ideal.Value.run (F := Ideal) m' g')
  obtain ⟨a0, a1⟩ := hagree c
  refine ⟨?_, (h c).2⟩
  rw [(h c).1, final m c, Cert.Reference8Ideal.Read.val_main_v0_eq, a0, a1]
  funext i
  rw [Cert.Reference8Ideal.Read.val_main_v0_apply]
  refine Finset.sum_congr rfl fun r _ => congrArg₂ (· * ·) (congrArg _ ?_) (congrArg _ ?_) <;>
    exact funext fun b => match b with
      | ⟨0, _⟩ => rfl
      | ⟨1, _⟩ => rfl

end Cert.Products.Up

end
-- ==== Proof.Products.Down.lean ====
/-
  The feed-forward's second product: each grid point's block is the product of a block of 1024 rows of the
  left factor and a block of 1024 columns of the weights, over all 2816 terms at once.
-/
module

public import proofs.«01_k».proof.Defs
public import proofs.«01_k».proof.Proof.Products.Prod
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import Idealize.ShloMosaic.Lib.StableHlo.RunRead
public import Idealize.ShloMosaic.Lib.Pipeline.ValueKit

@[expose] public section

set_option maxRecDepth 16384

noncomputable section

namespace Cert.Products.Down

open Idealize.ShloMosaic Idealize.ShloMosaic.TcCoe Idealize.ShloMosaic.Tactic Idealize.SL.Sem Cert.Kernel9Ideal Cert.Kernel9Ideal.Gen Cert.Products
open Idealize.ShloMosaic.StableHlo
open Idealize.ShloMosaic.Pipeline (Dat)

variable (m : (ℓ : Loc nD τ sig) → Buf (Elt Ideal) ℓ) (c : Dev nD)

/-- The left factor and the weights a device holds. -/
abbrev X0 : S8192x2816.Idx → EReal := m ((c : Thread nD τ).loc main_arg0)
abbrev X1 : S2816x1024.Idx → EReal := m ((c : Thread nD τ).loc main_arg1)

/-! ## One block -/

theorem whole2 : (![0, 0] : Fin 2 → ℕ) = fun _ => 0 := by
  funext a
  match a with
  | ⟨0, _⟩ => rfl
  | ⟨1, _⟩ => rfl

theorem pay (x : Vec Ideal S1024x2816 .bf16) (y : Vec Ideal S2816x1024 .bf16) (a : Fin 1024) (e : Fin 1024) :
    k0_pay1 (F := Ideal) x y (ix2 a e) = ∑ r : Fin 2816, x (ix2 a r) * y (ix2 r e) := by
  pointwise [k0_pay1]

theorem out_eq (x : Vec Ideal S1024x2816 .bf16) (y : Vec Ideal S2816x1024 .bf16) : out0_2 (F := Ideal) x y = k0_pay1 (F := Ideal) x y := by
  unfold out0_2 r0_0 r0_1 r0_2
  rw [View.canon_cons_unit_zero whole2, View.ld_unit_zero (S := S1024x2816) whole2, View.ld_unit_zero (S := S2816x1024) whole2]

/-! ## The arrays the blocks are cut from, and where the blocks lie -/

theorem h_eq : V (F := Ideal) m c main_v0 = X0 m c := by
  unfold V
  after_reads_simp
  rfl

theorem w_eq : V (F := Ideal) m c main_v1 = X1 m c := by
  unfold V
  after_reads_simp
  rfl

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

theorem lt_N (t : Fin cfg0.N) : t.val < 8 := lt_of_lt_of_eq t.isLt N_0

/-- A row and a column of a point's block, in the whole product. -/
def pa (t : Fin cfg0.N) (a : Fin 1024) : Fin 8192 := ⟨1024 * (t.val) + a.val, by have := lt_N t; omega⟩
def pe (t : Fin cfg0.N) (e : Fin 1024) : Fin 1024 := ⟨1024 * (0) + e.val, by have := lt_N t; omega⟩

variable (t : Fin cfg0.N)

theorem h_blk (a : Fin 1024) (r : Fin 2816) : iblk m c 0 t (ix2 a r) = X0 m c (ix2 (pa t a) r) := by
  rw [← h_eq m c]
  blk_ext [iblk, e0 t, pa]

theorem w_blk (e : Fin 1024) (r : Fin 2816) : iblk m c 1 t (ix2 r e) = X1 m c (ix2 r (pe t e)) := by
  rw [← w_eq m c]
  blk_ext [iblk, e1 t, pe]

/-! ## The result -/

theorem final : (dats (F := Ideal) m 0 c).arrAt 2 cfg0.N = nn (X0 m c) (X1 m c) := by
  refine (dats (F := Ideal) m 0 c).arrAt_eq_of_covers 2 _ (by decide +kernel) fun t hf y => ?_
  obtain ⟨a, e, rfl⟩ : ∃ (a : Fin 1024) (e : Fin 1024), y = ix2 a e := ⟨_, _, eq_ix2 (n0 := 1024) (n1 := 1024) y⟩
  rw [nn_of (X0 m c) (X1 m c) (pa t a) (pe t e) _ (by blk_simp [e2 t]; show _ = 1024 * (t.val) + a.val; omega)
    (by blk_simp [e2 t]; show _ = 1024 * (0) + e.val; omega)]
  refine Eq.trans ?_ ((pay (iblk m c 0 t) (iblk m c 1 t) a e).trans (Finset.sum_congr rfl fun r _ => congrArg₂ (· * ·) (h_blk m c t a r) (w_blk m c t e r)))
  rw [← out_eq]
  blk_simp
  rw [after0_2]

theorem frame_p : Cert.quiescent_Kernel9 := fun m g _ => Cert.Kernel9.Gen.frame m g
theorem frame_pi : Cert.quiescent_Kernel9Ideal := fun m g _ => Cert.Kernel9Ideal.Gen.frame m g
theorem frame_ri : Cert.quiescent_Reference9Ideal := fun m g _ =>
  (θ_run Cert.Reference9Ideal.defs _ _).mono (fun r h => ⟨fun c => (h c).2, sem_eq_zero_of_no_sems (by decide) r.2⟩) (Cert.Reference9Ideal.Value.run (F := Ideal) m g)
theorem preserves : Cert.preserves_Kernel9_Kernel9Ideal := trivial

theorem algebraic : Cert.algebraic_Kernel9Ideal_Reference9Ideal := by
  intro m g m' g' _ hagree
  refine ⟨_, (θ_run _ _ _).mono (fun r h => h) (Cert.Kernel9Ideal.Value.run_blocks (F := Ideal) m g), ?_⟩
  refine (θ_run _ _ _).mono (fun r h c => ?_) (Cert.Reference9Ideal.Value.run (F := Ideal) m' g')
  obtain ⟨a0, a1⟩ := hagree c
  refine ⟨?_, (h c).2⟩
  rw [(h c).1, final m c, Cert.Reference9Ideal.Read.val_main_v0_eq, a0, a1]
  funext i
  rw [Cert.Reference9Ideal.Read.val_main_v0_apply]
  refine Finset.sum_congr rfl fun r _ => congrArg₂ (· * ·) (congrArg _ ?_) (congrArg _ ?_) <;>
    exact funext fun b => match b with
      | ⟨0, _⟩ => rfl
      | ⟨1, _⟩ => rfl

end Cert.Products.Down

end
-- ==== Proof.Products.In.lean ====
/-
  The input projection: each grid point's block is the product of a block of 1408 rows of the
  left factor and a block of 1152 columns of the weights, over all 1024 terms at once.
-/
module

public import proofs.«01_k».proof.Defs
public import proofs.«01_k».proof.Proof.Products.Prod
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import Idealize.ShloMosaic.Lib.StableHlo.RunRead
public import Idealize.ShloMosaic.Lib.Pipeline.ValueKit

@[expose] public section

set_option maxRecDepth 16384

noncomputable section

namespace Cert.Products.In

open Idealize.ShloMosaic Idealize.ShloMosaic.TcCoe Idealize.ShloMosaic.Tactic Idealize.SL.Sem Cert.Kernel10Ideal Cert.Kernel10Ideal.Gen Cert.Products
open Idealize.ShloMosaic.StableHlo
open Idealize.ShloMosaic.Pipeline (Dat)

variable (m : (ℓ : Loc nD τ sig) → Buf (Elt Ideal) ℓ) (c : Dev nD)

/-- The left factor and the weights a device holds. -/
abbrev X0 : S8448x1024.Idx → EReal := m ((c : Thread nD τ).loc main_arg0)
abbrev X1 : S1024x3456.Idx → EReal := m ((c : Thread nD τ).loc main_arg1)

/-! ## One block -/

theorem whole2 : (![0, 0] : Fin 2 → ℕ) = fun _ => 0 := by
  funext a
  match a with
  | ⟨0, _⟩ => rfl
  | ⟨1, _⟩ => rfl

theorem pay (x : Vec Ideal S1408x1024 .bf16) (y : Vec Ideal S1024x1152 .bf16) (a : Fin 1408) (e : Fin 1152) :
    k0_pay1 (F := Ideal) x y (ix2 a e) = ∑ r : Fin 1024, x (ix2 a r) * y (ix2 r e) := by
  pointwise [k0_pay1]

theorem out_eq (x : Vec Ideal S1408x1024 .bf16) (y : Vec Ideal S1024x1152 .bf16) : out0_2 (F := Ideal) x y = k0_pay1 (F := Ideal) x y := by
  unfold out0_2 r0_0 r0_1 r0_2
  rw [View.canon_cons_unit_zero whole2, View.ld_unit_zero (S := S1408x1024) whole2, View.ld_unit_zero (S := S1024x1152) whole2]

/-! ## The arrays the blocks are cut from, and where the blocks lie -/

theorem h_eq : V (F := Ideal) m c main_v0 = X0 m c := by
  unfold V
  after_reads_simp
  rfl

theorem w_eq : V (F := Ideal) m c main_v1 = X1 m c := by
  unfold V
  after_reads_simp
  rfl

theorem e0 : ∀ t : Fin cfg0.N, win0_0.index t = ![t.val / 3, 0] := (by decide +kernel : ∀ t : Fin grid0.N, _)
theorem e1 : ∀ t : Fin cfg0.N, win0_1.index t = ![0, t.val % 3] := (by decide +kernel : ∀ t : Fin grid0.N, _)
theorem e2 : ∀ t : Fin cfg0.N, win0_2.index t = ![t.val / 3, t.val % 3] := (by decide +kernel : ∀ t : Fin grid0.N, _)

theorem lt_N (t : Fin cfg0.N) : t.val < 18 := lt_of_lt_of_eq t.isLt N_0

/-- A row and a column of a point's block, in the whole product. -/
def pa (t : Fin cfg0.N) (a : Fin 1408) : Fin 8448 := ⟨1408 * (t.val / 3) + a.val, by have := lt_N t; omega⟩
def pe (t : Fin cfg0.N) (e : Fin 1152) : Fin 3456 := ⟨1152 * (t.val % 3) + e.val, by have := lt_N t; omega⟩

variable (t : Fin cfg0.N)

theorem h_blk (a : Fin 1408) (r : Fin 1024) : iblk m c 0 t (ix2 a r) = X0 m c (ix2 (pa t a) r) := by
  rw [← h_eq m c]
  blk_ext [iblk, e0 t, pa]

theorem w_blk (e : Fin 1152) (r : Fin 1024) : iblk m c 1 t (ix2 r e) = X1 m c (ix2 r (pe t e)) := by
  rw [← w_eq m c]
  blk_ext [iblk, e1 t, pe]

/-! ## The result -/

theorem final : (dats (F := Ideal) m 0 c).arrAt 2 cfg0.N = nn (X0 m c) (X1 m c) := by
  refine (dats (F := Ideal) m 0 c).arrAt_eq_of_covers 2 _ (by decide +kernel) fun t hf y => ?_
  obtain ⟨a, e, rfl⟩ : ∃ (a : Fin 1408) (e : Fin 1152), y = ix2 a e := ⟨_, _, eq_ix2 (n0 := 1408) (n1 := 1152) y⟩
  rw [nn_of (X0 m c) (X1 m c) (pa t a) (pe t e) _ (by blk_simp [e2 t]; show _ = 1408 * (t.val / 3) + a.val; omega)
    (by blk_simp [e2 t]; show _ = 1152 * (t.val % 3) + e.val; omega)]
  refine Eq.trans ?_ ((pay (iblk m c 0 t) (iblk m c 1 t) a e).trans (Finset.sum_congr rfl fun r _ => congrArg₂ (· * ·) (h_blk m c t a r) (w_blk m c t e r)))
  rw [← out_eq]
  blk_simp
  rw [after0_2]

theorem frame_p : Cert.quiescent_Kernel10 := fun m g _ => Cert.Kernel10.Gen.frame m g
theorem frame_pi : Cert.quiescent_Kernel10Ideal := fun m g _ => Cert.Kernel10Ideal.Gen.frame m g
theorem frame_ri : Cert.quiescent_Reference10Ideal := fun m g _ =>
  (θ_run Cert.Reference10Ideal.defs _ _).mono (fun r h => ⟨fun c => (h c).2, sem_eq_zero_of_no_sems (by decide) r.2⟩) (Cert.Reference10Ideal.Value.run (F := Ideal) m g)
theorem preserves : Cert.preserves_Kernel10_Kernel10Ideal := trivial

theorem algebraic : Cert.algebraic_Kernel10Ideal_Reference10Ideal := by
  intro m g m' g' _ hagree
  refine ⟨_, (θ_run _ _ _).mono (fun r h => h) (Cert.Kernel10Ideal.Value.run_blocks (F := Ideal) m g), ?_⟩
  refine (θ_run _ _ _).mono (fun r h c => ?_) (Cert.Reference10Ideal.Value.run (F := Ideal) m' g')
  obtain ⟨a0, a1⟩ := hagree c
  refine ⟨?_, (h c).2⟩
  rw [(h c).1, final m c, Cert.Reference10Ideal.Read.val_main_v0_eq, a0, a1]
  funext i
  rw [Cert.Reference10Ideal.Read.val_main_v0_apply]
  refine Finset.sum_congr rfl fun r _ => congrArg₂ (· * ·) (congrArg _ ?_) (congrArg _ ?_) <;>
    exact funext fun b => match b with
      | ⟨0, _⟩ => rfl
      | ⟨1, _⟩ => rfl

end Cert.Products.In

end
-- ==== Proof.Products.InDx.lean ====
/-
  The gradient of the left factor of the input projection: each grid point's block is the product of a block of 768 rows of the
  cotangent and a block of 1024 rows of the weights, over all 3456 columns at once.
-/
module

public import proofs.«01_k».proof.Defs
public import proofs.«01_k».proof.Proof.Products.Prod
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import Idealize.ShloMosaic.Lib.StableHlo.RunRead
public import Idealize.ShloMosaic.Lib.Pipeline.ValueKit

@[expose] public section

set_option maxRecDepth 16384

noncomputable section

namespace Cert.Products.InDx

open Idealize.ShloMosaic Idealize.ShloMosaic.TcCoe Idealize.ShloMosaic.Tactic Idealize.SL.Sem Cert.Kernel11Ideal Cert.Kernel11Ideal.Gen Cert.Products
open Idealize.ShloMosaic.StableHlo
open Idealize.ShloMosaic.Pipeline (Dat)

variable (m : (ℓ : Loc nD τ sig) → Buf (Elt Ideal) ℓ) (c : Dev nD)

/-- The weights and the cotangent a device holds. -/
abbrev X1 : S1024x3456.Idx → EReal := m ((c : Thread nD τ).loc main_arg1)
abbrev X2 : S8448x3456.Idx → EReal := m ((c : Thread nD τ).loc main_arg2)

/-! ## One block -/

theorem whole2 : (![0, 0] : Fin 2 → ℕ) = fun _ => 0 := by
  funext a
  match a with
  | ⟨0, _⟩ => rfl
  | ⟨1, _⟩ => rfl

theorem pay (x : Vec Ideal S768x3456 .bf16) (y : Vec Ideal S1024x3456 .bf16) (a : Fin 768) (e : Fin 1024) :
    k0_pay1 (F := Ideal) x y (ix2 a e) = ∑ r : Fin 3456, x (ix2 a r) * y (ix2 e r) := by
  pointwise [k0_pay1]

theorem out_eq (x : Vec Ideal S768x3456 .bf16) (y : Vec Ideal S1024x3456 .bf16) : out0_2 (F := Ideal) x y = k0_pay1 (F := Ideal) x y := by
  unfold out0_2 r0_0 r0_1 r0_2
  rw [View.canon_cons_unit_zero whole2, View.ld_unit_zero (S := S768x3456) whole2, View.ld_unit_zero (S := S1024x3456) whole2]

/-! ## The arrays the blocks are cut from, and where the blocks lie -/

theorem ct_eq : V (F := Ideal) m c main_v0 = X2 m c := by
  unfold V
  after_reads_simp
  rfl

theorem w_eq : V (F := Ideal) m c main_v1 = X1 m c := by
  unfold V
  after_reads_simp
  rfl

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

theorem lt_N (t : Fin cfg0.N) : t.val < 11 := lt_of_lt_of_eq t.isLt N_0

/-- A row and a column of a point's block, in the whole product. -/
def pa (t : Fin cfg0.N) (a : Fin 768) : Fin 8448 := ⟨768 * (t.val) + a.val, by have := lt_N t; omega⟩
def pe (t : Fin cfg0.N) (e : Fin 1024) : Fin 1024 := ⟨1024 * (0) + e.val, by have := lt_N t; omega⟩

variable (t : Fin cfg0.N)

theorem ct_blk (a : Fin 768) (r : Fin 3456) : iblk m c 0 t (ix2 a r) = X2 m c (ix2 (pa t a) r) := by
  rw [← ct_eq m c]
  blk_ext [iblk, e0 t, pa]

theorem w_blk (e : Fin 1024) (r : Fin 3456) : iblk m c 1 t (ix2 e r) = X1 m c (ix2 (pe t e) r) := by
  rw [← w_eq m c]
  blk_ext [iblk, e1 t, pe]

/-! ## The result -/

theorem final : (dats (F := Ideal) m 0 c).arrAt 2 cfg0.N = nt (X2 m c) (X1 m c) := by
  refine (dats (F := Ideal) m 0 c).arrAt_eq_of_covers 2 _ (by decide +kernel) fun t hf y => ?_
  obtain ⟨a, e, rfl⟩ : ∃ (a : Fin 768) (e : Fin 1024), y = ix2 a e := ⟨_, _, eq_ix2 (n0 := 768) (n1 := 1024) y⟩
  rw [nt_of (X2 m c) (X1 m c) (pa t a) (pe t e) _ (by blk_simp [e2 t]; show _ = 768 * (t.val) + a.val; omega)
    (by blk_simp [e2 t]; show _ = 1024 * (0) + e.val; omega)]
  refine Eq.trans ?_ ((pay (iblk m c 0 t) (iblk m c 1 t) a e).trans (Finset.sum_congr rfl fun r _ => congrArg₂ (· * ·) (ct_blk m c t a r) (w_blk m c t e r)))
  rw [← out_eq]
  blk_simp
  rw [after0_2]

theorem frame_p : Cert.quiescent_Kernel11 := fun m g _ => Cert.Kernel11.Gen.frame m g
theorem frame_pi : Cert.quiescent_Kernel11Ideal := fun m g _ => Cert.Kernel11Ideal.Gen.frame m g
theorem frame_ri : Cert.quiescent_Reference11Ideal := fun m g _ =>
  (θ_run Cert.Reference11Ideal.defs _ _).mono (fun r h => ⟨fun c => (h c).2, sem_eq_zero_of_no_sems (by decide) r.2⟩) (Cert.Reference11Ideal.Value.run (F := Ideal) m g)
theorem preserves : Cert.preserves_Kernel11_Kernel11Ideal := trivial

theorem algebraic : Cert.algebraic_Kernel11Ideal_Reference11Ideal := by
  intro m g m' g' _ hagree
  refine ⟨_, (θ_run _ _ _).mono (fun r h => h) (Cert.Kernel11Ideal.Value.run_blocks (F := Ideal) m g), ?_⟩
  refine (θ_run _ _ _).mono (fun r h c => ?_) (Cert.Reference11Ideal.Value.run (F := Ideal) m' g')
  obtain ⟨_, a1, a2⟩ := hagree c
  refine ⟨?_, (h c).2⟩
  rw [(h c).1, final m c, Cert.Reference11Ideal.Read.val_main_v3_eq, a1, a2]
  funext i
  rw [Cert.Reference11Ideal.Read.val_main_v3_apply]
  refine Finset.sum_congr rfl fun r _ => congrArg₂ (· * ·) (congrArg _ ?_) (congrArg _ ?_) <;>
    exact funext fun b => match b with
      | ⟨0, _⟩ => rfl
      | ⟨1, _⟩ => rfl

end Cert.Products.InDx

end
-- ==== Proof.Products.InDw.lean ====
/-
  The gradient of the weights of the input projection: 3 grid points follow each other on a block of 1024 by 1152 of the
  result; each adds the product over 2816 of the 8448 rows to what the one before left.
-/
module

public import proofs.«01_k».proof.Defs
public import proofs.«01_k».proof.Proof.Products.Prod
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import Idealize.ShloMosaic.Lib.StableHlo.RunRead
public import Idealize.ShloMosaic.Lib.Pipeline.ValueKit

@[expose] public section

set_option maxRecDepth 16384

noncomputable section

namespace Cert.Products.InDw

open Idealize.ShloMosaic Idealize.ShloMosaic.TcCoe Idealize.ShloMosaic.Tactic Idealize.SL.Sem Cert.Kernel12Ideal Cert.Kernel12Ideal.Gen Cert.Products Cert.Fwd
open Idealize.ShloMosaic.StableHlo
open Idealize.ShloMosaic.Pipeline (Dat)

/-! ## One block -/

section Body

variable (c : Dev nD) (i : grid0.Coords) (arg3 : Memref sig .tc .vmem S2816x1024 .bf16) (harg3 : arg3.IsWhole)
  (arg4 : Memref sig .tc .vmem S2816x1152 .bf16) (harg4 : arg4.IsWhole) (arg5 : Memref sig .tc .vmem S1024x1152 .f32) (harg5 : arg5.IsWhole)
  (x : Vec Ideal S2816x1024 .bf16) (y : Vec Ideal S2816x1152 .bf16) (o : Vec Ideal S1024x1152 .f32)

theorem whole2 : (![0, 0] : Fin 2 → ℕ) = fun _ => 0 := by
  funext a
  match a with
  | ⟨0, _⟩ => rfl
  | ⟨1, _⟩ => rfl

theorem pay (a : Fin 1024) (e : Fin 1152) : k0_pay1 (F := Ideal) x y (ix2 a e) = ∑ r : Fin 2816, x (ix2 r a) * y (ix2 r e) := by
  pointwise [k0_pay1]

theorem pay' (a : Fin 1024) (e : Fin 1152) : k0_pay2 (F := Ideal) x y o (ix2 a e) = o (ix2 a e) + ∑ r : Fin 2816, x (ix2 r a) * y (ix2 r e) := by
  rw [← pay]
  pointwise [k0_pay2]

theorem out_A (hc0 : cond0_0 i) (hc1 : ¬cond0_1 i) : out0_A_2 c i arg3 harg3 arg4 harg4 arg5 harg5 hc0 hc1 x y = k0_pay1 (F := Ideal) x y := by
  unfold out0_A_2
  rw [View.read_writes_junk_eq_canon]
  unfold kernelRun0_A
  dsimp only
  sl_unfold_words
  simp only [View.readAt_eq_ld, Memref.IsWhole.read_unread, View.ld_unit_zero (S := S2816x1024) whole2, View.ld_unit_zero (S := S2816x1152) whole2]
  rw [View.canon_cons_unit_zero whole2]

theorem out_B (hc0 : ¬cond0_0 i) (hc1 : cond0_1 i) : out0_B_2 c i arg3 harg3 arg4 harg4 arg5 harg5 hc0 hc1 x y o = k0_pay2 (F := Ideal) x y o := by
  unfold out0_B_2
  rw [View.read_writes_junk_eq_canon]
  unfold kernelRun0_B
  dsimp only
  sl_unfold_words
  simp only [View.readAt_eq_ld, Memref.IsWhole.read_unread, View.ld_unit_zero (S := S2816x1024) whole2, View.ld_unit_zero (S := S2816x1152) whole2,
    View.ld_unit_zero (S := S1024x1152) whole2]
  rw [View.canon_cons_unit_zero whole2]

end Body

variable (m : (ℓ : Loc nD τ sig) → Buf (Elt Ideal) ℓ) (c : Dev nD)

/-- The left factor and the cotangent a device holds. -/
abbrev X0 : S8448x1024.Idx → EReal := m ((c : Thread nD τ).loc main_arg0)
abbrev X2 : S8448x3456.Idx → EReal := m ((c : Thread nD τ).loc main_arg2)

/-! ## The arrays the blocks are cut from, and where the blocks lie -/

theorem h_eq : V (F := Ideal) m c main_v0 = X0 m c := by
  unfold V
  after_reads_simp
  rfl

theorem ct_eq : V (F := Ideal) m c main_v1 = X2 m c := by
  unfold V
  after_reads_simp
  rfl

theorem e0 : ∀ t : Fin cfg0.N, win0_0.index t = ![t.val % 3, 0] := (by decide +kernel : ∀ t : Fin grid0.N, _)
theorem e1 : ∀ t : Fin cfg0.N, win0_1.index t = ![t.val % 3, t.val / 3] := (by decide +kernel : ∀ t : Fin grid0.N, _)
theorem e2 : ∀ t : Fin cfg0.N, win0_2.index t = ![0, t.val / 3] := (by decide +kernel : ∀ t : Fin grid0.N, _)

theorem lt_N (t : Fin cfg0.N) : t.val < 9 := lt_of_lt_of_eq t.isLt N_0

/-- A row and a column of a point's block, in the whole product; a row of its factors. -/
def pa (t : Fin cfg0.N) (a : Fin 1024) : Fin 1024 := ⟨1024 * (0) + a.val, by have := lt_N t; omega⟩
def pe (t : Fin cfg0.N) (e : Fin 1152) : Fin 3456 := ⟨1152 * (t.val / 3) + e.val, by have := lt_N t; omega⟩
def pr (t : Fin cfg0.N) (r : Fin 2816) : Fin 8448 := ⟨2816 * (t.val % 3) + r.val, by omega⟩

section Blocks

variable (t : Fin cfg0.N)

/-- The blocks a point reads. -/
abbrev bh : Vec Ideal S2816x1024 .bf16 := iblk m c 0 t
abbrev bct : Vec Ideal S2816x1152 .bf16 := iblk m c 1 t

theorem h_blk (r : Fin 2816) (a : Fin 1024) : bh m c t (ix2 r a) = X0 m c (ix2 (pr t r) (pa t a)) := by
  rw [← h_eq m c]
  blk_ext [iblk, e0 t, pa, pr]

theorem ct_blk (r : Fin 2816) (e : Fin 1152) : bct m c t (ix2 r e) = X2 m c (ix2 (pr t r) (pe t e)) := by
  rw [← ct_eq m c]
  blk_ext [iblk, e1 t, pe, pr]

end Blocks

/-! ## The sum along the grid -/

theorem prev_lt (t : Fin cfg0.N) : t.val - 1 < cfg0.N := Nat.lt_of_le_of_lt (Nat.sub_le _ _) t.isLt

/-- The terms of one element of a point's block. -/
abbrev term (t : Fin cfg0.N) (a : Fin 1024) (e : Fin 1152) (r : Fin 8448) : EReal := X0 m c (ix2 r (pa t a)) * X2 m c (ix2 r (pe t e))

theorem term_pred (t : Fin cfg0.N) (h : ¬t.val % 3 = 0) (a : Fin 1024) (e : Fin 1152) : term m c ⟨t.val - 1, prev_lt t⟩ a e = term m c t a e := by
  have hN := lt_N t
  funext r
  unfold term
  rw [show pa ⟨t.val - 1, prev_lt t⟩ a = pa t a from Fin.ext rfl,
    show pe ⟨t.val - 1, prev_lt t⟩ e = pe t e from Fin.ext (by unfold pe; dsimp only; omega)]

/-- A point adds its rows' terms. -/
theorem add_rows (t : Fin cfg0.N) (a : Fin 1024) (e : Fin 1152) : cum (2816 * (t.val % 3) + 2816) (term m c t a e)
    = cum (2816 * (t.val % 3)) (term m c t a e) + ∑ r : Fin 2816, bh m c t (ix2 r a) * bct m c t (ix2 r e) := by
  rw [cum_add _ _ _ (by omega)]
  refine congrArg _ (Finset.sum_congr rfl fun r _ => ?_)
  rw [h_blk, ct_blk]
  rfl

/-- After a point the block holds the sums over the rows done so far. -/
theorem sum_at (n : ℕ) : ∀ (hn : n < cfg0.N) (a : Fin 1024) (e : Fin 1152),
    outsAt0 m c n hn (ix2 a e) = cum (2816 * (n % 3) + 2816) (term m c ⟨n, hn⟩ a e) := by
  induction n using Nat.strong_induction_on with
  | _ n ih =>
    intro hn a e
    rw [add_rows m c ⟨n, hn⟩ a e]
    by_cases h0 : n % 3 = 0
    · refine (congrFun (outsAt0_A m c ⟨n, hn⟩ h0 (by show ¬1 ≤ n % 3; omega)) (ix2 a e)).trans ?_
      rw [out_A, pay]
      show _ = cum (2816 * (n % 3)) _ + _
      rw [h0, mul_zero, cum_zero, zero_add]
    · refine (congrFun (outsAt0_B m c ⟨n, hn⟩ h0 (by show 1 ≤ n % 3; omega)) (ix2 a e)).trans ?_
      rw [out_B, pay']
      refine congrArg (· + _) ?_
      refine (ih (n - 1) (by omega) (prev_lt ⟨n, hn⟩) a e).trans ?_
      rw [term_pred m c ⟨n, hn⟩ h0 a e, show 2816 * ((n - 1) % 3) + 2816 = 2816 * (n % 3) by omega]

/-! ## The result -/

theorem final : (dats (F := Ideal) m 0 c).arrAt 2 cfg0.N = tn (X0 m c) (X2 m c) := by
  refine (dats (F := Ideal) m 0 c).arrAt_eq_of_covers 2 _ (by decide +kernel) fun t hf y => ?_
  have ht := (flush0_2 t).mp hf
  obtain ⟨a, e, rfl⟩ : ∃ (a : Fin 1024) (e : Fin 1152), y = ix2 a e := ⟨_, _, eq_ix2 (n0 := 1024) (n1 := 1152) y⟩
  rw [tn_of (X0 m c) (X2 m c) (pa t a) (pe t e) _ (by blk_simp [e2 t]; show _ = 1024 * (0) + a.val; omega)
    (by blk_simp [e2 t]; show _ = 1152 * (t.val / 3) + e.val; omega)]
  have hs := sum_at m c t.val t.isLt a e
  rw [ht, show 2816 * 2 + 2816 = 8448 from rfl, cum_all] at hs
  refine Eq.trans ?_ hs
  blk_simp
  rw [after0_2]

theorem frame_p : Cert.quiescent_Kernel12 := fun m g _ => Cert.Kernel12.Gen.frame m g
theorem frame_pi : Cert.quiescent_Kernel12Ideal := fun m g _ => Cert.Kernel12Ideal.Gen.frame m g
theorem frame_ri : Cert.quiescent_Reference12Ideal := fun m g _ =>
  (θ_run Cert.Reference12Ideal.defs _ _).mono (fun r h => ⟨fun c => (h c).2, sem_eq_zero_of_no_sems (by decide) r.2⟩) (Cert.Reference12Ideal.Value.run (F := Ideal) m g)
theorem preserves : Cert.preserves_Kernel12_Kernel12Ideal := trivial

theorem algebraic : Cert.algebraic_Kernel12Ideal_Reference12Ideal := by
  intro m g m' g' _ hagree
  refine ⟨_, (θ_run _ _ _).mono (fun r h => h) (Cert.Kernel12Ideal.Value.run_blocks (F := Ideal) m g), ?_⟩
  refine (θ_run _ _ _).mono (fun r h c => ?_) (Cert.Reference12Ideal.Value.run (F := Ideal) m' g')
  obtain ⟨a0, _, a2⟩ := hagree c
  refine ⟨?_, (h c).2⟩
  rw [(h c).1, final m c, Cert.Reference12Ideal.Read.val_main_v2_eq, a0, a2]
  funext i
  rw [Cert.Reference12Ideal.Read.val_main_v2_apply, Cert.Reference12Ideal.Read.val_main_v1_apply]
  refine Finset.sum_congr rfl fun r _ => (mul_comm _ _).trans (congrArg₂ (· * ·) (congrArg _ ?_) (congrArg _ ?_)) <;>
    exact funext fun b => match b with
      | ⟨0, _⟩ => rfl
      | ⟨1, _⟩ => rfl

end Cert.Products.InDw

end
-- ==== Proof.Products.Out.lean ====
/-
  The output projection: each grid point's block is the product of a block of 2048 rows of the
  left factor and a block of 1024 columns of the weights, over all 1024 terms at once.
-/
module

public import proofs.«01_k».proof.Defs
public import proofs.«01_k».proof.Proof.Products.Prod
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import Idealize.ShloMosaic.Lib.StableHlo.RunRead
public import Idealize.ShloMosaic.Lib.Pipeline.ValueKit

@[expose] public section

set_option maxRecDepth 16384

noncomputable section

namespace Cert.Products.Out

open Idealize.ShloMosaic Idealize.ShloMosaic.TcCoe Idealize.ShloMosaic.Tactic Idealize.SL.Sem Cert.Kernel13Ideal Cert.Kernel13Ideal.Gen Cert.Products
open Idealize.ShloMosaic.StableHlo
open Idealize.ShloMosaic.Pipeline (Dat)

variable (m : (ℓ : Loc nD τ sig) → Buf (Elt Ideal) ℓ) (c : Dev nD)

/-- The left factor and the weights a device holds. -/
abbrev X0 : S8192x1024.Idx → EReal := m ((c : Thread nD τ).loc main_arg0)
abbrev X1 : S1024x1024.Idx → EReal := m ((c : Thread nD τ).loc main_arg1)

/-! ## One block -/

theorem whole2 : (![0, 0] : Fin 2 → ℕ) = fun _ => 0 := by
  funext a
  match a with
  | ⟨0, _⟩ => rfl
  | ⟨1, _⟩ => rfl

theorem pay (x : Vec Ideal S2048x1024 .bf16) (y : Vec Ideal S1024x1024 .bf16) (a : Fin 2048) (e : Fin 1024) :
    k0_pay1 (F := Ideal) x y (ix2 a e) = ∑ r : Fin 1024, x (ix2 a r) * y (ix2 r e) := by
  pointwise [k0_pay1]

theorem out_eq (x : Vec Ideal S2048x1024 .bf16) (y : Vec Ideal S1024x1024 .bf16) : out0_2 (F := Ideal) x y = k0_pay1 (F := Ideal) x y := by
  unfold out0_2 r0_0 r0_1
  rw [View.canon_cons_unit_zero whole2, View.ld_unit_zero (S := S2048x1024) whole2, View.ld_unit_zero (S := S1024x1024) whole2]

/-! ## The arrays the blocks are cut from, and where the blocks lie -/

theorem h_eq : V (F := Ideal) m c main_v0 = X0 m c := by
  unfold V
  after_reads_simp
  rfl

theorem w_eq : V (F := Ideal) m c main_v1 = X1 m c := by
  unfold V
  after_reads_simp
  rfl

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

theorem lt_N (t : Fin cfg0.N) : t.val < 4 := lt_of_lt_of_eq t.isLt N_0

/-- A row and a column of a point's block, in the whole product. -/
def pa (t : Fin cfg0.N) (a : Fin 2048) : Fin 8192 := ⟨2048 * (t.val) + a.val, by have := lt_N t; omega⟩
def pe (t : Fin cfg0.N) (e : Fin 1024) : Fin 1024 := ⟨1024 * (0) + e.val, by have := lt_N t; omega⟩

variable (t : Fin cfg0.N)

theorem h_blk (a : Fin 2048) (r : Fin 1024) : iblk m c 0 t (ix2 a r) = X0 m c (ix2 (pa t a) r) := by
  rw [← h_eq m c]
  blk_ext [iblk, e0 t, pa]

theorem w_blk (e : Fin 1024) (r : Fin 1024) : iblk m c 1 t (ix2 r e) = X1 m c (ix2 r (pe t e)) := by
  rw [← w_eq m c]
  blk_ext [iblk, e1 t, pe]

/-! ## The result -/

theorem final : (dats (F := Ideal) m 0 c).arrAt 2 cfg0.N = nn (X0 m c) (X1 m c) := by
  refine (dats (F := Ideal) m 0 c).arrAt_eq_of_covers 2 _ (by decide +kernel) fun t hf y => ?_
  obtain ⟨a, e, rfl⟩ : ∃ (a : Fin 2048) (e : Fin 1024), y = ix2 a e := ⟨_, _, eq_ix2 (n0 := 2048) (n1 := 1024) y⟩
  rw [nn_of (X0 m c) (X1 m c) (pa t a) (pe t e) _ (by blk_simp [e2 t]; show _ = 2048 * (t.val) + a.val; omega)
    (by blk_simp [e2 t]; show _ = 1024 * (0) + e.val; omega)]
  refine Eq.trans ?_ ((pay (iblk m c 0 t) (iblk m c 1 t) a e).trans (Finset.sum_congr rfl fun r _ => congrArg₂ (· * ·) (h_blk m c t a r) (w_blk m c t e r)))
  rw [← out_eq]
  blk_simp
  rw [after0_2]

theorem frame_p : Cert.quiescent_Kernel13 := fun m g _ => Cert.Kernel13.Gen.frame m g
theorem frame_pi : Cert.quiescent_Kernel13Ideal := fun m g _ => Cert.Kernel13Ideal.Gen.frame m g
theorem frame_ri : Cert.quiescent_Reference13Ideal := fun m g _ =>
  (θ_run Cert.Reference13Ideal.defs _ _).mono (fun r h => ⟨fun c => (h c).2, sem_eq_zero_of_no_sems (by decide) r.2⟩) (Cert.Reference13Ideal.Value.run (F := Ideal) m g)
theorem preserves : Cert.preserves_Kernel13_Kernel13Ideal := trivial

theorem algebraic : Cert.algebraic_Kernel13Ideal_Reference13Ideal := by
  intro m g m' g' _ hagree
  refine ⟨_, (θ_run _ _ _).mono (fun r h => h) (Cert.Kernel13Ideal.Value.run_blocks (F := Ideal) m g), ?_⟩
  refine (θ_run _ _ _).mono (fun r h c => ?_) (Cert.Reference13Ideal.Value.run (F := Ideal) m' g')
  obtain ⟨a0, a1⟩ := hagree c
  refine ⟨?_, (h c).2⟩
  rw [(h c).1, final m c, Cert.Reference13Ideal.Read.val_main_v0_eq, a0, a1]
  funext i
  rw [Cert.Reference13Ideal.Read.val_main_v0_apply]
  refine Finset.sum_congr rfl fun r _ => congrArg₂ (· * ·) (congrArg _ ?_) (congrArg _ ?_) <;>
    exact funext fun b => match b with
      | ⟨0, _⟩ => rfl
      | ⟨1, _⟩ => rfl

end Cert.Products.Out

end
-- ==== Proof.Products.OutDx.lean ====
/-
  The gradient of the left factor of the output projection: each grid point's block is the product of a block of 2048 rows of the
  cotangent and a block of 1024 rows of the weights, over all 1024 columns at once.
-/
module

public import proofs.«01_k».proof.Defs
public import proofs.«01_k».proof.Proof.Products.Prod
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import Idealize.ShloMosaic.Lib.StableHlo.RunRead
public import Idealize.ShloMosaic.Lib.Pipeline.ValueKit

@[expose] public section

set_option maxRecDepth 16384

noncomputable section

namespace Cert.Products.OutDx

open Idealize.ShloMosaic Idealize.ShloMosaic.TcCoe Idealize.ShloMosaic.Tactic Idealize.SL.Sem Cert.Kernel14Ideal Cert.Kernel14Ideal.Gen Cert.Products
open Idealize.ShloMosaic.StableHlo
open Idealize.ShloMosaic.Pipeline (Dat)

variable (m : (ℓ : Loc nD τ sig) → Buf (Elt Ideal) ℓ) (c : Dev nD)

/-- The weights and the cotangent a device holds. -/
abbrev X1 : S1024x1024.Idx → EReal := m ((c : Thread nD τ).loc main_arg1)
abbrev X2 : S8192x1024.Idx → EReal := m ((c : Thread nD τ).loc main_arg2)

/-! ## One block -/

theorem whole2 : (![0, 0] : Fin 2 → ℕ) = fun _ => 0 := by
  funext a
  match a with
  | ⟨0, _⟩ => rfl
  | ⟨1, _⟩ => rfl

theorem pay (x : Vec Ideal S2048x1024 .bf16) (y : Vec Ideal S1024x1024 .bf16) (a : Fin 2048) (e : Fin 1024) :
    k0_pay1 (F := Ideal) x y (ix2 a e) = ∑ r : Fin 1024, x (ix2 a r) * y (ix2 e r) := by
  pointwise [k0_pay1]

theorem out_eq (x : Vec Ideal S2048x1024 .bf16) (y : Vec Ideal S1024x1024 .bf16) : out0_2 (F := Ideal) x y = k0_pay1 (F := Ideal) x y := by
  unfold out0_2 r0_0 r0_1
  rw [View.canon_cons_unit_zero whole2, View.ld_unit_zero (S := S2048x1024) whole2, View.ld_unit_zero (S := S1024x1024) whole2]

/-! ## The arrays the blocks are cut from, and where the blocks lie -/

theorem ct_eq : V (F := Ideal) m c main_v0 = X2 m c := by
  unfold V
  after_reads_simp
  rfl

theorem w_eq : V (F := Ideal) m c main_v1 = X1 m c := by
  unfold V
  after_reads_simp
  rfl

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

theorem lt_N (t : Fin cfg0.N) : t.val < 4 := lt_of_lt_of_eq t.isLt N_0

/-- A row and a column of a point's block, in the whole product. -/
def pa (t : Fin cfg0.N) (a : Fin 2048) : Fin 8192 := ⟨2048 * (t.val) + a.val, by have := lt_N t; omega⟩
def pe (t : Fin cfg0.N) (e : Fin 1024) : Fin 1024 := ⟨1024 * (0) + e.val, by have := lt_N t; omega⟩

variable (t : Fin cfg0.N)

theorem ct_blk (a : Fin 2048) (r : Fin 1024) : iblk m c 0 t (ix2 a r) = X2 m c (ix2 (pa t a) r) := by
  rw [← ct_eq m c]
  blk_ext [iblk, e0 t, pa]

theorem w_blk (e : Fin 1024) (r : Fin 1024) : iblk m c 1 t (ix2 e r) = X1 m c (ix2 (pe t e) r) := by
  rw [← w_eq m c]
  blk_ext [iblk, e1 t, pe]

/-! ## The result -/

theorem final : (dats (F := Ideal) m 0 c).arrAt 2 cfg0.N = nt (X2 m c) (X1 m c) := by
  refine (dats (F := Ideal) m 0 c).arrAt_eq_of_covers 2 _ (by decide +kernel) fun t hf y => ?_
  obtain ⟨a, e, rfl⟩ : ∃ (a : Fin 2048) (e : Fin 1024), y = ix2 a e := ⟨_, _, eq_ix2 (n0 := 2048) (n1 := 1024) y⟩
  rw [nt_of (X2 m c) (X1 m c) (pa t a) (pe t e) _ (by blk_simp [e2 t]; show _ = 2048 * (t.val) + a.val; omega)
    (by blk_simp [e2 t]; show _ = 1024 * (0) + e.val; omega)]
  refine Eq.trans ?_ ((pay (iblk m c 0 t) (iblk m c 1 t) a e).trans (Finset.sum_congr rfl fun r _ => congrArg₂ (· * ·) (ct_blk m c t a r) (w_blk m c t e r)))
  rw [← out_eq]
  blk_simp
  rw [after0_2]

theorem frame_p : Cert.quiescent_Kernel14 := fun m g _ => Cert.Kernel14.Gen.frame m g
theorem frame_pi : Cert.quiescent_Kernel14Ideal := fun m g _ => Cert.Kernel14Ideal.Gen.frame m g
theorem frame_ri : Cert.quiescent_Reference14Ideal := fun m g _ =>
  (θ_run Cert.Reference14Ideal.defs _ _).mono (fun r h => ⟨fun c => (h c).2, sem_eq_zero_of_no_sems (by decide) r.2⟩) (Cert.Reference14Ideal.Value.run (F := Ideal) m g)
theorem preserves : Cert.preserves_Kernel14_Kernel14Ideal := trivial

theorem algebraic : Cert.algebraic_Kernel14Ideal_Reference14Ideal := by
  intro m g m' g' _ hagree
  refine ⟨_, (θ_run _ _ _).mono (fun r h => h) (Cert.Kernel14Ideal.Value.run_blocks (F := Ideal) m g), ?_⟩
  refine (θ_run _ _ _).mono (fun r h c => ?_) (Cert.Reference14Ideal.Value.run (F := Ideal) m' g')
  obtain ⟨_, a1, a2⟩ := hagree c
  refine ⟨?_, (h c).2⟩
  rw [(h c).1, final m c, Cert.Reference14Ideal.Read.val_main_v3_eq, a1, a2]
  funext i
  rw [Cert.Reference14Ideal.Read.val_main_v3_apply]
  refine Finset.sum_congr rfl fun r _ => congrArg₂ (· * ·) (congrArg _ ?_) (congrArg _ ?_) <;>
    exact funext fun b => match b with
      | ⟨0, _⟩ => rfl
      | ⟨1, _⟩ => rfl

end Cert.Products.OutDx

end
-- ==== Proof.Products.OutDw.lean ====
/-
  The gradient of the weights of the output projection: 4 grid points follow each other on a block of 1024 by 1024 of the
  result; each adds the product over 2048 of the 8192 rows to what the one before left.
-/
module

public import proofs.«01_k».proof.Defs
public import proofs.«01_k».proof.Proof.Products.Prod
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import Idealize.ShloMosaic.Lib.StableHlo.RunRead
public import Idealize.ShloMosaic.Lib.Pipeline.ValueKit

@[expose] public section

set_option maxRecDepth 16384

noncomputable section

namespace Cert.Products.OutDw

open Idealize.ShloMosaic Idealize.ShloMosaic.TcCoe Idealize.ShloMosaic.Tactic Idealize.SL.Sem Cert.Kernel15Ideal Cert.Kernel15Ideal.Gen Cert.Products Cert.Fwd
open Idealize.ShloMosaic.StableHlo
open Idealize.ShloMosaic.Pipeline (Dat)

/-! ## One block -/

section Body

variable (c : Dev nD) (i : grid0.Coords) (arg3 : Memref sig .tc .vmem S2048x1024 .bf16) (harg3 : arg3.IsWhole)
  (arg4 : Memref sig .tc .vmem S2048x1024 .bf16) (harg4 : arg4.IsWhole) (arg5 : Memref sig .tc .vmem S1024x1024 .f32) (harg5 : arg5.IsWhole)
  (x : Vec Ideal S2048x1024 .bf16) (y : Vec Ideal S2048x1024 .bf16) (o : Vec Ideal S1024x1024 .f32)

theorem whole2 : (![0, 0] : Fin 2 → ℕ) = fun _ => 0 := by
  funext a
  match a with
  | ⟨0, _⟩ => rfl
  | ⟨1, _⟩ => rfl

theorem pay (a : Fin 1024) (e : Fin 1024) : k0_pay1 (F := Ideal) x y (ix2 a e) = ∑ r : Fin 2048, x (ix2 r a) * y (ix2 r e) := by
  pointwise [k0_pay1]

theorem pay' (a : Fin 1024) (e : Fin 1024) : k0_pay2 (F := Ideal) x y o (ix2 a e) = o (ix2 a e) + ∑ r : Fin 2048, x (ix2 r a) * y (ix2 r e) := by
  rw [← pay]
  pointwise [k0_pay2]

theorem out_A (hc0 : cond0_0 i) (hc1 : ¬cond0_1 i) : out0_A_2 c i arg3 harg3 arg4 harg4 arg5 harg5 hc0 hc1 x y = k0_pay1 (F := Ideal) x y := by
  unfold out0_A_2
  rw [View.read_writes_junk_eq_canon]
  unfold kernelRun0_A
  dsimp only
  sl_unfold_words
  simp only [View.readAt_eq_ld, Memref.IsWhole.read_unread, View.ld_unit_zero (S := S2048x1024) whole2, View.ld_unit_zero (S := S2048x1024) whole2]
  rw [View.canon_cons_unit_zero whole2]

theorem out_B (hc0 : ¬cond0_0 i) (hc1 : cond0_1 i) : out0_B_2 c i arg3 harg3 arg4 harg4 arg5 harg5 hc0 hc1 x y o = k0_pay2 (F := Ideal) x y o := by
  unfold out0_B_2
  rw [View.read_writes_junk_eq_canon]
  unfold kernelRun0_B
  dsimp only
  sl_unfold_words
  simp only [View.readAt_eq_ld, Memref.IsWhole.read_unread, View.ld_unit_zero (S := S2048x1024) whole2, View.ld_unit_zero (S := S2048x1024) whole2,
    View.ld_unit_zero (S := S1024x1024) whole2]
  rw [View.canon_cons_unit_zero whole2]

end Body

variable (m : (ℓ : Loc nD τ sig) → Buf (Elt Ideal) ℓ) (c : Dev nD)

/-- The left factor and the cotangent a device holds. -/
abbrev X0 : S8192x1024.Idx → EReal := m ((c : Thread nD τ).loc main_arg0)
abbrev X2 : S8192x1024.Idx → EReal := m ((c : Thread nD τ).loc main_arg2)

/-! ## The arrays the blocks are cut from, and where the blocks lie -/

theorem h_eq : V (F := Ideal) m c main_v0 = X0 m c := by
  unfold V
  after_reads_simp
  rfl

theorem ct_eq : V (F := Ideal) m c main_v1 = X2 m c := by
  unfold V
  after_reads_simp
  rfl

theorem e0 : ∀ t : Fin cfg0.N, win0_0.index t = ![t.val % 4, 0] := (by decide +kernel : ∀ t : Fin grid0.N, _)
theorem e1 : ∀ t : Fin cfg0.N, win0_1.index t = ![t.val % 4, 0] := (by decide +kernel : ∀ t : Fin grid0.N, _)
theorem e2 : ∀ t : Fin cfg0.N, win0_2.index t = ![0, 0] := (by decide +kernel : ∀ t : Fin grid0.N, _)

theorem lt_N (t : Fin cfg0.N) : t.val < 4 := lt_of_lt_of_eq t.isLt N_0

/-- A row and a column of a point's block, in the whole product; a row of its factors. -/
def pa (t : Fin cfg0.N) (a : Fin 1024) : Fin 1024 := ⟨1024 * (0) + a.val, by have := lt_N t; omega⟩
def pe (t : Fin cfg0.N) (e : Fin 1024) : Fin 1024 := ⟨1024 * (0) + e.val, by have := lt_N t; omega⟩
def pr (t : Fin cfg0.N) (r : Fin 2048) : Fin 8192 := ⟨2048 * (t.val % 4) + r.val, by omega⟩

section Blocks

variable (t : Fin cfg0.N)

/-- The blocks a point reads. -/
abbrev bh : Vec Ideal S2048x1024 .bf16 := iblk m c 0 t
abbrev bct : Vec Ideal S2048x1024 .bf16 := iblk m c 1 t

theorem h_blk (r : Fin 2048) (a : Fin 1024) : bh m c t (ix2 r a) = X0 m c (ix2 (pr t r) (pa t a)) := by
  rw [← h_eq m c]
  blk_ext [iblk, e0 t, pa, pr]

theorem ct_blk (r : Fin 2048) (e : Fin 1024) : bct m c t (ix2 r e) = X2 m c (ix2 (pr t r) (pe t e)) := by
  rw [← ct_eq m c]
  blk_ext [iblk, e1 t, pe, pr]

end Blocks

/-! ## The sum along the grid -/

theorem prev_lt (t : Fin cfg0.N) : t.val - 1 < cfg0.N := Nat.lt_of_le_of_lt (Nat.sub_le _ _) t.isLt

/-- The terms of one element of a point's block. -/
abbrev term (t : Fin cfg0.N) (a : Fin 1024) (e : Fin 1024) (r : Fin 8192) : EReal := X0 m c (ix2 r (pa t a)) * X2 m c (ix2 r (pe t e))

theorem term_pred (t : Fin cfg0.N) (h : ¬t.val % 4 = 0) (a : Fin 1024) (e : Fin 1024) : term m c ⟨t.val - 1, prev_lt t⟩ a e = term m c t a e := by
  have hN := lt_N t
  funext r
  unfold term
  rw [show pa ⟨t.val - 1, prev_lt t⟩ a = pa t a from Fin.ext rfl,
    show pe ⟨t.val - 1, prev_lt t⟩ e = pe t e from Fin.ext rfl]

/-- A point adds its rows' terms. -/
theorem add_rows (t : Fin cfg0.N) (a : Fin 1024) (e : Fin 1024) : cum (2048 * (t.val % 4) + 2048) (term m c t a e)
    = cum (2048 * (t.val % 4)) (term m c t a e) + ∑ r : Fin 2048, bh m c t (ix2 r a) * bct m c t (ix2 r e) := by
  rw [cum_add _ _ _ (by omega)]
  refine congrArg _ (Finset.sum_congr rfl fun r _ => ?_)
  rw [h_blk, ct_blk]
  rfl

/-- After a point the block holds the sums over the rows done so far. -/
theorem sum_at (n : ℕ) : ∀ (hn : n < cfg0.N) (a : Fin 1024) (e : Fin 1024),
    outsAt0 m c n hn (ix2 a e) = cum (2048 * (n % 4) + 2048) (term m c ⟨n, hn⟩ a e) := by
  induction n using Nat.strong_induction_on with
  | _ n ih =>
    intro hn a e
    rw [add_rows m c ⟨n, hn⟩ a e]
    by_cases h0 : n % 4 = 0
    · refine (congrFun (outsAt0_A m c ⟨n, hn⟩ h0 (by show ¬1 ≤ n; have hN := lt_N ⟨n, hn⟩; dsimp only at hN; omega)) (ix2 a e)).trans ?_
      rw [out_A, pay]
      show _ = cum (2048 * (n % 4)) _ + _
      rw [h0, mul_zero, cum_zero, zero_add]
    · refine (congrFun (outsAt0_B m c ⟨n, hn⟩ h0 (by show 1 ≤ n; omega)) (ix2 a e)).trans ?_
      rw [out_B, pay']
      refine congrArg (· + _) ?_
      refine (ih (n - 1) (by omega) (prev_lt ⟨n, hn⟩) a e).trans ?_
      rw [term_pred m c ⟨n, hn⟩ h0 a e, show 2048 * ((n - 1) % 4) + 2048 = 2048 * (n % 4) by omega]

/-! ## The result -/

theorem final : (dats (F := Ideal) m 0 c).arrAt 2 cfg0.N = tn (X0 m c) (X2 m c) := by
  refine (dats (F := Ideal) m 0 c).arrAt_eq_of_covers 2 _ (by decide +kernel) fun t hf y => ?_
  have ht := (flush0_2 t).mp hf
  obtain ⟨a, e, rfl⟩ : ∃ (a : Fin 1024) (e : Fin 1024), y = ix2 a e := ⟨_, _, eq_ix2 (n0 := 1024) (n1 := 1024) y⟩
  rw [tn_of (X0 m c) (X2 m c) (pa t a) (pe t e) _ (by blk_simp [e2 t]; show _ = 1024 * (0) + a.val; omega)
    (by blk_simp [e2 t]; show _ = 1024 * (0) + e.val; omega)]
  have hs := sum_at m c t.val t.isLt a e
  rw [ht, show 2048 * 3 + 2048 = 8192 from rfl, cum_all] at hs
  refine Eq.trans ?_ hs
  blk_simp
  rw [after0_2]

theorem frame_p : Cert.quiescent_Kernel15 := fun m g _ => Cert.Kernel15.Gen.frame m g
theorem frame_pi : Cert.quiescent_Kernel15Ideal := fun m g _ => Cert.Kernel15Ideal.Gen.frame m g
theorem frame_ri : Cert.quiescent_Reference15Ideal := fun m g _ =>
  (θ_run Cert.Reference15Ideal.defs _ _).mono (fun r h => ⟨fun c => (h c).2, sem_eq_zero_of_no_sems (by decide) r.2⟩) (Cert.Reference15Ideal.Value.run (F := Ideal) m g)
theorem preserves : Cert.preserves_Kernel15_Kernel15Ideal := trivial

theorem algebraic : Cert.algebraic_Kernel15Ideal_Reference15Ideal := by
  intro m g m' g' _ hagree
  refine ⟨_, (θ_run _ _ _).mono (fun r h => h) (Cert.Kernel15Ideal.Value.run_blocks (F := Ideal) m g), ?_⟩
  refine (θ_run _ _ _).mono (fun r h c => ?_) (Cert.Reference15Ideal.Value.run (F := Ideal) m' g')
  obtain ⟨a0, _, a2⟩ := hagree c
  refine ⟨?_, (h c).2⟩
  rw [(h c).1, final m c, Cert.Reference15Ideal.Read.val_main_v2_eq, a0, a2]
  funext i
  rw [Cert.Reference15Ideal.Read.val_main_v2_apply, Cert.Reference15Ideal.Read.val_main_v1_apply]
  refine Finset.sum_congr rfl fun r _ => (mul_comm _ _).trans (congrArg₂ (· * ·) (congrArg _ ?_) (congrArg _ ?_)) <;>
    exact funext fun b => match b with
      | ⟨0, _⟩ => rfl
      | ⟨1, _⟩ => rfl

end Cert.Products.OutDw

end
-- ==== Proof.Products.Glu.lean ====
/-
  The state-space branch's projection: each grid point's block is the product of a block of 2048 rows of the
  left factor and a block of 1024 columns of the weights, over all 512 terms at once.
-/
module

public import proofs.«01_k».proof.Defs
public import proofs.«01_k».proof.Proof.Products.Prod
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import Idealize.ShloMosaic.Lib.StableHlo.RunRead
public import Idealize.ShloMosaic.Lib.Pipeline.ValueKit

@[expose] public section

set_option maxRecDepth 16384

noncomputable section

namespace Cert.Products.Glu

open Idealize.ShloMosaic Idealize.ShloMosaic.TcCoe Idealize.ShloMosaic.Tactic Idealize.SL.Sem Cert.Kernel16Ideal Cert.Kernel16Ideal.Gen Cert.Products
open Idealize.ShloMosaic.StableHlo
open Idealize.ShloMosaic.Pipeline (Dat)

variable (m : (ℓ : Loc nD τ sig) → Buf (Elt Ideal) ℓ) (c : Dev nD)

/-- The left factor and the weights a device holds. -/
abbrev X0 : S8192x512.Idx → EReal := m ((c : Thread nD τ).loc main_arg0)
abbrev X1 : S512x2048.Idx → EReal := m ((c : Thread nD τ).loc main_arg1)

/-! ## One block -/

theorem whole2 : (![0, 0] : Fin 2 → ℕ) = fun _ => 0 := by
  funext a
  match a with
  | ⟨0, _⟩ => rfl
  | ⟨1, _⟩ => rfl

theorem pay (x : Vec Ideal S2048x512 .bf16) (y : Vec Ideal S512x1024 .bf16) (a : Fin 2048) (e : Fin 1024) :
    k0_pay1 (F := Ideal) x y (ix2 a e) = ∑ r : Fin 512, x (ix2 a r) * y (ix2 r e) := by
  pointwise [k0_pay1]

theorem out_eq (x : Vec Ideal S2048x512 .bf16) (y : Vec Ideal S512x1024 .bf16) : out0_2 (F := Ideal) x y = k0_pay1 (F := Ideal) x y := by
  unfold out0_2 r0_0 r0_1 r0_2
  rw [View.canon_cons_unit_zero whole2, View.ld_unit_zero (S := S2048x512) whole2, View.ld_unit_zero (S := S512x1024) whole2]

/-! ## The arrays the blocks are cut from, and where the blocks lie -/

theorem h_eq : V (F := Ideal) m c main_v0 = X0 m c := by
  unfold V
  after_reads_simp
  rfl

theorem w_eq : V (F := Ideal) m c main_v1 = X1 m c := by
  unfold V
  after_reads_simp
  rfl

theorem e0 : ∀ t : Fin cfg0.N, win0_0.index t = ![t.val / 2, 0] := (by decide +kernel : ∀ t : Fin grid0.N, _)
theorem e1 : ∀ t : Fin cfg0.N, win0_1.index t = ![0, t.val % 2] := (by decide +kernel : ∀ t : Fin grid0.N, _)
theorem e2 : ∀ t : Fin cfg0.N, win0_2.index t = ![t.val / 2, t.val % 2] := (by decide +kernel : ∀ t : Fin grid0.N, _)

theorem lt_N (t : Fin cfg0.N) : t.val < 8 := lt_of_lt_of_eq t.isLt N_0

/-- A row and a column of a point's block, in the whole product. -/
def pa (t : Fin cfg0.N) (a : Fin 2048) : Fin 8192 := ⟨2048 * (t.val / 2) + a.val, by have := lt_N t; omega⟩
def pe (t : Fin cfg0.N) (e : Fin 1024) : Fin 2048 := ⟨1024 * (t.val % 2) + e.val, by have := lt_N t; omega⟩

variable (t : Fin cfg0.N)

theorem h_blk (a : Fin 2048) (r : Fin 512) : iblk m c 0 t (ix2 a r) = X0 m c (ix2 (pa t a) r) := by
  rw [← h_eq m c]
  blk_ext [iblk, e0 t, pa]

theorem w_blk (e : Fin 1024) (r : Fin 512) : iblk m c 1 t (ix2 r e) = X1 m c (ix2 r (pe t e)) := by
  rw [← w_eq m c]
  blk_ext [iblk, e1 t, pe]

/-! ## The result -/

theorem final : (dats (F := Ideal) m 0 c).arrAt 2 cfg0.N = nn (X0 m c) (X1 m c) := by
  refine (dats (F := Ideal) m 0 c).arrAt_eq_of_covers 2 _ (by decide +kernel) fun t hf y => ?_
  obtain ⟨a, e, rfl⟩ : ∃ (a : Fin 2048) (e : Fin 1024), y = ix2 a e := ⟨_, _, eq_ix2 (n0 := 2048) (n1 := 1024) y⟩
  rw [nn_of (X0 m c) (X1 m c) (pa t a) (pe t e) _ (by blk_simp [e2 t]; show _ = 2048 * (t.val / 2) + a.val; omega)
    (by blk_simp [e2 t]; show _ = 1024 * (t.val % 2) + e.val; omega)]
  refine Eq.trans ?_ ((pay (iblk m c 0 t) (iblk m c 1 t) a e).trans (Finset.sum_congr rfl fun r _ => congrArg₂ (· * ·) (h_blk m c t a r) (w_blk m c t e r)))
  rw [← out_eq]
  blk_simp
  rw [after0_2]

theorem frame_p : Cert.quiescent_Kernel16 := fun m g _ => Cert.Kernel16.Gen.frame m g
theorem frame_pi : Cert.quiescent_Kernel16Ideal := fun m g _ => Cert.Kernel16Ideal.Gen.frame m g
theorem frame_ri : Cert.quiescent_Reference16Ideal := fun m g _ =>
  (θ_run Cert.Reference16Ideal.defs _ _).mono (fun r h => ⟨fun c => (h c).2, sem_eq_zero_of_no_sems (by decide) r.2⟩) (Cert.Reference16Ideal.Value.run (F := Ideal) m g)
theorem preserves : Cert.preserves_Kernel16_Kernel16Ideal := trivial

theorem algebraic : Cert.algebraic_Kernel16Ideal_Reference16Ideal := by
  intro m g m' g' _ hagree
  refine ⟨_, (θ_run _ _ _).mono (fun r h => h) (Cert.Kernel16Ideal.Value.run_blocks (F := Ideal) m g), ?_⟩
  refine (θ_run _ _ _).mono (fun r h c => ?_) (Cert.Reference16Ideal.Value.run (F := Ideal) m' g')
  obtain ⟨a0, a1⟩ := hagree c
  refine ⟨?_, (h c).2⟩
  rw [(h c).1, final m c, Cert.Reference16Ideal.Read.val_main_v0_eq, a0, a1]
  funext i
  rw [Cert.Reference16Ideal.Read.val_main_v0_apply]
  refine Finset.sum_congr rfl fun r _ => congrArg₂ (· * ·) (congrArg _ ?_) (congrArg _ ?_) <;>
    exact funext fun b => match b with
      | ⟨0, _⟩ => rfl
      | ⟨1, _⟩ => rfl

end Cert.Products.Glu

end
-- ==== Proof.Products.GluDx.lean ====
/-
  The gradient of the left factor of the state-space branch's projection: each grid point's block is the product of a block of 2048 rows of the
  cotangent and a block of 512 rows of the weights, over all 2048 columns at once.
-/
module

public import proofs.«01_k».proof.Defs
public import proofs.«01_k».proof.Proof.Products.Prod
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import Idealize.ShloMosaic.Lib.StableHlo.RunRead
public import Idealize.ShloMosaic.Lib.Pipeline.ValueKit

@[expose] public section

set_option maxRecDepth 16384

noncomputable section

namespace Cert.Products.GluDx

open Idealize.ShloMosaic Idealize.ShloMosaic.TcCoe Idealize.ShloMosaic.Tactic Idealize.SL.Sem Cert.Kernel17Ideal Cert.Kernel17Ideal.Gen Cert.Products
open Idealize.ShloMosaic.StableHlo
open Idealize.ShloMosaic.Pipeline (Dat)

variable (m : (ℓ : Loc nD τ sig) → Buf (Elt Ideal) ℓ) (c : Dev nD)

/-- The weights and the cotangent a device holds. -/
abbrev X1 : S512x2048.Idx → EReal := m ((c : Thread nD τ).loc main_arg1)
abbrev X2 : S8192x2048.Idx → EReal := m ((c : Thread nD τ).loc main_arg2)

/-! ## One block -/

theorem whole2 : (![0, 0] : Fin 2 → ℕ) = fun _ => 0 := by
  funext a
  match a with
  | ⟨0, _⟩ => rfl
  | ⟨1, _⟩ => rfl

theorem pay (x : Vec Ideal S2048x2048 .bf16) (y : Vec Ideal S512x2048 .bf16) (a : Fin 2048) (e : Fin 512) :
    k0_pay1 (F := Ideal) x y (ix2 a e) = ∑ r : Fin 2048, x (ix2 a r) * y (ix2 e r) := by
  pointwise [k0_pay1]

theorem out_eq (x : Vec Ideal S2048x2048 .bf16) (y : Vec Ideal S512x2048 .bf16) : out0_2 (F := Ideal) x y = k0_pay1 (F := Ideal) x y := by
  unfold out0_2 r0_0 r0_1 r0_2
  rw [View.canon_cons_unit_zero whole2, View.ld_unit_zero (S := S2048x2048) whole2, View.ld_unit_zero (S := S512x2048) whole2]

/-! ## The arrays the blocks are cut from, and where the blocks lie -/

theorem ct_eq : V (F := Ideal) m c main_v0 = X2 m c := by
  unfold V
  after_reads_simp
  rfl

theorem w_eq : V (F := Ideal) m c main_v1 = X1 m c := by
  unfold V
  after_reads_simp
  rfl

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

theorem lt_N (t : Fin cfg0.N) : t.val < 4 := lt_of_lt_of_eq t.isLt N_0

/-- A row and a column of a point's block, in the whole product. -/
def pa (t : Fin cfg0.N) (a : Fin 2048) : Fin 8192 := ⟨2048 * (t.val) + a.val, by have := lt_N t; omega⟩
def pe (t : Fin cfg0.N) (e : Fin 512) : Fin 512 := ⟨512 * (0) + e.val, by have := lt_N t; omega⟩

variable (t : Fin cfg0.N)

theorem ct_blk (a : Fin 2048) (r : Fin 2048) : iblk m c 0 t (ix2 a r) = X2 m c (ix2 (pa t a) r) := by
  rw [← ct_eq m c]
  blk_ext [iblk, e0 t, pa]

theorem w_blk (e : Fin 512) (r : Fin 2048) : iblk m c 1 t (ix2 e r) = X1 m c (ix2 (pe t e) r) := by
  rw [← w_eq m c]
  blk_ext [iblk, e1 t, pe]

/-! ## The result -/

theorem final : (dats (F := Ideal) m 0 c).arrAt 2 cfg0.N = nt (X2 m c) (X1 m c) := by
  refine (dats (F := Ideal) m 0 c).arrAt_eq_of_covers 2 _ (by decide +kernel) fun t hf y => ?_
  obtain ⟨a, e, rfl⟩ : ∃ (a : Fin 2048) (e : Fin 512), y = ix2 a e := ⟨_, _, eq_ix2 (n0 := 2048) (n1 := 512) y⟩
  rw [nt_of (X2 m c) (X1 m c) (pa t a) (pe t e) _ (by blk_simp [e2 t]; show _ = 2048 * (t.val) + a.val; omega)
    (by blk_simp [e2 t]; show _ = 512 * (0) + e.val; omega)]
  refine Eq.trans ?_ ((pay (iblk m c 0 t) (iblk m c 1 t) a e).trans (Finset.sum_congr rfl fun r _ => congrArg₂ (· * ·) (ct_blk m c t a r) (w_blk m c t e r)))
  rw [← out_eq]
  blk_simp
  rw [after0_2]

theorem frame_p : Cert.quiescent_Kernel17 := fun m g _ => Cert.Kernel17.Gen.frame m g
theorem frame_pi : Cert.quiescent_Kernel17Ideal := fun m g _ => Cert.Kernel17Ideal.Gen.frame m g
theorem frame_ri : Cert.quiescent_Reference17Ideal := fun m g _ =>
  (θ_run Cert.Reference17Ideal.defs _ _).mono (fun r h => ⟨fun c => (h c).2, sem_eq_zero_of_no_sems (by decide) r.2⟩) (Cert.Reference17Ideal.Value.run (F := Ideal) m g)
theorem preserves : Cert.preserves_Kernel17_Kernel17Ideal := trivial

theorem algebraic : Cert.algebraic_Kernel17Ideal_Reference17Ideal := by
  intro m g m' g' _ hagree
  refine ⟨_, (θ_run _ _ _).mono (fun r h => h) (Cert.Kernel17Ideal.Value.run_blocks (F := Ideal) m g), ?_⟩
  refine (θ_run _ _ _).mono (fun r h c => ?_) (Cert.Reference17Ideal.Value.run (F := Ideal) m' g')
  obtain ⟨_, a1, a2⟩ := hagree c
  refine ⟨?_, (h c).2⟩
  rw [(h c).1, final m c, Cert.Reference17Ideal.Read.val_main_v3_eq, a1, a2]
  funext i
  rw [Cert.Reference17Ideal.Read.val_main_v3_apply]
  refine Finset.sum_congr rfl fun r _ => congrArg₂ (· * ·) (congrArg _ ?_) (congrArg _ ?_) <;>
    exact funext fun b => match b with
      | ⟨0, _⟩ => rfl
      | ⟨1, _⟩ => rfl

end Cert.Products.GluDx

end
-- ==== Proof.Products.GluDw.lean ====
/-
  The gradient of the weights of the state-space branch's projection: 4 grid points follow each other on a block of 512 by 1024 of the
  result; each adds the product over 2048 of the 8192 rows to what the one before left.
-/
module

public import proofs.«01_k».proof.Defs
public import proofs.«01_k».proof.Proof.Products.Prod
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import Idealize.ShloMosaic.Lib.StableHlo.RunRead
public import Idealize.ShloMosaic.Lib.Pipeline.ValueKit

@[expose] public section

set_option maxRecDepth 16384

noncomputable section

namespace Cert.Products.GluDw

open Idealize.ShloMosaic Idealize.ShloMosaic.TcCoe Idealize.ShloMosaic.Tactic Idealize.SL.Sem Cert.Kernel18Ideal Cert.Kernel18Ideal.Gen Cert.Products Cert.Fwd
open Idealize.ShloMosaic.StableHlo
open Idealize.ShloMosaic.Pipeline (Dat)

/-! ## One block -/

section Body

variable (c : Dev nD) (i : grid0.Coords) (arg3 : Memref sig .tc .vmem S2048x512 .bf16) (harg3 : arg3.IsWhole)
  (arg4 : Memref sig .tc .vmem S2048x1024 .bf16) (harg4 : arg4.IsWhole) (arg5 : Memref sig .tc .vmem S512x1024 .f32) (harg5 : arg5.IsWhole)
  (x : Vec Ideal S2048x512 .bf16) (y : Vec Ideal S2048x1024 .bf16) (o : Vec Ideal S512x1024 .f32)

theorem whole2 : (![0, 0] : Fin 2 → ℕ) = fun _ => 0 := by
  funext a
  match a with
  | ⟨0, _⟩ => rfl
  | ⟨1, _⟩ => rfl

theorem pay (a : Fin 512) (e : Fin 1024) : k0_pay1 (F := Ideal) x y (ix2 a e) = ∑ r : Fin 2048, x (ix2 r a) * y (ix2 r e) := by
  pointwise [k0_pay1]

theorem pay' (a : Fin 512) (e : Fin 1024) : k0_pay2 (F := Ideal) x y o (ix2 a e) = o (ix2 a e) + ∑ r : Fin 2048, x (ix2 r a) * y (ix2 r e) := by
  rw [← pay]
  pointwise [k0_pay2]

theorem out_A (hc0 : cond0_0 i) (hc1 : ¬cond0_1 i) : out0_A_2 c i arg3 harg3 arg4 harg4 arg5 harg5 hc0 hc1 x y = k0_pay1 (F := Ideal) x y := by
  unfold out0_A_2
  rw [View.read_writes_junk_eq_canon]
  unfold kernelRun0_A
  dsimp only
  sl_unfold_words
  simp only [View.readAt_eq_ld, Memref.IsWhole.read_unread, View.ld_unit_zero (S := S2048x512) whole2, View.ld_unit_zero (S := S2048x1024) whole2]
  rw [View.canon_cons_unit_zero whole2]

theorem out_B (hc0 : ¬cond0_0 i) (hc1 : cond0_1 i) : out0_B_2 c i arg3 harg3 arg4 harg4 arg5 harg5 hc0 hc1 x y o = k0_pay2 (F := Ideal) x y o := by
  unfold out0_B_2
  rw [View.read_writes_junk_eq_canon]
  unfold kernelRun0_B
  dsimp only
  sl_unfold_words
  simp only [View.readAt_eq_ld, Memref.IsWhole.read_unread, View.ld_unit_zero (S := S2048x512) whole2, View.ld_unit_zero (S := S2048x1024) whole2,
    View.ld_unit_zero (S := S512x1024) whole2]
  rw [View.canon_cons_unit_zero whole2]

end Body

variable (m : (ℓ : Loc nD τ sig) → Buf (Elt Ideal) ℓ) (c : Dev nD)

/-- The left factor and the cotangent a device holds. -/
abbrev X0 : S8192x512.Idx → EReal := m ((c : Thread nD τ).loc main_arg0)
abbrev X2 : S8192x2048.Idx → EReal := m ((c : Thread nD τ).loc main_arg2)

/-! ## The arrays the blocks are cut from, and where the blocks lie -/

theorem h_eq : V (F := Ideal) m c main_v0 = X0 m c := by
  unfold V
  after_reads_simp
  rfl

theorem ct_eq : V (F := Ideal) m c main_v1 = X2 m c := by
  unfold V
  after_reads_simp
  rfl

theorem e0 : ∀ t : Fin cfg0.N, win0_0.index t = ![t.val % 4, 0] := (by decide +kernel : ∀ t : Fin grid0.N, _)
theorem e1 : ∀ t : Fin cfg0.N, win0_1.index t = ![t.val % 4, t.val / 4] := (by decide +kernel : ∀ t : Fin grid0.N, _)
theorem e2 : ∀ t : Fin cfg0.N, win0_2.index t = ![0, t.val / 4] := (by decide +kernel : ∀ t : Fin grid0.N, _)

theorem lt_N (t : Fin cfg0.N) : t.val < 8 := lt_of_lt_of_eq t.isLt N_0

/-- A row and a column of a point's block, in the whole product; a row of its factors. -/
def pa (t : Fin cfg0.N) (a : Fin 512) : Fin 512 := ⟨512 * (0) + a.val, by have := lt_N t; omega⟩
def pe (t : Fin cfg0.N) (e : Fin 1024) : Fin 2048 := ⟨1024 * (t.val / 4) + e.val, by have := lt_N t; omega⟩
def pr (t : Fin cfg0.N) (r : Fin 2048) : Fin 8192 := ⟨2048 * (t.val % 4) + r.val, by omega⟩

section Blocks

variable (t : Fin cfg0.N)

/-- The blocks a point reads. -/
abbrev bh : Vec Ideal S2048x512 .bf16 := iblk m c 0 t
abbrev bct : Vec Ideal S2048x1024 .bf16 := iblk m c 1 t

theorem h_blk (r : Fin 2048) (a : Fin 512) : bh m c t (ix2 r a) = X0 m c (ix2 (pr t r) (pa t a)) := by
  rw [← h_eq m c]
  blk_ext [iblk, e0 t, pa, pr]

theorem ct_blk (r : Fin 2048) (e : Fin 1024) : bct m c t (ix2 r e) = X2 m c (ix2 (pr t r) (pe t e)) := by
  rw [← ct_eq m c]
  blk_ext [iblk, e1 t, pe, pr]

end Blocks

/-! ## The sum along the grid -/

theorem prev_lt (t : Fin cfg0.N) : t.val - 1 < cfg0.N := Nat.lt_of_le_of_lt (Nat.sub_le _ _) t.isLt

/-- The terms of one element of a point's block. -/
abbrev term (t : Fin cfg0.N) (a : Fin 512) (e : Fin 1024) (r : Fin 8192) : EReal := X0 m c (ix2 r (pa t a)) * X2 m c (ix2 r (pe t e))

theorem term_pred (t : Fin cfg0.N) (h : ¬t.val % 4 = 0) (a : Fin 512) (e : Fin 1024) : term m c ⟨t.val - 1, prev_lt t⟩ a e = term m c t a e := by
  have hN := lt_N t
  funext r
  unfold term
  rw [show pa ⟨t.val - 1, prev_lt t⟩ a = pa t a from Fin.ext rfl,
    show pe ⟨t.val - 1, prev_lt t⟩ e = pe t e from Fin.ext (by unfold pe; dsimp only; omega)]

/-- A point adds its rows' terms. -/
theorem add_rows (t : Fin cfg0.N) (a : Fin 512) (e : Fin 1024) : cum (2048 * (t.val % 4) + 2048) (term m c t a e)
    = cum (2048 * (t.val % 4)) (term m c t a e) + ∑ r : Fin 2048, bh m c t (ix2 r a) * bct m c t (ix2 r e) := by
  rw [cum_add _ _ _ (by omega)]
  refine congrArg _ (Finset.sum_congr rfl fun r _ => ?_)
  rw [h_blk, ct_blk]
  rfl

/-- After a point the block holds the sums over the rows done so far. -/
theorem sum_at (n : ℕ) : ∀ (hn : n < cfg0.N) (a : Fin 512) (e : Fin 1024),
    outsAt0 m c n hn (ix2 a e) = cum (2048 * (n % 4) + 2048) (term m c ⟨n, hn⟩ a e) := by
  induction n using Nat.strong_induction_on with
  | _ n ih =>
    intro hn a e
    rw [add_rows m c ⟨n, hn⟩ a e]
    by_cases h0 : n % 4 = 0
    · refine (congrFun (outsAt0_A m c ⟨n, hn⟩ h0 (by show ¬1 ≤ n % 4; omega)) (ix2 a e)).trans ?_
      rw [out_A, pay]
      show _ = cum (2048 * (n % 4)) _ + _
      rw [h0, mul_zero, cum_zero, zero_add]
    · refine (congrFun (outsAt0_B m c ⟨n, hn⟩ h0 (by show 1 ≤ n % 4; omega)) (ix2 a e)).trans ?_
      rw [out_B, pay']
      refine congrArg (· + _) ?_
      refine (ih (n - 1) (by omega) (prev_lt ⟨n, hn⟩) a e).trans ?_
      rw [term_pred m c ⟨n, hn⟩ h0 a e, show 2048 * ((n - 1) % 4) + 2048 = 2048 * (n % 4) by omega]

/-! ## The result -/

theorem final : (dats (F := Ideal) m 0 c).arrAt 2 cfg0.N = tn (X0 m c) (X2 m c) := by
  refine (dats (F := Ideal) m 0 c).arrAt_eq_of_covers 2 _ (by decide +kernel) fun t hf y => ?_
  have ht := (flush0_2 t).mp hf
  obtain ⟨a, e, rfl⟩ : ∃ (a : Fin 512) (e : Fin 1024), y = ix2 a e := ⟨_, _, eq_ix2 (n0 := 512) (n1 := 1024) y⟩
  rw [tn_of (X0 m c) (X2 m c) (pa t a) (pe t e) _ (by blk_simp [e2 t]; show _ = 512 * (0) + a.val; omega)
    (by blk_simp [e2 t]; show _ = 1024 * (t.val / 4) + e.val; omega)]
  have hs := sum_at m c t.val t.isLt a e
  rw [ht, show 2048 * 3 + 2048 = 8192 from rfl, cum_all] at hs
  refine Eq.trans ?_ hs
  blk_simp
  rw [after0_2]

theorem frame_p : Cert.quiescent_Kernel18 := fun m g _ => Cert.Kernel18.Gen.frame m g
theorem frame_pi : Cert.quiescent_Kernel18Ideal := fun m g _ => Cert.Kernel18Ideal.Gen.frame m g
theorem frame_ri : Cert.quiescent_Reference18Ideal := fun m g _ =>
  (θ_run Cert.Reference18Ideal.defs _ _).mono (fun r h => ⟨fun c => (h c).2, sem_eq_zero_of_no_sems (by decide) r.2⟩) (Cert.Reference18Ideal.Value.run (F := Ideal) m g)
theorem preserves : Cert.preserves_Kernel18_Kernel18Ideal := trivial

theorem algebraic : Cert.algebraic_Kernel18Ideal_Reference18Ideal := by
  intro m g m' g' _ hagree
  refine ⟨_, (θ_run _ _ _).mono (fun r h => h) (Cert.Kernel18Ideal.Value.run_blocks (F := Ideal) m g), ?_⟩
  refine (θ_run _ _ _).mono (fun r h c => ?_) (Cert.Reference18Ideal.Value.run (F := Ideal) m' g')
  obtain ⟨a0, _, a2⟩ := hagree c
  refine ⟨?_, (h c).2⟩
  rw [(h c).1, final m c, Cert.Reference18Ideal.Read.val_main_v2_eq, a0, a2]
  funext i
  rw [Cert.Reference18Ideal.Read.val_main_v2_apply, Cert.Reference18Ideal.Read.val_main_v1_apply]
  refine Finset.sum_congr rfl fun r _ => (mul_comm _ _).trans (congrArg₂ (· * ·) (congrArg _ ?_) (congrArg _ ?_)) <;>
    exact funext fun b => match b with
      | ⟨0, _⟩ => rfl
      | ⟨1, _⟩ => rfl

end Cert.Products.GluDw

end
-- ==== Proof.Products.QUp.lean ====
/-
  The queries' projection: each grid point's block is the product of a block of 2048 rows of the
  left factor and a block of 1024 columns of the weights, over all 384 terms at once.
-/
module

public import proofs.«01_k».proof.Defs
public import proofs.«01_k».proof.Proof.Products.Prod
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import Idealize.ShloMosaic.Lib.StableHlo.RunRead
public import Idealize.ShloMosaic.Lib.Pipeline.ValueKit

@[expose] public section

set_option maxRecDepth 16384

noncomputable section

namespace Cert.Products.QUp

open Idealize.ShloMosaic Idealize.ShloMosaic.TcCoe Idealize.ShloMosaic.Tactic Idealize.SL.Sem Cert.Kernel19Ideal Cert.Kernel19Ideal.Gen Cert.Products
open Idealize.ShloMosaic.StableHlo
open Idealize.ShloMosaic.Pipeline (Dat)

variable (m : (ℓ : Loc nD τ sig) → Buf (Elt Ideal) ℓ) (c : Dev nD)

/-- The left factor and the weights a device holds. -/
abbrev X0 : S8192x384.Idx → EReal := m ((c : Thread nD τ).loc main_arg0)
abbrev X1 : S384x1024.Idx → EReal := m ((c : Thread nD τ).loc main_arg1)

/-! ## One block -/

theorem whole2 : (![0, 0] : Fin 2 → ℕ) = fun _ => 0 := by
  funext a
  match a with
  | ⟨0, _⟩ => rfl
  | ⟨1, _⟩ => rfl

theorem pay (x : Vec Ideal S2048x384 .bf16) (y : Vec Ideal S384x1024 .bf16) (a : Fin 2048) (e : Fin 1024) :
    k0_pay1 (F := Ideal) x y (ix2 a e) = ∑ r : Fin 384, x (ix2 a r) * y (ix2 r e) := by
  pointwise [k0_pay1]

theorem out_eq (x : Vec Ideal S2048x384 .bf16) (y : Vec Ideal S384x1024 .bf16) : out0_2 (F := Ideal) x y = k0_pay1 (F := Ideal) x y := by
  unfold out0_2 r0_0 r0_1 r0_2
  rw [View.canon_cons_unit_zero whole2, View.ld_unit_zero (S := S2048x384) whole2, View.ld_unit_zero (S := S384x1024) whole2]

/-! ## The arrays the blocks are cut from, and where the blocks lie -/

theorem h_eq : V (F := Ideal) m c main_v0 = X0 m c := by
  unfold V
  after_reads_simp
  rfl

theorem w_eq : V (F := Ideal) m c main_v1 = X1 m c := by
  unfold V
  after_reads_simp
  rfl

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

theorem lt_N (t : Fin cfg0.N) : t.val < 4 := lt_of_lt_of_eq t.isLt N_0

/-- A row and a column of a point's block, in the whole product. -/
def pa (t : Fin cfg0.N) (a : Fin 2048) : Fin 8192 := ⟨2048 * (t.val) + a.val, by have := lt_N t; omega⟩
def pe (t : Fin cfg0.N) (e : Fin 1024) : Fin 1024 := ⟨1024 * (0) + e.val, by have := lt_N t; omega⟩

variable (t : Fin cfg0.N)

theorem h_blk (a : Fin 2048) (r : Fin 384) : iblk m c 0 t (ix2 a r) = X0 m c (ix2 (pa t a) r) := by
  rw [← h_eq m c]
  blk_ext [iblk, e0 t, pa]

theorem w_blk (e : Fin 1024) (r : Fin 384) : iblk m c 1 t (ix2 r e) = X1 m c (ix2 r (pe t e)) := by
  rw [← w_eq m c]
  blk_ext [iblk, e1 t, pe]

/-! ## The result -/

theorem final : (dats (F := Ideal) m 0 c).arrAt 2 cfg0.N = nn (X0 m c) (X1 m c) := by
  refine (dats (F := Ideal) m 0 c).arrAt_eq_of_covers 2 _ (by decide +kernel) fun t hf y => ?_
  obtain ⟨a, e, rfl⟩ : ∃ (a : Fin 2048) (e : Fin 1024), y = ix2 a e := ⟨_, _, eq_ix2 (n0 := 2048) (n1 := 1024) y⟩
  rw [nn_of (X0 m c) (X1 m c) (pa t a) (pe t e) _ (by blk_simp [e2 t]; show _ = 2048 * (t.val) + a.val; omega)
    (by blk_simp [e2 t]; show _ = 1024 * (0) + e.val; omega)]
  refine Eq.trans ?_ ((pay (iblk m c 0 t) (iblk m c 1 t) a e).trans (Finset.sum_congr rfl fun r _ => congrArg₂ (· * ·) (h_blk m c t a r) (w_blk m c t e r)))
  rw [← out_eq]
  blk_simp
  rw [after0_2]

theorem frame_p : Cert.quiescent_Kernel19 := fun m g _ => Cert.Kernel19.Gen.frame m g
theorem frame_pi : Cert.quiescent_Kernel19Ideal := fun m g _ => Cert.Kernel19Ideal.Gen.frame m g
theorem frame_ri : Cert.quiescent_Reference19Ideal := fun m g _ =>
  (θ_run Cert.Reference19Ideal.defs _ _).mono (fun r h => ⟨fun c => (h c).2, sem_eq_zero_of_no_sems (by decide) r.2⟩) (Cert.Reference19Ideal.Value.run (F := Ideal) m g)
theorem preserves : Cert.preserves_Kernel19_Kernel19Ideal := trivial

theorem algebraic : Cert.algebraic_Kernel19Ideal_Reference19Ideal := by
  intro m g m' g' _ hagree
  refine ⟨_, (θ_run _ _ _).mono (fun r h => h) (Cert.Kernel19Ideal.Value.run_blocks (F := Ideal) m g), ?_⟩
  refine (θ_run _ _ _).mono (fun r h c => ?_) (Cert.Reference19Ideal.Value.run (F := Ideal) m' g')
  obtain ⟨a0, a1⟩ := hagree c
  refine ⟨?_, (h c).2⟩
  rw [(h c).1, final m c, Cert.Reference19Ideal.Read.val_main_v0_eq, a0, a1]
  funext i
  rw [Cert.Reference19Ideal.Read.val_main_v0_apply]
  refine Finset.sum_congr rfl fun r _ => congrArg₂ (· * ·) (congrArg _ ?_) (congrArg _ ?_) <;>
    exact funext fun b => match b with
      | ⟨0, _⟩ => rfl
      | ⟨1, _⟩ => rfl

end Cert.Products.QUp

end
-- ==== Proof.Products.QUpDx.lean ====
/-
  The gradient of the left factor of the queries' projection: each grid point's block is the product of a block of 2048 rows of the
  cotangent and a block of 384 rows of the weights, over all 1024 columns at once.
-/
module

public import proofs.«01_k».proof.Defs
public import proofs.«01_k».proof.Proof.Products.Prod
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import Idealize.ShloMosaic.Lib.StableHlo.RunRead
public import Idealize.ShloMosaic.Lib.Pipeline.ValueKit

@[expose] public section

set_option maxRecDepth 16384

noncomputable section

namespace Cert.Products.QUpDx

open Idealize.ShloMosaic Idealize.ShloMosaic.TcCoe Idealize.ShloMosaic.Tactic Idealize.SL.Sem Cert.Kernel20Ideal Cert.Kernel20Ideal.Gen Cert.Products
open Idealize.ShloMosaic.StableHlo
open Idealize.ShloMosaic.Pipeline (Dat)

variable (m : (ℓ : Loc nD τ sig) → Buf (Elt Ideal) ℓ) (c : Dev nD)

/-- The weights and the cotangent a device holds. -/
abbrev X1 : S384x1024.Idx → EReal := m ((c : Thread nD τ).loc main_arg1)
abbrev X2 : S8192x1024.Idx → EReal := m ((c : Thread nD τ).loc main_arg2)

/-! ## One block -/

theorem whole2 : (![0, 0] : Fin 2 → ℕ) = fun _ => 0 := by
  funext a
  match a with
  | ⟨0, _⟩ => rfl
  | ⟨1, _⟩ => rfl

theorem pay (x : Vec Ideal S2048x1024 .bf16) (y : Vec Ideal S384x1024 .bf16) (a : Fin 2048) (e : Fin 384) :
    k0_pay1 (F := Ideal) x y (ix2 a e) = ∑ r : Fin 1024, x (ix2 a r) * y (ix2 e r) := by
  pointwise [k0_pay1]

theorem out_eq (x : Vec Ideal S2048x1024 .bf16) (y : Vec Ideal S384x1024 .bf16) : out0_2 (F := Ideal) x y = k0_pay1 (F := Ideal) x y := by
  unfold out0_2 r0_0 r0_1 r0_2
  rw [View.canon_cons_unit_zero whole2, View.ld_unit_zero (S := S2048x1024) whole2, View.ld_unit_zero (S := S384x1024) whole2]

/-! ## The arrays the blocks are cut from, and where the blocks lie -/

theorem ct_eq : V (F := Ideal) m c main_v0 = X2 m c := by
  unfold V
  after_reads_simp
  rfl

theorem w_eq : V (F := Ideal) m c main_v1 = X1 m c := by
  unfold V
  after_reads_simp
  rfl

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

theorem lt_N (t : Fin cfg0.N) : t.val < 4 := lt_of_lt_of_eq t.isLt N_0

/-- A row and a column of a point's block, in the whole product. -/
def pa (t : Fin cfg0.N) (a : Fin 2048) : Fin 8192 := ⟨2048 * (t.val) + a.val, by have := lt_N t; omega⟩
def pe (t : Fin cfg0.N) (e : Fin 384) : Fin 384 := ⟨384 * (0) + e.val, by have := lt_N t; omega⟩

variable (t : Fin cfg0.N)

theorem ct_blk (a : Fin 2048) (r : Fin 1024) : iblk m c 0 t (ix2 a r) = X2 m c (ix2 (pa t a) r) := by
  rw [← ct_eq m c]
  blk_ext [iblk, e0 t, pa]

theorem w_blk (e : Fin 384) (r : Fin 1024) : iblk m c 1 t (ix2 e r) = X1 m c (ix2 (pe t e) r) := by
  rw [← w_eq m c]
  blk_ext [iblk, e1 t, pe]

/-! ## The result -/

theorem final : (dats (F := Ideal) m 0 c).arrAt 2 cfg0.N = nt (X2 m c) (X1 m c) := by
  refine (dats (F := Ideal) m 0 c).arrAt_eq_of_covers 2 _ (by decide +kernel) fun t hf y => ?_
  obtain ⟨a, e, rfl⟩ : ∃ (a : Fin 2048) (e : Fin 384), y = ix2 a e := ⟨_, _, eq_ix2 (n0 := 2048) (n1 := 384) y⟩
  rw [nt_of (X2 m c) (X1 m c) (pa t a) (pe t e) _ (by blk_simp [e2 t]; show _ = 2048 * (t.val) + a.val; omega)
    (by blk_simp [e2 t]; show _ = 384 * (0) + e.val; omega)]
  refine Eq.trans ?_ ((pay (iblk m c 0 t) (iblk m c 1 t) a e).trans (Finset.sum_congr rfl fun r _ => congrArg₂ (· * ·) (ct_blk m c t a r) (w_blk m c t e r)))
  rw [← out_eq]
  blk_simp
  rw [after0_2]

theorem frame_p : Cert.quiescent_Kernel20 := fun m g _ => Cert.Kernel20.Gen.frame m g
theorem frame_pi : Cert.quiescent_Kernel20Ideal := fun m g _ => Cert.Kernel20Ideal.Gen.frame m g
theorem frame_ri : Cert.quiescent_Reference20Ideal := fun m g _ =>
  (θ_run Cert.Reference20Ideal.defs _ _).mono (fun r h => ⟨fun c => (h c).2, sem_eq_zero_of_no_sems (by decide) r.2⟩) (Cert.Reference20Ideal.Value.run (F := Ideal) m g)
theorem preserves : Cert.preserves_Kernel20_Kernel20Ideal := trivial

theorem algebraic : Cert.algebraic_Kernel20Ideal_Reference20Ideal := by
  intro m g m' g' _ hagree
  refine ⟨_, (θ_run _ _ _).mono (fun r h => h) (Cert.Kernel20Ideal.Value.run_blocks (F := Ideal) m g), ?_⟩
  refine (θ_run _ _ _).mono (fun r h c => ?_) (Cert.Reference20Ideal.Value.run (F := Ideal) m' g')
  obtain ⟨_, a1, a2⟩ := hagree c
  refine ⟨?_, (h c).2⟩
  rw [(h c).1, final m c, Cert.Reference20Ideal.Read.val_main_v3_eq, a1, a2]
  funext i
  rw [Cert.Reference20Ideal.Read.val_main_v3_apply]
  refine Finset.sum_congr rfl fun r _ => congrArg₂ (· * ·) (congrArg _ ?_) (congrArg _ ?_) <;>
    exact funext fun b => match b with
      | ⟨0, _⟩ => rfl
      | ⟨1, _⟩ => rfl

end Cert.Products.QUpDx

end
-- ==== Proof.Products.QUpDw.lean ====
/-
  The gradient of the weights of the queries' projection: 4 grid points follow each other on a block of 384 by 1024 of the
  result; each adds the product over 2048 of the 8192 rows to what the one before left.
-/
module

public import proofs.«01_k».proof.Defs
public import proofs.«01_k».proof.Proof.Products.Prod
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import Idealize.ShloMosaic.Lib.StableHlo.RunRead
public import Idealize.ShloMosaic.Lib.Pipeline.ValueKit

@[expose] public section

set_option maxRecDepth 16384

noncomputable section

namespace Cert.Products.QUpDw

open Idealize.ShloMosaic Idealize.ShloMosaic.TcCoe Idealize.ShloMosaic.Tactic Idealize.SL.Sem Cert.Kernel21Ideal Cert.Kernel21Ideal.Gen Cert.Products Cert.Fwd
open Idealize.ShloMosaic.StableHlo
open Idealize.ShloMosaic.Pipeline (Dat)

/-! ## One block -/

section Body

variable (c : Dev nD) (i : grid0.Coords) (arg3 : Memref sig .tc .vmem S2048x384 .bf16) (harg3 : arg3.IsWhole)
  (arg4 : Memref sig .tc .vmem S2048x1024 .bf16) (harg4 : arg4.IsWhole) (arg5 : Memref sig .tc .vmem S384x1024 .f32) (harg5 : arg5.IsWhole)
  (x : Vec Ideal S2048x384 .bf16) (y : Vec Ideal S2048x1024 .bf16) (o : Vec Ideal S384x1024 .f32)

theorem whole2 : (![0, 0] : Fin 2 → ℕ) = fun _ => 0 := by
  funext a
  match a with
  | ⟨0, _⟩ => rfl
  | ⟨1, _⟩ => rfl

theorem pay (a : Fin 384) (e : Fin 1024) : k0_pay1 (F := Ideal) x y (ix2 a e) = ∑ r : Fin 2048, x (ix2 r a) * y (ix2 r e) := by
  pointwise [k0_pay1]

theorem pay' (a : Fin 384) (e : Fin 1024) : k0_pay2 (F := Ideal) x y o (ix2 a e) = o (ix2 a e) + ∑ r : Fin 2048, x (ix2 r a) * y (ix2 r e) := by
  rw [← pay]
  pointwise [k0_pay2]

theorem out_A (hc0 : cond0_0 i) (hc1 : ¬cond0_1 i) : out0_A_2 c i arg3 harg3 arg4 harg4 arg5 harg5 hc0 hc1 x y = k0_pay1 (F := Ideal) x y := by
  unfold out0_A_2
  rw [View.read_writes_junk_eq_canon]
  unfold kernelRun0_A
  dsimp only
  sl_unfold_words
  simp only [View.readAt_eq_ld, Memref.IsWhole.read_unread, View.ld_unit_zero (S := S2048x384) whole2, View.ld_unit_zero (S := S2048x1024) whole2]
  rw [View.canon_cons_unit_zero whole2]

theorem out_B (hc0 : ¬cond0_0 i) (hc1 : cond0_1 i) : out0_B_2 c i arg3 harg3 arg4 harg4 arg5 harg5 hc0 hc1 x y o = k0_pay2 (F := Ideal) x y o := by
  unfold out0_B_2
  rw [View.read_writes_junk_eq_canon]
  unfold kernelRun0_B
  dsimp only
  sl_unfold_words
  simp only [View.readAt_eq_ld, Memref.IsWhole.read_unread, View.ld_unit_zero (S := S2048x384) whole2, View.ld_unit_zero (S := S2048x1024) whole2,
    View.ld_unit_zero (S := S384x1024) whole2]
  rw [View.canon_cons_unit_zero whole2]

end Body

variable (m : (ℓ : Loc nD τ sig) → Buf (Elt Ideal) ℓ) (c : Dev nD)

/-- The left factor and the cotangent a device holds. -/
abbrev X0 : S8192x384.Idx → EReal := m ((c : Thread nD τ).loc main_arg0)
abbrev X2 : S8192x1024.Idx → EReal := m ((c : Thread nD τ).loc main_arg2)

/-! ## The arrays the blocks are cut from, and where the blocks lie -/

theorem h_eq : V (F := Ideal) m c main_v0 = X0 m c := by
  unfold V
  after_reads_simp
  rfl

theorem ct_eq : V (F := Ideal) m c main_v1 = X2 m c := by
  unfold V
  after_reads_simp
  rfl

theorem e0 : ∀ t : Fin cfg0.N, win0_0.index t = ![t.val % 4, 0] := (by decide +kernel : ∀ t : Fin grid0.N, _)
theorem e1 : ∀ t : Fin cfg0.N, win0_1.index t = ![t.val % 4, 0] := (by decide +kernel : ∀ t : Fin grid0.N, _)
theorem e2 : ∀ t : Fin cfg0.N, win0_2.index t = ![0, 0] := (by decide +kernel : ∀ t : Fin grid0.N, _)

theorem lt_N (t : Fin cfg0.N) : t.val < 4 := lt_of_lt_of_eq t.isLt N_0

/-- A row and a column of a point's block, in the whole product; a row of its factors. -/
def pa (t : Fin cfg0.N) (a : Fin 384) : Fin 384 := ⟨384 * (0) + a.val, by have := lt_N t; omega⟩
def pe (t : Fin cfg0.N) (e : Fin 1024) : Fin 1024 := ⟨1024 * (0) + e.val, by have := lt_N t; omega⟩
def pr (t : Fin cfg0.N) (r : Fin 2048) : Fin 8192 := ⟨2048 * (t.val % 4) + r.val, by omega⟩

section Blocks

variable (t : Fin cfg0.N)

/-- The blocks a point reads. -/
abbrev bh : Vec Ideal S2048x384 .bf16 := iblk m c 0 t
abbrev bct : Vec Ideal S2048x1024 .bf16 := iblk m c 1 t

theorem h_blk (r : Fin 2048) (a : Fin 384) : bh m c t (ix2 r a) = X0 m c (ix2 (pr t r) (pa t a)) := by
  rw [← h_eq m c]
  blk_ext [iblk, e0 t, pa, pr]

theorem ct_blk (r : Fin 2048) (e : Fin 1024) : bct m c t (ix2 r e) = X2 m c (ix2 (pr t r) (pe t e)) := by
  rw [← ct_eq m c]
  blk_ext [iblk, e1 t, pe, pr]

end Blocks

/-! ## The sum along the grid -/

theorem prev_lt (t : Fin cfg0.N) : t.val - 1 < cfg0.N := Nat.lt_of_le_of_lt (Nat.sub_le _ _) t.isLt

/-- The terms of one element of a point's block. -/
abbrev term (t : Fin cfg0.N) (a : Fin 384) (e : Fin 1024) (r : Fin 8192) : EReal := X0 m c (ix2 r (pa t a)) * X2 m c (ix2 r (pe t e))

theorem term_pred (t : Fin cfg0.N) (h : ¬t.val % 4 = 0) (a : Fin 384) (e : Fin 1024) : term m c ⟨t.val - 1, prev_lt t⟩ a e = term m c t a e := by
  have hN := lt_N t
  funext r
  unfold term
  rw [show pa ⟨t.val - 1, prev_lt t⟩ a = pa t a from Fin.ext rfl,
    show pe ⟨t.val - 1, prev_lt t⟩ e = pe t e from Fin.ext rfl]

/-- A point adds its rows' terms. -/
theorem add_rows (t : Fin cfg0.N) (a : Fin 384) (e : Fin 1024) : cum (2048 * (t.val % 4) + 2048) (term m c t a e)
    = cum (2048 * (t.val % 4)) (term m c t a e) + ∑ r : Fin 2048, bh m c t (ix2 r a) * bct m c t (ix2 r e) := by
  rw [cum_add _ _ _ (by omega)]
  refine congrArg _ (Finset.sum_congr rfl fun r _ => ?_)
  rw [h_blk, ct_blk]
  rfl

/-- After a point the block holds the sums over the rows done so far. -/
theorem sum_at (n : ℕ) : ∀ (hn : n < cfg0.N) (a : Fin 384) (e : Fin 1024),
    outsAt0 m c n hn (ix2 a e) = cum (2048 * (n % 4) + 2048) (term m c ⟨n, hn⟩ a e) := by
  induction n using Nat.strong_induction_on with
  | _ n ih =>
    intro hn a e
    rw [add_rows m c ⟨n, hn⟩ a e]
    by_cases h0 : n % 4 = 0
    · refine (congrFun (outsAt0_A m c ⟨n, hn⟩ h0 (by show ¬1 ≤ n; have hN := lt_N ⟨n, hn⟩; dsimp only at hN; omega)) (ix2 a e)).trans ?_
      rw [out_A, pay]
      show _ = cum (2048 * (n % 4)) _ + _
      rw [h0, mul_zero, cum_zero, zero_add]
    · refine (congrFun (outsAt0_B m c ⟨n, hn⟩ h0 (by show 1 ≤ n; omega)) (ix2 a e)).trans ?_
      rw [out_B, pay']
      refine congrArg (· + _) ?_
      refine (ih (n - 1) (by omega) (prev_lt ⟨n, hn⟩) a e).trans ?_
      rw [term_pred m c ⟨n, hn⟩ h0 a e, show 2048 * ((n - 1) % 4) + 2048 = 2048 * (n % 4) by omega]

/-! ## The result -/

theorem final : (dats (F := Ideal) m 0 c).arrAt 2 cfg0.N = tn (X0 m c) (X2 m c) := by
  refine (dats (F := Ideal) m 0 c).arrAt_eq_of_covers 2 _ (by decide +kernel) fun t hf y => ?_
  have ht := (flush0_2 t).mp hf
  obtain ⟨a, e, rfl⟩ : ∃ (a : Fin 384) (e : Fin 1024), y = ix2 a e := ⟨_, _, eq_ix2 (n0 := 384) (n1 := 1024) y⟩
  rw [tn_of (X0 m c) (X2 m c) (pa t a) (pe t e) _ (by blk_simp [e2 t]; show _ = 384 * (0) + a.val; omega)
    (by blk_simp [e2 t]; show _ = 1024 * (0) + e.val; omega)]
  have hs := sum_at m c t.val t.isLt a e
  rw [ht, show 2048 * 3 + 2048 = 8192 from rfl, cum_all] at hs
  refine Eq.trans ?_ hs
  blk_simp
  rw [after0_2]

theorem frame_p : Cert.quiescent_Kernel21 := fun m g _ => Cert.Kernel21.Gen.frame m g
theorem frame_pi : Cert.quiescent_Kernel21Ideal := fun m g _ => Cert.Kernel21Ideal.Gen.frame m g
theorem frame_ri : Cert.quiescent_Reference21Ideal := fun m g _ =>
  (θ_run Cert.Reference21Ideal.defs _ _).mono (fun r h => ⟨fun c => (h c).2, sem_eq_zero_of_no_sems (by decide) r.2⟩) (Cert.Reference21Ideal.Value.run (F := Ideal) m g)
theorem preserves : Cert.preserves_Kernel21_Kernel21Ideal := trivial

theorem algebraic : Cert.algebraic_Kernel21Ideal_Reference21Ideal := by
  intro m g m' g' _ hagree
  refine ⟨_, (θ_run _ _ _).mono (fun r h => h) (Cert.Kernel21Ideal.Value.run_blocks (F := Ideal) m g), ?_⟩
  refine (θ_run _ _ _).mono (fun r h c => ?_) (Cert.Reference21Ideal.Value.run (F := Ideal) m' g')
  obtain ⟨a0, _, a2⟩ := hagree c
  refine ⟨?_, (h c).2⟩
  rw [(h c).1, final m c, Cert.Reference21Ideal.Read.val_main_v2_eq, a0, a2]
  funext i
  rw [Cert.Reference21Ideal.Read.val_main_v2_apply, Cert.Reference21Ideal.Read.val_main_v1_apply]
  refine Finset.sum_congr rfl fun r _ => (mul_comm _ _).trans (congrArg₂ (· * ·) (congrArg _ ?_) (congrArg _ ?_)) <;>
    exact funext fun b => match b with
      | ⟨0, _⟩ => rfl
      | ⟨1, _⟩ => rfl

end Cert.Products.QUpDw

end
-- ==== Proof.Products.KvUp.lean ====
/-
  The keys' and values' projection: each grid point's block is the product of a block of 1408 rows of the
  left factor and a block of 1024 columns of the weights, over all 256 terms at once.
-/
module

public import proofs.«01_k».proof.Defs
public import proofs.«01_k».proof.Proof.Products.Prod
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import Idealize.ShloMosaic.Lib.StableHlo.RunRead
public import Idealize.ShloMosaic.Lib.Pipeline.ValueKit

@[expose] public section

set_option maxRecDepth 16384

noncomputable section

namespace Cert.Products.KvUp

open Idealize.ShloMosaic Idealize.ShloMosaic.TcCoe Idealize.ShloMosaic.Tactic Idealize.SL.Sem Cert.Kernel22Ideal Cert.Kernel22Ideal.Gen Cert.Products
open Idealize.ShloMosaic.StableHlo
open Idealize.ShloMosaic.Pipeline (Dat)

variable (m : (ℓ : Loc nD τ sig) → Buf (Elt Ideal) ℓ) (c : Dev nD)

/-- The left factor and the weights a device holds. -/
abbrev X0 : S8448x256.Idx → EReal := m ((c : Thread nD τ).loc main_arg0)
abbrev X1 : S256x2048.Idx → EReal := m ((c : Thread nD τ).loc main_arg1)

/-! ## One block -/

theorem whole2 : (![0, 0] : Fin 2 → ℕ) = fun _ => 0 := by
  funext a
  match a with
  | ⟨0, _⟩ => rfl
  | ⟨1, _⟩ => rfl

theorem pay (x : Vec Ideal S1408x256 .bf16) (y : Vec Ideal S256x1024 .bf16) (a : Fin 1408) (e : Fin 1024) :
    k0_pay1 (F := Ideal) x y (ix2 a e) = ∑ r : Fin 256, x (ix2 a r) * y (ix2 r e) := by
  pointwise [k0_pay1]

theorem out_eq (x : Vec Ideal S1408x256 .bf16) (y : Vec Ideal S256x1024 .bf16) : out0_2 (F := Ideal) x y = k0_pay1 (F := Ideal) x y := by
  unfold out0_2 r0_0 r0_1 r0_2
  rw [View.canon_cons_unit_zero whole2, View.ld_unit_zero (S := S1408x256) whole2, View.ld_unit_zero (S := S256x1024) whole2]

/-! ## The arrays the blocks are cut from, and where the blocks lie -/

theorem h_eq : V (F := Ideal) m c main_v0 = X0 m c := by
  unfold V
  after_reads_simp
  rfl

theorem w_eq : V (F := Ideal) m c main_v1 = X1 m c := by
  unfold V
  after_reads_simp
  rfl

theorem e0 : ∀ t : Fin cfg0.N, win0_0.index t = ![t.val / 2, 0] := (by decide +kernel : ∀ t : Fin grid0.N, _)
theorem e1 : ∀ t : Fin cfg0.N, win0_1.index t = ![0, t.val % 2] := (by decide +kernel : ∀ t : Fin grid0.N, _)
theorem e2 : ∀ t : Fin cfg0.N, win0_2.index t = ![t.val / 2, t.val % 2] := (by decide +kernel : ∀ t : Fin grid0.N, _)

theorem lt_N (t : Fin cfg0.N) : t.val < 12 := lt_of_lt_of_eq t.isLt N_0

/-- A row and a column of a point's block, in the whole product. -/
def pa (t : Fin cfg0.N) (a : Fin 1408) : Fin 8448 := ⟨1408 * (t.val / 2) + a.val, by have := lt_N t; omega⟩
def pe (t : Fin cfg0.N) (e : Fin 1024) : Fin 2048 := ⟨1024 * (t.val % 2) + e.val, by have := lt_N t; omega⟩

variable (t : Fin cfg0.N)

theorem h_blk (a : Fin 1408) (r : Fin 256) : iblk m c 0 t (ix2 a r) = X0 m c (ix2 (pa t a) r) := by
  rw [← h_eq m c]
  blk_ext [iblk, e0 t, pa]

theorem w_blk (e : Fin 1024) (r : Fin 256) : iblk m c 1 t (ix2 r e) = X1 m c (ix2 r (pe t e)) := by
  rw [← w_eq m c]
  blk_ext [iblk, e1 t, pe]

/-! ## The result -/

theorem final : (dats (F := Ideal) m 0 c).arrAt 2 cfg0.N = nn (X0 m c) (X1 m c) := by
  refine (dats (F := Ideal) m 0 c).arrAt_eq_of_covers 2 _ (by decide +kernel) fun t hf y => ?_
  obtain ⟨a, e, rfl⟩ : ∃ (a : Fin 1408) (e : Fin 1024), y = ix2 a e := ⟨_, _, eq_ix2 (n0 := 1408) (n1 := 1024) y⟩
  rw [nn_of (X0 m c) (X1 m c) (pa t a) (pe t e) _ (by blk_simp [e2 t]; show _ = 1408 * (t.val / 2) + a.val; omega)
    (by blk_simp [e2 t]; show _ = 1024 * (t.val % 2) + e.val; omega)]
  refine Eq.trans ?_ ((pay (iblk m c 0 t) (iblk m c 1 t) a e).trans (Finset.sum_congr rfl fun r _ => congrArg₂ (· * ·) (h_blk m c t a r) (w_blk m c t e r)))
  rw [← out_eq]
  blk_simp
  rw [after0_2]

theorem frame_p : Cert.quiescent_Kernel22 := fun m g _ => Cert.Kernel22.Gen.frame m g
theorem frame_pi : Cert.quiescent_Kernel22Ideal := fun m g _ => Cert.Kernel22Ideal.Gen.frame m g
theorem frame_ri : Cert.quiescent_Reference22Ideal := fun m g _ =>
  (θ_run Cert.Reference22Ideal.defs _ _).mono (fun r h => ⟨fun c => (h c).2, sem_eq_zero_of_no_sems (by decide) r.2⟩) (Cert.Reference22Ideal.Value.run (F := Ideal) m g)
theorem preserves : Cert.preserves_Kernel22_Kernel22Ideal := trivial

theorem algebraic : Cert.algebraic_Kernel22Ideal_Reference22Ideal := by
  intro m g m' g' _ hagree
  refine ⟨_, (θ_run _ _ _).mono (fun r h => h) (Cert.Kernel22Ideal.Value.run_blocks (F := Ideal) m g), ?_⟩
  refine (θ_run _ _ _).mono (fun r h c => ?_) (Cert.Reference22Ideal.Value.run (F := Ideal) m' g')
  obtain ⟨a0, a1⟩ := hagree c
  refine ⟨?_, (h c).2⟩
  rw [(h c).1, final m c, Cert.Reference22Ideal.Read.val_main_v0_eq, a0, a1]
  funext i
  rw [Cert.Reference22Ideal.Read.val_main_v0_apply]
  refine Finset.sum_congr rfl fun r _ => congrArg₂ (· * ·) (congrArg _ ?_) (congrArg _ ?_) <;>
    exact funext fun b => match b with
      | ⟨0, _⟩ => rfl
      | ⟨1, _⟩ => rfl

end Cert.Products.KvUp

end
-- ==== Proof.Products.KvUpDx.lean ====
/-
  The gradient of the left factor of the keys' and values' projection: each grid point's block is the product of a block of 1408 rows of the
  cotangent and a block of 256 rows of the weights, over all 2048 columns at once.
-/
module

public import proofs.«01_k».proof.Defs
public import proofs.«01_k».proof.Proof.Products.Prod
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import Idealize.ShloMosaic.Lib.StableHlo.RunRead
public import Idealize.ShloMosaic.Lib.Pipeline.ValueKit

@[expose] public section

set_option maxRecDepth 16384

noncomputable section

namespace Cert.Products.KvUpDx

open Idealize.ShloMosaic Idealize.ShloMosaic.TcCoe Idealize.ShloMosaic.Tactic Idealize.SL.Sem Cert.Kernel23Ideal Cert.Kernel23Ideal.Gen Cert.Products
open Idealize.ShloMosaic.StableHlo
open Idealize.ShloMosaic.Pipeline (Dat)

variable (m : (ℓ : Loc nD τ sig) → Buf (Elt Ideal) ℓ) (c : Dev nD)

/-- The weights and the cotangent a device holds. -/
abbrev X1 : S256x2048.Idx → EReal := m ((c : Thread nD τ).loc main_arg1)
abbrev X2 : S8448x2048.Idx → EReal := m ((c : Thread nD τ).loc main_arg2)

/-! ## One block -/

theorem whole2 : (![0, 0] : Fin 2 → ℕ) = fun _ => 0 := by
  funext a
  match a with
  | ⟨0, _⟩ => rfl
  | ⟨1, _⟩ => rfl

theorem pay (x : Vec Ideal S1408x2048 .bf16) (y : Vec Ideal S256x2048 .bf16) (a : Fin 1408) (e : Fin 256) :
    k0_pay1 (F := Ideal) x y (ix2 a e) = ∑ r : Fin 2048, x (ix2 a r) * y (ix2 e r) := by
  pointwise [k0_pay1]

theorem out_eq (x : Vec Ideal S1408x2048 .bf16) (y : Vec Ideal S256x2048 .bf16) : out0_2 (F := Ideal) x y = k0_pay1 (F := Ideal) x y := by
  unfold out0_2 r0_0 r0_1 r0_2
  rw [View.canon_cons_unit_zero whole2, View.ld_unit_zero (S := S1408x2048) whole2, View.ld_unit_zero (S := S256x2048) whole2]

/-! ## The arrays the blocks are cut from, and where the blocks lie -/

theorem ct_eq : V (F := Ideal) m c main_v0 = X2 m c := by
  unfold V
  after_reads_simp
  rfl

theorem w_eq : V (F := Ideal) m c main_v1 = X1 m c := by
  unfold V
  after_reads_simp
  rfl

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

theorem lt_N (t : Fin cfg0.N) : t.val < 6 := lt_of_lt_of_eq t.isLt N_0

/-- A row and a column of a point's block, in the whole product. -/
def pa (t : Fin cfg0.N) (a : Fin 1408) : Fin 8448 := ⟨1408 * (t.val) + a.val, by have := lt_N t; omega⟩
def pe (t : Fin cfg0.N) (e : Fin 256) : Fin 256 := ⟨256 * (0) + e.val, by have := lt_N t; omega⟩

variable (t : Fin cfg0.N)

theorem ct_blk (a : Fin 1408) (r : Fin 2048) : iblk m c 0 t (ix2 a r) = X2 m c (ix2 (pa t a) r) := by
  rw [← ct_eq m c]
  blk_ext [iblk, e0 t, pa]

theorem w_blk (e : Fin 256) (r : Fin 2048) : iblk m c 1 t (ix2 e r) = X1 m c (ix2 (pe t e) r) := by
  rw [← w_eq m c]
  blk_ext [iblk, e1 t, pe]

/-! ## The result -/

theorem final : (dats (F := Ideal) m 0 c).arrAt 2 cfg0.N = nt (X2 m c) (X1 m c) := by
  refine (dats (F := Ideal) m 0 c).arrAt_eq_of_covers 2 _ (by decide +kernel) fun t hf y => ?_
  obtain ⟨a, e, rfl⟩ : ∃ (a : Fin 1408) (e : Fin 256), y = ix2 a e := ⟨_, _, eq_ix2 (n0 := 1408) (n1 := 256) y⟩
  rw [nt_of (X2 m c) (X1 m c) (pa t a) (pe t e) _ (by blk_simp [e2 t]; show _ = 1408 * (t.val) + a.val; omega)
    (by blk_simp [e2 t]; show _ = 256 * (0) + e.val; omega)]
  refine Eq.trans ?_ ((pay (iblk m c 0 t) (iblk m c 1 t) a e).trans (Finset.sum_congr rfl fun r _ => congrArg₂ (· * ·) (ct_blk m c t a r) (w_blk m c t e r)))
  rw [← out_eq]
  blk_simp
  rw [after0_2]

theorem frame_p : Cert.quiescent_Kernel23 := fun m g _ => Cert.Kernel23.Gen.frame m g
theorem frame_pi : Cert.quiescent_Kernel23Ideal := fun m g _ => Cert.Kernel23Ideal.Gen.frame m g
theorem frame_ri : Cert.quiescent_Reference23Ideal := fun m g _ =>
  (θ_run Cert.Reference23Ideal.defs _ _).mono (fun r h => ⟨fun c => (h c).2, sem_eq_zero_of_no_sems (by decide) r.2⟩) (Cert.Reference23Ideal.Value.run (F := Ideal) m g)
theorem preserves : Cert.preserves_Kernel23_Kernel23Ideal := trivial

theorem algebraic : Cert.algebraic_Kernel23Ideal_Reference23Ideal := by
  intro m g m' g' _ hagree
  refine ⟨_, (θ_run _ _ _).mono (fun r h => h) (Cert.Kernel23Ideal.Value.run_blocks (F := Ideal) m g), ?_⟩
  refine (θ_run _ _ _).mono (fun r h c => ?_) (Cert.Reference23Ideal.Value.run (F := Ideal) m' g')
  obtain ⟨_, a1, a2⟩ := hagree c
  refine ⟨?_, (h c).2⟩
  rw [(h c).1, final m c, Cert.Reference23Ideal.Read.val_main_v3_eq, a1, a2]
  funext i
  rw [Cert.Reference23Ideal.Read.val_main_v3_apply]
  refine Finset.sum_congr rfl fun r _ => congrArg₂ (· * ·) (congrArg _ ?_) (congrArg _ ?_) <;>
    exact funext fun b => match b with
      | ⟨0, _⟩ => rfl
      | ⟨1, _⟩ => rfl

end Cert.Products.KvUpDx

end
-- ==== Proof.Products.KvUpDw.lean ====
/-
  The gradient of the weights of the keys' and values' projection: 3 grid points follow each other on a block of 256 by 1024 of the
  result; each adds the product over 2816 of the 8448 rows to what the one before left.
-/
module

public import proofs.«01_k».proof.Defs
public import proofs.«01_k».proof.Proof.Products.Prod
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import Idealize.ShloMosaic.Lib.StableHlo.RunRead
public import Idealize.ShloMosaic.Lib.Pipeline.ValueKit

@[expose] public section

set_option maxRecDepth 16384

noncomputable section

namespace Cert.Products.KvUpDw

open Idealize.ShloMosaic Idealize.ShloMosaic.TcCoe Idealize.ShloMosaic.Tactic Idealize.SL.Sem Cert.Kernel24Ideal Cert.Kernel24Ideal.Gen Cert.Products Cert.Fwd
open Idealize.ShloMosaic.StableHlo
open Idealize.ShloMosaic.Pipeline (Dat)

/-! ## One block -/

section Body

variable (c : Dev nD) (i : grid0.Coords) (arg3 : Memref sig .tc .vmem S2816x256 .bf16) (harg3 : arg3.IsWhole)
  (arg4 : Memref sig .tc .vmem S2816x1024 .bf16) (harg4 : arg4.IsWhole) (arg5 : Memref sig .tc .vmem S256x1024 .f32) (harg5 : arg5.IsWhole)
  (x : Vec Ideal S2816x256 .bf16) (y : Vec Ideal S2816x1024 .bf16) (o : Vec Ideal S256x1024 .f32)

theorem whole2 : (![0, 0] : Fin 2 → ℕ) = fun _ => 0 := by
  funext a
  match a with
  | ⟨0, _⟩ => rfl
  | ⟨1, _⟩ => rfl

theorem pay (a : Fin 256) (e : Fin 1024) : k0_pay1 (F := Ideal) x y (ix2 a e) = ∑ r : Fin 2816, x (ix2 r a) * y (ix2 r e) := by
  pointwise [k0_pay1]

theorem pay' (a : Fin 256) (e : Fin 1024) : k0_pay2 (F := Ideal) x y o (ix2 a e) = o (ix2 a e) + ∑ r : Fin 2816, x (ix2 r a) * y (ix2 r e) := by
  rw [← pay]
  pointwise [k0_pay2]

theorem out_A (hc0 : cond0_0 i) (hc1 : ¬cond0_1 i) : out0_A_2 c i arg3 harg3 arg4 harg4 arg5 harg5 hc0 hc1 x y = k0_pay1 (F := Ideal) x y := by
  unfold out0_A_2
  rw [View.read_writes_junk_eq_canon]
  unfold kernelRun0_A
  dsimp only
  sl_unfold_words
  simp only [View.readAt_eq_ld, Memref.IsWhole.read_unread, View.ld_unit_zero (S := S2816x256) whole2, View.ld_unit_zero (S := S2816x1024) whole2]
  rw [View.canon_cons_unit_zero whole2]

theorem out_B (hc0 : ¬cond0_0 i) (hc1 : cond0_1 i) : out0_B_2 c i arg3 harg3 arg4 harg4 arg5 harg5 hc0 hc1 x y o = k0_pay2 (F := Ideal) x y o := by
  unfold out0_B_2
  rw [View.read_writes_junk_eq_canon]
  unfold kernelRun0_B
  dsimp only
  sl_unfold_words
  simp only [View.readAt_eq_ld, Memref.IsWhole.read_unread, View.ld_unit_zero (S := S2816x256) whole2, View.ld_unit_zero (S := S2816x1024) whole2,
    View.ld_unit_zero (S := S256x1024) whole2]
  rw [View.canon_cons_unit_zero whole2]

end Body

variable (m : (ℓ : Loc nD τ sig) → Buf (Elt Ideal) ℓ) (c : Dev nD)

/-- The left factor and the cotangent a device holds. -/
abbrev X0 : S8448x256.Idx → EReal := m ((c : Thread nD τ).loc main_arg0)
abbrev X2 : S8448x2048.Idx → EReal := m ((c : Thread nD τ).loc main_arg2)

/-! ## The arrays the blocks are cut from, and where the blocks lie -/

theorem h_eq : V (F := Ideal) m c main_v0 = X0 m c := by
  unfold V
  after_reads_simp
  rfl

theorem ct_eq : V (F := Ideal) m c main_v1 = X2 m c := by
  unfold V
  after_reads_simp
  rfl

theorem e0 : ∀ t : Fin cfg0.N, win0_0.index t = ![t.val % 3, 0] := (by decide +kernel : ∀ t : Fin grid0.N, _)
theorem e1 : ∀ t : Fin cfg0.N, win0_1.index t = ![t.val % 3, t.val / 3] := (by decide +kernel : ∀ t : Fin grid0.N, _)
theorem e2 : ∀ t : Fin cfg0.N, win0_2.index t = ![0, t.val / 3] := (by decide +kernel : ∀ t : Fin grid0.N, _)

theorem lt_N (t : Fin cfg0.N) : t.val < 6 := lt_of_lt_of_eq t.isLt N_0

/-- A row and a column of a point's block, in the whole product; a row of its factors. -/
def pa (t : Fin cfg0.N) (a : Fin 256) : Fin 256 := ⟨256 * (0) + a.val, by have := lt_N t; omega⟩
def pe (t : Fin cfg0.N) (e : Fin 1024) : Fin 2048 := ⟨1024 * (t.val / 3) + e.val, by have := lt_N t; omega⟩
def pr (t : Fin cfg0.N) (r : Fin 2816) : Fin 8448 := ⟨2816 * (t.val % 3) + r.val, by omega⟩

section Blocks

variable (t : Fin cfg0.N)

/-- The blocks a point reads. -/
abbrev bh : Vec Ideal S2816x256 .bf16 := iblk m c 0 t
abbrev bct : Vec Ideal S2816x1024 .bf16 := iblk m c 1 t

theorem h_blk (r : Fin 2816) (a : Fin 256) : bh m c t (ix2 r a) = X0 m c (ix2 (pr t r) (pa t a)) := by
  rw [← h_eq m c]
  blk_ext [iblk, e0 t, pa, pr]

theorem ct_blk (r : Fin 2816) (e : Fin 1024) : bct m c t (ix2 r e) = X2 m c (ix2 (pr t r) (pe t e)) := by
  rw [← ct_eq m c]
  blk_ext [iblk, e1 t, pe, pr]

end Blocks

/-! ## The sum along the grid -/

theorem prev_lt (t : Fin cfg0.N) : t.val - 1 < cfg0.N := Nat.lt_of_le_of_lt (Nat.sub_le _ _) t.isLt

/-- The terms of one element of a point's block. -/
abbrev term (t : Fin cfg0.N) (a : Fin 256) (e : Fin 1024) (r : Fin 8448) : EReal := X0 m c (ix2 r (pa t a)) * X2 m c (ix2 r (pe t e))

theorem term_pred (t : Fin cfg0.N) (h : ¬t.val % 3 = 0) (a : Fin 256) (e : Fin 1024) : term m c ⟨t.val - 1, prev_lt t⟩ a e = term m c t a e := by
  have hN := lt_N t
  funext r
  unfold term
  rw [show pa ⟨t.val - 1, prev_lt t⟩ a = pa t a from Fin.ext rfl,
    show pe ⟨t.val - 1, prev_lt t⟩ e = pe t e from Fin.ext (by unfold pe; dsimp only; omega)]

/-- A point adds its rows' terms. -/
theorem add_rows (t : Fin cfg0.N) (a : Fin 256) (e : Fin 1024) : cum (2816 * (t.val % 3) + 2816) (term m c t a e)
    = cum (2816 * (t.val % 3)) (term m c t a e) + ∑ r : Fin 2816, bh m c t (ix2 r a) * bct m c t (ix2 r e) := by
  rw [cum_add _ _ _ (by omega)]
  refine congrArg _ (Finset.sum_congr rfl fun r _ => ?_)
  rw [h_blk, ct_blk]
  rfl

/-- After a point the block holds the sums over the rows done so far. -/
theorem sum_at (n : ℕ) : ∀ (hn : n < cfg0.N) (a : Fin 256) (e : Fin 1024),
    outsAt0 m c n hn (ix2 a e) = cum (2816 * (n % 3) + 2816) (term m c ⟨n, hn⟩ a e) := by
  induction n using Nat.strong_induction_on with
  | _ n ih =>
    intro hn a e
    rw [add_rows m c ⟨n, hn⟩ a e]
    by_cases h0 : n % 3 = 0
    · refine (congrFun (outsAt0_A m c ⟨n, hn⟩ h0 (by show ¬1 ≤ n % 3; omega)) (ix2 a e)).trans ?_
      rw [out_A, pay]
      show _ = cum (2816 * (n % 3)) _ + _
      rw [h0, mul_zero, cum_zero, zero_add]
    · refine (congrFun (outsAt0_B m c ⟨n, hn⟩ h0 (by show 1 ≤ n % 3; omega)) (ix2 a e)).trans ?_
      rw [out_B, pay']
      refine congrArg (· + _) ?_
      refine (ih (n - 1) (by omega) (prev_lt ⟨n, hn⟩) a e).trans ?_
      rw [term_pred m c ⟨n, hn⟩ h0 a e, show 2816 * ((n - 1) % 3) + 2816 = 2816 * (n % 3) by omega]

/-! ## The result -/

theorem final : (dats (F := Ideal) m 0 c).arrAt 2 cfg0.N = tn (X0 m c) (X2 m c) := by
  refine (dats (F := Ideal) m 0 c).arrAt_eq_of_covers 2 _ (by decide +kernel) fun t hf y => ?_
  have ht := (flush0_2 t).mp hf
  obtain ⟨a, e, rfl⟩ : ∃ (a : Fin 256) (e : Fin 1024), y = ix2 a e := ⟨_, _, eq_ix2 (n0 := 256) (n1 := 1024) y⟩
  rw [tn_of (X0 m c) (X2 m c) (pa t a) (pe t e) _ (by blk_simp [e2 t]; show _ = 256 * (0) + a.val; omega)
    (by blk_simp [e2 t]; show _ = 1024 * (t.val / 3) + e.val; omega)]
  have hs := sum_at m c t.val t.isLt a e
  rw [ht, show 2816 * 2 + 2816 = 8448 from rfl, cum_all] at hs
  refine Eq.trans ?_ hs
  blk_simp
  rw [after0_2]

theorem frame_p : Cert.quiescent_Kernel24 := fun m g _ => Cert.Kernel24.Gen.frame m g
theorem frame_pi : Cert.quiescent_Kernel24Ideal := fun m g _ => Cert.Kernel24Ideal.Gen.frame m g
theorem frame_ri : Cert.quiescent_Reference24Ideal := fun m g _ =>
  (θ_run Cert.Reference24Ideal.defs _ _).mono (fun r h => ⟨fun c => (h c).2, sem_eq_zero_of_no_sems (by decide) r.2⟩) (Cert.Reference24Ideal.Value.run (F := Ideal) m g)
theorem preserves : Cert.preserves_Kernel24_Kernel24Ideal := trivial

theorem algebraic : Cert.algebraic_Kernel24Ideal_Reference24Ideal := by
  intro m g m' g' _ hagree
  refine ⟨_, (θ_run _ _ _).mono (fun r h => h) (Cert.Kernel24Ideal.Value.run_blocks (F := Ideal) m g), ?_⟩
  refine (θ_run _ _ _).mono (fun r h c => ?_) (Cert.Reference24Ideal.Value.run (F := Ideal) m' g')
  obtain ⟨a0, _, a2⟩ := hagree c
  refine ⟨?_, (h c).2⟩
  rw [(h c).1, final m c, Cert.Reference24Ideal.Read.val_main_v2_eq, a0, a2]
  funext i
  rw [Cert.Reference24Ideal.Read.val_main_v2_apply, Cert.Reference24Ideal.Read.val_main_v1_apply]
  refine Finset.sum_congr rfl fun r _ => (mul_comm _ _).trans (congrArg₂ (· * ·) (congrArg _ ?_) (congrArg _ ?_)) <;>
    exact funext fun b => match b with
      | ⟨0, _⟩ => rfl
      | ⟨1, _⟩ => rfl

end Cert.Products.KvUpDw

end
-- ==== Proof.Conv.FwdRows.lean ====
/-
  The convolution forward at an entry: the row before, the row and the row after it, each times a weight, and the bias; the
  gate's sigmoid linear unit; and the rows before and after a row as the kernel finds them, whose trips take 32 rows each.
-/
module

public import proofs.«01_k».proof.Defs
public import proofs.«01_k».proof.Proof.Conv.Rows

@[expose] public section

noncomputable section

namespace Cert.Conv.Fwd

open Idealize.ShloMosaic Idealize.ShloMosaic.TcCoe Idealize.ShloMosaic.Tactic Idealize.SL.Sem Cert.Conv

/-- Three taps at row `r` of a column. -/
def taps (f : ℕ → EReal) (r : ℕ) (w0 w1 w2 : EReal) : EReal := prev f r * w0 + f r * w1 + f (r + 1) * w2

/-- A gate's value. -/
def silu (g : EReal) : EReal := g * Ideal.div 1 (1 + Ideal.exp (-g))

/-- A column of the left half and one of the right half. -/
def pl (e : Fin 2816) : Fin 5632 := ⟨e.val, by omega⟩
def pr (e : Fin 2816) : Fin 5632 := ⟨2816 + e.val, by omega⟩

/-- The gated convolution of an array's rows, by weights `w` and bias `b`. -/
def gated (D : (⟨2, ![8192, 5632]⟩ : Shape).Idx → EReal) (w : Fin 3 → Fin 5632 → EReal) (b : Fin 5632 → EReal) (r : ℕ) (e : Fin 2816) : EReal :=
  silu (taps (col D (pr e)) r (w 0 (pr e)) (w 1 (pr e)) (w 2 (pr e)) + b (pr e))
    * (taps (col D (pl e)) r (w 0 (pl e)) (w 1 (pl e)) (w 2 (pl e)) + b (pl e))

theorem iv0 : ∀ k : Fin 8, Scalar.cmpi .eq (Scf.iv (0#32) (1#32) k.val) 0#32 = if k.val = 0 then 1#1 else 0#1 := by decide +kernel
theorem iv7 : ∀ k : Fin 8, Scalar.cmpi .eq (Scf.iv (0#32) (1#32) k.val) 7#32 = if k.val = 7 then 1#1 else 0#1 := by decide +kernel
theorem ra0 : ∀ a : Fin 32, IntOp.cmpi .eq (BitVec.ofNat 32 a.val) 0#32 = if a.val = 0 then 1#1 else 0#1 := by decide +kernel
theorem ra31 : ∀ a : Fin 32, IntOp.cmpi .eq (BitVec.ofNat 32 a.val) 31#32 = if a.val = 31 then 1#1 else 0#1 := by decide +kernel

/-- The row before row `a` of trip `k` of point `i`: from the trip's rows `C`, the point's rows `L` or the rows before the point's `H`. -/
theorem prev_eq (i : Fin 32) (k : Fin 8) (a : Fin 32) (f : ℕ → EReal) (H L C : EReal) (hH : i.val ≠ 0 → H = f (256 * i.val - 1))
    (hL : k.val ≠ 0 → L = f (256 * i.val + 32 * k.val - 1)) (hC : a.val ≠ 0 → C = f (256 * i.val + 32 * k.val + a.val - 1)) :
    Scalar.select (IntOp.cmpi .eq (BitVec.ofNat 32 a.val) 0#32)
        (Scalar.select (Scalar.andi (Scalar.cmpi .eq (Scf.iv (0#32) (1#32) k.val) 0#32) (Scalar.cmpi .eq (BitVec.ofNat 32 i.val) 0#32)) 0
          (Scalar.select (Scalar.cmpi .eq (Scf.iv (0#32) (1#32) k.val) 0#32) H L)) C
      = prev f (256 * i.val + 32 * k.val + a.val) := by
  rw [iv0, gi0, ra0, andi_ite, sel, sel, sel]
  unfold prev
  by_cases ha : a.val = 0
  · by_cases hk : k.val = 0
    · by_cases hi : i.val = 0
      · rw [if_pos ha, if_pos ⟨hk, hi⟩, if_pos (by omega)]
      · rw [if_pos ha, if_neg (fun h => hi h.2), if_pos hk, if_neg (by omega), hH hi]
        exact congrArg f (by omega)
    · rw [if_pos ha, if_neg (fun h => hk h.1), if_neg hk, if_neg (by omega), hL hk]
      exact congrArg f (by omega)
  · rw [if_neg ha, if_neg (by omega), hC ha]

/-- The row after it. -/
theorem next_eq (i : Fin 32) (k : Fin 8) (a : Fin 32) (f : ℕ → EReal) (hf : f 8192 = 0) (H L C : EReal) (hH : i.val ≠ 31 → H = f (256 * i.val + 256))
    (hL : k.val ≠ 7 → L = f (256 * i.val + 32 * k.val + 32)) (hC : a.val ≠ 31 → C = f (256 * i.val + 32 * k.val + a.val + 1)) :
    Scalar.select (IntOp.cmpi .eq (BitVec.ofNat 32 a.val) 31#32)
        (Scalar.select (Scalar.andi (Scalar.cmpi .eq (Scf.iv (0#32) (1#32) k.val) 7#32) (Scalar.cmpi .eq (BitVec.ofNat 32 i.val) 31#32)) 0
          (Scalar.select (Scalar.cmpi .eq (Scf.iv (0#32) (1#32) k.val) 7#32) H L)) C
      = f (256 * i.val + 32 * k.val + a.val + 1) := by
  rw [iv7, gi31, ra31, andi_ite, sel, sel, sel]
  by_cases ha : a.val = 31
  · by_cases hk : k.val = 7
    · by_cases hi : i.val = 31
      · rw [if_pos ha, if_pos ⟨hk, hi⟩, ← hf]
        exact congrArg f (by omega)
      · rw [if_pos ha, if_neg (fun h => hi h.2), if_pos hk, hH hi]
        exact congrArg f (by omega)
    · rw [if_pos ha, if_neg (fun h => hk h.1), if_neg hk, hL hk]
      exact congrArg f (by omega)
  · rw [if_neg ha, hC ha]

end Cert.Conv.Fwd

end
-- ==== Proof.Conv.FwdBlock.lean ====
/-
  The convolution forward, one grid point: a row of the result is the gate's sigmoid linear unit times the value, each of them
  three rows of its half of the input times three rows of the weights, with the bias added.
-/
module

public import proofs.«01_k».proof.Defs
public import proofs.«01_k».proof.Proof.Conv.FwdRows
public import proofs.«01_k».proof.Proof.Gen.Kernel25Ideal
public import proofs.«01_k».proof.Proof.Gen.Kernel25Ideal.Frame
public import Idealize.ShloMosaic.Lib.IdealHost
public import Idealize.ShloMosaic.Lib.Pipeline.ValueKit
public import Idealize.ShloMosaic.Lib.Pipeline.CanonAppend

@[expose] public section

set_option maxRecDepth 16384

noncomputable section

namespace Cert.Conv.Fwd

open Idealize.ShloMosaic Idealize.ShloMosaic.TcCoe Idealize.ShloMosaic.Tactic Idealize.SL.Sem Cert.Kernel25Ideal Cert.Kernel25Ideal.Gen Cert.Conv
open Idealize.ShloMosaic.StableHlo
open Idealize.ShloMosaic.Pipeline (Dat)

/-! ## One trip -/

theorem trips_eq : k0_t1_loop.trips = 8 := by decide +kernel
theorem off2 : ∀ k : Fin k0_t1_loop.trips, k0_off2 k = ![32 * k.val - 8, 0] := by decide +kernel

/-- A trip, counted among eight. -/
def tr (k : Fin k0_t1_loop.trips) : Fin 8 := ⟨k.val, lt_of_lt_of_eq k.isLt trips_eq⟩

theorem val_eq (i : Fin 32) (k : Fin k0_t1_loop.trips) (c0 : Vec Ideal S32x2816 .f32) (l0 h0 n0 g0 : Vec Ideal S8x2816 .f32)
    (w : Vec Ideal S8x5632 .f32) (b : Vec Ideal S1x5632 .f32) (f : ℕ → EReal) (hf : f 8192 = 0) (a : Fin 32) (e : Fin 2816)
    (hc : ∀ b : Fin 32, c0 (ix2 b e) = f (256 * i.val + 32 * k.val + b.val))
    (hl : k.val ≠ 0 → l0 (ix2 7 e) = f (256 * i.val + 32 * k.val - 1)) (hh : i.val ≠ 0 → h0 (ix2 7 e) = f (256 * i.val - 1))
    (hn : k.val ≠ 7 → n0 (ix2 0 e) = f (256 * i.val + 32 * k.val + 32)) (hg : i.val ≠ 31 → g0 (ix2 0 e) = f (256 * i.val + 256)) :
    k0_pay13 (F := Ideal) (k0_pay2 c0) (k0_pay6 (k0_pay2 c0) (k0_pay3 (BitVec.ofNat 32 i.val) 0#32 1#32 k l0 h0) k0_pay5)
        (k0_pay7 (k0_pay2 c0) (iota Kind.tc S32x2816 32 [0] iota_S32x2816_d0_w32) (k0_pay4 (BitVec.ofNat 32 i.val) 0#32 1#32 k n0 g0)) w b (ix2 a e)
      = taps f (256 * i.val + 32 * k.val + a.val) (w (ix2 0 (pl e))) (w (ix2 1 (pl e))) (w (ix2 2 (pl e))) + b (ix2 0 (pl e)) := by
  have p1 : _ = f (256 * i.val + 32 * k.val + a.val + 1) :=
    next_eq i (tr k) a f hf (g0 (ix2 0 e)) (n0 (ix2 0 e)) (c0 (ix2 ⟨(a.val + 32 - 31) % 32, Nat.mod_lt _ (by decide)⟩ e)) hg hn
      (fun ha => (hc _).trans (congrArg f (by show _ + (a.val + 32 - 31) % 32 = _ + 32 * k.val + _ + _; omega)))
  have p2 : _ = prev f (256 * i.val + 32 * k.val + a.val) :=
    prev_eq i (tr k) a f (h0 (ix2 7 e)) (l0 (ix2 7 e)) (c0 (ix2 ⟨(a.val + 32 - 1) % 32, Nat.mod_lt _ (by decide)⟩ e)) hh hl
      (fun ha => (hc _).trans (congrArg f (by show _ + (a.val + 32 - 1) % 32 = _ + 32 * k.val + _ - _; omega)))
  unfold taps
  rw [← p1, ← p2, ← hc a]
  pointwise [k0_pay13, k0_pay2, k0_pay3, k0_pay4, k0_pay5, k0_pay6, k0_pay7, k0_pay11, k0_pay12]
  rfl

theorem gate_eq (i : Fin 32) (k : Fin k0_t1_loop.trips) (c1 : Vec Ideal S32x2816 .f32) (l1 h1 n1 g1 : Vec Ideal S8x2816 .f32)
    (w : Vec Ideal S8x5632 .f32) (f : ℕ → EReal) (hf : f 8192 = 0) (a : Fin 32) (e : Fin 2816)
    (hc : ∀ b : Fin 32, c1 (ix2 b e) = f (256 * i.val + 32 * k.val + b.val))
    (hl : k.val ≠ 0 → l1 (ix2 7 e) = f (256 * i.val + 32 * k.val - 1)) (hh : i.val ≠ 0 → h1 (ix2 7 e) = f (256 * i.val - 1))
    (hn : k.val ≠ 7 → n1 (ix2 0 e) = f (256 * i.val + 32 * k.val + 32)) (hg : i.val ≠ 31 → g1 (ix2 0 e) = f (256 * i.val + 256)) :
    k0_pay14 (F := Ideal) (BitVec.ofNat 32 i.val) (Scf.iv (0#32) (1#32) k) (k0_pay8 c1) (iota Kind.tc S32x2816 32 [0] iota_S32x2816_d0_w32)
        (k0_pay9 (BitVec.ofNat 32 i.val) (Scf.iv (0#32) (1#32) k) l1 h1) (k0_pay10 (Scf.iv (0#32) (1#32) k) n1 g1) w (ix2 a e)
      = taps f (256 * i.val + 32 * k.val + a.val) (w (ix2 0 (pr e))) (w (ix2 1 (pr e))) (w (ix2 2 (pr e))) := by
  have p1 : _ = f (256 * i.val + 32 * k.val + a.val + 1) :=
    next_eq i (tr k) a f hf (g1 (ix2 0 e)) (n1 (ix2 0 e)) (c1 (ix2 ⟨(a.val + 32 - 31) % 32, Nat.mod_lt _ (by decide)⟩ e)) hg hn
      (fun ha => (hc _).trans (congrArg f (by show _ + (a.val + 32 - 31) % 32 = _ + 32 * k.val + _ + _; omega)))
  have p2 : _ = prev f (256 * i.val + 32 * k.val + a.val) :=
    prev_eq i (tr k) a f (h1 (ix2 7 e)) (l1 (ix2 7 e)) (c1 (ix2 ⟨(a.val + 32 - 1) % 32, Nat.mod_lt _ (by decide)⟩ e)) hh hl
      (fun ha => (hc _).trans (congrArg f (by show _ + (a.val + 32 - 1) % 32 = _ + 32 * k.val + _ - _; omega)))
  unfold taps
  rw [← p1, ← p2, ← hc a]
  pointwise [k0_pay14, k0_pay8, k0_pay9, k0_pay10, k0_pay11]
  rfl

theorem bias_eq (b : Vec Ideal S1x5632 .f32) (e : Fin 2816) : k0_pay15 (F := Ideal) b (ix2 0 e) = b (ix2 0 (pr e)) := by
  pointwise [k0_pay15, k0_pay12]
  rfl

theorem pay_eq (v g : Vec Ideal S32x2816 .f32) (b : Vec Ideal S1x2816 .f32) (a : Fin 32) (e : Fin 2816) :
    k0_pay1 (F := Ideal) v g b (ix2 a e) = silu (g (ix2 a e) + b (ix2 0 e)) * v (ix2 a e) := by
  have h : ∀ x : EReal, silu x = x * Ideal.div (Ideal.ofBits .f32 0x3F800000#32) (Ideal.ofBits .f32 0x3F800000#32 + Ideal.exp (Ideal.ofBits .f32 0x00000000#32 - x)) := fun x => by
    rw [Ideal.ofBits_one_f32, Ideal.ofBits_zero_f32, zero_sub]; rfl
  rw [h]
  pointwise [k0_pay1]

/-! ## One block -/

theorem k_lt (k : Fin k0_t1_loop.trips) : k.val < 8 := (tr k).isLt

theorem ld_rows (X : Vec Ideal S256x2816 .f32) (k : Fin k0_t1_loop.trips) (inb) (b : Fin 32) (e : Fin 2816) :
    View.ld X (Rect.unit (k0_off1 k) ![32, 2816] inb) (ix2 b e) = X (ix2 ⟨32 * k.val + b.val, by have := k_lt k; omega⟩ e) :=
  View.ld_unit_apply_of X (k0_off1 k) ![32, 2816] inb (ix2 b e) _ (fun a => by
    refine Eq.trans ?_ (congrArg (· + _) (congrFun (k0_off1_eq k) a).symm)
    match a with
    | ⟨0, _⟩ => rfl
    | ⟨1, _⟩ => exact (Nat.zero_add _).symm)

theorem ld_before (X : Vec Ideal S256x2816 .f32) (k : Fin k0_t1_loop.trips) (inb) (e : Fin 2816) (hk : k.val ≠ 0) :
    View.ld X (Rect.unit (k0_off2 k) ![8, 2816] inb) (ix2 7 e) = X (ix2 ⟨32 * k.val - 1, by have := k_lt k; omega⟩ e) :=
  View.ld_unit_apply_of X (k0_off2 k) ![8, 2816] inb (ix2 7 e) _ (fun a => by
    refine Eq.trans ?_ (congrArg (· + _) (congrFun (off2 k) a).symm)
    match a with
    | ⟨0, _⟩ => show 32 * k.val - 1 = 32 * k.val - 8 + 7; omega
    | ⟨1, _⟩ => exact (Nat.zero_add _).symm)

theorem ld_after (X : Vec Ideal S256x2816 .f32) (k : Fin k0_t1_loop.trips) (inb) (e : Fin 2816) (hk : k.val ≠ 7) :
    View.ld X (Rect.unit (k0_off3 k) ![8, 2816] inb) (ix2 0 e) = X (ix2 ⟨32 * k.val + 32, by have := k_lt k; omega⟩ e) :=
  View.ld_unit_apply_of X (k0_off3 k) ![8, 2816] inb (ix2 0 e) _ (fun a => by
    refine Eq.trans ?_ (congrArg (· + _) (congrFun (k0_off3_eq k) a).symm)
    have := k_lt k
    match a with
    | ⟨0, _⟩ => show 32 * k.val + 32 = min (32 * k.val + 32) 248 + 0; omega
    | ⟨1, _⟩ => exact (Nat.zero_add _).symm)

/-- Point `i`'s blocks of `D`: its rows' two halves, and the eight rows before and after. -/
structure Blocks (D : S8192x5632.Idx → EReal) (i : Fin 32) (x0 x1 : Vec Ideal S256x2816 .f32) (x2 x3 x4 x5 : Vec Ideal S8x2816 .f32) : Prop where
  left : ∀ (a : Fin 256) (e : Fin 2816), x0 (ix2 a e) = col D (pl e) (256 * i.val + a.val)
  right : ∀ (a : Fin 256) (e : Fin 2816), x1 (ix2 a e) = col D (pr e) (256 * i.val + a.val)
  left_before : i.val ≠ 0 → ∀ e : Fin 2816, x2 (ix2 7 e) = col D (pl e) (256 * i.val - 1)
  left_after : i.val ≠ 31 → ∀ e : Fin 2816, x3 (ix2 0 e) = col D (pl e) (256 * i.val + 256)
  right_before : i.val ≠ 0 → ∀ e : Fin 2816, x4 (ix2 7 e) = col D (pr e) (256 * i.val - 1)
  right_after : i.val ≠ 31 → ∀ e : Fin 2816, x5 (ix2 0 e) = col D (pr e) (256 * i.val + 256)

section Block

variable (D : S8192x5632.Idx → EReal) (c : Dev nD) (i : grid0.Coords) (arg1 : Memref sig .tc .vmem S256x2816 .f32) (harg1 : arg1.IsWhole)
  (arg2 : Memref sig .tc .vmem S256x2816 .f32) (harg2 : arg2.IsWhole) (arg3 : Memref sig .tc .vmem S8x2816 .f32) (harg3 : arg3.IsWhole)
  (arg4 : Memref sig .tc .vmem S8x2816 .f32) (harg4 : arg4.IsWhole) (arg5 : Memref sig .tc .vmem S8x2816 .f32) (harg5 : arg5.IsWhole)
  (arg6 : Memref sig .tc .vmem S8x2816 .f32) (harg6 : arg6.IsWhole) (arg7 : Memref sig .tc .vmem S8x5632 .f32) (harg7 : arg7.IsWhole)
  (arg8 : Memref sig .tc .vmem S1x5632 .f32) (harg8 : arg8.IsWhole) (arg9 : Memref sig .tc .vmem S256x2816 .bf16) (harg9 : arg9.IsWhole)
  (x0 x1 : Vec Ideal S256x2816 .f32) (x2 x3 x4 x5 : Vec Ideal S8x2816 .f32) (x6 : Vec Ideal S8x5632 .f32) (x7 : Vec Ideal S1x5632 .f32)

/-- What the point's block of the result holds. -/
def blk (i : Fin 32) : S256x2816.Idx → EReal := fun y =>
  gated D (fun p j => x6 (ix2 ⟨p.val, by omega⟩ j)) (fun j => x7 (ix2 0 j)) (256 * i.val + (y 0).val) (y 1)

theorem whole2 : (![0, 0] : Fin 2 → ℕ) = fun _ => 0 := by
  funext a
  match a with
  | ⟨0, _⟩ => rfl
  | ⟨1, _⟩ => rfl

theorem trip (hB : Blocks D (i 0) x0 x1 x2 x3 x4 x5) (k : Fin k0_t1_loop.trips) :
    ∀ p ∈ tripL_k0_t1 (F := Ideal) Variants.none c none i arg1 harg1 arg2 harg2 arg3 harg3 arg4 harg4 arg5 harg5 arg6 harg6 arg7 harg7 arg8 harg8 arg9 harg9 (BitVec.ofNat 32 (i 0).val)
        (harg1.unread x0) (harg2.unread x1) (harg3.unread x2) (harg4.unread x3) (harg5.unread x4) (harg6.unread x5) (harg7.unread x6) (harg8.unread x7) k,
      ∀ x : p.1.shape.Idx, p.2 x = blk D x6 x7 (i 0) (p.1.emb x) := by
  unfold tripL_k0_t1 trip_k0_t1
  dsimp only
  sl_unfold_words
  simp only [View.readAt_eq_ld, Memref.IsWhole.read_unread, List.mem_singleton, forall_eq]
  rw [View.ld_unit_zero (S := S8x5632) whole2, View.ld_unit_zero (S := S1x5632) whole2, View.ld_unit_zero (S := S8x2816) whole2, View.ld_unit_zero (S := S8x2816) whole2,
    View.ld_unit_zero (S := S8x2816) whole2, View.ld_unit_zero (S := S8x2816) whole2]
  intro x
  obtain ⟨a, e, rfl⟩ : ∃ (a : Fin 32) (e : Fin 2816), x = ix2 a e := ⟨_, _, eq_ix2 (n0 := 32) (n1 := 2816) x⟩
  have hk := k_lt k
  have hi := (i 0).isLt
  have hr : ∀ b : Fin 32, 256 * (i 0).val + (32 * k.val + b.val) = 256 * (i 0).val + 32 * k.val + b.val := fun b => (Nat.add_assoc _ _ _).symm
  have end_ : ∀ j, col D j 8192 = 0 := fun j => col_end D j (by decide)
  have e0 : blk D x6 x7 (i 0) ((Rect.unit (s := S256x2816) (k0_off1 k) S32x2816.size (k0_off1_inb k)).emb (ix2 a e))
      = gated D (fun p j => x6 (ix2 ⟨p.val, by omega⟩ j)) (fun j => x7 (ix2 0 j)) (256 * (i 0).val + 32 * k.val + a.val) e := by
    have q0 : ((Rect.unit (s := S256x2816) (k0_off1 k) S32x2816.size (k0_off1_inb k)).emb (ix2 a e) 0).val = 32 * k.val + a.val := by
      show (k0_off1 k) 0 + 1 * a.val = _
      rw [k0_off1_eq, Nat.one_mul]; rfl
    have q1 : (Rect.unit (s := S256x2816) (k0_off1 k) S32x2816.size (k0_off1_inb k)).emb (ix2 a e) 1 = e := by
      refine Fin.ext ?_
      show (k0_off1 k) 1 + 1 * e.val = _
      rw [k0_off1_eq, Nat.one_mul]; exact Nat.zero_add _
    unfold blk
    rw [q0, q1, hr]
  refine Eq.trans ?_ e0.symm
  refine (pay_eq _ _ _ a e).trans ?_
  unfold gated
  refine congrArg₂ (· * ·) (congrArg silu (congrArg₂ (· + ·) ?_ (bias_eq x7 e))) ?_
  · refine gate_eq (i 0) k _ _ _ _ _ x6 (col D (pr e)) (end_ _) a e (fun b => ?_) (fun h => ?_) (fun h => ?_) (fun h => ?_) (fun h => ?_)
    · exact (ld_rows x1 k _ b _).trans ((hB.right _ _).trans (congrArg (col D _) (hr b)))
    · exact (ld_before x1 k _ _ h).trans ((hB.right _ _).trans (congrArg (col D _) (by show _ + (32 * k.val - 1) = _; omega)))
    · exact hB.right_before h _
    · exact (ld_after x1 k _ _ h).trans ((hB.right _ _).trans (congrArg (col D _) (Nat.add_assoc _ _ _).symm))
    · exact hB.right_after h _
  · refine val_eq (i 0) k _ _ _ _ _ x6 x7 (col D (pl e)) (end_ _) a e (fun b => ?_) (fun h => ?_) (fun h => ?_) (fun h => ?_) (fun h => ?_)
    · exact (ld_rows x0 k _ b _).trans ((hB.left _ _).trans (congrArg (col D _) (hr b)))
    · exact (ld_before x0 k _ _ h).trans ((hB.left _ _).trans (congrArg (col D _) (by show _ + (32 * k.val - 1) = _; omega)))
    · exact hB.left_before h _
    · exact (ld_after x0 k _ _ h).trans ((hB.left _ _).trans (congrArg (col D _) (Nat.add_assoc _ _ _).symm))
    · exact hB.left_after h _

theorem pieces (hB : Blocks D (i 0) x0 x1 x2 x3 x4 x5) (n : ℕ) :
    ∀ p ∈ pb_k0_t1 (F := Ideal) Variants.none c none i arg1 harg1 arg2 harg2 arg3 harg3 arg4 harg4 arg5 harg5 arg6 harg6 arg7 harg7 arg8 harg8 arg9 harg9 (BitVec.ofNat 32 (i 0).val)
        (harg1.unread x0) (harg2.unread x1) (harg3.unread x2) (harg4.unread x3) (harg5.unread x4) (harg6.unread x5) (harg7.unread x6) (harg8.unread x7) n,
      ∀ x : p.1.shape.Idx, p.2 x = blk D x6 x7 (i 0) (p.1.emb x) := by
  induction n with
  | zero => intro p hp; rw [pb_k0_t1.eq_1] at hp; exact absurd hp List.not_mem_nil
  | succ n ih =>
    intro p hp
    rw [pb_k0_t1.eq_2] at hp
    unfold pb_k0_t1Step at hp
    split at hp
    · rcases List.mem_append.1 hp with hp | hp
      · exact trip D c i arg1 harg1 arg2 harg2 arg3 harg3 arg4 harg4 arg5 harg5 arg6 harg6 arg7 harg7 arg8 harg8 arg9 harg9 x0 x1 x2 x3 x4 x5 x6 x7 hB _ p hp
      · exact ih p hp
    · exact ih p hp

theorem out_eq (hB : Blocks D (i 0) x0 x1 x2 x3 x4 x5) :
    out0_A_8 (F := Ideal) c i arg1 harg1 arg2 harg2 arg3 harg3 arg4 harg4 arg5 harg5 arg6 harg6 arg7 harg7 arg8 harg8 arg9 harg9 x0 x1 x2 x3 x4 x5 x6 x7 = blk D x6 x7 (i 0) := by
  funext y
  have hc := cover0_A_8 (F := Ideal) c i arg1 harg1 arg2 harg2 arg3 harg3 arg4 harg4 arg5 harg5 arg6 harg6 arg7 harg7 arg8 harg8 arg9 harg9 x0 x1 x2 x3 x4 x5 x6 x7 y
  unfold out0_A_8
  rw [View.read_writes_junk_eq_canon]
  unfold kernelRun0_A at hc ⊢
  dsimp only at hc ⊢
  rw [← List.append_nil (pb_k0_t1 _ _ _ _ _ _ _ _ _ _ _ _ _ _ _ _ _ _ _ _ _ _ _ _ _ _ _ _ _ _ _ _)]
  exact View.canon_append_of_pieces _ [] _ (pieces D c i arg1 harg1 arg2 harg2 arg3 harg3 arg4 harg4 arg5 harg5 arg6 harg6 arg7 harg7 arg8 harg8 arg9 harg9 x0 x1 x2 x3 x4 x5 x6 x7 hB _) y hc

end Block

end Cert.Conv.Fwd

end
-- ==== Proof.Conv.FwdRef.lean ====
/-
  The reference's convolution forward, read at an entry: the input between two rows of zeros, three shifted copies of it times
  the rows of the weights, the bias, and the gate.
-/
module

public import proofs.«01_k».proof.Defs
public import proofs.«01_k».proof.Proof.Conv.FwdRows
public import proofs.«01_k».proof.Proof.Conv.Ref
public import proofs.«01_k».proof.Proof.Gen.Reference25Ideal
public import proofs.«01_k».proof.Proof.Gen.Reference25Ideal.Read
public import Idealize.ShloMosaic.Lib.IdealHost
public import Idealize.ShloMosaic.Lib.Pipeline.ValueKit

@[expose] public section

set_option maxRecDepth 16384

noncomputable section

namespace Cert.Conv.FwdRef

open Idealize.ShloMosaic Idealize.ShloMosaic.TcCoe Idealize.ShloMosaic.Tactic Idealize.SL.Sem Cert.Conv Cert.Conv.Fwd
open Cert.Reference25Ideal Cert.Reference25Ideal.Read

variable (x0 : (⟨S1x8192x5632, .f32⟩ : BufTy).Contents (Elt Ideal)) (x1 : (⟨S3x5632, .f32⟩ : BufTy).Contents (Elt Ideal))
  (x2 : (⟨S5632, .f32⟩ : BufTy).Contents (Elt Ideal))

theorem zero (i : S_.Idx) : val_main_call0_v0 (F := Ideal) i = 0 := by
  show (((0#32 : BitVec 32).toInt : ℝ) : EReal) = 0
  simp

theorem padded (R : Fin 8194) (j : Fin 5632) : val_main_v0 (F := Ideal) x0 (ix3 (n0 := 1) 0 R j) = if R.val < 1 then 0 else col (Ref.rows x0) j (R.val - 1) :=
  Ref.pad_rows 1 1 x0 _ zero _ _ R j

theorem before (r : Fin 8192) (j : Fin 5632) : val_main_v1 (F := Ideal) x0 (ix3 (n0 := 1) 0 r j) = prev (col (Ref.rows x0) j) r.val := by
  have h : idx_main_v1 (ix3 (n0 := 1) 0 r j) = ix3 (n0 := 1) 0 ⟨r.val, by omega⟩ j := funext fun a => Fin.ext (match a with
    | ⟨0, _⟩ => rfl
    | ⟨1, _⟩ => rfl
    | ⟨2, _⟩ => rfl)
  rw [val_main_v1_apply, h]
  refine (padded x0 ⟨r.val, by omega⟩ j).trans ?_
  unfold prev
  by_cases h : r.val = 0
  · rw [if_pos (show r.val < 1 by omega), if_pos h]
  · rw [if_neg (show ¬r.val < 1 by omega), if_neg h]

theorem at_ (r : Fin 8192) (j : Fin 5632) : val_main_v7 (F := Ideal) x0 (ix3 (n0 := 1) 0 r j) = col (Ref.rows x0) j r.val := by
  have h : idx_main_v7 (ix3 (n0 := 1) 0 r j) = ix3 (n0 := 1) 0 ⟨1 + r.val, by omega⟩ j := funext fun a => Fin.ext (match a with
    | ⟨0, _⟩ => rfl
    | ⟨1, _⟩ => rfl
    | ⟨2, _⟩ => rfl)
  rw [val_main_v7_apply, h]
  refine (padded x0 ⟨1 + r.val, by omega⟩ j).trans ?_
  rw [if_neg (show ¬1 + r.val < 1 by omega)]
  exact congrArg (col (Ref.rows x0) j) (show 1 + r.val - 1 = r.val by omega)

theorem after (r : Fin 8192) (j : Fin 5632) : val_main_v14 (F := Ideal) x0 (ix3 (n0 := 1) 0 r j) = col (Ref.rows x0) j (r.val + 1) := by
  have h : idx_main_v14 (ix3 (n0 := 1) 0 r j) = ix3 (n0 := 1) 0 ⟨2 + r.val, by omega⟩ j := funext fun a => Fin.ext (match a with
    | ⟨0, _⟩ => rfl
    | ⟨1, _⟩ => rfl
    | ⟨2, _⟩ => rfl)
  rw [val_main_v14_apply, h]
  refine (padded x0 ⟨2 + r.val, by omega⟩ j).trans ?_
  rw [if_neg (show ¬2 + r.val < 1 by omega)]
  exact congrArg (col (Ref.rows x0) j) (show 2 + r.val - 1 = r.val + 1 by omega)

theorem w0 (j : Fin 5632) (R : Fin 8192) : val_main_v5 (F := Ideal) x1 (ix3 (n0 := 1) 0 R j) = x1 (ix2 (n0 := 3) 0 j) := by
  rw [val_main_v5_apply, val_main_v4_apply, val_main_v3_apply, val_main_v2_apply]
  refine congrArg x1 (funext fun a => Fin.ext ?_)
  match a with
  | ⟨0, _⟩ => rfl
  | ⟨1, _⟩ => exact Nat.mod_eq_of_lt j.isLt

theorem w1 (j : Fin 5632) (R : Fin 8192) : val_main_v11 (F := Ideal) x1 (ix3 (n0 := 1) 0 R j) = x1 (ix2 (n0 := 3) 1 j) := by
  rw [val_main_v11_apply, val_main_v10_apply, val_main_v9_apply, val_main_v8_apply]
  refine congrArg x1 (funext fun a => Fin.ext ?_)
  match a with
  | ⟨0, _⟩ => rfl
  | ⟨1, _⟩ => exact Nat.mod_eq_of_lt j.isLt

theorem w2 (j : Fin 5632) (R : Fin 8192) : val_main_v18 (F := Ideal) x1 (ix3 (n0 := 1) 0 R j) = x1 (ix2 (n0 := 3) 2 j) := by
  rw [val_main_v18_apply, val_main_v17_apply, val_main_v16_apply, val_main_v15_apply]
  refine congrArg x1 (funext fun a => Fin.ext ?_)
  match a with
  | ⟨0, _⟩ => rfl
  | ⟨1, _⟩ => exact Nat.mod_eq_of_lt j.isLt

theorem bias (j : Fin 5632) (R : Fin 8192) : val_main_v22 (F := Ideal) x2 (ix3 (n0 := 1) 0 R j) = x2 (ix1 j) := by
  rw [val_main_v22_apply, val_main_v21_apply]
  refine congrArg x2 (funext fun a => Fin.ext ?_)
  match a with
  | ⟨0, _⟩ => rfl

/-- The convolution with its bias. -/
theorem conv (r : Fin 8192) (j : Fin 5632) : val_main_v23 (F := Ideal) x0 x1 x2 (ix3 (n0 := 1) 0 r j)
    = taps (col (Ref.rows x0) j) r.val (x1 (ix2 (n0 := 3) 0 j)) (x1 (ix2 (n0 := 3) 1 j)) (x1 (ix2 (n0 := 3) 2 j)) + x2 (ix1 j) := by
  rw [val_main_v23_apply, val_main_v20_apply, val_main_v13_apply, val_main_v6_apply, val_main_v12_apply, val_main_v19_apply, before, at_, after, w0, w1, w2, bias]
  rfl

theorem gate (r : Fin 8192) (e : Fin 2816) : val_main_v25 (F := Ideal) x0 x1 x2 (ix3 (n0 := 1) 0 r e) = val_main_v23 (F := Ideal) x0 x1 x2 (ix3 (n0 := 1) 0 r (pr e)) := by
  rw [val_main_v25_apply]
  refine congrArg _ (funext fun a => Fin.ext ?_)
  match a with
  | ⟨0, _⟩ => rfl
  | ⟨1, _⟩ => rfl
  | ⟨2, _⟩ => rfl

theorem val (r : Fin 8192) (e : Fin 2816) : val_main_v24 (F := Ideal) x0 x1 x2 (ix3 (n0 := 1) 0 r e) = val_main_v23 (F := Ideal) x0 x1 x2 (ix3 (n0 := 1) 0 r (pl e)) := by
  rw [val_main_v24_apply]
  refine congrArg _ (funext fun a => Fin.ext ?_)
  match a with
  | ⟨0, _⟩ => rfl
  | ⟨1, _⟩ => rfl
  | ⟨2, _⟩ => rfl

theorem unit_ (i : S1x8192x2816.Idx) : val_main_v26 (F := Ideal) x0 x1 x2 i = silu (val_main_v25 (F := Ideal) x0 x1 x2 i) := by
  have h : ∀ x : EReal, silu x = x * Ideal.div (Ideal.ofBits .f32 0x3F800000#32) (Ideal.ofBits .f32 0x3F800000#32 + Ideal.exp (-x)) := fun x => by
    rw [Ideal.ofBits_one_f32]; rfl
  rw [h, val_main_v26_apply, val_main_call1_v5_apply, val_main_call1_v4_apply, val_main_call1_cst_0_apply, val_main_call1_v3_apply, val_main_call1_v2_apply,
    val_main_call1_cst_apply, val_main_call1_v1_apply, val_main_call1_v0_apply]
  rfl

/-- The reference's result. -/
theorem result (r : Fin 8192) (e : Fin 2816) : val_main_v29 (F := Ideal) x0 x1 x2 (ix2 r e)
    = gated (Ref.rows x0) (fun p j => x1 (ix2 p j)) (fun j => x2 (ix1 j)) r.val e := by
  rw [val_main_v29_apply]
  show val_main_v28 (F := Ideal) x0 x1 x2 (ix2 r e) = _
  rw [val_main_v28_apply]
  have h : idx_main_v28 (ix2 r e) = ix3 (n0 := 1) 0 r e := by
    refine funext fun a => Fin.ext ?_
    match a with
    | ⟨0, _⟩ => rfl
    | ⟨1, _⟩ => show (r.val * 2816 + e.val) / 2816 % 8192 = r.val; omega
    | ⟨2, _⟩ => show (r.val * 2816 + e.val) % 2816 = e.val; omega
  rw [h, val_main_v27_apply, unit_, gate, val, conv, conv]
  rfl

end Cert.Conv.FwdRef

end
-- ==== Proof.Conv.Fwd.lean ====
/-
  The convolution forward: the blocks that a grid point reads, the rows that lie before and after them, and the array that
  the points' blocks make up.
-/
module

public import proofs.«01_k».proof.Defs
public import proofs.«01_k».proof.Proof.Conv.FwdBlock
public import proofs.«01_k».proof.Proof.Conv.FwdRef
public import proofs.«01_k».proof.Proof.Conv.Set
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import Idealize.ShloMosaic.Lib.StableHlo.RunRead
public import Idealize.ShloMosaic.Lib.Pipeline.ValueKit

@[expose] public section

set_option maxRecDepth 16384

noncomputable section

namespace Cert.Conv.Fwd

open Idealize.ShloMosaic Idealize.ShloMosaic.TcCoe Idealize.ShloMosaic.Tactic Idealize.SL.Sem Cert.Kernel25Ideal Cert.Kernel25Ideal.Gen Cert.Conv
open Idealize.ShloMosaic.StableHlo
open Idealize.ShloMosaic.Pipeline (Dat)

variable (m : (ℓ : Loc nD τ sig) → Buf (Elt Ideal) ℓ) (c : Dev nD)

/-- The input, the weights and the bias a device holds. -/
abbrev X0 : S1x8192x5632.Idx → EReal := m ((c : Thread nD τ).loc main_arg0)
abbrev X1 : S3x5632.Idx → EReal := m ((c : Thread nD τ).loc main_arg1)
abbrev X2 : S5632.Idx → EReal := m ((c : Thread nD τ).loc main_arg2)

/-! ## The arrays the blocks are cut from, and where the blocks lie -/

theorem d_eq : V (F := Ideal) m c main_v3 = Ref.rows (X0 m c) := by
  have h : V (F := Ideal) m c main_v3 = shapeCast S8192x5632 (X0 m c) shapeCasts_S1x8192x5632_S8192x5632 := by
    unfold V
    after_reads_simp
    rfl
  rw [h]
  funext i
  refine shapeCast_apply _ _ i (ix3 (n0 := 1) 0 (i 0) (i 1)) ?_
  rw [Shape.rowMajor_val_three, Shape.rowMajor_val_two]
  show (0 * 8192 + (i 0).val) * 5632 + (i 1).val = (i 0).val * 5632 + (i 1).val
  omega

/-- The weights are the first three rows of the array of eight. -/
theorem w_eq (r : Fin 8) (p : Fin 3) (h : p.val = r.val) (j : Fin 5632) : V (F := Ideal) m c main_v2 (ix2 r j) = X1 m c (ix2 p j) := by
  have e : ∃ (x0 : S8x5632.Idx → EReal) (idx : IVec S1 32), (∀ b, (idx b).toInt = 0)
      ∧ V (F := Ideal) m c main_v2 = Host.scatter scatter_S8x5632_S1_S3x5632_01_n_0_0 (fun _ b => b) x0 idx (X1 m c) := by
    refine ⟨_, _, ?_, by
      unfold V
      after_reads_simp
      rfl⟩
    intro b
    rfl
  obtain ⟨x0, idx, hidx, e⟩ := e
  rw [e]
  exact set_rows scatter_S8x5632_S1_S3x5632_01_n_0_0 rfl rfl rfl x0 idx hidx (X1 m c) r p h j

theorem bias_row (j : Fin 5632) : V (F := Ideal) m c main_v4 (ix2 (n0 := 1) 0 j) = X2 m c (ix1 j) := by
  have h : V (F := Ideal) m c main_v4 = broadcastInDim S1x5632 ![1] bcast_S5632_S1x5632_1 (X2 m c) := by
    unfold V
    after_reads_simp
  rw [h]
  exact broadcastInDim_apply _ bcast_S5632_S1x5632_1 (X2 m c) (ix2 (n0 := 1) 0 j) (ix1 j) (fun a => match a with
    | ⟨0, _⟩ => by show j.val = if (5632 : Nat) = 1 then 0 else j.val; rw [if_neg (by decide)])

theorem c0 : ∀ t : Fin cfg0.N, (grid0.coords t 0).val = t.val := (by decide +kernel : ∀ t : Fin grid0.N, _)
theorem e0 : ∀ t : Fin cfg0.N, win0_0.index t = ![t.val, 0] := (by decide +kernel : ∀ t : Fin grid0.N, _)
theorem e1 : ∀ t : Fin cfg0.N, win0_1.index t = ![t.val, 1] := (by decide +kernel : ∀ t : Fin grid0.N, _)
theorem e2 : ∀ t : Fin cfg0.N, win0_2.index t = ![32 * t.val - 1, 0] := (by decide +kernel : ∀ t : Fin grid0.N, _)
theorem e3 : ∀ t : Fin cfg0.N, win0_3.index t = ![min (32 * (t.val + 1)) 1023, 0] := (by decide +kernel : ∀ t : Fin grid0.N, _)
theorem e4 : ∀ t : Fin cfg0.N, win0_4.index t = ![32 * t.val - 1, 1] := (by decide +kernel : ∀ t : Fin grid0.N, _)
theorem e5 : ∀ t : Fin cfg0.N, win0_5.index t = ![min (32 * (t.val + 1)) 1023, 1] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![t.val, 0] := (by decide +kernel : ∀ t : Fin grid0.N, _)

theorem lt_N (t : Fin cfg0.N) : t.val < 32 := lt_of_lt_of_eq t.isLt N_0

variable (t : Fin cfg0.N)

/-- A row of a point's block, the row before the block's and the row after them. -/
def pa (a : Fin 256) : Fin 8192 := ⟨256 * t.val + a.val, by have := lt_N t; omega⟩
def pb : Fin 8192 := ⟨8 * (32 * t.val - 1) + 7, by have := lt_N t; omega⟩
def pc : Fin 8192 := ⟨8 * min (32 * (t.val + 1)) 1023, by omega⟩

abbrev D : S8192x5632.Idx → EReal := V (F := Ideal) m c main_v3

theorem b0 (a : Fin 256) (e : Fin 2816) : iblk m c 0 t (ix2 a e) = D m c (ix2 (pa t a) (pl e)) := by
  blk_ext [iblk, e0 t, pa, pl]
theorem b1 (a : Fin 256) (e : Fin 2816) : iblk m c 1 t (ix2 a e) = D m c (ix2 (pa t a) (pr e)) := by
  blk_ext [iblk, e1 t, pa, pr]
theorem b2 (e : Fin 2816) : iblk m c 2 t (ix2 (n0 := 8) 7 e) = D m c (ix2 (pb t) (pl e)) := by
  blk_ext [iblk, e2 t, pb, pl]
theorem b3 (e : Fin 2816) : iblk m c 3 t (ix2 (n0 := 8) 0 e) = D m c (ix2 (pc t) (pl e)) := by
  blk_ext [iblk, e3 t, pc, pl]
theorem b4 (e : Fin 2816) : iblk m c 4 t (ix2 (n0 := 8) 7 e) = D m c (ix2 (pb t) (pr e)) := by
  blk_ext [iblk, e4 t, pb, pr]
theorem b5 (e : Fin 2816) : iblk m c 5 t (ix2 (n0 := 8) 0 e) = D m c (ix2 (pc t) (pr e)) := by
  blk_ext [iblk, e5 t, pc, pr]
theorem b6 (r : Fin 8) (j : Fin 5632) : iblk m c 6 t (ix2 r j) = V (F := Ideal) m c main_v2 (ix2 r j) := by
  refine congrArg (V (F := Ideal) m c main_v2) (funext fun a => Fin.ext ?_)
  match a with
  | ⟨0, _⟩ =>
    show win0_6.index t 0 * 8 + 1 * r.val = r.val
    rw [e6 t]
    show 0 * 8 + 1 * r.val = r.val
    omega
  | ⟨1, _⟩ =>
    show win0_6.index t 1 * 5632 + 1 * j.val = j.val
    rw [e6 t]
    show 0 * 5632 + 1 * j.val = j.val
    omega

theorem b7 (j : Fin 5632) : iblk m c 7 t (ix2 (n0 := 1) 0 j) = V (F := Ideal) m c main_v4 (ix2 (n0 := 1) 0 j) := by
  refine congrArg (V (F := Ideal) m c main_v4) (funext fun a => Fin.ext ?_)
  match a with
  | ⟨0, _⟩ =>
    show win0_7.index t 0 * 1 + 1 * 0 = 0
    rw [e7 t]
    rfl
  | ⟨1, _⟩ =>
    show win0_7.index t 1 * 5632 + 1 * j.val = j.val
    rw [e7 t]
    show 0 * 5632 + 1 * j.val = j.val
    omega

theorem pb_eq (h : (grid0.coords t 0).val ≠ 0) : (pb t).val = 256 * (grid0.coords t 0).val - 1 := by
  rw [c0] at h ⊢
  show 8 * (32 * t.val - 1) + 7 = _
  omega
theorem pc_eq (h : (grid0.coords t 0).val ≠ 31) : (pc t).val = 256 * (grid0.coords t 0).val + 256 := by
  have := lt_N t
  rw [c0] at h ⊢
  show 8 * min (32 * (t.val + 1)) 1023 = _
  omega
theorem pa_eq (a : Fin 256) : (pa t a).val = 256 * (grid0.coords t 0).val + a.val := by
  rw [c0]
  rfl

theorem at_row {r : ℕ} (p : Fin 8192) (h : p.val = r) (j : Fin 5632) : D m c (ix2 p j) = col (D m c) j r :=
  h ▸ (col_lt (D m c) j p).symm

theorem blocks : Blocks (D m c) (grid0.coords t 0) (iblk m c 0 t) (iblk m c 1 t) (iblk m c 2 t) (iblk m c 3 t) (iblk m c 4 t) (iblk m c 5 t) where
  left a e := (b0 m c t a e).trans (at_row m c _ (pa_eq t a) _)
  right a e := (b1 m c t a e).trans (at_row m c _ (pa_eq t a) _)
  left_before h e := (b2 m c t e).trans (at_row m c _ (pb_eq t h) _)
  left_after h e := (b3 m c t e).trans (at_row m c _ (pc_eq t h) _)
  right_before h e := (b4 m c t e).trans (at_row m c _ (pb_eq t h) _)
  right_after h e := (b5 m c t e).trans (at_row m c _ (pc_eq t h) _)

/-! ## The result -/

/-- The gated convolution of the input. -/
def full (x : S8192x5632.Idx → EReal) (w : S3x5632.Idx → EReal) (b : S5632.Idx → EReal) : S8192x2816.Idx → EReal := fun y =>
  gated x (fun p j => w (ix2 p j)) (fun j => b (ix1 j)) (y 0).val (y 1)

theorem full_of (x : S8192x5632.Idx → EReal) (w : S3x5632.Idx → EReal) (b : S5632.Idx → EReal) (p : Fin 8192) (j : Fin 2816) (y : S8192x2816.Idx)
    (h0 : (y 0).val = p.val) (h1 : (y 1).val = j.val) : full x w b y = full x w b (ix2 p j) :=
  congrArg (full x w b) (funext fun a => Fin.ext (match a with
    | ⟨0, _⟩ => h0
    | ⟨1, _⟩ => h1))

theorem out_blk (a : Fin 256) (e : Fin 2816) : outsAt0 (F := Ideal) m c t (ix2 a e) = full (Ref.rows (X0 m c)) (X1 m c) (X2 m c) (ix2 (pa t a) e) := by
  unfold outsAt0
  rw [out_eq (D m c) c (grid0.coords t) _ _ _ _ _ _ _ _ _ _ _ _ _ _ _ _ _ _ _ _ _ _ _ _ _ _ (blocks m c t)]
  show gated (D m c) (fun p j => iblk m c 6 t (ix2 (n0 := 8) ⟨p.val, by omega⟩ j)) (fun j => iblk m c 7 t (ix2 (n0 := 1) 0 j)) (256 * (grid0.coords t 0).val + a.val) e
    = gated (Ref.rows (X0 m c)) (fun p j => X1 m c (ix2 p j)) (fun j => X2 m c (ix1 j)) (pa t a).val e
  have hw : (fun (p : Fin 3) (j : Fin 5632) => iblk m c 6 t (ix2 (n0 := 8) ⟨p.val, by omega⟩ j)) = fun p j => X1 m c (ix2 p j) :=
    funext fun p => funext fun j => (b6 m c t _ j).trans (w_eq m c _ p rfl j)
  have hb : (fun j : Fin 5632 => iblk m c 7 t (ix2 (n0 := 1) 0 j)) = fun j => X2 m c (ix1 j) := funext fun j => (b7 m c t j).trans (bias_row m c j)
  rw [hw, hb, ← pa_eq t a, ← d_eq m c]

theorem final : (dats (F := Ideal) m 0 c).arrAt 8 cfg0.N = full (Ref.rows (X0 m c)) (X1 m c) (X2 m c) := by
  refine (dats (F := Ideal) m 0 c).arrAt_eq_of_covers 8 _ (by decide +kernel) fun t hf y => ?_
  obtain ⟨a, e, rfl⟩ : ∃ (a : Fin 256) (e : Fin 2816), y = ix2 a e := ⟨_, _, eq_ix2 (n0 := 256) (n1 := 2816) y⟩
  rw [full_of _ _ _ (pa t a) e _ (by blk_simp [e8 t]; show _ = 256 * t.val + a.val; omega) (by blk_simp [e8 t])]
  refine Eq.trans ?_ (out_blk m c t a e)
  blk_simp
  rw [after0_8]

theorem frame_p : Cert.quiescent_Kernel25 := fun m g _ => Cert.Kernel25.Gen.frame m g
theorem frame_pi : Cert.quiescent_Kernel25Ideal := fun m g _ => Cert.Kernel25Ideal.Gen.frame m g
theorem frame_ri : Cert.quiescent_Reference25Ideal := fun m g _ =>
  (θ_run Cert.Reference25Ideal.defs _ _).mono (fun r h => ⟨fun c => (h c).2, sem_eq_zero_of_no_sems (by decide) r.2⟩) (Cert.Reference25Ideal.Value.run (F := Ideal) m g)
theorem preserves : Cert.preserves_Kernel25_Kernel25Ideal := trivial

theorem algebraic : Cert.algebraic_Kernel25Ideal_Reference25Ideal := by
  intro m g m' g' _ hagree
  refine ⟨_, (θ_run _ _ _).mono (fun r h => h) (Cert.Kernel25Ideal.Value.run_blocks (F := Ideal) m g), ?_⟩
  refine (θ_run _ _ _).mono (fun r h c => ?_) (Cert.Reference25Ideal.Value.run (F := Ideal) m' g')
  obtain ⟨a0, a1, a2⟩ := hagree c
  refine ⟨?_, (h c).2⟩
  rw [(h c).1, final m c, Cert.Reference25Ideal.Read.val_main_v29_eq, a0, a1, a2]
  funext i
  obtain ⟨p, j, rfl⟩ : ∃ (p : Fin 8192) (j : Fin 2816), i = ix2 p j := ⟨_, _, eq_ix2 (n0 := 8192) (n1 := 2816) i⟩
  exact FwdRef.result _ _ _ p j

end Cert.Conv.Fwd

end
-- ==== Proof.Products.AttnOut.lean ====
/-
  The attention's output projection: each grid point's block is the product of a block of 2048 rows of the
  left factor and a block of 1024 columns of the weights, over all 1024 terms at once.
-/
module

public import proofs.«01_k».proof.Defs
public import proofs.«01_k».proof.Proof.Products.Prod
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import Idealize.ShloMosaic.Lib.StableHlo.RunRead
public import Idealize.ShloMosaic.Lib.Pipeline.ValueKit

@[expose] public section

set_option maxRecDepth 16384

noncomputable section

namespace Cert.Products.AttnOut

open Idealize.ShloMosaic Idealize.ShloMosaic.TcCoe Idealize.ShloMosaic.Tactic Idealize.SL.Sem Cert.Kernel26Ideal Cert.Kernel26Ideal.Gen Cert.Products
open Idealize.ShloMosaic.StableHlo
open Idealize.ShloMosaic.Pipeline (Dat)

variable (m : (ℓ : Loc nD τ sig) → Buf (Elt Ideal) ℓ) (c : Dev nD)

/-- The left factor and the weights a device holds. -/
abbrev X0 : S8192x1024.Idx → EReal := m ((c : Thread nD τ).loc main_arg0)
abbrev X1 : S1024x1024.Idx → EReal := m ((c : Thread nD τ).loc main_arg1)

/-! ## One block -/

theorem whole2 : (![0, 0] : Fin 2 → ℕ) = fun _ => 0 := by
  funext a
  match a with
  | ⟨0, _⟩ => rfl
  | ⟨1, _⟩ => rfl

theorem pay (x : Vec Ideal S2048x1024 .bf16) (y : Vec Ideal S1024x1024 .bf16) (a : Fin 2048) (e : Fin 1024) :
    k0_pay1 (F := Ideal) x y (ix2 a e) = ∑ r : Fin 1024, x (ix2 a r) * y (ix2 r e) := by
  pointwise [k0_pay1]

theorem out_eq (x : Vec Ideal S2048x1024 .bf16) (y : Vec Ideal S1024x1024 .bf16) : out0_2 (F := Ideal) x y = k0_pay1 (F := Ideal) x y := by
  unfold out0_2 r0_0 r0_1
  rw [View.canon_cons_unit_zero whole2, View.ld_unit_zero (S := S2048x1024) whole2, View.ld_unit_zero (S := S1024x1024) whole2]

/-! ## The arrays the blocks are cut from, and where the blocks lie -/

theorem h_eq : V (F := Ideal) m c main_v0 = X0 m c := by
  unfold V
  after_reads_simp
  rfl

theorem w_eq : V (F := Ideal) m c main_v1 = X1 m c := by
  unfold V
  after_reads_simp
  rfl

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

theorem lt_N (t : Fin cfg0.N) : t.val < 4 := lt_of_lt_of_eq t.isLt N_0

/-- A row and a column of a point's block, in the whole product. -/
def pa (t : Fin cfg0.N) (a : Fin 2048) : Fin 8192 := ⟨2048 * (t.val) + a.val, by have := lt_N t; omega⟩
def pe (t : Fin cfg0.N) (e : Fin 1024) : Fin 1024 := ⟨1024 * (0) + e.val, by have := lt_N t; omega⟩

variable (t : Fin cfg0.N)

theorem h_blk (a : Fin 2048) (r : Fin 1024) : iblk m c 0 t (ix2 a r) = X0 m c (ix2 (pa t a) r) := by
  rw [← h_eq m c]
  blk_ext [iblk, e0 t, pa]

theorem w_blk (e : Fin 1024) (r : Fin 1024) : iblk m c 1 t (ix2 r e) = X1 m c (ix2 r (pe t e)) := by
  rw [← w_eq m c]
  blk_ext [iblk, e1 t, pe]

/-! ## The result -/

theorem final : (dats (F := Ideal) m 0 c).arrAt 2 cfg0.N = nn (X0 m c) (X1 m c) := by
  refine (dats (F := Ideal) m 0 c).arrAt_eq_of_covers 2 _ (by decide +kernel) fun t hf y => ?_
  obtain ⟨a, e, rfl⟩ : ∃ (a : Fin 2048) (e : Fin 1024), y = ix2 a e := ⟨_, _, eq_ix2 (n0 := 2048) (n1 := 1024) y⟩
  rw [nn_of (X0 m c) (X1 m c) (pa t a) (pe t e) _ (by blk_simp [e2 t]; show _ = 2048 * (t.val) + a.val; omega)
    (by blk_simp [e2 t]; show _ = 1024 * (0) + e.val; omega)]
  refine Eq.trans ?_ ((pay (iblk m c 0 t) (iblk m c 1 t) a e).trans (Finset.sum_congr rfl fun r _ => congrArg₂ (· * ·) (h_blk m c t a r) (w_blk m c t e r)))
  rw [← out_eq]
  blk_simp
  rw [after0_2]

theorem frame_p : Cert.quiescent_Kernel26 := fun m g _ => Cert.Kernel26.Gen.frame m g
theorem frame_pi : Cert.quiescent_Kernel26Ideal := fun m g _ => Cert.Kernel26Ideal.Gen.frame m g
theorem frame_ri : Cert.quiescent_Reference26Ideal := fun m g _ =>
  (θ_run Cert.Reference26Ideal.defs _ _).mono (fun r h => ⟨fun c => (h c).2, sem_eq_zero_of_no_sems (by decide) r.2⟩) (Cert.Reference26Ideal.Value.run (F := Ideal) m g)
theorem preserves : Cert.preserves_Kernel26_Kernel26Ideal := trivial

theorem algebraic : Cert.algebraic_Kernel26Ideal_Reference26Ideal := by
  intro m g m' g' _ hagree
  refine ⟨_, (θ_run _ _ _).mono (fun r h => h) (Cert.Kernel26Ideal.Value.run_blocks (F := Ideal) m g), ?_⟩
  refine (θ_run _ _ _).mono (fun r h c => ?_) (Cert.Reference26Ideal.Value.run (F := Ideal) m' g')
  obtain ⟨a0, a1⟩ := hagree c
  refine ⟨?_, (h c).2⟩
  rw [(h c).1, final m c, Cert.Reference26Ideal.Read.val_main_v0_eq, a0, a1]
  funext i
  rw [Cert.Reference26Ideal.Read.val_main_v0_apply]
  refine Finset.sum_congr rfl fun r _ => congrArg₂ (· * ·) (congrArg _ ?_) (congrArg _ ?_) <;>
    exact funext fun b => match b with
      | ⟨0, _⟩ => rfl
      | ⟨1, _⟩ => rfl

end Cert.Products.AttnOut

end
-- ==== Proof.Products.AttnOutDx.lean ====
/-
  The gradient of the left factor of the attention's output projection: each grid point's block is the product of a block of 2048 rows of the
  cotangent and a block of 1024 rows of the weights, over all 1024 columns at once.
-/
module

public import proofs.«01_k».proof.Defs
public import proofs.«01_k».proof.Proof.Products.Prod
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import Idealize.ShloMosaic.Lib.StableHlo.RunRead
public import Idealize.ShloMosaic.Lib.Pipeline.ValueKit

@[expose] public section

set_option maxRecDepth 16384

noncomputable section

namespace Cert.Products.AttnOutDx

open Idealize.ShloMosaic Idealize.ShloMosaic.TcCoe Idealize.ShloMosaic.Tactic Idealize.SL.Sem Cert.Kernel27Ideal Cert.Kernel27Ideal.Gen Cert.Products
open Idealize.ShloMosaic.StableHlo
open Idealize.ShloMosaic.Pipeline (Dat)

variable (m : (ℓ : Loc nD τ sig) → Buf (Elt Ideal) ℓ) (c : Dev nD)

/-- The weights and the cotangent a device holds. -/
abbrev X1 : S1024x1024.Idx → EReal := m ((c : Thread nD τ).loc main_arg1)
abbrev X2 : S8192x1024.Idx → EReal := m ((c : Thread nD τ).loc main_arg2)

/-! ## One block -/

theorem whole2 : (![0, 0] : Fin 2 → ℕ) = fun _ => 0 := by
  funext a
  match a with
  | ⟨0, _⟩ => rfl
  | ⟨1, _⟩ => rfl

theorem pay (x : Vec Ideal S2048x1024 .bf16) (y : Vec Ideal S1024x1024 .bf16) (a : Fin 2048) (e : Fin 1024) :
    k0_pay1 (F := Ideal) x y (ix2 a e) = ∑ r : Fin 1024, x (ix2 a r) * y (ix2 e r) := by
  pointwise [k0_pay1]

theorem out_eq (x : Vec Ideal S2048x1024 .bf16) (y : Vec Ideal S1024x1024 .bf16) : out0_2 (F := Ideal) x y = k0_pay1 (F := Ideal) x y := by
  unfold out0_2 r0_0 r0_1
  rw [View.canon_cons_unit_zero whole2, View.ld_unit_zero (S := S2048x1024) whole2, View.ld_unit_zero (S := S1024x1024) whole2]

/-! ## The arrays the blocks are cut from, and where the blocks lie -/

theorem ct_eq : V (F := Ideal) m c main_v0 = X2 m c := by
  unfold V
  after_reads_simp
  rfl

theorem w_eq : V (F := Ideal) m c main_v1 = X1 m c := by
  unfold V
  after_reads_simp
  rfl

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

theorem lt_N (t : Fin cfg0.N) : t.val < 4 := lt_of_lt_of_eq t.isLt N_0

/-- A row and a column of a point's block, in the whole product. -/
def pa (t : Fin cfg0.N) (a : Fin 2048) : Fin 8192 := ⟨2048 * (t.val) + a.val, by have := lt_N t; omega⟩
def pe (t : Fin cfg0.N) (e : Fin 1024) : Fin 1024 := ⟨1024 * (0) + e.val, by have := lt_N t; omega⟩

variable (t : Fin cfg0.N)

theorem ct_blk (a : Fin 2048) (r : Fin 1024) : iblk m c 0 t (ix2 a r) = X2 m c (ix2 (pa t a) r) := by
  rw [← ct_eq m c]
  blk_ext [iblk, e0 t, pa]

theorem w_blk (e : Fin 1024) (r : Fin 1024) : iblk m c 1 t (ix2 e r) = X1 m c (ix2 (pe t e) r) := by
  rw [← w_eq m c]
  blk_ext [iblk, e1 t, pe]

/-! ## The result -/

theorem final : (dats (F := Ideal) m 0 c).arrAt 2 cfg0.N = nt (X2 m c) (X1 m c) := by
  refine (dats (F := Ideal) m 0 c).arrAt_eq_of_covers 2 _ (by decide +kernel) fun t hf y => ?_
  obtain ⟨a, e, rfl⟩ : ∃ (a : Fin 2048) (e : Fin 1024), y = ix2 a e := ⟨_, _, eq_ix2 (n0 := 2048) (n1 := 1024) y⟩
  rw [nt_of (X2 m c) (X1 m c) (pa t a) (pe t e) _ (by blk_simp [e2 t]; show _ = 2048 * (t.val) + a.val; omega)
    (by blk_simp [e2 t]; show _ = 1024 * (0) + e.val; omega)]
  refine Eq.trans ?_ ((pay (iblk m c 0 t) (iblk m c 1 t) a e).trans (Finset.sum_congr rfl fun r _ => congrArg₂ (· * ·) (ct_blk m c t a r) (w_blk m c t e r)))
  rw [← out_eq]
  blk_simp
  rw [after0_2]

theorem frame_p : Cert.quiescent_Kernel27 := fun m g _ => Cert.Kernel27.Gen.frame m g
theorem frame_pi : Cert.quiescent_Kernel27Ideal := fun m g _ => Cert.Kernel27Ideal.Gen.frame m g
theorem frame_ri : Cert.quiescent_Reference27Ideal := fun m g _ =>
  (θ_run Cert.Reference27Ideal.defs _ _).mono (fun r h => ⟨fun c => (h c).2, sem_eq_zero_of_no_sems (by decide) r.2⟩) (Cert.Reference27Ideal.Value.run (F := Ideal) m g)
theorem preserves : Cert.preserves_Kernel27_Kernel27Ideal := trivial

theorem algebraic : Cert.algebraic_Kernel27Ideal_Reference27Ideal := by
  intro m g m' g' _ hagree
  refine ⟨_, (θ_run _ _ _).mono (fun r h => h) (Cert.Kernel27Ideal.Value.run_blocks (F := Ideal) m g), ?_⟩
  refine (θ_run _ _ _).mono (fun r h c => ?_) (Cert.Reference27Ideal.Value.run (F := Ideal) m' g')
  obtain ⟨_, a1, a2⟩ := hagree c
  refine ⟨?_, (h c).2⟩
  rw [(h c).1, final m c, Cert.Reference27Ideal.Read.val_main_v3_eq, a1, a2]
  funext i
  rw [Cert.Reference27Ideal.Read.val_main_v3_apply]
  refine Finset.sum_congr rfl fun r _ => congrArg₂ (· * ·) (congrArg _ ?_) (congrArg _ ?_) <;>
    exact funext fun b => match b with
      | ⟨0, _⟩ => rfl
      | ⟨1, _⟩ => rfl

end Cert.Products.AttnOutDx

end
-- ==== Proof.Products.AttnOutDw.lean ====
/-
  The gradient of the weights of the attention's output projection: 4 grid points follow each other on a block of 1024 by 1024 of the
  result; each adds the product over 2048 of the 8192 rows to what the one before left.
-/
module

public import proofs.«01_k».proof.Defs
public import proofs.«01_k».proof.Proof.Products.Prod
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import Idealize.ShloMosaic.Lib.StableHlo.RunRead
public import Idealize.ShloMosaic.Lib.Pipeline.ValueKit

@[expose] public section

set_option maxRecDepth 16384

noncomputable section

namespace Cert.Products.AttnOutDw

open Idealize.ShloMosaic Idealize.ShloMosaic.TcCoe Idealize.ShloMosaic.Tactic Idealize.SL.Sem Cert.Kernel28Ideal Cert.Kernel28Ideal.Gen Cert.Products Cert.Fwd
open Idealize.ShloMosaic.StableHlo
open Idealize.ShloMosaic.Pipeline (Dat)

/-! ## One block -/

section Body

variable (c : Dev nD) (i : grid0.Coords) (arg3 : Memref sig .tc .vmem S2048x1024 .bf16) (harg3 : arg3.IsWhole)
  (arg4 : Memref sig .tc .vmem S2048x1024 .bf16) (harg4 : arg4.IsWhole) (arg5 : Memref sig .tc .vmem S1024x1024 .f32) (harg5 : arg5.IsWhole)
  (x : Vec Ideal S2048x1024 .bf16) (y : Vec Ideal S2048x1024 .bf16) (o : Vec Ideal S1024x1024 .f32)

theorem whole2 : (![0, 0] : Fin 2 → ℕ) = fun _ => 0 := by
  funext a
  match a with
  | ⟨0, _⟩ => rfl
  | ⟨1, _⟩ => rfl

theorem pay (a : Fin 1024) (e : Fin 1024) : k0_pay1 (F := Ideal) x y (ix2 a e) = ∑ r : Fin 2048, x (ix2 r a) * y (ix2 r e) := by
  pointwise [k0_pay1]

theorem pay' (a : Fin 1024) (e : Fin 1024) : k0_pay2 (F := Ideal) x y o (ix2 a e) = o (ix2 a e) + ∑ r : Fin 2048, x (ix2 r a) * y (ix2 r e) := by
  rw [← pay]
  pointwise [k0_pay2]

theorem out_A (hc0 : cond0_0 i) (hc1 : ¬cond0_1 i) : out0_A_2 c i arg3 harg3 arg4 harg4 arg5 harg5 hc0 hc1 x y = k0_pay1 (F := Ideal) x y := by
  unfold out0_A_2
  rw [View.read_writes_junk_eq_canon]
  unfold kernelRun0_A
  dsimp only
  sl_unfold_words
  simp only [View.readAt_eq_ld, Memref.IsWhole.read_unread, View.ld_unit_zero (S := S2048x1024) whole2, View.ld_unit_zero (S := S2048x1024) whole2]
  rw [View.canon_cons_unit_zero whole2]

theorem out_B (hc0 : ¬cond0_0 i) (hc1 : cond0_1 i) : out0_B_2 c i arg3 harg3 arg4 harg4 arg5 harg5 hc0 hc1 x y o = k0_pay2 (F := Ideal) x y o := by
  unfold out0_B_2
  rw [View.read_writes_junk_eq_canon]
  unfold kernelRun0_B
  dsimp only
  sl_unfold_words
  simp only [View.readAt_eq_ld, Memref.IsWhole.read_unread, View.ld_unit_zero (S := S2048x1024) whole2, View.ld_unit_zero (S := S2048x1024) whole2,
    View.ld_unit_zero (S := S1024x1024) whole2]
  rw [View.canon_cons_unit_zero whole2]

end Body

variable (m : (ℓ : Loc nD τ sig) → Buf (Elt Ideal) ℓ) (c : Dev nD)

/-- The left factor and the cotangent a device holds. -/
abbrev X0 : S8192x1024.Idx → EReal := m ((c : Thread nD τ).loc main_arg0)
abbrev X2 : S8192x1024.Idx → EReal := m ((c : Thread nD τ).loc main_arg2)

/-! ## The arrays the blocks are cut from, and where the blocks lie -/

theorem h_eq : V (F := Ideal) m c main_v0 = X0 m c := by
  unfold V
  after_reads_simp
  rfl

theorem ct_eq : V (F := Ideal) m c main_v1 = X2 m c := by
  unfold V
  after_reads_simp
  rfl

theorem e0 : ∀ t : Fin cfg0.N, win0_0.index t = ![t.val % 4, 0] := (by decide +kernel : ∀ t : Fin grid0.N, _)
theorem e1 : ∀ t : Fin cfg0.N, win0_1.index t = ![t.val % 4, 0] := (by decide +kernel : ∀ t : Fin grid0.N, _)
theorem e2 : ∀ t : Fin cfg0.N, win0_2.index t = ![0, 0] := (by decide +kernel : ∀ t : Fin grid0.N, _)

theorem lt_N (t : Fin cfg0.N) : t.val < 4 := lt_of_lt_of_eq t.isLt N_0

/-- A row and a column of a point's block, in the whole product; a row of its factors. -/
def pa (t : Fin cfg0.N) (a : Fin 1024) : Fin 1024 := ⟨1024 * (0) + a.val, by have := lt_N t; omega⟩
def pe (t : Fin cfg0.N) (e : Fin 1024) : Fin 1024 := ⟨1024 * (0) + e.val, by have := lt_N t; omega⟩
def pr (t : Fin cfg0.N) (r : Fin 2048) : Fin 8192 := ⟨2048 * (t.val % 4) + r.val, by omega⟩

section Blocks

variable (t : Fin cfg0.N)

/-- The blocks a point reads. -/
abbrev bh : Vec Ideal S2048x1024 .bf16 := iblk m c 0 t
abbrev bct : Vec Ideal S2048x1024 .bf16 := iblk m c 1 t

theorem h_blk (r : Fin 2048) (a : Fin 1024) : bh m c t (ix2 r a) = X0 m c (ix2 (pr t r) (pa t a)) := by
  rw [← h_eq m c]
  blk_ext [iblk, e0 t, pa, pr]

theorem ct_blk (r : Fin 2048) (e : Fin 1024) : bct m c t (ix2 r e) = X2 m c (ix2 (pr t r) (pe t e)) := by
  rw [← ct_eq m c]
  blk_ext [iblk, e1 t, pe, pr]

end Blocks

/-! ## The sum along the grid -/

theorem prev_lt (t : Fin cfg0.N) : t.val - 1 < cfg0.N := Nat.lt_of_le_of_lt (Nat.sub_le _ _) t.isLt

/-- The terms of one element of a point's block. -/
abbrev term (t : Fin cfg0.N) (a : Fin 1024) (e : Fin 1024) (r : Fin 8192) : EReal := X0 m c (ix2 r (pa t a)) * X2 m c (ix2 r (pe t e))

theorem term_pred (t : Fin cfg0.N) (h : ¬t.val % 4 = 0) (a : Fin 1024) (e : Fin 1024) : term m c ⟨t.val - 1, prev_lt t⟩ a e = term m c t a e := by
  have hN := lt_N t
  funext r
  unfold term
  rw [show pa ⟨t.val - 1, prev_lt t⟩ a = pa t a from Fin.ext rfl,
    show pe ⟨t.val - 1, prev_lt t⟩ e = pe t e from Fin.ext rfl]

/-- A point adds its rows' terms. -/
theorem add_rows (t : Fin cfg0.N) (a : Fin 1024) (e : Fin 1024) : cum (2048 * (t.val % 4) + 2048) (term m c t a e)
    = cum (2048 * (t.val % 4)) (term m c t a e) + ∑ r : Fin 2048, bh m c t (ix2 r a) * bct m c t (ix2 r e) := by
  rw [cum_add _ _ _ (by omega)]
  refine congrArg _ (Finset.sum_congr rfl fun r _ => ?_)
  rw [h_blk, ct_blk]
  rfl

/-- After a point the block holds the sums over the rows done so far. -/
theorem sum_at (n : ℕ) : ∀ (hn : n < cfg0.N) (a : Fin 1024) (e : Fin 1024),
    outsAt0 m c n hn (ix2 a e) = cum (2048 * (n % 4) + 2048) (term m c ⟨n, hn⟩ a e) := by
  induction n using Nat.strong_induction_on with
  | _ n ih =>
    intro hn a e
    rw [add_rows m c ⟨n, hn⟩ a e]
    by_cases h0 : n % 4 = 0
    · refine (congrFun (outsAt0_A m c ⟨n, hn⟩ h0 (by show ¬1 ≤ n; have hN := lt_N ⟨n, hn⟩; dsimp only at hN; omega)) (ix2 a e)).trans ?_
      rw [out_A, pay]
      show _ = cum (2048 * (n % 4)) _ + _
      rw [h0, mul_zero, cum_zero, zero_add]
    · refine (congrFun (outsAt0_B m c ⟨n, hn⟩ h0 (by show 1 ≤ n; omega)) (ix2 a e)).trans ?_
      rw [out_B, pay']
      refine congrArg (· + _) ?_
      refine (ih (n - 1) (by omega) (prev_lt ⟨n, hn⟩) a e).trans ?_
      rw [term_pred m c ⟨n, hn⟩ h0 a e, show 2048 * ((n - 1) % 4) + 2048 = 2048 * (n % 4) by omega]

/-! ## The result -/

theorem final : (dats (F := Ideal) m 0 c).arrAt 2 cfg0.N = tn (X0 m c) (X2 m c) := by
  refine (dats (F := Ideal) m 0 c).arrAt_eq_of_covers 2 _ (by decide +kernel) fun t hf y => ?_
  have ht := (flush0_2 t).mp hf
  obtain ⟨a, e, rfl⟩ : ∃ (a : Fin 1024) (e : Fin 1024), y = ix2 a e := ⟨_, _, eq_ix2 (n0 := 1024) (n1 := 1024) y⟩
  rw [tn_of (X0 m c) (X2 m c) (pa t a) (pe t e) _ (by blk_simp [e2 t]; show _ = 1024 * (0) + a.val; omega)
    (by blk_simp [e2 t]; show _ = 1024 * (0) + e.val; omega)]
  have hs := sum_at m c t.val t.isLt a e
  rw [ht, show 2048 * 3 + 2048 = 8192 from rfl, cum_all] at hs
  refine Eq.trans ?_ hs
  blk_simp
  rw [after0_2]

theorem frame_p : Cert.quiescent_Kernel28 := fun m g _ => Cert.Kernel28.Gen.frame m g
theorem frame_pi : Cert.quiescent_Kernel28Ideal := fun m g _ => Cert.Kernel28Ideal.Gen.frame m g
theorem frame_ri : Cert.quiescent_Reference28Ideal := fun m g _ =>
  (θ_run Cert.Reference28Ideal.defs _ _).mono (fun r h => ⟨fun c => (h c).2, sem_eq_zero_of_no_sems (by decide) r.2⟩) (Cert.Reference28Ideal.Value.run (F := Ideal) m g)
theorem preserves : Cert.preserves_Kernel28_Kernel28Ideal := trivial

theorem algebraic : Cert.algebraic_Kernel28Ideal_Reference28Ideal := by
  intro m g m' g' _ hagree
  refine ⟨_, (θ_run _ _ _).mono (fun r h => h) (Cert.Kernel28Ideal.Value.run_blocks (F := Ideal) m g), ?_⟩
  refine (θ_run _ _ _).mono (fun r h c => ?_) (Cert.Reference28Ideal.Value.run (F := Ideal) m' g')
  obtain ⟨a0, _, a2⟩ := hagree c
  refine ⟨?_, (h c).2⟩
  rw [(h c).1, final m c, Cert.Reference28Ideal.Read.val_main_v2_eq, a0, a2]
  funext i
  rw [Cert.Reference28Ideal.Read.val_main_v2_apply, Cert.Reference28Ideal.Read.val_main_v1_apply]
  refine Finset.sum_congr rfl fun r _ => (mul_comm _ _).trans (congrArg₂ (· * ·) (congrArg _ ?_) (congrArg _ ?_)) <;>
    exact funext fun b => match b with
      | ⟨0, _⟩ => rfl
      | ⟨1, _⟩ => rfl

end Cert.Products.AttnOutDw

end
-- ==== Proof.Rows.Basic.lean ====
/-
  The sigmoid in the forms the kernels and the references compute it, and what the row-wise calls make of an element.
-/
module

public import Idealize.ShloMosaic.Lib.IdealHost
public import Idealize.ShloMosaic.Lib.Pipeline.ValueKit

@[expose] public section

noncomputable section

namespace Cert.Rows

open Idealize.ShloMosaic

/-- The sigmoid. -/
def sg (x : EReal) : EReal := Ideal.div 1 (1 + Ideal.exp (-x))

/-- The kernels subtract from zero where the references negate. -/
theorem sg_sub (x : EReal) : Ideal.div (Ideal.ofBits .f32 0x3F800000#32) (Ideal.ofBits .f32 0x3F800000#32 + Ideal.exp (Ideal.ofBits .f32 0x00000000#32 - x)) = sg x := by
  rw [Ideal.ofBits_one_f32, Ideal.ofBits_zero_f32, zero_sub]
  rfl

theorem sg_neg (x : EReal) : Ideal.div (Ideal.ofBits .f32 0x3F800000#32) (Ideal.ofBits .f32 0x3F800000#32 + Ideal.exp (-x)) = sg x := by
  rw [Ideal.ofBits_one_f32]
  rfl

/-- The two branches merged: each is gated, and the second is a gated linear unit of `v` and `t` first. -/
def merged (g s a v t : EReal) : EReal := sg g * a + sg s * (v * sg t)

/-- The merging's derivatives, times the incoming `d`: by the first branch, its gate logit, the second's, and by `v` and `t`. -/
def dBranch (g d : EReal) : EReal := d * sg g
def dGate (g a d : EReal) : EReal := d * a * sg g * (1 - sg g)
def dGate' (s v t d : EReal) : EReal := d * (v * sg t) * sg s * (1 - sg s)
def dVal (s t d : EReal) : EReal := d * sg s * sg t
def dUnit (s v t d : EReal) : EReal := d * sg s * v * sg t * (1 - sg t)

/-- The order a reference multiplies in. -/
theorem unit_order (v s d t u : EReal) : v * (s * d) * (t * u) = d * s * v * t * u := by
  rw [← mul_assoc (v * (s * d)), mul_comm v, mul_comm s]

/-- The mean of a row: the reference divides the sum by 1024, the kernel multiplies it by 1/1024. -/
theorem mean_eq (x : EReal) : Ideal.div x (Ideal.ofBits .f32 0x44800000#32) = x * Ideal.ofBits .f32 0x3A800000#32 := by
  have h : Ideal.ofBits .f32 0x44800000#32 = ((1024 : ℝ) : EReal) := by
    simp [Ideal.ofBits, Ideal.ieee, -EReal.coe_mul]
    try norm_num
  have h' : Ideal.ofBits .f32 0x3A800000#32 = ((1024⁻¹ : ℝ) : EReal) := by
    simp [Ideal.ofBits, Ideal.ieee, -EReal.coe_mul]
    try norm_num
  rw [h, h']
  unfold Ideal.div
  rw [if_neg (by norm_num), EReal.coe_inv]

/-- The residual with its gated branch added. -/
def hidden (x m g : EReal) : EReal := x + g * m

/-- A row `h` over its root mean square, times the weight `w`, scaled by one plus `s` and shifted by `b`. -/
def normed (h : Fin 1024 → EReal) (e : Fin 1024) (w s b : EReal) : EReal :=
  h e * Ideal.rsqrt ((∑ k : Fin 1024, h k * h k) * Ideal.ofBits .f32 0x3A800000#32 + Ideal.ofBits .f32 0x358637BD#32) * w * (Ideal.ofBits .f32 0x3F800000#32 + s) + b

/-- The state-space branch's result: the skipped input and the two directions. -/
def skip (z d f b : EReal) : EReal := z * d + f + b

/-- The gelu in its form by the hyperbolic tangent. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * x * x)))))

/-- The order the kernel multiplies in. -/
theorem gelu_eq (x : EReal) : Ideal.ofBits .f32 0x3F000000#32 * x * (Ideal.ofBits .f32 0x3F800000#32
    + Ideal.tanh (Ideal.ofBits .f32 0x3F4C422A#32 * (x + Ideal.ofBits .f32 0x3D372713#32 * x * x * x))) = gelu x := by
  unfold gelu
  rw [mul_comm (Ideal.ofBits .f32 0x3F000000#32) x, mul_assoc x, mul_assoc _ x x, mul_assoc _ x (x * x), ← mul_assoc x x x]

/-- Two rows side by side. -/
def halves (l r : Fin 1024 → EReal) (j : Fin 2048) : EReal := if h : j.val < 1024 then l ⟨j.val, h⟩ else r ⟨j.val - 1024, by omega⟩

/-- Two arrays side by side, read at an element. -/
theorem concat_halves {n : ℕ} (x₁ x₂ : (⟨2, ![n, 1024]⟩ : Shape).Idx → EReal)
    (h : Shape.Concatenates [(⟨2, ![n, 1024]⟩ : Shape), ⟨2, ![n, 1024]⟩] (⟨2, ![n, 2048]⟩ : Shape) 1) (a : Fin n) (j : Fin 2048) :
    concatenate (⟨2, ![n, 2048]⟩ : Shape) 1 [⟨⟨2, ![n, 1024]⟩, x₁⟩, ⟨⟨2, ![n, 1024]⟩, x₂⟩] h (ix2 a j)
      = halves (fun e => x₁ (ix2 a e)) (fun e => x₂ (ix2 a e)) j := by
  unfold halves
  by_cases hj : j.val < 1024
  · rw [dif_pos hj]
    exact concatenate_pair_apply_left 1 x₁ x₂ h (ix2 a j) rfl (ix2 a ⟨j.val, hj⟩) (fun b => match b with
      | ⟨0, _⟩ => rfl
      | ⟨1, _⟩ => rfl)
  · rw [dif_neg hj]
    refine concatenate_pair_apply_right 1 x₁ x₂ h (ix2 a j) rfl rfl (ix2 a ⟨j.val - 1024, by omega⟩) (fun b hb => match b with
      | ⟨0, _⟩ => rfl
      | ⟨1, _⟩ => absurd rfl hb) ?_
    show j.val - 1024 + 1024 = j.val
    omega

end Cert.Rows

end
-- ==== Proof.Rows.MergeBwd.lean ====
/-
  The gradient of the merging of the two branches: whole call, element by element.
-/
module

public import proofs.«01_k».proof.Defs
public import proofs.«01_k».proof.Proof.Rows.Basic
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import Idealize.ShloMosaic.Lib.Pipeline.ValueKit
public import Idealize.ShloMosaic.Lib.Pipeline.CanonAppend

@[expose] public section

set_option maxRecDepth 16384

noncomputable section

namespace Cert.Rows.MergeBwd

open Idealize.ShloMosaic Idealize.ShloMosaic.TcCoe Idealize.ShloMosaic.Tactic Idealize.SL.Sem Cert.Kernel29Ideal Cert.Kernel29Ideal.Gen
open Idealize.ShloMosaic.Pipeline (Dat)

/-! ## One trip, and one grid point -/

theorem pay4_eq (g : Vec Ideal S64x1024 .f32) (y : S64x1024.Idx) : k0_pay4 (F := Ideal) g y = sg (g y) := by
  rw [← sg_sub]
  rfl
theorem pay5_eq (s : Vec Ideal S64x1024 .f32) (y : S64x1024.Idx) : k0_pay5 (F := Ideal) s y = sg (s y) := by
  rw [← sg_sub]
  rfl
theorem pay6_eq (t : Vec Ideal S64x1024 .f32) (y : S64x1024.Idx) : k0_pay6 (F := Ideal) t y = sg (t y) := by
  rw [← sg_sub]
  rfl

theorem da_eq (g d : Vec Ideal S64x1024 .f32) (y : S64x1024.Idx) : k0_pay1 (F := Ideal) d (k0_pay4 g) y = dBranch (g y) (d y) := by
  unfold dBranch
  rw [← pay4_eq]
  rfl

theorem dglu_eq (s v t d : Vec Ideal S64x1024 .f32) (a : Fin 64) (j : Fin 2048) : k0_pay2 (F := Ideal) v (k0_pay6 t) (k0_pay8 s d) (ix2 a j)
    = halves (fun e => dVal (s (ix2 a e)) (t (ix2 a e)) (d (ix2 a e))) (fun e => dUnit (s (ix2 a e)) (v (ix2 a e)) (t (ix2 a e)) (d (ix2 a e))) j := by
  refine (concat_halves (n := 64) _ _ concatenates_S64x1024_S64x1024_S64x2048_d1 a j).trans ?_
  refine congrArg₂ (fun l r => halves l r j) (funext fun e => ?_) (funext fun e => ?_)
  · unfold dVal
    rw [← pay5_eq, ← pay6_eq]
    rfl
  · unfold dUnit
    rw [← pay5_eq, ← pay6_eq, ← Ideal.ofBits_one_f32]
    rfl

theorem dgate_eq (g s x v t d : Vec Ideal S64x1024 .f32) (a : Fin 64) (j : Fin 2048) : k0_pay3 (F := Ideal) d (k0_pay5 s) (k0_pay7 v t) (k0_pay9 g x d) (ix2 a j)
    = halves (fun e => dGate (g (ix2 a e)) (x (ix2 a e)) (d (ix2 a e))) (fun e => dGate' (s (ix2 a e)) (v (ix2 a e)) (t (ix2 a e)) (d (ix2 a e))) j := by
  refine (concat_halves (n := 64) _ _ concatenates_S64x1024_S64x1024_S64x2048_d1 a j).trans ?_
  refine congrArg₂ (fun l r => halves l r j) (funext fun e => ?_) (funext fun e => ?_)
  · unfold dGate
    rw [← pay4_eq, ← Ideal.ofBits_one_f32]
    rfl
  · unfold dGate'
    rw [← pay5_eq, ← pay6_eq, ← Ideal.ofBits_one_f32]
    rfl

/-- A grid point's blocks of the results, from its blocks of the arguments. -/
def blkA (x0 x1 x2 x3 x4 x5 : Vec Ideal S256x1024 .f32) : Vec Ideal S256x1024 .bf16 := fun y => dBranch (x0 y) (x5 y)
def blkG (x0 x1 x2 x3 x4 x5 : Vec Ideal S256x1024 .f32) : Vec Ideal S256x2048 .bf16 := fun y =>
  halves (fun e => dVal (x1 (ix2 (y 0) e)) (x4 (ix2 (y 0) e)) (x5 (ix2 (y 0) e)))
    (fun e => dUnit (x1 (ix2 (y 0) e)) (x3 (ix2 (y 0) e)) (x4 (ix2 (y 0) e)) (x5 (ix2 (y 0) e))) (y 1)
def blkL (x0 x1 x2 x3 x4 x5 : Vec Ideal S256x1024 .f32) : Vec Ideal S256x2048 .bf16 := fun y =>
  halves (fun e => dGate (x0 (ix2 (y 0) e)) (x2 (ix2 (y 0) e)) (x5 (ix2 (y 0) e)))
    (fun e => dGate' (x1 (ix2 (y 0) e)) (x3 (ix2 (y 0) e)) (x4 (ix2 (y 0) e)) (x5 (ix2 (y 0) e))) (y 1)

theorem off1 : ∀ k : Fin k0_t1_loop.trips, k0_off1 k = ![64 * k.val, 0] := by decide +kernel
theorem off2 : ∀ k : Fin k0_t1_loop.trips, k0_off2 k = ![64 * k.val, 0] := by decide +kernel

/-- Where a trip's rows of a wide result lie: the same rows as its rows of the arguments, every column. -/
abbrev wide (k : Fin k0_t1_loop.trips) (a : Fin 64) (j : Fin 2048) : S256x2048.Idx :=
  (Rect.unit (s := S256x2048) (k0_off2 k) S64x2048.size (k0_off2_inb k)).emb (ix2 a j)

theorem wide1 (k : Fin k0_t1_loop.trips) (a : Fin 64) (j : Fin 2048) : wide k a j 1 = j := by
  refine Fin.ext ?_
  show (k0_off2 k) 1 + 1 * j.val = _
  rw [off2, Nat.one_mul]; exact Nat.zero_add _

theorem ld_row (X : Vec Ideal S256x1024 .f32) (k : Fin k0_t1_loop.trips) (a : Fin 64) (j : Fin 2048) (e : Fin 1024) :
    View.ld X (Rect.unit (s := S256x1024) (k0_off1 k) S64x1024.size (k0_off1_inb k)) (ix2 (n0 := 64) (n1 := 1024) a e) = X (ix2 (n0 := 256) (n1 := 1024) (wide k a j 0) e) :=
  View.ld_unit_apply_of X _ _ _ _ _ (fun b => match b with
    | ⟨0, _⟩ => by
      show (k0_off2 k) 0 + 1 * a.val = (k0_off1 k) 0 + a.val
      rw [off1, off2, Nat.one_mul]
    | ⟨1, _⟩ => by
      show e.val = (k0_off1 k) 1 + e.val
      rw [off1]; exact (Nat.zero_add _).symm)

section Block

variable (c : Dev nD) (i : grid0.Coords) (arg1 : Memref sig .tc .vmem S256x1024 .f32) (harg1 : arg1.IsWhole) (arg2 : Memref sig .tc .vmem S256x1024 .f32) (harg2 : arg2.IsWhole)
  (arg3 : Memref sig .tc .vmem S256x1024 .f32) (harg3 : arg3.IsWhole) (arg4 : Memref sig .tc .vmem S256x1024 .f32) (harg4 : arg4.IsWhole)
  (arg5 : Memref sig .tc .vmem S256x1024 .f32) (harg5 : arg5.IsWhole) (arg6 : Memref sig .tc .vmem S256x1024 .f32) (harg6 : arg6.IsWhole)
  (arg7 : Memref sig .tc .vmem S256x1024 .bf16) (harg7 : arg7.IsWhole) (arg8 : Memref sig .tc .vmem S256x2048 .bf16) (harg8 : arg8.IsWhole)
  (arg9 : Memref sig .tc .vmem S256x2048 .bf16) (harg9 : arg9.IsWhole) (x0 x1 x2 x3 x4 x5 : Vec Ideal S256x1024 .f32)

theorem tripA (k : Fin k0_t1_loop.trips) :
    ∀ p ∈ (tripL_k0_t1 (F := Ideal) Variants.none c none i arg1 harg1 arg2 harg2 arg3 harg3 arg4 harg4 arg5 harg5 arg6 harg6 arg7 harg7 arg8 harg8 arg9 harg9
        (harg1.unread x0) (harg2.unread x1) (harg3.unread x2) (harg4.unread x3) (harg5.unread x4) (harg6.unread x5) k).1,
      ∀ x : p.1.shape.Idx, p.2 x = blkA x0 x1 x2 x3 x4 x5 (p.1.emb x) := by
  unfold tripL_k0_t1 trip_k0_t1
  dsimp only
  sl_unfold_words
  simp only [View.readAt_eq_ld, Memref.IsWhole.read_unread, List.mem_singleton, forall_eq]
  intro x
  exact da_eq _ _ x

theorem tripG (k : Fin k0_t1_loop.trips) :
    ∀ p ∈ (tripL_k0_t1 (F := Ideal) Variants.none c none i arg1 harg1 arg2 harg2 arg3 harg3 arg4 harg4 arg5 harg5 arg6 harg6 arg7 harg7 arg8 harg8 arg9 harg9
        (harg1.unread x0) (harg2.unread x1) (harg3.unread x2) (harg4.unread x3) (harg5.unread x4) (harg6.unread x5) k).2.1,
      ∀ x : p.1.shape.Idx, p.2 x = blkG x0 x1 x2 x3 x4 x5 (p.1.emb x) := by
  unfold tripL_k0_t1 trip_k0_t1
  dsimp only
  sl_unfold_words
  simp only [View.readAt_eq_ld, Memref.IsWhole.read_unread, List.mem_singleton, forall_eq]
  intro x
  obtain ⟨a, j, rfl⟩ : ∃ (a : Fin 64) (j : Fin 2048), x = ix2 a j := ⟨_, _, eq_ix2 (n0 := 64) (n1 := 2048) x⟩
  refine (dglu_eq _ _ _ _ a j).trans ?_
  have h : blkG x0 x1 x2 x3 x4 x5 (wide k a j) = halves (fun e => dVal (x1 (ix2 (wide k a j 0) e)) (x4 (ix2 (wide k a j 0) e)) (x5 (ix2 (wide k a j 0) e)))
      (fun e => dUnit (x1 (ix2 (wide k a j 0) e)) (x3 (ix2 (wide k a j 0) e)) (x4 (ix2 (wide k a j 0) e)) (x5 (ix2 (wide k a j 0) e))) j := by
    unfold blkG
    rw [wide1]
  refine Eq.trans ?_ h.symm
  refine congrArg₂ (fun l r => halves l r j) (funext fun e => ?_) (funext fun e => ?_)
  · rw [← ld_row x1 k a j e, ← ld_row x4 k a j e, ← ld_row x5 k a j e]
    rfl
  · rw [← ld_row x1 k a j e, ← ld_row x3 k a j e, ← ld_row x4 k a j e, ← ld_row x5 k a j e]
    rfl

theorem tripL (k : Fin k0_t1_loop.trips) :
    ∀ p ∈ (tripL_k0_t1 (F := Ideal) Variants.none c none i arg1 harg1 arg2 harg2 arg3 harg3 arg4 harg4 arg5 harg5 arg6 harg6 arg7 harg7 arg8 harg8 arg9 harg9
        (harg1.unread x0) (harg2.unread x1) (harg3.unread x2) (harg4.unread x3) (harg5.unread x4) (harg6.unread x5) k).2.2,
      ∀ x : p.1.shape.Idx, p.2 x = blkL x0 x1 x2 x3 x4 x5 (p.1.emb x) := by
  unfold tripL_k0_t1 trip_k0_t1
  dsimp only
  sl_unfold_words
  simp only [View.readAt_eq_ld, Memref.IsWhole.read_unread, List.mem_singleton, forall_eq]
  intro x
  obtain ⟨a, j, rfl⟩ : ∃ (a : Fin 64) (j : Fin 2048), x = ix2 a j := ⟨_, _, eq_ix2 (n0 := 64) (n1 := 2048) x⟩
  refine (dgate_eq _ _ _ _ _ _ a j).trans ?_
  have h : blkL x0 x1 x2 x3 x4 x5 (wide k a j) = halves (fun e => dGate (x0 (ix2 (wide k a j 0) e)) (x2 (ix2 (wide k a j 0) e)) (x5 (ix2 (wide k a j 0) e)))
      (fun e => dGate' (x1 (ix2 (wide k a j 0) e)) (x3 (ix2 (wide k a j 0) e)) (x4 (ix2 (wide k a j 0) e)) (x5 (ix2 (wide k a j 0) e))) j := by
    unfold blkL
    rw [wide1]
  refine Eq.trans ?_ h.symm
  refine congrArg₂ (fun l r => halves l r j) (funext fun e => ?_) (funext fun e => ?_)
  · rw [← ld_row x0 k a j e, ← ld_row x2 k a j e, ← ld_row x5 k a j e]
    rfl
  · rw [← ld_row x1 k a j e, ← ld_row x3 k a j e, ← ld_row x4 k a j e, ← ld_row x5 k a j e]
    rfl

theorem pieces (n : ℕ) :
    (∀ p ∈ (pb_k0_t1 (F := Ideal) Variants.none c none i arg1 harg1 arg2 harg2 arg3 harg3 arg4 harg4 arg5 harg5 arg6 harg6 arg7 harg7 arg8 harg8 arg9 harg9
        (harg1.unread x0) (harg2.unread x1) (harg3.unread x2) (harg4.unread x3) (harg5.unread x4) (harg6.unread x5) n).1,
      ∀ x : p.1.shape.Idx, p.2 x = blkA x0 x1 x2 x3 x4 x5 (p.1.emb x))
    ∧ (∀ p ∈ (pb_k0_t1 (F := Ideal) Variants.none c none i arg1 harg1 arg2 harg2 arg3 harg3 arg4 harg4 arg5 harg5 arg6 harg6 arg7 harg7 arg8 harg8 arg9 harg9
        (harg1.unread x0) (harg2.unread x1) (harg3.unread x2) (harg4.unread x3) (harg5.unread x4) (harg6.unread x5) n).2.1,
      ∀ x : p.1.shape.Idx, p.2 x = blkG x0 x1 x2 x3 x4 x5 (p.1.emb x))
    ∧ (∀ p ∈ (pb_k0_t1 (F := Ideal) Variants.none c none i arg1 harg1 arg2 harg2 arg3 harg3 arg4 harg4 arg5 harg5 arg6 harg6 arg7 harg7 arg8 harg8 arg9 harg9
        (harg1.unread x0) (harg2.unread x1) (harg3.unread x2) (harg4.unread x3) (harg5.unread x4) (harg6.unread x5) n).2.2,
      ∀ x : p.1.shape.Idx, p.2 x = blkL x0 x1 x2 x3 x4 x5 (p.1.emb x)) := by
  induction n with
  | zero =>
    rw [pb_k0_t1.eq_1]
    exact ⟨fun p hp => absurd hp List.not_mem_nil, fun p hp => absurd hp List.not_mem_nil, fun p hp => absurd hp List.not_mem_nil⟩
  | succ n ih =>
    rw [pb_k0_t1.eq_2]
    unfold pb_k0_t1Step
    split
    · refine ⟨fun p hp => ?_, fun p hp => ?_, fun p hp => ?_⟩
      · rcases List.mem_append.1 hp with hp | hp
        · exact tripA c i arg1 harg1 arg2 harg2 arg3 harg3 arg4 harg4 arg5 harg5 arg6 harg6 arg7 harg7 arg8 harg8 arg9 harg9 x0 x1 x2 x3 x4 x5 _ p hp
        · exact ih.1 p hp
      · rcases List.mem_append.1 hp with hp | hp
        · exact tripG c i arg1 harg1 arg2 harg2 arg3 harg3 arg4 harg4 arg5 harg5 arg6 harg6 arg7 harg7 arg8 harg8 arg9 harg9 x0 x1 x2 x3 x4 x5 _ p hp
        · exact ih.2.1 p hp
      · rcases List.mem_append.1 hp with hp | hp
        · exact tripL c i arg1 harg1 arg2 harg2 arg3 harg3 arg4 harg4 arg5 harg5 arg6 harg6 arg7 harg7 arg8 harg8 arg9 harg9 x0 x1 x2 x3 x4 x5 _ p hp
        · exact ih.2.2 p hp
    · exact ih

theorem outA :
    out0_A_6 (F := Ideal) c i arg1 harg1 arg2 harg2 arg3 harg3 arg4 harg4 arg5 harg5 arg6 harg6 arg7 harg7 arg8 harg8 arg9 harg9 x0 x1 x2 x3 x4 x5 = blkA x0 x1 x2 x3 x4 x5 := by
  funext y
  have hc := cover0_A_6 (F := Ideal) c i arg1 harg1 arg2 harg2 arg3 harg3 arg4 harg4 arg5 harg5 arg6 harg6 arg7 harg7 arg8 harg8 arg9 harg9 x0 x1 x2 x3 x4 x5 y
  unfold out0_A_6
  rw [View.read_writes_junk_eq_canon]
  unfold kernelRun0_A at hc ⊢
  dsimp only at hc ⊢
  rw [← List.append_nil (pb_k0_t1 _ _ _ _ _ _ _ _ _ _ _ _ _ _ _ _ _ _ _ _ _ _ _ _ _ _ _ _ _).1]
  exact View.canon_append_of_pieces _ [] _ (pieces c i arg1 harg1 arg2 harg2 arg3 harg3 arg4 harg4 arg5 harg5 arg6 harg6 arg7 harg7 arg8 harg8 arg9 harg9 x0 x1 x2 x3 x4 x5 _).1 y hc

theorem outG :
    out0_A_7 (F := Ideal) c i arg1 harg1 arg2 harg2 arg3 harg3 arg4 harg4 arg5 harg5 arg6 harg6 arg7 harg7 arg8 harg8 arg9 harg9 x0 x1 x2 x3 x4 x5 = blkG x0 x1 x2 x3 x4 x5 := by
  funext y
  have hc := cover0_A_7 (F := Ideal) c i arg1 harg1 arg2 harg2 arg3 harg3 arg4 harg4 arg5 harg5 arg6 harg6 arg7 harg7 arg8 harg8 arg9 harg9 x0 x1 x2 x3 x4 x5 y
  unfold out0_A_7
  rw [View.read_writes_junk_eq_canon]
  unfold kernelRun0_A at hc ⊢
  dsimp only at hc ⊢
  rw [← List.append_nil (pb_k0_t1 _ _ _ _ _ _ _ _ _ _ _ _ _ _ _ _ _ _ _ _ _ _ _ _ _ _ _ _ _).2.1]
  exact View.canon_append_of_pieces _ [] _ (pieces c i arg1 harg1 arg2 harg2 arg3 harg3 arg4 harg4 arg5 harg5 arg6 harg6 arg7 harg7 arg8 harg8 arg9 harg9 x0 x1 x2 x3 x4 x5 _).2.1 y hc

theorem outL :
    out0_A_8 (F := Ideal) c i arg1 harg1 arg2 harg2 arg3 harg3 arg4 harg4 arg5 harg5 arg6 harg6 arg7 harg7 arg8 harg8 arg9 harg9 x0 x1 x2 x3 x4 x5 = blkL x0 x1 x2 x3 x4 x5 := by
  funext y
  have hc := cover0_A_8 (F := Ideal) c i arg1 harg1 arg2 harg2 arg3 harg3 arg4 harg4 arg5 harg5 arg6 harg6 arg7 harg7 arg8 harg8 arg9 harg9 x0 x1 x2 x3 x4 x5 y
  unfold out0_A_8
  rw [View.read_writes_junk_eq_canon]
  unfold kernelRun0_A at hc ⊢
  dsimp only at hc ⊢
  rw [← List.append_nil (pb_k0_t1 _ _ _ _ _ _ _ _ _ _ _ _ _ _ _ _ _ _ _ _ _ _ _ _ _ _ _ _ _).2.2]
  exact View.canon_append_of_pieces _ [] _ (pieces c i arg1 harg1 arg2 harg2 arg3 harg3 arg4 harg4 arg5 harg5 arg6 harg6 arg7 harg7 arg8 harg8 arg9 harg9 x0 x1 x2 x3 x4 x5 _).2.2 y hc

end Block

/-! ## Where the blocks lie -/

variable (m : (ℓ : Loc nD τ sig) → Buf (Elt Ideal) ℓ) (c : Dev nD)

/-- The packed input projection, the first branch, the second branch before its gated linear unit, and the incoming gradient. -/
abbrev Z : S8448x3456.Idx → EReal := m ((c : Thread nD τ).loc main_arg0)
abbrev A : S8192x1024.Idx → EReal := m ((c : Thread nD τ).loc main_arg1)
abbrev G : S8192x2048.Idx → EReal := m ((c : Thread nD τ).loc main_arg2)
abbrev D : S8192x1024.Idx → EReal := m ((c : Thread nD τ).loc main_arg3)

theorem e0 : ∀ t : Fin cfg0.N, win0_0.index t = ![t.val, 0] := (by decide +kernel : ∀ t : Fin grid0.N, _)
theorem e1 : ∀ t : Fin cfg0.N, win0_1.index t = ![t.val, 1] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 1] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![t.val, 0] := (by decide +kernel : ∀ t : Fin grid0.N, _)
theorem e8 : ∀ t : Fin cfg0.N, win0_8.index t = ![t.val, 0] := (by decide +kernel : ∀ t : Fin grid0.N, _)

theorem lt_N (t : Fin cfg0.N) : t.val < 32 := lt_of_lt_of_eq t.isLt N_0

variable (t : Fin cfg0.N)

/-- A row of a point's block. -/
def pa (a : Fin 256) : Fin 8192 := ⟨256 * t.val + a.val, by have := lt_N t; omega⟩

/-- A row among the packed projection's, and the two halves of its first columns and of the second branch's. -/
def pz (p : Fin 8192) : Fin 8448 := ⟨p.val, by omega⟩
def zl (e : Fin 1024) : Fin 3456 := ⟨e.val, by omega⟩
def zr (e : Fin 1024) : Fin 3456 := ⟨1024 + e.val, by omega⟩
def gl (e : Fin 1024) : Fin 2048 := ⟨e.val, by omega⟩
def gr (e : Fin 1024) : Fin 2048 := ⟨1024 + e.val, by omega⟩

theorem b0 (a : Fin 256) (e : Fin 1024) : X0_0 m c t (ix2 (n0 := 256) (n1 := 1024) a e) = Z m c (ix2 (pz (pa t a)) (zl e)) := by
  unfold X0_0 Pipeline.Window.fill
  rw [dif_pos (moved0_0 t _)]
  blk_ext [iblk, e0 t, pa, pz, zl]
theorem b1 (a : Fin 256) (e : Fin 1024) : X0_1 m c t (ix2 (n0 := 256) (n1 := 1024) a e) = Z m c (ix2 (pz (pa t a)) (zr e)) := by
  unfold X0_1 Pipeline.Window.fill
  rw [dif_pos (moved0_1 t _)]
  blk_ext [iblk, e1 t, pa, pz, zr]
theorem b2 (a : Fin 256) (e : Fin 1024) : iblk m c 2 t (ix2 a e) = A m c (ix2 (pa t a) e) := by
  blk_ext [iblk, e2 t, pa]
theorem b3 (a : Fin 256) (e : Fin 1024) : iblk m c 3 t (ix2 a e) = G m c (ix2 (pa t a) (gl e)) := by
  blk_ext [iblk, e3 t, pa, gl]
theorem b4 (a : Fin 256) (e : Fin 1024) : iblk m c 4 t (ix2 a e) = G m c (ix2 (pa t a) (gr e)) := by
  blk_ext [iblk, e4 t, pa, gr]
theorem b5 (a : Fin 256) (e : Fin 1024) : iblk m c 5 t (ix2 a e) = D m c (ix2 (pa t a) e) := by
  blk_ext [iblk, e5 t, pa]

/-! ## The result -/

/-- The gradients of the first branch, of the second before its gated linear unit, and of the two gates' logits. -/
def fullA (z : S8448x3456.Idx → EReal) (x : S8192x1024.Idx → EReal) (g : S8192x2048.Idx → EReal) (d : S8192x1024.Idx → EReal) : S8192x1024.Idx → EReal := fun y =>
  dBranch (z (ix2 (pz (y 0)) (zl (y 1)))) (d (ix2 (y 0) (y 1)))
def fullG (z : S8448x3456.Idx → EReal) (x : S8192x1024.Idx → EReal) (g : S8192x2048.Idx → EReal) (d : S8192x1024.Idx → EReal) : S8192x2048.Idx → EReal := fun y =>
  halves (fun e => dVal (z (ix2 (pz (y 0)) (zr e))) (g (ix2 (y 0) (gr e))) (d (ix2 (y 0) e)))
    (fun e => dUnit (z (ix2 (pz (y 0)) (zr e))) (g (ix2 (y 0) (gl e))) (g (ix2 (y 0) (gr e))) (d (ix2 (y 0) e))) (y 1)
def fullL (z : S8448x3456.Idx → EReal) (x : S8192x1024.Idx → EReal) (g : S8192x2048.Idx → EReal) (d : S8192x1024.Idx → EReal) : S8192x2048.Idx → EReal := fun y =>
  halves (fun e => dGate (z (ix2 (pz (y 0)) (zl e))) (x (ix2 (y 0) e)) (d (ix2 (y 0) e)))
    (fun e => dGate' (z (ix2 (pz (y 0)) (zr e))) (g (ix2 (y 0) (gl e))) (g (ix2 (y 0) (gr e))) (d (ix2 (y 0) e))) (y 1)

theorem narrow_of (f : S8192x1024.Idx → EReal) (p : Fin 8192) (j : Fin 1024) (y : S8192x1024.Idx) (h0 : (y 0).val = p.val) (h1 : (y 1).val = j.val) :
    f y = f (ix2 p j) :=
  congrArg f (funext fun a => Fin.ext (match a with
    | ⟨0, _⟩ => h0
    | ⟨1, _⟩ => h1))
theorem wide_of (f : S8192x2048.Idx → EReal) (p : Fin 8192) (j : Fin 2048) (y : S8192x2048.Idx) (h0 : (y 0).val = p.val) (h1 : (y 1).val = j.val) :
    f y = f (ix2 p j) :=
  congrArg f (funext fun a => Fin.ext (match a with
    | ⟨0, _⟩ => h0
    | ⟨1, _⟩ => h1))

theorem blkA_eq (a : Fin 256) (e : Fin 1024) : (outsAt0 (F := Ideal) m c t).1 (ix2 a e) = fullA (Z m c) (A m c) (G m c) (D m c) (ix2 (pa t a) e) := by
  unfold outsAt0
  dsimp only
  rw [outA]
  show dBranch (X0_0 m c t (ix2 (n0 := 256) (n1 := 1024) a e)) (iblk m c 5 t (ix2 a e)) = _
  rw [b0, b5]
  rfl

theorem blkG_eq (a : Fin 256) (j : Fin 2048) : (outsAt0 (F := Ideal) m c t).2.1 (ix2 a j) = fullG (Z m c) (A m c) (G m c) (D m c) (ix2 (pa t a) j) := by
  unfold outsAt0
  dsimp only
  rw [outG]
  show halves (fun e => dVal (X0_1 m c t (ix2 (n0 := 256) (n1 := 1024) a e)) (iblk m c 4 t (ix2 a e)) (iblk m c 5 t (ix2 a e)))
    (fun e => dUnit (X0_1 m c t (ix2 (n0 := 256) (n1 := 1024) a e)) (iblk m c 3 t (ix2 a e)) (iblk m c 4 t (ix2 a e)) (iblk m c 5 t (ix2 a e))) j = _
  simp only [b1, b3, b4, b5]
  rfl

theorem blkL_eq (a : Fin 256) (j : Fin 2048) : (outsAt0 (F := Ideal) m c t).2.2 (ix2 a j) = fullL (Z m c) (A m c) (G m c) (D m c) (ix2 (pa t a) j) := by
  unfold outsAt0
  dsimp only
  rw [outL]
  show halves (fun e => dGate (X0_0 m c t (ix2 (n0 := 256) (n1 := 1024) a e)) (iblk m c 2 t (ix2 a e)) (iblk m c 5 t (ix2 a e)))
    (fun e => dGate' (X0_1 m c t (ix2 (n0 := 256) (n1 := 1024) a e)) (iblk m c 3 t (ix2 a e)) (iblk m c 4 t (ix2 a e)) (iblk m c 5 t (ix2 a e))) j = _
  simp only [b0, b1, b2, b3, b4, b5]
  rfl

theorem finalA : (dats (F := Ideal) m 0 c).arrAt 6 cfg0.N = fullA (Z m c) (A m c) (G m c) (D m c) := by
  refine (dats (F := Ideal) m 0 c).arrAt_eq_of_covers 6 _ (by decide +kernel) fun t hf y => ?_
  obtain ⟨a, e, rfl⟩ : ∃ (a : Fin 256) (e : Fin 1024), y = ix2 a e := ⟨_, _, eq_ix2 (n0 := 256) (n1 := 1024) y⟩
  rw [narrow_of (fullA _ _ _ _) (pa t a) e _ (by blk_simp [e6 t]; show _ = 256 * t.val + a.val; omega) (by blk_simp [e6 t])]
  refine Eq.trans ?_ (blkA_eq m c t a e)
  blk_simp
  rw [after0_6]

theorem finalG : (dats (F := Ideal) m 0 c).arrAt 7 cfg0.N = fullG (Z m c) (A m c) (G m c) (D m c) := by
  refine (dats (F := Ideal) m 0 c).arrAt_eq_of_covers 7 _ (by decide +kernel) fun t hf y => ?_
  obtain ⟨a, e, rfl⟩ : ∃ (a : Fin 256) (e : Fin 2048), y = ix2 a e := ⟨_, _, eq_ix2 (n0 := 256) (n1 := 2048) y⟩
  rw [wide_of (fullG _ _ _ _) (pa t a) e _ (by blk_simp [e7 t]; show _ = 256 * t.val + a.val; omega) (by blk_simp [e7 t])]
  refine Eq.trans ?_ (blkG_eq m c t a e)
  blk_simp
  rw [after0_7]

theorem finalL : (dats (F := Ideal) m 0 c).arrAt 8 cfg0.N = fullL (Z m c) (A m c) (G m c) (D m c) := by
  refine (dats (F := Ideal) m 0 c).arrAt_eq_of_covers 8 _ (by decide +kernel) fun t hf y => ?_
  obtain ⟨a, e, rfl⟩ : ∃ (a : Fin 256) (e : Fin 2048), y = ix2 a e := ⟨_, _, eq_ix2 (n0 := 256) (n1 := 2048) y⟩
  rw [wide_of (fullL _ _ _ _) (pa t a) e _ (by blk_simp [e8 t]; show _ = 256 * t.val + a.val; omega) (by blk_simp [e8 t])]
  refine Eq.trans ?_ (blkL_eq m c t a e)
  blk_simp
  rw [after0_8]

/-! ## The reference -/

section Ref

open Cert.Reference29Ideal Cert.Reference29Ideal.Read

variable (x0 : Kernel29Ideal.S8448x3456.Idx → EReal) (x1 : Kernel29Ideal.S8192x1024.Idx → EReal) (x2 : Kernel29Ideal.S8192x2048.Idx → EReal) (x3 : Kernel29Ideal.S8192x1024.Idx → EReal) (p : Fin 8192) (j : Fin 1024)

theorem r_val : val_main_v1 (F := Ideal) x2 (ix2 p j) = x2 (ix2 p (gl j)) := by
  rw [val_main_v1_apply]
  exact congrArg x2 (funext fun a => Fin.ext (match a with
    | ⟨0, _⟩ => rfl
    | ⟨1, _⟩ => rfl))
theorem r_gate : val_main_v2 (F := Ideal) x2 (ix2 p j) = x2 (ix2 p (gr j)) := by
  rw [val_main_v2_apply]
  exact congrArg x2 (funext fun a => Fin.ext (match a with
    | ⟨0, _⟩ => rfl
    | ⟨1, _⟩ => rfl))
theorem r_ga : val_main_v3 (F := Ideal) x0 (ix2 p j) = x0 (ix2 (pz p) (zl j)) := by
  rw [val_main_v3_apply, val_main_v0_apply]
  exact congrArg x0 (funext fun a => Fin.ext (match a with
    | ⟨0, _⟩ => rfl
    | ⟨1, _⟩ => rfl))
theorem r_gs : val_main_v4 (F := Ideal) x0 (ix2 p j) = x0 (ix2 (pz p) (zr j)) := by
  rw [val_main_v4_apply, val_main_v0_apply]
  exact congrArg x0 (funext fun a => Fin.ext (match a with
    | ⟨0, _⟩ => rfl
    | ⟨1, _⟩ => rfl))

theorem s_ga (i : Reference29Ideal.S8192x1024.Idx) : val_main_v10 (F := Ideal) x0 i = sg (val_main_v3 (F := Ideal) x0 i) := by
  rw [← sg_neg, val_main_v10_apply, val_main_v9_apply, val_main_cst_0_apply, val_main_v8_apply, val_main_v7_apply, val_main_cst_apply]
  rfl
theorem s_gs (i : Reference29Ideal.S8192x1024.Idx) : val_main_v20 (F := Ideal) x0 i = sg (val_main_v4 (F := Ideal) x0 i) := by
  rw [← sg_neg, val_main_v20_apply, val_main_v19_apply, val_main_cst_3_apply, val_main_v18_apply, val_main_v17_apply, val_main_cst_2_apply]
  rfl
theorem s_gate (i : Reference29Ideal.S8192x1024.Idx) : val_main_v29 (F := Ideal) x2 i = sg (val_main_v2 (F := Ideal) x2 i) := by
  rw [← sg_neg, val_main_v29_apply, val_main_v28_apply, val_main_cst_6_apply, val_main_v27_apply, val_main_v26_apply, val_main_cst_5_apply]
  rfl

/-- The incoming gradient, reshaped to the shape it has. -/
theorem r_ct : val_main_v37 (F := Ideal) x3 (ix2 p j) = x3 (ix2 p j) := by
  rw [val_main_v37_apply]
  refine congrArg x3 (funext fun a => Fin.ext ?_)
  match a with
  | ⟨0, _⟩ => show (p.val * 1024 + j.val) / 1024 = p.val; omega
  | ⟨1, _⟩ => show (p.val * 1024 + j.val) % 1024 = j.val; omega
theorem r_ct' : val_main_v36 (F := Ideal) x3 (ix2 p j) = x3 (ix2 p j) := by
  rw [val_main_v36_apply]
  refine congrArg x3 (funext fun a => Fin.ext ?_)
  match a with
  | ⟨0, _⟩ => show (p.val * 1024 + j.val) / 1024 = p.val; omega
  | ⟨1, _⟩ => show (p.val * 1024 + j.val) % 1024 = j.val; omega

theorem resultA : val_main_v49 (F := Ideal) x0 x3 (ix2 p j) = fullA x0 x1 x2 x3 (ix2 p j) := by
  rw [val_main_v49_apply]
  show val_main_v44 (F := Ideal) x0 x3 (ix2 p j) = _
  rw [val_main_v44_apply, s_ga, r_ga, r_ct']
  exact mul_comm _ _

theorem u_val : val_main_v41 (F := Ideal) x0 x2 x3 (ix2 p j) = dVal (x0 (ix2 (pz p) (zr j))) (x2 (ix2 p (gr j))) (x3 (ix2 p j)) := by
  rw [val_main_v41_apply, val_main_v38_apply, s_gs, s_gate, r_gs, r_gate, r_ct]
  exact congrArg (· * sg _) (mul_comm _ _)

theorem u_unit : val_main_v42 (F := Ideal) x0 x2 x3 (ix2 p j)
    = dUnit (x0 (ix2 (pz p) (zr j))) (x2 (ix2 p (gl j))) (x2 (ix2 p (gr j))) (x3 (ix2 p j)) := by
  rw [val_main_v42_apply, val_main_v40_apply, val_main_v38_apply, val_main_v32_apply, val_main_v31_apply, val_main_v30_apply, val_main_cst_7_apply,
    s_gs, s_gate, r_val, r_gs, r_gate, r_ct]
  unfold dUnit
  rw [← Ideal.ofBits_one_f32]
  exact unit_order _ _ _ _ _

theorem u_gate : val_main_v46 (F := Ideal) x0 x1 x3 (ix2 p j) = dGate (x0 (ix2 (pz p) (zl j))) (x1 (ix2 p j)) (x3 (ix2 p j)) := by
  rw [val_main_v46_apply, val_main_v45_apply, val_main_v13_apply, val_main_v12_apply, val_main_v11_apply, val_main_cst_1_apply, s_ga, r_ga, r_ct']
  unfold dGate
  rw [← Ideal.ofBits_one_f32]
  exact (mul_assoc _ _ _).symm

theorem u_gate' : val_main_v43 (F := Ideal) x0 x2 x3 (ix2 p j)
    = dGate' (x0 (ix2 (pz p) (zr j))) (x2 (ix2 p (gl j))) (x2 (ix2 p (gr j))) (x3 (ix2 p j)) := by
  rw [val_main_v43_apply, val_main_v39_apply, val_main_v33_apply, val_main_v23_apply, val_main_v22_apply, val_main_v21_apply, val_main_cst_4_apply,
    s_gs, s_gate, r_val, r_gs, r_gate, r_ct]
  unfold dGate'
  rw [← Ideal.ofBits_one_f32]
  exact (mul_assoc _ _ _).symm

theorem resultG (q : Fin 2048) : val_main_v50 (F := Ideal) x0 x2 x3 (ix2 p q) = fullG x0 x1 x2 x3 (ix2 p q) := by
  rw [val_main_v50_apply]
  show val_main_v48 (F := Ideal) x0 x2 x3 (ix2 p q) = _
  refine (concat_halves (n := 8192) _ _ _ p q).trans ?_
  exact congrArg₂ (fun l r => halves l r q) (funext fun e => u_val x0 x2 x3 p e) (funext fun e => u_unit x0 x2 x3 p e)

theorem resultL (q : Fin 2048) : val_main_v51 (F := Ideal) x0 x1 x2 x3 (ix2 p q) = fullL x0 x1 x2 x3 (ix2 p q) := by
  rw [val_main_v51_apply]
  show val_main_v47 (F := Ideal) x0 x1 x2 x3 (ix2 p q) = _
  refine (concat_halves (n := 8192) _ _ _ p q).trans ?_
  exact congrArg₂ (fun l r => halves l r q) (funext fun e => u_gate x0 x1 x3 p e) (funext fun e => u_gate' x0 x2 x3 p e)

end Ref

theorem frame_p : Cert.quiescent_Kernel29 := fun m g _ => Cert.Kernel29.Gen.frame m g
theorem frame_pi : Cert.quiescent_Kernel29Ideal := fun m g _ => Cert.Kernel29Ideal.Gen.frame m g
theorem frame_ri : Cert.quiescent_Reference29Ideal := fun m g _ =>
  (θ_run Cert.Reference29Ideal.defs _ _).mono (fun r h => ⟨fun c => (h c).2.2.2, sem_eq_zero_of_no_sems (by decide) r.2⟩) (Cert.Reference29Ideal.Value.run (F := Ideal) m g)
theorem preserves : Cert.preserves_Kernel29_Kernel29Ideal := trivial

theorem algebraic : Cert.algebraic_Kernel29Ideal_Reference29Ideal := by
  intro m g m' g' _ hagree
  refine ⟨_, _, _, (θ_run _ _ _).mono (fun r h => h) (Cert.Kernel29Ideal.Value.run_blocks (F := Ideal) m g), ?_⟩
  refine (θ_run _ _ _).mono (fun r h c => ?_) (Cert.Reference29Ideal.Value.run (F := Ideal) m' g')
  obtain ⟨a0, a1, a2, a3⟩ := hagree c
  refine ⟨?_, ?_, ?_, (h c).2.2.2⟩
  · rw [(h c).1, finalA m c, Cert.Reference29Ideal.Read.val_main_v49_eq, a0, a3]
    funext i
    obtain ⟨p, j, rfl⟩ : ∃ (p : Fin 8192) (j : Fin 1024), i = ix2 p j := ⟨_, _, eq_ix2 (n0 := 8192) (n1 := 1024) i⟩
    exact resultA _ _ _ _ p j
  · rw [(h c).2.1, finalG m c, Cert.Reference29Ideal.Read.val_main_v50_eq, a0, a2, a3]
    funext i
    obtain ⟨p, j, rfl⟩ : ∃ (p : Fin 8192) (j : Fin 2048), i = ix2 p j := ⟨_, _, eq_ix2 (n0 := 8192) (n1 := 2048) i⟩
    exact resultG _ _ _ _ p j
  · rw [(h c).2.2.1, finalL m c, Cert.Reference29Ideal.Read.val_main_v51_eq, a0, a1, a2, a3]
    funext i
    obtain ⟨p, j, rfl⟩ : ∃ (p : Fin 8192) (j : Fin 2048), i = ix2 p j := ⟨_, _, eq_ix2 (n0 := 8192) (n1 := 2048) i⟩
    exact resultL _ _ _ _ p j

end Cert.Rows.MergeBwd

end
-- ==== Proof.Rows.Merge.lean ====
/-
  The merging of the two branches, forward: whole call, element by element.
-/
module

public import proofs.«01_k».proof.Defs
public import proofs.«01_k».proof.Proof.Rows.Basic
public import proofs.«01_k».proof.Proof.Gen.Kernel30
public import proofs.«01_k».proof.Proof.Gen.Kernel30.Frame
public import proofs.«01_k».proof.Proof.Gen.Kernel30Ideal
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import Idealize.ShloMosaic.Lib.Pipeline.ValueKit
public import Idealize.ShloMosaic.Lib.Pipeline.CanonAppend

@[expose] public section

set_option maxRecDepth 16384

noncomputable section

namespace Cert.Rows.Merge

open Idealize.ShloMosaic Idealize.ShloMosaic.TcCoe Idealize.ShloMosaic.Tactic Idealize.SL.Sem Cert.Kernel30Ideal Cert.Kernel30Ideal.Gen
open Idealize.ShloMosaic.Pipeline (Dat)

/-! ## One trip, and one grid point -/

theorem pay_eq (g s a v t : Vec Ideal S128x1024 .f32) (y : S128x1024.Idx) : k0_pay1 (F := Ideal) g s a v t y = merged (g y) (s y) (a y) (v y) (t y) := by
  unfold merged
  rw [← sg_sub, ← sg_sub, ← sg_sub]
  rfl

/-- A grid point's block of the result, from its blocks of the arguments. -/
def blk (x0 x1 x2 x3 x4 : Vec Ideal S256x1024 .f32) : Vec Ideal S256x1024 .bf16 := fun y => merged (x0 y) (x1 y) (x2 y) (x3 y) (x4 y)

section Block

variable (c : Dev nD) (i : grid0.Coords) (arg1 : Memref sig .tc .vmem S256x1024 .f32) (harg1 : arg1.IsWhole) (arg2 : Memref sig .tc .vmem S256x1024 .f32) (harg2 : arg2.IsWhole)
  (arg3 : Memref sig .tc .vmem S256x1024 .f32) (harg3 : arg3.IsWhole) (arg4 : Memref sig .tc .vmem S256x1024 .f32) (harg4 : arg4.IsWhole)
  (arg5 : Memref sig .tc .vmem S256x1024 .f32) (harg5 : arg5.IsWhole) (arg6 : Memref sig .tc .vmem S256x1024 .bf16) (harg6 : arg6.IsWhole)
  (x0 x1 x2 x3 x4 : Vec Ideal S256x1024 .f32)

theorem trip (k : Fin k0_t1_loop.trips) :
    ∀ p ∈ tripL_k0_t1 (F := Ideal) Variants.none c none i arg1 harg1 arg2 harg2 arg3 harg3 arg4 harg4 arg5 harg5 arg6 harg6
        (harg1.unread x0) (harg2.unread x1) (harg3.unread x2) (harg4.unread x3) (harg5.unread x4) k,
      ∀ x : p.1.shape.Idx, p.2 x = blk x0 x1 x2 x3 x4 (p.1.emb x) := by
  unfold tripL_k0_t1 trip_k0_t1
  dsimp only
  sl_unfold_words
  simp only [View.readAt_eq_ld, Memref.IsWhole.read_unread, List.mem_singleton, forall_eq]
  intro x
  exact pay_eq _ _ _ _ _ x

theorem pieces (n : ℕ) :
    ∀ p ∈ pb_k0_t1 (F := Ideal) Variants.none c none i arg1 harg1 arg2 harg2 arg3 harg3 arg4 harg4 arg5 harg5 arg6 harg6
        (harg1.unread x0) (harg2.unread x1) (harg3.unread x2) (harg4.unread x3) (harg5.unread x4) n,
      ∀ x : p.1.shape.Idx, p.2 x = blk x0 x1 x2 x3 x4 (p.1.emb x) := by
  induction n with
  | zero => intro p hp; rw [pb_k0_t1.eq_1] at hp; exact absurd hp List.not_mem_nil
  | succ n ih =>
    intro p hp
    rw [pb_k0_t1.eq_2] at hp
    unfold pb_k0_t1Step at hp
    split at hp
    · rcases List.mem_append.1 hp with hp | hp
      · exact trip c i arg1 harg1 arg2 harg2 arg3 harg3 arg4 harg4 arg5 harg5 arg6 harg6 x0 x1 x2 x3 x4 _ p hp
      · exact ih p hp
    · exact ih p hp

theorem out_eq :
    out0_A_5 (F := Ideal) c i arg1 harg1 arg2 harg2 arg3 harg3 arg4 harg4 arg5 harg5 arg6 harg6 x0 x1 x2 x3 x4 = blk x0 x1 x2 x3 x4 := by
  funext y
  have hc := cover0_A_5 (F := Ideal) c i arg1 harg1 arg2 harg2 arg3 harg3 arg4 harg4 arg5 harg5 arg6 harg6 x0 x1 x2 x3 x4 y
  unfold out0_A_5
  rw [View.read_writes_junk_eq_canon]
  unfold kernelRun0_A at hc ⊢
  dsimp only at hc ⊢
  rw [← List.append_nil (pb_k0_t1 _ _ _ _ _ _ _ _ _ _ _ _ _ _ _ _ _ _ _ _ _ _)]
  exact View.canon_append_of_pieces _ [] _ (pieces c i arg1 harg1 arg2 harg2 arg3 harg3 arg4 harg4 arg5 harg5 arg6 harg6 x0 x1 x2 x3 x4 _) y hc

end Block

/-! ## Where the blocks lie -/

variable (m : (ℓ : Loc nD τ sig) → Buf (Elt Ideal) ℓ) (c : Dev nD)

/-- The packed input projection, the first branch, and the second branch before its gated linear unit. -/
abbrev Z : S8448x3456.Idx → EReal := m ((c : Thread nD τ).loc main_arg0)
abbrev A : S8192x1024.Idx → EReal := m ((c : Thread nD τ).loc main_arg1)
abbrev G : S8192x2048.Idx → EReal := m ((c : Thread nD τ).loc main_arg2)

theorem e0 : ∀ t : Fin cfg0.N, win0_0.index t = ![t.val, 0] := (by decide +kernel : ∀ t : Fin grid0.N, _)
theorem e1 : ∀ t : Fin cfg0.N, win0_1.index t = ![t.val, 1] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 1] := (by decide +kernel : ∀ t : Fin grid0.N, _)
theorem e5 : ∀ t : Fin cfg0.N, win0_5.index t = ![t.val, 0] := (by decide +kernel : ∀ t : Fin grid0.N, _)

theorem lt_N (t : Fin cfg0.N) : t.val < 32 := lt_of_lt_of_eq t.isLt N_0

variable (t : Fin cfg0.N)

/-- A row of a point's block. -/
def pa (a : Fin 256) : Fin 8192 := ⟨256 * t.val + a.val, by have := lt_N t; omega⟩

/-- A row among the packed projection's, and the two halves of its first columns and of the second branch's. -/
def pz (p : Fin 8192) : Fin 8448 := ⟨p.val, by omega⟩
def zl (e : Fin 1024) : Fin 3456 := ⟨e.val, by omega⟩
def zr (e : Fin 1024) : Fin 3456 := ⟨1024 + e.val, by omega⟩
def gl (e : Fin 1024) : Fin 2048 := ⟨e.val, by omega⟩
def gr (e : Fin 1024) : Fin 2048 := ⟨1024 + e.val, by omega⟩

theorem b0 (a : Fin 256) (e : Fin 1024) : X0_0 m c t (ix2 (n0 := 256) (n1 := 1024) a e) = Z m c (ix2 (pz (pa t a)) (zl e)) := by
  unfold X0_0 Pipeline.Window.fill
  rw [dif_pos (moved0_0 t _)]
  blk_ext [iblk, e0 t, pa, pz, zl]
theorem b1 (a : Fin 256) (e : Fin 1024) : X0_1 m c t (ix2 (n0 := 256) (n1 := 1024) a e) = Z m c (ix2 (pz (pa t a)) (zr e)) := by
  unfold X0_1 Pipeline.Window.fill
  rw [dif_pos (moved0_1 t _)]
  blk_ext [iblk, e1 t, pa, pz, zr]
theorem b2 (a : Fin 256) (e : Fin 1024) : iblk m c 2 t (ix2 a e) = A m c (ix2 (pa t a) e) := by
  blk_ext [iblk, e2 t, pa]
theorem b3 (a : Fin 256) (e : Fin 1024) : iblk m c 3 t (ix2 a e) = G m c (ix2 (pa t a) (gl e)) := by
  blk_ext [iblk, e3 t, pa, gl]
theorem b4 (a : Fin 256) (e : Fin 1024) : iblk m c 4 t (ix2 a e) = G m c (ix2 (pa t a) (gr e)) := by
  blk_ext [iblk, e4 t, pa, gr]

/-! ## The result -/

/-- The two branches merged. -/
def full (z : S8448x3456.Idx → EReal) (x : S8192x1024.Idx → EReal) (g : S8192x2048.Idx → EReal) : S8192x1024.Idx → EReal := fun y =>
  merged (z (ix2 (pz (y 0)) (zl (y 1)))) (z (ix2 (pz (y 0)) (zr (y 1)))) (x (ix2 (y 0) (y 1))) (g (ix2 (y 0) (gl (y 1)))) (g (ix2 (y 0) (gr (y 1))))

theorem full_of (z : S8448x3456.Idx → EReal) (x : S8192x1024.Idx → EReal) (g : S8192x2048.Idx → EReal) (p : Fin 8192) (j : Fin 1024) (y : S8192x1024.Idx)
    (h0 : (y 0).val = p.val) (h1 : (y 1).val = j.val) : full z x g y = full z x g (ix2 p j) :=
  congrArg (full z x g) (funext fun a => Fin.ext (match a with
    | ⟨0, _⟩ => h0
    | ⟨1, _⟩ => h1))

theorem out_blk (a : Fin 256) (e : Fin 1024) : outsAt0 (F := Ideal) m c t (ix2 a e) = full (Z m c) (A m c) (G m c) (ix2 (pa t a) e) := by
  unfold outsAt0
  rw [out_eq]
  show merged (X0_0 m c t (ix2 (n0 := 256) (n1 := 1024) a e)) (X0_1 m c t (ix2 (n0 := 256) (n1 := 1024) a e)) (iblk m c 2 t (ix2 a e)) (iblk m c 3 t (ix2 a e)) (iblk m c 4 t (ix2 a e)) = _
  rw [b0, b1, b2, b3, b4]
  rfl

theorem final : (dats (F := Ideal) m 0 c).arrAt 5 cfg0.N = full (Z m c) (A m c) (G m c) := by
  refine (dats (F := Ideal) m 0 c).arrAt_eq_of_covers 5 _ (by decide +kernel) fun t hf y => ?_
  obtain ⟨a, e, rfl⟩ : ∃ (a : Fin 256) (e : Fin 1024), y = ix2 a e := ⟨_, _, eq_ix2 (n0 := 256) (n1 := 1024) y⟩
  rw [full_of _ _ _ (pa t a) e _ (by blk_simp [e5 t]; show _ = 256 * t.val + a.val; omega) (by blk_simp [e5 t])]
  refine Eq.trans ?_ (out_blk m c t a e)
  blk_simp
  rw [after0_5]

/-! ## The reference -/

section Ref

open Cert.Reference30Ideal Cert.Reference30Ideal.Read

variable (x0 : Kernel30Ideal.S8448x3456.Idx → EReal) (x1 : Kernel30Ideal.S8192x1024.Idx → EReal) (x2 : Kernel30Ideal.S8192x2048.Idx → EReal) (p : Fin 8192) (j : Fin 1024)

theorem r_val : val_main_v1 (F := Ideal) x2 (ix2 p j) = x2 (ix2 p (gl j)) := by
  rw [val_main_v1_apply]
  exact congrArg x2 (funext fun a => Fin.ext (match a with
    | ⟨0, _⟩ => rfl
    | ⟨1, _⟩ => rfl))
theorem r_gate : val_main_v2 (F := Ideal) x2 (ix2 p j) = x2 (ix2 p (gr j)) := by
  rw [val_main_v2_apply]
  exact congrArg x2 (funext fun a => Fin.ext (match a with
    | ⟨0, _⟩ => rfl
    | ⟨1, _⟩ => rfl))
theorem r_ga : val_main_v3 (F := Ideal) x0 (ix2 p j) = x0 (ix2 (pz p) (zl j)) := by
  rw [val_main_v3_apply, val_main_v0_apply]
  exact congrArg x0 (funext fun a => Fin.ext (match a with
    | ⟨0, _⟩ => rfl
    | ⟨1, _⟩ => rfl))
theorem r_gs : val_main_v4 (F := Ideal) x0 (ix2 p j) = x0 (ix2 (pz p) (zr j)) := by
  rw [val_main_v4_apply, val_main_v0_apply]
  exact congrArg x0 (funext fun a => Fin.ext (match a with
    | ⟨0, _⟩ => rfl
    | ⟨1, _⟩ => rfl))

theorem s_ga (i : Reference30Ideal.S8192x1024.Idx) : val_main_v10 (F := Ideal) x0 i = sg (val_main_v3 (F := Ideal) x0 i) := by
  rw [← sg_neg, val_main_v10_apply, val_main_v9_apply, val_main_cst_0_apply, val_main_v8_apply, val_main_v7_apply, val_main_cst_apply]
  rfl
theorem s_gs (i : Reference30Ideal.S8192x1024.Idx) : val_main_v17 (F := Ideal) x0 i = sg (val_main_v4 (F := Ideal) x0 i) := by
  rw [← sg_neg, val_main_v17_apply, val_main_v16_apply, val_main_cst_2_apply, val_main_v15_apply, val_main_v14_apply, val_main_cst_1_apply]
  rfl
theorem s_gate (i : Reference30Ideal.S8192x1024.Idx) : val_main_v23 (F := Ideal) x2 i = sg (val_main_v2 (F := Ideal) x2 i) := by
  rw [← sg_neg, val_main_v23_apply, val_main_v22_apply, val_main_cst_4_apply, val_main_v21_apply, val_main_v20_apply, val_main_cst_3_apply]
  rfl

theorem result : val_main_v27 (F := Ideal) x0 x1 x2 (ix2 p j) = full x0 x1 x2 (ix2 p j) := by
  rw [val_main_v27_apply]
  show val_main_v26 (F := Ideal) x0 x1 x2 (ix2 p j) = _
  rw [val_main_v26_apply, val_main_v11_apply, val_main_v25_apply, val_main_v24_apply, s_ga, s_gs, s_gate, r_ga, r_gs, r_val, r_gate]
  rfl

end Ref

theorem frame_p : Cert.quiescent_Kernel30 := fun m g _ => Cert.Kernel30.Gen.frame m g
theorem frame_pi : Cert.quiescent_Kernel30Ideal := fun m g _ => Cert.Kernel30Ideal.Gen.frame m g
theorem frame_ri : Cert.quiescent_Reference30Ideal := fun m g _ =>
  (θ_run Cert.Reference30Ideal.defs _ _).mono (fun r h => ⟨fun c => (h c).2, sem_eq_zero_of_no_sems (by decide) r.2⟩) (Cert.Reference30Ideal.Value.run (F := Ideal) m g)
theorem preserves : Cert.preserves_Kernel30_Kernel30Ideal := trivial

theorem algebraic : Cert.algebraic_Kernel30Ideal_Reference30Ideal := by
  intro m g m' g' _ hagree
  refine ⟨_, (θ_run _ _ _).mono (fun r h => h) (Cert.Kernel30Ideal.Value.run_blocks (F := Ideal) m g), ?_⟩
  refine (θ_run _ _ _).mono (fun r h c => ?_) (Cert.Reference30Ideal.Value.run (F := Ideal) m' g')
  obtain ⟨a0, a1, a2⟩ := hagree c
  refine ⟨?_, (h c).2⟩
  rw [(h c).1, final m c, Cert.Reference30Ideal.Read.val_main_v27_eq, a0, a1, a2]
  funext i
  obtain ⟨p, j, rfl⟩ : ∃ (p : Fin 8192) (j : Fin 1024), i = ix2 p j := ⟨_, _, eq_ix2 (n0 := 8192) (n1 := 1024) i⟩
  exact result _ _ _ p j

end Cert.Rows.Merge

end
-- ==== Proof.Rows.Norm2.lean ====
/-
  The second norm, forward: whole call, row by row.
-/
module

public import proofs.«01_k».proof.Defs
public import proofs.«01_k».proof.Proof.Rows.Basic
public import proofs.«01_k».proof.Proof.Gen.Kernel31
public import proofs.«01_k».proof.Proof.Gen.Kernel31.Frame
public import proofs.«01_k».proof.Proof.Gen.Kernel31Ideal
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import Idealize.ShloMosaic.Lib.Pipeline.ValueKit
public import Idealize.ShloMosaic.Lib.Pipeline.CanonAppend

@[expose] public section

set_option maxRecDepth 16384

noncomputable section

namespace Cert.Rows.Norm2

open Idealize.ShloMosaic Idealize.ShloMosaic.TcCoe Idealize.ShloMosaic.Tactic Idealize.SL.Sem Cert.Kernel31Ideal Cert.Kernel31Ideal.Gen
open Idealize.ShloMosaic.Pipeline (Dat)

/-! ## One trip, and one grid point -/

/-- Where the gate, the shift and the scale lie among the modulation's columns. -/
def cg (e : Fin 1024) : Fin 6144 := ⟨2048 + e.val, by omega⟩
def cb (e : Fin 1024) : Fin 6144 := ⟨3072 + e.val, by omega⟩
def cs (e : Fin 1024) : Fin 6144 := ⟨4096 + e.val, by omega⟩

theorem hid_eq (x y : Vec Ideal S128x1024 .f32) (q : Vec Ideal S1x6144 .f32) (a : Fin 128) (e : Fin 1024) : k0_pay1 (F := Ideal) x y q (ix2 a e)
    = hidden (x (ix2 a e)) (y (ix2 a e)) (q (ix2 0 (cg e))) := by
  unfold hidden
  pointwise [k0_pay1]
  rfl

theorem pay_eq (x y : Vec Ideal S128x1024 .f32) (q : Vec Ideal S1x6144 .f32) (w : Vec Ideal S1x1024 .f32) (a : Fin 128) (e : Fin 1024) :
    k0_pay2 (F := Ideal) x y q w (ix2 a e)
      = normed (fun k => hidden (x (ix2 a k)) (y (ix2 a k)) (q (ix2 0 (cg k)))) e (w (ix2 0 e)) (q (ix2 0 (cs e))) (q (ix2 0 (cb e))) := by
  simp only [← hid_eq]
  unfold normed k0_pay2
  generalize k0_pay1 (F := Ideal) x y q = h
  pointwise
  rfl

/-- A grid point's blocks of the results, from its blocks of the arguments. -/
def blkH (x0 x1 : Vec Ideal S256x1024 .f32) (x2 : Vec Ideal S1x6144 .f32) (x3 : Vec Ideal S1x1024 .f32) : Vec Ideal S256x1024 .f32 := fun y =>
  hidden (x0 (ix2 (y 0) (y 1))) (x1 (ix2 (y 0) (y 1))) (x2 (ix2 0 (cg (y 1))))
def blkN (x0 x1 : Vec Ideal S256x1024 .f32) (x2 : Vec Ideal S1x6144 .f32) (x3 : Vec Ideal S1x1024 .f32) : Vec Ideal S256x1024 .bf16 := fun y =>
  normed (fun k => hidden (x0 (ix2 (y 0) k)) (x1 (ix2 (y 0) k)) (x2 (ix2 0 (cg k)))) (y 1) (x3 (ix2 0 (y 1))) (x2 (ix2 0 (cs (y 1)))) (x2 (ix2 0 (cb (y 1))))

theorem off1 : ∀ k : Fin k0_t1_loop.trips, k0_off1 k = ![128 * k.val, 0] := by decide +kernel

/-- Where a trip's rows lie: every column, some row. -/
abbrev at_ (k : Fin k0_t1_loop.trips) (a : Fin 128) (j : Fin 1024) : S256x1024.Idx :=
  (Rect.unit (s := S256x1024) (k0_off1 k) S128x1024.size (k0_off1_inb k)).emb (ix2 a j)

theorem at1 (k : Fin k0_t1_loop.trips) (a : Fin 128) (j : Fin 1024) : at_ k a j 1 = j := by
  refine Fin.ext ?_
  show (k0_off1 k) 1 + 1 * j.val = _
  rw [off1, Nat.one_mul]; exact Nat.zero_add _

theorem ld_row (X : Vec Ideal S256x1024 .f32) (k : Fin k0_t1_loop.trips) (a : Fin 128) (j e : Fin 1024) :
    View.ld X (Rect.unit (s := S256x1024) (k0_off1 k) S128x1024.size (k0_off1_inb k)) (ix2 (n0 := 128) (n1 := 1024) a e) = X (ix2 (n0 := 256) (n1 := 1024) (at_ k a j 0) e) :=
  View.ld_unit_apply_of X _ _ _ _ _ (fun b => match b with
    | ⟨0, _⟩ => by
      show (k0_off1 k) 0 + 1 * a.val = (k0_off1 k) 0 + a.val
      rw [Nat.one_mul]
    | ⟨1, _⟩ => by
      show e.val = (k0_off1 k) 1 + e.val
      rw [off1]; exact (Nat.zero_add _).symm)

theorem ld_mod (X : Vec Ideal S1x6144 .f32) (x : S1x6144.Idx) : View.ld X (Rect.unit (s := S1x6144) ![0, 0] S1x6144.size inb_S1x6144_S1x6144_0_0) x = X x :=
  View.ld_unit_apply_of X _ _ _ _ _ (fun b => match b with
    | ⟨0, _⟩ => (Nat.zero_add _).symm
    | ⟨1, _⟩ => (Nat.zero_add _).symm)
theorem ld_w (X : Vec Ideal S1x1024 .f32) (x : S1x1024.Idx) : View.ld X (Rect.unit (s := S1x1024) ![0, 0] S1x1024.size inb_S1x1024_S1x1024_0_0) x = X x :=
  View.ld_unit_apply_of X _ _ _ _ _ (fun b => match b with
    | ⟨0, _⟩ => (Nat.zero_add _).symm
    | ⟨1, _⟩ => (Nat.zero_add _).symm)

section Block

variable (c : Dev nD) (i : grid0.Coords) (arg1 : Memref sig .tc .vmem S256x1024 .f32) (harg1 : arg1.IsWhole) (arg2 : Memref sig .tc .vmem S256x1024 .f32) (harg2 : arg2.IsWhole)
  (arg3 : Memref sig .tc .vmem S1x6144 .f32) (harg3 : arg3.IsWhole) (arg4 : Memref sig .tc .vmem S1x1024 .f32) (harg4 : arg4.IsWhole)
  (arg5 : Memref sig .tc .vmem S256x1024 .f32) (harg5 : arg5.IsWhole) (arg6 : Memref sig .tc .vmem S256x1024 .bf16) (harg6 : arg6.IsWhole)
  (x0 x1 : Vec Ideal S256x1024 .f32) (x2 : Vec Ideal S1x6144 .f32) (x3 : Vec Ideal S1x1024 .f32)

theorem tripH (k : Fin k0_t1_loop.trips) :
    ∀ p ∈ (tripL_k0_t1 (F := Ideal) Variants.none c none i arg1 harg1 arg2 harg2 arg3 harg3 arg4 harg4 arg5 harg5 arg6 harg6 (harg1.unread x0) (harg2.unread x1) (harg3.unread x2) (harg4.unread x3) k).1,
      ∀ x : p.1.shape.Idx, p.2 x = blkH x0 x1 x2 x3 (p.1.emb x) := by
  unfold tripL_k0_t1 trip_k0_t1
  dsimp only
  sl_unfold_words
  simp only [View.readAt_eq_ld, Memref.IsWhole.read_unread, List.mem_singleton, forall_eq]
  intro x
  obtain ⟨a, j, rfl⟩ : ∃ (a : Fin 128) (j : Fin 1024), x = ix2 a j := ⟨_, _, eq_ix2 (n0 := 128) (n1 := 1024) x⟩
  refine (hid_eq _ _ _ a j).trans ?_
  have h : blkH x0 x1 x2 x3 (at_ k a j) = hidden (x0 (ix2 (at_ k a j 0) j)) (x1 (ix2 (at_ k a j 0) j)) (x2 (ix2 0 (cg j))) := by
    unfold blkH
    rw [at1]
  refine Eq.trans ?_ h.symm
  rw [← ld_row x0 k a j j, ← ld_row x1 k a j j, ← ld_mod x2]
  rfl

theorem tripN (k : Fin k0_t1_loop.trips) :
    ∀ p ∈ (tripL_k0_t1 (F := Ideal) Variants.none c none i arg1 harg1 arg2 harg2 arg3 harg3 arg4 harg4 arg5 harg5 arg6 harg6 (harg1.unread x0) (harg2.unread x1) (harg3.unread x2) (harg4.unread x3) k).2,
      ∀ x : p.1.shape.Idx, p.2 x = blkN x0 x1 x2 x3 (p.1.emb x) := by
  unfold tripL_k0_t1 trip_k0_t1
  dsimp only
  sl_unfold_words
  simp only [View.readAt_eq_ld, Memref.IsWhole.read_unread, List.mem_singleton, forall_eq]
  intro x
  obtain ⟨a, j, rfl⟩ : ∃ (a : Fin 128) (j : Fin 1024), x = ix2 a j := ⟨_, _, eq_ix2 (n0 := 128) (n1 := 1024) x⟩
  refine (pay_eq _ _ _ _ a j).trans ?_
  have h : blkN x0 x1 x2 x3 (at_ k a j) = normed (fun e => hidden (x0 (ix2 (at_ k a j 0) e)) (x1 (ix2 (at_ k a j 0) e)) (x2 (ix2 0 (cg e)))) j (x3 (ix2 0 j)) (x2 (ix2 0 (cs j))) (x2 (ix2 0 (cb j))) := by
    unfold blkN
    rw [at1]
  refine Eq.trans ?_ h.symm
  rw [show (fun e => hidden (x0 (ix2 (at_ k a j 0) e)) (x1 (ix2 (at_ k a j 0) e)) (x2 (ix2 0 (cg e)))) = _ from
    funext fun e => by rw [← ld_row x0 k a j e, ← ld_row x1 k a j e, ← ld_mod x2 (ix2 0 (cg e))], ← ld_mod x2 (ix2 0 (cs j)), ← ld_mod x2 (ix2 0 (cb j)), ← ld_w x3]
  rfl

theorem pieces (n : ℕ) :
    (∀ p ∈ (pb_k0_t1 (F := Ideal) Variants.none c none i arg1 harg1 arg2 harg2 arg3 harg3 arg4 harg4 arg5 harg5 arg6 harg6 (harg1.unread x0) (harg2.unread x1) (harg3.unread x2) (harg4.unread x3) n).1,
      ∀ x : p.1.shape.Idx, p.2 x = blkH x0 x1 x2 x3 (p.1.emb x))
    ∧ (∀ p ∈ (pb_k0_t1 (F := Ideal) Variants.none c none i arg1 harg1 arg2 harg2 arg3 harg3 arg4 harg4 arg5 harg5 arg6 harg6 (harg1.unread x0) (harg2.unread x1) (harg3.unread x2) (harg4.unread x3) n).2,
      ∀ x : p.1.shape.Idx, p.2 x = blkN x0 x1 x2 x3 (p.1.emb x)) := by
  induction n with
  | zero =>
    rw [pb_k0_t1.eq_1]
    exact ⟨fun p hp => absurd hp List.not_mem_nil, fun p hp => absurd hp List.not_mem_nil⟩
  | succ n ih =>
    rw [pb_k0_t1.eq_2]
    unfold pb_k0_t1Step
    split
    · refine ⟨fun p hp => ?_, fun p hp => ?_⟩
      · rcases List.mem_append.1 hp with hp | hp
        · exact tripH c i arg1 harg1 arg2 harg2 arg3 harg3 arg4 harg4 arg5 harg5 arg6 harg6 x0 x1 x2 x3 _ p hp
        · exact ih.1 p hp
      · rcases List.mem_append.1 hp with hp | hp
        · exact tripN c i arg1 harg1 arg2 harg2 arg3 harg3 arg4 harg4 arg5 harg5 arg6 harg6 x0 x1 x2 x3 _ p hp
        · exact ih.2 p hp
    · exact ih

theorem outH : out0_A_4 (F := Ideal) c i arg1 harg1 arg2 harg2 arg3 harg3 arg4 harg4 arg5 harg5 arg6 harg6 x0 x1 x2 x3 = blkH x0 x1 x2 x3 := by
  funext y
  have hc := cover0_A_4 (F := Ideal) c i arg1 harg1 arg2 harg2 arg3 harg3 arg4 harg4 arg5 harg5 arg6 harg6 x0 x1 x2 x3 y
  unfold out0_A_4
  rw [View.read_writes_junk_eq_canon]
  unfold kernelRun0_A at hc ⊢
  dsimp only at hc ⊢
  rw [← List.append_nil (pb_k0_t1 _ _ _ _ _ _ _ _ _ _ _ _ _ _ _ _ _ _ _ _ _).1]
  exact View.canon_append_of_pieces _ [] _ (pieces c i arg1 harg1 arg2 harg2 arg3 harg3 arg4 harg4 arg5 harg5 arg6 harg6 x0 x1 x2 x3 _).1 y hc

theorem outN : out0_A_5 (F := Ideal) c i arg1 harg1 arg2 harg2 arg3 harg3 arg4 harg4 arg5 harg5 arg6 harg6 x0 x1 x2 x3 = blkN x0 x1 x2 x3 := by
  funext y
  have hc := cover0_A_5 (F := Ideal) c i arg1 harg1 arg2 harg2 arg3 harg3 arg4 harg4 arg5 harg5 arg6 harg6 x0 x1 x2 x3 y
  unfold out0_A_5
  rw [View.read_writes_junk_eq_canon]
  unfold kernelRun0_A at hc ⊢
  dsimp only at hc ⊢
  rw [← List.append_nil (pb_k0_t1 _ _ _ _ _ _ _ _ _ _ _ _ _ _ _ _ _ _ _ _ _).2]
  exact View.canon_append_of_pieces _ [] _ (pieces c i arg1 harg1 arg2 harg2 arg3 harg3 arg4 harg4 arg5 harg5 arg6 harg6 x0 x1 x2 x3 _).2 y hc

end Block

/-! ## Where the blocks lie -/

variable (m : (ℓ : Loc nD τ sig) → Buf (Elt Ideal) ℓ) (c : Dev nD)

/-- The residual, the branch, the modulation and the weight. -/
abbrev A0 : S8448x1024.Idx → EReal := m ((c : Thread nD τ).loc main_arg0)
abbrev A1 : S8192x1024.Idx → EReal := m ((c : Thread nD τ).loc main_arg1)
abbrev A2 : S1x6144.Idx → EReal := m ((c : Thread nD τ).loc main_arg2)
abbrev A3 : S1x1024.Idx → EReal := m ((c : Thread nD τ).loc main_arg3)

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)

theorem lt_N (t : Fin cfg0.N) : t.val < 32 := lt_of_lt_of_eq t.isLt N_0

variable (t : Fin cfg0.N)

/-- A row of a point's block, and a row among the residual's. -/
def pa (a : Fin 256) : Fin 8192 := ⟨256 * t.val + a.val, by have := lt_N t; omega⟩
def pz (p : Fin 8192) : Fin 8448 := ⟨p.val, by omega⟩

theorem b0 (a : Fin 256) (e : Fin 1024) : iblk m c 0 t (ix2 a e) = A0 m c (ix2 (pz (pa t a)) e) := by
  blk_ext [iblk, e0 t, pa, pz]
theorem b1 (a : Fin 256) (e : Fin 1024) : iblk m c 1 t (ix2 a e) = A1 m c (ix2 (pa t a) e) := by
  blk_ext [iblk, e1 t, pa]
theorem b2 (j : Fin 6144) : iblk m c 2 t (ix2 (n0 := 1) 0 j) = A2 m c (ix2 (n0 := 1) 0 j) := by
  refine congrArg (A2 m c) (funext fun a => Fin.ext ?_)
  match a with
  | ⟨0, _⟩ =>
    show win0_2.index t 0 * 1 + 1 * 0 = 0
    rw [e2 t]
    rfl
  | ⟨1, _⟩ =>
    show win0_2.index t 1 * 6144 + 1 * j.val = j.val
    rw [e2 t]
    show 0 * 6144 + 1 * j.val = j.val
    omega
theorem b3 (j : Fin 1024) : iblk m c 3 t (ix2 (n0 := 1) 0 j) = A3 m c (ix2 (n0 := 1) 0 j) := by
  refine congrArg (A3 m c) (funext fun a => Fin.ext ?_)
  match a with
  | ⟨0, _⟩ =>
    show win0_3.index t 0 * 1 + 1 * 0 = 0
    rw [e3 t]
    rfl
  | ⟨1, _⟩ =>
    show win0_3.index t 1 * 1024 + 1 * j.val = j.val
    rw [e3 t]
    show 0 * 1024 + 1 * j.val = j.val
    omega

/-! ## The results -/

def fullH (x : S8448x1024.Idx → EReal) (y : S8192x1024.Idx → EReal) (q : S1x6144.Idx → EReal) (w : S1x1024.Idx → EReal) : S8192x1024.Idx → EReal := fun i =>
  hidden (x (ix2 (pz (i 0)) (i 1))) (y (ix2 (i 0) (i 1))) (q (ix2 0 (cg (i 1))))
def fullN (x : S8448x1024.Idx → EReal) (y : S8192x1024.Idx → EReal) (q : S1x6144.Idx → EReal) (w : S1x1024.Idx → EReal) : S8192x1024.Idx → EReal := fun i =>
  normed (fun k => hidden (x (ix2 (pz (i 0)) k)) (y (ix2 (i 0) k)) (q (ix2 0 (cg k)))) (i 1) (w (ix2 0 (i 1))) (q (ix2 0 (cs (i 1)))) (q (ix2 0 (cb (i 1))))

theorem at_of (f : S8192x1024.Idx → EReal) (p : Fin 8192) (j : Fin 1024) (y : S8192x1024.Idx) (h0 : (y 0).val = p.val) (h1 : (y 1).val = j.val) :
    f y = f (ix2 p j) :=
  congrArg f (funext fun a => Fin.ext (match a with
    | ⟨0, _⟩ => h0
    | ⟨1, _⟩ => h1))

theorem blkH_eq (a : Fin 256) (e : Fin 1024) : (outsAt0 (F := Ideal) m c t).1 (ix2 a e) = fullH (A0 m c) (A1 m c) (A2 m c) (A3 m c) (ix2 (pa t a) e) := by
  unfold outsAt0
  dsimp only
  rw [outH]
  show hidden (iblk m c 0 t (ix2 a e)) (iblk m c 1 t (ix2 a e)) (iblk m c 2 t (ix2 (n0 := 1) 0 (cg e))) = _
  rw [b0, b1, b2]
  rfl

theorem blkN_eq (a : Fin 256) (e : Fin 1024) : (outsAt0 (F := Ideal) m c t).2 (ix2 a e) = fullN (A0 m c) (A1 m c) (A2 m c) (A3 m c) (ix2 (pa t a) e) := by
  unfold outsAt0
  dsimp only
  rw [outN]
  show normed (fun k => hidden (iblk m c 0 t (ix2 a k)) (iblk m c 1 t (ix2 a k)) (iblk m c 2 t (ix2 (n0 := 1) 0 (cg k)))) e
    (iblk m c 3 t (ix2 (n0 := 1) 0 e)) (iblk m c 2 t (ix2 (n0 := 1) 0 (cs e))) (iblk m c 2 t (ix2 (n0 := 1) 0 (cb e))) = _
  simp only [b0, b1, b2, b3]
  rfl

theorem finalH : (dats (F := Ideal) m 0 c).arrAt 4 cfg0.N = fullH (A0 m c) (A1 m c) (A2 m c) (A3 m c) := by
  refine (dats (F := Ideal) m 0 c).arrAt_eq_of_covers 4 _ (by decide +kernel) fun t hf y => ?_
  obtain ⟨a, e, rfl⟩ : ∃ (a : Fin 256) (e : Fin 1024), y = ix2 a e := ⟨_, _, eq_ix2 (n0 := 256) (n1 := 1024) y⟩
  rw [at_of (fullH _ _ _ _) (pa t a) e _ (by blk_simp [e4 t]; show _ = 256 * t.val + a.val; omega) (by blk_simp [e4 t])]
  refine Eq.trans ?_ (blkH_eq m c t a e)
  blk_simp
  rw [after0_4]

theorem finalN : (dats (F := Ideal) m 0 c).arrAt 5 cfg0.N = fullN (A0 m c) (A1 m c) (A2 m c) (A3 m c) := by
  refine (dats (F := Ideal) m 0 c).arrAt_eq_of_covers 5 _ (by decide +kernel) fun t hf y => ?_
  obtain ⟨a, e, rfl⟩ : ∃ (a : Fin 256) (e : Fin 1024), y = ix2 a e := ⟨_, _, eq_ix2 (n0 := 256) (n1 := 1024) y⟩
  rw [at_of (fullN _ _ _ _) (pa t a) e _ (by blk_simp [e5 t]; show _ = 256 * t.val + a.val; omega) (by blk_simp [e5 t])]
  refine Eq.trans ?_ (blkN_eq m c t a e)
  blk_simp
  rw [after0_5]

/-! ## The reference -/

section Ref

open Cert.Reference31Ideal Cert.Reference31Ideal.Read

variable (x0 : Kernel31Ideal.S8448x1024.Idx → EReal) (x1 : Kernel31Ideal.S8192x1024.Idx → EReal) (x2 : Kernel31Ideal.S1x6144.Idx → EReal)
  (x3 : Kernel31Ideal.S1x1024.Idx → EReal) (p : Fin 8192) (j : Fin 1024)

theorem r_x : val_main_v6 (F := Ideal) x0 (ix2 p j) = x0 (ix2 (pz p) j) := by
  rw [val_main_v6_apply]
  exact congrArg x0 (funext fun a => Fin.ext (match a with
    | ⟨0, _⟩ => rfl
    | ⟨1, _⟩ => rfl))
theorem r_g : val_main_v7 (F := Ideal) x2 (ix2 p j) = x2 (ix2 (n0 := 1) 0 (cg j)) := by
  rw [val_main_v7_apply, val_main_v2_apply]
  exact congrArg x2 (funext fun a => Fin.ext (match a with
    | ⟨0, _⟩ => rfl
    | ⟨1, _⟩ => rfl))
theorem r_b : val_main_v28 (F := Ideal) x2 (ix2 p j) = x2 (ix2 (n0 := 1) 0 (cb j)) := by
  rw [val_main_v28_apply, val_main_v3_apply]
  exact congrArg x2 (funext fun a => Fin.ext (match a with
    | ⟨0, _⟩ => rfl
    | ⟨1, _⟩ => rfl))
theorem r_s : val_main_v26 (F := Ideal) x2 (ix2 p j) = Ideal.ofBits .f32 0x3F800000#32 + x2 (ix2 (n0 := 1) 0 (cs j)) := by
  rw [val_main_v26_apply, val_main_v25_apply, val_main_v24_apply, val_main_cst_2_apply, val_main_v4_apply]
  exact congrArg (fun z => Ideal.ofBits .f32 0x3F800000#32 + x2 z) (funext fun a => Fin.ext (match a with
    | ⟨0, _⟩ => rfl
    | ⟨1, _⟩ => rfl))
theorem r_w : val_main_v22 (F := Ideal) x3 (ix2 p j) = x3 (ix2 (n0 := 1) 0 j) := by
  rw [val_main_v22_apply, val_main_v21_apply, val_main_v10_apply]
  refine congrArg x3 (funext fun a => Fin.ext ?_)
  match a with
  | ⟨0, _⟩ => first | rfl | exact Nat.div_eq_of_lt j.isLt
  | ⟨1, _⟩ => first | rfl | exact Nat.mod_eq_of_lt j.isLt

theorem resultH : val_main_v9 (F := Ideal) x0 x1 x2 (ix2 p j) = fullH x0 x1 x2 x3 (ix2 p j) := by
  rw [val_main_v9_apply, val_main_v8_apply, r_x, r_g]
  rfl

theorem r_sq : val_main_v11 (F := Ideal) x0 x1 x2 (ix2 p j) = fullH x0 x1 x2 x3 (ix2 p j) * fullH x0 x1 x2 x3 (ix2 p j) := by
  rw [val_main_v11_apply, resultH x0 x1 x2 x3]
  rfl

/-- The root mean square's reciprocal. -/
theorem r_rms : val_main_v19 (F := Ideal) x0 x1 x2 (ix2 p j)
    = Ideal.rsqrt ((∑ k : Fin 1024, fullH x0 x1 x2 x3 (ix2 p k) * fullH x0 x1 x2 x3 (ix2 p k)) * Ideal.ofBits .f32 0x3A800000#32 + Ideal.ofBits .f32 0x358637BD#32) := by
  have h : ∀ k : Fin 1024, ∀ i, i = ix2 p k → val_main_v11 (F := Ideal) x0 x1 x2 i = fullH x0 x1 x2 x3 (ix2 p k) * fullH x0 x1 x2 x3 (ix2 p k) := by
    rintro k _ rfl
    exact r_sq x0 x1 x2 x3 p k
  rw [val_main_v19_apply, val_main_v18_apply, val_main_v17_apply, val_main_v16_apply, val_main_cst_1_apply, val_main_v15_apply, val_main_v14_apply, val_main_cst_0_apply,
    val_main_v13_apply, val_main_v12_apply, val_main_cst_apply, ← mean_eq, Ideal.ofBits_def, Ideal.ofBits_zero_f32, zero_add]
  rw [show (∑ k : Fin 1024, val_main_v11 (F := Ideal) x0 x1 x2 (idx_main_v12 (idx_main_v13 (idx_main_v19 (ix2 p j))) k))
    = ∑ k : Fin 1024, fullH x0 x1 x2 x3 (ix2 p k) * fullH x0 x1 x2 x3 (ix2 p k) from Finset.sum_congr rfl fun k _ => h k _ (funext fun a => Fin.ext (match a with
    | ⟨0, _⟩ => rfl
    | ⟨1, _⟩ => rfl))]
  rfl

theorem resultN : val_main_v30 (F := Ideal) x0 x1 x2 x3 (ix2 p j) = fullN x0 x1 x2 x3 (ix2 p j) := by
  rw [val_main_v30_apply]
  show val_main_v29 (F := Ideal) x0 x1 x2 x3 (ix2 p j) = _
  rw [val_main_v29_apply, val_main_v27_apply, val_main_v23_apply, val_main_v20_apply, r_b, r_s, r_w, r_rms x0 x1 x2 x3, resultH x0 x1 x2 x3]
  rfl

end Ref

theorem frame_p : Cert.quiescent_Kernel31 := fun m g _ => Cert.Kernel31.Gen.frame m g
theorem frame_pi : Cert.quiescent_Kernel31Ideal := fun m g _ => Cert.Kernel31Ideal.Gen.frame m g
theorem frame_ri : Cert.quiescent_Reference31Ideal := fun m g _ =>
  (θ_run Cert.Reference31Ideal.defs _ _).mono (fun r h => ⟨fun c => (h c).2.2, sem_eq_zero_of_no_sems (by decide) r.2⟩) (Cert.Reference31Ideal.Value.run (F := Ideal) m g)
theorem preserves : Cert.preserves_Kernel31_Kernel31Ideal := trivial

theorem algebraic : Cert.algebraic_Kernel31Ideal_Reference31Ideal := by
  intro m g m' g' _ hagree
  refine ⟨_, _, (θ_run _ _ _).mono (fun r h => h) (Cert.Kernel31Ideal.Value.run_blocks (F := Ideal) m g), ?_⟩
  refine (θ_run _ _ _).mono (fun r h c => ?_) (Cert.Reference31Ideal.Value.run (F := Ideal) m' g')
  obtain ⟨a0, a1, a2, a3⟩ := hagree c
  refine ⟨?_, ?_, (h c).2.2⟩
  · rw [(h c).1, finalH m c, Cert.Reference31Ideal.Read.val_main_v9_eq, a0, a1, a2]
    funext i
    obtain ⟨p, j, rfl⟩ : ∃ (p : Fin 8192) (j : Fin 1024), i = ix2 p j := ⟨_, _, eq_ix2 (n0 := 8192) (n1 := 1024) i⟩
    exact resultH _ _ _ _ p j
  · rw [(h c).2.1, finalN m c, Cert.Reference31Ideal.Read.val_main_v30_eq, a0, a1, a2, a3]
    funext i
    obtain ⟨p, j, rfl⟩ : ∃ (p : Fin 8192) (j : Fin 1024), i = ix2 p j := ⟨_, _, eq_ix2 (n0 := 8192) (n1 := 1024) i⟩
    exact resultN _ _ _ _ p j

end Cert.Rows.Norm2

end
-- ==== Proof.Rows.S5Out.lean ====
/-
  The state-space branch's result and its gelu: whole call, element by element.
-/
module

public import proofs.«01_k».proof.Defs
public import proofs.«01_k».proof.Proof.Rows.Basic
public import proofs.«01_k».proof.Proof.Gen.Kernel32
public import proofs.«01_k».proof.Proof.Gen.Kernel32.Frame
public import proofs.«01_k».proof.Proof.Gen.Kernel32Ideal
public import proofs.«01_k».proof.Proof.Gen.Kernel32Ideal.Value
public import proofs.«01_k».proof.Proof.Gen.Reference32Ideal
public import proofs.«01_k».proof.Proof.Gen.Reference32Ideal.Run
public import proofs.«01_k».proof.Proof.Gen.Reference32Ideal.Read
public import Idealize.ShloMosaic.Lib.Pipeline.ValueKit
public import Idealize.ShloMosaic.Lib.Pipeline.CanonAppend

@[expose] public section

set_option maxRecDepth 16384

noncomputable section

namespace Cert.Rows.S5Out

open Idealize.ShloMosaic Idealize.ShloMosaic.TcCoe Idealize.ShloMosaic.Tactic Idealize.SL.Sem Cert.Kernel32Ideal Cert.Kernel32Ideal.Gen
open Idealize.ShloMosaic.Pipeline (Dat)

/-! ## One grid point -/

theorem skip_eq (z f b : Vec Ideal S256x512 .f32) (d : Vec Ideal S1x512 .f32) (a : Fin 256) (e : Fin 512) : k0_pay1 (F := Ideal) z f b d (ix2 a e)
    = skip (z (ix2 a e)) (d (ix2 0 e)) (f (ix2 a e)) (b (ix2 a e)) := by
  unfold skip
  pointwise [k0_pay1]

theorem pay_eq (z f b : Vec Ideal S256x512 .f32) (d : Vec Ideal S1x512 .f32) (a : Fin 256) (e : Fin 512) : k0_pay2 (F := Ideal) z f b d (ix2 a e)
    = gelu (skip (z (ix2 a e)) (d (ix2 0 e)) (f (ix2 a e)) (b (ix2 a e))) := by
  rw [← skip_eq, ← gelu_eq]
  rfl

/-- A grid point's blocks of the results, from its blocks of the arguments. -/
def blkS (x0 x1 x2 : Vec Ideal S256x512 .f32) (x3 : Vec Ideal S1x512 .f32) : Vec Ideal S256x512 .f32 := fun y => skip (x0 y) (x3 (ix2 0 (y 1))) (x1 y) (x2 y)
def blkG (x0 x1 x2 : Vec Ideal S256x512 .f32) (x3 : Vec Ideal S1x512 .f32) : Vec Ideal S256x512 .bf16 := fun y => gelu (blkS x0 x1 x2 x3 y)

theorem off1 : k0_off1 = ![0, 0] := by decide +kernel

/-- The block's rows, each where it is. -/
theorem emb_eq (x : S256x512.Idx) : (Rect.unit (s := S256x512) k0_off1 S256x512.size k0_off1_inb).emb x = x :=
  funext fun a => Fin.ext (by
    show k0_off1 a + 1 * (x a).val = (x a).val
    rw [off1]
    match a with
    | ⟨0, _⟩ => show 0 + 1 * _ = _; omega
    | ⟨1, _⟩ => show 0 + 1 * _ = _; omega)

theorem ld_at (X : Vec Ideal S256x512 .f32) (x : S256x512.Idx) : View.ld X (Rect.unit (s := S256x512) k0_off1 S256x512.size k0_off1_inb) x = X x :=
  congrArg X (emb_eq x)

theorem ld_row (X : Vec Ideal S1x512 .f32) (x : S1x512.Idx) : View.ld X (Rect.unit (s := S1x512) ![0, 0] S1x512.size inb_S1x512_S1x512_0_0) x = X x :=
  View.ld_unit_apply_of X _ _ _ _ _ (fun b => match b with
    | ⟨0, _⟩ => (Nat.zero_add _).symm
    | ⟨1, _⟩ => (Nat.zero_add _).symm)

section Block

variable (c : Dev nD) (i : grid0.Coords) (arg1 : Memref sig .tc .vmem S256x512 .f32) (harg1 : arg1.IsWhole) (arg2 : Memref sig .tc .vmem S256x512 .f32) (harg2 : arg2.IsWhole)
  (arg3 : Memref sig .tc .vmem S256x512 .f32) (harg3 : arg3.IsWhole) (arg4 : Memref sig .tc .vmem S1x512 .f32) (harg4 : arg4.IsWhole)
  (arg5 : Memref sig .tc .vmem S256x512 .f32) (harg5 : arg5.IsWhole) (arg6 : Memref sig .tc .vmem S256x512 .bf16) (harg6 : arg6.IsWhole)
  (x0 x1 x2 : Vec Ideal S256x512 .f32) (x3 : Vec Ideal S1x512 .f32)

theorem outS : out0_A_4 (F := Ideal) c i arg1 harg1 arg2 harg2 arg3 harg3 arg4 harg4 arg5 harg5 arg6 harg6 x0 x1 x2 x3 = blkS x0 x1 x2 x3 := by
  funext y
  have hc := cover0_A_4 (F := Ideal) c i arg1 harg1 arg2 harg2 arg3 harg3 arg4 harg4 arg5 harg5 arg6 harg6 x0 x1 x2 x3 y
  have hp : ∀ p ∈ (kernelRun0_A (F := Ideal) c i arg1 harg1 arg2 harg2 arg3 harg3 arg4 harg4 arg5 harg5 arg6 harg6 x0 x1 x2 x3).1,
      ∀ x : p.1.shape.Idx, p.2 x = blkS x0 x1 x2 x3 (p.1.emb x) := by
    unfold kernelRun0_A
    dsimp only
    sl_unfold_words
    simp only [View.readAt_eq_ld, Memref.IsWhole.read_unread, List.mem_singleton, forall_eq]
    intro x
    obtain ⟨a, e, rfl⟩ : ∃ (a : Fin 256) (e : Fin 512), x = ix2 a e := ⟨_, _, eq_ix2 (n0 := 256) (n1 := 512) x⟩
    refine (skip_eq _ _ _ _ a e).trans ?_
    refine Eq.trans ?_ (congrArg (blkS x0 x1 x2 x3) (emb_eq (ix2 a e))).symm
    unfold blkS
    rw [← ld_at x0, ← ld_at x1, ← ld_at x2, ← ld_row x3]
    rfl
  unfold out0_A_4
  rw [View.read_writes_junk_eq_canon, ← List.append_nil (kernelRun0_A (F := Ideal) _ _ _ _ _ _ _ _ _ _ _ _ _ _ _ _ _ _).1]
  exact View.canon_append_of_pieces _ [] _ hp y hc

theorem outG : out0_A_5 (F := Ideal) c i arg1 harg1 arg2 harg2 arg3 harg3 arg4 harg4 arg5 harg5 arg6 harg6 x0 x1 x2 x3 = blkG x0 x1 x2 x3 := by
  funext y
  have hc := cover0_A_5 (F := Ideal) c i arg1 harg1 arg2 harg2 arg3 harg3 arg4 harg4 arg5 harg5 arg6 harg6 x0 x1 x2 x3 y
  have hp : ∀ p ∈ (kernelRun0_A (F := Ideal) c i arg1 harg1 arg2 harg2 arg3 harg3 arg4 harg4 arg5 harg5 arg6 harg6 x0 x1 x2 x3).2.1,
      ∀ x : p.1.shape.Idx, p.2 x = blkG x0 x1 x2 x3 (p.1.emb x) := by
    unfold kernelRun0_A
    dsimp only
    sl_unfold_words
    simp only [View.readAt_eq_ld, Memref.IsWhole.read_unread, List.mem_singleton, forall_eq]
    intro x
    obtain ⟨a, e, rfl⟩ : ∃ (a : Fin 256) (e : Fin 512), x = ix2 a e := ⟨_, _, eq_ix2 (n0 := 256) (n1 := 512) x⟩
    refine (pay_eq _ _ _ _ a e).trans ?_
    refine Eq.trans ?_ (congrArg (blkG x0 x1 x2 x3) (emb_eq (ix2 a e))).symm
    unfold blkG blkS
    rw [← ld_at x0, ← ld_at x1, ← ld_at x2, ← ld_row x3]
    rfl
  unfold out0_A_5
  rw [View.read_writes_junk_eq_canon, ← List.append_nil (kernelRun0_A (F := Ideal) _ _ _ _ _ _ _ _ _ _ _ _ _ _ _ _ _ _).2.1]
  exact View.canon_append_of_pieces _ [] _ hp y hc

end Block

/-! ## Where the blocks lie -/

variable (m : (ℓ : Loc nD τ sig) → Buf (Elt Ideal) ℓ) (c : Dev nD)

/-- The packed input projection, the two directions and the skip weights. -/
abbrev A0 : S8448x3456.Idx → EReal := m ((c : Thread nD τ).loc main_arg0)
abbrev A1 : S8448x512.Idx → EReal := m ((c : Thread nD τ).loc main_arg1)
abbrev A2 : S8448x512.Idx → EReal := m ((c : Thread nD τ).loc main_arg2)
abbrev A3 : S1x512.Idx → EReal := m ((c : Thread nD τ).loc main_arg3)

theorem e0 : ∀ t : Fin cfg0.N, win0_0.index t = ![t.val, 4] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)

theorem lt_N (t : Fin cfg0.N) : t.val < 32 := lt_of_lt_of_eq t.isLt N_0

variable (t : Fin cfg0.N)

/-- A row of a point's block, a row among the arguments', and a column among the packed projection's. -/
def pa (a : Fin 256) : Fin 8192 := ⟨256 * t.val + a.val, by have := lt_N t; omega⟩
def pz (p : Fin 8192) : Fin 8448 := ⟨p.val, by omega⟩
def zc (e : Fin 512) : Fin 3456 := ⟨2048 + e.val, by omega⟩

theorem b0 (a : Fin 256) (e : Fin 512) : X0_0 m c t (ix2 (n0 := 256) (n1 := 512) a e) = A0 m c (ix2 (pz (pa t a)) (zc e)) := by
  unfold X0_0 Pipeline.Window.fill
  rw [dif_pos (moved0_0 t _)]
  blk_ext [iblk, e0 t, pa, pz, zc]
theorem b1 (a : Fin 256) (e : Fin 512) : iblk m c 1 t (ix2 a e) = A1 m c (ix2 (pz (pa t a)) e) := by
  blk_ext [iblk, e1 t, pa, pz]
theorem b2 (a : Fin 256) (e : Fin 512) : iblk m c 2 t (ix2 a e) = A2 m c (ix2 (pz (pa t a)) e) := by
  blk_ext [iblk, e2 t, pa, pz]
theorem b3 (j : Fin 512) : iblk m c 3 t (ix2 (n0 := 1) 0 j) = A3 m c (ix2 (n0 := 1) 0 j) := by
  refine congrArg (A3 m c) (funext fun a => Fin.ext ?_)
  match a with
  | ⟨0, _⟩ =>
    show win0_3.index t 0 * 1 + 1 * 0 = 0
    rw [e3 t]
    rfl
  | ⟨1, _⟩ =>
    show win0_3.index t 1 * 512 + 1 * j.val = j.val
    rw [e3 t]
    show 0 * 512 + 1 * j.val = j.val
    omega

/-! ## The results -/

def fullS (z : S8448x3456.Idx → EReal) (f b : S8448x512.Idx → EReal) (d : S1x512.Idx → EReal) : S8192x512.Idx → EReal := fun y =>
  skip (z (ix2 (pz (y 0)) (zc (y 1)))) (d (ix2 0 (y 1))) (f (ix2 (pz (y 0)) (y 1))) (b (ix2 (pz (y 0)) (y 1)))
def fullG (z : S8448x3456.Idx → EReal) (f b : S8448x512.Idx → EReal) (d : S1x512.Idx → EReal) : S8192x512.Idx → EReal := fun y => gelu (fullS z f b d y)

theorem at_of (f : S8192x512.Idx → EReal) (p : Fin 8192) (j : Fin 512) (y : S8192x512.Idx) (h0 : (y 0).val = p.val) (h1 : (y 1).val = j.val) :
    f y = f (ix2 p j) :=
  congrArg f (funext fun a => Fin.ext (match a with
    | ⟨0, _⟩ => h0
    | ⟨1, _⟩ => h1))

theorem blkS_eq (a : Fin 256) (e : Fin 512) : (outsAt0 (F := Ideal) m c t).1 (ix2 a e) = fullS (A0 m c) (A1 m c) (A2 m c) (A3 m c) (ix2 (pa t a) e) := by
  unfold outsAt0
  dsimp only
  rw [outS]
  show skip (X0_0 m c t (ix2 (n0 := 256) (n1 := 512) a e)) (iblk m c 3 t (ix2 (n0 := 1) 0 e)) (iblk m c 1 t (ix2 a e)) (iblk m c 2 t (ix2 a e)) = _
  rw [b0, b1, b2, b3]
  rfl

theorem blkG_eq (a : Fin 256) (e : Fin 512) : (outsAt0 (F := Ideal) m c t).2 (ix2 a e) = fullG (A0 m c) (A1 m c) (A2 m c) (A3 m c) (ix2 (pa t a) e) := by
  unfold outsAt0
  dsimp only
  rw [outG]
  show gelu (skip (X0_0 m c t (ix2 (n0 := 256) (n1 := 512) a e)) (iblk m c 3 t (ix2 (n0 := 1) 0 e)) (iblk m c 1 t (ix2 a e)) (iblk m c 2 t (ix2 a e))) = _
  rw [b0, b1, b2, b3]
  rfl

theorem finalS : (dats (F := Ideal) m 0 c).arrAt 4 cfg0.N = fullS (A0 m c) (A1 m c) (A2 m c) (A3 m c) := by
  refine (dats (F := Ideal) m 0 c).arrAt_eq_of_covers 4 _ (by decide +kernel) fun t hf y => ?_
  obtain ⟨a, e, rfl⟩ : ∃ (a : Fin 256) (e : Fin 512), y = ix2 a e := ⟨_, _, eq_ix2 (n0 := 256) (n1 := 512) y⟩
  rw [at_of (fullS _ _ _ _) (pa t a) e _ (by blk_simp [e4 t]; show _ = 256 * t.val + a.val; omega) (by blk_simp [e4 t])]
  refine Eq.trans ?_ (blkS_eq m c t a e)
  blk_simp
  rw [after0_4]

theorem finalG : (dats (F := Ideal) m 0 c).arrAt 5 cfg0.N = fullG (A0 m c) (A1 m c) (A2 m c) (A3 m c) := by
  refine (dats (F := Ideal) m 0 c).arrAt_eq_of_covers 5 _ (by decide +kernel) fun t hf y => ?_
  obtain ⟨a, e, rfl⟩ : ∃ (a : Fin 256) (e : Fin 512), y = ix2 a e := ⟨_, _, eq_ix2 (n0 := 256) (n1 := 512) y⟩
  rw [at_of (fullG _ _ _ _) (pa t a) e _ (by blk_simp [e5 t]; show _ = 256 * t.val + a.val; omega) (by blk_simp [e5 t])]
  refine Eq.trans ?_ (blkG_eq m c t a e)
  blk_simp
  rw [after0_5]

/-! ## The reference -/

section Ref

open Cert.Reference32Ideal Cert.Reference32Ideal.Read

variable (x0 : Kernel32Ideal.S8448x3456.Idx → EReal) (x1 x2 : Kernel32Ideal.S8448x512.Idx → EReal) (x3 : Kernel32Ideal.S1x512.Idx → EReal)
  (p : Fin 8192) (j : Fin 512)

theorem r_z : val_main_v0 (F := Ideal) x0 (ix2 p j) = x0 (ix2 (pz p) (zc j)) := by
  rw [val_main_v0_apply]
  exact congrArg x0 (funext fun a => Fin.ext (match a with
    | ⟨0, _⟩ => rfl
    | ⟨1, _⟩ => rfl))
theorem r_f : val_main_v5 (F := Ideal) x1 (ix2 p j) = x1 (ix2 (pz p) j) := by
  rw [val_main_v5_apply]
  exact congrArg x1 (funext fun a => Fin.ext (match a with
    | ⟨0, _⟩ => rfl
    | ⟨1, _⟩ => rfl))
theorem r_b : val_main_v7 (F := Ideal) x2 (ix2 p j) = x2 (ix2 (pz p) j) := by
  rw [val_main_v7_apply]
  exact congrArg x2 (funext fun a => Fin.ext (match a with
    | ⟨0, _⟩ => rfl
    | ⟨1, _⟩ => rfl))
theorem r_d : val_main_v3 (F := Ideal) x3 (ix2 p j) = x3 (ix2 (n0 := 1) 0 j) := by
  rw [val_main_v3_apply, val_main_v2_apply, val_main_v1_apply]
  refine congrArg x3 (funext fun a => Fin.ext ?_)
  match a with
  | ⟨0, _⟩ => first | rfl | exact Nat.div_eq_of_lt j.isLt
  | ⟨1, _⟩ => first | rfl | exact Nat.mod_eq_of_lt j.isLt

theorem resultS : val_main_v8 (F := Ideal) x0 x1 x2 x3 (ix2 p j) = fullS x0 x1 x2 x3 (ix2 p j) := by
  rw [val_main_v8_apply, val_main_v6_apply, val_main_v4_apply, r_z, r_f, r_b, r_d]
  rfl

theorem resultG : val_main_v22 (F := Ideal) x0 x1 x2 x3 (ix2 p j) = fullG x0 x1 x2 x3 (ix2 p j) := by
  rw [val_main_v22_apply]
  show val_main_v21 (F := Ideal) x0 x1 x2 x3 (ix2 p j) = gelu (fullS x0 x1 x2 x3 (ix2 p j))
  rw [val_main_v21_apply, val_main_v20_apply, val_main_v19_apply, val_main_cst_2_apply, val_main_v18_apply, val_main_v17_apply, val_main_cst_1_apply, val_main_v16_apply,
    val_main_v15_apply, val_main_v14_apply, val_main_cst_0_apply, val_main_v13_apply, val_main_v12_apply, val_main_v11_apply, val_main_cst_apply, val_main_v10_apply,
    val_main_v9_apply, resultS]
  rfl

end Ref

theorem frame_p : Cert.quiescent_Kernel32 := fun m g _ => Cert.Kernel32.Gen.frame m g
theorem frame_pi : Cert.quiescent_Kernel32Ideal := fun m g _ => Cert.Kernel32Ideal.Gen.frame m g
theorem frame_ri : Cert.quiescent_Reference32Ideal := fun m g _ =>
  (θ_run Cert.Reference32Ideal.defs _ _).mono (fun r h => ⟨fun c => (h c).2.2, sem_eq_zero_of_no_sems (by decide) r.2⟩) (Cert.Reference32Ideal.Value.run (F := Ideal) m g)
theorem preserves : Cert.preserves_Kernel32_Kernel32Ideal := trivial

theorem algebraic : Cert.algebraic_Kernel32Ideal_Reference32Ideal := by
  intro m g m' g' _ hagree
  refine ⟨_, _, (θ_run _ _ _).mono (fun r h => h) (Cert.Kernel32Ideal.Value.run_blocks (F := Ideal) m g), ?_⟩
  refine (θ_run _ _ _).mono (fun r h c => ?_) (Cert.Reference32Ideal.Value.run (F := Ideal) m' g')
  obtain ⟨a0, a1, a2, a3⟩ := hagree c
  refine ⟨?_, ?_, (h c).2.2⟩
  · rw [(h c).1, finalS m c, Cert.Reference32Ideal.Read.val_main_v8_eq, a0, a1, a2, a3]
    funext i
    obtain ⟨p, j, rfl⟩ : ∃ (p : Fin 8192) (j : Fin 512), i = ix2 p j := ⟨_, _, eq_ix2 (n0 := 8192) (n1 := 512) i⟩
    exact resultS _ _ _ _ p j
  · rw [(h c).2.1, finalG m c, Cert.Reference32Ideal.Read.val_main_v22_eq, a0, a1, a2, a3]
    funext i
    obtain ⟨p, j, rfl⟩ : ∃ (p : Fin 8192) (j : Fin 512), i = ix2 p j := ⟨_, _, eq_ix2 (n0 := 8192) (n1 := 512) i⟩
    exact resultG _ _ _ _ p j

end Cert.Rows.S5Out

end
-- ==== Proof.Rows.Adam.Basic.lean ====
/-
  One step of the optimiser on one number: the two moments, and the change of the weight.
-/
module

public import Idealize.ShloMosaic.Lib.IdealHost
public import Idealize.ShloMosaic.Lib.Pipeline.ValueKit

@[expose] public section

noncomputable section

namespace Cert.Rows.Adam

open Idealize.ShloMosaic

/-- The first moment after the step. -/
def mom (m g : EReal) : EReal := Ideal.ofBits .f32 0x3F666666#32 * m + Ideal.ofBits .f32 0x3DCCCCCD#32 * g

/-- The second moment after the step. -/
def sec (v g : EReal) : EReal := Ideal.ofBits .f32 0x3F7FBE77#32 * v + Ideal.ofBits .f32 0x3A83126F#32 * (g * g)

/-- The two factors that undo the moments' bias towards 0. -/
def um : EReal := (((5463681 * 8388608⁻¹)⁻¹ : ℝ) : EReal)
def uv : EReal := (((2672307 * 268435456⁻¹)⁻¹ : ℝ) : EReal)

/-- The change of the weight `w`, from the moments after the step. -/
def change (w m v : EReal) : EReal :=
  Ideal.ofBits .f32 0xBA83126F#32
    * (Ideal.div (m * um) (Ideal.sqrt (v * uv) + Ideal.ofBits .f32 0x322BCC77#32) + Ideal.ofBits .f32 0x3C23D70A#32 * w)

/-- The reference divides where the kernel multiplies. -/
theorem div_um (x : EReal) : Ideal.div x (Ideal.ofBits .f32 0x3F26BD02#32) = x * um := by
  have h : Ideal.ofBits .f32 0x3F26BD02#32 = ((5463681 * 8388608⁻¹ : ℝ) : EReal) := by
    simp [Ideal.ofBits, Ideal.ieee, -EReal.coe_mul]
    try norm_num
  rw [h]
  unfold Ideal.div um
  rw [if_neg (by rw [← EReal.coe_zero, EReal.coe_eq_coe_iff]; norm_num), EReal.coe_inv]

theorem div_uv (x : EReal) : Ideal.div x (Ideal.ofBits .f32 0x3C231ACC#32) = x * uv := by
  have h : Ideal.ofBits .f32 0x3C231ACC#32 = ((2672307 * 268435456⁻¹ : ℝ) : EReal) := by
    simp [Ideal.ofBits, Ideal.ieee, -EReal.coe_mul]
    try norm_num
  rw [h]
  unfold Ideal.div uv
  rw [if_neg (by rw [← EReal.coe_zero, EReal.coe_eq_coe_iff]; norm_num), EReal.coe_inv]

end Cert.Rows.Adam

end
-- ==== Proof.Rows.Adam.WUp.lean ====
/-
  The optimiser's step on the feed-forward's first weights: whole call, element by element.
-/
module

public import proofs.«01_k».proof.Defs
public import proofs.«01_k».proof.Proof.Rows.Adam.Basic
public import proofs.«01_k».proof.Proof.Gen.Kernel33
public import proofs.«01_k».proof.Proof.Gen.Kernel33.Frame
public import proofs.«01_k».proof.Proof.Gen.Kernel33Ideal
public import proofs.«01_k».proof.Proof.Gen.Kernel33Ideal.Value
public import proofs.«01_k».proof.Proof.Gen.Reference33Ideal
public import proofs.«01_k».proof.Proof.Gen.Reference33Ideal.Run
public import proofs.«01_k».proof.Proof.Gen.Reference33Ideal.Read
public import Idealize.ShloMosaic.Lib.Pipeline.ValueKit
public import Idealize.ShloMosaic.Lib.Pipeline.CanonAppend

@[expose] public section

set_option maxRecDepth 16384

noncomputable section

namespace Cert.Rows.Adam.WUp

open Idealize.ShloMosaic Idealize.ShloMosaic.TcCoe Idealize.ShloMosaic.Tactic Idealize.SL.Sem Cert.Kernel33Ideal Cert.Kernel33Ideal.Gen Cert.Rows.Adam
open Idealize.ShloMosaic.Pipeline (Dat)

/-! ## One trip, and one grid point -/

theorem payM (g m : Vec Ideal S64x1408 .f32) (y : S64x1408.Idx) : k0_pay1 (F := Ideal) g m y = mom (m y) (g y) := rfl
theorem payV (g v : Vec Ideal S64x1408 .f32) (y : S64x1408.Idx) : k0_pay2 (F := Ideal) g v y = sec (v y) (g y) := rfl
theorem payD (g w m v : Vec Ideal S64x1408 .f32) (y : S64x1408.Idx) :
    k0_pay3 (F := Ideal) g w m v y = change (w y) (mom (m y) (g y)) (sec (v y) (g y)) := by
  have hm : Named.named (F := Ideal) (φ := .f32) κ "unbias_m" 0x3FC48605#32 = um := rfl
  have hv : Named.named (F := Ideal) (φ := .f32) κ "unbias_v" 0x42C8E6D3#32 = uv := rfl
  unfold change
  rw [← payM, ← payV, ← hm, ← hv]
  rfl

/-- A grid point's blocks of the results, from its blocks of the gradient, the weight and the two moments. -/
def blkD (x0 x1 x2 x3 : Vec Ideal S128x1408 .f32) : Vec Ideal S128x1408 .f32 := fun y => change (x1 y) (mom (x2 y) (x0 y)) (sec (x3 y) (x0 y))
def blkM (x0 x1 x2 x3 : Vec Ideal S128x1408 .f32) : Vec Ideal S128x1408 .f32 := fun y => mom (x2 y) (x0 y)
def blkV (x0 x1 x2 x3 : Vec Ideal S128x1408 .f32) : Vec Ideal S128x1408 .f32 := fun y => sec (x3 y) (x0 y)

section Block

variable (c : Dev nD) (i : grid0.Coords)
  (arg1 : Memref sig .tc .vmem S128x1408 .f32) (harg1 : arg1.IsWhole)
  (arg2 : Memref sig .tc .vmem S128x1408 .f32) (harg2 : arg2.IsWhole)
  (arg3 : Memref sig .tc .vmem S128x1408 .f32) (harg3 : arg3.IsWhole)
  (arg4 : Memref sig .tc .vmem S128x1408 .f32) (harg4 : arg4.IsWhole)
  (arg5 : Memref sig .tc .vmem S128x1408 .f32) (harg5 : arg5.IsWhole)
  (arg6 : Memref sig .tc .vmem S128x1408 .f32) (harg6 : arg6.IsWhole)
  (arg7 : Memref sig .tc .vmem S128x1408 .f32) (harg7 : arg7.IsWhole)
  (x0 x1 x2 x3 : Vec Ideal S128x1408 .f32)

theorem tripD (k : Fin k0_t1_loop.trips) :
    ∀ p ∈ (tripL_k0_t1 (F := Ideal) Variants.none c none i arg1 harg1 arg2 harg2 arg3 harg3 arg4 harg4 arg5 harg5 arg6 harg6 arg7 harg7
        (harg1.unread x0) (harg2.unread x1) (harg3.unread x2) (harg4.unread x3) k).1,
      ∀ x : p.1.shape.Idx, p.2 x = blkD x0 x1 x2 x3 (p.1.emb x) := by
  unfold tripL_k0_t1 trip_k0_t1
  dsimp only
  sl_unfold_words
  simp only [View.readAt_eq_ld, Memref.IsWhole.read_unread, List.mem_singleton, forall_eq]
  intro x
  exact payD _ _ _ _ x

theorem tripM (k : Fin k0_t1_loop.trips) :
    ∀ p ∈ (tripL_k0_t1 (F := Ideal) Variants.none c none i arg1 harg1 arg2 harg2 arg3 harg3 arg4 harg4 arg5 harg5 arg6 harg6 arg7 harg7
        (harg1.unread x0) (harg2.unread x1) (harg3.unread x2) (harg4.unread x3) k).2.1,
      ∀ x : p.1.shape.Idx, p.2 x = blkM x0 x1 x2 x3 (p.1.emb x) := by
  unfold tripL_k0_t1 trip_k0_t1
  dsimp only
  sl_unfold_words
  simp only [View.readAt_eq_ld, Memref.IsWhole.read_unread, List.mem_singleton, forall_eq]
  intro x
  exact payM _ _ x

theorem tripV (k : Fin k0_t1_loop.trips) :
    ∀ p ∈ (tripL_k0_t1 (F := Ideal) Variants.none c none i arg1 harg1 arg2 harg2 arg3 harg3 arg4 harg4 arg5 harg5 arg6 harg6 arg7 harg7
        (harg1.unread x0) (harg2.unread x1) (harg3.unread x2) (harg4.unread x3) k).2.2,
      ∀ x : p.1.shape.Idx, p.2 x = blkV x0 x1 x2 x3 (p.1.emb x) := by
  unfold tripL_k0_t1 trip_k0_t1
  dsimp only
  sl_unfold_words
  simp only [View.readAt_eq_ld, Memref.IsWhole.read_unread, List.mem_singleton, forall_eq]
  intro x
  exact payV _ _ x

/-- Every piece that the trips write is the block's own there. -/
theorem pieces (n : ℕ) :
    (∀ p ∈ (pb_k0_t1 (F := Ideal) Variants.none c none i arg1 harg1 arg2 harg2 arg3 harg3 arg4 harg4 arg5 harg5 arg6 harg6 arg7 harg7
        (harg1.unread x0) (harg2.unread x1) (harg3.unread x2) (harg4.unread x3) n).1,
      ∀ x : p.1.shape.Idx, p.2 x = blkD x0 x1 x2 x3 (p.1.emb x))
    ∧ (∀ p ∈ (pb_k0_t1 (F := Ideal) Variants.none c none i arg1 harg1 arg2 harg2 arg3 harg3 arg4 harg4 arg5 harg5 arg6 harg6 arg7 harg7
        (harg1.unread x0) (harg2.unread x1) (harg3.unread x2) (harg4.unread x3) n).2.1,
      ∀ x : p.1.shape.Idx, p.2 x = blkM x0 x1 x2 x3 (p.1.emb x))
    ∧ (∀ p ∈ (pb_k0_t1 (F := Ideal) Variants.none c none i arg1 harg1 arg2 harg2 arg3 harg3 arg4 harg4 arg5 harg5 arg6 harg6 arg7 harg7
        (harg1.unread x0) (harg2.unread x1) (harg3.unread x2) (harg4.unread x3) n).2.2,
      ∀ x : p.1.shape.Idx, p.2 x = blkV x0 x1 x2 x3 (p.1.emb x)) := by
  induction n with
  | zero =>
    rw [pb_k0_t1.eq_1]
    exact ⟨fun p hp => absurd hp List.not_mem_nil, fun p hp => absurd hp List.not_mem_nil, fun p hp => absurd hp List.not_mem_nil⟩
  | succ n ih =>
    rw [pb_k0_t1.eq_2]
    unfold pb_k0_t1Step
    split
    · exact ⟨fun p hp => (List.mem_append.1 hp).elim (tripD c i arg1 harg1 arg2 harg2 arg3 harg3 arg4 harg4 arg5 harg5 arg6 harg6 arg7 harg7 x0 x1 x2 x3 _ p) (ih.1 p),
        fun p hp => (List.mem_append.1 hp).elim (tripM c i arg1 harg1 arg2 harg2 arg3 harg3 arg4 harg4 arg5 harg5 arg6 harg6 arg7 harg7 x0 x1 x2 x3 _ p) (ih.2.1 p),
        fun p hp => (List.mem_append.1 hp).elim (tripV c i arg1 harg1 arg2 harg2 arg3 harg3 arg4 harg4 arg5 harg5 arg6 harg6 arg7 harg7 x0 x1 x2 x3 _ p) (ih.2.2 p)⟩
    · exact ih

theorem outD : out0_A_4 (F := Ideal) c i arg1 harg1 arg2 harg2 arg3 harg3 arg4 harg4 arg5 harg5 arg6 harg6 arg7 harg7 x0 x1 x2 x3 = blkD x0 x1 x2 x3 := by
  funext y
  have hc := cover0_A_4 (F := Ideal) c i arg1 harg1 arg2 harg2 arg3 harg3 arg4 harg4 arg5 harg5 arg6 harg6 arg7 harg7 x0 x1 x2 x3 y
  unfold out0_A_4
  rw [View.read_writes_junk_eq_canon]
  unfold kernelRun0_A at hc ⊢
  dsimp only at hc ⊢
  rw [← List.append_nil (pb_k0_t1 _ _ _ _ _ _ _ _ _ _ _ _ _ _ _ _ _ _ _ _ _ _ _).1]
  exact View.canon_append_of_pieces _ [] _ (pieces c i arg1 harg1 arg2 harg2 arg3 harg3 arg4 harg4 arg5 harg5 arg6 harg6 arg7 harg7 x0 x1 x2 x3 _).1 y hc

theorem outM : out0_A_5 (F := Ideal) c i arg1 harg1 arg2 harg2 arg3 harg3 arg4 harg4 arg5 harg5 arg6 harg6 arg7 harg7 x0 x1 x2 x3 = blkM x0 x1 x2 x3 := by
  funext y
  have hc := cover0_A_5 (F := Ideal) c i arg1 harg1 arg2 harg2 arg3 harg3 arg4 harg4 arg5 harg5 arg6 harg6 arg7 harg7 x0 x1 x2 x3 y
  unfold out0_A_5
  rw [View.read_writes_junk_eq_canon]
  unfold kernelRun0_A at hc ⊢
  dsimp only at hc ⊢
  rw [← List.append_nil (pb_k0_t1 _ _ _ _ _ _ _ _ _ _ _ _ _ _ _ _ _ _ _ _ _ _ _).2.1]
  exact View.canon_append_of_pieces _ [] _ (pieces c i arg1 harg1 arg2 harg2 arg3 harg3 arg4 harg4 arg5 harg5 arg6 harg6 arg7 harg7 x0 x1 x2 x3 _).2.1 y hc

theorem outV : out0_A_6 (F := Ideal) c i arg1 harg1 arg2 harg2 arg3 harg3 arg4 harg4 arg5 harg5 arg6 harg6 arg7 harg7 x0 x1 x2 x3 = blkV x0 x1 x2 x3 := by
  funext y
  have hc := cover0_A_6 (F := Ideal) c i arg1 harg1 arg2 harg2 arg3 harg3 arg4 harg4 arg5 harg5 arg6 harg6 arg7 harg7 x0 x1 x2 x3 y
  unfold out0_A_6
  rw [View.read_writes_junk_eq_canon]
  unfold kernelRun0_A at hc ⊢
  dsimp only at hc ⊢
  rw [← List.append_nil (pb_k0_t1 _ _ _ _ _ _ _ _ _ _ _ _ _ _ _ _ _ _ _ _ _ _ _).2.2]
  exact View.canon_append_of_pieces _ [] _ (pieces c i arg1 harg1 arg2 harg2 arg3 harg3 arg4 harg4 arg5 harg5 arg6 harg6 arg7 harg7 x0 x1 x2 x3 _).2.2 y hc

end Block

/-! ## Where the blocks lie -/

variable (m : (ℓ : Loc nD τ sig) → Buf (Elt Ideal) ℓ) (c : Dev nD)

/-- The gradient, the weight and the two moments. -/
abbrev A0 : S1024x1408.Idx → EReal := m ((c : Thread nD τ).loc main_arg0)
abbrev A1 : S1024x1408.Idx → EReal := m ((c : Thread nD τ).loc main_arg1)
abbrev A2 : S1024x1408.Idx → EReal := m ((c : Thread nD τ).loc main_arg2)
abbrev A3 : S1024x1408.Idx → EReal := m ((c : Thread nD τ).loc main_arg3)

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)

theorem lt_N (t : Fin cfg0.N) : t.val < 8 := lt_of_lt_of_eq t.isLt N_0

variable (t : Fin cfg0.N)

/-- A row of a point's block. -/
def pa (a : Fin 128) : Fin 1024 := ⟨128 * t.val + a.val, by have := lt_N t; omega⟩

theorem b0 (a : Fin 128) (e : Fin 1408) : iblk m c 0 t (ix2 a e) = A0 m c (ix2 (pa t a) e) := by
  blk_ext [iblk, e0 t, pa]
theorem b1 (a : Fin 128) (e : Fin 1408) : iblk m c 1 t (ix2 a e) = A1 m c (ix2 (pa t a) e) := by
  blk_ext [iblk, e1 t, pa]
theorem b2 (a : Fin 128) (e : Fin 1408) : iblk m c 2 t (ix2 a e) = A2 m c (ix2 (pa t a) e) := by
  blk_ext [iblk, e2 t, pa]
theorem b3 (a : Fin 128) (e : Fin 1408) : iblk m c 3 t (ix2 a e) = A3 m c (ix2 (pa t a) e) := by
  blk_ext [iblk, e3 t, pa]

/-! ## The results -/

def fullD (g w m v : S1024x1408.Idx → EReal) : S1024x1408.Idx → EReal := fun y => change (w y) (mom (m y) (g y)) (sec (v y) (g y))
def fullM (g w m v : S1024x1408.Idx → EReal) : S1024x1408.Idx → EReal := fun y => mom (m y) (g y)
def fullV (g w m v : S1024x1408.Idx → EReal) : S1024x1408.Idx → EReal := fun y => sec (v y) (g y)

theorem at_of (f : S1024x1408.Idx → EReal) (p : Fin 1024) (j : Fin 1408) (y : S1024x1408.Idx) (h0 : (y 0).val = p.val) (h1 : (y 1).val = j.val) :
    f y = f (ix2 p j) :=
  congrArg f (funext fun a => Fin.ext (match a with
    | ⟨0, _⟩ => h0
    | ⟨1, _⟩ => h1))

theorem blkD_eq (a : Fin 128) (e : Fin 1408) : (outsAt0 (F := Ideal) m c t).1 (ix2 a e) = fullD (A0 m c) (A1 m c) (A2 m c) (A3 m c) (ix2 (pa t a) e) := by
  unfold outsAt0
  dsimp only
  rw [outD]
  show change (iblk m c 1 t (ix2 a e)) (mom (iblk m c 2 t (ix2 a e)) (iblk m c 0 t (ix2 a e))) (sec (iblk m c 3 t (ix2 a e)) (iblk m c 0 t (ix2 a e))) = _
  rw [b0, b1, b2, b3]
  rfl

theorem finalD : (dats (F := Ideal) m 0 c).arrAt 4 cfg0.N = fullD (A0 m c) (A1 m c) (A2 m c) (A3 m c) := by
  refine (dats (F := Ideal) m 0 c).arrAt_eq_of_covers 4 _ (by decide +kernel) fun t hf y => ?_
  obtain ⟨a, e, rfl⟩ : ∃ (a : Fin 128) (e : Fin 1408), y = ix2 a e := ⟨_, _, eq_ix2 (n0 := 128) (n1 := 1408) y⟩
  rw [at_of (fullD _ _ _ _) (pa t a) e _ (by blk_simp [e4 t]; show _ = 128 * t.val + a.val; have := lt_N t; omega) (by blk_simp [e4 t])]
  refine Eq.trans ?_ (blkD_eq m c t a e)
  blk_simp
  rw [after0_4]

theorem blkM_eq (a : Fin 128) (e : Fin 1408) : (outsAt0 (F := Ideal) m c t).2.1 (ix2 a e) = fullM (A0 m c) (A1 m c) (A2 m c) (A3 m c) (ix2 (pa t a) e) := by
  unfold outsAt0
  dsimp only
  rw [outM]
  show mom (iblk m c 2 t (ix2 a e)) (iblk m c 0 t (ix2 a e)) = _
  rw [b0, b2]
  rfl

theorem finalM : (dats (F := Ideal) m 0 c).arrAt 5 cfg0.N = fullM (A0 m c) (A1 m c) (A2 m c) (A3 m c) := by
  refine (dats (F := Ideal) m 0 c).arrAt_eq_of_covers 5 _ (by decide +kernel) fun t hf y => ?_
  obtain ⟨a, e, rfl⟩ : ∃ (a : Fin 128) (e : Fin 1408), y = ix2 a e := ⟨_, _, eq_ix2 (n0 := 128) (n1 := 1408) y⟩
  rw [at_of (fullM _ _ _ _) (pa t a) e _ (by blk_simp [e5 t]; show _ = 128 * t.val + a.val; have := lt_N t; omega) (by blk_simp [e5 t])]
  refine Eq.trans ?_ (blkM_eq m c t a e)
  blk_simp
  rw [after0_5]

theorem blkV_eq (a : Fin 128) (e : Fin 1408) : (outsAt0 (F := Ideal) m c t).2.2 (ix2 a e) = fullV (A0 m c) (A1 m c) (A2 m c) (A3 m c) (ix2 (pa t a) e) := by
  unfold outsAt0
  dsimp only
  rw [outV]
  show sec (iblk m c 3 t (ix2 a e)) (iblk m c 0 t (ix2 a e)) = _
  rw [b0, b3]
  rfl

theorem finalV : (dats (F := Ideal) m 0 c).arrAt 6 cfg0.N = fullV (A0 m c) (A1 m c) (A2 m c) (A3 m c) := by
  refine (dats (F := Ideal) m 0 c).arrAt_eq_of_covers 6 _ (by decide +kernel) fun t hf y => ?_
  obtain ⟨a, e, rfl⟩ : ∃ (a : Fin 128) (e : Fin 1408), y = ix2 a e := ⟨_, _, eq_ix2 (n0 := 128) (n1 := 1408) y⟩
  rw [at_of (fullV _ _ _ _) (pa t a) e _ (by blk_simp [e6 t]; show _ = 128 * t.val + a.val; have := lt_N t; omega) (by blk_simp [e6 t])]
  refine Eq.trans ?_ (blkV_eq m c t a e)
  blk_simp
  rw [after0_6]

/-! ## The reference -/

section Ref

open Cert.Reference33Ideal Cert.Reference33Ideal.Read

variable (x0 x1 x2 x3 : Kernel33Ideal.S1024x1408.Idx → EReal)

theorem resultM : val_main_v4 (F := Ideal) x0 x2 = fullM x0 x1 x2 x3 := by
  funext i
  rw [val_main_v4_apply, val_main_v1_apply, val_main_v0_apply, val_main_cst_apply, val_main_v3_apply, val_main_v2_apply, val_main_cst_0_apply]
  rfl

theorem resultV : val_main_v10 (F := Ideal) x0 x3 = fullV x0 x1 x2 x3 := by
  funext i
  rw [val_main_v10_apply, val_main_v6_apply, val_main_v5_apply, val_main_cst_1_apply, val_main_v9_apply, val_main_v8_apply, val_main_cst_2_apply, val_main_v7_apply]
  rfl

theorem resultD : val_main_v23 (F := Ideal) x0 x1 x2 x3 = fullD x0 x1 x2 x3 := by
  funext i
  unfold fullD change
  rw [← div_um, ← div_uv]
  rw [val_main_v23_apply, val_main_v22_apply, val_main_cst_7_apply, val_main_v21_apply, val_main_v20_apply, val_main_v19_apply, val_main_cst_6_apply,
    val_main_v18_apply, val_main_v17_apply, val_main_v16_apply, val_main_cst_5_apply, val_main_v15_apply, val_main_v14_apply, val_main_v13_apply, val_main_cst_4_apply,
    val_main_v12_apply, val_main_v11_apply, val_main_cst_3_apply, resultM x0 x1 x2 x3, resultV x0 x1 x2 x3]
  rfl

end Ref

theorem frame_p : Cert.quiescent_Kernel33 := fun m g _ => Cert.Kernel33.Gen.frame m g
theorem frame_pi : Cert.quiescent_Kernel33Ideal := fun m g _ => Cert.Kernel33Ideal.Gen.frame m g
theorem frame_ri : Cert.quiescent_Reference33Ideal := fun m g _ =>
  (θ_run Cert.Reference33Ideal.defs _ _).mono (fun r h => ⟨fun c => (h c).2.2.2, sem_eq_zero_of_no_sems (by decide) r.2⟩) (Cert.Reference33Ideal.Value.run (F := Ideal) m g)

/-- The two named constants. -/
theorem preserves : Cert.preserves_Kernel33_Kernel33Ideal := by
  unfold Cert.preserves_Kernel33_Kernel33Ideal
  exact ⟨IdealRules.named_const.statement _ _ _ _ _ rfl, IdealRules.named_const.statement _ _ _ _ _ rfl⟩

theorem algebraic : Cert.algebraic_Kernel33Ideal_Reference33Ideal := by
  intro m g m' g' _ hagree
  refine ⟨_, _, _, (θ_run _ _ _).mono (fun r h => h) (Cert.Kernel33Ideal.Value.run_blocks (F := Ideal) m g), ?_⟩
  refine (θ_run _ _ _).mono (fun r h c => ?_) (Cert.Reference33Ideal.Value.run (F := Ideal) m' g')
  obtain ⟨a0, a1, a2, a3⟩ := hagree c
  refine ⟨?_, ?_, ?_, (h c).2.2.2⟩
  · rw [(h c).1, finalD m c, Cert.Reference33Ideal.Read.val_main_v23_eq, a0, a1, a2, a3]
    exact resultD _ _ _ _
  · rw [(h c).2.1, finalM m c, Cert.Reference33Ideal.Read.val_main_v4_eq, a0, a2]
    exact resultM _ _ _ _
  · rw [(h c).2.2.1, finalV m c, Cert.Reference33Ideal.Read.val_main_v10_eq, a0, a3]
    exact resultV _ _ _ _

end Cert.Rows.Adam.WUp

end
-- ==== Proof.Rows.Adam.WDown.lean ====
/-
  The optimiser's step on the feed-forward's second weights: whole call, element by element.
-/
module

public import proofs.«01_k».proof.Defs
public import proofs.«01_k».proof.Proof.Rows.Adam.Basic
public import proofs.«01_k».proof.Proof.Gen.Kernel34
public import proofs.«01_k».proof.Proof.Gen.Kernel34.Frame
public import proofs.«01_k».proof.Proof.Gen.Kernel34Ideal
public import proofs.«01_k».proof.Proof.Gen.Kernel34Ideal.Frame
public import proofs.«01_k».proof.Proof.Gen.Reference34Ideal
public import proofs.«01_k».proof.Proof.Gen.Reference34Ideal.Run
public import proofs.«01_k».proof.Proof.Gen.Reference34Ideal.Read
public import Idealize.ShloMosaic.Lib.Pipeline.ValueKit
public import Idealize.ShloMosaic.Lib.Pipeline.CanonAppend

@[expose] public section

set_option maxRecDepth 16384

noncomputable section

namespace Cert.Rows.Adam.WDown

open Idealize.ShloMosaic Idealize.ShloMosaic.TcCoe Idealize.ShloMosaic.Tactic Idealize.SL.Sem Cert.Kernel34Ideal Cert.Kernel34Ideal.Gen Cert.Rows.Adam
open Idealize.ShloMosaic.Pipeline (Dat)

/-! ## One grid point -/

theorem payM (g m : Vec Ideal S64x1024 .f32) (y : S64x1024.Idx) : k0_pay1 (F := Ideal) g m y = mom (m y) (g y) := rfl
theorem payV (g v : Vec Ideal S64x1024 .f32) (y : S64x1024.Idx) : k0_pay2 (F := Ideal) g v y = sec (v y) (g y) := rfl
theorem payD (g w m v : Vec Ideal S64x1024 .f32) (y : S64x1024.Idx) :
    k0_pay3 (F := Ideal) g w m v y = change (w y) (mom (m y) (g y)) (sec (v y) (g y)) := by
  have hm : Named.named (F := Ideal) (φ := .f32) κ "unbias_m" 0x3FC48605#32 = um := rfl
  have hv : Named.named (F := Ideal) (φ := .f32) κ "unbias_v" 0x42C8E6D3#32 = uv := rfl
  unfold change
  rw [← payM, ← payV, ← hm, ← hv]
  rfl

/-- A grid point's blocks of the results, from its blocks of the gradient, the weight and the two moments. -/
def blkD (x0 x1 x2 x3 : Vec Ideal S64x1024 .f32) : Vec Ideal S64x1024 .f32 := fun y => change (x1 y) (mom (x2 y) (x0 y)) (sec (x3 y) (x0 y))
def blkM (x0 x1 x2 x3 : Vec Ideal S64x1024 .f32) : Vec Ideal S64x1024 .f32 := fun y => mom (x2 y) (x0 y)
def blkV (x0 x1 x2 x3 : Vec Ideal S64x1024 .f32) : Vec Ideal S64x1024 .f32 := fun y => sec (x3 y) (x0 y)

section Block

variable (x0 x1 x2 x3 : Vec Ideal S64x1024 .f32)

theorem outD : out0_4 (F := Ideal) x0 x1 x2 x3 = blkD x0 x1 x2 x3 := by
  funext y
  refine View.canon_append_of_pieces (blkD x0 x1 x2 x3) [] [⟨r0_0, _⟩] (fun p hp x => ?_) y (cover0_4 _ y)
  obtain rfl := List.mem_singleton.1 hp
  exact payD _ _ _ _ x

theorem outM : out0_5 (F := Ideal) x0 x1 x2 x3 = blkM x0 x1 x2 x3 := by
  funext y
  refine View.canon_append_of_pieces (blkM x0 x1 x2 x3) [] [⟨r0_0, _⟩] (fun p hp x => ?_) y (cover0_5 _ y)
  obtain rfl := List.mem_singleton.1 hp
  exact payM _ _ x

theorem outV : out0_6 (F := Ideal) x0 x1 x2 x3 = blkV x0 x1 x2 x3 := by
  funext y
  refine View.canon_append_of_pieces (blkV x0 x1 x2 x3) [] [⟨r0_0, _⟩] (fun p hp x => ?_) y (cover0_6 _ y)
  obtain rfl := List.mem_singleton.1 hp
  exact payV _ _ x

end Block

/-! ## Where the blocks lie -/

variable (m : (ℓ : Loc nD τ sig) → Buf (Elt Ideal) ℓ) (c : Dev nD)

/-- The gradient, the weight and the two moments. -/
abbrev A0 : S704x1024.Idx → EReal := m ((c : Thread nD τ).loc main_arg0)
abbrev A1 : S704x1024.Idx → EReal := m ((c : Thread nD τ).loc main_arg1)
abbrev A2 : S704x1024.Idx → EReal := m ((c : Thread nD τ).loc main_arg2)
abbrev A3 : S704x1024.Idx → EReal := m ((c : Thread nD τ).loc main_arg3)

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)

theorem lt_N (t : Fin cfg0.N) : t.val < 11 := lt_of_lt_of_eq t.isLt N_0

variable (t : Fin cfg0.N)

/-- A row of a point's block. -/
def pa (a : Fin 64) : Fin 704 := ⟨64 * t.val + a.val, by have := lt_N t; omega⟩

theorem b0 (a : Fin 64) (e : Fin 1024) : iblk m c 0 t (ix2 a e) = A0 m c (ix2 (pa t a) e) := by
  blk_ext [iblk, e0 t, pa]
theorem b1 (a : Fin 64) (e : Fin 1024) : iblk m c 1 t (ix2 a e) = A1 m c (ix2 (pa t a) e) := by
  blk_ext [iblk, e1 t, pa]
theorem b2 (a : Fin 64) (e : Fin 1024) : iblk m c 2 t (ix2 a e) = A2 m c (ix2 (pa t a) e) := by
  blk_ext [iblk, e2 t, pa]
theorem b3 (a : Fin 64) (e : Fin 1024) : iblk m c 3 t (ix2 a e) = A3 m c (ix2 (pa t a) e) := by
  blk_ext [iblk, e3 t, pa]

/-! ## The results -/

def fullD (g w m v : S704x1024.Idx → EReal) : S704x1024.Idx → EReal := fun y => change (w y) (mom (m y) (g y)) (sec (v y) (g y))
def fullM (g w m v : S704x1024.Idx → EReal) : S704x1024.Idx → EReal := fun y => mom (m y) (g y)
def fullV (g w m v : S704x1024.Idx → EReal) : S704x1024.Idx → EReal := fun y => sec (v y) (g y)

theorem at_of (f : S704x1024.Idx → EReal) (p : Fin 704) (j : Fin 1024) (y : S704x1024.Idx) (h0 : (y 0).val = p.val) (h1 : (y 1).val = j.val) :
    f y = f (ix2 p j) :=
  congrArg f (funext fun a => Fin.ext (match a with
    | ⟨0, _⟩ => h0
    | ⟨1, _⟩ => h1))

theorem blkD_eq (a : Fin 64) (e : Fin 1024) : out0_4 (F := Ideal) (iblk m c 0 t) (iblk m c 1 t) (iblk m c 2 t) (iblk m c 3 t) (ix2 a e) = fullD (A0 m c) (A1 m c) (A2 m c) (A3 m c) (ix2 (pa t a) e) := by
  rw [outD]
  show change (iblk m c 1 t (ix2 a e)) (mom (iblk m c 2 t (ix2 a e)) (iblk m c 0 t (ix2 a e))) (sec (iblk m c 3 t (ix2 a e)) (iblk m c 0 t (ix2 a e))) = _
  rw [b0, b1, b2, b3]
  rfl

theorem finalD : (dats (F := Ideal) m 0 c).arrAt 4 cfg0.N = fullD (A0 m c) (A1 m c) (A2 m c) (A3 m c) := by
  refine (dats (F := Ideal) m 0 c).arrAt_eq_of_covers 4 _ (by decide +kernel) fun t hf y => ?_
  obtain ⟨a, e, rfl⟩ : ∃ (a : Fin 64) (e : Fin 1024), y = ix2 a e := ⟨_, _, eq_ix2 (n0 := 64) (n1 := 1024) y⟩
  rw [at_of (fullD _ _ _ _) (pa t a) e _ (by blk_simp [e4 t]; show _ = 64 * t.val + a.val; have := lt_N t; omega) (by blk_simp [e4 t])]
  refine Eq.trans ?_ (blkD_eq m c t a e)
  blk_simp
  rw [after0_4]

theorem blkM_eq (a : Fin 64) (e : Fin 1024) : out0_5 (F := Ideal) (iblk m c 0 t) (iblk m c 1 t) (iblk m c 2 t) (iblk m c 3 t) (ix2 a e) = fullM (A0 m c) (A1 m c) (A2 m c) (A3 m c) (ix2 (pa t a) e) := by
  rw [outM]
  show mom (iblk m c 2 t (ix2 a e)) (iblk m c 0 t (ix2 a e)) = _
  rw [b0, b2]
  rfl

theorem finalM : (dats (F := Ideal) m 0 c).arrAt 5 cfg0.N = fullM (A0 m c) (A1 m c) (A2 m c) (A3 m c) := by
  refine (dats (F := Ideal) m 0 c).arrAt_eq_of_covers 5 _ (by decide +kernel) fun t hf y => ?_
  obtain ⟨a, e, rfl⟩ : ∃ (a : Fin 64) (e : Fin 1024), y = ix2 a e := ⟨_, _, eq_ix2 (n0 := 64) (n1 := 1024) y⟩
  rw [at_of (fullM _ _ _ _) (pa t a) e _ (by blk_simp [e5 t]; show _ = 64 * t.val + a.val; have := lt_N t; omega) (by blk_simp [e5 t])]
  refine Eq.trans ?_ (blkM_eq m c t a e)
  blk_simp
  rw [after0_5]

theorem blkV_eq (a : Fin 64) (e : Fin 1024) : out0_6 (F := Ideal) (iblk m c 0 t) (iblk m c 1 t) (iblk m c 2 t) (iblk m c 3 t) (ix2 a e) = fullV (A0 m c) (A1 m c) (A2 m c) (A3 m c) (ix2 (pa t a) e) := by
  rw [outV]
  show sec (iblk m c 3 t (ix2 a e)) (iblk m c 0 t (ix2 a e)) = _
  rw [b0, b3]
  rfl

theorem finalV : (dats (F := Ideal) m 0 c).arrAt 6 cfg0.N = fullV (A0 m c) (A1 m c) (A2 m c) (A3 m c) := by
  refine (dats (F := Ideal) m 0 c).arrAt_eq_of_covers 6 _ (by decide +kernel) fun t hf y => ?_
  obtain ⟨a, e, rfl⟩ : ∃ (a : Fin 64) (e : Fin 1024), y = ix2 a e := ⟨_, _, eq_ix2 (n0 := 64) (n1 := 1024) y⟩
  rw [at_of (fullV _ _ _ _) (pa t a) e _ (by blk_simp [e6 t]; show _ = 64 * t.val + a.val; have := lt_N t; omega) (by blk_simp [e6 t])]
  refine Eq.trans ?_ (blkV_eq m c t a e)
  blk_simp
  rw [after0_6]

/-! ## The reference -/

section Ref

open Cert.Reference34Ideal Cert.Reference34Ideal.Read

variable (x0 x1 x2 x3 : Kernel34Ideal.S704x1024.Idx → EReal)

theorem resultM : val_main_v4 (F := Ideal) x0 x2 = fullM x0 x1 x2 x3 := by
  funext i
  rw [val_main_v4_apply, val_main_v1_apply, val_main_v0_apply, val_main_cst_apply, val_main_v3_apply, val_main_v2_apply, val_main_cst_0_apply]
  rfl

theorem resultV : val_main_v10 (F := Ideal) x0 x3 = fullV x0 x1 x2 x3 := by
  funext i
  rw [val_main_v10_apply, val_main_v6_apply, val_main_v5_apply, val_main_cst_1_apply, val_main_v9_apply, val_main_v8_apply, val_main_cst_2_apply, val_main_v7_apply]
  rfl

theorem resultD : val_main_v23 (F := Ideal) x0 x1 x2 x3 = fullD x0 x1 x2 x3 := by
  funext i
  unfold fullD change
  rw [← div_um, ← div_uv]
  rw [val_main_v23_apply, val_main_v22_apply, val_main_cst_7_apply, val_main_v21_apply, val_main_v20_apply, val_main_v19_apply, val_main_cst_6_apply,
    val_main_v18_apply, val_main_v17_apply, val_main_v16_apply, val_main_cst_5_apply, val_main_v15_apply, val_main_v14_apply, val_main_v13_apply, val_main_cst_4_apply,
    val_main_v12_apply, val_main_v11_apply, val_main_cst_3_apply, resultM x0 x1 x2 x3, resultV x0 x1 x2 x3]
  rfl

end Ref

/-- The call's run: each result is the array that its grid points leave, and the arguments are as they were. -/
theorem run_blocks (ρ : Dev nD → PrngReg) : θ_run defs (onTc (τ := τ) (main (F := Ideal))) ⟨m, fun _ => 0, ρ⟩ fun r => ∀ c : Dev nD,
      r.2.mem ((c : Thread nD τ).loc main_v0_0) = (dats (F := Ideal) m 0 c).arrAt 4 cfg0.N
      ∧ r.2.mem ((c : Thread nD τ).loc main_v0_1) = (dats (F := Ideal) m 0 c).arrAt 5 cfg0.N
      ∧ r.2.mem ((c : Thread nD τ).loc main_v0_2) = (dats (F := Ideal) m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4, (h c).1 5, (h c).1 6,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

theorem frame_p : Cert.quiescent_Kernel34 := fun m g _ => Cert.Kernel34.Gen.frame m g
theorem frame_pi : Cert.quiescent_Kernel34Ideal := fun m g _ => Cert.Kernel34Ideal.Gen.frame m g
theorem frame_ri : Cert.quiescent_Reference34Ideal := fun m g _ =>
  (θ_run Cert.Reference34Ideal.defs _ _).mono (fun r h => ⟨fun c => (h c).2.2.2, sem_eq_zero_of_no_sems (by decide) r.2⟩) (Cert.Reference34Ideal.Value.run (F := Ideal) m g)

/-- The two named constants. -/
theorem preserves : Cert.preserves_Kernel34_Kernel34Ideal := by
  unfold Cert.preserves_Kernel34_Kernel34Ideal
  exact ⟨IdealRules.named_const.statement _ _ _ _ _ rfl, IdealRules.named_const.statement _ _ _ _ _ rfl⟩

theorem algebraic : Cert.algebraic_Kernel34Ideal_Reference34Ideal := by
  intro m g m' g' _ hagree
  refine ⟨_, _, _, (θ_run _ _ _).mono (fun r h => h) (run_blocks m g), ?_⟩
  refine (θ_run _ _ _).mono (fun r h c => ?_) (Cert.Reference34Ideal.Value.run (F := Ideal) m' g')
  obtain ⟨a0, a1, a2, a3⟩ := hagree c
  refine ⟨?_, ?_, ?_, (h c).2.2.2⟩
  · rw [(h c).1, finalD m c, Cert.Reference34Ideal.Read.val_main_v23_eq, a0, a1, a2, a3]
    exact resultD _ _ _ _
  · rw [(h c).2.1, finalM m c, Cert.Reference34Ideal.Read.val_main_v4_eq, a0, a2]
    exact resultM _ _ _ _
  · rw [(h c).2.2.1, finalV m c, Cert.Reference34Ideal.Read.val_main_v10_eq, a0, a3]
    exact resultV _ _ _ _

end Cert.Rows.Adam.WDown

end
-- ==== Proof.Rows.Adam.WIn.lean ====
/-
  The optimiser's step on the input projection's weights: whole call, element by element.
-/
module

public import proofs.«01_k».proof.Defs
public import proofs.«01_k».proof.Proof.Rows.Adam.Basic
public import proofs.«01_k».proof.Proof.Gen.Kernel35
public import proofs.«01_k».proof.Proof.Gen.Kernel35.Frame
public import proofs.«01_k».proof.Proof.Gen.Kernel35Ideal
public import proofs.«01_k».proof.Proof.Gen.Kernel35Ideal.Value
public import proofs.«01_k».proof.Proof.Gen.Reference35Ideal
public import proofs.«01_k».proof.Proof.Gen.Reference35Ideal.Run
public import proofs.«01_k».proof.Proof.Gen.Reference35Ideal.Read
public import Idealize.ShloMosaic.Lib.Pipeline.ValueKit
public import Idealize.ShloMosaic.Lib.Pipeline.CanonAppend

@[expose] public section

set_option maxRecDepth 16384

noncomputable section

namespace Cert.Rows.Adam.WIn

open Idealize.ShloMosaic Idealize.ShloMosaic.TcCoe Idealize.ShloMosaic.Tactic Idealize.SL.Sem Cert.Kernel35Ideal Cert.Kernel35Ideal.Gen Cert.Rows.Adam
open Idealize.ShloMosaic.Pipeline (Dat)

/-! ## One trip, and one grid point -/

theorem payM (g m : Vec Ideal S128x808 .f32) (y : S128x808.Idx) : k0_pay1 (F := Ideal) g m y = mom (m y) (g y) := rfl
theorem payV (g v : Vec Ideal S128x808 .f32) (y : S128x808.Idx) : k0_pay2 (F := Ideal) g v y = sec (v y) (g y) := rfl
theorem payD (g w m v : Vec Ideal S128x808 .f32) (y : S128x808.Idx) :
    k0_pay3 (F := Ideal) g w m v y = change (w y) (mom (m y) (g y)) (sec (v y) (g y)) := by
  have hm : Named.named (F := Ideal) (φ := .f32) κ "unbias_m" 0x3FC48605#32 = um := rfl
  have hv : Named.named (F := Ideal) (φ := .f32) κ "unbias_v" 0x42C8E6D3#32 = uv := rfl
  unfold change
  rw [← payM, ← payV, ← hm, ← hv]
  rfl

/-- A grid point's blocks of the results, from its blocks of the gradient, the weight and the two moments. -/
def blkD (x0 x1 x2 x3 : Vec Ideal S256x808 .f32) : Vec Ideal S256x808 .f32 := fun y => change (x1 y) (mom (x2 y) (x0 y)) (sec (x3 y) (x0 y))
def blkM (x0 x1 x2 x3 : Vec Ideal S256x808 .f32) : Vec Ideal S256x808 .f32 := fun y => mom (x2 y) (x0 y)
def blkV (x0 x1 x2 x3 : Vec Ideal S256x808 .f32) : Vec Ideal S256x808 .f32 := fun y => sec (x3 y) (x0 y)

section Block

variable (c : Dev nD) (i : grid0.Coords)
  (arg1 : Memref sig .tc .vmem S256x808 .f32) (harg1 : arg1.IsWhole)
  (arg2 : Memref sig .tc .vmem S256x808 .f32) (harg2 : arg2.IsWhole)
  (arg3 : Memref sig .tc .vmem S256x808 .f32) (harg3 : arg3.IsWhole)
  (arg4 : Memref sig .tc .vmem S256x808 .f32) (harg4 : arg4.IsWhole)
  (arg5 : Memref sig .tc .vmem S256x808 .f32) (harg5 : arg5.IsWhole)
  (arg6 : Memref sig .tc .vmem S256x808 .f32) (harg6 : arg6.IsWhole)
  (arg7 : Memref sig .tc .vmem S256x808 .f32) (harg7 : arg7.IsWhole)
  (x0 x1 x2 x3 : Vec Ideal S256x808 .f32)

theorem tripD (k : Fin k0_t1_loop.trips) :
    ∀ p ∈ (tripL_k0_t1 (F := Ideal) Variants.none c none i arg1 harg1 arg2 harg2 arg3 harg3 arg4 harg4 arg5 harg5 arg6 harg6 arg7 harg7
        (harg1.unread x0) (harg2.unread x1) (harg3.unread x2) (harg4.unread x3) k).1,
      ∀ x : p.1.shape.Idx, p.2 x = blkD x0 x1 x2 x3 (p.1.emb x) := by
  unfold tripL_k0_t1 trip_k0_t1
  dsimp only
  sl_unfold_words
  simp only [View.readAt_eq_ld, Memref.IsWhole.read_unread, List.mem_singleton, forall_eq]
  intro x
  exact payD _ _ _ _ x

theorem tripM (k : Fin k0_t1_loop.trips) :
    ∀ p ∈ (tripL_k0_t1 (F := Ideal) Variants.none c none i arg1 harg1 arg2 harg2 arg3 harg3 arg4 harg4 arg5 harg5 arg6 harg6 arg7 harg7
        (harg1.unread x0) (harg2.unread x1) (harg3.unread x2) (harg4.unread x3) k).2.1,
      ∀ x : p.1.shape.Idx, p.2 x = blkM x0 x1 x2 x3 (p.1.emb x) := by
  unfold tripL_k0_t1 trip_k0_t1
  dsimp only
  sl_unfold_words
  simp only [View.readAt_eq_ld, Memref.IsWhole.read_unread, List.mem_singleton, forall_eq]
  intro x
  exact payM _ _ x

theorem tripV (k : Fin k0_t1_loop.trips) :
    ∀ p ∈ (tripL_k0_t1 (F := Ideal) Variants.none c none i arg1 harg1 arg2 harg2 arg3 harg3 arg4 harg4 arg5 harg5 arg6 harg6 arg7 harg7
        (harg1.unread x0) (harg2.unread x1) (harg3.unread x2) (harg4.unread x3) k).2.2,
      ∀ x : p.1.shape.Idx, p.2 x = blkV x0 x1 x2 x3 (p.1.emb x) := by
  unfold tripL_k0_t1 trip_k0_t1
  dsimp only
  sl_unfold_words
  simp only [View.readAt_eq_ld, Memref.IsWhole.read_unread, List.mem_singleton, forall_eq]
  intro x
  exact payV _ _ x

/-- Every piece that the trips write is the block's own there. -/
theorem pieces (n : ℕ) :
    (∀ p ∈ (pb_k0_t1 (F := Ideal) Variants.none c none i arg1 harg1 arg2 harg2 arg3 harg3 arg4 harg4 arg5 harg5 arg6 harg6 arg7 harg7
        (harg1.unread x0) (harg2.unread x1) (harg3.unread x2) (harg4.unread x3) n).1,
      ∀ x : p.1.shape.Idx, p.2 x = blkD x0 x1 x2 x3 (p.1.emb x))
    ∧ (∀ p ∈ (pb_k0_t1 (F := Ideal) Variants.none c none i arg1 harg1 arg2 harg2 arg3 harg3 arg4 harg4 arg5 harg5 arg6 harg6 arg7 harg7
        (harg1.unread x0) (harg2.unread x1) (harg3.unread x2) (harg4.unread x3) n).2.1,
      ∀ x : p.1.shape.Idx, p.2 x = blkM x0 x1 x2 x3 (p.1.emb x))
    ∧ (∀ p ∈ (pb_k0_t1 (F := Ideal) Variants.none c none i arg1 harg1 arg2 harg2 arg3 harg3 arg4 harg4 arg5 harg5 arg6 harg6 arg7 harg7
        (harg1.unread x0) (harg2.unread x1) (harg3.unread x2) (harg4.unread x3) n).2.2,
      ∀ x : p.1.shape.Idx, p.2 x = blkV x0 x1 x2 x3 (p.1.emb x)) := by
  induction n with
  | zero =>
    rw [pb_k0_t1.eq_1]
    exact ⟨fun p hp => absurd hp List.not_mem_nil, fun p hp => absurd hp List.not_mem_nil, fun p hp => absurd hp List.not_mem_nil⟩
  | succ n ih =>
    rw [pb_k0_t1.eq_2]
    unfold pb_k0_t1Step
    split
    · exact ⟨fun p hp => (List.mem_append.1 hp).elim (tripD c i arg1 harg1 arg2 harg2 arg3 harg3 arg4 harg4 arg5 harg5 arg6 harg6 arg7 harg7 x0 x1 x2 x3 _ p) (ih.1 p),
        fun p hp => (List.mem_append.1 hp).elim (tripM c i arg1 harg1 arg2 harg2 arg3 harg3 arg4 harg4 arg5 harg5 arg6 harg6 arg7 harg7 x0 x1 x2 x3 _ p) (ih.2.1 p),
        fun p hp => (List.mem_append.1 hp).elim (tripV c i arg1 harg1 arg2 harg2 arg3 harg3 arg4 harg4 arg5 harg5 arg6 harg6 arg7 harg7 x0 x1 x2 x3 _ p) (ih.2.2 p)⟩
    · exact ih

theorem outD : out0_A_4 (F := Ideal) c i arg1 harg1 arg2 harg2 arg3 harg3 arg4 harg4 arg5 harg5 arg6 harg6 arg7 harg7 x0 x1 x2 x3 = blkD x0 x1 x2 x3 := by
  funext y
  have hc := cover0_A_4 (F := Ideal) c i arg1 harg1 arg2 harg2 arg3 harg3 arg4 harg4 arg5 harg5 arg6 harg6 arg7 harg7 x0 x1 x2 x3 y
  unfold out0_A_4
  rw [View.read_writes_junk_eq_canon]
  unfold kernelRun0_A at hc ⊢
  dsimp only at hc ⊢
  rw [← List.append_nil (pb_k0_t1 _ _ _ _ _ _ _ _ _ _ _ _ _ _ _ _ _ _ _ _ _ _ _).1]
  exact View.canon_append_of_pieces _ [] _ (pieces c i arg1 harg1 arg2 harg2 arg3 harg3 arg4 harg4 arg5 harg5 arg6 harg6 arg7 harg7 x0 x1 x2 x3 _).1 y hc

theorem outM : out0_A_5 (F := Ideal) c i arg1 harg1 arg2 harg2 arg3 harg3 arg4 harg4 arg5 harg5 arg6 harg6 arg7 harg7 x0 x1 x2 x3 = blkM x0 x1 x2 x3 := by
  funext y
  have hc := cover0_A_5 (F := Ideal) c i arg1 harg1 arg2 harg2 arg3 harg3 arg4 harg4 arg5 harg5 arg6 harg6 arg7 harg7 x0 x1 x2 x3 y
  unfold out0_A_5
  rw [View.read_writes_junk_eq_canon]
  unfold kernelRun0_A at hc ⊢
  dsimp only at hc ⊢
  rw [← List.append_nil (pb_k0_t1 _ _ _ _ _ _ _ _ _ _ _ _ _ _ _ _ _ _ _ _ _ _ _).2.1]
  exact View.canon_append_of_pieces _ [] _ (pieces c i arg1 harg1 arg2 harg2 arg3 harg3 arg4 harg4 arg5 harg5 arg6 harg6 arg7 harg7 x0 x1 x2 x3 _).2.1 y hc

theorem outV : out0_A_6 (F := Ideal) c i arg1 harg1 arg2 harg2 arg3 harg3 arg4 harg4 arg5 harg5 arg6 harg6 arg7 harg7 x0 x1 x2 x3 = blkV x0 x1 x2 x3 := by
  funext y
  have hc := cover0_A_6 (F := Ideal) c i arg1 harg1 arg2 harg2 arg3 harg3 arg4 harg4 arg5 harg5 arg6 harg6 arg7 harg7 x0 x1 x2 x3 y
  unfold out0_A_6
  rw [View.read_writes_junk_eq_canon]
  unfold kernelRun0_A at hc ⊢
  dsimp only at hc ⊢
  rw [← List.append_nil (pb_k0_t1 _ _ _ _ _ _ _ _ _ _ _ _ _ _ _ _ _ _ _ _ _ _ _).2.2]
  exact View.canon_append_of_pieces _ [] _ (pieces c i arg1 harg1 arg2 harg2 arg3 harg3 arg4 harg4 arg5 harg5 arg6 harg6 arg7 harg7 x0 x1 x2 x3 _).2.2 y hc

end Block

/-! ## Where the blocks lie -/

variable (m : (ℓ : Loc nD τ sig) → Buf (Elt Ideal) ℓ) (c : Dev nD)

/-- The gradient, the weight and the two moments. -/
abbrev A0 : S1024x808.Idx → EReal := m ((c : Thread nD τ).loc main_arg0)
abbrev A1 : S1024x808.Idx → EReal := m ((c : Thread nD τ).loc main_arg1)
abbrev A2 : S1024x808.Idx → EReal := m ((c : Thread nD τ).loc main_arg2)
abbrev A3 : S1024x808.Idx → EReal := m ((c : Thread nD τ).loc main_arg3)

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)

theorem lt_N (t : Fin cfg0.N) : t.val < 4 := lt_of_lt_of_eq t.isLt N_0

variable (t : Fin cfg0.N)

/-- A row of a point's block. -/
def pa (a : Fin 256) : Fin 1024 := ⟨256 * t.val + a.val, by have := lt_N t; omega⟩

theorem b0 (a : Fin 256) (e : Fin 808) : iblk m c 0 t (ix2 a e) = A0 m c (ix2 (pa t a) e) := by
  blk_ext [iblk, e0 t, pa]
theorem b1 (a : Fin 256) (e : Fin 808) : iblk m c 1 t (ix2 a e) = A1 m c (ix2 (pa t a) e) := by
  blk_ext [iblk, e1 t, pa]
theorem b2 (a : Fin 256) (e : Fin 808) : iblk m c 2 t (ix2 a e) = A2 m c (ix2 (pa t a) e) := by
  blk_ext [iblk, e2 t, pa]
theorem b3 (a : Fin 256) (e : Fin 808) : iblk m c 3 t (ix2 a e) = A3 m c (ix2 (pa t a) e) := by
  blk_ext [iblk, e3 t, pa]

/-! ## The results -/

def fullD (g w m v : S1024x808.Idx → EReal) : S1024x808.Idx → EReal := fun y => change (w y) (mom (m y) (g y)) (sec (v y) (g y))
def fullM (g w m v : S1024x808.Idx → EReal) : S1024x808.Idx → EReal := fun y => mom (m y) (g y)
def fullV (g w m v : S1024x808.Idx → EReal) : S1024x808.Idx → EReal := fun y => sec (v y) (g y)

theorem at_of (f : S1024x808.Idx → EReal) (p : Fin 1024) (j : Fin 808) (y : S1024x808.Idx) (h0 : (y 0).val = p.val) (h1 : (y 1).val = j.val) :
    f y = f (ix2 p j) :=
  congrArg f (funext fun a => Fin.ext (match a with
    | ⟨0, _⟩ => h0
    | ⟨1, _⟩ => h1))

theorem blkD_eq (a : Fin 256) (e : Fin 808) : (outsAt0 (F := Ideal) m c t).1 (ix2 a e) = fullD (A0 m c) (A1 m c) (A2 m c) (A3 m c) (ix2 (pa t a) e) := by
  unfold outsAt0
  dsimp only
  rw [outD]
  show change (iblk m c 1 t (ix2 a e)) (mom (iblk m c 2 t (ix2 a e)) (iblk m c 0 t (ix2 a e))) (sec (iblk m c 3 t (ix2 a e)) (iblk m c 0 t (ix2 a e))) = _
  rw [b0, b1, b2, b3]
  rfl

theorem finalD : (dats (F := Ideal) m 0 c).arrAt 4 cfg0.N = fullD (A0 m c) (A1 m c) (A2 m c) (A3 m c) := by
  refine (dats (F := Ideal) m 0 c).arrAt_eq_of_covers 4 _ (by decide +kernel) fun t hf y => ?_
  obtain ⟨a, e, rfl⟩ : ∃ (a : Fin 256) (e : Fin 808), y = ix2 a e := ⟨_, _, eq_ix2 (n0 := 256) (n1 := 808) y⟩
  rw [at_of (fullD _ _ _ _) (pa t a) e _ (by blk_simp [e4 t]; show _ = 256 * t.val + a.val; have := lt_N t; omega) (by blk_simp [e4 t])]
  refine Eq.trans ?_ (blkD_eq m c t a e)
  blk_simp
  rw [after0_4]

theorem blkM_eq (a : Fin 256) (e : Fin 808) : (outsAt0 (F := Ideal) m c t).2.1 (ix2 a e) = fullM (A0 m c) (A1 m c) (A2 m c) (A3 m c) (ix2 (pa t a) e) := by
  unfold outsAt0
  dsimp only
  rw [outM]
  show mom (iblk m c 2 t (ix2 a e)) (iblk m c 0 t (ix2 a e)) = _
  rw [b0, b2]
  rfl

theorem finalM : (dats (F := Ideal) m 0 c).arrAt 5 cfg0.N = fullM (A0 m c) (A1 m c) (A2 m c) (A3 m c) := by
  refine (dats (F := Ideal) m 0 c).arrAt_eq_of_covers 5 _ (by decide +kernel) fun t hf y => ?_
  obtain ⟨a, e, rfl⟩ : ∃ (a : Fin 256) (e : Fin 808), y = ix2 a e := ⟨_, _, eq_ix2 (n0 := 256) (n1 := 808) y⟩
  rw [at_of (fullM _ _ _ _) (pa t a) e _ (by blk_simp [e5 t]; show _ = 256 * t.val + a.val; have := lt_N t; omega) (by blk_simp [e5 t])]
  refine Eq.trans ?_ (blkM_eq m c t a e)
  blk_simp
  rw [after0_5]

theorem blkV_eq (a : Fin 256) (e : Fin 808) : (outsAt0 (F := Ideal) m c t).2.2 (ix2 a e) = fullV (A0 m c) (A1 m c) (A2 m c) (A3 m c) (ix2 (pa t a) e) := by
  unfold outsAt0
  dsimp only
  rw [outV]
  show sec (iblk m c 3 t (ix2 a e)) (iblk m c 0 t (ix2 a e)) = _
  rw [b0, b3]
  rfl

theorem finalV : (dats (F := Ideal) m 0 c).arrAt 6 cfg0.N = fullV (A0 m c) (A1 m c) (A2 m c) (A3 m c) := by
  refine (dats (F := Ideal) m 0 c).arrAt_eq_of_covers 6 _ (by decide +kernel) fun t hf y => ?_
  obtain ⟨a, e, rfl⟩ : ∃ (a : Fin 256) (e : Fin 808), y = ix2 a e := ⟨_, _, eq_ix2 (n0 := 256) (n1 := 808) y⟩
  rw [at_of (fullV _ _ _ _) (pa t a) e _ (by blk_simp [e6 t]; show _ = 256 * t.val + a.val; have := lt_N t; omega) (by blk_simp [e6 t])]
  refine Eq.trans ?_ (blkV_eq m c t a e)
  blk_simp
  rw [after0_6]

/-! ## The reference -/

section Ref

open Cert.Reference35Ideal Cert.Reference35Ideal.Read

variable (x0 x1 x2 x3 : Kernel35Ideal.S1024x808.Idx → EReal)

theorem resultM : val_main_v4 (F := Ideal) x0 x2 = fullM x0 x1 x2 x3 := by
  funext i
  rw [val_main_v4_apply, val_main_v1_apply, val_main_v0_apply, val_main_cst_apply, val_main_v3_apply, val_main_v2_apply, val_main_cst_0_apply]
  rfl

theorem resultV : val_main_v10 (F := Ideal) x0 x3 = fullV x0 x1 x2 x3 := by
  funext i
  rw [val_main_v10_apply, val_main_v6_apply, val_main_v5_apply, val_main_cst_1_apply, val_main_v9_apply, val_main_v8_apply, val_main_cst_2_apply, val_main_v7_apply]
  rfl

theorem resultD : val_main_v23 (F := Ideal) x0 x1 x2 x3 = fullD x0 x1 x2 x3 := by
  funext i
  unfold fullD change
  rw [← div_um, ← div_uv]
  rw [val_main_v23_apply, val_main_v22_apply, val_main_cst_7_apply, val_main_v21_apply, val_main_v20_apply, val_main_v19_apply, val_main_cst_6_apply,
    val_main_v18_apply, val_main_v17_apply, val_main_v16_apply, val_main_cst_5_apply, val_main_v15_apply, val_main_v14_apply, val_main_v13_apply, val_main_cst_4_apply,
    val_main_v12_apply, val_main_v11_apply, val_main_cst_3_apply, resultM x0 x1 x2 x3, resultV x0 x1 x2 x3]
  rfl

end Ref

theorem frame_p : Cert.quiescent_Kernel35 := fun m g _ => Cert.Kernel35.Gen.frame m g
theorem frame_pi : Cert.quiescent_Kernel35Ideal := fun m g _ => Cert.Kernel35Ideal.Gen.frame m g
theorem frame_ri : Cert.quiescent_Reference35Ideal := fun m g _ =>
  (θ_run Cert.Reference35Ideal.defs _ _).mono (fun r h => ⟨fun c => (h c).2.2.2, sem_eq_zero_of_no_sems (by decide) r.2⟩) (Cert.Reference35Ideal.Value.run (F := Ideal) m g)

/-- The two named constants. -/
theorem preserves : Cert.preserves_Kernel35_Kernel35Ideal := by
  unfold Cert.preserves_Kernel35_Kernel35Ideal
  exact ⟨IdealRules.named_const.statement _ _ _ _ _ rfl, IdealRules.named_const.statement _ _ _ _ _ rfl⟩

theorem algebraic : Cert.algebraic_Kernel35Ideal_Reference35Ideal := by
  intro m g m' g' _ hagree
  refine ⟨_, _, _, (θ_run _ _ _).mono (fun r h => h) (Cert.Kernel35Ideal.Value.run_blocks (F := Ideal) m g), ?_⟩
  refine (θ_run _ _ _).mono (fun r h c => ?_) (Cert.Reference35Ideal.Value.run (F := Ideal) m' g')
  obtain ⟨a0, a1, a2, a3⟩ := hagree c
  refine ⟨?_, ?_, ?_, (h c).2.2.2⟩
  · rw [(h c).1, finalD m c, Cert.Reference35Ideal.Read.val_main_v23_eq, a0, a1, a2, a3]
    exact resultD _ _ _ _
  · rw [(h c).2.1, finalM m c, Cert.Reference35Ideal.Read.val_main_v4_eq, a0, a2]
    exact resultM _ _ _ _
  · rw [(h c).2.2.1, finalV m c, Cert.Reference35Ideal.Read.val_main_v10_eq, a0, a3]
    exact resultV _ _ _ _

end Cert.Rows.Adam.WIn

end
-- ==== Proof.Rows.Adam.WOut.lean ====
/-
  The optimiser's step on the branches' last weights: whole call, element by element.
-/
module

public import proofs.«01_k».proof.Defs
public import proofs.«01_k».proof.Proof.Rows.Adam.Basic
public import proofs.«01_k».proof.Proof.Gen.Kernel36
public import proofs.«01_k».proof.Proof.Gen.Kernel36.Frame
public import proofs.«01_k».proof.Proof.Gen.Kernel36Ideal
public import proofs.«01_k».proof.Proof.Gen.Kernel36Ideal.Value
public import proofs.«01_k».proof.Proof.Gen.Reference36Ideal
public import proofs.«01_k».proof.Proof.Gen.Reference36Ideal.Run
public import proofs.«01_k».proof.Proof.Gen.Reference36Ideal.Read
public import Idealize.ShloMosaic.Lib.Pipeline.ValueKit
public import Idealize.ShloMosaic.Lib.Pipeline.CanonAppend

@[expose] public section

set_option maxRecDepth 16384

noncomputable section

namespace Cert.Rows.Adam.WOut

open Idealize.ShloMosaic Idealize.ShloMosaic.TcCoe Idealize.ShloMosaic.Tactic Idealize.SL.Sem Cert.Kernel36Ideal Cert.Kernel36Ideal.Gen Cert.Rows.Adam
open Idealize.ShloMosaic.Pipeline (Dat)

/-! ## One trip, and one grid point -/

theorem payM (g m : Vec Ideal S128x1024 .f32) (y : S128x1024.Idx) : k0_pay1 (F := Ideal) g m y = mom (m y) (g y) := rfl
theorem payV (g v : Vec Ideal S128x1024 .f32) (y : S128x1024.Idx) : k0_pay2 (F := Ideal) g v y = sec (v y) (g y) := rfl
theorem payD (g w m v : Vec Ideal S128x1024 .f32) (y : S128x1024.Idx) :
    k0_pay3 (F := Ideal) g w m v y = change (w y) (mom (m y) (g y)) (sec (v y) (g y)) := by
  have hm : Named.named (F := Ideal) (φ := .f32) κ "unbias_m" 0x3FC48605#32 = um := rfl
  have hv : Named.named (F := Ideal) (φ := .f32) κ "unbias_v" 0x42C8E6D3#32 = uv := rfl
  unfold change
  rw [← payM, ← payV, ← hm, ← hv]
  rfl

/-- A grid point's blocks of the results, from its blocks of the gradient, the weight and the two moments. -/
def blkD (x0 x1 x2 x3 : Vec Ideal S256x1024 .f32) : Vec Ideal S256x1024 .f32 := fun y => change (x1 y) (mom (x2 y) (x0 y)) (sec (x3 y) (x0 y))
def blkM (x0 x1 x2 x3 : Vec Ideal S256x1024 .f32) : Vec Ideal S256x1024 .f32 := fun y => mom (x2 y) (x0 y)
def blkV (x0 x1 x2 x3 : Vec Ideal S256x1024 .f32) : Vec Ideal S256x1024 .f32 := fun y => sec (x3 y) (x0 y)

section Block

variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S256x1024 .f32) (harg4 : arg4.IsWhole)
  (arg5 : Memref sig .tc .vmem S256x1024 .f32) (harg5 : arg5.IsWhole)
  (arg6 : Memref sig .tc .vmem S256x1024 .f32) (harg6 : arg6.IsWhole)
  (arg7 : Memref sig .tc .vmem S256x1024 .f32) (harg7 : arg7.IsWhole)
  (x0 x1 x2 x3 : Vec Ideal S256x1024 .f32)

theorem tripD (k : Fin k0_t1_loop.trips) :
    ∀ p ∈ (tripL_k0_t1 (F := Ideal) Variants.none c none i arg1 harg1 arg2 harg2 arg3 harg3 arg4 harg4 arg5 harg5 arg6 harg6 arg7 harg7
        (harg1.unread x0) (harg2.unread x1) (harg3.unread x2) (harg4.unread x3) k).1,
      ∀ x : p.1.shape.Idx, p.2 x = blkD x0 x1 x2 x3 (p.1.emb x) := by
  unfold tripL_k0_t1 trip_k0_t1
  dsimp only
  sl_unfold_words
  simp only [View.readAt_eq_ld, Memref.IsWhole.read_unread, List.mem_singleton, forall_eq]
  intro x
  exact payD _ _ _ _ x

theorem tripM (k : Fin k0_t1_loop.trips) :
    ∀ p ∈ (tripL_k0_t1 (F := Ideal) Variants.none c none i arg1 harg1 arg2 harg2 arg3 harg3 arg4 harg4 arg5 harg5 arg6 harg6 arg7 harg7
        (harg1.unread x0) (harg2.unread x1) (harg3.unread x2) (harg4.unread x3) k).2.1,
      ∀ x : p.1.shape.Idx, p.2 x = blkM x0 x1 x2 x3 (p.1.emb x) := by
  unfold tripL_k0_t1 trip_k0_t1
  dsimp only
  sl_unfold_words
  simp only [View.readAt_eq_ld, Memref.IsWhole.read_unread, List.mem_singleton, forall_eq]
  intro x
  exact payM _ _ x

theorem tripV (k : Fin k0_t1_loop.trips) :
    ∀ p ∈ (tripL_k0_t1 (F := Ideal) Variants.none c none i arg1 harg1 arg2 harg2 arg3 harg3 arg4 harg4 arg5 harg5 arg6 harg6 arg7 harg7
        (harg1.unread x0) (harg2.unread x1) (harg3.unread x2) (harg4.unread x3) k).2.2,
      ∀ x : p.1.shape.Idx, p.2 x = blkV x0 x1 x2 x3 (p.1.emb x) := by
  unfold tripL_k0_t1 trip_k0_t1
  dsimp only
  sl_unfold_words
  simp only [View.readAt_eq_ld, Memref.IsWhole.read_unread, List.mem_singleton, forall_eq]
  intro x
  exact payV _ _ x

/-- Every piece that the trips write is the block's own there. -/
theorem pieces (n : ℕ) :
    (∀ p ∈ (pb_k0_t1 (F := Ideal) Variants.none c none i arg1 harg1 arg2 harg2 arg3 harg3 arg4 harg4 arg5 harg5 arg6 harg6 arg7 harg7
        (harg1.unread x0) (harg2.unread x1) (harg3.unread x2) (harg4.unread x3) n).1,
      ∀ x : p.1.shape.Idx, p.2 x = blkD x0 x1 x2 x3 (p.1.emb x))
    ∧ (∀ p ∈ (pb_k0_t1 (F := Ideal) Variants.none c none i arg1 harg1 arg2 harg2 arg3 harg3 arg4 harg4 arg5 harg5 arg6 harg6 arg7 harg7
        (harg1.unread x0) (harg2.unread x1) (harg3.unread x2) (harg4.unread x3) n).2.1,
      ∀ x : p.1.shape.Idx, p.2 x = blkM x0 x1 x2 x3 (p.1.emb x))
    ∧ (∀ p ∈ (pb_k0_t1 (F := Ideal) Variants.none c none i arg1 harg1 arg2 harg2 arg3 harg3 arg4 harg4 arg5 harg5 arg6 harg6 arg7 harg7
        (harg1.unread x0) (harg2.unread x1) (harg3.unread x2) (harg4.unread x3) n).2.2,
      ∀ x : p.1.shape.Idx, p.2 x = blkV x0 x1 x2 x3 (p.1.emb x)) := by
  induction n with
  | zero =>
    rw [pb_k0_t1.eq_1]
    exact ⟨fun p hp => absurd hp List.not_mem_nil, fun p hp => absurd hp List.not_mem_nil, fun p hp => absurd hp List.not_mem_nil⟩
  | succ n ih =>
    rw [pb_k0_t1.eq_2]
    unfold pb_k0_t1Step
    split
    · exact ⟨fun p hp => (List.mem_append.1 hp).elim (tripD c i arg1 harg1 arg2 harg2 arg3 harg3 arg4 harg4 arg5 harg5 arg6 harg6 arg7 harg7 x0 x1 x2 x3 _ p) (ih.1 p),
        fun p hp => (List.mem_append.1 hp).elim (tripM c i arg1 harg1 arg2 harg2 arg3 harg3 arg4 harg4 arg5 harg5 arg6 harg6 arg7 harg7 x0 x1 x2 x3 _ p) (ih.2.1 p),
        fun p hp => (List.mem_append.1 hp).elim (tripV c i arg1 harg1 arg2 harg2 arg3 harg3 arg4 harg4 arg5 harg5 arg6 harg6 arg7 harg7 x0 x1 x2 x3 _ p) (ih.2.2 p)⟩
    · exact ih

theorem outD : out0_A_4 (F := Ideal) c i arg1 harg1 arg2 harg2 arg3 harg3 arg4 harg4 arg5 harg5 arg6 harg6 arg7 harg7 x0 x1 x2 x3 = blkD x0 x1 x2 x3 := by
  funext y
  have hc := cover0_A_4 (F := Ideal) c i arg1 harg1 arg2 harg2 arg3 harg3 arg4 harg4 arg5 harg5 arg6 harg6 arg7 harg7 x0 x1 x2 x3 y
  unfold out0_A_4
  rw [View.read_writes_junk_eq_canon]
  unfold kernelRun0_A at hc ⊢
  dsimp only at hc ⊢
  rw [← List.append_nil (pb_k0_t1 _ _ _ _ _ _ _ _ _ _ _ _ _ _ _ _ _ _ _ _ _ _ _).1]
  exact View.canon_append_of_pieces _ [] _ (pieces c i arg1 harg1 arg2 harg2 arg3 harg3 arg4 harg4 arg5 harg5 arg6 harg6 arg7 harg7 x0 x1 x2 x3 _).1 y hc

theorem outM : out0_A_5 (F := Ideal) c i arg1 harg1 arg2 harg2 arg3 harg3 arg4 harg4 arg5 harg5 arg6 harg6 arg7 harg7 x0 x1 x2 x3 = blkM x0 x1 x2 x3 := by
  funext y
  have hc := cover0_A_5 (F := Ideal) c i arg1 harg1 arg2 harg2 arg3 harg3 arg4 harg4 arg5 harg5 arg6 harg6 arg7 harg7 x0 x1 x2 x3 y
  unfold out0_A_5
  rw [View.read_writes_junk_eq_canon]
  unfold kernelRun0_A at hc ⊢
  dsimp only at hc ⊢
  rw [← List.append_nil (pb_k0_t1 _ _ _ _ _ _ _ _ _ _ _ _ _ _ _ _ _ _ _ _ _ _ _).2.1]
  exact View.canon_append_of_pieces _ [] _ (pieces c i arg1 harg1 arg2 harg2 arg3 harg3 arg4 harg4 arg5 harg5 arg6 harg6 arg7 harg7 x0 x1 x2 x3 _).2.1 y hc

theorem outV : out0_A_6 (F := Ideal) c i arg1 harg1 arg2 harg2 arg3 harg3 arg4 harg4 arg5 harg5 arg6 harg6 arg7 harg7 x0 x1 x2 x3 = blkV x0 x1 x2 x3 := by
  funext y
  have hc := cover0_A_6 (F := Ideal) c i arg1 harg1 arg2 harg2 arg3 harg3 arg4 harg4 arg5 harg5 arg6 harg6 arg7 harg7 x0 x1 x2 x3 y
  unfold out0_A_6
  rw [View.read_writes_junk_eq_canon]
  unfold kernelRun0_A at hc ⊢
  dsimp only at hc ⊢
  rw [← List.append_nil (pb_k0_t1 _ _ _ _ _ _ _ _ _ _ _ _ _ _ _ _ _ _ _ _ _ _ _).2.2]
  exact View.canon_append_of_pieces _ [] _ (pieces c i arg1 harg1 arg2 harg2 arg3 harg3 arg4 harg4 arg5 harg5 arg6 harg6 arg7 harg7 x0 x1 x2 x3 _).2.2 y hc

end Block

/-! ## Where the blocks lie -/

variable (m : (ℓ : Loc nD τ sig) → Buf (Elt Ideal) ℓ) (c : Dev nD)

/-- The gradient, the weight and the two moments. -/
abbrev A0 : S256x1024.Idx → EReal := m ((c : Thread nD τ).loc main_arg0)
abbrev A1 : S256x1024.Idx → EReal := m ((c : Thread nD τ).loc main_arg1)
abbrev A2 : S256x1024.Idx → EReal := m ((c : Thread nD τ).loc main_arg2)
abbrev A3 : S256x1024.Idx → EReal := m ((c : Thread nD τ).loc main_arg3)

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)

theorem lt_N (t : Fin cfg0.N) : t.val < 1 := lt_of_lt_of_eq t.isLt N_0

variable (t : Fin cfg0.N)

/-- A row of a point's block. -/
def pa (a : Fin 256) : Fin 256 := ⟨256 * t.val + a.val, by have := lt_N t; omega⟩

theorem b0 (a : Fin 256) (e : Fin 1024) : iblk m c 0 t (ix2 a e) = A0 m c (ix2 (pa t a) e) := by
  blk_ext [iblk, e0 t, pa]
theorem b1 (a : Fin 256) (e : Fin 1024) : iblk m c 1 t (ix2 a e) = A1 m c (ix2 (pa t a) e) := by
  blk_ext [iblk, e1 t, pa]
theorem b2 (a : Fin 256) (e : Fin 1024) : iblk m c 2 t (ix2 a e) = A2 m c (ix2 (pa t a) e) := by
  blk_ext [iblk, e2 t, pa]
theorem b3 (a : Fin 256) (e : Fin 1024) : iblk m c 3 t (ix2 a e) = A3 m c (ix2 (pa t a) e) := by
  blk_ext [iblk, e3 t, pa]

/-! ## The results -/

def fullD (g w m v : S256x1024.Idx → EReal) : S256x1024.Idx → EReal := fun y => change (w y) (mom (m y) (g y)) (sec (v y) (g y))
def fullM (g w m v : S256x1024.Idx → EReal) : S256x1024.Idx → EReal := fun y => mom (m y) (g y)
def fullV (g w m v : S256x1024.Idx → EReal) : S256x1024.Idx → EReal := fun y => sec (v y) (g y)

theorem at_of (f : S256x1024.Idx → EReal) (p : Fin 256) (j : Fin 1024) (y : S256x1024.Idx) (h0 : (y 0).val = p.val) (h1 : (y 1).val = j.val) :
    f y = f (ix2 p j) :=
  congrArg f (funext fun a => Fin.ext (match a with
    | ⟨0, _⟩ => h0
    | ⟨1, _⟩ => h1))

theorem blkD_eq (a : Fin 256) (e : Fin 1024) : (outsAt0 (F := Ideal) m c t).1 (ix2 a e) = fullD (A0 m c) (A1 m c) (A2 m c) (A3 m c) (ix2 (pa t a) e) := by
  unfold outsAt0
  dsimp only
  rw [outD]
  show change (iblk m c 1 t (ix2 a e)) (mom (iblk m c 2 t (ix2 a e)) (iblk m c 0 t (ix2 a e))) (sec (iblk m c 3 t (ix2 a e)) (iblk m c 0 t (ix2 a e))) = _
  rw [b0, b1, b2, b3]
  rfl

theorem finalD : (dats (F := Ideal) m 0 c).arrAt 4 cfg0.N = fullD (A0 m c) (A1 m c) (A2 m c) (A3 m c) := by
  refine (dats (F := Ideal) m 0 c).arrAt_eq_of_covers 4 _ (by decide +kernel) fun t hf y => ?_
  obtain ⟨a, e, rfl⟩ : ∃ (a : Fin 256) (e : Fin 1024), y = ix2 a e := ⟨_, _, eq_ix2 (n0 := 256) (n1 := 1024) y⟩
  rw [at_of (fullD _ _ _ _) (pa t a) e _ (by blk_simp [e4 t]; show _ = 256 * t.val + a.val; have := lt_N t; omega) (by blk_simp [e4 t])]
  refine Eq.trans ?_ (blkD_eq m c t a e)
  blk_simp
  rw [after0_4]

theorem blkM_eq (a : Fin 256) (e : Fin 1024) : (outsAt0 (F := Ideal) m c t).2.1 (ix2 a e) = fullM (A0 m c) (A1 m c) (A2 m c) (A3 m c) (ix2 (pa t a) e) := by
  unfold outsAt0
  dsimp only
  rw [outM]
  show mom (iblk m c 2 t (ix2 a e)) (iblk m c 0 t (ix2 a e)) = _
  rw [b0, b2]
  rfl

theorem finalM : (dats (F := Ideal) m 0 c).arrAt 5 cfg0.N = fullM (A0 m c) (A1 m c) (A2 m c) (A3 m c) := by
  refine (dats (F := Ideal) m 0 c).arrAt_eq_of_covers 5 _ (by decide +kernel) fun t hf y => ?_
  obtain ⟨a, e, rfl⟩ : ∃ (a : Fin 256) (e : Fin 1024), y = ix2 a e := ⟨_, _, eq_ix2 (n0 := 256) (n1 := 1024) y⟩
  rw [at_of (fullM _ _ _ _) (pa t a) e _ (by blk_simp [e5 t]; show _ = 256 * t.val + a.val; have := lt_N t; omega) (by blk_simp [e5 t])]
  refine Eq.trans ?_ (blkM_eq m c t a e)
  blk_simp
  rw [after0_5]

theorem blkV_eq (a : Fin 256) (e : Fin 1024) : (outsAt0 (F := Ideal) m c t).2.2 (ix2 a e) = fullV (A0 m c) (A1 m c) (A2 m c) (A3 m c) (ix2 (pa t a) e) := by
  unfold outsAt0
  dsimp only
  rw [outV]
  show sec (iblk m c 3 t (ix2 a e)) (iblk m c 0 t (ix2 a e)) = _
  rw [b0, b3]
  rfl

theorem finalV : (dats (F := Ideal) m 0 c).arrAt 6 cfg0.N = fullV (A0 m c) (A1 m c) (A2 m c) (A3 m c) := by
  refine (dats (F := Ideal) m 0 c).arrAt_eq_of_covers 6 _ (by decide +kernel) fun t hf y => ?_
  obtain ⟨a, e, rfl⟩ : ∃ (a : Fin 256) (e : Fin 1024), y = ix2 a e := ⟨_, _, eq_ix2 (n0 := 256) (n1 := 1024) y⟩
  rw [at_of (fullV _ _ _ _) (pa t a) e _ (by blk_simp [e6 t]; show _ = 256 * t.val + a.val; have := lt_N t; omega) (by blk_simp [e6 t])]
  refine Eq.trans ?_ (blkV_eq m c t a e)
  blk_simp
  rw [after0_6]

/-! ## The reference -/

section Ref

open Cert.Reference36Ideal Cert.Reference36Ideal.Read

variable (x0 x1 x2 x3 : Kernel36Ideal.S256x1024.Idx → EReal)

theorem resultM : val_main_v4 (F := Ideal) x0 x2 = fullM x0 x1 x2 x3 := by
  funext i
  rw [val_main_v4_apply, val_main_v1_apply, val_main_v0_apply, val_main_cst_apply, val_main_v3_apply, val_main_v2_apply, val_main_cst_0_apply]
  rfl

theorem resultV : val_main_v10 (F := Ideal) x0 x3 = fullV x0 x1 x2 x3 := by
  funext i
  rw [val_main_v10_apply, val_main_v6_apply, val_main_v5_apply, val_main_cst_1_apply, val_main_v9_apply, val_main_v8_apply, val_main_cst_2_apply, val_main_v7_apply]
  rfl

theorem resultD : val_main_v23 (F := Ideal) x0 x1 x2 x3 = fullD x0 x1 x2 x3 := by
  funext i
  unfold fullD change
  rw [← div_um, ← div_uv]
  rw [val_main_v23_apply, val_main_v22_apply, val_main_cst_7_apply, val_main_v21_apply, val_main_v20_apply, val_main_v19_apply, val_main_cst_6_apply,
    val_main_v18_apply, val_main_v17_apply, val_main_v16_apply, val_main_cst_5_apply, val_main_v15_apply, val_main_v14_apply, val_main_v13_apply, val_main_cst_4_apply,
    val_main_v12_apply, val_main_v11_apply, val_main_cst_3_apply, resultM x0 x1 x2 x3, resultV x0 x1 x2 x3]
  rfl

end Ref

theorem frame_p : Cert.quiescent_Kernel36 := fun m g _ => Cert.Kernel36.Gen.frame m g
theorem frame_pi : Cert.quiescent_Kernel36Ideal := fun m g _ => Cert.Kernel36Ideal.Gen.frame m g
theorem frame_ri : Cert.quiescent_Reference36Ideal := fun m g _ =>
  (θ_run Cert.Reference36Ideal.defs _ _).mono (fun r h => ⟨fun c => (h c).2.2.2, sem_eq_zero_of_no_sems (by decide) r.2⟩) (Cert.Reference36Ideal.Value.run (F := Ideal) m g)

/-- The two named constants. -/
theorem preserves : Cert.preserves_Kernel36_Kernel36Ideal := by
  unfold Cert.preserves_Kernel36_Kernel36Ideal
  exact ⟨IdealRules.named_const.statement _ _ _ _ _ rfl, IdealRules.named_const.statement _ _ _ _ _ rfl⟩

theorem algebraic : Cert.algebraic_Kernel36Ideal_Reference36Ideal := by
  intro m g m' g' _ hagree
  refine ⟨_, _, _, (θ_run _ _ _).mono (fun r h => h) (Cert.Kernel36Ideal.Value.run_blocks (F := Ideal) m g), ?_⟩
  refine (θ_run _ _ _).mono (fun r h c => ?_) (Cert.Reference36Ideal.Value.run (F := Ideal) m' g')
  obtain ⟨a0, a1, a2, a3⟩ := hagree c
  refine ⟨?_, ?_, ?_, (h c).2.2.2⟩
  · rw [(h c).1, finalD m c, Cert.Reference36Ideal.Read.val_main_v23_eq, a0, a1, a2, a3]
    exact resultD _ _ _ _
  · rw [(h c).2.1, finalM m c, Cert.Reference36Ideal.Read.val_main_v4_eq, a0, a2]
    exact resultM _ _ _ _
  · rw [(h c).2.2.1, finalV m c, Cert.Reference36Ideal.Read.val_main_v10_eq, a0, a3]
    exact resultV _ _ _ _

end Cert.Rows.Adam.WOut

end
-- ==== Proof.Rows.Adam.WOAttn.lean ====
/-
  The optimiser's step on the attention's output weights: whole call, element by element.
-/
module

public import proofs.«01_k».proof.Defs
public import proofs.«01_k».proof.Proof.Rows.Adam.Basic
public import proofs.«01_k».proof.Proof.Gen.Kernel37
public import proofs.«01_k».proof.Proof.Gen.Kernel37.Frame
public import proofs.«01_k».proof.Proof.Gen.Kernel37Ideal
public import proofs.«01_k».proof.Proof.Gen.Kernel37Ideal.Frame
public import proofs.«01_k».proof.Proof.Gen.Reference37Ideal
public import proofs.«01_k».proof.Proof.Gen.Reference37Ideal.Run
public import proofs.«01_k».proof.Proof.Gen.Reference37Ideal.Read
public import Idealize.ShloMosaic.Lib.Pipeline.ValueKit
public import Idealize.ShloMosaic.Lib.Pipeline.CanonAppend

@[expose] public section

set_option maxRecDepth 16384

noncomputable section

namespace Cert.Rows.Adam.WOAttn

open Idealize.ShloMosaic Idealize.ShloMosaic.TcCoe Idealize.ShloMosaic.Tactic Idealize.SL.Sem Cert.Kernel37Ideal Cert.Kernel37Ideal.Gen Cert.Rows.Adam
open Idealize.ShloMosaic.Pipeline (Dat)

/-! ## One grid point -/

theorem payM (g m : Vec Ideal S256x256 .f32) (y : S256x256.Idx) : k0_pay1 (F := Ideal) g m y = mom (m y) (g y) := rfl
theorem payV (g v : Vec Ideal S256x256 .f32) (y : S256x256.Idx) : k0_pay2 (F := Ideal) g v y = sec (v y) (g y) := rfl
theorem payD (g w m v : Vec Ideal S256x256 .f32) (y : S256x256.Idx) :
    k0_pay3 (F := Ideal) g w m v y = change (w y) (mom (m y) (g y)) (sec (v y) (g y)) := by
  have hm : Named.named (F := Ideal) (φ := .f32) κ "unbias_m" 0x3FC48605#32 = um := rfl
  have hv : Named.named (F := Ideal) (φ := .f32) κ "unbias_v" 0x42C8E6D3#32 = uv := rfl
  unfold change
  rw [← payM, ← payV, ← hm, ← hv]
  rfl

/-- A grid point's blocks of the results, from its blocks of the gradient, the weight and the two moments. -/
def blkD (x0 x1 x2 x3 : Vec Ideal S256x256 .f32) : Vec Ideal S256x256 .f32 := fun y => change (x1 y) (mom (x2 y) (x0 y)) (sec (x3 y) (x0 y))
def blkM (x0 x1 x2 x3 : Vec Ideal S256x256 .f32) : Vec Ideal S256x256 .f32 := fun y => mom (x2 y) (x0 y)
def blkV (x0 x1 x2 x3 : Vec Ideal S256x256 .f32) : Vec Ideal S256x256 .f32 := fun y => sec (x3 y) (x0 y)

section Block

variable (x0 x1 x2 x3 : Vec Ideal S256x256 .f32)

theorem outD : out0_4 (F := Ideal) x0 x1 x2 x3 = blkD x0 x1 x2 x3 := by
  funext y
  refine View.canon_append_of_pieces (blkD x0 x1 x2 x3) [] [⟨r0_0, _⟩] (fun p hp x => ?_) y (cover0_4 _ y)
  obtain rfl := List.mem_singleton.1 hp
  exact payD _ _ _ _ x

theorem outM : out0_5 (F := Ideal) x0 x1 x2 x3 = blkM x0 x1 x2 x3 := by
  funext y
  refine View.canon_append_of_pieces (blkM x0 x1 x2 x3) [] [⟨r0_0, _⟩] (fun p hp x => ?_) y (cover0_5 _ y)
  obtain rfl := List.mem_singleton.1 hp
  exact payM _ _ x

theorem outV : out0_6 (F := Ideal) x0 x1 x2 x3 = blkV x0 x1 x2 x3 := by
  funext y
  refine View.canon_append_of_pieces (blkV x0 x1 x2 x3) [] [⟨r0_0, _⟩] (fun p hp x => ?_) y (cover0_6 _ y)
  obtain rfl := List.mem_singleton.1 hp
  exact payV _ _ x

end Block

/-! ## Where the blocks lie -/

variable (m : (ℓ : Loc nD τ sig) → Buf (Elt Ideal) ℓ) (c : Dev nD)

/-- The gradient, the weight and the two moments. -/
abbrev A0 : S512x256.Idx → EReal := m ((c : Thread nD τ).loc main_arg0)
abbrev A1 : S512x256.Idx → EReal := m ((c : Thread nD τ).loc main_arg1)
abbrev A2 : S512x256.Idx → EReal := m ((c : Thread nD τ).loc main_arg2)
abbrev A3 : S512x256.Idx → EReal := m ((c : Thread nD τ).loc main_arg3)

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)

theorem lt_N (t : Fin cfg0.N) : t.val < 2 := lt_of_lt_of_eq t.isLt N_0

variable (t : Fin cfg0.N)

/-- A row of a point's block. -/
def pa (a : Fin 256) : Fin 512 := ⟨256 * t.val + a.val, by have := lt_N t; omega⟩

theorem b0 (a : Fin 256) (e : Fin 256) : iblk m c 0 t (ix2 a e) = A0 m c (ix2 (pa t a) e) := by
  blk_ext [iblk, e0 t, pa]
theorem b1 (a : Fin 256) (e : Fin 256) : iblk m c 1 t (ix2 a e) = A1 m c (ix2 (pa t a) e) := by
  blk_ext [iblk, e1 t, pa]
theorem b2 (a : Fin 256) (e : Fin 256) : iblk m c 2 t (ix2 a e) = A2 m c (ix2 (pa t a) e) := by
  blk_ext [iblk, e2 t, pa]
theorem b3 (a : Fin 256) (e : Fin 256) : iblk m c 3 t (ix2 a e) = A3 m c (ix2 (pa t a) e) := by
  blk_ext [iblk, e3 t, pa]

/-! ## The results -/

def fullD (g w m v : S512x256.Idx → EReal) : S512x256.Idx → EReal := fun y => change (w y) (mom (m y) (g y)) (sec (v y) (g y))
def fullM (g w m v : S512x256.Idx → EReal) : S512x256.Idx → EReal := fun y => mom (m y) (g y)
def fullV (g w m v : S512x256.Idx → EReal) : S512x256.Idx → EReal := fun y => sec (v y) (g y)

theorem at_of (f : S512x256.Idx → EReal) (p : Fin 512) (j : Fin 256) (y : S512x256.Idx) (h0 : (y 0).val = p.val) (h1 : (y 1).val = j.val) :
    f y = f (ix2 p j) :=
  congrArg f (funext fun a => Fin.ext (match a with
    | ⟨0, _⟩ => h0
    | ⟨1, _⟩ => h1))

theorem blkD_eq (a : Fin 256) (e : Fin 256) : out0_4 (F := Ideal) (iblk m c 0 t) (iblk m c 1 t) (iblk m c 2 t) (iblk m c 3 t) (ix2 a e) = fullD (A0 m c) (A1 m c) (A2 m c) (A3 m c) (ix2 (pa t a) e) := by
  rw [outD]
  show change (iblk m c 1 t (ix2 a e)) (mom (iblk m c 2 t (ix2 a e)) (iblk m c 0 t (ix2 a e))) (sec (iblk m c 3 t (ix2 a e)) (iblk m c 0 t (ix2 a e))) = _
  rw [b0, b1, b2, b3]
  rfl

theorem finalD : (dats (F := Ideal) m 0 c).arrAt 4 cfg0.N = fullD (A0 m c) (A1 m c) (A2 m c) (A3 m c) := by
  refine (dats (F := Ideal) m 0 c).arrAt_eq_of_covers 4 _ (by decide +kernel) fun t hf y => ?_
  obtain ⟨a, e, rfl⟩ : ∃ (a : Fin 256) (e : Fin 256), y = ix2 a e := ⟨_, _, eq_ix2 (n0 := 256) (n1 := 256) y⟩
  rw [at_of (fullD _ _ _ _) (pa t a) e _ (by blk_simp [e4 t]; show _ = 256 * t.val + a.val; have := lt_N t; omega) (by blk_simp [e4 t])]
  refine Eq.trans ?_ (blkD_eq m c t a e)
  blk_simp
  rw [after0_4]

theorem blkM_eq (a : Fin 256) (e : Fin 256) : out0_5 (F := Ideal) (iblk m c 0 t) (iblk m c 1 t) (iblk m c 2 t) (iblk m c 3 t) (ix2 a e) = fullM (A0 m c) (A1 m c) (A2 m c) (A3 m c) (ix2 (pa t a) e) := by
  rw [outM]
  show mom (iblk m c 2 t (ix2 a e)) (iblk m c 0 t (ix2 a e)) = _
  rw [b0, b2]
  rfl

theorem finalM : (dats (F := Ideal) m 0 c).arrAt 5 cfg0.N = fullM (A0 m c) (A1 m c) (A2 m c) (A3 m c) := by
  refine (dats (F := Ideal) m 0 c).arrAt_eq_of_covers 5 _ (by decide +kernel) fun t hf y => ?_
  obtain ⟨a, e, rfl⟩ : ∃ (a : Fin 256) (e : Fin 256), y = ix2 a e := ⟨_, _, eq_ix2 (n0 := 256) (n1 := 256) y⟩
  rw [at_of (fullM _ _ _ _) (pa t a) e _ (by blk_simp [e5 t]; show _ = 256 * t.val + a.val; have := lt_N t; omega) (by blk_simp [e5 t])]
  refine Eq.trans ?_ (blkM_eq m c t a e)
  blk_simp
  rw [after0_5]

theorem blkV_eq (a : Fin 256) (e : Fin 256) : out0_6 (F := Ideal) (iblk m c 0 t) (iblk m c 1 t) (iblk m c 2 t) (iblk m c 3 t) (ix2 a e) = fullV (A0 m c) (A1 m c) (A2 m c) (A3 m c) (ix2 (pa t a) e) := by
  rw [outV]
  show sec (iblk m c 3 t (ix2 a e)) (iblk m c 0 t (ix2 a e)) = _
  rw [b0, b3]
  rfl

theorem finalV : (dats (F := Ideal) m 0 c).arrAt 6 cfg0.N = fullV (A0 m c) (A1 m c) (A2 m c) (A3 m c) := by
  refine (dats (F := Ideal) m 0 c).arrAt_eq_of_covers 6 _ (by decide +kernel) fun t hf y => ?_
  obtain ⟨a, e, rfl⟩ : ∃ (a : Fin 256) (e : Fin 256), y = ix2 a e := ⟨_, _, eq_ix2 (n0 := 256) (n1 := 256) y⟩
  rw [at_of (fullV _ _ _ _) (pa t a) e _ (by blk_simp [e6 t]; show _ = 256 * t.val + a.val; have := lt_N t; omega) (by blk_simp [e6 t])]
  refine Eq.trans ?_ (blkV_eq m c t a e)
  blk_simp
  rw [after0_6]

/-! ## The reference -/

section Ref

open Cert.Reference37Ideal Cert.Reference37Ideal.Read

variable (x0 x1 x2 x3 : Kernel37Ideal.S512x256.Idx → EReal)

theorem resultM : val_main_v4 (F := Ideal) x0 x2 = fullM x0 x1 x2 x3 := by
  funext i
  rw [val_main_v4_apply, val_main_v1_apply, val_main_v0_apply, val_main_cst_apply, val_main_v3_apply, val_main_v2_apply, val_main_cst_0_apply]
  rfl

theorem resultV : val_main_v10 (F := Ideal) x0 x3 = fullV x0 x1 x2 x3 := by
  funext i
  rw [val_main_v10_apply, val_main_v6_apply, val_main_v5_apply, val_main_cst_1_apply, val_main_v9_apply, val_main_v8_apply, val_main_cst_2_apply, val_main_v7_apply]
  rfl

theorem resultD : val_main_v23 (F := Ideal) x0 x1 x2 x3 = fullD x0 x1 x2 x3 := by
  funext i
  unfold fullD change
  rw [← div_um, ← div_uv]
  rw [val_main_v23_apply, val_main_v22_apply, val_main_cst_7_apply, val_main_v21_apply, val_main_v20_apply, val_main_v19_apply, val_main_cst_6_apply,
    val_main_v18_apply, val_main_v17_apply, val_main_v16_apply, val_main_cst_5_apply, val_main_v15_apply, val_main_v14_apply, val_main_v13_apply, val_main_cst_4_apply,
    val_main_v12_apply, val_main_v11_apply, val_main_cst_3_apply, resultM x0 x1 x2 x3, resultV x0 x1 x2 x3]
  rfl

end Ref

/-- The call's run: each result is the array that its grid points leave, and the arguments are as they were. -/
theorem run_blocks (ρ : Dev nD → PrngReg) : θ_run defs (onTc (τ := τ) (main (F := Ideal))) ⟨m, fun _ => 0, ρ⟩ fun r => ∀ c : Dev nD,
      r.2.mem ((c : Thread nD τ).loc main_v0_0) = (dats (F := Ideal) m 0 c).arrAt 4 cfg0.N
      ∧ r.2.mem ((c : Thread nD τ).loc main_v0_1) = (dats (F := Ideal) m 0 c).arrAt 5 cfg0.N
      ∧ r.2.mem ((c : Thread nD τ).loc main_v0_2) = (dats (F := Ideal) m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4, (h c).1 5, (h c).1 6,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

theorem frame_p : Cert.quiescent_Kernel37 := fun m g _ => Cert.Kernel37.Gen.frame m g
theorem frame_pi : Cert.quiescent_Kernel37Ideal := fun m g _ => Cert.Kernel37Ideal.Gen.frame m g
theorem frame_ri : Cert.quiescent_Reference37Ideal := fun m g _ =>
  (θ_run Cert.Reference37Ideal.defs _ _).mono (fun r h => ⟨fun c => (h c).2.2.2, sem_eq_zero_of_no_sems (by decide) r.2⟩) (Cert.Reference37Ideal.Value.run (F := Ideal) m g)

/-- The two named constants. -/
theorem preserves : Cert.preserves_Kernel37_Kernel37Ideal := by
  unfold Cert.preserves_Kernel37_Kernel37Ideal
  exact ⟨IdealRules.named_const.statement _ _ _ _ _ rfl, IdealRules.named_const.statement _ _ _ _ _ rfl⟩

theorem algebraic : Cert.algebraic_Kernel37Ideal_Reference37Ideal := by
  intro m g m' g' _ hagree
  refine ⟨_, _, _, (θ_run _ _ _).mono (fun r h => h) (run_blocks m g), ?_⟩
  refine (θ_run _ _ _).mono (fun r h c => ?_) (Cert.Reference37Ideal.Value.run (F := Ideal) m' g')
  obtain ⟨a0, a1, a2, a3⟩ := hagree c
  refine ⟨?_, ?_, ?_, (h c).2.2.2⟩
  · rw [(h c).1, finalD m c, Cert.Reference37Ideal.Read.val_main_v23_eq, a0, a1, a2, a3]
    exact resultD _ _ _ _
  · rw [(h c).2.1, finalM m c, Cert.Reference37Ideal.Read.val_main_v4_eq, a0, a2]
    exact resultM _ _ _ _
  · rw [(h c).2.2.1, finalV m c, Cert.Reference37Ideal.Read.val_main_v10_eq, a0, a3]
    exact resultV _ _ _ _

end Cert.Rows.Adam.WOAttn

end
-- ==== Proof.Rows.Adam.WGlu.lean ====
/-
  The optimiser's step on the state-space branch's gated weights: whole call, element by element.
-/
module

public import proofs.«01_k».proof.Defs
public import proofs.«01_k».proof.Proof.Rows.Adam.Basic
public import proofs.«01_k».proof.Proof.Gen.Kernel38
public import proofs.«01_k».proof.Proof.Gen.Kernel38.Frame
public import proofs.«01_k».proof.Proof.Gen.Kernel38Ideal
public import proofs.«01_k».proof.Proof.Gen.Kernel38Ideal.Frame
public import proofs.«01_k».proof.Proof.Gen.Reference38Ideal
public import proofs.«01_k».proof.Proof.Gen.Reference38Ideal.Run
public import proofs.«01_k».proof.Proof.Gen.Reference38Ideal.Read
public import Idealize.ShloMosaic.Lib.Pipeline.ValueKit
public import Idealize.ShloMosaic.Lib.Pipeline.CanonAppend

@[expose] public section

set_option maxRecDepth 16384

noncomputable section

namespace Cert.Rows.Adam.WGlu

open Idealize.ShloMosaic Idealize.ShloMosaic.TcCoe Idealize.ShloMosaic.Tactic Idealize.SL.Sem Cert.Kernel38Ideal Cert.Kernel38Ideal.Gen Cert.Rows.Adam
open Idealize.ShloMosaic.Pipeline (Dat)

/-! ## One grid point -/

theorem payM (g m : Vec Ideal S256x512 .f32) (y : S256x512.Idx) : k0_pay1 (F := Ideal) g m y = mom (m y) (g y) := rfl
theorem payV (g v : Vec Ideal S256x512 .f32) (y : S256x512.Idx) : k0_pay2 (F := Ideal) g v y = sec (v y) (g y) := rfl
theorem payD (g w m v : Vec Ideal S256x512 .f32) (y : S256x512.Idx) :
    k0_pay3 (F := Ideal) g w m v y = change (w y) (mom (m y) (g y)) (sec (v y) (g y)) := by
  have hm : Named.named (F := Ideal) (φ := .f32) κ "unbias_m" 0x3FC48605#32 = um := rfl
  have hv : Named.named (F := Ideal) (φ := .f32) κ "unbias_v" 0x42C8E6D3#32 = uv := rfl
  unfold change
  rw [← payM, ← payV, ← hm, ← hv]
  rfl

/-- A grid point's blocks of the results, from its blocks of the gradient, the weight and the two moments. -/
def blkD (x0 x1 x2 x3 : Vec Ideal S256x512 .f32) : Vec Ideal S256x512 .f32 := fun y => change (x1 y) (mom (x2 y) (x0 y)) (sec (x3 y) (x0 y))
def blkM (x0 x1 x2 x3 : Vec Ideal S256x512 .f32) : Vec Ideal S256x512 .f32 := fun y => mom (x2 y) (x0 y)
def blkV (x0 x1 x2 x3 : Vec Ideal S256x512 .f32) : Vec Ideal S256x512 .f32 := fun y => sec (x3 y) (x0 y)

section Block

variable (x0 x1 x2 x3 : Vec Ideal S256x512 .f32)

theorem outD : out0_4 (F := Ideal) x0 x1 x2 x3 = blkD x0 x1 x2 x3 := by
  funext y
  refine View.canon_append_of_pieces (blkD x0 x1 x2 x3) [] [⟨r0_0, _⟩] (fun p hp x => ?_) y (cover0_4 _ y)
  obtain rfl := List.mem_singleton.1 hp
  exact payD _ _ _ _ x

theorem outM : out0_5 (F := Ideal) x0 x1 x2 x3 = blkM x0 x1 x2 x3 := by
  funext y
  refine View.canon_append_of_pieces (blkM x0 x1 x2 x3) [] [⟨r0_0, _⟩] (fun p hp x => ?_) y (cover0_5 _ y)
  obtain rfl := List.mem_singleton.1 hp
  exact payM _ _ x

theorem outV : out0_6 (F := Ideal) x0 x1 x2 x3 = blkV x0 x1 x2 x3 := by
  funext y
  refine View.canon_append_of_pieces (blkV x0 x1 x2 x3) [] [⟨r0_0, _⟩] (fun p hp x => ?_) y (cover0_6 _ y)
  obtain rfl := List.mem_singleton.1 hp
  exact payV _ _ x

end Block

/-! ## Where the blocks lie -/

variable (m : (ℓ : Loc nD τ sig) → Buf (Elt Ideal) ℓ) (c : Dev nD)

/-- The gradient, the weight and the two moments. -/
abbrev A0 : S512x512.Idx → EReal := m ((c : Thread nD τ).loc main_arg0)
abbrev A1 : S512x512.Idx → EReal := m ((c : Thread nD τ).loc main_arg1)
abbrev A2 : S512x512.Idx → EReal := m ((c : Thread nD τ).loc main_arg2)
abbrev A3 : S512x512.Idx → EReal := m ((c : Thread nD τ).loc main_arg3)

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)

theorem lt_N (t : Fin cfg0.N) : t.val < 2 := lt_of_lt_of_eq t.isLt N_0

variable (t : Fin cfg0.N)

/-- A row of a point's block. -/
def pa (a : Fin 256) : Fin 512 := ⟨256 * t.val + a.val, by have := lt_N t; omega⟩

theorem b0 (a : Fin 256) (e : Fin 512) : iblk m c 0 t (ix2 a e) = A0 m c (ix2 (pa t a) e) := by
  blk_ext [iblk, e0 t, pa]
theorem b1 (a : Fin 256) (e : Fin 512) : iblk m c 1 t (ix2 a e) = A1 m c (ix2 (pa t a) e) := by
  blk_ext [iblk, e1 t, pa]
theorem b2 (a : Fin 256) (e : Fin 512) : iblk m c 2 t (ix2 a e) = A2 m c (ix2 (pa t a) e) := by
  blk_ext [iblk, e2 t, pa]
theorem b3 (a : Fin 256) (e : Fin 512) : iblk m c 3 t (ix2 a e) = A3 m c (ix2 (pa t a) e) := by
  blk_ext [iblk, e3 t, pa]

/-! ## The results -/

def fullD (g w m v : S512x512.Idx → EReal) : S512x512.Idx → EReal := fun y => change (w y) (mom (m y) (g y)) (sec (v y) (g y))
def fullM (g w m v : S512x512.Idx → EReal) : S512x512.Idx → EReal := fun y => mom (m y) (g y)
def fullV (g w m v : S512x512.Idx → EReal) : S512x512.Idx → EReal := fun y => sec (v y) (g y)

theorem at_of (f : S512x512.Idx → EReal) (p : Fin 512) (j : Fin 512) (y : S512x512.Idx) (h0 : (y 0).val = p.val) (h1 : (y 1).val = j.val) :
    f y = f (ix2 p j) :=
  congrArg f (funext fun a => Fin.ext (match a with
    | ⟨0, _⟩ => h0
    | ⟨1, _⟩ => h1))

theorem blkD_eq (a : Fin 256) (e : Fin 512) : out0_4 (F := Ideal) (iblk m c 0 t) (iblk m c 1 t) (iblk m c 2 t) (iblk m c 3 t) (ix2 a e) = fullD (A0 m c) (A1 m c) (A2 m c) (A3 m c) (ix2 (pa t a) e) := by
  rw [outD]
  show change (iblk m c 1 t (ix2 a e)) (mom (iblk m c 2 t (ix2 a e)) (iblk m c 0 t (ix2 a e))) (sec (iblk m c 3 t (ix2 a e)) (iblk m c 0 t (ix2 a e))) = _
  rw [b0, b1, b2, b3]
  rfl

theorem finalD : (dats (F := Ideal) m 0 c).arrAt 4 cfg0.N = fullD (A0 m c) (A1 m c) (A2 m c) (A3 m c) := by
  refine (dats (F := Ideal) m 0 c).arrAt_eq_of_covers 4 _ (by decide +kernel) fun t hf y => ?_
  obtain ⟨a, e, rfl⟩ : ∃ (a : Fin 256) (e : Fin 512), y = ix2 a e := ⟨_, _, eq_ix2 (n0 := 256) (n1 := 512) y⟩
  rw [at_of (fullD _ _ _ _) (pa t a) e _ (by blk_simp [e4 t]; show _ = 256 * t.val + a.val; have := lt_N t; omega) (by blk_simp [e4 t])]
  refine Eq.trans ?_ (blkD_eq m c t a e)
  blk_simp
  rw [after0_4]

theorem blkM_eq (a : Fin 256) (e : Fin 512) : out0_5 (F := Ideal) (iblk m c 0 t) (iblk m c 1 t) (iblk m c 2 t) (iblk m c 3 t) (ix2 a e) = fullM (A0 m c) (A1 m c) (A2 m c) (A3 m c) (ix2 (pa t a) e) := by
  rw [outM]
  show mom (iblk m c 2 t (ix2 a e)) (iblk m c 0 t (ix2 a e)) = _
  rw [b0, b2]
  rfl

theorem finalM : (dats (F := Ideal) m 0 c).arrAt 5 cfg0.N = fullM (A0 m c) (A1 m c) (A2 m c) (A3 m c) := by
  refine (dats (F := Ideal) m 0 c).arrAt_eq_of_covers 5 _ (by decide +kernel) fun t hf y => ?_
  obtain ⟨a, e, rfl⟩ : ∃ (a : Fin 256) (e : Fin 512), y = ix2 a e := ⟨_, _, eq_ix2 (n0 := 256) (n1 := 512) y⟩
  rw [at_of (fullM _ _ _ _) (pa t a) e _ (by blk_simp [e5 t]; show _ = 256 * t.val + a.val; have := lt_N t; omega) (by blk_simp [e5 t])]
  refine Eq.trans ?_ (blkM_eq m c t a e)
  blk_simp
  rw [after0_5]

theorem blkV_eq (a : Fin 256) (e : Fin 512) : out0_6 (F := Ideal) (iblk m c 0 t) (iblk m c 1 t) (iblk m c 2 t) (iblk m c 3 t) (ix2 a e) = fullV (A0 m c) (A1 m c) (A2 m c) (A3 m c) (ix2 (pa t a) e) := by
  rw [outV]
  show sec (iblk m c 3 t (ix2 a e)) (iblk m c 0 t (ix2 a e)) = _
  rw [b0, b3]
  rfl

theorem finalV : (dats (F := Ideal) m 0 c).arrAt 6 cfg0.N = fullV (A0 m c) (A1 m c) (A2 m c) (A3 m c) := by
  refine (dats (F := Ideal) m 0 c).arrAt_eq_of_covers 6 _ (by decide +kernel) fun t hf y => ?_
  obtain ⟨a, e, rfl⟩ : ∃ (a : Fin 256) (e : Fin 512), y = ix2 a e := ⟨_, _, eq_ix2 (n0 := 256) (n1 := 512) y⟩
  rw [at_of (fullV _ _ _ _) (pa t a) e _ (by blk_simp [e6 t]; show _ = 256 * t.val + a.val; have := lt_N t; omega) (by blk_simp [e6 t])]
  refine Eq.trans ?_ (blkV_eq m c t a e)
  blk_simp
  rw [after0_6]

/-! ## The reference -/

section Ref

open Cert.Reference38Ideal Cert.Reference38Ideal.Read

variable (x0 x1 x2 x3 : Kernel38Ideal.S512x512.Idx → EReal)

theorem resultM : val_main_v4 (F := Ideal) x0 x2 = fullM x0 x1 x2 x3 := by
  funext i
  rw [val_main_v4_apply, val_main_v1_apply, val_main_v0_apply, val_main_cst_apply, val_main_v3_apply, val_main_v2_apply, val_main_cst_0_apply]
  rfl

theorem resultV : val_main_v10 (F := Ideal) x0 x3 = fullV x0 x1 x2 x3 := by
  funext i
  rw [val_main_v10_apply, val_main_v6_apply, val_main_v5_apply, val_main_cst_1_apply, val_main_v9_apply, val_main_v8_apply, val_main_cst_2_apply, val_main_v7_apply]
  rfl

theorem resultD : val_main_v23 (F := Ideal) x0 x1 x2 x3 = fullD x0 x1 x2 x3 := by
  funext i
  unfold fullD change
  rw [← div_um, ← div_uv]
  rw [val_main_v23_apply, val_main_v22_apply, val_main_cst_7_apply, val_main_v21_apply, val_main_v20_apply, val_main_v19_apply, val_main_cst_6_apply,
    val_main_v18_apply, val_main_v17_apply, val_main_v16_apply, val_main_cst_5_apply, val_main_v15_apply, val_main_v14_apply, val_main_v13_apply, val_main_cst_4_apply,
    val_main_v12_apply, val_main_v11_apply, val_main_cst_3_apply, resultM x0 x1 x2 x3, resultV x0 x1 x2 x3]
  rfl

end Ref

/-- The call's run: each result is the array that its grid points leave, and the arguments are as they were. -/
theorem run_blocks (ρ : Dev nD → PrngReg) : θ_run defs (onTc (τ := τ) (main (F := Ideal))) ⟨m, fun _ => 0, ρ⟩ fun r => ∀ c : Dev nD,
      r.2.mem ((c : Thread nD τ).loc main_v0_0) = (dats (F := Ideal) m 0 c).arrAt 4 cfg0.N
      ∧ r.2.mem ((c : Thread nD τ).loc main_v0_1) = (dats (F := Ideal) m 0 c).arrAt 5 cfg0.N
      ∧ r.2.mem ((c : Thread nD τ).loc main_v0_2) = (dats (F := Ideal) m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4, (h c).1 5, (h c).1 6,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

theorem frame_p : Cert.quiescent_Kernel38 := fun m g _ => Cert.Kernel38.Gen.frame m g
theorem frame_pi : Cert.quiescent_Kernel38Ideal := fun m g _ => Cert.Kernel38Ideal.Gen.frame m g
theorem frame_ri : Cert.quiescent_Reference38Ideal := fun m g _ =>
  (θ_run Cert.Reference38Ideal.defs _ _).mono (fun r h => ⟨fun c => (h c).2.2.2, sem_eq_zero_of_no_sems (by decide) r.2⟩) (Cert.Reference38Ideal.Value.run (F := Ideal) m g)

/-- The two named constants. -/
theorem preserves : Cert.preserves_Kernel38_Kernel38Ideal := by
  unfold Cert.preserves_Kernel38_Kernel38Ideal
  exact ⟨IdealRules.named_const.statement _ _ _ _ _ rfl, IdealRules.named_const.statement _ _ _ _ _ rfl⟩

theorem algebraic : Cert.algebraic_Kernel38Ideal_Reference38Ideal := by
  intro m g m' g' _ hagree
  refine ⟨_, _, _, (θ_run _ _ _).mono (fun r h => h) (run_blocks m g), ?_⟩
  refine (θ_run _ _ _).mono (fun r h c => ?_) (Cert.Reference38Ideal.Value.run (F := Ideal) m' g')
  obtain ⟨a0, a1, a2, a3⟩ := hagree c
  refine ⟨?_, ?_, ?_, (h c).2.2.2⟩
  · rw [(h c).1, finalD m c, Cert.Reference38Ideal.Read.val_main_v23_eq, a0, a1, a2, a3]
    exact resultD _ _ _ _
  · rw [(h c).2.1, finalM m c, Cert.Reference38Ideal.Read.val_main_v4_eq, a0, a2]
    exact resultM _ _ _ _
  · rw [(h c).2.2.1, finalV m c, Cert.Reference38Ideal.Read.val_main_v10_eq, a0, a3]
    exact resultV _ _ _ _

end Cert.Rows.Adam.WGlu

end
-- ==== Proof.Rows.Adam.WUq.lean ====
/-
  The optimiser's step on the queries' weights: whole call, element by element.
-/
module

public import proofs.«01_k».proof.Defs
public import proofs.«01_k».proof.Proof.Rows.Adam.Basic
public import proofs.«01_k».proof.Proof.Gen.Kernel39
public import proofs.«01_k».proof.Proof.Gen.Kernel39.Frame
public import proofs.«01_k».proof.Proof.Gen.Kernel39Ideal
public import proofs.«01_k».proof.Proof.Gen.Kernel39Ideal.Frame
public import proofs.«01_k».proof.Proof.Gen.Reference39Ideal
public import proofs.«01_k».proof.Proof.Gen.Reference39Ideal.Run
public import proofs.«01_k».proof.Proof.Gen.Reference39Ideal.Read
public import Idealize.ShloMosaic.Lib.Pipeline.ValueKit
public import Idealize.ShloMosaic.Lib.Pipeline.CanonAppend

@[expose] public section

set_option maxRecDepth 16384

noncomputable section

namespace Cert.Rows.Adam.WUq

open Idealize.ShloMosaic Idealize.ShloMosaic.TcCoe Idealize.ShloMosaic.Tactic Idealize.SL.Sem Cert.Kernel39Ideal Cert.Kernel39Ideal.Gen Cert.Rows.Adam
open Idealize.ShloMosaic.Pipeline (Dat)

/-! ## One grid point -/

theorem payM (g m : Vec Ideal S128x192 .f32) (y : S128x192.Idx) : k0_pay1 (F := Ideal) g m y = mom (m y) (g y) := rfl
theorem payV (g v : Vec Ideal S128x192 .f32) (y : S128x192.Idx) : k0_pay2 (F := Ideal) g v y = sec (v y) (g y) := rfl
theorem payD (g w m v : Vec Ideal S128x192 .f32) (y : S128x192.Idx) :
    k0_pay3 (F := Ideal) g w m v y = change (w y) (mom (m y) (g y)) (sec (v y) (g y)) := by
  have hm : Named.named (F := Ideal) (φ := .f32) κ "unbias_m" 0x3FC48605#32 = um := rfl
  have hv : Named.named (F := Ideal) (φ := .f32) κ "unbias_v" 0x42C8E6D3#32 = uv := rfl
  unfold change
  rw [← payM, ← payV, ← hm, ← hv]
  rfl

/-- A grid point's blocks of the results, from its blocks of the gradient, the weight and the two moments. -/
def blkD (x0 x1 x2 x3 : Vec Ideal S128x192 .f32) : Vec Ideal S128x192 .f32 := fun y => change (x1 y) (mom (x2 y) (x0 y)) (sec (x3 y) (x0 y))
def blkM (x0 x1 x2 x3 : Vec Ideal S128x192 .f32) : Vec Ideal S128x192 .f32 := fun y => mom (x2 y) (x0 y)
def blkV (x0 x1 x2 x3 : Vec Ideal S128x192 .f32) : Vec Ideal S128x192 .f32 := fun y => sec (x3 y) (x0 y)

section Block

variable (x0 x1 x2 x3 : Vec Ideal S128x192 .f32)

theorem outD : out0_4 (F := Ideal) x0 x1 x2 x3 = blkD x0 x1 x2 x3 := by
  funext y
  refine View.canon_append_of_pieces (blkD x0 x1 x2 x3) [] [⟨r0_0, _⟩] (fun p hp x => ?_) y (cover0_4 _ y)
  obtain rfl := List.mem_singleton.1 hp
  exact payD _ _ _ _ x

theorem outM : out0_5 (F := Ideal) x0 x1 x2 x3 = blkM x0 x1 x2 x3 := by
  funext y
  refine View.canon_append_of_pieces (blkM x0 x1 x2 x3) [] [⟨r0_0, _⟩] (fun p hp x => ?_) y (cover0_5 _ y)
  obtain rfl := List.mem_singleton.1 hp
  exact payM _ _ x

theorem outV : out0_6 (F := Ideal) x0 x1 x2 x3 = blkV x0 x1 x2 x3 := by
  funext y
  refine View.canon_append_of_pieces (blkV x0 x1 x2 x3) [] [⟨r0_0, _⟩] (fun p hp x => ?_) y (cover0_6 _ y)
  obtain rfl := List.mem_singleton.1 hp
  exact payV _ _ x

end Block

/-! ## Where the blocks lie -/

variable (m : (ℓ : Loc nD τ sig) → Buf (Elt Ideal) ℓ) (c : Dev nD)

/-- The gradient, the weight and the two moments. -/
abbrev A0 : S384x192.Idx → EReal := m ((c : Thread nD τ).loc main_arg0)
abbrev A1 : S384x192.Idx → EReal := m ((c : Thread nD τ).loc main_arg1)
abbrev A2 : S384x192.Idx → EReal := m ((c : Thread nD τ).loc main_arg2)
abbrev A3 : S384x192.Idx → EReal := m ((c : Thread nD τ).loc main_arg3)

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)

theorem lt_N (t : Fin cfg0.N) : t.val < 3 := lt_of_lt_of_eq t.isLt N_0

variable (t : Fin cfg0.N)

/-- A row of a point's block. -/
def pa (a : Fin 128) : Fin 384 := ⟨128 * t.val + a.val, by have := lt_N t; omega⟩

theorem b0 (a : Fin 128) (e : Fin 192) : iblk m c 0 t (ix2 a e) = A0 m c (ix2 (pa t a) e) := by
  blk_ext [iblk, e0 t, pa]
theorem b1 (a : Fin 128) (e : Fin 192) : iblk m c 1 t (ix2 a e) = A1 m c (ix2 (pa t a) e) := by
  blk_ext [iblk, e1 t, pa]
theorem b2 (a : Fin 128) (e : Fin 192) : iblk m c 2 t (ix2 a e) = A2 m c (ix2 (pa t a) e) := by
  blk_ext [iblk, e2 t, pa]
theorem b3 (a : Fin 128) (e : Fin 192) : iblk m c 3 t (ix2 a e) = A3 m c (ix2 (pa t a) e) := by
  blk_ext [iblk, e3 t, pa]

/-! ## The results -/

def fullD (g w m v : S384x192.Idx → EReal) : S384x192.Idx → EReal := fun y => change (w y) (mom (m y) (g y)) (sec (v y) (g y))
def fullM (g w m v : S384x192.Idx → EReal) : S384x192.Idx → EReal := fun y => mom (m y) (g y)
def fullV (g w m v : S384x192.Idx → EReal) : S384x192.Idx → EReal := fun y => sec (v y) (g y)

theorem at_of (f : S384x192.Idx → EReal) (p : Fin 384) (j : Fin 192) (y : S384x192.Idx) (h0 : (y 0).val = p.val) (h1 : (y 1).val = j.val) :
    f y = f (ix2 p j) :=
  congrArg f (funext fun a => Fin.ext (match a with
    | ⟨0, _⟩ => h0
    | ⟨1, _⟩ => h1))

theorem blkD_eq (a : Fin 128) (e : Fin 192) : out0_4 (F := Ideal) (iblk m c 0 t) (iblk m c 1 t) (iblk m c 2 t) (iblk m c 3 t) (ix2 a e) = fullD (A0 m c) (A1 m c) (A2 m c) (A3 m c) (ix2 (pa t a) e) := by
  rw [outD]
  show change (iblk m c 1 t (ix2 a e)) (mom (iblk m c 2 t (ix2 a e)) (iblk m c 0 t (ix2 a e))) (sec (iblk m c 3 t (ix2 a e)) (iblk m c 0 t (ix2 a e))) = _
  rw [b0, b1, b2, b3]
  rfl

theorem finalD : (dats (F := Ideal) m 0 c).arrAt 4 cfg0.N = fullD (A0 m c) (A1 m c) (A2 m c) (A3 m c) := by
  refine (dats (F := Ideal) m 0 c).arrAt_eq_of_covers 4 _ (by decide +kernel) fun t hf y => ?_
  obtain ⟨a, e, rfl⟩ : ∃ (a : Fin 128) (e : Fin 192), y = ix2 a e := ⟨_, _, eq_ix2 (n0 := 128) (n1 := 192) y⟩
  rw [at_of (fullD _ _ _ _) (pa t a) e _ (by blk_simp [e4 t]; show _ = 128 * t.val + a.val; have := lt_N t; omega) (by blk_simp [e4 t])]
  refine Eq.trans ?_ (blkD_eq m c t a e)
  blk_simp
  rw [after0_4]

theorem blkM_eq (a : Fin 128) (e : Fin 192) : out0_5 (F := Ideal) (iblk m c 0 t) (iblk m c 1 t) (iblk m c 2 t) (iblk m c 3 t) (ix2 a e) = fullM (A0 m c) (A1 m c) (A2 m c) (A3 m c) (ix2 (pa t a) e) := by
  rw [outM]
  show mom (iblk m c 2 t (ix2 a e)) (iblk m c 0 t (ix2 a e)) = _
  rw [b0, b2]
  rfl

theorem finalM : (dats (F := Ideal) m 0 c).arrAt 5 cfg0.N = fullM (A0 m c) (A1 m c) (A2 m c) (A3 m c) := by
  refine (dats (F := Ideal) m 0 c).arrAt_eq_of_covers 5 _ (by decide +kernel) fun t hf y => ?_
  obtain ⟨a, e, rfl⟩ : ∃ (a : Fin 128) (e : Fin 192), y = ix2 a e := ⟨_, _, eq_ix2 (n0 := 128) (n1 := 192) y⟩
  rw [at_of (fullM _ _ _ _) (pa t a) e _ (by blk_simp [e5 t]; show _ = 128 * t.val + a.val; have := lt_N t; omega) (by blk_simp [e5 t])]
  refine Eq.trans ?_ (blkM_eq m c t a e)
  blk_simp
  rw [after0_5]

theorem blkV_eq (a : Fin 128) (e : Fin 192) : out0_6 (F := Ideal) (iblk m c 0 t) (iblk m c 1 t) (iblk m c 2 t) (iblk m c 3 t) (ix2 a e) = fullV (A0 m c) (A1 m c) (A2 m c) (A3 m c) (ix2 (pa t a) e) := by
  rw [outV]
  show sec (iblk m c 3 t (ix2 a e)) (iblk m c 0 t (ix2 a e)) = _
  rw [b0, b3]
  rfl

theorem finalV : (dats (F := Ideal) m 0 c).arrAt 6 cfg0.N = fullV (A0 m c) (A1 m c) (A2 m c) (A3 m c) := by
  refine (dats (F := Ideal) m 0 c).arrAt_eq_of_covers 6 _ (by decide +kernel) fun t hf y => ?_
  obtain ⟨a, e, rfl⟩ : ∃ (a : Fin 128) (e : Fin 192), y = ix2 a e := ⟨_, _, eq_ix2 (n0 := 128) (n1 := 192) y⟩
  rw [at_of (fullV _ _ _ _) (pa t a) e _ (by blk_simp [e6 t]; show _ = 128 * t.val + a.val; have := lt_N t; omega) (by blk_simp [e6 t])]
  refine Eq.trans ?_ (blkV_eq m c t a e)
  blk_simp
  rw [after0_6]

/-! ## The reference -/

section Ref

open Cert.Reference39Ideal Cert.Reference39Ideal.Read

variable (x0 x1 x2 x3 : Kernel39Ideal.S384x192.Idx → EReal)

theorem resultM : val_main_v4 (F := Ideal) x0 x2 = fullM x0 x1 x2 x3 := by
  funext i
  rw [val_main_v4_apply, val_main_v1_apply, val_main_v0_apply, val_main_cst_apply, val_main_v3_apply, val_main_v2_apply, val_main_cst_0_apply]
  rfl

theorem resultV : val_main_v10 (F := Ideal) x0 x3 = fullV x0 x1 x2 x3 := by
  funext i
  rw [val_main_v10_apply, val_main_v6_apply, val_main_v5_apply, val_main_cst_1_apply, val_main_v9_apply, val_main_v8_apply, val_main_cst_2_apply, val_main_v7_apply]
  rfl

theorem resultD : val_main_v23 (F := Ideal) x0 x1 x2 x3 = fullD x0 x1 x2 x3 := by
  funext i
  unfold fullD change
  rw [← div_um, ← div_uv]
  rw [val_main_v23_apply, val_main_v22_apply, val_main_cst_7_apply, val_main_v21_apply, val_main_v20_apply, val_main_v19_apply, val_main_cst_6_apply,
    val_main_v18_apply, val_main_v17_apply, val_main_v16_apply, val_main_cst_5_apply, val_main_v15_apply, val_main_v14_apply, val_main_v13_apply, val_main_cst_4_apply,
    val_main_v12_apply, val_main_v11_apply, val_main_cst_3_apply, resultM x0 x1 x2 x3, resultV x0 x1 x2 x3]
  rfl

end Ref

/-- The call's run: each result is the array that its grid points leave, and the arguments are as they were. -/
theorem run_blocks (ρ : Dev nD → PrngReg) : θ_run defs (onTc (τ := τ) (main (F := Ideal))) ⟨m, fun _ => 0, ρ⟩ fun r => ∀ c : Dev nD,
      r.2.mem ((c : Thread nD τ).loc main_v0_0) = (dats (F := Ideal) m 0 c).arrAt 4 cfg0.N
      ∧ r.2.mem ((c : Thread nD τ).loc main_v0_1) = (dats (F := Ideal) m 0 c).arrAt 5 cfg0.N
      ∧ r.2.mem ((c : Thread nD τ).loc main_v0_2) = (dats (F := Ideal) m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4, (h c).1 5, (h c).1 6,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

theorem frame_p : Cert.quiescent_Kernel39 := fun m g _ => Cert.Kernel39.Gen.frame m g
theorem frame_pi : Cert.quiescent_Kernel39Ideal := fun m g _ => Cert.Kernel39Ideal.Gen.frame m g
theorem frame_ri : Cert.quiescent_Reference39Ideal := fun m g _ =>
  (θ_run Cert.Reference39Ideal.defs _ _).mono (fun r h => ⟨fun c => (h c).2.2.2, sem_eq_zero_of_no_sems (by decide) r.2⟩) (Cert.Reference39Ideal.Value.run (F := Ideal) m g)

/-- The two named constants. -/
theorem preserves : Cert.preserves_Kernel39_Kernel39Ideal := by
  unfold Cert.preserves_Kernel39_Kernel39Ideal
  exact ⟨IdealRules.named_const.statement _ _ _ _ _ rfl, IdealRules.named_const.statement _ _ _ _ _ rfl⟩

theorem algebraic : Cert.algebraic_Kernel39Ideal_Reference39Ideal := by
  intro m g m' g' _ hagree
  refine ⟨_, _, _, (θ_run _ _ _).mono (fun r h => h) (run_blocks m g), ?_⟩
  refine (θ_run _ _ _).mono (fun r h c => ?_) (Cert.Reference39Ideal.Value.run (F := Ideal) m' g')
  obtain ⟨a0, a1, a2, a3⟩ := hagree c
  refine ⟨?_, ?_, ?_, (h c).2.2.2⟩
  · rw [(h c).1, finalD m c, Cert.Reference39Ideal.Read.val_main_v23_eq, a0, a1, a2, a3]
    exact resultD _ _ _ _
  · rw [(h c).2.1, finalM m c, Cert.Reference39Ideal.Read.val_main_v4_eq, a0, a2]
    exact resultM _ _ _ _
  · rw [(h c).2.2.1, finalV m c, Cert.Reference39Ideal.Read.val_main_v10_eq, a0, a3]
    exact resultV _ _ _ _

end Cert.Rows.Adam.WUq

end
-- ==== Proof.Rows.Adam.WUkv.lean ====
/-
  The optimiser's step on the keys' and values' weights: whole call, element by element.
-/
module

public import proofs.«01_k».proof.Defs
public import proofs.«01_k».proof.Proof.Rows.Adam.Basic
public import proofs.«01_k».proof.Proof.Gen.Kernel40
public import proofs.«01_k».proof.Proof.Gen.Kernel40.Frame
public import proofs.«01_k».proof.Proof.Gen.Kernel40Ideal
public import proofs.«01_k».proof.Proof.Gen.Kernel40Ideal.Frame
public import proofs.«01_k».proof.Proof.Gen.Reference40Ideal
public import proofs.«01_k».proof.Proof.Gen.Reference40Ideal.Run
public import proofs.«01_k».proof.Proof.Gen.Reference40Ideal.Read
public import Idealize.ShloMosaic.Lib.Pipeline.ValueKit
public import Idealize.ShloMosaic.Lib.Pipeline.CanonAppend

@[expose] public section

set_option maxRecDepth 16384

noncomputable section

namespace Cert.Rows.Adam.WUkv

open Idealize.ShloMosaic Idealize.ShloMosaic.TcCoe Idealize.ShloMosaic.Tactic Idealize.SL.Sem Cert.Kernel40Ideal Cert.Kernel40Ideal.Gen Cert.Rows.Adam
open Idealize.ShloMosaic.Pipeline (Dat)

/-! ## One grid point -/

theorem payM (g m : Vec Ideal S256x256 .f32) (y : S256x256.Idx) : k0_pay1 (F := Ideal) g m y = mom (m y) (g y) := rfl
theorem payV (g v : Vec Ideal S256x256 .f32) (y : S256x256.Idx) : k0_pay2 (F := Ideal) g v y = sec (v y) (g y) := rfl
theorem payD (g w m v : Vec Ideal S256x256 .f32) (y : S256x256.Idx) :
    k0_pay3 (F := Ideal) g w m v y = change (w y) (mom (m y) (g y)) (sec (v y) (g y)) := by
  have hm : Named.named (F := Ideal) (φ := .f32) κ "unbias_m" 0x3FC48605#32 = um := rfl
  have hv : Named.named (F := Ideal) (φ := .f32) κ "unbias_v" 0x42C8E6D3#32 = uv := rfl
  unfold change
  rw [← payM, ← payV, ← hm, ← hv]
  rfl

/-- A grid point's blocks of the results, from its blocks of the gradient, the weight and the two moments. -/
def blkD (x0 x1 x2 x3 : Vec Ideal S256x256 .f32) : Vec Ideal S256x256 .f32 := fun y => change (x1 y) (mom (x2 y) (x0 y)) (sec (x3 y) (x0 y))
def blkM (x0 x1 x2 x3 : Vec Ideal S256x256 .f32) : Vec Ideal S256x256 .f32 := fun y => mom (x2 y) (x0 y)
def blkV (x0 x1 x2 x3 : Vec Ideal S256x256 .f32) : Vec Ideal S256x256 .f32 := fun y => sec (x3 y) (x0 y)

section Block

variable (x0 x1 x2 x3 : Vec Ideal S256x256 .f32)

theorem outD : out0_4 (F := Ideal) x0 x1 x2 x3 = blkD x0 x1 x2 x3 := by
  funext y
  refine View.canon_append_of_pieces (blkD x0 x1 x2 x3) [] [⟨r0_0, _⟩] (fun p hp x => ?_) y (cover0_4 _ y)
  obtain rfl := List.mem_singleton.1 hp
  exact payD _ _ _ _ x

theorem outM : out0_5 (F := Ideal) x0 x1 x2 x3 = blkM x0 x1 x2 x3 := by
  funext y
  refine View.canon_append_of_pieces (blkM x0 x1 x2 x3) [] [⟨r0_0, _⟩] (fun p hp x => ?_) y (cover0_5 _ y)
  obtain rfl := List.mem_singleton.1 hp
  exact payM _ _ x

theorem outV : out0_6 (F := Ideal) x0 x1 x2 x3 = blkV x0 x1 x2 x3 := by
  funext y
  refine View.canon_append_of_pieces (blkV x0 x1 x2 x3) [] [⟨r0_0, _⟩] (fun p hp x => ?_) y (cover0_6 _ y)
  obtain rfl := List.mem_singleton.1 hp
  exact payV _ _ x

end Block

/-! ## Where the blocks lie -/

variable (m : (ℓ : Loc nD τ sig) → Buf (Elt Ideal) ℓ) (c : Dev nD)

/-- The gradient, the weight and the two moments. -/
abbrev A0 : S256x256.Idx → EReal := m ((c : Thread nD τ).loc main_arg0)
abbrev A1 : S256x256.Idx → EReal := m ((c : Thread nD τ).loc main_arg1)
abbrev A2 : S256x256.Idx → EReal := m ((c : Thread nD τ).loc main_arg2)
abbrev A3 : S256x256.Idx → EReal := m ((c : Thread nD τ).loc main_arg3)

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)

theorem lt_N (t : Fin cfg0.N) : t.val < 1 := lt_of_lt_of_eq t.isLt N_0

variable (t : Fin cfg0.N)

/-- A row of a point's block. -/
def pa (a : Fin 256) : Fin 256 := ⟨256 * t.val + a.val, by have := lt_N t; omega⟩

theorem b0 (a : Fin 256) (e : Fin 256) : iblk m c 0 t (ix2 a e) = A0 m c (ix2 (pa t a) e) := by
  blk_ext [iblk, e0 t, pa]
theorem b1 (a : Fin 256) (e : Fin 256) : iblk m c 1 t (ix2 a e) = A1 m c (ix2 (pa t a) e) := by
  blk_ext [iblk, e1 t, pa]
theorem b2 (a : Fin 256) (e : Fin 256) : iblk m c 2 t (ix2 a e) = A2 m c (ix2 (pa t a) e) := by
  blk_ext [iblk, e2 t, pa]
theorem b3 (a : Fin 256) (e : Fin 256) : iblk m c 3 t (ix2 a e) = A3 m c (ix2 (pa t a) e) := by
  blk_ext [iblk, e3 t, pa]

/-! ## The results -/

def fullD (g w m v : S256x256.Idx → EReal) : S256x256.Idx → EReal := fun y => change (w y) (mom (m y) (g y)) (sec (v y) (g y))
def fullM (g w m v : S256x256.Idx → EReal) : S256x256.Idx → EReal := fun y => mom (m y) (g y)
def fullV (g w m v : S256x256.Idx → EReal) : S256x256.Idx → EReal := fun y => sec (v y) (g y)

theorem at_of (f : S256x256.Idx → EReal) (p : Fin 256) (j : Fin 256) (y : S256x256.Idx) (h0 : (y 0).val = p.val) (h1 : (y 1).val = j.val) :
    f y = f (ix2 p j) :=
  congrArg f (funext fun a => Fin.ext (match a with
    | ⟨0, _⟩ => h0
    | ⟨1, _⟩ => h1))

theorem blkD_eq (a : Fin 256) (e : Fin 256) : out0_4 (F := Ideal) (iblk m c 0 t) (iblk m c 1 t) (iblk m c 2 t) (iblk m c 3 t) (ix2 a e) = fullD (A0 m c) (A1 m c) (A2 m c) (A3 m c) (ix2 (pa t a) e) := by
  rw [outD]
  show change (iblk m c 1 t (ix2 a e)) (mom (iblk m c 2 t (ix2 a e)) (iblk m c 0 t (ix2 a e))) (sec (iblk m c 3 t (ix2 a e)) (iblk m c 0 t (ix2 a e))) = _
  rw [b0, b1, b2, b3]
  rfl

theorem finalD : (dats (F := Ideal) m 0 c).arrAt 4 cfg0.N = fullD (A0 m c) (A1 m c) (A2 m c) (A3 m c) := by
  refine (dats (F := Ideal) m 0 c).arrAt_eq_of_covers 4 _ (by decide +kernel) fun t hf y => ?_
  obtain ⟨a, e, rfl⟩ : ∃ (a : Fin 256) (e : Fin 256), y = ix2 a e := ⟨_, _, eq_ix2 (n0 := 256) (n1 := 256) y⟩
  rw [at_of (fullD _ _ _ _) (pa t a) e _ (by blk_simp [e4 t]; show _ = 256 * t.val + a.val; have := lt_N t; omega) (by blk_simp [e4 t])]
  refine Eq.trans ?_ (blkD_eq m c t a e)
  blk_simp
  rw [after0_4]

theorem blkM_eq (a : Fin 256) (e : Fin 256) : out0_5 (F := Ideal) (iblk m c 0 t) (iblk m c 1 t) (iblk m c 2 t) (iblk m c 3 t) (ix2 a e) = fullM (A0 m c) (A1 m c) (A2 m c) (A3 m c) (ix2 (pa t a) e) := by
  rw [outM]
  show mom (iblk m c 2 t (ix2 a e)) (iblk m c 0 t (ix2 a e)) = _
  rw [b0, b2]
  rfl

theorem finalM : (dats (F := Ideal) m 0 c).arrAt 5 cfg0.N = fullM (A0 m c) (A1 m c) (A2 m c) (A3 m c) := by
  refine (dats (F := Ideal) m 0 c).arrAt_eq_of_covers 5 _ (by decide +kernel) fun t hf y => ?_
  obtain ⟨a, e, rfl⟩ : ∃ (a : Fin 256) (e : Fin 256), y = ix2 a e := ⟨_, _, eq_ix2 (n0 := 256) (n1 := 256) y⟩
  rw [at_of (fullM _ _ _ _) (pa t a) e _ (by blk_simp [e5 t]; show _ = 256 * t.val + a.val; have := lt_N t; omega) (by blk_simp [e5 t])]
  refine Eq.trans ?_ (blkM_eq m c t a e)
  blk_simp
  rw [after0_5]

theorem blkV_eq (a : Fin 256) (e : Fin 256) : out0_6 (F := Ideal) (iblk m c 0 t) (iblk m c 1 t) (iblk m c 2 t) (iblk m c 3 t) (ix2 a e) = fullV (A0 m c) (A1 m c) (A2 m c) (A3 m c) (ix2 (pa t a) e) := by
  rw [outV]
  show sec (iblk m c 3 t (ix2 a e)) (iblk m c 0 t (ix2 a e)) = _
  rw [b0, b3]
  rfl

theorem finalV : (dats (F := Ideal) m 0 c).arrAt 6 cfg0.N = fullV (A0 m c) (A1 m c) (A2 m c) (A3 m c) := by
  refine (dats (F := Ideal) m 0 c).arrAt_eq_of_covers 6 _ (by decide +kernel) fun t hf y => ?_
  obtain ⟨a, e, rfl⟩ : ∃ (a : Fin 256) (e : Fin 256), y = ix2 a e := ⟨_, _, eq_ix2 (n0 := 256) (n1 := 256) y⟩
  rw [at_of (fullV _ _ _ _) (pa t a) e _ (by blk_simp [e6 t]; show _ = 256 * t.val + a.val; have := lt_N t; omega) (by blk_simp [e6 t])]
  refine Eq.trans ?_ (blkV_eq m c t a e)
  blk_simp
  rw [after0_6]

/-! ## The reference -/

section Ref

open Cert.Reference40Ideal Cert.Reference40Ideal.Read

variable (x0 x1 x2 x3 : Kernel40Ideal.S256x256.Idx → EReal)

theorem resultM : val_main_v4 (F := Ideal) x0 x2 = fullM x0 x1 x2 x3 := by
  funext i
  rw [val_main_v4_apply, val_main_v1_apply, val_main_v0_apply, val_main_cst_apply, val_main_v3_apply, val_main_v2_apply, val_main_cst_0_apply]
  rfl

theorem resultV : val_main_v10 (F := Ideal) x0 x3 = fullV x0 x1 x2 x3 := by
  funext i
  rw [val_main_v10_apply, val_main_v6_apply, val_main_v5_apply, val_main_cst_1_apply, val_main_v9_apply, val_main_v8_apply, val_main_cst_2_apply, val_main_v7_apply]
  rfl

theorem resultD : val_main_v23 (F := Ideal) x0 x1 x2 x3 = fullD x0 x1 x2 x3 := by
  funext i
  unfold fullD change
  rw [← div_um, ← div_uv]
  rw [val_main_v23_apply, val_main_v22_apply, val_main_cst_7_apply, val_main_v21_apply, val_main_v20_apply, val_main_v19_apply, val_main_cst_6_apply,
    val_main_v18_apply, val_main_v17_apply, val_main_v16_apply, val_main_cst_5_apply, val_main_v15_apply, val_main_v14_apply, val_main_v13_apply, val_main_cst_4_apply,
    val_main_v12_apply, val_main_v11_apply, val_main_cst_3_apply, resultM x0 x1 x2 x3, resultV x0 x1 x2 x3]
  rfl

end Ref

/-- The call's run: each result is the array that its grid points leave, and the arguments are as they were. -/
theorem run_blocks (ρ : Dev nD → PrngReg) : θ_run defs (onTc (τ := τ) (main (F := Ideal))) ⟨m, fun _ => 0, ρ⟩ fun r => ∀ c : Dev nD,
      r.2.mem ((c : Thread nD τ).loc main_v0_0) = (dats (F := Ideal) m 0 c).arrAt 4 cfg0.N
      ∧ r.2.mem ((c : Thread nD τ).loc main_v0_1) = (dats (F := Ideal) m 0 c).arrAt 5 cfg0.N
      ∧ r.2.mem ((c : Thread nD τ).loc main_v0_2) = (dats (F := Ideal) m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4, (h c).1 5, (h c).1 6,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

theorem frame_p : Cert.quiescent_Kernel40 := fun m g _ => Cert.Kernel40.Gen.frame m g
theorem frame_pi : Cert.quiescent_Kernel40Ideal := fun m g _ => Cert.Kernel40Ideal.Gen.frame m g
theorem frame_ri : Cert.quiescent_Reference40Ideal := fun m g _ =>
  (θ_run Cert.Reference40Ideal.defs _ _).mono (fun r h => ⟨fun c => (h c).2.2.2, sem_eq_zero_of_no_sems (by decide) r.2⟩) (Cert.Reference40Ideal.Value.run (F := Ideal) m g)

/-- The two named constants. -/
theorem preserves : Cert.preserves_Kernel40_Kernel40Ideal := by
  unfold Cert.preserves_Kernel40_Kernel40Ideal
  exact ⟨IdealRules.named_const.statement _ _ _ _ _ rfl, IdealRules.named_const.statement _ _ _ _ _ rfl⟩

theorem algebraic : Cert.algebraic_Kernel40Ideal_Reference40Ideal := by
  intro m g m' g' _ hagree
  refine ⟨_, _, _, (θ_run _ _ _).mono (fun r h => h) (run_blocks m g), ?_⟩
  refine (θ_run _ _ _).mono (fun r h c => ?_) (Cert.Reference40Ideal.Value.run (F := Ideal) m' g')
  obtain ⟨a0, a1, a2, a3⟩ := hagree c
  refine ⟨?_, ?_, ?_, (h c).2.2.2⟩
  · rw [(h c).1, finalD m c, Cert.Reference40Ideal.Read.val_main_v23_eq, a0, a1, a2, a3]
    exact resultD _ _ _ _
  · rw [(h c).2.1, finalM m c, Cert.Reference40Ideal.Read.val_main_v4_eq, a0, a2]
    exact resultM _ _ _ _
  · rw [(h c).2.2.1, finalV m c, Cert.Reference40Ideal.Read.val_main_v10_eq, a0, a3]
    exact resultV _ _ _ _

end Cert.Rows.Adam.WUkv

end
-- ==== Proof.Rows.Adam.WMod.lean ====
/-
  The optimiser's step on the modulation's weights: whole call, element by element.
-/
module

public import proofs.«01_k».proof.Defs
public import proofs.«01_k».proof.Proof.Rows.Adam.Basic
public import proofs.«01_k».proof.Proof.Gen.Kernel41
public import proofs.«01_k».proof.Proof.Gen.Kernel41.Frame
public import proofs.«01_k».proof.Proof.Gen.Kernel41Ideal
public import proofs.«01_k».proof.Proof.Gen.Kernel41Ideal.Value
public import proofs.«01_k».proof.Proof.Gen.Reference41Ideal
public import proofs.«01_k».proof.Proof.Gen.Reference41Ideal.Run
public import proofs.«01_k».proof.Proof.Gen.Reference41Ideal.Read
public import Idealize.ShloMosaic.Lib.Pipeline.ValueKit
public import Idealize.ShloMosaic.Lib.Pipeline.CanonAppend

@[expose] public section

set_option maxRecDepth 16384

noncomputable section

namespace Cert.Rows.Adam.WMod

open Idealize.ShloMosaic Idealize.ShloMosaic.TcCoe Idealize.ShloMosaic.Tactic Idealize.SL.Sem Cert.Kernel41Ideal Cert.Kernel41Ideal.Gen Cert.Rows.Adam
open Idealize.ShloMosaic.Pipeline (Dat)

/-! ## One trip, and one grid point -/

theorem payM (g m : Vec Ideal S64x1536 .f32) (y : S64x1536.Idx) : k0_pay1 (F := Ideal) g m y = mom (m y) (g y) := rfl
theorem payV (g v : Vec Ideal S64x1536 .f32) (y : S64x1536.Idx) : k0_pay2 (F := Ideal) g v y = sec (v y) (g y) := rfl
theorem payD (g w m v : Vec Ideal S64x1536 .f32) (y : S64x1536.Idx) :
    k0_pay3 (F := Ideal) g w m v y = change (w y) (mom (m y) (g y)) (sec (v y) (g y)) := by
  have hm : Named.named (F := Ideal) (φ := .f32) κ "unbias_m" 0x3FC48605#32 = um := rfl
  have hv : Named.named (F := Ideal) (φ := .f32) κ "unbias_v" 0x42C8E6D3#32 = uv := rfl
  unfold change
  rw [← payM, ← payV, ← hm, ← hv]
  rfl

/-- A grid point's blocks of the results, from its blocks of the gradient, the weight and the two moments. -/
def blkD (x0 x1 x2 x3 : Vec Ideal S128x1536 .f32) : Vec Ideal S128x1536 .f32 := fun y => change (x1 y) (mom (x2 y) (x0 y)) (sec (x3 y) (x0 y))
def blkM (x0 x1 x2 x3 : Vec Ideal S128x1536 .f32) : Vec Ideal S128x1536 .f32 := fun y => mom (x2 y) (x0 y)
def blkV (x0 x1 x2 x3 : Vec Ideal S128x1536 .f32) : Vec Ideal S128x1536 .f32 := fun y => sec (x3 y) (x0 y)

section Block

variable (c : Dev nD) (i : grid0.Coords)
  (arg1 : Memref sig .tc .vmem S128x1536 .f32) (harg1 : arg1.IsWhole)
  (arg2 : Memref sig .tc .vmem S128x1536 .f32) (harg2 : arg2.IsWhole)
  (arg3 : Memref sig .tc .vmem S128x1536 .f32) (harg3 : arg3.IsWhole)
  (arg4 : Memref sig .tc .vmem S128x1536 .f32) (harg4 : arg4.IsWhole)
  (arg5 : Memref sig .tc .vmem S128x1536 .f32) (harg5 : arg5.IsWhole)
  (arg6 : Memref sig .tc .vmem S128x1536 .f32) (harg6 : arg6.IsWhole)
  (arg7 : Memref sig .tc .vmem S128x1536 .f32) (harg7 : arg7.IsWhole)
  (x0 x1 x2 x3 : Vec Ideal S128x1536 .f32)

theorem tripD (k : Fin k0_t1_loop.trips) :
    ∀ p ∈ (tripL_k0_t1 (F := Ideal) Variants.none c none i arg1 harg1 arg2 harg2 arg3 harg3 arg4 harg4 arg5 harg5 arg6 harg6 arg7 harg7
        (harg1.unread x0) (harg2.unread x1) (harg3.unread x2) (harg4.unread x3) k).1,
      ∀ x : p.1.shape.Idx, p.2 x = blkD x0 x1 x2 x3 (p.1.emb x) := by
  unfold tripL_k0_t1 trip_k0_t1
  dsimp only
  sl_unfold_words
  simp only [View.readAt_eq_ld, Memref.IsWhole.read_unread, List.mem_singleton, forall_eq]
  intro x
  exact payD _ _ _ _ x

theorem tripM (k : Fin k0_t1_loop.trips) :
    ∀ p ∈ (tripL_k0_t1 (F := Ideal) Variants.none c none i arg1 harg1 arg2 harg2 arg3 harg3 arg4 harg4 arg5 harg5 arg6 harg6 arg7 harg7
        (harg1.unread x0) (harg2.unread x1) (harg3.unread x2) (harg4.unread x3) k).2.1,
      ∀ x : p.1.shape.Idx, p.2 x = blkM x0 x1 x2 x3 (p.1.emb x) := by
  unfold tripL_k0_t1 trip_k0_t1
  dsimp only
  sl_unfold_words
  simp only [View.readAt_eq_ld, Memref.IsWhole.read_unread, List.mem_singleton, forall_eq]
  intro x
  exact payM _ _ x

theorem tripV (k : Fin k0_t1_loop.trips) :
    ∀ p ∈ (tripL_k0_t1 (F := Ideal) Variants.none c none i arg1 harg1 arg2 harg2 arg3 harg3 arg4 harg4 arg5 harg5 arg6 harg6 arg7 harg7
        (harg1.unread x0) (harg2.unread x1) (harg3.unread x2) (harg4.unread x3) k).2.2,
      ∀ x : p.1.shape.Idx, p.2 x = blkV x0 x1 x2 x3 (p.1.emb x) := by
  unfold tripL_k0_t1 trip_k0_t1
  dsimp only
  sl_unfold_words
  simp only [View.readAt_eq_ld, Memref.IsWhole.read_unread, List.mem_singleton, forall_eq]
  intro x
  exact payV _ _ x

/-- Every piece that the trips write is the block's own there. -/
theorem pieces (n : ℕ) :
    (∀ p ∈ (pb_k0_t1 (F := Ideal) Variants.none c none i arg1 harg1 arg2 harg2 arg3 harg3 arg4 harg4 arg5 harg5 arg6 harg6 arg7 harg7
        (harg1.unread x0) (harg2.unread x1) (harg3.unread x2) (harg4.unread x3) n).1,
      ∀ x : p.1.shape.Idx, p.2 x = blkD x0 x1 x2 x3 (p.1.emb x))
    ∧ (∀ p ∈ (pb_k0_t1 (F := Ideal) Variants.none c none i arg1 harg1 arg2 harg2 arg3 harg3 arg4 harg4 arg5 harg5 arg6 harg6 arg7 harg7
        (harg1.unread x0) (harg2.unread x1) (harg3.unread x2) (harg4.unread x3) n).2.1,
      ∀ x : p.1.shape.Idx, p.2 x = blkM x0 x1 x2 x3 (p.1.emb x))
    ∧ (∀ p ∈ (pb_k0_t1 (F := Ideal) Variants.none c none i arg1 harg1 arg2 harg2 arg3 harg3 arg4 harg4 arg5 harg5 arg6 harg6 arg7 harg7
        (harg1.unread x0) (harg2.unread x1) (harg3.unread x2) (harg4.unread x3) n).2.2,
      ∀ x : p.1.shape.Idx, p.2 x = blkV x0 x1 x2 x3 (p.1.emb x)) := by
  induction n with
  | zero =>
    rw [pb_k0_t1.eq_1]
    exact ⟨fun p hp => absurd hp List.not_mem_nil, fun p hp => absurd hp List.not_mem_nil, fun p hp => absurd hp List.not_mem_nil⟩
  | succ n ih =>
    rw [pb_k0_t1.eq_2]
    unfold pb_k0_t1Step
    split
    · exact ⟨fun p hp => (List.mem_append.1 hp).elim (tripD c i arg1 harg1 arg2 harg2 arg3 harg3 arg4 harg4 arg5 harg5 arg6 harg6 arg7 harg7 x0 x1 x2 x3 _ p) (ih.1 p),
        fun p hp => (List.mem_append.1 hp).elim (tripM c i arg1 harg1 arg2 harg2 arg3 harg3 arg4 harg4 arg5 harg5 arg6 harg6 arg7 harg7 x0 x1 x2 x3 _ p) (ih.2.1 p),
        fun p hp => (List.mem_append.1 hp).elim (tripV c i arg1 harg1 arg2 harg2 arg3 harg3 arg4 harg4 arg5 harg5 arg6 harg6 arg7 harg7 x0 x1 x2 x3 _ p) (ih.2.2 p)⟩
    · exact ih

theorem outD : out0_A_4 (F := Ideal) c i arg1 harg1 arg2 harg2 arg3 harg3 arg4 harg4 arg5 harg5 arg6 harg6 arg7 harg7 x0 x1 x2 x3 = blkD x0 x1 x2 x3 := by
  funext y
  have hc := cover0_A_4 (F := Ideal) c i arg1 harg1 arg2 harg2 arg3 harg3 arg4 harg4 arg5 harg5 arg6 harg6 arg7 harg7 x0 x1 x2 x3 y
  unfold out0_A_4
  rw [View.read_writes_junk_eq_canon]
  unfold kernelRun0_A at hc ⊢
  dsimp only at hc ⊢
  rw [← List.append_nil (pb_k0_t1 _ _ _ _ _ _ _ _ _ _ _ _ _ _ _ _ _ _ _ _ _ _ _).1]
  exact View.canon_append_of_pieces _ [] _ (pieces c i arg1 harg1 arg2 harg2 arg3 harg3 arg4 harg4 arg5 harg5 arg6 harg6 arg7 harg7 x0 x1 x2 x3 _).1 y hc

theorem outM : out0_A_5 (F := Ideal) c i arg1 harg1 arg2 harg2 arg3 harg3 arg4 harg4 arg5 harg5 arg6 harg6 arg7 harg7 x0 x1 x2 x3 = blkM x0 x1 x2 x3 := by
  funext y
  have hc := cover0_A_5 (F := Ideal) c i arg1 harg1 arg2 harg2 arg3 harg3 arg4 harg4 arg5 harg5 arg6 harg6 arg7 harg7 x0 x1 x2 x3 y
  unfold out0_A_5
  rw [View.read_writes_junk_eq_canon]
  unfold kernelRun0_A at hc ⊢
  dsimp only at hc ⊢
  rw [← List.append_nil (pb_k0_t1 _ _ _ _ _ _ _ _ _ _ _ _ _ _ _ _ _ _ _ _ _ _ _).2.1]
  exact View.canon_append_of_pieces _ [] _ (pieces c i arg1 harg1 arg2 harg2 arg3 harg3 arg4 harg4 arg5 harg5 arg6 harg6 arg7 harg7 x0 x1 x2 x3 _).2.1 y hc

theorem outV : out0_A_6 (F := Ideal) c i arg1 harg1 arg2 harg2 arg3 harg3 arg4 harg4 arg5 harg5 arg6 harg6 arg7 harg7 x0 x1 x2 x3 = blkV x0 x1 x2 x3 := by
  funext y
  have hc := cover0_A_6 (F := Ideal) c i arg1 harg1 arg2 harg2 arg3 harg3 arg4 harg4 arg5 harg5 arg6 harg6 arg7 harg7 x0 x1 x2 x3 y
  unfold out0_A_6
  rw [View.read_writes_junk_eq_canon]
  unfold kernelRun0_A at hc ⊢
  dsimp only at hc ⊢
  rw [← List.append_nil (pb_k0_t1 _ _ _ _ _ _ _ _ _ _ _ _ _ _ _ _ _ _ _ _ _ _ _).2.2]
  exact View.canon_append_of_pieces _ [] _ (pieces c i arg1 harg1 arg2 harg2 arg3 harg3 arg4 harg4 arg5 harg5 arg6 harg6 arg7 harg7 x0 x1 x2 x3 _).2.2 y hc

end Block

/-! ## Where the blocks lie -/

variable (m : (ℓ : Loc nD τ sig) → Buf (Elt Ideal) ℓ) (c : Dev nD)

/-- The gradient, the weight and the two moments. -/
abbrev A0 : S1024x1536.Idx → EReal := m ((c : Thread nD τ).loc main_arg0)
abbrev A1 : S1024x1536.Idx → EReal := m ((c : Thread nD τ).loc main_arg1)
abbrev A2 : S1024x1536.Idx → EReal := m ((c : Thread nD τ).loc main_arg2)
abbrev A3 : S1024x1536.Idx → EReal := m ((c : Thread nD τ).loc main_arg3)

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)

theorem lt_N (t : Fin cfg0.N) : t.val < 8 := lt_of_lt_of_eq t.isLt N_0

variable (t : Fin cfg0.N)

/-- A row of a point's block. -/
def pa (a : Fin 128) : Fin 1024 := ⟨128 * t.val + a.val, by have := lt_N t; omega⟩

theorem b0 (a : Fin 128) (e : Fin 1536) : iblk m c 0 t (ix2 a e) = A0 m c (ix2 (pa t a) e) := by
  blk_ext [iblk, e0 t, pa]
theorem b1 (a : Fin 128) (e : Fin 1536) : iblk m c 1 t (ix2 a e) = A1 m c (ix2 (pa t a) e) := by
  blk_ext [iblk, e1 t, pa]
theorem b2 (a : Fin 128) (e : Fin 1536) : iblk m c 2 t (ix2 a e) = A2 m c (ix2 (pa t a) e) := by
  blk_ext [iblk, e2 t, pa]
theorem b3 (a : Fin 128) (e : Fin 1536) : iblk m c 3 t (ix2 a e) = A3 m c (ix2 (pa t a) e) := by
  blk_ext [iblk, e3 t, pa]

/-! ## The results -/

def fullD (g w m v : S1024x1536.Idx → EReal) : S1024x1536.Idx → EReal := fun y => change (w y) (mom (m y) (g y)) (sec (v y) (g y))
def fullM (g w m v : S1024x1536.Idx → EReal) : S1024x1536.Idx → EReal := fun y => mom (m y) (g y)
def fullV (g w m v : S1024x1536.Idx → EReal) : S1024x1536.Idx → EReal := fun y => sec (v y) (g y)

theorem at_of (f : S1024x1536.Idx → EReal) (p : Fin 1024) (j : Fin 1536) (y : S1024x1536.Idx) (h0 : (y 0).val = p.val) (h1 : (y 1).val = j.val) :
    f y = f (ix2 p j) :=
  congrArg f (funext fun a => Fin.ext (match a with
    | ⟨0, _⟩ => h0
    | ⟨1, _⟩ => h1))

theorem blkD_eq (a : Fin 128) (e : Fin 1536) : (outsAt0 (F := Ideal) m c t).1 (ix2 a e) = fullD (A0 m c) (A1 m c) (A2 m c) (A3 m c) (ix2 (pa t a) e) := by
  unfold outsAt0
  dsimp only
  rw [outD]
  show change (iblk m c 1 t (ix2 a e)) (mom (iblk m c 2 t (ix2 a e)) (iblk m c 0 t (ix2 a e))) (sec (iblk m c 3 t (ix2 a e)) (iblk m c 0 t (ix2 a e))) = _
  rw [b0, b1, b2, b3]
  rfl

theorem finalD : (dats (F := Ideal) m 0 c).arrAt 4 cfg0.N = fullD (A0 m c) (A1 m c) (A2 m c) (A3 m c) := by
  refine (dats (F := Ideal) m 0 c).arrAt_eq_of_covers 4 _ (by decide +kernel) fun t hf y => ?_
  obtain ⟨a, e, rfl⟩ : ∃ (a : Fin 128) (e : Fin 1536), y = ix2 a e := ⟨_, _, eq_ix2 (n0 := 128) (n1 := 1536) y⟩
  rw [at_of (fullD _ _ _ _) (pa t a) e _ (by blk_simp [e4 t]; show _ = 128 * t.val + a.val; have := lt_N t; omega) (by blk_simp [e4 t])]
  refine Eq.trans ?_ (blkD_eq m c t a e)
  blk_simp
  rw [after0_4]

theorem blkM_eq (a : Fin 128) (e : Fin 1536) : (outsAt0 (F := Ideal) m c t).2.1 (ix2 a e) = fullM (A0 m c) (A1 m c) (A2 m c) (A3 m c) (ix2 (pa t a) e) := by
  unfold outsAt0
  dsimp only
  rw [outM]
  show mom (iblk m c 2 t (ix2 a e)) (iblk m c 0 t (ix2 a e)) = _
  rw [b0, b2]
  rfl

theorem finalM : (dats (F := Ideal) m 0 c).arrAt 5 cfg0.N = fullM (A0 m c) (A1 m c) (A2 m c) (A3 m c) := by
  refine (dats (F := Ideal) m 0 c).arrAt_eq_of_covers 5 _ (by decide +kernel) fun t hf y => ?_
  obtain ⟨a, e, rfl⟩ : ∃ (a : Fin 128) (e : Fin 1536), y = ix2 a e := ⟨_, _, eq_ix2 (n0 := 128) (n1 := 1536) y⟩
  rw [at_of (fullM _ _ _ _) (pa t a) e _ (by blk_simp [e5 t]; show _ = 128 * t.val + a.val; have := lt_N t; omega) (by blk_simp [e5 t])]
  refine Eq.trans ?_ (blkM_eq m c t a e)
  blk_simp
  rw [after0_5]

theorem blkV_eq (a : Fin 128) (e : Fin 1536) : (outsAt0 (F := Ideal) m c t).2.2 (ix2 a e) = fullV (A0 m c) (A1 m c) (A2 m c) (A3 m c) (ix2 (pa t a) e) := by
  unfold outsAt0
  dsimp only
  rw [outV]
  show sec (iblk m c 3 t (ix2 a e)) (iblk m c 0 t (ix2 a e)) = _
  rw [b0, b3]
  rfl

theorem finalV : (dats (F := Ideal) m 0 c).arrAt 6 cfg0.N = fullV (A0 m c) (A1 m c) (A2 m c) (A3 m c) := by
  refine (dats (F := Ideal) m 0 c).arrAt_eq_of_covers 6 _ (by decide +kernel) fun t hf y => ?_
  obtain ⟨a, e, rfl⟩ : ∃ (a : Fin 128) (e : Fin 1536), y = ix2 a e := ⟨_, _, eq_ix2 (n0 := 128) (n1 := 1536) y⟩
  rw [at_of (fullV _ _ _ _) (pa t a) e _ (by blk_simp [e6 t]; show _ = 128 * t.val + a.val; have := lt_N t; omega) (by blk_simp [e6 t])]
  refine Eq.trans ?_ (blkV_eq m c t a e)
  blk_simp
  rw [after0_6]

/-! ## The reference -/

section Ref

open Cert.Reference41Ideal Cert.Reference41Ideal.Read

variable (x0 x1 x2 x3 : Kernel41Ideal.S1024x1536.Idx → EReal)

theorem resultM : val_main_v4 (F := Ideal) x0 x2 = fullM x0 x1 x2 x3 := by
  funext i
  rw [val_main_v4_apply, val_main_v1_apply, val_main_v0_apply, val_main_cst_apply, val_main_v3_apply, val_main_v2_apply, val_main_cst_0_apply]
  rfl

theorem resultV : val_main_v10 (F := Ideal) x0 x3 = fullV x0 x1 x2 x3 := by
  funext i
  rw [val_main_v10_apply, val_main_v6_apply, val_main_v5_apply, val_main_cst_1_apply, val_main_v9_apply, val_main_v8_apply, val_main_cst_2_apply, val_main_v7_apply]
  rfl

theorem resultD : val_main_v23 (F := Ideal) x0 x1 x2 x3 = fullD x0 x1 x2 x3 := by
  funext i
  unfold fullD change
  rw [← div_um, ← div_uv]
  rw [val_main_v23_apply, val_main_v22_apply, val_main_cst_7_apply, val_main_v21_apply, val_main_v20_apply, val_main_v19_apply, val_main_cst_6_apply,
    val_main_v18_apply, val_main_v17_apply, val_main_v16_apply, val_main_cst_5_apply, val_main_v15_apply, val_main_v14_apply, val_main_v13_apply, val_main_cst_4_apply,
    val_main_v12_apply, val_main_v11_apply, val_main_cst_3_apply, resultM x0 x1 x2 x3, resultV x0 x1 x2 x3]
  rfl

end Ref

theorem frame_p : Cert.quiescent_Kernel41 := fun m g _ => Cert.Kernel41.Gen.frame m g
theorem frame_pi : Cert.quiescent_Kernel41Ideal := fun m g _ => Cert.Kernel41Ideal.Gen.frame m g
theorem frame_ri : Cert.quiescent_Reference41Ideal := fun m g _ =>
  (θ_run Cert.Reference41Ideal.defs _ _).mono (fun r h => ⟨fun c => (h c).2.2.2, sem_eq_zero_of_no_sems (by decide) r.2⟩) (Cert.Reference41Ideal.Value.run (F := Ideal) m g)

/-- The two named constants. -/
theorem preserves : Cert.preserves_Kernel41_Kernel41Ideal := by
  unfold Cert.preserves_Kernel41_Kernel41Ideal
  exact ⟨IdealRules.named_const.statement _ _ _ _ _ rfl, IdealRules.named_const.statement _ _ _ _ _ rfl⟩

theorem algebraic : Cert.algebraic_Kernel41Ideal_Reference41Ideal := by
  intro m g m' g' _ hagree
  refine ⟨_, _, _, (θ_run _ _ _).mono (fun r h => h) (Cert.Kernel41Ideal.Value.run_blocks (F := Ideal) m g), ?_⟩
  refine (θ_run _ _ _).mono (fun r h c => ?_) (Cert.Reference41Ideal.Value.run (F := Ideal) m' g')
  obtain ⟨a0, a1, a2, a3⟩ := hagree c
  refine ⟨?_, ?_, ?_, (h c).2.2.2⟩
  · rw [(h c).1, finalD m c, Cert.Reference41Ideal.Read.val_main_v23_eq, a0, a1, a2, a3]
    exact resultD _ _ _ _
  · rw [(h c).2.1, finalM m c, Cert.Reference41Ideal.Read.val_main_v4_eq, a0, a2]
    exact resultM _ _ _ _
  · rw [(h c).2.2.1, finalV m c, Cert.Reference41Ideal.Read.val_main_v10_eq, a0, a3]
    exact resultV _ _ _ _

end Cert.Rows.Adam.WMod

end
-- ==== Proof.Rows.Adam.Small.lean ====
/-
  The optimiser's step on the small weights, packed into one array: whole call, element by element.
-/
module

public import proofs.«01_k».proof.Defs
public import proofs.«01_k».proof.Proof.Rows.Adam.Basic
public import proofs.«01_k».proof.Proof.Gen.Kernel42
public import proofs.«01_k».proof.Proof.Gen.Kernel42.Frame
public import proofs.«01_k».proof.Proof.Gen.Kernel42Ideal
public import proofs.«01_k».proof.Proof.Gen.Kernel42Ideal.Frame
public import proofs.«01_k».proof.Proof.Gen.Reference42Ideal
public import proofs.«01_k».proof.Proof.Gen.Reference42Ideal.Run
public import proofs.«01_k».proof.Proof.Gen.Reference42Ideal.Read
public import Idealize.ShloMosaic.Lib.Pipeline.ValueKit
public import Idealize.ShloMosaic.Lib.Pipeline.CanonAppend

@[expose] public section

set_option maxRecDepth 16384

noncomputable section

namespace Cert.Rows.Adam.Small

open Idealize.ShloMosaic Idealize.ShloMosaic.TcCoe Idealize.ShloMosaic.Tactic Idealize.SL.Sem Cert.Kernel42Ideal Cert.Kernel42Ideal.Gen Cert.Rows.Adam
open Idealize.ShloMosaic.Pipeline (Dat)

/-! ## One grid point -/

theorem payM (g m : Vec Ideal S32x1024 .f32) (y : S32x1024.Idx) : k0_pay1 (F := Ideal) g m y = mom (m y) (g y) := rfl
theorem payV (g v : Vec Ideal S32x1024 .f32) (y : S32x1024.Idx) : k0_pay2 (F := Ideal) g v y = sec (v y) (g y) := rfl
theorem payD (g w m v : Vec Ideal S32x1024 .f32) (y : S32x1024.Idx) :
    k0_pay3 (F := Ideal) g w m v y = change (w y) (mom (m y) (g y)) (sec (v y) (g y)) := by
  have hm : Named.named (F := Ideal) (φ := .f32) κ "unbias_m" 0x3FC48605#32 = um := rfl
  have hv : Named.named (F := Ideal) (φ := .f32) κ "unbias_v" 0x42C8E6D3#32 = uv := rfl
  unfold change
  rw [← payM, ← payV, ← hm, ← hv]
  rfl

/-- A grid point's blocks of the results, from its blocks of the gradient, the weight and the two moments. -/
def blkD (x0 x1 x2 x3 : Vec Ideal S32x1024 .f32) : Vec Ideal S32x1024 .f32 := fun y => change (x1 y) (mom (x2 y) (x0 y)) (sec (x3 y) (x0 y))
def blkM (x0 x1 x2 x3 : Vec Ideal S32x1024 .f32) : Vec Ideal S32x1024 .f32 := fun y => mom (x2 y) (x0 y)
def blkV (x0 x1 x2 x3 : Vec Ideal S32x1024 .f32) : Vec Ideal S32x1024 .f32 := fun y => sec (x3 y) (x0 y)

section Block

variable (x0 x1 x2 x3 : Vec Ideal S32x1024 .f32)

theorem outD : out0_4 (F := Ideal) x0 x1 x2 x3 = blkD x0 x1 x2 x3 := by
  funext y
  refine View.canon_append_of_pieces (blkD x0 x1 x2 x3) [] [⟨r0_0, _⟩] (fun p hp x => ?_) y (cover0_4 _ y)
  obtain rfl := List.mem_singleton.1 hp
  exact payD _ _ _ _ x

theorem outM : out0_5 (F := Ideal) x0 x1 x2 x3 = blkM x0 x1 x2 x3 := by
  funext y
  refine View.canon_append_of_pieces (blkM x0 x1 x2 x3) [] [⟨r0_0, _⟩] (fun p hp x => ?_) y (cover0_5 _ y)
  obtain rfl := List.mem_singleton.1 hp
  exact payM _ _ x

theorem outV : out0_6 (F := Ideal) x0 x1 x2 x3 = blkV x0 x1 x2 x3 := by
  funext y
  refine View.canon_append_of_pieces (blkV x0 x1 x2 x3) [] [⟨r0_0, _⟩] (fun p hp x => ?_) y (cover0_6 _ y)
  obtain rfl := List.mem_singleton.1 hp
  exact payV _ _ x

end Block

/-! ## Where the blocks lie -/

variable (m : (ℓ : Loc nD τ sig) → Buf (Elt Ideal) ℓ) (c : Dev nD)

/-- The gradient, the weight and the two moments. -/
abbrev A0 : S224x1024.Idx → EReal := m ((c : Thread nD τ).loc main_arg0)
abbrev A1 : S224x1024.Idx → EReal := m ((c : Thread nD τ).loc main_arg1)
abbrev A2 : S224x1024.Idx → EReal := m ((c : Thread nD τ).loc main_arg2)
abbrev A3 : S224x1024.Idx → EReal := m ((c : Thread nD τ).loc main_arg3)

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)

theorem lt_N (t : Fin cfg0.N) : t.val < 7 := lt_of_lt_of_eq t.isLt N_0

variable (t : Fin cfg0.N)

/-- A row of a point's block. -/
def pa (a : Fin 32) : Fin 224 := ⟨32 * t.val + a.val, by have := lt_N t; omega⟩

theorem b0 (a : Fin 32) (e : Fin 1024) : iblk m c 0 t (ix2 a e) = A0 m c (ix2 (pa t a) e) := by
  blk_ext [iblk, e0 t, pa]
theorem b1 (a : Fin 32) (e : Fin 1024) : iblk m c 1 t (ix2 a e) = A1 m c (ix2 (pa t a) e) := by
  blk_ext [iblk, e1 t, pa]
theorem b2 (a : Fin 32) (e : Fin 1024) : iblk m c 2 t (ix2 a e) = A2 m c (ix2 (pa t a) e) := by
  blk_ext [iblk, e2 t, pa]
theorem b3 (a : Fin 32) (e : Fin 1024) : iblk m c 3 t (ix2 a e) = A3 m c (ix2 (pa t a) e) := by
  blk_ext [iblk, e3 t, pa]

/-! ## The results -/

def fullD (g w m v : S224x1024.Idx → EReal) : S224x1024.Idx → EReal := fun y => change (w y) (mom (m y) (g y)) (sec (v y) (g y))
def fullM (g w m v : S224x1024.Idx → EReal) : S224x1024.Idx → EReal := fun y => mom (m y) (g y)
def fullV (g w m v : S224x1024.Idx → EReal) : S224x1024.Idx → EReal := fun y => sec (v y) (g y)

theorem at_of (f : S224x1024.Idx → EReal) (p : Fin 224) (j : Fin 1024) (y : S224x1024.Idx) (h0 : (y 0).val = p.val) (h1 : (y 1).val = j.val) :
    f y = f (ix2 p j) :=
  congrArg f (funext fun a => Fin.ext (match a with
    | ⟨0, _⟩ => h0
    | ⟨1, _⟩ => h1))

theorem blkD_eq (a : Fin 32) (e : Fin 1024) : out0_4 (F := Ideal) (iblk m c 0 t) (iblk m c 1 t) (iblk m c 2 t) (iblk m c 3 t) (ix2 a e) = fullD (A0 m c) (A1 m c) (A2 m c) (A3 m c) (ix2 (pa t a) e) := by
  rw [outD]
  show change (iblk m c 1 t (ix2 a e)) (mom (iblk m c 2 t (ix2 a e)) (iblk m c 0 t (ix2 a e))) (sec (iblk m c 3 t (ix2 a e)) (iblk m c 0 t (ix2 a e))) = _
  rw [b0, b1, b2, b3]
  rfl

theorem finalD : (dats (F := Ideal) m 0 c).arrAt 4 cfg0.N = fullD (A0 m c) (A1 m c) (A2 m c) (A3 m c) := by
  refine (dats (F := Ideal) m 0 c).arrAt_eq_of_covers 4 _ (by decide +kernel) fun t hf y => ?_
  obtain ⟨a, e, rfl⟩ : ∃ (a : Fin 32) (e : Fin 1024), y = ix2 a e := ⟨_, _, eq_ix2 (n0 := 32) (n1 := 1024) y⟩
  rw [at_of (fullD _ _ _ _) (pa t a) e _ (by blk_simp [e4 t]; show _ = 32 * t.val + a.val; have := lt_N t; omega) (by blk_simp [e4 t])]
  refine Eq.trans ?_ (blkD_eq m c t a e)
  blk_simp
  rw [after0_4]

theorem blkM_eq (a : Fin 32) (e : Fin 1024) : out0_5 (F := Ideal) (iblk m c 0 t) (iblk m c 1 t) (iblk m c 2 t) (iblk m c 3 t) (ix2 a e) = fullM (A0 m c) (A1 m c) (A2 m c) (A3 m c) (ix2 (pa t a) e) := by
  rw [outM]
  show mom (iblk m c 2 t (ix2 a e)) (iblk m c 0 t (ix2 a e)) = _
  rw [b0, b2]
  rfl

theorem finalM : (dats (F := Ideal) m 0 c).arrAt 5 cfg0.N = fullM (A0 m c) (A1 m c) (A2 m c) (A3 m c) := by
  refine (dats (F := Ideal) m 0 c).arrAt_eq_of_covers 5 _ (by decide +kernel) fun t hf y => ?_
  obtain ⟨a, e, rfl⟩ : ∃ (a : Fin 32) (e : Fin 1024), y = ix2 a e := ⟨_, _, eq_ix2 (n0 := 32) (n1 := 1024) y⟩
  rw [at_of (fullM _ _ _ _) (pa t a) e _ (by blk_simp [e5 t]; show _ = 32 * t.val + a.val; have := lt_N t; omega) (by blk_simp [e5 t])]
  refine Eq.trans ?_ (blkM_eq m c t a e)
  blk_simp
  rw [after0_5]

theorem blkV_eq (a : Fin 32) (e : Fin 1024) : out0_6 (F := Ideal) (iblk m c 0 t) (iblk m c 1 t) (iblk m c 2 t) (iblk m c 3 t) (ix2 a e) = fullV (A0 m c) (A1 m c) (A2 m c) (A3 m c) (ix2 (pa t a) e) := by
  rw [outV]
  show sec (iblk m c 3 t (ix2 a e)) (iblk m c 0 t (ix2 a e)) = _
  rw [b0, b3]
  rfl

theorem finalV : (dats (F := Ideal) m 0 c).arrAt 6 cfg0.N = fullV (A0 m c) (A1 m c) (A2 m c) (A3 m c) := by
  refine (dats (F := Ideal) m 0 c).arrAt_eq_of_covers 6 _ (by decide +kernel) fun t hf y => ?_
  obtain ⟨a, e, rfl⟩ : ∃ (a : Fin 32) (e : Fin 1024), y = ix2 a e := ⟨_, _, eq_ix2 (n0 := 32) (n1 := 1024) y⟩
  rw [at_of (fullV _ _ _ _) (pa t a) e _ (by blk_simp [e6 t]; show _ = 32 * t.val + a.val; have := lt_N t; omega) (by blk_simp [e6 t])]
  refine Eq.trans ?_ (blkV_eq m c t a e)
  blk_simp
  rw [after0_6]

/-! ## The reference -/

section Ref

open Cert.Reference42Ideal Cert.Reference42Ideal.Read

variable (x0 x1 x2 x3 : Kernel42Ideal.S224x1024.Idx → EReal)

theorem resultM : val_main_v4 (F := Ideal) x0 x2 = fullM x0 x1 x2 x3 := by
  funext i
  rw [val_main_v4_apply, val_main_v1_apply, val_main_v0_apply, val_main_cst_apply, val_main_v3_apply, val_main_v2_apply, val_main_cst_0_apply]
  rfl

theorem resultV : val_main_v10 (F := Ideal) x0 x3 = fullV x0 x1 x2 x3 := by
  funext i
  rw [val_main_v10_apply, val_main_v6_apply, val_main_v5_apply, val_main_cst_1_apply, val_main_v9_apply, val_main_v8_apply, val_main_cst_2_apply, val_main_v7_apply]
  rfl

theorem resultD : val_main_v23 (F := Ideal) x0 x1 x2 x3 = fullD x0 x1 x2 x3 := by
  funext i
  unfold fullD change
  rw [← div_um, ← div_uv]
  rw [val_main_v23_apply, val_main_v22_apply, val_main_cst_7_apply, val_main_v21_apply, val_main_v20_apply, val_main_v19_apply, val_main_cst_6_apply,
    val_main_v18_apply, val_main_v17_apply, val_main_v16_apply, val_main_cst_5_apply, val_main_v15_apply, val_main_v14_apply, val_main_v13_apply, val_main_cst_4_apply,
    val_main_v12_apply, val_main_v11_apply, val_main_cst_3_apply, resultM x0 x1 x2 x3, resultV x0 x1 x2 x3]
  rfl

end Ref

/-- The call's run: each result is the array that its grid points leave, and the arguments are as they were. -/
theorem run_blocks (ρ : Dev nD → PrngReg) : θ_run defs (onTc (τ := τ) (main (F := Ideal))) ⟨m, fun _ => 0, ρ⟩ fun r => ∀ c : Dev nD,
      r.2.mem ((c : Thread nD τ).loc main_v0_0) = (dats (F := Ideal) m 0 c).arrAt 4 cfg0.N
      ∧ r.2.mem ((c : Thread nD τ).loc main_v0_1) = (dats (F := Ideal) m 0 c).arrAt 5 cfg0.N
      ∧ r.2.mem ((c : Thread nD τ).loc main_v0_2) = (dats (F := Ideal) m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4, (h c).1 5, (h c).1 6,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

theorem frame_p : Cert.quiescent_Kernel42 := fun m g _ => Cert.Kernel42.Gen.frame m g
theorem frame_pi : Cert.quiescent_Kernel42Ideal := fun m g _ => Cert.Kernel42Ideal.Gen.frame m g
theorem frame_ri : Cert.quiescent_Reference42Ideal := fun m g _ =>
  (θ_run Cert.Reference42Ideal.defs _ _).mono (fun r h => ⟨fun c => (h c).2.2.2, sem_eq_zero_of_no_sems (by decide) r.2⟩) (Cert.Reference42Ideal.Value.run (F := Ideal) m g)

/-- The two named constants. -/
theorem preserves : Cert.preserves_Kernel42_Kernel42Ideal := by
  unfold Cert.preserves_Kernel42_Kernel42Ideal
  exact ⟨IdealRules.named_const.statement _ _ _ _ _ rfl, IdealRules.named_const.statement _ _ _ _ _ rfl⟩

theorem algebraic : Cert.algebraic_Kernel42Ideal_Reference42Ideal := by
  intro m g m' g' _ hagree
  refine ⟨_, _, _, (θ_run _ _ _).mono (fun r h => h) (run_blocks m g), ?_⟩
  refine (θ_run _ _ _).mono (fun r h c => ?_) (Cert.Reference42Ideal.Value.run (F := Ideal) m' g')
  obtain ⟨a0, a1, a2, a3⟩ := hagree c
  refine ⟨?_, ?_, ?_, (h c).2.2.2⟩
  · rw [(h c).1, finalD m c, Cert.Reference42Ideal.Read.val_main_v23_eq, a0, a1, a2, a3]
    exact resultD _ _ _ _
  · rw [(h c).2.1, finalM m c, Cert.Reference42Ideal.Read.val_main_v4_eq, a0, a2]
    exact resultM _ _ _ _
  · rw [(h c).2.2.1, finalV m c, Cert.Reference42Ideal.Read.val_main_v10_eq, a0, a3]
    exact resultV _ _ _ _

end Cert.Rows.Adam.Small

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Attn.Claims
public import proofs.«01_k».proof.Proof.Fwd.Claims
public import proofs.«01_k».proof.Proof.Products.UpDx
public import proofs.«01_k».proof.Proof.Products.UpDw
public import proofs.«01_k».proof.Proof.Products.DownDx
public import proofs.«01_k».proof.Proof.Products.DownDw
public import proofs.«01_k».proof.Proof.Conv.Dx
public import proofs.«01_k».proof.Proof.Products.Up
public import proofs.«01_k».proof.Proof.Products.Down
public import proofs.«01_k».proof.Proof.Products.In
public import proofs.«01_k».proof.Proof.Products.InDx
public import proofs.«01_k».proof.Proof.Products.InDw
public import proofs.«01_k».proof.Proof.Products.Out
public import proofs.«01_k».proof.Proof.Products.OutDx
public import proofs.«01_k».proof.Proof.Products.OutDw
public import proofs.«01_k».proof.Proof.Products.Glu
public import proofs.«01_k».proof.Proof.Products.GluDx
public import proofs.«01_k».proof.Proof.Products.GluDw
public import proofs.«01_k».proof.Proof.Products.QUp
public import proofs.«01_k».proof.Proof.Products.QUpDx
public import proofs.«01_k».proof.Proof.Products.QUpDw
public import proofs.«01_k».proof.Proof.Products.KvUp
public import proofs.«01_k».proof.Proof.Products.KvUpDx
public import proofs.«01_k».proof.Proof.Products.KvUpDw
public import proofs.«01_k».proof.Proof.Conv.Fwd
public import proofs.«01_k».proof.Proof.Products.AttnOut
public import proofs.«01_k».proof.Proof.Products.AttnOutDx
public import proofs.«01_k».proof.Proof.Products.AttnOutDw
public import proofs.«01_k».proof.Proof.Rows.MergeBwd
public import proofs.«01_k».proof.Proof.Rows.Merge
public import proofs.«01_k».proof.Proof.Rows.Norm2
public import proofs.«01_k».proof.Proof.Rows.S5Out
public import proofs.«01_k».proof.Proof.Rows.Adam.WUp
public import proofs.«01_k».proof.Proof.Rows.Adam.WDown
public import proofs.«01_k».proof.Proof.Rows.Adam.WIn
public import proofs.«01_k».proof.Proof.Rows.Adam.WOut
public import proofs.«01_k».proof.Proof.Rows.Adam.WOAttn
public import proofs.«01_k».proof.Proof.Rows.Adam.WGlu
public import proofs.«01_k».proof.Proof.Rows.Adam.WUq
public import proofs.«01_k».proof.Proof.Rows.Adam.WUkv
public import proofs.«01_k».proof.Proof.Rows.Adam.WMod
public import proofs.«01_k».proof.Proof.Rows.Adam.Small
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    Cert.Kernel35.Gen.facts, Cert.Kernel35Ideal.Gen.facts, Cert.Reference35Ideal.Gen.facts,
    Cert.Kernel36.Gen.facts, Cert.Kernel36Ideal.Gen.facts, Cert.Reference36Ideal.Gen.facts,
    Cert.Kernel37.Gen.facts, Cert.Kernel37Ideal.Gen.facts, Cert.Reference37Ideal.Gen.facts,
    Cert.Kernel38.Gen.facts, Cert.Kernel38Ideal.Gen.facts, Cert.Reference38Ideal.Gen.facts,
    Cert.Kernel39.Gen.facts, Cert.Kernel39Ideal.Gen.facts, Cert.Reference39Ideal.Gen.facts,
    Cert.Kernel40.Gen.facts, Cert.Kernel40Ideal.Gen.facts, Cert.Reference40Ideal.Gen.facts,
    Cert.Kernel41.Gen.facts, Cert.Kernel41Ideal.Gen.facts, Cert.Reference41Ideal.Gen.facts,
    Cert.Kernel42.Gen.facts, Cert.Kernel42Ideal.Gen.facts, Cert.Reference42Ideal.Gen.facts,
    Attn.Claims.preFacts, Fwd.Claims.preFacts,
    Attn.Claims.frame_p, Attn.Claims.frame_pi, @Attn.Claims.frame_pi_pre Attn.Claims.preFacts, Attn.Claims.frame_ri, @Attn.Claims.frame_ri_pre Attn.Claims.preFacts,
    Fwd.Claims.frame_p, Fwd.Claims.frame_pi, @Fwd.Claims.frame_pi_pre Fwd.Claims.preFacts, Fwd.Claims.frame_ri, @Fwd.Claims.frame_ri_pre Fwd.Claims.preFacts,
    Products.UpDx.frame_p, Products.UpDx.frame_pi, Products.UpDx.frame_ri,
    Products.UpDw.frame_p, Products.UpDw.frame_pi, Products.UpDw.frame_ri,
    Products.DownDx.frame_p, Products.DownDx.frame_pi, Products.DownDx.frame_ri,
    Products.DownDw.frame_p, Products.DownDw.frame_pi, Products.DownDw.frame_ri,
    Conv.Dx.frame_p, Conv.Dx.frame_pi, Conv.Dx.frame_ri,
    Products.Up.frame_p, Products.Up.frame_pi, Products.Up.frame_ri,
    Products.Down.frame_p, Products.Down.frame_pi, Products.Down.frame_ri,
    Products.In.frame_p, Products.In.frame_pi, Products.In.frame_ri,
    Products.InDx.frame_p, Products.InDx.frame_pi, Products.InDx.frame_ri,
    Products.InDw.frame_p, Products.InDw.frame_pi, Products.InDw.frame_ri,
    Products.Out.frame_p, Products.Out.frame_pi, Products.Out.frame_ri,
    Products.OutDx.frame_p, Products.OutDx.frame_pi, Products.OutDx.frame_ri,
    Products.OutDw.frame_p, Products.OutDw.frame_pi, Products.OutDw.frame_ri,
    Products.Glu.frame_p, Products.Glu.frame_pi, Products.Glu.frame_ri,
    Products.GluDx.frame_p, Products.GluDx.frame_pi, Products.GluDx.frame_ri,
    Products.GluDw.frame_p, Products.GluDw.frame_pi, Products.GluDw.frame_ri,
    Products.QUp.frame_p, Products.QUp.frame_pi, Products.QUp.frame_ri,
    Products.QUpDx.frame_p, Products.QUpDx.frame_pi, Products.QUpDx.frame_ri,
    Products.QUpDw.frame_p, Products.QUpDw.frame_pi, Products.QUpDw.frame_ri,
    Products.KvUp.frame_p, Products.KvUp.frame_pi, Products.KvUp.frame_ri,
    Products.KvUpDx.frame_p, Products.KvUpDx.frame_pi, Products.KvUpDx.frame_ri,
    Products.KvUpDw.frame_p, Products.KvUpDw.frame_pi, Products.KvUpDw.frame_ri,
    Conv.Fwd.frame_p, Conv.Fwd.frame_pi, Conv.Fwd.frame_ri,
    Products.AttnOut.frame_p, Products.AttnOut.frame_pi, Products.AttnOut.frame_ri,
    Products.AttnOutDx.frame_p, Products.AttnOutDx.frame_pi, Products.AttnOutDx.frame_ri,
    Products.AttnOutDw.frame_p, Products.AttnOutDw.frame_pi, Products.AttnOutDw.frame_ri,
    Rows.MergeBwd.frame_p, Rows.MergeBwd.frame_pi, Rows.MergeBwd.frame_ri,
    Rows.Merge.frame_p, Rows.Merge.frame_pi, Rows.Merge.frame_ri,
    Rows.Norm2.frame_p, Rows.Norm2.frame_pi, Rows.Norm2.frame_ri,
    Rows.S5Out.frame_p, Rows.S5Out.frame_pi, Rows.S5Out.frame_ri,
    Rows.Adam.WUp.frame_p, Rows.Adam.WUp.frame_pi, Rows.Adam.WUp.frame_ri,
    Rows.Adam.WDown.frame_p, Rows.Adam.WDown.frame_pi, Rows.Adam.WDown.frame_ri,
    Rows.Adam.WIn.frame_p, Rows.Adam.WIn.frame_pi, Rows.Adam.WIn.frame_ri,
    Rows.Adam.WOut.frame_p, Rows.Adam.WOut.frame_pi, Rows.Adam.WOut.frame_ri,
    Rows.Adam.WOAttn.frame_p, Rows.Adam.WOAttn.frame_pi, Rows.Adam.WOAttn.frame_ri,
    Rows.Adam.WGlu.frame_p, Rows.Adam.WGlu.frame_pi, Rows.Adam.WGlu.frame_ri,
    Rows.Adam.WUq.frame_p, Rows.Adam.WUq.frame_pi, Rows.Adam.WUq.frame_ri,
    Rows.Adam.WUkv.frame_p, Rows.Adam.WUkv.frame_pi, Rows.Adam.WUkv.frame_ri,
    Rows.Adam.WMod.frame_p, Rows.Adam.WMod.frame_pi, Rows.Adam.WMod.frame_ri,
    Rows.Adam.Small.frame_p, Rows.Adam.Small.frame_pi, Rows.Adam.Small.frame_ri,
    Attn.Claims.preserves, @Attn.Claims.algebraic Attn.Claims.preFacts,
    Fwd.Claims.preserves, @Fwd.Claims.algebraic Fwd.Claims.preFacts,
    Products.UpDx.preserves, Products.UpDx.algebraic,
    Products.UpDw.preserves, Products.UpDw.algebraic,
    Products.DownDx.preserves, Products.DownDx.algebraic,
    Products.DownDw.preserves, Products.DownDw.algebraic,
    Conv.Dx.preserves, Conv.Dx.algebraic,
    Products.Up.preserves, Products.Up.algebraic,
    Products.Down.preserves, Products.Down.algebraic,
    Products.In.preserves, Products.In.algebraic,
    Products.InDx.preserves, Products.InDx.algebraic,
    Products.InDw.preserves, Products.InDw.algebraic,
    Products.Out.preserves, Products.Out.algebraic,
    Products.OutDx.preserves, Products.OutDx.algebraic,
    Products.OutDw.preserves, Products.OutDw.algebraic,
    Products.Glu.preserves, Products.Glu.algebraic,
    Products.GluDx.preserves, Products.GluDx.algebraic,
    Products.GluDw.preserves, Products.GluDw.algebraic,
    Products.QUp.preserves, Products.QUp.algebraic,
    Products.QUpDx.preserves, Products.QUpDx.algebraic,
    Products.QUpDw.preserves, Products.QUpDw.algebraic,
    Products.KvUp.preserves, Products.KvUp.algebraic,
    Products.KvUpDx.preserves, Products.KvUpDx.algebraic,
    Products.KvUpDw.preserves, Products.KvUpDw.algebraic,
    Conv.Fwd.preserves, Conv.Fwd.algebraic,
    Products.AttnOut.preserves, Products.AttnOut.algebraic,
    Products.AttnOutDx.preserves, Products.AttnOutDx.algebraic,
    Products.AttnOutDw.preserves, Products.AttnOutDw.algebraic,
    Rows.MergeBwd.preserves, Rows.MergeBwd.algebraic,
    Rows.Merge.preserves, Rows.Merge.algebraic,
    Rows.Norm2.preserves, Rows.Norm2.algebraic,
    Rows.S5Out.preserves, Rows.S5Out.algebraic,
    Rows.Adam.WUp.preserves, Rows.Adam.WUp.algebraic,
    Rows.Adam.WDown.preserves, Rows.Adam.WDown.algebraic,
    Rows.Adam.WIn.preserves, Rows.Adam.WIn.algebraic,
    Rows.Adam.WOut.preserves, Rows.Adam.WOut.algebraic,
    Rows.Adam.WOAttn.preserves, Rows.Adam.WOAttn.algebraic,
    Rows.Adam.WGlu.preserves, Rows.Adam.WGlu.algebraic,
    Rows.Adam.WUq.preserves, Rows.Adam.WUq.algebraic,
    Rows.Adam.WUkv.preserves, Rows.Adam.WUkv.algebraic,
    Rows.Adam.WMod.preserves, Rows.Adam.WMod.algebraic,
    Rows.Adam.Small.preserves, Rows.Adam.Small.algebraic⟩

end Cert.Proof

end
